-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergedIdeal (m : (ℓ : Loc Cert.MergedIdeal.nD Cert.MergedIdeal.τ Cert.MergedIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_finite_hgrn [hPre_finite_hgrn : Cert.Pre_finite_hgrn.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite_hgrn.fn (F := Ideal) (m ((c.tc : Thread Cert.HgrnIdeal.nD Cert.HgrnIdeal.τ).loc Cert.HgrnIdeal.main_arg0))) = (fun _ => 1#1)

def Pre_HgrnReferenceIdeal (m : (ℓ : Loc Cert.HgrnReferenceIdeal.nD Cert.HgrnReferenceIdeal.τ Cert.HgrnReferenceIdeal.sig) → Buf (Elt Ideal) ℓ) : Prop :=
  True

def Pre_HgrnReferenceIdeal_finite_hgrn [hPre_finite_hgrn : Cert.Pre_finite_hgrn.Facts] (m : (ℓ : Loc Cert.HgrnReferenceIdeal.nD Cert.HgrnReferenceIdeal.τ Cert.HgrnReferenceIdeal.sig) → Buf (Elt Ideal) ℓ) : Prop :=
  ∀ c : Dev Cert.HgrnReferenceIdeal.nD,
    (Cert.Pre_finite_hgrn.fn (F := Ideal) (m ((c.tc : Thread Cert.HgrnReferenceIdeal.nD Cert.HgrnReferenceIdeal.τ).loc Cert.HgrnReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
      ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3)
      ∧ r.2.mem ((c.tc : Thread Cert.MergedIdeal.nD Cert.MergedIdeal.τ).loc Cert.MergedIdeal.main_arg4) = m ((c.tc : Thread Cert.MergedIdeal.nD Cert.MergedIdeal.τ).loc Cert.MergedIdeal.main_arg4)
      ∧ r.2.mem ((c.tc : Thread Cert.MergedIdeal.nD Cert.MergedIdeal.τ).loc Cert.MergedIdeal.main_arg5) = m ((c.tc : Thread Cert.MergedIdeal.nD Cert.MergedIdeal.τ).loc Cert.MergedIdeal.main_arg5)
      ∧ r.2.mem ((c.tc : Thread Cert.MergedIdeal.nD Cert.MergedIdeal.τ).loc Cert.MergedIdeal.main_arg6) = m ((c.tc : Thread Cert.MergedIdeal.nD Cert.MergedIdeal.τ).loc Cert.MergedIdeal.main_arg6)
      ∧ r.2.mem ((c.tc : Thread Cert.MergedIdeal.nD Cert.MergedIdeal.τ).loc Cert.MergedIdeal.main_arg7) = m ((c.tc : Thread Cert.MergedIdeal.nD Cert.MergedIdeal.τ).loc Cert.MergedIdeal.main_arg7)
      ∧ r.2.mem ((c.tc : Thread Cert.MergedIdeal.nD Cert.MergedIdeal.τ).loc Cert.MergedIdeal.main_arg8) = m ((c.tc : Thread Cert.MergedIdeal.nD Cert.MergedIdeal.τ).loc Cert.MergedIdeal.main_arg8)
      ∧ r.2.mem ((c.tc : Thread Cert.MergedIdeal.nD Cert.MergedIdeal.τ).loc Cert.MergedIdeal.main_arg9) = m ((c.tc : Thread Cert.MergedIdeal.nD Cert.MergedIdeal.τ).loc Cert.MergedIdeal.main_arg9)
      ∧ r.2.mem ((c.tc : Thread Cert.MergedIdeal.nD Cert.MergedIdeal.τ).loc Cert.MergedIdeal.main_arg10) = m ((c.tc : Thread Cert.MergedIdeal.nD Cert.MergedIdeal.τ).loc Cert.MergedIdeal.main_arg10))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0))
      ∧ r.2.sem = fun _ => 0)

def quiescent_HgrnIdeal_pre_finite_hgrn [hHgrnIdeal : Cert.HgrnIdeal.Facts] [hPre_finite_hgrn : Cert.Pre_finite_hgrn.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite_hgrn m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0))
      ∧ r.2.sem = fun _ => 0)

def quiescent_HgrnReferenceIdeal [hHgrnReferenceIdeal : Cert.HgrnReferenceIdeal.Facts] : Prop :=
  ∀ (m : (ℓ : Loc Cert.HgrnReferenceIdeal.nD Cert.HgrnReferenceIdeal.τ Cert.HgrnReferenceIdeal.sig) → Buf (Elt Ideal) ℓ) (g : Dev Cert.HgrnReferenceIdeal.nD → PrngReg), Pre_HgrnReferenceIdeal m →
    θ_run (Cert.HgrnReferenceIdeal.defs (F := Ideal)) (onTc (τ := Cert.HgrnReferenceIdeal.τ) (Cert.HgrnReferenceIdeal.main (F := Ideal))) ⟨m, fun _ => 0, g⟩ (fun r => (∀ c : Dev Cert.HgrnReferenceIdeal.nD,
      r.2.mem ((c.tc : Thread Cert.HgrnReferenceIdeal.nD Cert.HgrnReferenceIdeal.τ).loc Cert.HgrnReferenceIdeal.main_arg0) = m ((c.tc : Thread Cert.HgrnReferenceIdeal.nD Cert.HgrnReferenceIdeal.τ).loc Cert.HgrnReferenceIdeal.main_arg0))
      ∧ r.2.sem = fun _ => 0)

def quiescent_HgrnReferenceIdeal_pre_finite_hgrn [hHgrnReferenceIdeal : Cert.HgrnReferenceIdeal.Facts] [hPre_finite_hgrn : Cert.Pre_finite_hgrn.Facts] : Prop :=
  ∀ (m : (ℓ : Loc Cert.HgrnReferenceIdeal.nD Cert.HgrnReferenceIdeal.τ Cert.HgrnReferenceIdeal.sig) → Buf (Elt Ideal) ℓ) (g : Dev Cert.HgrnReferenceIdeal.nD → PrngReg), Pre_HgrnReferenceIdeal_finite_hgrn m →
    θ_run (Cert.HgrnReferenceIdeal.defs (F := Ideal)) (onTc (τ := Cert.HgrnReferenceIdeal.τ) (Cert.HgrnReferenceIdeal.main (F := Ideal))) ⟨m, fun _ => 0, g⟩ (fun r => (∀ c : Dev Cert.HgrnReferenceIdeal.nD,
      r.2.mem ((c.tc : Thread Cert.HgrnReferenceIdeal.nD Cert.HgrnReferenceIdeal.τ).loc Cert.HgrnReferenceIdeal.main_arg0) = m ((c.tc : Thread Cert.HgrnReferenceIdeal.nD Cert.HgrnReferenceIdeal.τ).loc Cert.HgrnReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Project_ProjectIdeal : Prop :=
  IdealRules.named_const.Statement Cert.ProjectIdeal.κ "neg_log2e" .f32 0xBFB8AA3B#32 ((-((Real.log 2)⁻¹) : ℝ) : EReal)
  ∧ IdealRules.named_const.Statement Cert.ProjectIdeal.κ "log2e" .f32 0x3FB8AA3B#32 (((Real.log 2)⁻¹ : ℝ) : EReal)
  ∧ IdealRules.named_const.Statement Cert.ProjectIdeal.κ "ln2" .f32 0x3F317218#32 ((Real.log 2 : ℝ) : EReal)
  ∧ IdealRules.named_const.Statement Cert.ProjectIdeal.κ "log2e_16" .f32 0x3DB8AA3B#32 (((Real.log 2)⁻¹ * (1 / 16) : ℝ) : EReal)

def algebraic_ProjectIdeal_ProjectionsIdeal [hProjectIdeal : Cert.ProjectIdeal.Facts] [hProjectionsIdeal : Cert.ProjectionsIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectionsIdeal.nD Cert.ProjectionsIdeal.τ Cert.ProjectionsIdeal.sig) → Buf (Elt Ideal) ℓ) (g' : Dev Cert.ProjectionsIdeal.nD → PrngReg), Pre_ProjectIdeal m →
    (∀ c : Dev Cert.ProjectIdeal.nD,
      m' ((c.tc : Thread Cert.ProjectionsIdeal.nD Cert.ProjectionsIdeal.τ).loc Cert.ProjectionsIdeal.main_arg0) = m ((c.tc : Thread Cert.ProjectIdeal.nD Cert.ProjectIdeal.τ).loc Cert.ProjectIdeal.main_arg0)
      ∧ m' ((c.tc : Thread Cert.ProjectionsIdeal.nD Cert.ProjectionsIdeal.τ).loc Cert.ProjectionsIdeal.main_arg1) = m ((c.tc : Thread Cert.ProjectIdeal.nD Cert.ProjectIdeal.τ).loc Cert.ProjectIdeal.main_arg1)
      ∧ m' ((c.tc : Thread Cert.ProjectionsIdeal.nD Cert.ProjectionsIdeal.τ).loc Cert.ProjectionsIdeal.main_arg2) = m ((c.tc : Thread Cert.ProjectIdeal.nD Cert.ProjectIdeal.τ).loc Cert.ProjectIdeal.main_arg2)
      ∧ m' ((c.tc : Thread Cert.ProjectionsIdeal.nD Cert.ProjectionsIdeal.τ).loc Cert.ProjectionsIdeal.main_arg3) = m ((c.tc : Thread Cert.ProjectIdeal.nD Cert.ProjectIdeal.τ).loc Cert.ProjectIdeal.main_arg3)
      ∧ m' ((c.tc : Thread Cert.ProjectionsIdeal.nD Cert.ProjectionsIdeal.τ).loc Cert.ProjectionsIdeal.main_arg4) = m ((c.tc : Thread Cert.ProjectIdeal.nD Cert.ProjectIdeal.τ).loc Cert.ProjectIdeal.main_arg4)
      ∧ m' ((c.tc : Thread Cert.ProjectionsIdeal.nD Cert.ProjectionsIdeal.τ).loc Cert.ProjectionsIdeal.main_arg5) = m ((c.tc : Thread Cert.ProjectIdeal.nD Cert.ProjectIdeal.τ).loc Cert.ProjectIdeal.main_arg5)
      ∧ m' ((c.tc : Thread Cert.ProjectionsIdeal.nD Cert.ProjectionsIdeal.τ).loc Cert.ProjectionsIdeal.main_arg6) = m ((c.tc : Thread Cert.ProjectIdeal.nD Cert.ProjectIdeal.τ).loc Cert.ProjectIdeal.main_arg6)
      ∧ m' ((c.tc : Thread Cert.ProjectionsIdeal.nD Cert.ProjectionsIdeal.τ).loc Cert.ProjectionsIdeal.main_arg7) = m ((c.tc : Thread Cert.ProjectIdeal.nD Cert.ProjectIdeal.τ).loc Cert.ProjectIdeal.main_arg7)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ θ_run (Cert.ProjectionsIdeal.defs (F := Ideal)) (onTc (τ := Cert.ProjectionsIdeal.τ) (Cert.ProjectionsIdeal.main (F := Ideal))) ⟨m', fun _ => 0, g'⟩ (fun r => ∀ c : Dev Cert.ProjectionsIdeal.nD,
          r.2.mem ((c.tc : Thread Cert.ProjectionsIdeal.nD Cert.ProjectionsIdeal.τ).loc Cert.ProjectionsIdeal.main_v114) = v0 c
          ∧ r.2.mem ((c.tc : Thread Cert.ProjectionsIdeal.nD Cert.ProjectionsIdeal.τ).loc Cert.ProjectionsIdeal.main_arg0) = m' ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m' ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m' ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m' ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m' ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m' ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m' ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m' ((c.tc : Thread Cert.ProjectionsIdeal.nD Cert.ProjectionsIdeal.τ).loc Cert.ProjectionsIdeal.main_arg7))

def preserves_Merge_MergeIdeal : Prop :=
  True

def algebraic_MergeIdeal_MergedIdeal [hMergeIdeal : Cert.MergeIdeal.Facts] [hMergedIdeal : Cert.MergedIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergedIdeal.nD Cert.MergedIdeal.τ Cert.MergedIdeal.sig) → Buf (Elt Ideal) ℓ) (g' : Dev Cert.MergedIdeal.nD → PrngReg), Pre_MergeIdeal m →
    (∀ c : Dev Cert.MergeIdeal.nD,
      m' ((c.tc : Thread Cert.MergedIdeal.nD Cert.MergedIdeal.τ).loc Cert.MergedIdeal.main_arg0) = m ((c.tc : Thread Cert.MergeIdeal.nD Cert.MergeIdeal.τ).loc Cert.MergeIdeal.main_arg0)
      ∧ m' ((c.tc : Thread Cert.MergedIdeal.nD Cert.MergedIdeal.τ).loc Cert.MergedIdeal.main_arg1) = m ((c.tc : Thread Cert.MergeIdeal.nD Cert.MergeIdeal.τ).loc Cert.MergeIdeal.main_arg1)
      ∧ m' ((c.tc : Thread Cert.MergedIdeal.nD Cert.MergedIdeal.τ).loc Cert.MergedIdeal.main_arg2) = m ((c.tc : Thread Cert.MergeIdeal.nD Cert.MergeIdeal.τ).loc Cert.MergeIdeal.main_arg2)
      ∧ m' ((c.tc : Thread Cert.MergedIdeal.nD Cert.MergedIdeal.τ).loc Cert.MergedIdeal.main_arg3) = m ((c.tc : Thread Cert.MergeIdeal.nD Cert.MergeIdeal.τ).loc Cert.MergeIdeal.main_arg3)
      ∧ m' ((c.tc : Thread Cert.MergedIdeal.nD Cert.MergedIdeal.τ).loc Cert.MergedIdeal.main_arg4) = m ((c.tc : Thread Cert.MergeIdeal.nD Cert.MergeIdeal.τ).loc Cert.MergeIdeal.main_arg4)
      ∧ m' ((c.tc : Thread Cert.MergedIdeal.nD Cert.MergedIdeal.τ).loc Cert.MergedIdeal.main_arg5) = m ((c.tc : Thread Cert.MergeIdeal.nD Cert.MergeIdeal.τ).loc Cert.MergeIdeal.main_arg5)
      ∧ m' ((c.tc : Thread Cert.MergedIdeal.nD Cert.MergedIdeal.τ).loc Cert.MergedIdeal.main_arg6) = m ((c.tc : Thread Cert.MergeIdeal.nD Cert.MergeIdeal.τ).loc Cert.MergeIdeal.main_arg6)
      ∧ m' ((c.tc : Thread Cert.MergedIdeal.nD Cert.MergedIdeal.τ).loc Cert.MergedIdeal.main_arg7) = m ((c.tc : Thread Cert.MergeIdeal.nD Cert.MergeIdeal.τ).loc Cert.MergeIdeal.main_arg7)
      ∧ m' ((c.tc : Thread Cert.MergedIdeal.nD Cert.MergedIdeal.τ).loc Cert.MergedIdeal.main_arg8) = m ((c.tc : Thread Cert.MergeIdeal.nD Cert.MergeIdeal.τ).loc Cert.MergeIdeal.main_arg8)
      ∧ m' ((c.tc : Thread Cert.MergedIdeal.nD Cert.MergedIdeal.τ).loc Cert.MergedIdeal.main_arg9) = m ((c.tc : Thread Cert.MergeIdeal.nD Cert.MergeIdeal.τ).loc Cert.MergeIdeal.main_arg9)
      ∧ m' ((c.tc : Thread Cert.MergedIdeal.nD Cert.MergedIdeal.τ).loc Cert.MergedIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergedIdeal.defs (F := Ideal)) (onTc (τ := Cert.MergedIdeal.τ) (Cert.MergedIdeal.main (F := Ideal))) ⟨m', fun _ => 0, g'⟩ (fun r => ∀ c : Dev Cert.MergedIdeal.nD,
          r.2.mem ((c.tc : Thread Cert.MergedIdeal.nD Cert.MergedIdeal.τ).loc Cert.MergedIdeal.main_v70) = v0 c
          ∧ r.2.mem ((c.tc : Thread Cert.MergedIdeal.nD Cert.MergedIdeal.τ).loc Cert.MergedIdeal.main_arg0) = m' ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m' ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m' ((c.tc : Thread Cert.MergedIdeal.nD Cert.MergedIdeal.τ).loc Cert.MergedIdeal.main_arg2)
          ∧ r.2.mem ((c.tc : Thread Cert.MergedIdeal.nD Cert.MergedIdeal.τ).loc Cert.MergedIdeal.main_arg3) = m' ((c.tc : Thread Cert.MergedIdeal.nD Cert.MergedIdeal.τ).loc Cert.MergedIdeal.main_arg3)
          ∧ r.2.mem ((c.tc : Thread Cert.MergedIdeal.nD Cert.MergedIdeal.τ).loc Cert.MergedIdeal.main_arg4) = m' ((c.tc : Thread Cert.MergedIdeal.nD Cert.MergedIdeal.τ).loc Cert.MergedIdeal.main_arg4)
          ∧ r.2.mem ((c.tc : Thread Cert.MergedIdeal.nD Cert.MergedIdeal.τ).loc Cert.MergedIdeal.main_arg5) = m' ((c.tc : Thread Cert.MergedIdeal.nD Cert.MergedIdeal.τ).loc Cert.MergedIdeal.main_arg5)
          ∧ r.2.mem ((c.tc : Thread Cert.MergedIdeal.nD Cert.MergedIdeal.τ).loc Cert.MergedIdeal.main_arg6) = m' ((c.tc : Thread Cert.MergedIdeal.nD Cert.MergedIdeal.τ).loc Cert.MergedIdeal.main_arg6)
          ∧ r.2.mem ((c.tc : Thread Cert.MergedIdeal.nD Cert.MergedIdeal.τ).loc Cert.MergedIdeal.main_arg7) = m' ((c.tc : Thread Cert.MergedIdeal.nD Cert.MergedIdeal.τ).loc Cert.MergedIdeal.main_arg7)
          ∧ r.2.mem ((c.tc : Thread Cert.MergedIdeal.nD Cert.MergedIdeal.τ).loc Cert.MergedIdeal.main_arg8) = m' ((c.tc : Thread Cert.MergedIdeal.nD Cert.MergedIdeal.τ).loc Cert.MergedIdeal.main_arg8)
          ∧ r.2.mem ((c.tc : Thread Cert.MergedIdeal.nD Cert.MergedIdeal.τ).loc Cert.MergedIdeal.main_arg9) = m' ((c.tc : Thread Cert.MergedIdeal.nD Cert.MergedIdeal.τ).loc Cert.MergedIdeal.main_arg9)
          ∧ r.2.mem ((c.tc : Thread Cert.MergedIdeal.nD Cert.MergedIdeal.τ).loc Cert.MergedIdeal.main_arg10) = m' ((c.tc : Thread Cert.MergedIdeal.nD Cert.MergedIdeal.τ).loc Cert.MergedIdeal.main_arg10))

def preserves_Hgrn_HgrnIdeal : Prop :=
  True

def algebraic_HgrnIdeal_HgrnReferenceIdeal_pre_finite_hgrn [hHgrnIdeal : Cert.HgrnIdeal.Facts] [hHgrnReferenceIdeal : Cert.HgrnReferenceIdeal.Facts] [hPre_finite_hgrn : Cert.Pre_finite_hgrn.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnReferenceIdeal.nD Cert.HgrnReferenceIdeal.τ Cert.HgrnReferenceIdeal.sig) → Buf (Elt Ideal) ℓ) (g' : Dev Cert.HgrnReferenceIdeal.nD → PrngReg), Pre_HgrnIdeal_finite_hgrn m →
    (∀ c : Dev Cert.HgrnIdeal.nD,
      m' ((c.tc : Thread Cert.HgrnReferenceIdeal.nD Cert.HgrnReferenceIdeal.τ).loc Cert.HgrnReferenceIdeal.main_arg0) = m ((c.tc : Thread Cert.HgrnIdeal.nD Cert.HgrnIdeal.τ).loc Cert.HgrnIdeal.main_arg0)) →
    ∃ (v0 : (c : Dev Cert.HgrnIdeal.nD) → Buf (Elt Ideal) ((c.tc : Thread Cert.HgrnIdeal.nD Cert.HgrnIdeal.τ).loc Cert.HgrnIdeal.main_v0)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v0) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0))
      ∧ θ_run (Cert.HgrnReferenceIdeal.defs (F := Ideal)) (onTc (τ := Cert.HgrnReferenceIdeal.τ) (Cert.HgrnReferenceIdeal.main (F := Ideal))) ⟨m', fun _ => 0, g'⟩ (fun r => ∀ c : Dev Cert.HgrnReferenceIdeal.nD,
          r.2.mem ((c.tc : Thread Cert.HgrnReferenceIdeal.nD Cert.HgrnReferenceIdeal.τ).loc Cert.HgrnReferenceIdeal.main_v52) = v0 c
          ∧ r.2.mem ((c.tc : Thread Cert.HgrnReferenceIdeal.nD Cert.HgrnReferenceIdeal.τ).loc Cert.HgrnReferenceIdeal.main_arg0) = m' ((c.tc : Thread Cert.HgrnReferenceIdeal.nD Cert.HgrnReferenceIdeal.τ).loc Cert.HgrnReferenceIdeal.main_arg0))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectionsIdeal : Cert.ProjectionsIdeal.Facts) (hMerge : Cert.Merge.Facts) (hMergeIdeal : Cert.MergeIdeal.Facts) (hMergedIdeal : Cert.MergedIdeal.Facts) (hHgrn : Cert.Hgrn.Facts) (hHgrnIdeal : Cert.HgrnIdeal.Facts) (hHgrnReferenceIdeal : Cert.HgrnReferenceIdeal.Facts) (hPre_finite : Cert.Pre_finite.Facts) (hPre_finite_hgrn : Cert.Pre_finite_hgrn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectionsIdeal (hProjectionsIdeal := hProjectionsIdeal)
    ∧ quiescent_Merge (hMerge := hMerge)
    ∧ quiescent_MergeIdeal (hMergeIdeal := hMergeIdeal)
    ∧ quiescent_MergedIdeal (hMergedIdeal := hMergedIdeal)
    ∧ quiescent_Hgrn (hHgrn := hHgrn)
    ∧ quiescent_HgrnIdeal (hHgrnIdeal := hHgrnIdeal)
    ∧ quiescent_HgrnIdeal_pre_finite_hgrn (hHgrnIdeal := hHgrnIdeal) (hPre_finite_hgrn := hPre_finite_hgrn)
    ∧ quiescent_HgrnReferenceIdeal (hHgrnReferenceIdeal := hHgrnReferenceIdeal)
    ∧ quiescent_HgrnReferenceIdeal_pre_finite_hgrn (hHgrnReferenceIdeal := hHgrnReferenceIdeal) (hPre_finite_hgrn := hPre_finite_hgrn)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectionsIdeal (hProjectIdeal := hProjectIdeal) (hProjectionsIdeal := hProjectionsIdeal)
    ∧ preserves_Merge_MergeIdeal
    ∧ algebraic_MergeIdeal_MergedIdeal (hMergeIdeal := hMergeIdeal) (hMergedIdeal := hMergedIdeal)
    ∧ preserves_Hgrn_HgrnIdeal
    ∧ algebraic_HgrnIdeal_HgrnReferenceIdeal_pre_finite_hgrn (hHgrnIdeal := hHgrnIdeal) (hHgrnReferenceIdeal := hHgrnReferenceIdeal) (hPre_finite_hgrn := hPre_finite_hgrn)
-- ==== Pre_finite.lean ====
abbrev S4x4096x11264 : Shape := ⟨3, ![4, 4096, 11264]⟩
abbrev S4x4096x2048 : Shape := ⟨3, ![4, 4096, 2048]⟩
abbrev S_ : Shape := ⟨0, ![]⟩
abbrev S4x4096x1024 : Shape := ⟨3, ![4, 4096, 1024]⟩

class Facts : Prop where
  slices_S4x4096x11264_S4x4096x2048_0_0_0 : S4x4096x11264.Slices ![0, 0, 0] S4x4096x2048
  bitsLt_bf16_f32 : FTy.bits .bf16 < FTy.bits .f32
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  slices_S4x4096x11264_S4x4096x1024_0_0_3072 : S4x4096x11264.Slices ![0, 0, 3072] S4x4096x1024
  bcast_S_S4x4096x1024 : S_.BroadcastsInDim S4x4096x1024 (![] : Fin 0 → Fin S4x4096x1024.rank)
  reducesTo_S4x4096x1024_S_d0_1_2 : S4x4096x1024.ReducesTo [0, 1, 2] S_

variable [Facts]

def fn {F : FTy → Type} [FloatOps F] (main_arg0 : FVec F S4x4096x11264 .bf16) : IVec S_ 1 :=
  let main_v0 : FVec F S4x4096x2048 .bf16 := (extractStridedSlice S4x4096x2048 ![0, 0, 0] · slices_S4x4096x11264_S4x4096x2048_0_0_0) main_arg0
  let main_v1 : FVec F S4x4096x2048 .f32 := (extf .f32 · bitsLt_bf16_f32) main_v0
  let main_v2 : FVec F S4x4096x2048 .f32 := Host.absf main_v1
  let main_cst : FVec F S_ .f32 := constant S_ .f32 0x7F800000#32
  let main_v3 : FVec F S4x4096x2048 .f32 := broadcastInDim S4x4096x2048 ![] bcast_S_S4x4096x2048 main_cst
  let main_v4 : IVec S4x4096x2048 1 := cmpf .olt main_v2 main_v3
  let main_c : IVec S_ 1 := constantI S_ 1 1#1
  let main_v5 : IVec S_ 1 := (fun x v => Host.reduce IntOp.andi x v reducesTo_S4x4096x2048_S_d0_1_2 h_S_) main_v4 main_c
  let main_v6 : FVec F S4x4096x1024 .bf16 := (extractStridedSlice S4x4096x1024 ![0, 0, 3072] · slices_S4x4096x11264_S4x4096x1024_0_0_3072) main_arg0
  let main_v7 : FVec F S4x4096x1024 .f32 := (extf .f32 · bitsLt_bf16_f32) main_v6
  let main_v8 : FVec F S4x4096x1024 .f32 := Host.absf main_v7
  let main_cst_0 : FVec F S_ .f32 := constant S_ .f32 0x7F800000#32
  let main_v9 : FVec F S4x4096x1024 .f32 := broadcastInDim S4x4096x1024 ![] bcast_S_S4x4096x1024 main_cst_0
  let main_v10 : IVec S4x4096x1024 1 := cmpf .olt main_v8 main_v9
  let main_c_1 : IVec S_ 1 := constantI S_ 1 1#1
  let main_v11 : IVec S_ 1 := (fun x v => Host.reduce IntOp.andi x v reducesTo_S4x4096x1024_S_d0_1_2 h_S_) main_v10 main_c_1
  let main_v12 : IVec S_ 1 := andi main_v5 main_v11
  main_v12
-- ==== Pre_finite_hgrn.lean ====
abbrev S4x4096x11264 : Shape := ⟨3, ![4, 4096, 11264]⟩
abbrev S4x4096x4096 : Shape := ⟨3, ![4, 4096, 4096]⟩
abbrev S_ : Shape := ⟨0, ![]⟩

class Facts : Prop where
  slices_S4x4096x11264_S4x4096x4096_0_0_4096 : S4x4096x11264.Slices ![0, 0, 4096] S4x4096x4096
  bitsLt_bf16_f32 : FTy.bits .bf16 < FTy.bits .f32
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x11264 .bf16) : IVec S_ 1 :=
  let main_v0 : FVec F S4x4096x4096 .bf16 := (extractStridedSlice S4x4096x4096 ![0, 0, 4096] · slices_S4x4096x11264_S4x4096x4096_0_0_4096) main_arg0
  let main_v1 : FVec F S4x4096x4096 .f32 := (extf .f32 · bitsLt_bf16_f32) main_v0
  let main_v2 : FVec F S4x4096x4096 .f32 := Host.absf main_v1
  let main_cst : FVec F S_ .f32 := constant S_ .f32 0x7F800000#32
  let main_v3 : FVec F S4x4096x4096 .f32 := broadcastInDim S4x4096x4096 ![] bcast_S_S4x4096x4096 main_cst
  let main_v4 : IVec S4x4096x4096 1 := cmpf .olt main_v2 main_v3
  let main_c : IVec S_ 1 := constantI S_ 1 1#1
  let main_v5 : IVec S_ 1 := (fun x v => Host.reduce IntOp.andi x v reducesTo_S4x4096x4096_S_d0_1_2 h_S_) main_v4 main_c
  main_v5
-- ==== Kernel.lean ====
abbrev S4x4096x11264 : Shape := ⟨3, ![4, 4096, 11264]⟩
abbrev S4x4096x1024 : Shape := ⟨3, ![4, 4096, 1024]⟩
abbrev S1x4096x128 : Shape := ⟨3, ![1, 4096, 128]⟩
abbrev S1x4096x256 : Shape := ⟨3, ![1, 4096, 256]⟩
abbrev S4096x128 : Shape := ⟨2, ![4096, 128]⟩
abbrev S32x128x256 : Shape := ⟨3, ![32, 128, 256]⟩
abbrev S32x128x128 : Shape := ⟨3, ![32, 128, 128]⟩
abbrev S4096x256 : Shape := ⟨2, ![4096, 256]⟩
abbrev S512x256 : Shape := ⟨2, ![512, 256]⟩
abbrev S128x256 : Shape := ⟨2, ![128, 256]⟩
abbrev S128x128 : Shape := ⟨2, ![128, 128]⟩
abbrev S1x512x128 : Shape := ⟨3, ![1, 512, 128]⟩
abbrev S512x128 : Shape := ⟨2, ![512, 128]⟩
abbrev S1x128x128 : Shape := ⟨3, ![1, 128, 128]⟩
abbrev S64x128 : Shape := ⟨2, ![64, 128]⟩
abbrev S1x128 : Shape := ⟨2, ![1, 128]⟩
abbrev S1x128x256 : Shape := ⟨3, ![1, 128, 256]⟩
abbrev S256x256 : Shape := ⟨2, ![256, 256]⟩

abbrev nBuf : Space → Nat
  | .hbm => 2
  | .vmem => 18
  | .smem => 0
  | _ => 0

abbrev bufTy : (tb : Table) → Fin (tcTables nBuf tb) → BufTy
  | .hbm, ⟨0, _⟩ => ⟨S4x4096x11264, .bf16⟩
  | .hbm, ⟨1, _⟩ => ⟨S4x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S4096x128, .bf16⟩
  | .local _ .vmem, ⟨13, _⟩ => ⟨S32x128x256, .f32⟩
  | .local _ .vmem, ⟨14, _⟩ => ⟨S32x128x128, .f32⟩
  | .local _ .vmem, ⟨15, _⟩ => ⟨S4096x256, .f32⟩
  | .local _ .vmem, ⟨16, _⟩ => ⟨S512x256, .f32⟩
  | .local _ .vmem, ⟨17, _⟩ => ⟨S128x256, .f32⟩
  | _, _ => ⟨S4x4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_mult1 : BitVec 32 :=
  let c0_i32_12 : BitVec 32 := 0#32
  c0_i32_12
def k0_mult2 : BitVec 32 :=
  let c0_i32_14 : BitVec 32 := 0#32
  c0_i32_14
@[reducible] def k0_t1_loop : Scf.Loop 32 :=
  let c0_i32_29 : BitVec 32 := 0#32
  let c8_i32 : BitVec 32 := 8#32
  let v94 : BitVec 32 := Scalar.addi c0_i32_29 c8_i32
  let c1_i32_30 : BitVec 32 := 1#32
  ⟨c0_i32_29, v94, c1_i32_30⟩
def k0_mult3 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32 : BitVec 32 := 512#32
  let v864 : BitVec 32 := Scalar.muli arg14 c512_i32
  let c0_i32_387 : BitVec 32 := 0#32
  let v865 : BitVec 32 := Scalar.addi v864 c0_i32_387
  v865
def k0_off1 (k0_t1 : Fin k0_t1_loop.trips) (c0_i32_387 : BitVec 32) : Fin 3 → Nat :=
  let c0_388 : Index := 0#32
  let c0_i32_29 : BitVec 32 := 0#32
  let c1_i32_30 : BitVec 32 := 1#32
  let arg14 : BitVec 32 := Scf.iv c0_i32_29 c1_i32_30 k0_t1
  let c512_i32 : BitVec 32 := 512#32
  let v864 : BitVec 32 := Scalar.muli arg14 c512_i32
  let v865 : BitVec 32 := Scalar.addi v864 c0_i32_387
  let v866 : BitVec 32 := v865
  let v867 : Index := Scalar.indexCast v866
  let c0_389 : Index := 0#32
  ![0, v867.toNat, 0]
def k0_off2 (k0_t1 : Fin k0_t1_loop.trips) (c0_i32_387 : BitVec 32) : Fin 2 → Nat :=
  let c0_i32_29 : BitVec 32 := 0#32
  let c1_i32_30 : BitVec 32 := 1#32
  let arg14 : BitVec 32 := Scf.iv c0_i32_29 c1_i32_30 k0_t1
  let c512_i32 : BitVec 32 := 512#32
  let v864 : BitVec 32 := Scalar.muli arg14 c512_i32
  let v865 : BitVec 32 := Scalar.addi v864 c0_i32_387
  let v866 : BitVec 32 := v865
  let v1024 : Index := Scalar.indexCast v866
  let c0_408 : Index := 0#32
  ![v1024.toNat, 0]
def k0_off3 (k0_t1 : Fin k0_t1_loop.trips) (c0_i32_410 : BitVec 32) : Fin 3 → Nat :=
  let c0_i32_29 : BitVec 32 := 0#32
  let c1_i32_30 : BitVec 32 := 1#32
  let arg14 : BitVec 32 := Scf.iv c0_i32_29 c1_i32_30 k0_t1
  let c4_i32_409 : BitVec 32 := 4#32
  let v1028 : BitVec 32 := Scalar.muli arg14 c4_i32_409
  let v1029 : BitVec 32 := Scalar.addi v1028 c0_i32_410
  let v1030 : Index := Scalar.indexCast v1029
  let c0_411 : Index := 0#32
  let c0_412 : Index := 0#32
  ![v1030.toNat, 0, 0]
def k0_mult4 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_413 : BitVec 32 := 512#32
  let v1037 : BitVec 32 := Scalar.muli arg14 c512_i32_413
  let c128_i32_414 : BitVec 32 := 128#32
  let v1038 : BitVec 32 := Scalar.addi v1037 c128_i32_414
  v1038
def k0_mult5 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_440 : BitVec 32 := 512#32
  let v1210 : BitVec 32 := Scalar.muli arg14 c512_i32_440
  let c0_i32_441 : BitVec 32 := 0#32
  let v1211 : BitVec 32 := Scalar.addi v1210 c0_i32_441
  v1211
def k0_off4 (k0_t1 : Fin k0_t1_loop.trips) (c0_i32_441 : BitVec 32) : Fin 3 → Nat :=
  let c0_442 : Index := 0#32
  let c0_i32_29 : BitVec 32 := 0#32
  let c1_i32_30 : BitVec 32 := 1#32
  let arg14 : BitVec 32 := Scf.iv c0_i32_29 c1_i32_30 k0_t1
  let c512_i32_440 : BitVec 32 := 512#32
  let v1210 : BitVec 32 := Scalar.muli arg14 c512_i32_440
  let v1211 : BitVec 32 := Scalar.addi v1210 c0_i32_441
  let v1212 : BitVec 32 := v1211
  let v1213 : Index := Scalar.indexCast v1212
  let c0_443 : Index := 0#32
  ![0, v1213.toNat, 0]
def k0_off5 (k0_t1 : Fin k0_t1_loop.trips) (c0_i32_446 : BitVec 32) : Fin 3 → Nat :=
  let c0_i32_29 : BitVec 32 := 0#32
  let c1_i32_30 : BitVec 32 := 1#32
  let arg14 : BitVec 32 := Scf.iv c0_i32_29 c1_i32_30 k0_t1
  let c4_i32_445 : BitVec 32 := 4#32
  let v1218 : BitVec 32 := Scalar.muli arg14 c4_i32_445
  let v1219 : BitVec 32 := Scalar.addi v1218 c0_i32_446
  let v1220 : Index := Scalar.indexCast v1219
  let c0_447 : Index := 0#32
  let c0_448 : Index := 0#32
  ![v1220.toNat, 0, 0]
def k0_mult6 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_449 : BitVec 32 := 512#32
  let v1225 : BitVec 32 := Scalar.muli arg14 c512_i32_449
  let c256_i32 : BitVec 32 := 256#32
  let v1226 : BitVec 32 := Scalar.addi v1225 c256_i32
  v1226
def k0_mult7 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_475 : BitVec 32 := 512#32
  let v1398 : BitVec 32 := Scalar.muli arg14 c512_i32_475
  let c128_i32_476 : BitVec 32 := 128#32
  let v1399 : BitVec 32 := Scalar.addi v1398 c128_i32_476
  v1399
def k0_mult8 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_484 : BitVec 32 := 512#32
  let v1413 : BitVec 32 := Scalar.muli arg14 c512_i32_484
  let c0_i32_485 : BitVec 32 := 0#32
  let v1414 : BitVec 32 := Scalar.addi v1413 c0_i32_485
  v1414
def k0_mult9 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_488 : BitVec 32 := 512#32
  let v1418 : BitVec 32 := Scalar.muli arg14 c512_i32_488
  let c0_i32_489 : BitVec 32 := 0#32
  let v1419 : BitVec 32 := Scalar.addi v1418 c0_i32_489
  v1419
def k0_off6 (k0_t1 : Fin k0_t1_loop.trips) (c0_i32_485 : BitVec 32) : Fin 2 → Nat :=
  let c0_i32_29 : BitVec 32 := 0#32
  let c1_i32_30 : BitVec 32 := 1#32
  let arg14 : BitVec 32 := Scf.iv c0_i32_29 c1_i32_30 k0_t1
  let c512_i32_484 : BitVec 32 := 512#32
  let v1413 : BitVec 32 := Scalar.muli arg14 c512_i32_484
  let v1414 : BitVec 32 := Scalar.addi v1413 c0_i32_485
  let v1415 : BitVec 32 := v1414
  let v1427 : Index := Scalar.indexCast v1415
  let c0_493 : Index := 0#32
  ![v1427.toNat, 0]
def k0_mult10 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_496 : BitVec 32 := 512#32
  let v1437 : BitVec 32 := Scalar.muli arg14 c512_i32_496
  let c384_i32 : BitVec 32 := 384#32
  let v1438 : BitVec 32 := Scalar.addi v1437 c384_i32
  v1438
def k0_mult11 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_522 : BitVec 32 := 512#32
  let v1610 : BitVec 32 := Scalar.muli arg14 c512_i32_522
  let c256_i32_523 : BitVec 32 := 256#32
  let v1611 : BitVec 32 := Scalar.addi v1610 c256_i32_523
  v1611
def k0_mult12 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c1_i32_531 : BitVec 32 := 1#32
  let v1625 : BitVec 32 := Scalar.addi arg14 c1_i32_531
  let c7_i32_532 : BitVec 32 := 7#32
  let v1626 : BitVec 32 := Scalar.minsi v1625 c7_i32_532
  let c512_i32_533 : BitVec 32 := 512#32
  let v1627 : BitVec 32 := Scalar.muli v1626 c512_i32_533
  v1627
def k0_off7 (k0_t1 : Fin k0_t1_loop.trips) : Fin 3 → Nat :=
  let c0_534 : Index := 0#32
  let c0_i32_29 : BitVec 32 := 0#32
  let c1_i32_30 : BitVec 32 := 1#32
  let arg14 : BitVec 32 := Scf.iv c0_i32_29 c1_i32_30 k0_t1
  let c1_i32_531 : BitVec 32 := 1#32
  let v1625 : BitVec 32 := Scalar.addi arg14 c1_i32_531
  let c7_i32_532 : BitVec 32 := 7#32
  let v1626 : BitVec 32 := Scalar.minsi v1625 c7_i32_532
  let c512_i32_533 : BitVec 32 := 512#32
  let v1627 : BitVec 32 := Scalar.muli v1626 c512_i32_533
  let v1628 : BitVec 32 := v1627
  let v1629 : Index := Scalar.indexCast v1628
  let c0_535 : Index := 0#32
  ![0, v1629.toNat, 0]
def k0_mult13 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c1_i32_531 : BitVec 32 := 1#32
  let v1625 : BitVec 32 := Scalar.addi arg14 c1_i32_531
  let c7_i32_532 : BitVec 32 := 7#32
  let v1626 : BitVec 32 := Scalar.minsi v1625 c7_i32_532
  let c512_i32_536 : BitVec 32 := 512#32
  let v1632 : BitVec 32 := Scalar.muli v1626 c512_i32_536
  v1632
def k0_mult14 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_551 : BitVec 32 := 512#32
  let v1658 : BitVec 32 := Scalar.muli arg14 c512_i32_551
  let c128_i32_552 : BitVec 32 := 128#32
  let v1659 : BitVec 32 := Scalar.addi v1658 c128_i32_552
  v1659
def k0_mult15 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_555 : BitVec 32 := 512#32
  let v1663 : BitVec 32 := Scalar.muli arg14 c512_i32_555
  let c128_i32_556 : BitVec 32 := 128#32
  let v1664 : BitVec 32 := Scalar.addi v1663 c128_i32_556
  v1664
def k0_mult16 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_563 : BitVec 32 := 512#32
  let v1682 : BitVec 32 := Scalar.muli arg14 c512_i32_563
  let c384_i32_564 : BitVec 32 := 384#32
  let v1683 : BitVec 32 := Scalar.addi v1682 c384_i32_564
  v1683
def k0_mult17 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_572 : BitVec 32 := 512#32
  let v1697 : BitVec 32 := Scalar.muli arg14 c512_i32_572
  let c256_i32_573 : BitVec 32 := 256#32
  let v1698 : BitVec 32 := Scalar.addi v1697 c256_i32_573
  v1698
def k0_mult18 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_576 : BitVec 32 := 512#32
  let v1702 : BitVec 32 := Scalar.muli arg14 c512_i32_576
  let c256_i32_577 : BitVec 32 := 256#32
  let v1703 : BitVec 32 := Scalar.addi v1702 c256_i32_577
  v1703
def k0_mult19 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_584 : BitVec 32 := 512#32
  let v1721 : BitVec 32 := Scalar.muli arg14 c512_i32_584
  let c384_i32_585 : BitVec 32 := 384#32
  let v1722 : BitVec 32 := Scalar.addi v1721 c384_i32_585
  v1722
def k0_mult20 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c512_i32_588 : BitVec 32 := 512#32
  let v1726 : BitVec 32 := Scalar.muli arg14 c512_i32_588
  let c384_i32_589 : BitVec 32 := 384#32
  let v1727 : BitVec 32 := Scalar.addi v1726 c384_i32_589
  v1727
def k0_mult21 : BitVec 32 :=
  let c31_i32 : BitVec 32 := 31#32
  let c0_i32_33 : BitVec 32 := 0#32
  let v96 : BitVec 32 := Scalar.subi c31_i32 c0_i32_33
  let c128_i32 : BitVec 32 := 128#32
  let v97 : BitVec 32 := Scalar.muli v96 c128_i32
  v97
def k0_off8 (c0_i32_33 : BitVec 32) : Fin 2 → Nat :=
  let c31_i32 : BitVec 32 := 31#32
  let v96 : BitVec 32 := Scalar.subi c31_i32 c0_i32_33
  let c128_i32 : BitVec 32 := 128#32
  let v97 : BitVec 32 := Scalar.muli v96 c128_i32
  let v98 : BitVec 32 := v97
  let v99 : Index := Scalar.indexCast v98
  let c0_34 : Index := 0#32
  ![v99.toNat, 0]
def k0_off9 (c0_i32_33 : BitVec 32) : Fin 2 → Nat :=
  let c31_i32 : BitVec 32 := 31#32
  let v96 : BitVec 32 := Scalar.subi c31_i32 c0_i32_33
  let c128_i32 : BitVec 32 := 128#32
  let v97 : BitVec 32 := Scalar.muli v96 c128_i32
  let v98 : BitVec 32 := v97
  let v101 : Index := Scalar.indexCast v98
  let c0_35 : Index := 0#32
  ![v101.toNat, 0]
def k0_off10 (c0_i32_33 : BitVec 32) : Fin 3 → Nat :=
  let c0_37 : Index := 0#32
  let c31_i32 : BitVec 32 := 31#32
  let v96 : BitVec 32 := Scalar.subi c31_i32 c0_i32_33
  let c128_i32 : BitVec 32 := 128#32
  let v97 : BitVec 32 := Scalar.muli v96 c128_i32
  let v98 : BitVec 32 := v97
  let v107 : Index := Scalar.indexCast v98
  let c0_38 : Index := 0#32
  ![0, v107.toNat, 0]
def k0_off11 (c0_i32_33 : BitVec 32) : Fin 3 → Nat :=
  let c31_i32 : BitVec 32 := 31#32
  let v96 : BitVec 32 := Scalar.subi c31_i32 c0_i32_33
  let v111 : Index := Scalar.indexCast v96
  let c0_39 : Index := 0#32
  let c0_40 : Index := 0#32
  ![v111.toNat, 0, 0]
def k0_off12 (c0_i32_33 : BitVec 32) : Fin 3 → Nat :=
  let c31_i32 : BitVec 32 := 31#32
  let v96 : BitVec 32 := Scalar.subi c31_i32 c0_i32_33
  let v116 : Index := Scalar.indexCast v96
  let c0_41 : Index := 0#32
  let c0_42 : Index := 0#32
  ![v116.toNat, 0, 0]
def k0_mult22 : BitVec 32 :=
  let c31_i32_44 : BitVec 32 := 31#32
  let c1_i32_43 : BitVec 32 := 1#32
  let v120 : BitVec 32 := Scalar.subi c31_i32_44 c1_i32_43
  let c128_i32_45 : BitVec 32 := 128#32
  let v121 : BitVec 32 := Scalar.muli v120 c128_i32_45
  v121
def k0_mult23 : BitVec 32 :=
  let c31_i32_55 : BitVec 32 := 31#32
  let c2_i32 : BitVec 32 := 2#32
  let v144 : BitVec 32 := Scalar.subi c31_i32_55 c2_i32
  let c128_i32_56 : BitVec 32 := 128#32
  let v145 : BitVec 32 := Scalar.muli v144 c128_i32_56
  v145
def k0_mult24 : BitVec 32 :=
  let c31_i32_66 : BitVec 32 := 31#32
  let c3_i32 : BitVec 32 := 3#32
  let v168 : BitVec 32 := Scalar.subi c31_i32_66 c3_i32
  let c128_i32_67 : BitVec 32 := 128#32
  let v169 : BitVec 32 := Scalar.muli v168 c128_i32_67
  v169
def k0_mult25 : BitVec 32 :=
  let c31_i32_77 : BitVec 32 := 31#32
  let c4_i32 : BitVec 32 := 4#32
  let v192 : BitVec 32 := Scalar.subi c31_i32_77 c4_i32
  let c128_i32_78 : BitVec 32 := 128#32
  let v193 : BitVec 32 := Scalar.muli v192 c128_i32_78
  v193
def k0_mult26 : BitVec 32 :=
  let c31_i32_88 : BitVec 32 := 31#32
  let c5_i32 : BitVec 32 := 5#32
  let v216 : BitVec 32 := Scalar.subi c31_i32_88 c5_i32
  let c128_i32_89 : BitVec 32 := 128#32
  let v217 : BitVec 32 := Scalar.muli v216 c128_i32_89
  v217
def k0_mult27 : BitVec 32 :=
  let c31_i32_99 : BitVec 32 := 31#32
  let c6_i32 : BitVec 32 := 6#32
  let v240 : BitVec 32 := Scalar.subi c31_i32_99 c6_i32
  let c128_i32_100 : BitVec 32 := 128#32
  let v241 : BitVec 32 := Scalar.muli v240 c128_i32_100
  v241
def k0_mult28 : BitVec 32 :=
  let c31_i32_110 : BitVec 32 := 31#32
  let c7_i32 : BitVec 32 := 7#32
  let v264 : BitVec 32 := Scalar.subi c31_i32_110 c7_i32
  let c128_i32_111 : BitVec 32 := 128#32
  let v265 : BitVec 32 := Scalar.muli v264 c128_i32_111
  v265
def k0_mult29 : BitVec 32 :=
  let c31_i32_122 : BitVec 32 := 31#32
  let c8_i32_121 : BitVec 32 := 8#32
  let v288 : BitVec 32 := Scalar.subi c31_i32_122 c8_i32_121
  let c128_i32_123 : BitVec 32 := 128#32
  let v289 : BitVec 32 := Scalar.muli v288 c128_i32_123
  v289
def k0_mult30 : BitVec 32 :=
  let c31_i32_133 : BitVec 32 := 31#32
  let c9_i32 : BitVec 32 := 9#32
  let v312 : BitVec 32 := Scalar.subi c31_i32_133 c9_i32
  let c128_i32_134 : BitVec 32 := 128#32
  let v313 : BitVec 32 := Scalar.muli v312 c128_i32_134
  v313
def k0_mult31 : BitVec 32 :=
  let c31_i32_144 : BitVec 32 := 31#32
  let c10_i32 : BitVec 32 := 10#32
  let v336 : BitVec 32 := Scalar.subi c31_i32_144 c10_i32
  let c128_i32_145 : BitVec 32 := 128#32
  let v337 : BitVec 32 := Scalar.muli v336 c128_i32_145
  v337
def k0_mult32 : BitVec 32 :=
  let c31_i32_155 : BitVec 32 := 31#32
  let c11_i32 : BitVec 32 := 11#32
  let v360 : BitVec 32 := Scalar.subi c31_i32_155 c11_i32
  let c128_i32_156 : BitVec 32 := 128#32
  let v361 : BitVec 32 := Scalar.muli v360 c128_i32_156
  v361
def k0_mult33 : BitVec 32 :=
  let c31_i32_166 : BitVec 32 := 31#32
  let c12_i32 : BitVec 32 := 12#32
  let v384 : BitVec 32 := Scalar.subi c31_i32_166 c12_i32
  let c128_i32_167 : BitVec 32 := 128#32
  let v385 : BitVec 32 := Scalar.muli v384 c128_i32_167
  v385
def k0_mult34 : BitVec 32 :=
  let c31_i32_177 : BitVec 32 := 31#32
  let c13_i32 : BitVec 32 := 13#32
  let v408 : BitVec 32 := Scalar.subi c31_i32_177 c13_i32
  let c128_i32_178 : BitVec 32 := 128#32
  let v409 : BitVec 32 := Scalar.muli v408 c128_i32_178
  v409
def k0_mult35 : BitVec 32 :=
  let c31_i32_188 : BitVec 32 := 31#32
  let c14_i32 : BitVec 32 := 14#32
  let v432 : BitVec 32 := Scalar.subi c31_i32_188 c14_i32
  let c128_i32_189 : BitVec 32 := 128#32
  let v433 : BitVec 32 := Scalar.muli v432 c128_i32_189
  v433
def k0_mult36 : BitVec 32 :=
  let c31_i32_199 : BitVec 32 := 31#32
  let c15_i32 : BitVec 32 := 15#32
  let v456 : BitVec 32 := Scalar.subi c31_i32_199 c15_i32
  let c128_i32_200 : BitVec 32 := 128#32
  let v457 : BitVec 32 := Scalar.muli v456 c128_i32_200
  v457
def k0_mult37 : BitVec 32 :=
  let c31_i32_210 : BitVec 32 := 31#32
  let c16_i32 : BitVec 32 := 16#32
  let v480 : BitVec 32 := Scalar.subi c31_i32_210 c16_i32
  let c128_i32_211 : BitVec 32 := 128#32
  let v481 : BitVec 32 := Scalar.muli v480 c128_i32_211
  v481
def k0_mult38 : BitVec 32 :=
  let c31_i32_221 : BitVec 32 := 31#32
  let c17_i32 : BitVec 32 := 17#32
  let v504 : BitVec 32 := Scalar.subi c31_i32_221 c17_i32
  let c128_i32_222 : BitVec 32 := 128#32
  let v505 : BitVec 32 := Scalar.muli v504 c128_i32_222
  v505
def k0_mult39 : BitVec 32 :=
  let c31_i32_232 : BitVec 32 := 31#32
  let c18_i32 : BitVec 32 := 18#32
  let v528 : BitVec 32 := Scalar.subi c31_i32_232 c18_i32
  let c128_i32_233 : BitVec 32 := 128#32
  let v529 : BitVec 32 := Scalar.muli v528 c128_i32_233
  v529
def k0_mult40 : BitVec 32 :=
  let c31_i32_243 : BitVec 32 := 31#32
  let c19_i32 : BitVec 32 := 19#32
  let v552 : BitVec 32 := Scalar.subi c31_i32_243 c19_i32
  let c128_i32_244 : BitVec 32 := 128#32
  let v553 : BitVec 32 := Scalar.muli v552 c128_i32_244
  v553
def k0_mult41 : BitVec 32 :=
  let c31_i32_254 : BitVec 32 := 31#32
  let c20_i32 : BitVec 32 := 20#32
  let v576 : BitVec 32 := Scalar.subi c31_i32_254 c20_i32
  let c128_i32_255 : BitVec 32 := 128#32
  let v577 : BitVec 32 := Scalar.muli v576 c128_i32_255
  v577
def k0_mult42 : BitVec 32 :=
  let c31_i32_265 : BitVec 32 := 31#32
  let c21_i32 : BitVec 32 := 21#32
  let v600 : BitVec 32 := Scalar.subi c31_i32_265 c21_i32
  let c128_i32_266 : BitVec 32 := 128#32
  let v601 : BitVec 32 := Scalar.muli v600 c128_i32_266
  v601
def k0_mult43 : BitVec 32 :=
  let c31_i32_276 : BitVec 32 := 31#32
  let c22_i32 : BitVec 32 := 22#32
  let v624 : BitVec 32 := Scalar.subi c31_i32_276 c22_i32
  let c128_i32_277 : BitVec 32 := 128#32
  let v625 : BitVec 32 := Scalar.muli v624 c128_i32_277
  v625
def k0_mult44 : BitVec 32 :=
  let c31_i32_287 : BitVec 32 := 31#32
  let c23_i32 : BitVec 32 := 23#32
  let v648 : BitVec 32 := Scalar.subi c31_i32_287 c23_i32
  let c128_i32_288 : BitVec 32 := 128#32
  let v649 : BitVec 32 := Scalar.muli v648 c128_i32_288
  v649
def k0_mult45 : BitVec 32 :=
  let c31_i32_298 : BitVec 32 := 31#32
  let c24_i32 : BitVec 32 := 24#32
  let v672 : BitVec 32 := Scalar.subi c31_i32_298 c24_i32
  let c128_i32_299 : BitVec 32 := 128#32
  let v673 : BitVec 32 := Scalar.muli v672 c128_i32_299
  v673
def k0_mult46 : BitVec 32 :=
  let c31_i32_309 : BitVec 32 := 31#32
  let c25_i32 : BitVec 32 := 25#32
  let v696 : BitVec 32 := Scalar.subi c31_i32_309 c25_i32
  let c128_i32_310 : BitVec 32 := 128#32
  let v697 : BitVec 32 := Scalar.muli v696 c128_i32_310
  v697
def k0_mult47 : BitVec 32 :=
  let c31_i32_320 : BitVec 32 := 31#32
  let c26_i32 : BitVec 32 := 26#32
  let v720 : BitVec 32 := Scalar.subi c31_i32_320 c26_i32
  let c128_i32_321 : BitVec 32 := 128#32
  let v721 : BitVec 32 := Scalar.muli v720 c128_i32_321
  v721
def k0_mult48 : BitVec 32 :=
  let c31_i32_331 : BitVec 32 := 31#32
  let c27_i32 : BitVec 32 := 27#32
  let v744 : BitVec 32 := Scalar.subi c31_i32_331 c27_i32
  let c128_i32_332 : BitVec 32 := 128#32
  let v745 : BitVec 32 := Scalar.muli v744 c128_i32_332
  v745
def k0_mult49 : BitVec 32 :=
  let c31_i32_342 : BitVec 32 := 31#32
  let c28_i32 : BitVec 32 := 28#32
  let v768 : BitVec 32 := Scalar.subi c31_i32_342 c28_i32
  let c128_i32_343 : BitVec 32 := 128#32
  let v769 : BitVec 32 := Scalar.muli v768 c128_i32_343
  v769
def k0_mult50 : BitVec 32 :=
  let c31_i32_353 : BitVec 32 := 31#32
  let c29_i32 : BitVec 32 := 29#32
  let v792 : BitVec 32 := Scalar.subi c31_i32_353 c29_i32
  let c128_i32_354 : BitVec 32 := 128#32
  let v793 : BitVec 32 := Scalar.muli v792 c128_i32_354
  v793
def k0_mult51 : BitVec 32 :=
  let c31_i32_364 : BitVec 32 := 31#32
  let c30_i32 : BitVec 32 := 30#32
  let v816 : BitVec 32 := Scalar.subi c31_i32_364 c30_i32
  let c128_i32_365 : BitVec 32 := 128#32
  let v817 : BitVec 32 := Scalar.muli v816 c128_i32_365
  v817
def k0_mult52 : BitVec 32 :=
  let c31_i32_376 : BitVec 32 := 31#32
  let c31_i32_375 : BitVec 32 := 31#32
  let v840 : BitVec 32 := Scalar.subi c31_i32_376 c31_i32_375
  let c128_i32_377 : BitVec 32 := 128#32
  let v841 : BitVec 32 := Scalar.muli v840 c128_i32_377
  v841
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x11264 : Shape := ⟨3, ![4, 4096, 11264]⟩
abbrev S4x4096x512 : Shape := ⟨3, ![4, 4096, 512]⟩
abbrev S4x4096x4x128 : Shape := ⟨4, ![4, 4096, 4, 128]⟩
abbrev S4x4096x1024 : Shape := ⟨3, ![4, 4096, 1024]⟩
abbrev S4x4096x4x256 : Shape := ⟨4, ![4, 4096, 4, 256]⟩
abbrev S_ : Shape := ⟨0, ![]⟩
abbrev S8x4096x4x128 : Shape := ⟨4, ![8, 4096, 4, 128]⟩
abbrev S8x4096x4x256 : Shape := ⟨4, ![8, 4096, 4, 256]⟩
abbrev S8x64x64x4x128 : Shape := ⟨5, ![8, 64, 64, 4, 128]⟩
abbrev S64x8x4x64x128 : Shape := ⟨5, ![64, 8, 4, 64, 128]⟩
abbrev S8x64x64x4x256 : Shape := ⟨5, ![8, 64, 64, 4, 256]⟩
abbrev S64x8x4x64x256 : Shape := ⟨5, ![64, 8, 4, 64, 256]⟩
abbrev S64x64 : Shape := ⟨2, ![64, 64]⟩
abbrev S1x1x64x64x1 : Shape := ⟨5, ![1, 1, 64, 64, 1]⟩
abbrev S8x4x128x256 : Shape := ⟨4, ![8, 4, 128, 256]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S8x4x1x128 : Shape := ⟨4, ![8, 4, 1, 128]⟩
abbrev S8x4x64x1x128 : Shape := ⟨5, ![8, 4, 64, 1, 128]⟩
abbrev S8x4x1x64x128 : Shape := ⟨5, ![8, 4, 1, 64, 128]⟩
abbrev S8x4x64x64x128 : Shape := ⟨5, ![8, 4, 64, 64, 128]⟩
abbrev S8x4x64x64 : Shape := ⟨4, ![8, 4, 64, 64]⟩
abbrev S8x4x128 : Shape := ⟨3, ![8, 4, 128]⟩
abbrev S8x4x128x1 : Shape := ⟨4, ![8, 4, 128, 1]⟩

abbrev nBuf : Space → Nat
  | .hbm => 144
  | .vmem => 0
  | .smem => 0
  | _ => 0

abbrev hbmTy0_0 (i : Nat) : BufTy := match i % 128 with
  | 0 => ⟨S4x4096x11264, .bf16⟩
  | 1 => ⟨S4x4096x512, .bf16⟩
  | 2 => ⟨S4x4096x512, .f32⟩
  | 3 => ⟨S4x4096x4x128, .f32⟩
  | 4 => ⟨S4x4096x512, .bf16⟩
  | 5 => ⟨S4x4096x512, .f32⟩
  | 6 => ⟨S4x4096x4x128, .f32⟩
  | 7 => ⟨S4x4096x1024, .bf16⟩
  | 8 => ⟨S4x4096x1024, .f32⟩
  | 9 => ⟨S4x4096x4x256, .f32⟩
  | 10 => ⟨S_, .f32⟩
  | 11 => ⟨S_, .f32⟩
  | 12 => ⟨S4x4096x512, .bf16⟩
  | 13 => ⟨S4x4096x512, .f32⟩
  | 14 => ⟨S4x4096x4x128, .f32⟩
  | 15 => ⟨S4x4096x4x128, .f32⟩
  | 16 => ⟨S4x4096x4x128, .f32⟩
  | 17 => ⟨S4x4096x512, .bf16⟩
  | 18 => ⟨S4x4096x512, .f32⟩
  | 19 => ⟨S4x4096x4x128, .f32⟩
  | 20 => ⟨S4x4096x4x128, .f32⟩
  | 21 => ⟨S4x4096x4x128, .f32⟩
  | 22 => ⟨S4x4096x4x128, .f32⟩
  | 23 => ⟨S8x4096x4x128, .f32⟩
  | 24 => ⟨S4x4096x4x128, .f32⟩
  | 25 => ⟨S8x4096x4x128, .f32⟩
  | 26 => ⟨S4x4096x4x256, .f32⟩
  | 27 => ⟨S8x4096x4x256, .f32⟩
  | 28 => ⟨S4x4096x4x128, .f32⟩
  | 29 => ⟨S8x4096x4x128, .f32⟩
  | 30 => ⟨S8x64x64x4x128, .f32⟩
  | 31 => ⟨S64x8x4x64x128, .f32⟩
  | 32 => ⟨S8x64x64x4x128, .f32⟩
  | 33 => ⟨S64x8x4x64x128, .f32⟩
  | 34 => ⟨S8x64x64x4x256, .f32⟩
  | 35 => ⟨S64x8x4x64x256, .f32⟩
  | 36 => ⟨S8x64x64x4x128, .f32⟩
  | 37 => ⟨S64x8x4x64x128, .f32⟩
  | 38 => ⟨S_, .i1⟩
  | 39 => ⟨S64x64, .i1⟩
  | 40 => ⟨S64x64, .i32⟩
  | 41 => ⟨S_, .i32⟩
  | 42 => ⟨S64x64, .i32⟩
  | 43 => ⟨S64x64, .i32⟩
  | 44 => ⟨S64x64, .i32⟩
  | 45 => ⟨S64x64, .i1⟩
  | 46 => ⟨S_, .i1⟩
  | 47 => ⟨S64x64, .i1⟩
  | 48 => ⟨S64x64, .i1⟩
  | 49 => ⟨S1x1x64x64x1, .i1⟩
  | 50 => ⟨S_, .f32⟩
  | 51 => ⟨S8x4x128x256, .f32⟩
  | 52 => ⟨S_, .f32⟩
  | 53 => ⟨S64x8x4x64x256, .f32⟩
  | 54 => ⟨S_, .i32⟩
  | 55 => ⟨S64x8x4x64x128, .f32⟩
  | 56 => ⟨S64x8x4x64x128, .f32⟩
  | 57 => ⟨S64x8x4x64x256, .f32⟩
  | 58 => ⟨S64x8x4x64x128, .f32⟩
  | 59 => ⟨S1x1x64x64x1, .i1⟩
  | 60 => ⟨S_, .i32⟩
  | 61 => ⟨S8x4x128x256, .f32⟩
  | 62 => ⟨S64x8x4x64x256, .f32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S1x8x4x64x128, .f32⟩
  | 70 => ⟨S8x4x64x128, .f32⟩
  | 71 => ⟨S_, .i32⟩
  | 72 => ⟨S_, .i32⟩
  | 73 => ⟨S_, .i32⟩
  | 74 => ⟨S_, .i32⟩
  | 75 => ⟨S1x8x4x64x128, .f32⟩
  | 76 => ⟨S8x4x64x128, .f32⟩
  | 77 => ⟨S_, .i32⟩
  | 78 => ⟨S_, .i32⟩
  | 79 => ⟨S_, .i32⟩
  | 80 => ⟨S_, .i32⟩
  | 81 => ⟨S1x8x4x64x256, .f32⟩
  | 82 => ⟨S8x4x64x256, .f32⟩
  | 83 => ⟨S_, .i32⟩
  | 84 => ⟨S_, .i32⟩
  | 85 => ⟨S_, .i32⟩
  | 86 => ⟨S_, .i32⟩
  | 87 => ⟨S1x8x4x64x128, .f32⟩
  | 88 => ⟨S8x4x64x128, .f32⟩
  | 89 => ⟨S_, .f32⟩
  | 90 => ⟨S_, .f32⟩
  | 91 => ⟨S8x4x64x128, .f32⟩
  | 92 => ⟨S8x4x1x128, .f32⟩
  | 93 => ⟨S8x4x64x128, .f32⟩
  | 94 => ⟨S8x4x64x128, .f32⟩
  | 95 => ⟨S8x4x64x256, .f32⟩
  | 96 => ⟨S8x4x64x1x128, .f32⟩
  | 97 => ⟨S8x4x1x64x128, .f32⟩
  | 98 => ⟨S8x4x64x64x128, .f32⟩
  | 99 => ⟨S8x4x64x64x128, .f32⟩
  | 100 => ⟨S8x4x64x64x128, .f32⟩
  | 101 => ⟨S_, .f32⟩
  | 102 => ⟨S_, .f32⟩
  | 103 => ⟨S8x4x64x64x128, .i1⟩
  | 104 => ⟨S8x4x64x64x128, .f32⟩
  | 105 => ⟨S8x4x64x64x128, .f32⟩
  | 106 => ⟨S8x4x64x1x128, .f32⟩
  | 107 => ⟨S8x4x1x64x128, .f32⟩
  | 108 => ⟨S8x4x64x64x128, .f32⟩
  | 109 => ⟨S8x4x64x64x128, .f32⟩
  | 110 => ⟨S8x4x64x64x128, .f32⟩
  | 111 => ⟨S8x4x64x64x128, .f32⟩
  | 112 => ⟨S8x4x64x64x128, .f32⟩
  | 113 => ⟨S_, .f32⟩
  | 114 => ⟨S8x4x64x64, .f32⟩
  | 115 => ⟨S8x4x64x256, .f32⟩
  | 116 => ⟨S8x4x64x256, .f32⟩
  | 117 => ⟨S8x4x128, .f32⟩
  | 118 => ⟨S8x4x128, .f32⟩
  | 119 => ⟨S8x4x128x1, .f32⟩
  | 120 => ⟨S8x4x128x256, .f32⟩
  | 121 => ⟨S8x4x128x256, .f32⟩
  | 122 => ⟨S8x4x64x128, .f32⟩
  | 123 => ⟨S8x4x64x128, .f32⟩
  | 124 => ⟨S8x4x64x128, .f32⟩
  | 125 => ⟨S8x4x64x128, .f32⟩
  | 126 => ⟨S8x4x128x256, .f32⟩
  | 127 => ⟨S8x4x128x256, .f32⟩
  | _ => ⟨S4x4096x11264, .bf16⟩

abbrev hbmTy0_1 (i : Nat) : BufTy := match i % 128 with
  | 0 => ⟨S1x8x4x64x256, .f32⟩
  | 1 => ⟨S_, .i32⟩
  | 2 => ⟨S_, .i32⟩
  | 3 => ⟨S_, .i32⟩
  | 4 => ⟨S_, .i32⟩
  | 5 => ⟨S64x8x4x64x256, .f32⟩
  | 6 => ⟨S_, .i32⟩
  | 7 => ⟨S_, .i32⟩
  | 8 => ⟨S8x64x64x4x256, .f32⟩
  | 9 => ⟨S8x4096x4x256, .f32⟩
  | 10 => ⟨S4x4096x4x256, .f32⟩
  | 11 => ⟨S4x4096x4x256, .f32⟩
  | 12 => ⟨S4x4096x4x256, .f32⟩
  | 13 => ⟨S4x4096x4x256, .f32⟩
  | 14 => ⟨S4x4096x1024, .f32⟩
  | 15 => ⟨S4x4096x1024, .bf16⟩
  | _ => ⟨S4x4096x11264, .bf16⟩

abbrev hbmTy (i : Nat) : BufTy := match i / 128 with
  | 0 => hbmTy0_0 i
  | 1 => hbmTy0_1 i
  | _ => ⟨S4x4096x11264, .bf16⟩

abbrev bufTy : (tb : Table) → Fin (tcTables nBuf tb) → BufTy
  | .hbm, ⟨i, _⟩ => hbmTy i
  | _, _ => ⟨S4x4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_c : Ref sig .tc := ⟨.hbm, 38, rfl⟩
abbrev main_v36 : Ref sig .tc := ⟨.hbm, 39, rfl⟩
abbrev main_call4_v0 : Ref sig .tc := ⟨.hbm, 40, rfl⟩
abbrev main_call4_c : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_c_0 : Ref sig .tc := ⟨.hbm, 46, rfl⟩
abbrev main_call4_v5 : Ref sig .tc := ⟨.hbm, 47, rfl⟩
abbrev main_v37 : Ref sig .tc := ⟨.hbm, 48, rfl⟩
abbrev main_v38 : Ref sig .tc := ⟨.hbm, 49, rfl⟩
abbrev main_cst_0 : Ref sig .tc := ⟨.hbm, 50, rfl⟩
abbrev main_v39 : Ref sig .tc := ⟨.hbm, 51, rfl⟩
abbrev main_cst_1 : Ref sig .tc := ⟨.hbm, 52, rfl⟩
abbrev main_v40 : Ref sig .tc := ⟨.hbm, 53, rfl⟩
abbrev main_c_2 : Ref sig .tc := ⟨.hbm, 54, rfl⟩
abbrev main_v41_0 : Ref sig .tc := ⟨.hbm, 55, rfl⟩
abbrev main_v41_1 : Ref sig .tc := ⟨.hbm, 56, rfl⟩
abbrev main_v41_2 : Ref sig .tc := ⟨.hbm, 57, rfl⟩
abbrev main_v41_3 : Ref sig .tc := ⟨.hbm, 58, rfl⟩
abbrev main_v41_4 : Ref sig .tc := ⟨.hbm, 59, rfl⟩
abbrev main_v41_5 : Ref sig .tc := ⟨.hbm, 60, rfl⟩
abbrev main_v41_6 : Ref sig .tc := ⟨.hbm, 61, rfl⟩
abbrev main_v41_7 : Ref sig .tc := ⟨.hbm, 62, rfl⟩
abbrev main_while0c_c_10 : Ref sig .tc := ⟨.hbm, 63, rfl⟩
abbrev main_while0c_v50 : Ref sig .tc := ⟨.hbm, 64, rfl⟩
abbrev main_while0b_call5_c : Ref sig .tc := ⟨.hbm, 65, rfl⟩
abbrev main_while0b_call5_c_0 : Ref sig .tc := ⟨.hbm, 66, rfl⟩
abbrev main_while0b_call5_c_1 : Ref sig .tc := ⟨.hbm, 67, rfl⟩
abbrev main_while0b_call5_c_2 : Ref sig .tc := ⟨.hbm, 68, rfl⟩
abbrev main_while0b_call5_v0 : Ref sig .tc := ⟨.hbm, 69, rfl⟩
abbrev main_while0b_v50 : Ref sig .tc := ⟨.hbm, 70, rfl⟩
abbrev main_while0b_call6_c : Ref sig .tc := ⟨.hbm, 71, rfl⟩
abbrev main_while0b_call6_c_0 : Ref sig .tc := ⟨.hbm, 72, rfl⟩
abbrev main_while0b_call6_c_1 : Ref sig .tc := ⟨.hbm, 73, rfl⟩
abbrev main_while0b_call6_c_2 : Ref sig .tc := ⟨.hbm, 74, rfl⟩
abbrev main_while0b_call6_v0 : Ref sig .tc := ⟨.hbm, 75, rfl⟩
abbrev main_while0b_v51 : Ref sig .tc := ⟨.hbm, 76, rfl⟩
abbrev main_while0b_call7_c : Ref sig .tc := ⟨.hbm, 77, rfl⟩
abbrev main_while0b_call7_c_0 : Ref sig .tc := ⟨.hbm, 78, rfl⟩
abbrev main_while0b_call7_c_1 : Ref sig .tc := ⟨.hbm, 79, rfl⟩
abbrev main_while0b_call7_c_2 : Ref sig .tc := ⟨.hbm, 80, rfl⟩
abbrev main_while0b_call7_v0 : Ref sig .tc := ⟨.hbm, 81, rfl⟩
abbrev main_while0b_v52 : Ref sig .tc := ⟨.hbm, 82, rfl⟩
abbrev main_while0b_call8_c : Ref sig .tc := ⟨.hbm, 83, rfl⟩
abbrev main_while0b_call8_c_0 : Ref sig .tc := ⟨.hbm, 84, rfl⟩
abbrev main_while0b_call8_c_1 : Ref sig .tc := ⟨.hbm, 85, rfl⟩
abbrev main_while0b_call8_c_2 : Ref sig .tc := ⟨.hbm, 86, rfl⟩
abbrev main_while0b_call8_v0 : Ref sig .tc := ⟨.hbm, 87, rfl⟩
abbrev main_while0b_v53 : Ref sig .tc := ⟨.hbm, 88, rfl⟩
abbrev main_while0b_call9_call0_cst : Ref sig .tc := ⟨.hbm, 89, rfl⟩
abbrev main_while0b_call9_call0_v0 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_v63 : Ref sig .tc := ⟨.hbm, 100, rfl⟩
abbrev main_while0b_cst_10 : Ref sig .tc := ⟨.hbm, 101, rfl⟩
abbrev main_while0b_call10_v0 : Ref sig .tc := ⟨.hbm, 102, rfl⟩
abbrev main_while0b_call10_v1 : Ref sig .tc := ⟨.hbm, 103, rfl⟩
abbrev main_while0b_call10_v2 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_cst_11 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_v75 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_v82 : Ref sig .tc := ⟨.hbm, 124, rfl⟩
abbrev main_while0b_v83 : Ref sig .tc := ⟨.hbm, 125, rfl⟩
abbrev main_while0b_v84 : Ref sig .tc := ⟨.hbm, 126, rfl⟩
abbrev main_while0b_v85 : Ref sig .tc := ⟨.hbm, 127, rfl⟩
abbrev main_while0b_call11_v0 : Ref sig .tc := ⟨.hbm, 128, rfl⟩
abbrev main_while0b_call11_c : Ref sig .tc := ⟨.hbm, 129, rfl⟩
abbrev main_while0b_call11_c_0 : Ref sig .tc := ⟨.hbm, 130, rfl⟩
abbrev main_while0b_call11_c_1 : Ref sig .tc := ⟨.hbm, 131, rfl⟩
abbrev main_while0b_call11_c_2 : Ref sig .tc := ⟨.hbm, 132, rfl⟩
abbrev main_while0b_v86 : Ref sig .tc := ⟨.hbm, 133, rfl⟩
abbrev main_while0b_c_12 : Ref sig .tc := ⟨.hbm, 134, rfl⟩
abbrev main_while0b_v87 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩

abbrev nD : Nat := 1
abbrev τ : Topo := Topo.v7x

variable {F : FTy → Type} [FloatOps F]

abbrev main_while0_count : Scf.Loop 32 := ⟨0#32, 64#32, 1#32⟩
-- ==== Project.lean ====
abbrev S16384x1024 : Shape := ⟨2, ![16384, 1024]⟩
abbrev S10272x1024 : Shape := ⟨2, ![10272, 1024]⟩
abbrev S16x512 : Shape := ⟨2, ![16, 512]⟩
abbrev S1x512 : Shape := ⟨2, ![1, 512]⟩
abbrev S2x1024 : Shape := ⟨2, ![2, 1024]⟩
abbrev S16384x11264 : Shape := ⟨2, ![16384, 11264]⟩
abbrev S1024x1024 : Shape := ⟨2, ![1024, 1024]⟩
abbrev S32x1024 : Shape := ⟨2, ![32, 1024]⟩
abbrev S512x1024 : Shape := ⟨2, ![512, 1024]⟩
abbrev S512x11264 : Shape := ⟨2, ![512, 11264]⟩
abbrev S10x1024x1024 : Shape := ⟨3, ![10, 1024, 1024]⟩
abbrev S128x1024 : Shape := ⟨2, ![128, 1024]⟩
abbrev S1x1024x1024 : Shape := ⟨3, ![1, 1024, 1024]⟩
abbrev S96x1024 : Shape := ⟨2, ![96, 1024]⟩
abbrev S992x1024 : Shape := ⟨2, ![992, 1024]⟩
abbrev S512x128 : Shape := ⟨2, ![512, 128]⟩
abbrev S128x512 : Shape := ⟨2, ![128, 512]⟩
abbrev S512x512 : Shape := ⟨2, ![512, 512]⟩
abbrev S1x512x1024 : Shape := ⟨3, ![1, 512, 1024]⟩
abbrev S1024 : Shape := ⟨1, ![1024]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S10272x1024, .f32⟩
  | .hbm, ⟨2, _⟩ => ⟨S16x512, .f32⟩
  | .hbm, ⟨3, _⟩ => ⟨S16x512, .f32⟩
  | .hbm, ⟨4, _⟩ => ⟨S1x512, .f32⟩
  | .hbm, ⟨5, _⟩ => ⟨S1x512, .f32⟩
  | .hbm, ⟨6, _⟩ => ⟨S2x1024, .f32⟩
  | .hbm, ⟨7, _⟩ => ⟨S2x1024, .f32⟩
  | .hbm, ⟨8, _⟩ => ⟨S16384x11264, .bf16⟩
  | .local _ .vmem, ⟨0, _⟩ => ⟨S1024x1024, .f32⟩
  | .local _ .vmem, ⟨1, _⟩ => ⟨S1024x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S16x512, .f32⟩
  | .local _ .vmem, ⟨7, _⟩ => ⟨S16x512, .f32⟩
  | .local _ .vmem, ⟨8, _⟩ => ⟨S1x512, .f32⟩
  | .local _ .vmem, ⟨9, _⟩ => ⟨S1x512, .f32⟩
  | .local _ .vmem, ⟨10, _⟩ => ⟨S2x1024, .f32⟩
  | .local _ .vmem, ⟨11, _⟩ => ⟨S2x1024, .f32⟩
  | .local _ .vmem, ⟨12, _⟩ => ⟨S512x11264, .bf16⟩
  | .local _ .vmem, ⟨13, _⟩ => ⟨S512x11264, .bf16⟩
  | .local _ .vmem, ⟨14, _⟩ => ⟨S10x1024x1024, .bf16⟩
  | .local _ .vmem, ⟨15, _⟩ => ⟨S128x1024, .bf16⟩
  | .local _ .vmem, ⟨16, _⟩ => ⟨S128x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![42], ![false]⟩

def k0_cond2 (i : grid0.Coords) : BitVec 1 :=
  let arg0 : BitVec 32 := BitVec.ofNat 32 (i 0).val
  let c10_i32 : BitVec 32 := 10#32
  let v3 : BitVec 1 := Scalar.cmpi .slt arg0 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c3_i32 : BitVec 32 := 3#32
  let v9 : BitVec 1 := Scalar.cmpi .slt arg0 c3_i32
  let v10 : BitVec 32 := Scalar.extui v9
  let c0_i32_4 : BitVec 32 := 0#32
  let v11 : BitVec 1 := Scalar.cmpi .ne v10 c0_i32_4
  v11

def k0_off1 (i : grid0.Coords) : Fin 3 → Nat :=
  let arg0 : BitVec 32 := BitVec.ofNat 32 (i 0).val
  let v20 : Index := Scalar.indexCast arg0
  let c0_9 : Index := 0#32
  let c0_10 : Index := 0#32
  ![v20.toNat, 0, 0]
def k0_cond5 (i : grid0.Coords) : BitVec 1 :=
  let arg0 : BitVec 32 := BitVec.ofNat 32 (i 0).val
  let c3_i32_6 : BitVec 32 := 3#32
  let v15 : BitVec 1 := Scalar.cmpi .sge arg0 c3_i32_6
  let v16 : BitVec 32 := Scalar.extui v15
  let c0_i32_7 : BitVec 32 := 0#32
  let v17 : BitVec 1 := Scalar.cmpi .ne v16 c0_i32_7
  v17

def k0_off2 (i : grid0.Coords) : Fin 3 → Nat :=
  let arg0 : BitVec 32 := BitVec.ofNat 32 (i 0).val
  let v22 : Index := Scalar.indexCast arg0
  let c0_10 : Index := 0#32
  let c0_11 : Index := 0#32
  ![v22.toNat, 0, 0]
def k0_cond6 (i : grid0.Coords) : BitVec 1 :=
  let arg0 : BitVec 32 := BitVec.ofNat 32 (i 0).val
  let c10_i32_2 : BitVec 32 := 10#32
  let v6 : BitVec 1 := Scalar.cmpi .sge arg0 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c9_i32 : BitVec 32 := 9#32
  let v0 : BitVec 32 := Scalar.minsi arg0 c9_i32
  let c1_i32 : BitVec 32 := 1#32
  let v1 : BitVec 32 := Scalar.addi v0 c1_i32
  let c32_i32 : BitVec 32 := 32#32
  let v2 : BitVec 32 := Scalar.muli v1 c32_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x11264 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjectIdeal.lean ====
variable {F : FTy → Type} [FloatOps F] [Named F]
def κ : String → Option EReal := fun
  | "ln2" => some ((Real.log 2 : ℝ) : EReal)
  | "log2e" => some (((Real.log 2)⁻¹ : ℝ) : EReal)
  | "log2e_16" => some (((Real.log 2)⁻¹ * (1 / 16) : ℝ) : EReal)
  | "neg_log2e" => some ((-((Real.log 2)⁻¹) : ℝ) : EReal)
  | _ => none
-- ==== ProjectionsIdeal.lean ====
abbrev S16384x1024 : Shape := ⟨2, ![16384, 1024]⟩
abbrev S10272x1024 : Shape := ⟨2, ![10272, 1024]⟩
abbrev S16x512 : Shape := ⟨2, ![16, 512]⟩
abbrev S1x512 : Shape := ⟨2, ![1, 512]⟩
abbrev S2x1024 : Shape := ⟨2, ![2, 1024]⟩
abbrev S1024x10272 : Shape := ⟨2, ![1024, 10272]⟩
abbrev S16384x10272 : Shape := ⟨2, ![16384, 10272]⟩
abbrev S16384x512 : Shape := ⟨2, ![16384, 512]⟩
abbrev S16384x16 : Shape := ⟨2, ![16384, 16]⟩
abbrev S_ : Shape := ⟨0, ![]⟩
abbrev S1024 : Shape := ⟨1, ![1024]⟩
abbrev S1x1024 : Shape := ⟨2, ![1, 1024]⟩
abbrev S16384x11264 : Shape := ⟨2, ![16384, 11264]⟩

abbrev nBuf : Space → Nat
  | .hbm => 202
  | .vmem => 0
  | .smem => 0
  | _ => 0

abbrev hbmTy0_0 (i : Nat) : BufTy := match i % 128 with
  | 0 => ⟨S16384x1024, .f32⟩
  | 1 => ⟨S10272x1024, .f32⟩
  | 2 => ⟨S16x512, .f32⟩
  | 3 => ⟨S16x512, .f32⟩
  | 4 => ⟨S1x512, .f32⟩
  | 5 => ⟨S1x512, .f32⟩
  | 6 => ⟨S2x1024, .f32⟩
  | 7 => ⟨S2x1024, .f32⟩
  | 8 => ⟨S1024x10272, .f32⟩
  | 9 => ⟨S16384x10272, .f32⟩
  | 10 => ⟨S16384x512, .f32⟩
  | 11 => ⟨S16384x512, .f32⟩
  | 12 => ⟨S16384x1024, .f32⟩
  | 13 => ⟨S16384x1024, .f32⟩
  | 14 => ⟨S16384x16, .f32⟩
  | 15 => ⟨S16384x16, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S_, .f32⟩
  | 24 => ⟨S_, .f32⟩
  | 25 => ⟨S16384x512, .f32⟩
  | 26 => ⟨S16384x512, .f32⟩
  | 27 => ⟨S16384x512, .f32⟩
  | 28 => ⟨S16384x512, .f32⟩
  | 29 => ⟨S_, .f32⟩
  | 30 => ⟨S16384x512, .f32⟩
  | 31 => ⟨S16384x512, .f32⟩
  | 32 => ⟨S16384x512, .f32⟩
  | 33 => ⟨S16384x512, .f32⟩
  | 34 => ⟨S16384x512, .i1⟩
  | 35 => ⟨S16384x512, .f32⟩
  | 36 => ⟨S16384x512, .f32⟩
  | 37 => ⟨S16384x512, .f32⟩
  | 38 => ⟨S16384x512, .f32⟩
  | 39 => ⟨S16384x512, .f32⟩
  | 40 => ⟨S16384x512, .f32⟩
  | 41 => ⟨S16384x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S16384x512, .f32⟩
  | 48 => ⟨S16384x512, .f32⟩
  | 49 => ⟨S16384x512, .f32⟩
  | 50 => ⟨S16384x512, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S16384x512, .f32⟩
  | 57 => ⟨S16384x512, .f32⟩
  | 58 => ⟨S16384x512, .i1⟩
  | 59 => ⟨S16384x512, .f32⟩
  | 60 => ⟨S16384x512, .f32⟩
  | 61 => ⟨S16384x512, .f32⟩
  | 62 => ⟨S16384x512, .f32⟩
  | 63 => ⟨S16384x512, .f32⟩
  | 64 => ⟨S16384x512, .f32⟩
  | 65 => ⟨S16384x512, .f32⟩
  | 66 => ⟨S16384x512, .f32⟩
  | 67 => ⟨S16384x512, .f32⟩
  | 68 => ⟨S_, .f32⟩
  | 69 => ⟨S16384x512, .f32⟩
  | 70 => ⟨S16384x512, .f32⟩
  | 71 => ⟨S16384x512, .f32⟩
  | 72 => ⟨S16384x512, .f32⟩
  | 73 => ⟨S_, .f32⟩
  | 74 => ⟨S1024, .f32⟩
  | 75 => ⟨S_, .f32⟩
  | 76 => ⟨S1024, .f32⟩
  | 77 => ⟨S1024, .f32⟩
  | 78 => ⟨S1x1024, .f32⟩
  | 79 => ⟨S2x1024, .f32⟩
  | 80 => ⟨S2x1024, .f32⟩
  | 81 => ⟨S2x1024, .f32⟩
  | 82 => ⟨S_, .f32⟩
  | 83 => ⟨S1024, .f32⟩
  | 84 => ⟨S1x1024, .f32⟩
  | 85 => ⟨S2x1024, .f32⟩
  | 86 => ⟨S2x1024, .f32⟩
  | 87 => ⟨S_, .f32⟩
  | 88 => ⟨S_, .f32⟩
  | 89 => ⟨S2x1024, .f32⟩
  | 90 => ⟨S1x1024, .f32⟩
  | 91 => ⟨S1024, .f32⟩
  | 92 => ⟨S_, .f32⟩
  | 93 => ⟨S1024, .f32⟩
  | 94 => ⟨S_, .f32⟩
  | 95 => ⟨S1024, .f32⟩
  | 96 => ⟨S1024, .f32⟩
  | 97 => ⟨S1x1024, .f32⟩
  | 98 => ⟨S2x1024, .f32⟩
  | 99 => ⟨S2x1024, .f32⟩
  | 100 => ⟨S2x1024, .f32⟩
  | 101 => ⟨S_, .f32⟩
  | 102 => ⟨S1024, .f32⟩
  | 103 => ⟨S1x1024, .f32⟩
  | 104 => ⟨S2x1024, .f32⟩
  | 105 => ⟨S2x1024, .f32⟩
  | 106 => ⟨S_, .f32⟩
  | 107 => ⟨S_, .f32⟩
  | 108 => ⟨S2x1024, .f32⟩
  | 109 => ⟨S1x1024, .f32⟩
  | 110 => ⟨S1024, .f32⟩
  | 111 => ⟨S_, .f32⟩
  | 112 => ⟨S1024, .f32⟩
  | 113 => ⟨S1024, .f32⟩
  | 114 => ⟨S16384x1024, .f32⟩
  | 115 => ⟨S16384x1024, .f32⟩
  | 116 => ⟨S_, .f32⟩
  | 117 => ⟨S16384x1024, .f32⟩
  | 118 => ⟨S16384x1024, .f32⟩
  | 119 => ⟨S_, .f32⟩
  | 120 => ⟨S16384x1024, .f32⟩
  | 121 => ⟨S16384x1024, .f32⟩
  | 122 => ⟨S1x1024, .f32⟩
  | 123 => ⟨S16384x1024, .f32⟩
  | 124 => ⟨S16384x1024, .f32⟩
  | 125 => ⟨S1x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S_, .f32⟩
  | 1 => ⟨S1024, .f32⟩
  | 2 => ⟨S1024, .f32⟩
  | 3 => ⟨S16384x1024, .f32⟩
  | 4 => ⟨S16384x1024, .f32⟩
  | 5 => ⟨S_, .f32⟩
  | 6 => ⟨S16384x1024, .f32⟩
  | 7 => ⟨S16384x1024, .f32⟩
  | 8 => ⟨S_, .f32⟩
  | 9 => ⟨S16384x1024, .f32⟩
  | 10 => ⟨S16384x1024, .f32⟩
  | 11 => ⟨S1x1024, .f32⟩
  | 12 => ⟨S16384x1024, .f32⟩
  | 13 => ⟨S16384x1024, .f32⟩
  | 14 => ⟨S1x1024, .f32⟩
  | 15 => ⟨S16384x1024, .f32⟩
  | 16 => ⟨S16384x1024, .f32⟩
  | 17 => ⟨S_, .f32⟩
  | 18 => ⟨S16384x512, .f32⟩
  | 19 => ⟨S16384x512, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S16384x1024, .f32⟩
  | 29 => ⟨S16384x1024, .f32⟩
  | 30 => ⟨S16384x1024, .f32⟩
  | 31 => ⟨S_, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S16384x1024, .f32⟩
  | 38 => ⟨S_, .f32⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S_, .f32⟩
  | 62 => ⟨S16384x1024, .f32⟩
  | 63 => ⟨S16384x1024, .f32⟩
  | 64 => ⟨S16384x1024, .f32⟩
  | 65 => ⟨S16384x1024, .f32⟩
  | 66 => ⟨S_, .f32⟩
  | 67 => ⟨S16384x1024, .f32⟩
  | 68 => ⟨S16384x1024, .f32⟩
  | 69 => ⟨S_, .f32⟩
  | 70 => ⟨S16384x1024, .f32⟩
  | 71 => ⟨S16384x1024, .f32⟩
  | 72 => ⟨S16384x11264, .f32⟩
  | 73 => ⟨S16384x11264, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v19 : Ref sig .tc := ⟨.hbm, 43, rfl⟩
abbrev main_cst_0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call1_v0 : Ref sig .tc := ⟨.hbm, 52, rfl⟩
abbrev main_call1_call0_cst : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_v8 : Ref sig .tc := ⟨.hbm, 62, rfl⟩
abbrev main_call1_call0_v9 : Ref sig .tc := ⟨.hbm, 63, rfl⟩
abbrev main_call1_call0_v10 : Ref sig .tc := ⟨.hbm, 64, rfl⟩
abbrev main_call1_call0_v11 : Ref sig .tc := ⟨.hbm, 65, rfl⟩
abbrev main_call1_v1 : Ref sig .tc := ⟨.hbm, 66, rfl⟩
abbrev main_v27 : Ref sig .tc := ⟨.hbm, 67, rfl⟩
abbrev main_cst_1 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_2 : Ref sig .tc := ⟨.hbm, 73, rfl⟩
abbrev main_v32 : Ref sig .tc := ⟨.hbm, 74, rfl⟩
abbrev main_cst_3 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_4 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_call2_call0_cst : Ref sig .tc := ⟨.hbm, 87, rfl⟩
abbrev main_call2_call0_v0 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_5 : Ref sig .tc := ⟨.hbm, 92, rfl⟩
abbrev main_v46 : Ref sig .tc := ⟨.hbm, 93, rfl⟩
abbrev main_cst_6 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_7 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_call3_call0_cst : Ref sig .tc := ⟨.hbm, 106, rfl⟩
abbrev main_call3_call0_v0 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_8 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_9 : Ref sig .tc := ⟨.hbm, 116, rfl⟩
abbrev main_v64 : Ref sig .tc := ⟨.hbm, 117, rfl⟩
abbrev main_v65 : Ref sig .tc := ⟨.hbm, 118, rfl⟩
abbrev main_cst_10 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_11 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_12 : Ref sig .tc := ⟨.hbm, 133, rfl⟩
abbrev main_v78 : Ref sig .tc := ⟨.hbm, 134, rfl⟩
abbrev main_v79 : Ref sig .tc := ⟨.hbm, 135, rfl⟩
abbrev main_cst_13 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_14 : Ref sig .tc := ⟨.hbm, 145, rfl⟩
abbrev main_v88 : Ref sig .tc := ⟨.hbm, 146, rfl⟩
abbrev main_v89 : Ref sig .tc := ⟨.hbm, 147, rfl⟩
abbrev main_call4_v0 : Ref sig .tc := ⟨.hbm, 148, rfl⟩
abbrev main_call4_v1 : Ref sig .tc := ⟨.hbm, 149, rfl⟩
abbrev main_call4_cst : Ref sig .tc := ⟨.hbm, 150, rfl⟩
abbrev main_call4_v2 : Ref sig .tc := ⟨.hbm, 151, rfl⟩
abbrev main_call4_v3 : Ref sig .tc := ⟨.hbm, 152, rfl⟩
abbrev main_call4_cst_0 : Ref sig .tc := ⟨.hbm, 153, rfl⟩
abbrev main_call4_v4 : Ref sig .tc := ⟨.hbm, 154, rfl⟩
abbrev main_call4_v5 : Ref sig .tc := ⟨.hbm, 155, rfl⟩
abbrev main_v90 : Ref sig .tc := ⟨.hbm, 156, rfl⟩
abbrev main_call5_v0 : Ref sig .tc := ⟨.hbm, 157, rfl⟩
abbrev main_call5_v1 : Ref sig .tc := ⟨.hbm, 158, rfl⟩
abbrev main_call5_cst : Ref sig .tc := ⟨.hbm, 159, rfl⟩
abbrev main_call5_v2 : Ref sig .tc := ⟨.hbm, 160, rfl⟩
abbrev main_call5_v3 : Ref sig .tc := ⟨.hbm, 161, rfl⟩
abbrev main_call5_cst_0 : Ref sig .tc := ⟨.hbm, 162, rfl⟩
abbrev main_call5_v4 : Ref sig .tc := ⟨.hbm, 163, rfl⟩
abbrev main_call5_v5 : Ref sig .tc := ⟨.hbm, 164, rfl⟩
abbrev main_v91 : Ref sig .tc := ⟨.hbm, 165, rfl⟩
abbrev main_cst_15 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_call6_v0 : Ref sig .tc := ⟨.hbm, 175, rfl⟩
abbrev main_call6_v1 : Ref sig .tc := ⟨.hbm, 176, rfl⟩
abbrev main_call6_cst : Ref sig .tc := ⟨.hbm, 177, rfl⟩
abbrev main_call6_v2 : Ref sig .tc := ⟨.hbm, 178, rfl⟩
abbrev main_call6_v3 : Ref sig .tc := ⟨.hbm, 179, rfl⟩
abbrev main_call6_cst_0 : Ref sig .tc := ⟨.hbm, 180, rfl⟩
abbrev main_call6_v4 : Ref sig .tc := ⟨.hbm, 181, rfl⟩
abbrev main_call6_v5 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_cst_16 : Ref sig .tc := ⟨.hbm, 186, rfl⟩
abbrev main_v103 : Ref sig .tc := ⟨.hbm, 187, rfl⟩
abbrev main_v104 : Ref sig .tc := ⟨.hbm, 188, rfl⟩
abbrev main_cst_17 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_cst_18 : Ref sig .tc := ⟨.hbm, 194, rfl⟩
abbrev main_v109 : Ref sig .tc := ⟨.hbm, 195, rfl⟩
abbrev main_v110 : Ref sig .tc := ⟨.hbm, 196, rfl⟩
abbrev main_cst_19 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩

abbrev nD : Nat := 1
abbrev τ : Topo := Topo.v7x

variable {F : FTy → Type} [FloatOps F]
-- ==== Merge.lean ====
abbrev S16384x1024 : Shape := ⟨2, ![16384, 1024]⟩
abbrev S16384x11264 : Shape := ⟨2, ![16384, 11264]⟩
abbrev S1024x1024 : Shape := ⟨2, ![1024, 1024]⟩
abbrev S1x256 : Shape := ⟨2, ![1, 256]⟩
abbrev S1x128 : Shape := ⟨2, ![1, 128]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 12
  | .vmem => 29
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x11264, .bf16⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x256, .f32⟩
  | .hbm, ⟨8, _⟩ => ⟨S1x128, .f32⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x256, .f32⟩
  | .local _ .vmem, ⟨21, _⟩ => ⟨S1x128, .f32⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v8 : BitVec 32 := Scalar.muli arg0 c256_i32
  v8
def k0_off1 (i : grid0.Coords) : Fin 2 → Nat :=
  let arg0 : BitVec 32 := BitVec.ofNat 32 (i 0).val
  let c256_i32 : BitVec 32 := 256#32
  let v8 : BitVec 32 := Scalar.muli arg0 c256_i32
  let v9 : BitVec 32 := v8
  let v10 : Index := Scalar.indexCast v9
  let c0_3 : Index := 0#32
  ![v10.toNat, 0]
def k0_mult2 (i : grid0.Coords) : BitVec 32 :=
  let arg0 : BitVec 32 := BitVec.ofNat 32 (i 0).val
  let c256_i32_6 : BitVec 32 := 256#32
  let v16 : BitVec 32 := Scalar.muli arg0 c256_i32_6
  v16
def k0_mult3 (i : grid0.Coords) : BitVec 32 :=
  let arg0 : BitVec 32 := BitVec.ofNat 32 (i 0).val
  let c256_i32_10 : BitVec 32 := 256#32
  let v24 : BitVec 32 := Scalar.muli arg0 c256_i32_10
  v24
def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c10_i32 : BitVec 32 := 10#32
  let c0_i32_0 : BitVec 32 := 0#32
  ![v1.toNat, c10_i32.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergedIdeal.lean ====
abbrev S16384x1024 : Shape := ⟨2, ![16384, 1024]⟩
abbrev S16384x11264 : Shape := ⟨2, ![16384, 11264]⟩
abbrev S1024x1024 : Shape := ⟨2, ![1024, 1024]⟩
abbrev S1x256 : Shape := ⟨2, ![1, 256]⟩
abbrev S1x128 : Shape := ⟨2, ![1, 128]⟩
abbrev S1x1024 : Shape := ⟨2, ![1, 1024]⟩
abbrev S16384x4x256 : Shape := ⟨3, ![16384, 4, 256]⟩
abbrev S_ : Shape := ⟨0, ![]⟩
abbrev S16384x4 : Shape := ⟨2, ![16384, 4]⟩
abbrev S16384x4x1 : Shape := ⟨3, ![16384, 4, 1]⟩
abbrev S1x1x256 : Shape := ⟨3, ![1, 1, 256]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S16384 : Shape := ⟨1, ![16384]⟩
abbrev S16384x1 : Shape := ⟨2, ![16384, 1]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x11264, .bf16⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x256, .f32⟩
  | .hbm, ⟨8, _⟩ => ⟨S1x128, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x4x256, .f32⟩
  | .hbm, ⟨13, _⟩ => ⟨S16384x4x256, .f32⟩
  | .hbm, ⟨14, _⟩ => ⟨S_, .f32⟩
  | .hbm, ⟨15, _⟩ => ⟨S16384x4, .f32⟩
  | .hbm, ⟨16, _⟩ => ⟨S16384x4x1, .f32⟩
  | .hbm, ⟨17, _⟩ => ⟨S_, .f32⟩
  | .hbm, ⟨18, _⟩ => ⟨S16384x4x1, .f32⟩
  | .hbm, ⟨19, _⟩ => ⟨S16384x4x1, .f32⟩
  | .hbm, ⟨20, _⟩ => ⟨S_, .f32⟩
  | .hbm, ⟨21, _⟩ => ⟨S16384x4x1, .f32⟩
  | .hbm, ⟨22, _⟩ => ⟨S16384x4x1, .f32⟩
  | .hbm, ⟨23, _⟩ => ⟨S16384x4x1, .f32⟩
  | .hbm, ⟨24, _⟩ => ⟨S16384x4x256, .f32⟩
  | .hbm, ⟨25, _⟩ => ⟨S16384x4x256, .f32⟩
  | .hbm, ⟨26, _⟩ => ⟨S1x1x256, .f32⟩
  | .hbm, ⟨27, _⟩ => ⟨S16384x4x256, .f32⟩
  | .hbm, ⟨28, _⟩ => ⟨S16384x4x256, .f32⟩
  | .hbm, ⟨29, _⟩ => ⟨S16384x1024, .f32⟩
  | .hbm, ⟨30, _⟩ => ⟨S16384x1024, .bf16⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x8x128, .f32⟩
  | .hbm, ⟨36, _⟩ => ⟨S16384x8x128, .f32⟩
  | .hbm, ⟨37, _⟩ => ⟨S_, .f32⟩
  | .hbm, ⟨38, _⟩ => ⟨S16384x8, .f32⟩
  | .hbm, ⟨39, _⟩ => ⟨S16384x8x1, .f32⟩
  | .hbm, ⟨40, _⟩ => ⟨S_, .f32⟩
  | .hbm, ⟨41, _⟩ => ⟨S16384x8x1, .f32⟩
  | .hbm, ⟨42, _⟩ => ⟨S16384x8x1, .f32⟩
  | .hbm, ⟨43, _⟩ => ⟨S_, .f32⟩
  | .hbm, ⟨44, _⟩ => ⟨S16384x8x1, .f32⟩
  | .hbm, ⟨45, _⟩ => ⟨S16384x8x1, .f32⟩
  | .hbm, ⟨46, _⟩ => ⟨S16384x8x1, .f32⟩
  | .hbm, ⟨47, _⟩ => ⟨S16384x8x128, .f32⟩
  | .hbm, ⟨48, _⟩ => ⟨S16384x8x128, .f32⟩
  | .hbm, ⟨49, _⟩ => ⟨S1x1x128, .f32⟩
  | .hbm, ⟨50, _⟩ => ⟨S16384x8x128, .f32⟩
  | .hbm, ⟨51, _⟩ => ⟨S16384x8x128, .f32⟩
  | .hbm, ⟨52, _⟩ => ⟨S16384x1024, .f32⟩
  | .hbm, ⟨53, _⟩ => ⟨S16384x1024, .bf16⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .bf16⟩
  | .hbm, ⟨58, _⟩ => ⟨S16384x1024, .f32⟩
  | .hbm, ⟨59, _⟩ => ⟨S16384x1024, .f32⟩
  | .hbm, ⟨60, _⟩ => ⟨S16384x1024, .bf16⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Hgrn.lean ====
abbrev S4x4096x11264 : Shape := ⟨3, ![4, 4096, 11264]⟩
abbrev S4x4096x1024 : Shape := ⟨3, ![4, 4096, 1024]⟩
abbrev S1x4096x128 : Shape := ⟨3, ![1, 4096, 128]⟩
abbrev S4096x128 : Shape := ⟨2, ![4096, 128]⟩
abbrev S32x128x128 : Shape := ⟨3, ![32, 128, 128]⟩
abbrev S2048x256 : Shape := ⟨2, ![2048, 256]⟩
abbrev S128x128 : Shape := ⟨2, ![128, 128]⟩
abbrev S1x2048x128 : Shape := ⟨3, ![1, 2048, 128]⟩
abbrev S2048x128 : Shape := ⟨2, ![2048, 128]⟩
abbrev S128x256 : Shape := ⟨2, ![128, 256]⟩
abbrev S1x128x128 : Shape := ⟨3, ![1, 128, 128]⟩
abbrev S64x128 : Shape := ⟨2, ![64, 128]⟩
abbrev S1x128 : Shape := ⟨2, ![1, 128]⟩
abbrev S256x128 : Shape := ⟨2, ![256, 128]⟩

abbrev nBuf : Space → Nat
  | .hbm => 2
  | .vmem => 16
  | .smem => 0
  | _ => 0

abbrev bufTy : (tb : Table) → Fin (tcTables nBuf tb) → BufTy
  | .hbm, ⟨0, _⟩ => ⟨S4x4096x11264, .bf16⟩
  | .hbm, ⟨1, _⟩ => ⟨S4x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S4096x128, .bf16⟩
  | .local _ .vmem, ⟨11, _⟩ => ⟨S32x128x128, .f32⟩
  | .local _ .vmem, ⟨12, _⟩ => ⟨S32x128x128, .f32⟩
  | .local _ .vmem, ⟨13, _⟩ => ⟨S4096x128, .f32⟩
  | .local _ .vmem, ⟨14, _⟩ => ⟨S2048x256, .f32⟩
  | .local _ .vmem, ⟨15, _⟩ => ⟨S128x128, .f32⟩
  | _, _ => ⟨S4x4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 : BitVec 32 :=
  let c0_i32_12 : BitVec 32 := 0#32
  c0_i32_12
def k0_mult2 : BitVec 32 :=
  let c0_i32_14 : BitVec 32 := 0#32
  c0_i32_14
@[reducible] def k0_t1_loop : Scf.Loop 32 :=
  let c0_i32_53 : BitVec 32 := 0#32
  let c2_i32 : BitVec 32 := 2#32
  let v154 : BitVec 32 := Scalar.addi c0_i32_53 c2_i32
  let c1_i32_54 : BitVec 32 := 1#32
  ⟨c0_i32_53, v154, c1_i32_54⟩
def k0_mult3 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32 : BitVec 32 := 2048#32
  let v892 : BitVec 32 := Scalar.muli arg13 c2048_i32
  let c0_i32_411 : BitVec 32 := 0#32
  let v893 : BitVec 32 := Scalar.addi v892 c0_i32_411
  v893
def k0_off1 (k0_t1 : Fin k0_t1_loop.trips) (c0_i32_411 : BitVec 32) : Fin 3 → Nat :=
  let c0_412 : Index := 0#32
  let c0_i32_53 : BitVec 32 := 0#32
  let c1_i32_54 : BitVec 32 := 1#32
  let arg13 : BitVec 32 := Scf.iv c0_i32_53 c1_i32_54 k0_t1
  let c2048_i32 : BitVec 32 := 2048#32
  let v892 : BitVec 32 := Scalar.muli arg13 c2048_i32
  let v893 : BitVec 32 := Scalar.addi v892 c0_i32_411
  let v894 : BitVec 32 := v893
  let v895 : Index := Scalar.indexCast v894
  let c0_413 : Index := 0#32
  ![0, v895.toNat, 0]
def k0_off2 (k0_t1 : Fin k0_t1_loop.trips) (c0_i32_411 : BitVec 32) : Fin 2 → Nat :=
  let c0_i32_53 : BitVec 32 := 0#32
  let c1_i32_54 : BitVec 32 := 1#32
  let arg13 : BitVec 32 := Scf.iv c0_i32_53 c1_i32_54 k0_t1
  let c2048_i32 : BitVec 32 := 2048#32
  let v892 : BitVec 32 := Scalar.muli arg13 c2048_i32
  let v893 : BitVec 32 := Scalar.addi v892 c0_i32_411
  let v894 : BitVec 32 := v893
  let v1054 : Index := Scalar.indexCast v894
  let c0_432 : Index := 0#32
  ![v1054.toNat, 0]
def k0_off3 (k0_t1 : Fin k0_t1_loop.trips) (c0_i32_434 : BitVec 32) : Fin 3 → Nat :=
  let c0_i32_53 : BitVec 32 := 0#32
  let c1_i32_54 : BitVec 32 := 1#32
  let arg13 : BitVec 32 := Scf.iv c0_i32_53 c1_i32_54 k0_t1
  let c16_i32_433 : BitVec 32 := 16#32
  let v1058 : BitVec 32 := Scalar.muli arg13 c16_i32_433
  let v1059 : BitVec 32 := Scalar.addi v1058 c0_i32_434
  let v1060 : Index := Scalar.indexCast v1059
  let c0_435 : Index := 0#32
  let c0_436 : Index := 0#32
  ![v1060.toNat, 0, 0]
def k0_mult4 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_437 : BitVec 32 := 2048#32
  let v1067 : BitVec 32 := Scalar.muli arg13 c2048_i32_437
  let c128_i32_438 : BitVec 32 := 128#32
  let v1068 : BitVec 32 := Scalar.addi v1067 c128_i32_438
  v1068
def k0_mult5 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_464 : BitVec 32 := 2048#32
  let v1242 : BitVec 32 := Scalar.muli arg13 c2048_i32_464
  let c0_i32_465 : BitVec 32 := 0#32
  let v1243 : BitVec 32 := Scalar.addi v1242 c0_i32_465
  v1243
def k0_mult6 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_473 : BitVec 32 := 2048#32
  let v1257 : BitVec 32 := Scalar.muli arg13 c2048_i32_473
  let c256_i32 : BitVec 32 := 256#32
  let v1258 : BitVec 32 := Scalar.addi v1257 c256_i32
  v1258
def k0_mult7 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_499 : BitVec 32 := 2048#32
  let v1432 : BitVec 32 := Scalar.muli arg13 c2048_i32_499
  let c128_i32_500 : BitVec 32 := 128#32
  let v1433 : BitVec 32 := Scalar.addi v1432 c128_i32_500
  v1433
def k0_mult8 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_508 : BitVec 32 := 2048#32
  let v1447 : BitVec 32 := Scalar.muli arg13 c2048_i32_508
  let c0_i32_509 : BitVec 32 := 0#32
  let v1448 : BitVec 32 := Scalar.addi v1447 c0_i32_509
  v1448
def k0_mult9 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_512 : BitVec 32 := 2048#32
  let v1452 : BitVec 32 := Scalar.muli arg13 c2048_i32_512
  let c0_i32_513 : BitVec 32 := 0#32
  let v1453 : BitVec 32 := Scalar.addi v1452 c0_i32_513
  v1453
def k0_mult10 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_520 : BitVec 32 := 2048#32
  let v1470 : BitVec 32 := Scalar.muli arg13 c2048_i32_520
  let c384_i32 : BitVec 32 := 384#32
  let v1471 : BitVec 32 := Scalar.addi v1470 c384_i32
  v1471
def k0_mult11 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_546 : BitVec 32 := 2048#32
  let v1645 : BitVec 32 := Scalar.muli arg13 c2048_i32_546
  let c256_i32_547 : BitVec 32 := 256#32
  let v1646 : BitVec 32 := Scalar.addi v1645 c256_i32_547
  v1646
def k0_mult12 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_555 : BitVec 32 := 2048#32
  let v1660 : BitVec 32 := Scalar.muli arg13 c2048_i32_555
  let c128_i32_556 : BitVec 32 := 128#32
  let v1661 : BitVec 32 := Scalar.addi v1660 c128_i32_556
  v1661
def k0_mult13 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_559 : BitVec 32 := 2048#32
  let v1665 : BitVec 32 := Scalar.muli arg13 c2048_i32_559
  let c128_i32_560 : BitVec 32 := 128#32
  let v1666 : BitVec 32 := Scalar.addi v1665 c128_i32_560
  v1666
def k0_mult14 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_567 : BitVec 32 := 2048#32
  let v1683 : BitVec 32 := Scalar.muli arg13 c2048_i32_567
  let c512_i32 : BitVec 32 := 512#32
  let v1684 : BitVec 32 := Scalar.addi v1683 c512_i32
  v1684
def k0_mult15 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_593 : BitVec 32 := 2048#32
  let v1858 : BitVec 32 := Scalar.muli arg13 c2048_i32_593
  let c384_i32_594 : BitVec 32 := 384#32
  let v1859 : BitVec 32 := Scalar.addi v1858 c384_i32_594
  v1859
def k0_mult16 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_602 : BitVec 32 := 2048#32
  let v1873 : BitVec 32 := Scalar.muli arg13 c2048_i32_602
  let c256_i32_603 : BitVec 32 := 256#32
  let v1874 : BitVec 32 := Scalar.addi v1873 c256_i32_603
  v1874
def k0_mult17 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_606 : BitVec 32 := 2048#32
  let v1878 : BitVec 32 := Scalar.muli arg13 c2048_i32_606
  let c256_i32_607 : BitVec 32 := 256#32
  let v1879 : BitVec 32 := Scalar.addi v1878 c256_i32_607
  v1879
def k0_mult18 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_614 : BitVec 32 := 2048#32
  let v1896 : BitVec 32 := Scalar.muli arg13 c2048_i32_614
  let c640_i32 : BitVec 32 := 640#32
  let v1897 : BitVec 32 := Scalar.addi v1896 c640_i32
  v1897
def k0_mult19 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_640 : BitVec 32 := 2048#32
  let v2071 : BitVec 32 := Scalar.muli arg13 c2048_i32_640
  let c512_i32_641 : BitVec 32 := 512#32
  let v2072 : BitVec 32 := Scalar.addi v2071 c512_i32_641
  v2072
def k0_mult20 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_649 : BitVec 32 := 2048#32
  let v2086 : BitVec 32 := Scalar.muli arg13 c2048_i32_649
  let c384_i32_650 : BitVec 32 := 384#32
  let v2087 : BitVec 32 := Scalar.addi v2086 c384_i32_650
  v2087
def k0_mult21 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_653 : BitVec 32 := 2048#32
  let v2091 : BitVec 32 := Scalar.muli arg13 c2048_i32_653
  let c384_i32_654 : BitVec 32 := 384#32
  let v2092 : BitVec 32 := Scalar.addi v2091 c384_i32_654
  v2092
def k0_mult22 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_661 : BitVec 32 := 2048#32
  let v2109 : BitVec 32 := Scalar.muli arg13 c2048_i32_661
  let c768_i32 : BitVec 32 := 768#32
  let v2110 : BitVec 32 := Scalar.addi v2109 c768_i32
  v2110
def k0_mult23 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_687 : BitVec 32 := 2048#32
  let v2284 : BitVec 32 := Scalar.muli arg13 c2048_i32_687
  let c640_i32_688 : BitVec 32 := 640#32
  let v2285 : BitVec 32 := Scalar.addi v2284 c640_i32_688
  v2285
def k0_mult24 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_696 : BitVec 32 := 2048#32
  let v2299 : BitVec 32 := Scalar.muli arg13 c2048_i32_696
  let c512_i32_697 : BitVec 32 := 512#32
  let v2300 : BitVec 32 := Scalar.addi v2299 c512_i32_697
  v2300
def k0_mult25 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_700 : BitVec 32 := 2048#32
  let v2304 : BitVec 32 := Scalar.muli arg13 c2048_i32_700
  let c512_i32_701 : BitVec 32 := 512#32
  let v2305 : BitVec 32 := Scalar.addi v2304 c512_i32_701
  v2305
def k0_mult26 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_708 : BitVec 32 := 2048#32
  let v2322 : BitVec 32 := Scalar.muli arg13 c2048_i32_708
  let c896_i32 : BitVec 32 := 896#32
  let v2323 : BitVec 32 := Scalar.addi v2322 c896_i32
  v2323
def k0_mult27 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_734 : BitVec 32 := 2048#32
  let v2497 : BitVec 32 := Scalar.muli arg13 c2048_i32_734
  let c768_i32_735 : BitVec 32 := 768#32
  let v2498 : BitVec 32 := Scalar.addi v2497 c768_i32_735
  v2498
def k0_mult28 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_743 : BitVec 32 := 2048#32
  let v2512 : BitVec 32 := Scalar.muli arg13 c2048_i32_743
  let c640_i32_744 : BitVec 32 := 640#32
  let v2513 : BitVec 32 := Scalar.addi v2512 c640_i32_744
  v2513
def k0_mult29 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_747 : BitVec 32 := 2048#32
  let v2517 : BitVec 32 := Scalar.muli arg13 c2048_i32_747
  let c640_i32_748 : BitVec 32 := 640#32
  let v2518 : BitVec 32 := Scalar.addi v2517 c640_i32_748
  v2518
def k0_mult30 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_755 : BitVec 32 := 2048#32
  let v2535 : BitVec 32 := Scalar.muli arg13 c2048_i32_755
  let c1024_i32 : BitVec 32 := 1024#32
  let v2536 : BitVec 32 := Scalar.addi v2535 c1024_i32
  v2536
def k0_mult31 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_781 : BitVec 32 := 2048#32
  let v2710 : BitVec 32 := Scalar.muli arg13 c2048_i32_781
  let c896_i32_782 : BitVec 32 := 896#32
  let v2711 : BitVec 32 := Scalar.addi v2710 c896_i32_782
  v2711
def k0_mult32 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_790 : BitVec 32 := 2048#32
  let v2725 : BitVec 32 := Scalar.muli arg13 c2048_i32_790
  let c768_i32_791 : BitVec 32 := 768#32
  let v2726 : BitVec 32 := Scalar.addi v2725 c768_i32_791
  v2726
def k0_mult33 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_794 : BitVec 32 := 2048#32
  let v2730 : BitVec 32 := Scalar.muli arg13 c2048_i32_794
  let c768_i32_795 : BitVec 32 := 768#32
  let v2731 : BitVec 32 := Scalar.addi v2730 c768_i32_795
  v2731
def k0_mult34 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_802 : BitVec 32 := 2048#32
  let v2748 : BitVec 32 := Scalar.muli arg13 c2048_i32_802
  let c1152_i32 : BitVec 32 := 1152#32
  let v2749 : BitVec 32 := Scalar.addi v2748 c1152_i32
  v2749
def k0_mult35 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_828 : BitVec 32 := 2048#32
  let v2923 : BitVec 32 := Scalar.muli arg13 c2048_i32_828
  let c1024_i32_829 : BitVec 32 := 1024#32
  let v2924 : BitVec 32 := Scalar.addi v2923 c1024_i32_829
  v2924
def k0_mult36 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_837 : BitVec 32 := 2048#32
  let v2938 : BitVec 32 := Scalar.muli arg13 c2048_i32_837
  let c896_i32_838 : BitVec 32 := 896#32
  let v2939 : BitVec 32 := Scalar.addi v2938 c896_i32_838
  v2939
def k0_mult37 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_841 : BitVec 32 := 2048#32
  let v2943 : BitVec 32 := Scalar.muli arg13 c2048_i32_841
  let c896_i32_842 : BitVec 32 := 896#32
  let v2944 : BitVec 32 := Scalar.addi v2943 c896_i32_842
  v2944
def k0_mult38 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_849 : BitVec 32 := 2048#32
  let v2961 : BitVec 32 := Scalar.muli arg13 c2048_i32_849
  let c1280_i32 : BitVec 32 := 1280#32
  let v2962 : BitVec 32 := Scalar.addi v2961 c1280_i32
  v2962
def k0_mult39 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_875 : BitVec 32 := 2048#32
  let v3136 : BitVec 32 := Scalar.muli arg13 c2048_i32_875
  let c1152_i32_876 : BitVec 32 := 1152#32
  let v3137 : BitVec 32 := Scalar.addi v3136 c1152_i32_876
  v3137
def k0_mult40 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_884 : BitVec 32 := 2048#32
  let v3151 : BitVec 32 := Scalar.muli arg13 c2048_i32_884
  let c1024_i32_885 : BitVec 32 := 1024#32
  let v3152 : BitVec 32 := Scalar.addi v3151 c1024_i32_885
  v3152
def k0_mult41 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_888 : BitVec 32 := 2048#32
  let v3156 : BitVec 32 := Scalar.muli arg13 c2048_i32_888
  let c1024_i32_889 : BitVec 32 := 1024#32
  let v3157 : BitVec 32 := Scalar.addi v3156 c1024_i32_889
  v3157
def k0_mult42 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_896 : BitVec 32 := 2048#32
  let v3174 : BitVec 32 := Scalar.muli arg13 c2048_i32_896
  let c1408_i32 : BitVec 32 := 1408#32
  let v3175 : BitVec 32 := Scalar.addi v3174 c1408_i32
  v3175
def k0_mult43 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_922 : BitVec 32 := 2048#32
  let v3349 : BitVec 32 := Scalar.muli arg13 c2048_i32_922
  let c1280_i32_923 : BitVec 32 := 1280#32
  let v3350 : BitVec 32 := Scalar.addi v3349 c1280_i32_923
  v3350
def k0_mult44 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_931 : BitVec 32 := 2048#32
  let v3364 : BitVec 32 := Scalar.muli arg13 c2048_i32_931
  let c1152_i32_932 : BitVec 32 := 1152#32
  let v3365 : BitVec 32 := Scalar.addi v3364 c1152_i32_932
  v3365
def k0_mult45 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_935 : BitVec 32 := 2048#32
  let v3369 : BitVec 32 := Scalar.muli arg13 c2048_i32_935
  let c1152_i32_936 : BitVec 32 := 1152#32
  let v3370 : BitVec 32 := Scalar.addi v3369 c1152_i32_936
  v3370
def k0_mult46 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_943 : BitVec 32 := 2048#32
  let v3387 : BitVec 32 := Scalar.muli arg13 c2048_i32_943
  let c1536_i32 : BitVec 32 := 1536#32
  let v3388 : BitVec 32 := Scalar.addi v3387 c1536_i32
  v3388
def k0_mult47 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_969 : BitVec 32 := 2048#32
  let v3562 : BitVec 32 := Scalar.muli arg13 c2048_i32_969
  let c1408_i32_970 : BitVec 32 := 1408#32
  let v3563 : BitVec 32 := Scalar.addi v3562 c1408_i32_970
  v3563
def k0_mult48 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_978 : BitVec 32 := 2048#32
  let v3577 : BitVec 32 := Scalar.muli arg13 c2048_i32_978
  let c1280_i32_979 : BitVec 32 := 1280#32
  let v3578 : BitVec 32 := Scalar.addi v3577 c1280_i32_979
  v3578
def k0_mult49 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_982 : BitVec 32 := 2048#32
  let v3582 : BitVec 32 := Scalar.muli arg13 c2048_i32_982
  let c1280_i32_983 : BitVec 32 := 1280#32
  let v3583 : BitVec 32 := Scalar.addi v3582 c1280_i32_983
  v3583
def k0_mult50 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_990 : BitVec 32 := 2048#32
  let v3600 : BitVec 32 := Scalar.muli arg13 c2048_i32_990
  let c1664_i32 : BitVec 32 := 1664#32
  let v3601 : BitVec 32 := Scalar.addi v3600 c1664_i32
  v3601
def k0_mult51 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1016 : BitVec 32 := 2048#32
  let v3775 : BitVec 32 := Scalar.muli arg13 c2048_i32_1016
  let c1536_i32_1017 : BitVec 32 := 1536#32
  let v3776 : BitVec 32 := Scalar.addi v3775 c1536_i32_1017
  v3776
def k0_mult52 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1025 : BitVec 32 := 2048#32
  let v3790 : BitVec 32 := Scalar.muli arg13 c2048_i32_1025
  let c1408_i32_1026 : BitVec 32 := 1408#32
  let v3791 : BitVec 32 := Scalar.addi v3790 c1408_i32_1026
  v3791
def k0_mult53 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1029 : BitVec 32 := 2048#32
  let v3795 : BitVec 32 := Scalar.muli arg13 c2048_i32_1029
  let c1408_i32_1030 : BitVec 32 := 1408#32
  let v3796 : BitVec 32 := Scalar.addi v3795 c1408_i32_1030
  v3796
def k0_mult54 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1037 : BitVec 32 := 2048#32
  let v3813 : BitVec 32 := Scalar.muli arg13 c2048_i32_1037
  let c1792_i32 : BitVec 32 := 1792#32
  let v3814 : BitVec 32 := Scalar.addi v3813 c1792_i32
  v3814
def k0_mult55 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1063 : BitVec 32 := 2048#32
  let v3988 : BitVec 32 := Scalar.muli arg13 c2048_i32_1063
  let c1664_i32_1064 : BitVec 32 := 1664#32
  let v3989 : BitVec 32 := Scalar.addi v3988 c1664_i32_1064
  v3989
def k0_mult56 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1072 : BitVec 32 := 2048#32
  let v4003 : BitVec 32 := Scalar.muli arg13 c2048_i32_1072
  let c1536_i32_1073 : BitVec 32 := 1536#32
  let v4004 : BitVec 32 := Scalar.addi v4003 c1536_i32_1073
  v4004
def k0_mult57 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1076 : BitVec 32 := 2048#32
  let v4008 : BitVec 32 := Scalar.muli arg13 c2048_i32_1076
  let c1536_i32_1077 : BitVec 32 := 1536#32
  let v4009 : BitVec 32 := Scalar.addi v4008 c1536_i32_1077
  v4009
def k0_mult58 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1084 : BitVec 32 := 2048#32
  let v4026 : BitVec 32 := Scalar.muli arg13 c2048_i32_1084
  let c1920_i32 : BitVec 32 := 1920#32
  let v4027 : BitVec 32 := Scalar.addi v4026 c1920_i32
  v4027
def k0_mult59 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1110 : BitVec 32 := 2048#32
  let v4201 : BitVec 32 := Scalar.muli arg13 c2048_i32_1110
  let c1792_i32_1111 : BitVec 32 := 1792#32
  let v4202 : BitVec 32 := Scalar.addi v4201 c1792_i32_1111
  v4202
def k0_mult60 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c1_i32_1119 : BitVec 32 := 1#32
  let v4216 : BitVec 32 := Scalar.addi arg13 c1_i32_1119
  let c1_i32_1120 : BitVec 32 := 1#32
  let v4217 : BitVec 32 := Scalar.minsi v4216 c1_i32_1120
  let c2048_i32_1121 : BitVec 32 := 2048#32
  let v4218 : BitVec 32 := Scalar.muli v4217 c2048_i32_1121
  v4218
def k0_off4 (k0_t1 : Fin k0_t1_loop.trips) : Fin 3 → Nat :=
  let c0_1122 : Index := 0#32
  let c0_i32_53 : BitVec 32 := 0#32
  let c1_i32_54 : BitVec 32 := 1#32
  let arg13 : BitVec 32 := Scf.iv c0_i32_53 c1_i32_54 k0_t1
  let c1_i32_1119 : BitVec 32 := 1#32
  let v4216 : BitVec 32 := Scalar.addi arg13 c1_i32_1119
  let c1_i32_1120 : BitVec 32 := 1#32
  let v4217 : BitVec 32 := Scalar.minsi v4216 c1_i32_1120
  let c2048_i32_1121 : BitVec 32 := 2048#32
  let v4218 : BitVec 32 := Scalar.muli v4217 c2048_i32_1121
  let v4219 : BitVec 32 := v4218
  let v4220 : Index := Scalar.indexCast v4219
  let c0_1123 : Index := 0#32
  ![0, v4220.toNat, 0]
def k0_mult61 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c1_i32_1119 : BitVec 32 := 1#32
  let v4216 : BitVec 32 := Scalar.addi arg13 c1_i32_1119
  let c1_i32_1120 : BitVec 32 := 1#32
  let v4217 : BitVec 32 := Scalar.minsi v4216 c1_i32_1120
  let c2048_i32_1124 : BitVec 32 := 2048#32
  let v4223 : BitVec 32 := Scalar.muli v4217 c2048_i32_1124
  v4223
def k0_mult62 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1175 : BitVec 32 := 2048#32
  let v4309 : BitVec 32 := Scalar.muli arg13 c2048_i32_1175
  let c1664_i32_1176 : BitVec 32 := 1664#32
  let v4310 : BitVec 32 := Scalar.addi v4309 c1664_i32_1176
  v4310
def k0_mult63 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1179 : BitVec 32 := 2048#32
  let v4314 : BitVec 32 := Scalar.muli arg13 c2048_i32_1179
  let c1664_i32_1180 : BitVec 32 := 1664#32
  let v4315 : BitVec 32 := Scalar.addi v4314 c1664_i32_1180
  v4315
def k0_mult64 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1187 : BitVec 32 := 2048#32
  let v4332 : BitVec 32 := Scalar.muli arg13 c2048_i32_1187
  let c1920_i32_1188 : BitVec 32 := 1920#32
  let v4333 : BitVec 32 := Scalar.addi v4332 c1920_i32_1188
  v4333
def k0_mult65 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1196 : BitVec 32 := 2048#32
  let v4347 : BitVec 32 := Scalar.muli arg13 c2048_i32_1196
  let c1792_i32_1197 : BitVec 32 := 1792#32
  let v4348 : BitVec 32 := Scalar.addi v4347 c1792_i32_1197
  v4348
def k0_mult66 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1200 : BitVec 32 := 2048#32
  let v4352 : BitVec 32 := Scalar.muli arg13 c2048_i32_1200
  let c1792_i32_1201 : BitVec 32 := 1792#32
  let v4353 : BitVec 32 := Scalar.addi v4352 c1792_i32_1201
  v4353
def k0_mult67 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1208 : BitVec 32 := 2048#32
  let v4370 : BitVec 32 := Scalar.muli arg13 c2048_i32_1208
  let c1920_i32_1209 : BitVec 32 := 1920#32
  let v4371 : BitVec 32 := Scalar.addi v4370 c1920_i32_1209
  v4371
def k0_mult68 (k0_t1 : Fin k0_t1_loop.trips) : BitVec 32 :=
  let c0_i32_53 : BitVec 32 := 0#32
  let c1_i32_54 : BitVec 32 := 1#32
  let arg13 : BitVec 32 := Scf.iv c0_i32_53 c1_i32_54 k0_t1
  let c2048_i32_1212 : BitVec 32 := 2048#32
  let v4375 : BitVec 32 := Scalar.muli arg13 c2048_i32_1212
  let c1920_i32_1213 : BitVec 32 := 1920#32
  let v4376 : BitVec 32 := Scalar.addi v4375 c1920_i32_1213
  v4376
def k0_mult69 : BitVec 32 :=
  let c31_i32 : BitVec 32 := 31#32
  let c0_i32_57 : BitVec 32 := 0#32
  let v156 : BitVec 32 := Scalar.subi c31_i32 c0_i32_57
  let c128_i32 : BitVec 32 := 128#32
  let v157 : BitVec 32 := Scalar.muli v156 c128_i32
  v157
def k0_off5 (c0_i32_57 : BitVec 32) : Fin 2 → Nat :=
  let c31_i32 : BitVec 32 := 31#32
  let v156 : BitVec 32 := Scalar.subi c31_i32 c0_i32_57
  let c128_i32 : BitVec 32 := 128#32
  let v157 : BitVec 32 := Scalar.muli v156 c128_i32
  let v158 : BitVec 32 := v157
  let v159 : Index := Scalar.indexCast v158
  let c0_58 : Index := 0#32
  ![v159.toNat, 0]
def k0_off6 (c0_i32_57 : BitVec 32) : Fin 3 → Nat :=
  let c0_61 : Index := 0#32
  let c31_i32 : BitVec 32 := 31#32
  let v156 : BitVec 32 := Scalar.subi c31_i32 c0_i32_57
  let c128_i32 : BitVec 32 := 128#32
  let v157 : BitVec 32 := Scalar.muli v156 c128_i32
  let v158 : BitVec 32 := v157
  let v167 : Index := Scalar.indexCast v158
  let c0_62 : Index := 0#32
  ![0, v167.toNat, 0]
def k0_off7 (c0_i32_57 : BitVec 32) : Fin 3 → Nat :=
  let c31_i32 : BitVec 32 := 31#32
  let v156 : BitVec 32 := Scalar.subi c31_i32 c0_i32_57
  let v171 : Index := Scalar.indexCast v156
  let c0_63 : Index := 0#32
  let c0_64 : Index := 0#32
  ![v171.toNat, 0, 0]
def k0_mult70 : BitVec 32 :=
  let c31_i32_68 : BitVec 32 := 31#32
  let c1_i32_67 : BitVec 32 := 1#32
  let v179 : BitVec 32 := Scalar.subi c31_i32_68 c1_i32_67
  let c128_i32_69 : BitVec 32 := 128#32
  let v180 : BitVec 32 := Scalar.muli v179 c128_i32_69
  v180
def k0_mult71 : BitVec 32 :=
  let c31_i32_80 : BitVec 32 := 31#32
  let c2_i32_79 : BitVec 32 := 2#32
  let v202 : BitVec 32 := Scalar.subi c31_i32_80 c2_i32_79
  let c128_i32_81 : BitVec 32 := 128#32
  let v203 : BitVec 32 := Scalar.muli v202 c128_i32_81
  v203
def k0_mult72 : BitVec 32 :=
  let c31_i32_91 : BitVec 32 := 31#32
  let c3_i32 : BitVec 32 := 3#32
  let v225 : BitVec 32 := Scalar.subi c31_i32_91 c3_i32
  let c128_i32_92 : BitVec 32 := 128#32
  let v226 : BitVec 32 := Scalar.muli v225 c128_i32_92
  v226
def k0_mult73 : BitVec 32 :=
  let c31_i32_102 : BitVec 32 := 31#32
  let c4_i32 : BitVec 32 := 4#32
  let v248 : BitVec 32 := Scalar.subi c31_i32_102 c4_i32
  let c128_i32_103 : BitVec 32 := 128#32
  let v249 : BitVec 32 := Scalar.muli v248 c128_i32_103
  v249
def k0_mult74 : BitVec 32 :=
  let c31_i32_113 : BitVec 32 := 31#32
  let c5_i32 : BitVec 32 := 5#32
  let v271 : BitVec 32 := Scalar.subi c31_i32_113 c5_i32
  let c128_i32_114 : BitVec 32 := 128#32
  let v272 : BitVec 32 := Scalar.muli v271 c128_i32_114
  v272
def k0_mult75 : BitVec 32 :=
  let c31_i32_124 : BitVec 32 := 31#32
  let c6_i32 : BitVec 32 := 6#32
  let v294 : BitVec 32 := Scalar.subi c31_i32_124 c6_i32
  let c128_i32_125 : BitVec 32 := 128#32
  let v295 : BitVec 32 := Scalar.muli v294 c128_i32_125
  v295
def k0_mult76 : BitVec 32 :=
  let c31_i32_135 : BitVec 32 := 31#32
  let c7_i32 : BitVec 32 := 7#32
  let v317 : BitVec 32 := Scalar.subi c31_i32_135 c7_i32
  let c128_i32_136 : BitVec 32 := 128#32
  let v318 : BitVec 32 := Scalar.muli v317 c128_i32_136
  v318
def k0_mult77 : BitVec 32 :=
  let c31_i32_146 : BitVec 32 := 31#32
  let c8_i32 : BitVec 32 := 8#32
  let v340 : BitVec 32 := Scalar.subi c31_i32_146 c8_i32
  let c128_i32_147 : BitVec 32 := 128#32
  let v341 : BitVec 32 := Scalar.muli v340 c128_i32_147
  v341
def k0_mult78 : BitVec 32 :=
  let c31_i32_157 : BitVec 32 := 31#32
  let c9_i32 : BitVec 32 := 9#32
  let v363 : BitVec 32 := Scalar.subi c31_i32_157 c9_i32
  let c128_i32_158 : BitVec 32 := 128#32
  let v364 : BitVec 32 := Scalar.muli v363 c128_i32_158
  v364
def k0_mult79 : BitVec 32 :=
  let c31_i32_168 : BitVec 32 := 31#32
  let c10_i32 : BitVec 32 := 10#32
  let v386 : BitVec 32 := Scalar.subi c31_i32_168 c10_i32
  let c128_i32_169 : BitVec 32 := 128#32
  let v387 : BitVec 32 := Scalar.muli v386 c128_i32_169
  v387
def k0_mult80 : BitVec 32 :=
  let c31_i32_179 : BitVec 32 := 31#32
  let c11_i32 : BitVec 32 := 11#32
  let v409 : BitVec 32 := Scalar.subi c31_i32_179 c11_i32
  let c128_i32_180 : BitVec 32 := 128#32
  let v410 : BitVec 32 := Scalar.muli v409 c128_i32_180
  v410
def k0_mult81 : BitVec 32 :=
  let c31_i32_190 : BitVec 32 := 31#32
  let c12_i32 : BitVec 32 := 12#32
  let v432 : BitVec 32 := Scalar.subi c31_i32_190 c12_i32
  let c128_i32_191 : BitVec 32 := 128#32
  let v433 : BitVec 32 := Scalar.muli v432 c128_i32_191
  v433
def k0_mult82 : BitVec 32 :=
  let c31_i32_201 : BitVec 32 := 31#32
  let c13_i32 : BitVec 32 := 13#32
  let v455 : BitVec 32 := Scalar.subi c31_i32_201 c13_i32
  let c128_i32_202 : BitVec 32 := 128#32
  let v456 : BitVec 32 := Scalar.muli v455 c128_i32_202
  v456
def k0_mult83 : BitVec 32 :=
  let c31_i32_212 : BitVec 32 := 31#32
  let c14_i32 : BitVec 32 := 14#32
  let v478 : BitVec 32 := Scalar.subi c31_i32_212 c14_i32
  let c128_i32_213 : BitVec 32 := 128#32
  let v479 : BitVec 32 := Scalar.muli v478 c128_i32_213
  v479
def k0_mult84 : BitVec 32 :=
  let c31_i32_223 : BitVec 32 := 31#32
  let c15_i32 : BitVec 32 := 15#32
  let v501 : BitVec 32 := Scalar.subi c31_i32_223 c15_i32
  let c128_i32_224 : BitVec 32 := 128#32
  let v502 : BitVec 32 := Scalar.muli v501 c128_i32_224
  v502
def k0_mult85 : BitVec 32 :=
  let c31_i32_234 : BitVec 32 := 31#32
  let c16_i32 : BitVec 32 := 16#32
  let v524 : BitVec 32 := Scalar.subi c31_i32_234 c16_i32
  let c128_i32_235 : BitVec 32 := 128#32
  let v525 : BitVec 32 := Scalar.muli v524 c128_i32_235
  v525
def k0_mult86 : BitVec 32 :=
  let c31_i32_245 : BitVec 32 := 31#32
  let c17_i32 : BitVec 32 := 17#32
  let v547 : BitVec 32 := Scalar.subi c31_i32_245 c17_i32
  let c128_i32_246 : BitVec 32 := 128#32
  let v548 : BitVec 32 := Scalar.muli v547 c128_i32_246
  v548
def k0_mult87 : BitVec 32 :=
  let c31_i32_256 : BitVec 32 := 31#32
  let c18_i32 : BitVec 32 := 18#32
  let v570 : BitVec 32 := Scalar.subi c31_i32_256 c18_i32
  let c128_i32_257 : BitVec 32 := 128#32
  let v571 : BitVec 32 := Scalar.muli v570 c128_i32_257
  v571
def k0_mult88 : BitVec 32 :=
  let c31_i32_267 : BitVec 32 := 31#32
  let c19_i32 : BitVec 32 := 19#32
  let v593 : BitVec 32 := Scalar.subi c31_i32_267 c19_i32
  let c128_i32_268 : BitVec 32 := 128#32
  let v594 : BitVec 32 := Scalar.muli v593 c128_i32_268
  v594
def k0_mult89 : BitVec 32 :=
  let c31_i32_278 : BitVec 32 := 31#32
  let c20_i32 : BitVec 32 := 20#32
  let v616 : BitVec 32 := Scalar.subi c31_i32_278 c20_i32
  let c128_i32_279 : BitVec 32 := 128#32
  let v617 : BitVec 32 := Scalar.muli v616 c128_i32_279
  v617
def k0_mult90 : BitVec 32 :=
  let c31_i32_289 : BitVec 32 := 31#32
  let c21_i32 : BitVec 32 := 21#32
  let v639 : BitVec 32 := Scalar.subi c31_i32_289 c21_i32
  let c128_i32_290 : BitVec 32 := 128#32
  let v640 : BitVec 32 := Scalar.muli v639 c128_i32_290
  v640
def k0_mult91 : BitVec 32 :=
  let c31_i32_300 : BitVec 32 := 31#32
  let c22_i32 : BitVec 32 := 22#32
  let v662 : BitVec 32 := Scalar.subi c31_i32_300 c22_i32
  let c128_i32_301 : BitVec 32 := 128#32
  let v663 : BitVec 32 := Scalar.muli v662 c128_i32_301
  v663
def k0_mult92 : BitVec 32 :=
  let c31_i32_311 : BitVec 32 := 31#32
  let c23_i32 : BitVec 32 := 23#32
  let v685 : BitVec 32 := Scalar.subi c31_i32_311 c23_i32
  let c128_i32_312 : BitVec 32 := 128#32
  let v686 : BitVec 32 := Scalar.muli v685 c128_i32_312
  v686
def k0_mult93 : BitVec 32 :=
  let c31_i32_322 : BitVec 32 := 31#32
  let c24_i32 : BitVec 32 := 24#32
  let v708 : BitVec 32 := Scalar.subi c31_i32_322 c24_i32
  let c128_i32_323 : BitVec 32 := 128#32
  let v709 : BitVec 32 := Scalar.muli v708 c128_i32_323
  v709
def k0_mult94 : BitVec 32 :=
  let c31_i32_333 : BitVec 32 := 31#32
  let c25_i32 : BitVec 32 := 25#32
  let v731 : BitVec 32 := Scalar.subi c31_i32_333 c25_i32
  let c128_i32_334 : BitVec 32 := 128#32
  let v732 : BitVec 32 := Scalar.muli v731 c128_i32_334
  v732
def k0_mult95 : BitVec 32 :=
  let c31_i32_344 : BitVec 32 := 31#32
  let c26_i32 : BitVec 32 := 26#32
  let v754 : BitVec 32 := Scalar.subi c31_i32_344 c26_i32
  let c128_i32_345 : BitVec 32 := 128#32
  let v755 : BitVec 32 := Scalar.muli v754 c128_i32_345
  v755
def k0_mult96 : BitVec 32 :=
  let c31_i32_355 : BitVec 32 := 31#32
  let c27_i32 : BitVec 32 := 27#32
  let v777 : BitVec 32 := Scalar.subi c31_i32_355 c27_i32
  let c128_i32_356 : BitVec 32 := 128#32
  let v778 : BitVec 32 := Scalar.muli v777 c128_i32_356
  v778
def k0_mult97 : BitVec 32 :=
  let c31_i32_366 : BitVec 32 := 31#32
  let c28_i32 : BitVec 32 := 28#32
  let v800 : BitVec 32 := Scalar.subi c31_i32_366 c28_i32
  let c128_i32_367 : BitVec 32 := 128#32
  let v801 : BitVec 32 := Scalar.muli v800 c128_i32_367
  v801
def k0_mult98 : BitVec 32 :=
  let c31_i32_377 : BitVec 32 := 31#32
  let c29_i32 : BitVec 32 := 29#32
  let v823 : BitVec 32 := Scalar.subi c31_i32_377 c29_i32
  let c128_i32_378 : BitVec 32 := 128#32
  let v824 : BitVec 32 := Scalar.muli v823 c128_i32_378
  v824
def k0_mult99 : BitVec 32 :=
  let c31_i32_388 : BitVec 32 := 31#32
  let c30_i32 : BitVec 32 := 30#32
  let v846 : BitVec 32 := Scalar.subi c31_i32_388 c30_i32
  let c128_i32_389 : BitVec 32 := 128#32
  let v847 : BitVec 32 := Scalar.muli v846 c128_i32_389
  v847
def k0_mult100 : BitVec 32 :=
  let c31_i32_400 : BitVec 32 := 31#32
  let c31_i32_399 : BitVec 32 := 31#32
  let v869 : BitVec 32 := Scalar.subi c31_i32_400 c31_i32_399
  let c128_i32_401 : BitVec 32 := 128#32
  let v870 : BitVec 32 := Scalar.muli v869 c128_i32_401
  v870
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HgrnReferenceIdeal.lean ====
abbrev S4x4096x11264 : Shape := ⟨3, ![4, 4096, 11264]⟩
abbrev S4x4096x1024 : Shape := ⟨3, ![4, 4096, 1024]⟩
abbrev S4x4096x8x128 : Shape := ⟨4, ![4, 4096, 8, 128]⟩
abbrev S_ : Shape := ⟨0, ![]⟩
abbrev S8x4096x8x128 : Shape := ⟨4, ![8, 4096, 8, 128]⟩
abbrev S8x64x64x8x128 : Shape := ⟨5, ![8, 64, 64, 8, 128]⟩
abbrev S64x8x8x64x128 : Shape := ⟨5, ![64, 8, 8, 64, 128]⟩
abbrev S64x64 : Shape := ⟨2, ![64, 64]⟩
abbrev S1x1x64x64x1 : Shape := ⟨5, ![1, 1, 64, 64, 1]⟩
abbrev S8x8x128x128 : Shape := ⟨4, ![8, 8, 128, 128]⟩
abbrev S1x8x8x64x128 : Shape := ⟨5, ![1, 8, 8, 64, 128]⟩
abbrev S8x8x64x128 : Shape := ⟨4, ![8, 8, 64, 128]⟩
abbrev S8x8x1x128 : Shape := ⟨4, ![8, 8, 1, 128]⟩
abbrev S8x8x64x1x128 : Shape := ⟨5, ![8, 8, 64, 1, 128]⟩
abbrev S8x8x1x64x128 : Shape := ⟨5, ![8, 8, 1, 64, 128]⟩
abbrev S8x8x64x64x128 : Shape := ⟨5, ![8, 8, 64, 64, 128]⟩
abbrev S8x8x64x64 : Shape := ⟨4, ![8, 8, 64, 64]⟩
abbrev S8x8x128 : Shape := ⟨3, ![8, 8, 128]⟩
abbrev S8x8x128x1 : Shape := ⟨4, ![8, 8, 128, 1]⟩

abbrev nBuf : Space → Nat
  | .hbm => 149
  | .vmem => 0
  | .smem => 0
  | _ => 0

abbrev hbmTy0_0 (i : Nat) : BufTy := match i % 128 with
  | 0 => ⟨S4x4096x11264, .bf16⟩
  | 1 => ⟨S4x4096x1024, .bf16⟩
  | 2 => ⟨S4x4096x1024, .f32⟩
  | 3 => ⟨S4x4096x8x128, .f32⟩
  | 4 => ⟨S4x4096x1024, .bf16⟩
  | 5 => ⟨S4x4096x1024, .f32⟩
  | 6 => ⟨S4x4096x8x128, .f32⟩
  | 7 => ⟨S_, .f32⟩
  | 8 => ⟨S_, .f32⟩
  | 9 => ⟨S4x4096x1024, .bf16⟩
  | 10 => ⟨S4x4096x1024, .f32⟩
  | 11 => ⟨S4x4096x8x128, .f32⟩
  | 12 => ⟨S4x4096x8x128, .f32⟩
  | 13 => ⟨S4x4096x8x128, .f32⟩
  | 14 => ⟨S4x4096x1024, .bf16⟩
  | 15 => ⟨S4x4096x1024, .f32⟩
  | 16 => ⟨S4x4096x8x128, .f32⟩
  | 17 => ⟨S4x4096x8x128, .f32⟩
  | 18 => ⟨S4x4096x8x128, .f32⟩
  | 19 => ⟨S4x4096x8x128, .f32⟩
  | 20 => ⟨S_, .f32⟩
  | 21 => ⟨S4x4096x8x128, .f32⟩
  | 22 => ⟨S4x4096x8x128, .f32⟩
  | 23 => ⟨S4x4096x8x128, .f32⟩
  | 24 => ⟨S_, .f32⟩
  | 25 => ⟨S4x4096x8x128, .f32⟩
  | 26 => ⟨S4x4096x8x128, .f32⟩
  | 27 => ⟨S4x4096x8x128, .f32⟩
  | 28 => ⟨S8x4096x8x128, .f32⟩
  | 29 => ⟨S4x4096x8x128, .f32⟩
  | 30 => ⟨S8x4096x8x128, .f32⟩
  | 31 => ⟨S4x4096x8x128, .f32⟩
  | 32 => ⟨S8x4096x8x128, .f32⟩
  | 33 => ⟨S4x4096x8x128, .f32⟩
  | 34 => ⟨S8x4096x8x128, .f32⟩
  | 35 => ⟨S8x64x64x8x128, .f32⟩
  | 36 => ⟨S64x8x8x64x128, .f32⟩
  | 37 => ⟨S8x64x64x8x128, .f32⟩
  | 38 => ⟨S64x8x8x64x128, .f32⟩
  | 39 => ⟨S8x64x64x8x128, .f32⟩
  | 40 => ⟨S64x8x8x64x128, .f32⟩
  | 41 => ⟨S8x64x64x8x128, .f32⟩
  | 42 => ⟨S64x8x8x64x128, .f32⟩
  | 43 => ⟨S_, .i1⟩
  | 44 => ⟨S64x64, .i1⟩
  | 45 => ⟨S64x64, .i32⟩
  | 46 => ⟨S_, .i32⟩
  | 47 => ⟨S64x64, .i32⟩
  | 48 => ⟨S64x64, .i32⟩
  | 49 => ⟨S64x64, .i32⟩
  | 50 => ⟨S64x64, .i1⟩
  | 51 => ⟨S_, .i1⟩
  | 52 => ⟨S64x64, .i1⟩
  | 53 => ⟨S64x64, .i1⟩
  | 54 => ⟨S1x1x64x64x1, .i1⟩
  | 55 => ⟨S_, .f32⟩
  | 56 => ⟨S8x8x128x128, .f32⟩
  | 57 => ⟨S_, .f32⟩
  | 58 => ⟨S64x8x8x64x128, .f32⟩
  | 59 => ⟨S_, .i32⟩
  | 60 => ⟨S64x8x8x64x128, .f32⟩
  | 61 => ⟨S64x8x8x64x128, .f32⟩
  | 62 => ⟨S64x8x8x64x128, .f32⟩
  | 63 => ⟨S64x8x8x64x128, .f32⟩
  | 64 => ⟨S1x1x64x64x1, .i1⟩
  | 65 => ⟨S_, .i32⟩
  | 66 => ⟨S8x8x128x128, .f32⟩
  | 67 => ⟨S64x8x8x64x128, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S1x8x8x64x128, .f32⟩
  | 75 => ⟨S8x8x64x128, .f32⟩
  | 76 => ⟨S_, .i32⟩
  | 77 => ⟨S_, .i32⟩
  | 78 => ⟨S_, .i32⟩
  | 79 => ⟨S_, .i32⟩
  | 80 => ⟨S1x8x8x64x128, .f32⟩
  | 81 => ⟨S8x8x64x128, .f32⟩
  | 82 => ⟨S_, .i32⟩
  | 83 => ⟨S_, .i32⟩
  | 84 => ⟨S_, .i32⟩
  | 85 => ⟨S_, .i32⟩
  | 86 => ⟨S1x8x8x64x128, .f32⟩
  | 87 => ⟨S8x8x64x128, .f32⟩
  | 88 => ⟨S_, .i32⟩
  | 89 => ⟨S_, .i32⟩
  | 90 => ⟨S_, .i32⟩
  | 91 => ⟨S_, .i32⟩
  | 92 => ⟨S1x8x8x64x128, .f32⟩
  | 93 => ⟨S8x8x64x128, .f32⟩
  | 94 => ⟨S_, .f32⟩
  | 95 => ⟨S_, .f32⟩
  | 96 => ⟨S8x8x64x128, .f32⟩
  | 97 => ⟨S8x8x1x128, .f32⟩
  | 98 => ⟨S8x8x64x128, .f32⟩
  | 99 => ⟨S8x8x64x128, .f32⟩
  | 100 => ⟨S8x8x64x128, .f32⟩
  | 101 => ⟨S8x8x64x1x128, .f32⟩
  | 102 => ⟨S8x8x1x64x128, .f32⟩
  | 103 => ⟨S8x8x64x64x128, .f32⟩
  | 104 => ⟨S8x8x64x64x128, .f32⟩
  | 105 => ⟨S8x8x64x64x128, .f32⟩
  | 106 => ⟨S_, .f32⟩
  | 107 => ⟨S_, .f32⟩
  | 108 => ⟨S8x8x64x64x128, .i1⟩
  | 109 => ⟨S8x8x64x64x128, .f32⟩
  | 110 => ⟨S8x8x64x64x128, .f32⟩
  | 111 => ⟨S8x8x64x1x128, .f32⟩
  | 112 => ⟨S8x8x1x64x128, .f32⟩
  | 113 => ⟨S8x8x64x64x128, .f32⟩
  | 114 => ⟨S8x8x64x64x128, .f32⟩
  | 115 => ⟨S8x8x64x64x128, .f32⟩
  | 116 => ⟨S8x8x64x64x128, .f32⟩
  | 117 => ⟨S8x8x64x64x128, .f32⟩
  | 118 => ⟨S_, .f32⟩
  | 119 => ⟨S8x8x64x64, .f32⟩
  | 120 => ⟨S8x8x64x128, .f32⟩
  | 121 => ⟨S8x8x64x128, .f32⟩
  | 122 => ⟨S8x8x128, .f32⟩
  | 123 => ⟨S8x8x128, .f32⟩
  | 124 => ⟨S8x8x128x1, .f32⟩
  | 125 => ⟨S8x8x128x128, .f32⟩
  | 126 => ⟨S8x8x128x128, .f32⟩
  | 127 => ⟨S8x8x64x128, .f32⟩
  | _ => ⟨S4x4096x11264, .bf16⟩

abbrev hbmTy0_1 (i : Nat) : BufTy := match i % 128 with
  | 0 => ⟨S8x8x64x128, .f32⟩
  | 1 => ⟨S8x8x64x128, .f32⟩
  | 2 => ⟨S8x8x64x128, .f32⟩
  | 3 => ⟨S8x8x128x128, .f32⟩
  | 4 => ⟨S8x8x128x128, .f32⟩
  | 5 => ⟨S1x8x8x64x128, .f32⟩
  | 6 => ⟨S_, .i32⟩
  | 7 => ⟨S_, .i32⟩
  | 8 => ⟨S_, .i32⟩
  | 9 => ⟨S_, .i32⟩
  | 10 => ⟨S64x8x8x64x128, .f32⟩
  | 11 => ⟨S_, .i32⟩
  | 12 => ⟨S_, .i32⟩
  | 13 => ⟨S8x64x64x8x128, .f32⟩
  | 14 => ⟨S8x4096x8x128, .f32⟩
  | 15 => ⟨S4x4096x8x128, .f32⟩
  | 16 => ⟨S4x4096x8x128, .f32⟩
  | 17 => ⟨S4x4096x8x128, .f32⟩
  | 18 => ⟨S4x4096x8x128, .f32⟩
  | 19 => ⟨S4x4096x1024, .f32⟩
  | 20 => ⟨S4x4096x1024, .bf16⟩
  | _ => ⟨S4x4096x11264, .bf16⟩

abbrev hbmTy (i : Nat) : BufTy := match i / 128 with
  | 0 => hbmTy0_0 i
  | 1 => hbmTy0_1 i
  | _ => ⟨S4x4096x11264, .bf16⟩

abbrev bufTy : (tb : Table) → Fin (tcTables nBuf tb) → BufTy
  | .hbm, ⟨i, _⟩ => hbmTy i
  | _, _ => ⟨S4x4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_1 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_c : Ref sig .tc := ⟨.hbm, 43, rfl⟩
abbrev main_v39 : Ref sig .tc := ⟨.hbm, 44, rfl⟩
abbrev main_call4_v0 : Ref sig .tc := ⟨.hbm, 45, rfl⟩
abbrev main_call4_c : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_call4_c_0 : Ref sig .tc := ⟨.hbm, 51, rfl⟩
abbrev main_call4_v5 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_c_4 : Ref sig .tc := ⟨.hbm, 59, rfl⟩
abbrev main_v44_0 : Ref sig .tc := ⟨.hbm, 60, rfl⟩
abbrev main_v44_1 : Ref sig .tc := ⟨.hbm, 61, rfl⟩
abbrev main_v44_2 : Ref sig .tc := ⟨.hbm, 62, rfl⟩
abbrev main_v44_3 : Ref sig .tc := ⟨.hbm, 63, rfl⟩
abbrev main_v44_4 : Ref sig .tc := ⟨.hbm, 64, rfl⟩
abbrev main_v44_5 : Ref sig .tc := ⟨.hbm, 65, rfl⟩
abbrev main_v44_6 : Ref sig .tc := ⟨.hbm, 66, rfl⟩
abbrev main_v44_7 : Ref sig .tc := ⟨.hbm, 67, rfl⟩
abbrev main_while0c_c_12 : Ref sig .tc := ⟨.hbm, 68, rfl⟩
abbrev main_while0c_v53 : Ref sig .tc := ⟨.hbm, 69, rfl⟩
abbrev main_while0b_call5_c : Ref sig .tc := ⟨.hbm, 70, rfl⟩
abbrev main_while0b_call5_c_0 : Ref sig .tc := ⟨.hbm, 71, rfl⟩
abbrev main_while0b_call5_c_1 : Ref sig .tc := ⟨.hbm, 72, rfl⟩
abbrev main_while0b_call5_c_2 : Ref sig .tc := ⟨.hbm, 73, rfl⟩
abbrev main_while0b_call5_v0 : Ref sig .tc := ⟨.hbm, 74, rfl⟩
abbrev main_while0b_v53 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_c_1 : Ref sig .tc := ⟨.hbm, 78, rfl⟩
abbrev main_while0b_call6_c_2 : Ref sig .tc := ⟨.hbm, 79, rfl⟩
abbrev main_while0b_call6_v0 : Ref sig .tc := ⟨.hbm, 80, rfl⟩
abbrev main_while0b_v54 : Ref sig .tc := ⟨.hbm, 81, rfl⟩
abbrev main_while0b_call7_c : Ref sig .tc := ⟨.hbm, 82, rfl⟩
abbrev main_while0b_call7_c_0 : Ref sig .tc := ⟨.hbm, 83, rfl⟩
abbrev main_while0b_call7_c_1 : Ref sig .tc := ⟨.hbm, 84, rfl⟩
abbrev main_while0b_call7_c_2 : Ref sig .tc := ⟨.hbm, 85, rfl⟩
abbrev main_while0b_call7_v0 : Ref sig .tc := ⟨.hbm, 86, rfl⟩
abbrev main_while0b_v55 : Ref sig .tc := ⟨.hbm, 87, rfl⟩
abbrev main_while0b_call8_c : Ref sig .tc := ⟨.hbm, 88, rfl⟩
abbrev main_while0b_call8_c_0 : Ref sig .tc := ⟨.hbm, 89, rfl⟩
abbrev main_while0b_call8_c_1 : Ref sig .tc := ⟨.hbm, 90, rfl⟩
abbrev main_while0b_call8_c_2 : Ref sig .tc := ⟨.hbm, 91, rfl⟩
abbrev main_while0b_call8_v0 : Ref sig .tc := ⟨.hbm, 92, rfl⟩
abbrev main_while0b_v56 : Ref sig .tc := ⟨.hbm, 93, rfl⟩
abbrev main_while0b_call9_call0_cst : Ref sig .tc := ⟨.hbm, 94, rfl⟩
abbrev main_while0b_call9_call0_v0 : Ref sig .tc := ⟨.hbm, 95, rfl⟩
abbrev main_while0b_v57 : Ref sig .tc := ⟨.hbm, 96, rfl⟩
abbrev main_while0b_v58 : Ref sig .tc := ⟨.hbm, 97, rfl⟩
abbrev main_while0b_v59 : Ref sig .tc := ⟨.hbm, 98, rfl⟩
abbrev main_while0b_v60 : Ref sig .tc := ⟨.hbm, 99, rfl⟩
abbrev main_while0b_v61 : Ref sig .tc := ⟨.hbm, 100, rfl⟩
abbrev main_while0b_v62 : Ref sig .tc := ⟨.hbm, 101, rfl⟩
abbrev main_while0b_v63 : Ref sig .tc := ⟨.hbm, 102, rfl⟩
abbrev main_while0b_v64 : Ref sig .tc := ⟨.hbm, 103, rfl⟩
abbrev main_while0b_v65 : Ref sig .tc := ⟨.hbm, 104, rfl⟩
abbrev main_while0b_v66 : Ref sig .tc := ⟨.hbm, 105, rfl⟩
abbrev main_while0b_cst_12 : Ref sig .tc := ⟨.hbm, 106, rfl⟩
abbrev main_while0b_call10_v0 : Ref sig .tc := ⟨.hbm, 107, rfl⟩
abbrev main_while0b_call10_v1 : Ref sig .tc := ⟨.hbm, 108, rfl⟩
abbrev main_while0b_call10_v2 : Ref sig .tc := ⟨.hbm, 109, rfl⟩
abbrev main_while0b_v67 : Ref sig .tc := ⟨.hbm, 110, rfl⟩
abbrev main_while0b_v68 : Ref sig .tc := ⟨.hbm, 111, rfl⟩
abbrev main_while0b_v69 : Ref sig .tc := ⟨.hbm, 112, rfl⟩
abbrev main_while0b_v70 : Ref sig .tc := ⟨.hbm, 113, rfl⟩
abbrev main_while0b_v71 : Ref sig .tc := ⟨.hbm, 114, rfl⟩
abbrev main_while0b_v72 : Ref sig .tc := ⟨.hbm, 115, rfl⟩
abbrev main_while0b_v73 : Ref sig .tc := ⟨.hbm, 116, rfl⟩
abbrev main_while0b_v74 : Ref sig .tc := ⟨.hbm, 117, rfl⟩
abbrev main_while0b_cst_13 : Ref sig .tc := ⟨.hbm, 118, rfl⟩
abbrev main_while0b_v75 : Ref sig .tc := ⟨.hbm, 119, rfl⟩
abbrev main_while0b_v76 : Ref sig .tc := ⟨.hbm, 120, rfl⟩
abbrev main_while0b_v77 : Ref sig .tc := ⟨.hbm, 121, rfl⟩
abbrev main_while0b_v78 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_v88 : Ref sig .tc := ⟨.hbm, 132, rfl⟩
abbrev main_while0b_call11_v0 : Ref sig .tc := ⟨.hbm, 133, rfl⟩
abbrev main_while0b_call11_c : Ref sig .tc := ⟨.hbm, 134, rfl⟩
abbrev main_while0b_call11_c_0 : Ref sig .tc := ⟨.hbm, 135, rfl⟩
abbrev main_while0b_call11_c_1 : Ref sig .tc := ⟨.hbm, 136, rfl⟩
abbrev main_while0b_call11_c_2 : Ref sig .tc := ⟨.hbm, 137, rfl⟩
abbrev main_while0b_v89 : Ref sig .tc := ⟨.hbm, 138, rfl⟩
abbrev main_while0b_c_14 : Ref sig .tc := ⟨.hbm, 139, rfl⟩
abbrev main_while0b_v90 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩

abbrev nD : Nat := 1
abbrev τ : Topo := Topo.v7x

variable {F : FTy → Type} [FloatOps F]

abbrev main_while0_count : Scf.Loop 32 := ⟨0#32, 64#32, 1#32⟩
-- ==== Proof.Scan.KernelIdealLaunch.lean ====
/- The launch of the scan (`KernelIdeal`): the staging memrefs of each point and the scratch, named. -/
module

public import proofs.«01_k».proof.Proof.Gen.KernelIdeal.Frame

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging memref of each window at point `t`. -/
abbrev stg0 (t : Fin cfg0.N) : Memref sig .tc .vmem S1x4096x128 .bf16 := win0_0.stage (cfg0.slots t 0)
abbrev stg1 (t : Fin cfg0.N) : Memref sig .tc .vmem S1x4096x128 .bf16 := win0_1.stage (cfg0.slots t 1)
abbrev stg2 (t : Fin cfg0.N) : Memref sig .tc .vmem S1x4096x128 .bf16 := win0_2.stage (cfg0.slots t 2)
abbrev stg3 (t : Fin cfg0.N) : Memref sig .tc .vmem S1x4096x128 .bf16 := win0_3.stage (cfg0.slots t 3)
abbrev stg4 (t : Fin cfg0.N) : Memref sig .tc .vmem S1x4096x256 .bf16 := win0_4.stage (cfg0.slots t 4)
abbrev stg5 (t : Fin cfg0.N) : Memref sig .tc .vmem S1x4096x256 .bf16 := win0_5.stage (cfg0.slots t 5)
/-- The six scratch arrays. -/
abbrev scr0 : Memref sig .tc .vmem S4096x128 .bf16 := Memref.whole cc0_scratch0
abbrev scr1 : Memref sig .tc .vmem S32x128x256 .f32 := Memref.whole cc0_scratch1
abbrev scr2 : Memref sig .tc .vmem S32x128x128 .f32 := Memref.whole cc0_scratch2
abbrev scr3 : Memref sig .tc .vmem S4096x256 .f32 := Memref.whole cc0_scratch3
abbrev scr4 : Memref sig .tc .vmem S512x256 .f32 := Memref.whole cc0_scratch4
abbrev scr5 : Memref sig .tc .vmem S128x256 .f32 := Memref.whole cc0_scratch5

/-- What the pipeline hands the body besides its windows: the scratch at some contents and the generator register. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

end Cert.KernelIdeal.Scan

end
-- ==== Proof.Scan.KernelIdealLoop.lean ====
/- The frame of the scan's counted loop in `KernelIdeal`: each trip leaves the six scratch arrays at some contents. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Before every trip: the staged blocks at their contents, the scratch arrays at some contents. -/
def loopRes (c : Dev nD) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S4096x128 .bf16) (harg8 : arg8.IsWhole) (arg9 : Memref sig .tc .vmem S32x128x256 .f32) (harg9 : arg9.IsWhole) (arg10 : Memref sig .tc .vmem S32x128x128 .f32) (harg10 : arg10.IsWhole) (arg11 : Memref sig .tc .vmem S4096x256 .f32) (harg11 : arg11.IsWhole) (arg12 : Memref sig .tc .vmem S512x256 .f32) (harg12 : arg12.IsWhole) (arg13 : Memref sig .tc .vmem S128x256 .f32) (harg13 : arg13.IsWhole)
    (x0 x1 x2 x3 : Vec F S1x4096x128 .bf16) (x4 : Vec F S1x4096x256 .bf16) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4)
    ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f))

set_option warn.classDefReducibility false in
set_option maxHeartbeats 4000000 in
/-- The loop by that invariant: one trip, run once. -/
@[sl_loop] def loopInv (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S4096x128 .bf16) (harg8 : arg8.IsWhole) (arg9 : Memref sig .tc .vmem S32x128x256 .f32) (harg9 : arg9.IsWhole) (arg10 : Memref sig .tc .vmem S32x128x128 .f32) (harg10 : arg10.IsWhole) (arg11 : Memref sig .tc .vmem S4096x256 .f32) (harg11 : arg11.IsWhole) (arg12 : Memref sig .tc .vmem S512x256 .f32) (harg12 : arg12.IsWhole) (arg13 : Memref sig .tc .vmem S128x256 .f32) (harg13 : arg13.IsWhole) (v2 : IVec S128x128 1) (v3 : IVec S128x128 1) (v60 : FVec F S128x128 .bf16) (v69 : FVec F S512x256 .bf16) (v84 : FVec F S128x256 .f32)
    (x0 x1 x2 x3 : Vec F S1x4096x128 .bf16) (x4 : Vec F S1x4096x256 .bf16) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 v2 v3 v60 v69 v84 where
  inv := fun _ _ => loopRes c arg2 harg2 arg3 harg3 arg4 harg4 arg5 harg5 arg6 harg6 arg7 harg7 arg8 harg8 arg9 harg9 arg10 harg10 arg11 harg11 arg12 harg12 arg13 harg13 x0 x1 x2 x3 x4
  step := fun k acc => by
    unfold loopRes k0_t1_body
    iintro ⟨H2, H3, H4, H5, H6, ⟨%f8, H8⟩, ⟨%f9, H9⟩, ⟨%f10, H10⟩, ⟨%f11, H11⟩, ⟨%f12, H12⟩, ⟨%f13, H13⟩⟩
    sl_exec
    sl_step
    sl_close

end Cert.KernelIdeal.Scan

end
-- ==== Proof.Scan.KernelIdealRun.lean ====
/- The body of the scan run once at symbolic operands (`KernelIdeal`): it returns its inputs, whatever the scratch held. -/
module

public import proofs.«01_k».proof.Proof.Scan.KernelIdealLoop

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body keeps its five staged blocks and leaves the output block and the scratch at some contents. -/
theorem bodyRun (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S4096x128 .bf16) (harg8 : arg8.IsWhole) (arg9 : Memref sig .tc .vmem S32x128x256 .f32) (harg9 : arg9.IsWhole) (arg10 : Memref sig .tc .vmem S32x128x128 .f32) (harg10 : arg10.IsWhole) (arg11 : Memref sig .tc .vmem S4096x256 .f32) (harg11 : arg11.IsWhole) (arg12 : Memref sig .tc .vmem S512x256 .f32) (harg12 : arg12.IsWhole) (arg13 : Memref sig .tc .vmem S128x256 .f32) (harg13 : arg13.IsWhole)
    (x0 x1 x2 x3 : Vec F S1x4096x128 .bf16) (x4 : Vec F S1x4096x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0_gla_scan i arg2 harg2 arg3 harg3 arg4 harg4 arg5 harg5 arg6 harg6 arg7 harg7 arg8 harg8 arg9 harg9 arg10 harg10 arg11 harg11 arg12 harg12 arg13 harg13) K := by
  simp only [cc0_gla_scan_eq_skeleton]; unfold cc0_gla_scan_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.KernelIdeal.Scan

end
-- ==== Proof.Scan.KernelIdealFrame.lean ====
/- The frame of the scan (`KernelIdeal`): it ends, its argument is unchanged, every semaphore is back at zero. -/
module

public import proofs.«01_k».proof.Proof.Scan.KernelIdealLaunch
public import proofs.«01_k».proof.Proof.Scan.KernelIdealRun
public import Idealize.ShloMosaic.Lib.Claim

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is stated here of the output window (5). -/
def unnamedOut : Fin 6 → Bool := fun w => w.val == 5

/-- The pipeline's data: the inputs' blocks stay, the output is not named, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d))
    ∗ (∃ d, owns (c : Thread nD τ) (stg5 t) fullShare d))

/-- What the body gives back. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t) ∗ owns (c : Thread nD τ) (stg4 t) fullShare ((dats m 0 c).after 4 t)
    ∗ (∃ d, owns (c : Thread nD τ) (stg5 t) fullShare d))

set_option maxHeartbeats 1200000 in
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, scratch_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, H5⟩
  iapply (bodyRun c (grid0.coords t) _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ unnamedOut := fun t => by
  rw [bigSep_W0, bigSep_W0, row_eq]
  exact triple_restated (sound m c t) rfl .rfl fun _ => .rfl

set_option backward.isDefEq.respectTransparency.types false in
/-- The whole run: the arrays and the counters at its end. -/
theorem wholeRun : θ_run defs (onTc (τ := τ) (main (F := F))) (s₀ m ρ) (fun r => (Pipeline.RDat.FramePost (cfgs 0) (fun c => (dats m 0 c).toRForget unnamedOut) (V m)) r ∧ r.2.sem = fun _ => 0) :=
  Pipeline.θ_run_frame_forget_shared (Q' := _) cfgs (dats m) (0 : Fin 1) launch₀0 defs₀ Variants.none unnamedOut m ρ main
    (hbody := fun c => (obligation m c).loose) (hq := fun _ _ _ => rfl)
    (howed := fun _ _ => rfl) (V := V m) (hmain := hmain m Variants.none) (hA := A_eq m) (hΦ := fun _ _ => rfl)

/-- The frame: the argument is as it was, every counter at zero. -/
theorem frameClaim : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono
      (fun _ h c => (Pipeline.RDat.FramePost.arr_in h.1 c 4 rfl).trans ((A_eq m c 4).trans (V_main_arg0 m c))) (wholeRun m ρ))
    ((θ_run defs _ _).mono (fun _ h => h.2) (wholeRun m ρ))

end Cert.KernelIdeal.Scan

end
-- ==== Proof.Scan.Recurrence.lean ====
/-
  The gated linear recurrence over the reals, one lane at a time: `state` runs forward from zero, `back` runs from the
  right end, and a block of rows is crossed in closed form by the running sums of the gates (`pre`).
-/
module

public import Idealize.ShloMosaic.Lib.Pointwise

@[expose] public section

noncomputable section

namespace Cert.Scan

open Finset

/-- The sum of the `n` gates from row `s` on. -/
def pre (a : ℕ → ℝ) (s n : ℕ) : ℝ := ∑ u ∈ range n, a (s + u)

theorem pre_zero (a : ℕ → ℝ) (s : ℕ) : pre a s 0 = 0 := by simp [pre]

theorem pre_succ (a : ℕ → ℝ) (s n : ℕ) : pre a s (n + 1) = pre a s n + a (s + n) := by
  simp [pre, sum_range_succ]

theorem pre_add (a : ℕ → ℝ) (s m n : ℕ) : pre a s (m + n) = pre a s m + pre a (s + m) n := by
  simp only [pre, sum_range_add, add_assoc]

/-- The forward recurrence: the row's gate decays the state, the row's key and value are added. -/
def state (a k v : ℕ → ℝ) : ℕ → ℝ
  | 0 => 0
  | n + 1 => Real.exp (a n) * state a k v n + k n * v n

/-- The state after `n` further rows, from the state before them. -/
theorem state_block (a k v : ℕ → ℝ) (s n : ℕ) :
    state a k v (s + n) = Real.exp (pre a s n) * state a k v s
      + ∑ j ∈ range n, Real.exp (pre a s n - pre a s (j + 1)) * (k (s + j) * v (s + j)) := by
  induction n with
  | zero => simp [pre_zero]
  | succ n ih =>
    rw [← add_assoc, state, ih, sum_range_succ, sub_self, Real.exp_zero, one_mul, pre_succ, mul_add, mul_sum,
      add_assoc, ← add_assoc, ← mul_assoc, ← Real.exp_add, add_comm (a (s + n)), add_assoc]
    congr 2
    refine sum_congr rfl fun j _ => ?_
    rw [← mul_assoc, ← Real.exp_add]
    congr 2; ring

/-- The recurrence from the right end `T`: the forward one on the reversed rows. -/
def back (T : ℕ) (a k v : ℕ → ℝ) (t : ℕ) : ℝ :=
  state (fun n => a (T - 1 - n)) (fun n => k (T - 1 - n)) (fun n => v (T - 1 - n)) (T - t)

theorem back_end (T : ℕ) (a k v : ℕ → ℝ) : back T a k v T = 0 := by simp [back, state]

theorem back_step (T : ℕ) (a k v : ℕ → ℝ) {t : ℕ} (h : t < T) :
    back T a k v t = Real.exp (a t) * back T a k v (t + 1) + k t * v t := by
  unfold back
  obtain ⟨n, rfl⟩ : ∃ n, T = t + n + 1 := ⟨T - t - 1, by omega⟩
  rw [show t + n + 1 - t = n + 1 by omega, show t + n + 1 - (t + 1) = n by omega, state,
    show t + n + 1 - 1 - n = t by omega]

/-- The state at the left end of a block of `n` rows, from the state at its right end. -/
theorem back_block (T : ℕ) (a k v : ℕ → ℝ) (s n : ℕ) (h : s + n ≤ T) :
    back T a k v s = Real.exp (pre a s n) * back T a k v (s + n)
      + ∑ j ∈ range n, Real.exp (pre a s j) * (k (s + j) * v (s + j)) := by
  induction n with
  | zero => simp [pre_zero]
  | succ n ih =>
    rw [ih (by omega), back_step T a k v (t := s + n) (by omega), sum_range_succ, pre_succ, Real.exp_add, add_assoc s n 1]
    ring

/-! ## The same for a block of rows of a matrix of lanes -/

section Block

variable {L D : ℕ} (Q K A : ℕ → Fin D → ℝ) (v : ℕ → ℝ) (s : ℕ)

theorem sum_le (f : ℕ → ℝ) (i : Fin L) : (∑ j : Fin L, if j.val ≤ i.val then f j.val else 0) = ∑ j ∈ range (i.val + 1), f j := by
  rw [Fin.sum_univ_eq_sum_range (fun j => if j ≤ i.val then f j else 0) L, ← sum_filter]
  refine sum_congr (ext fun j => ?_) fun _ _ => rfl
  have := i.isLt
  simp only [mem_filter, mem_range]; omega

theorem sum_ge (f : ℕ → ℝ) (i : Fin L) : (∑ j : Fin L, if i.val ≤ j.val then f j.val else 0) = ∑ j ∈ range (L - i.val), f (i.val + j) := by
  rw [Fin.sum_univ_eq_sum_range (fun j => if i.val ≤ j then f j else 0) L]
  have h := sum_range_add (fun j => if i.val ≤ j then f j else 0) i.val (L - i.val)
  rw [show i.val + (L - i.val) = L by have := i.isLt; omega] at h
  rw [h, sum_eq_zero (fun j hj => if_neg (by have := mem_range.mp hj; omega)), zero_add]
  exact sum_congr rfl fun j _ => if_pos (by omega)

/-- A forward output row: the masked scores against the values, plus the query against the state before the block. -/
theorem fwd_row (i : Fin L) :
    (∑ j : Fin L, (if j.val ≤ i.val then ∑ d, Q (s + i) d * K (s + j) d
        * Real.exp (pre (A · d) s (i + 1) - pre (A · d) s (j + 1)) else 0) * v (s + j))
      + ∑ d, Q (s + i) d * Real.exp (pre (A · d) s (i + 1)) * state (A · d) (K · d) v s
    = ∑ d, Q (s + i) d * state (A · d) (K · d) v (s + i + 1) := by
  simp only [ite_mul, zero_mul]
  rw [sum_le (fun j => (∑ d, Q (s + i) d * K (s + j) d
        * Real.exp (pre (A · d) s (i + 1) - pre (A · d) s (j + 1))) * v (s + j))]
  simp only [add_assoc s, state_block _ _ _ s (i.val + 1), sum_mul, mul_add, mul_sum, sum_add_distrib]
  rw [sum_comm, add_comm]
  congr 1
  · exact sum_congr rfl fun d _ => by ring
  · exact sum_congr rfl fun d _ => sum_congr rfl fun j _ => by ring

/-- A backward output row: the masked scores against the values, plus the query against the state after the block. -/
theorem bwd_row (T : ℕ) (h : s + L ≤ T) (i : Fin L) :
    (∑ j : Fin L, (if i.val ≤ j.val then ∑ d, Q (s + i) d * K (s + j) d
        * Real.exp (pre (A · d) s j - pre (A · d) s i) else 0) * v (s + j))
      + ∑ d, Q (s + i) d * Real.exp (pre (A · d) s L - pre (A · d) s i) * back T (A · d) (K · d) v (s + L)
    = ∑ d, Q (s + i) d * back T (A · d) (K · d) v (s + i) := by
  have hL : i.val + (L - i.val) = L := by have := i.isLt; omega
  simp only [ite_mul, zero_mul]
  rw [sum_ge (fun j => (∑ d, Q (s + i) d * K (s + j) d
        * Real.exp (pre (A · d) s j - pre (A · d) s i)) * v (s + j))]
  have hp : ∀ d n, pre (A · d) (s + i) n = pre (A · d) s (i + n) - pre (A · d) s i := fun d n => by
    rw [pre_add]; ring
  have hb : ∀ d, back T (A · d) (K · d) v (s + i) = _ := fun d =>
    back_block T (A · d) (K · d) v (s + i) (L - i.val) (by omega)
  simp only [hb, hp, add_assoc s, hL, sum_mul, mul_add, mul_sum, sum_add_distrib]
  rw [sum_comm, add_comm]
  congr 1
  · exact sum_congr rfl fun d _ => by ring
  · exact sum_congr rfl fun d _ => sum_congr rfl fun j _ => by ring

/-- The state after a block. -/
theorem fwd_next (a k : ℕ → ℝ) : state a k v (s + L) = state a k v s * Real.exp (pre a s L)
      + ∑ j : Fin L, k (s + j) * Real.exp (pre a s L - pre a s (j + 1)) * v (s + j) := by
  rw [state_block, Fin.sum_univ_eq_sum_range (fun j => k (s + j) * Real.exp (pre a s L - pre a s (j + 1)) * v (s + j)) L, mul_comm]
  congr 1
  exact sum_congr rfl fun j _ => by ring

/-- The backward state before a block. -/
theorem bwd_next (T : ℕ) (h : s + L ≤ T) (a k : ℕ → ℝ) : back T a k v s = back T a k v (s + L) * Real.exp (pre a s L)
      + ∑ j : Fin L, k (s + j) * Real.exp (pre a s j) * v (s + j) := by
  rw [back_block T a k v s L h, Fin.sum_univ_eq_sum_range (fun j => k (s + j) * Real.exp (pre a s j) * v (s + j)) L, mul_comm]
  congr 1
  exact sum_congr rfl fun j _ => by ring

end Block

/-- Powers of two as exponentials. -/
theorem two_rpow (x : ℝ) : Real.rpow 2 x = Real.exp (x * Real.log 2) := by
  rw [mul_comm]; exact Real.rpow_def_of_pos (by norm_num) x

end Cert.Scan

end
-- ==== Proof.Scan.PairOps.lean ====
/-
  One pair of 64-row chunks of the scan, as vector operations: the rescaled queries and keys of a chunk and direction
  (`fq`, `fk`; `bq`, `bk`), the masked scores, the operands of the two states' updates, the rows of the output.
-/
module

public import proofs.«01_k».proof.Proof.Gen.KernelIdeal.Skeleton
public import proofs.«01_k».proof.Proof.Scan.Recurrence

@[expose] public section

set_option maxRecDepth 16384

noncomputable section

namespace Cert.KernelIdeal.Scan

open Cert.KernelIdeal Cert.KernelIdeal.Gen
open Idealize.ShloMosaic
open Cert.KernelIdeal.Facts

variable {F : FTy → Type} [FloatOps F]

/-- Row 32 of a chunk, the reference row of its rescaling. -/
def mid (c : FVec F S64x128 .f32) : FVec F S1x128 .f32 := extractStridedSlice S1x128 ![32, 0] c slices_S64x128_o32_0_S1x128
/-- The last row of a chunk. -/
def last (c : FVec F S64x128 .f32) : FVec F S1x128 .f32 := extractStridedSlice S1x128 ![63, 0] c slices_S64x128_o63_0_S1x128
/-- A row repeated over a chunk. -/
def rep (r : FVec F S1x128 .f32) : FVec F S64x128 .f32 := broadcastTo S64x128 r broadcasts_S1x128_S64x128
/-- Two to the minus. -/
def dn (x : FVec F S64x128 .f32) : FVec F S64x128 .f32 := exp2 (subf (broadcast S64x128 (Scalar.ofBits .f32 0x00000000#32)) x)
/-- Every row of a chunk times two to a row of exponents. -/
def scaled (x : FVec F S64x128 .f32) (r : FVec F S1x128 .f32) : FVec F S64x128 .f32 := mulf x (rep (exp2 r))
/-- Rows 0 … 63 of a pair. -/
def top (x : FVec F S128x128 .f32) : FVec F S64x128 .f32 := extractStridedSlice S64x128 ![0, 0] x slices_S128x128_o0_0_S64x128
/-- Rows 64 … 127 of a pair. -/
def bot (x : FVec F S128x128 .f32) : FVec F S64x128 .f32 := extractStridedSlice S64x128 ![64, 0] x slices_S128x128_o64_0_S64x128
/-- Two chunks as a pair. -/
def pair (x y : FVec F S64x128 .f32) : FVec F S128x128 .f32 := concatenate S128x128 0 [⟨S64x128, x⟩, ⟨S64x128, y⟩] concatenates_S64x128_S64x128_S128x128_d0
/-- Two chunks as a pair, in the narrow format. -/
def pairN (x y : FVec F S64x128 .f32) : FVec F S128x128 .bf16 :=
  concatenate S128x128 0 [⟨S64x128, truncf .bf16 x bitsLt_bf16_f32⟩, ⟨S64x128, truncf .bf16 y bitsLt_bf16_f32⟩] concatenates_S64x128_S64x128_S128x128_d0
/-- Queries against a pair's keys. -/
def against (q : FVec F S64x128 .f32) (k : FVec F S128x128 .bf16) : FVec F S64x128 .f32 :=
  matmul dot_S64x128_S128x128_S64x128_1_1_0_0_n_n none (truncf .bf16 q bitsLt_bf16_f32) k (constant S64x128 .f32 0x00000000#32)

/-! ## Forward -/

def fRel (c : FVec F S64x128 .f32) : FVec F S64x128 .f32 := subf c (rep (mid c))
def fTrail (c : FVec F S64x128 .f32) : FVec F S1x128 .f32 := subf (last c) (mid c)
def fq (q c : FVec F S64x128 .f32) : FVec F S64x128 .f32 := mulf q (exp2 (fRel c))
def fk (k c : FVec F S64x128 .f32) : FVec F S64x128 .f32 := mulf k (dn (fRel c))

/-- The forward cumulative gates of the two chunks. -/
def ca (cum : FVec F S128x256 .f32) : FVec F S64x128 .f32 := extractStridedSlice S64x128 ![0, 0] cum slices_S128x256_o0_0_S64x128
def cb (cum : FVec F S128x256 .f32) : FVec F S64x128 .f32 := extractStridedSlice S64x128 ![64, 0] cum slices_S128x256_o64_0_S64x128

def scoresF (m : IVec S128x128 1) (q k : FVec F S128x128 .f32) (cum : FVec F S128x256 .f32) : FVec F S128x128 .f32 :=
  select m
    (pair (against (fq (top q) (ca cum)) (pairN (fk (top k) (ca cum)) (fk (bot k) (cb cum))))
      (against (fq (bot q) (cb cum)) (pairN (scaled (fk (top k) (ca cum)) (addf (fTrail (ca cum)) (mid (cb cum)))) (fk (bot k) (cb cum)))))
    (broadcast S128x128 (Scalar.ofBits .f32 0x00000000#32))

def qiF (q : FVec F S128x128 .f32) (cum : FVec F S128x256 .f32) : FVec F S128x128 .bf16 :=
  truncf .bf16 (pair (scaled (fq (top q) (ca cum)) (mid (ca cum))) (scaled (fq (bot q) (cb cum)) (addf (mid (cb cum)) (last (ca cum))))) bitsLt_bf16_f32

def kpF (k : FVec F S128x128 .f32) (cum : FVec F S128x256 .f32) : FVec F S128x128 .bf16 :=
  truncf .bf16 (pair (scaled (fk (top k) (ca cum)) (addf (fTrail (ca cum)) (last (cb cum)))) (scaled (fk (bot k) (cb cum)) (fTrail (cb cum)))) bitsLt_bf16_f32

/-- A row of exponents, raised and turned into a column over the lanes. -/
def column (r : FVec F S1x128 .f32) : FVec F S128x128 .f32 :=
  transpose S128x128 [1, 0] (broadcastTo S128x128 (shapeCast S1x128 (exp2 r) shapeCasts_S1x128_S1x128) broadcasts_S1x128_S128x128) transposes_S128x128_p1_0_S128x128

def decF (cum : FVec F S128x256 .f32) : FVec F S128x128 .f32 := column (addf (last (ca cum)) (last (cb cum)))

/-! ## Backward -/

/-- The backward cumulative gates of the two chunks. -/
def da (cum : FVec F S128x256 .f32) : FVec F S64x128 .f32 := extractStridedSlice S64x128 ![0, 128] cum slices_S128x256_o0_128_S64x128
def db (cum : FVec F S128x256 .f32) : FVec F S64x128 .f32 := extractStridedSlice S64x128 ![64, 128] cum slices_S128x256_o64_128_S64x128

def bRel (e : FVec F S64x128 .f32) : FVec F S64x128 .f32 := subf (rep (mid e)) e
def bLead (c e : FVec F S64x128 .f32) : FVec F S1x128 .f32 := subf (last c) (mid e)
def bq (q e : FVec F S64x128 .f32) : FVec F S64x128 .f32 := mulf q (exp2 (bRel e))
def bk (k e : FVec F S64x128 .f32) : FVec F S64x128 .f32 := mulf k (dn (bRel e))
def ea (g : FVec F S128x128 .f32) (cum : FVec F S128x256 .f32) : FVec F S64x128 .f32 := subf (da cum) (top g)
def eb (g : FVec F S128x128 .f32) (cum : FVec F S128x256 .f32) : FVec F S64x128 .f32 := subf (db cum) (bot g)

def scoresB (m : IVec S128x128 1) (q k g : FVec F S128x128 .f32) (cum : FVec F S128x256 .f32) : FVec F S128x128 .f32 :=
  select m
    (pair (against (bq (top q) (ea g cum)) (pairN (bk (top k) (ea g cum)) (scaled (bk (bot k) (eb g cum)) (addf (mid (eb g cum)) (bLead (da cum) (ea g cum))))))
      (against (bq (bot q) (eb g cum)) (pairN (bk (top k) (ea g cum)) (bk (bot k) (eb g cum)))))
    (broadcast S128x128 (Scalar.ofBits .f32 0x00000000#32))

def qiB (q g : FVec F S128x128 .f32) (cum : FVec F S128x256 .f32) : FVec F S128x128 .bf16 :=
  truncf .bf16 (pair (scaled (bq (top q) (ea g cum)) (addf (bLead (da cum) (ea g cum)) (last (db cum)))) (scaled (bq (bot q) (eb g cum)) (bLead (db cum) (eb g cum)))) bitsLt_bf16_f32

def kpB (k g : FVec F S128x128 .f32) (cum : FVec F S128x256 .f32) : FVec F S128x128 .bf16 :=
  truncf .bf16 (pair (scaled (bk (top k) (ea g cum)) (mid (ea g cum))) (scaled (bk (bot k) (eb g cum)) (addf (mid (eb g cum)) (last (da cum))))) bitsLt_bf16_f32

def decB (cum : FVec F S128x256 .f32) : FVec F S128x128 .f32 := column (addf (last (da cum)) (last (db cum)))

/-! ## The pair -/

/-- The scores of both directions. -/
def scores (m2 m3 : IVec S128x128 1) (q k g : FVec F S128x128 .f32) (cum : FVec F S128x256 .f32) : FVec F S128x128 .bf16 :=
  truncf .bf16 (addf (scoresF m2 q k cum) (scoresB m3 q k g cum)) bitsLt_bf16_f32

/-- The keys of both directions against the values: the increments of the two states. -/
def incr (k g : FVec F S128x128 .f32) (cum : FVec F S128x256 .f32) (v : FVec F S128x256 .bf16) : FVec F S256x256 .f32 :=
  matmul dot_S128x256_S128x256_S256x256_0_0_1_1_n_n none
    (concatenate S128x256 1 [⟨S128x128, kpF k cum⟩, ⟨S128x128, kpB k g cum⟩] concatenates_S128x128_S128x128_S128x256_d1) v (constant S256x256 .f32 0x00000000#32)

def incrF (k g : FVec F S128x128 .f32) (cum : FVec F S128x256 .f32) (v : FVec F S128x256 .bf16) : FVec F S128x256 .f32 :=
  extractStridedSlice S128x256 ![0, 0] (incr k g cum v) slices_S256x256_o0_0_S128x256
def incrB (k g : FVec F S128x128 .f32) (cum : FVec F S128x256 .f32) (v : FVec F S128x256 .bf16) : FVec F S128x256 .f32 :=
  extractStridedSlice S128x256 ![128, 0] (incr k g cum v) slices_S256x256_o128_0_S128x256

/-- The rows of the output accumulator, from the forward state before the pair. -/
def rows (m2 m3 : IVec S128x128 1) (q k g : FVec F S128x128 .f32) (cum : FVec F S128x256 .f32) (v : FVec F S128x256 .bf16) (st : FVec F S128x256 .f32) : FVec F S128x256 .f32 :=
  matmul dot_S128x256_S256x256_S128x256_1_0_0_1_n_n none
    (concatenate S128x256 1 [⟨S128x128, scores m2 m3 q k g cum⟩, ⟨S128x128, qiF q cum⟩] concatenates_S128x128_S128x128_S128x256_d1)
    (concatenate S256x256 0 [⟨S128x256, v⟩, ⟨S128x256, truncf .bf16 st bitsLt_bf16_f32⟩] concatenates_S128x256_S128x256_S256x256_d0)
    (constant S128x256 .f32 0x00000000#32)

/-- A state decayed by a column of factors, an increment added. -/
def decayed (st : FVec F S128x256 .f32) (dec : FVec F S128x128 .f32) (u : FVec F S128x256 .f32) : FVec F S128x256 .f32 :=
  addf (mulf st (concatenate S128x256 1 [⟨S128x128, dec⟩, ⟨S128x128, dec⟩] concatenates_S128x128_S128x128_S128x256_d1)) u

/-- A staged block's pair, widened. -/
def wide (x : FVec F S1x128x128 .bf16) : FVec F S128x128 .f32 := extf .f32 (shapeCast S128x128 x shapeCasts_S1x128x128_S128x128) bitsLt_bf16_f32
/-- A staged pair of value rows. -/
def flat (x : FVec F S1x128x256 .bf16) : FVec F S128x256 .bf16 := shapeCast S128x256 x shapeCasts_S1x128x256_S128x256

end Cert.KernelIdeal.Scan

end
-- ==== Proof.Scan.PairRead.lean ====
/-
  The vector operations of a pair read at an index, in exact arithmetic.
-/
module

public import proofs.«01_k».proof.Proof.Scan.PairOps

@[expose] public section

set_option maxRecDepth 16384

noncomputable section

namespace Cert.KernelIdeal.Scan

open Cert.KernelIdeal Cert.KernelIdeal.Gen
open Idealize.ShloMosaic
open Cert.KernelIdeal.Facts

theorem mid_apply (c : FVec Ideal S64x128 .f32) (d : Fin 128) : mid c (ix2 0 d) = c (ix2 32 d) := by
  pointwise [mid]

theorem last_apply (c : FVec Ideal S64x128 .f32) (d : Fin 128) : last c (ix2 0 d) = c (ix2 63 d) := by
  pointwise [last]

theorem rep_apply (r : FVec Ideal S1x128 .f32) (i : Fin 64) (d : Fin 128) : rep r (ix2 i d) = r (ix2 0 d) := by
  pointwise [rep]

theorem dn_apply (x : FVec Ideal S64x128 .f32) (i : Fin 64) (d : Fin 128) : dn x (ix2 i d) = Ideal.exp2 (0 - x (ix2 i d)) := by
  pointwise [dn]
  rfl

theorem scaled_apply (x : FVec Ideal S64x128 .f32) (r : FVec Ideal S1x128 .f32) (i : Fin 64) (d : Fin 128) :
    scaled x r (ix2 i d) = x (ix2 i d) * Ideal.exp2 (r (ix2 0 d)) := by
  pointwise [scaled, rep]
  rfl

theorem top_apply (x : FVec Ideal S128x128 .f32) (i : Fin 64) (d : Fin 128) : top x (ix2 i d) = x (ix2 ⟨i, by omega⟩ d) := by
  pointwise [top]

theorem bot_apply (x : FVec Ideal S128x128 .f32) (i : Fin 64) (d : Fin 128) : bot x (ix2 i d) = x (ix2 ⟨64 + i, by omega⟩ d) := by
  pointwise [bot]

theorem ca_apply (x : FVec Ideal S128x256 .f32) (i : Fin 64) (d : Fin 128) : ca x (ix2 i d) = x (ix2 ⟨i, by omega⟩ ⟨d, by omega⟩) := by
  pointwise [ca]

theorem cb_apply (x : FVec Ideal S128x256 .f32) (i : Fin 64) (d : Fin 128) : cb x (ix2 i d) = x (ix2 ⟨64 + i, by omega⟩ ⟨d, by omega⟩) := by
  pointwise [cb]

theorem da_apply (x : FVec Ideal S128x256 .f32) (i : Fin 64) (d : Fin 128) : da x (ix2 i d) = x (ix2 ⟨i, by omega⟩ ⟨128 + d, by omega⟩) := by
  pointwise [da]

theorem db_apply (x : FVec Ideal S128x256 .f32) (i : Fin 64) (d : Fin 128) : db x (ix2 i d) = x (ix2 ⟨64 + i, by omega⟩ ⟨128 + d, by omega⟩) := by
  pointwise [db]

theorem pair_apply (x y : FVec Ideal S64x128 .f32) (i : Fin 128) (d : Fin 128) :
    pair x y (ix2 i d) = if h : i.val < 64 then x (ix2 ⟨i, h⟩ d) else y (ix2 ⟨i - 64, by omega⟩ d) := by
  pointwise [pair]

theorem pairN_apply (x y : FVec Ideal S64x128 .f32) (i : Fin 128) (d : Fin 128) :
    pairN x y (ix2 i d) = if h : i.val < 64 then x (ix2 ⟨i, h⟩ d) else y (ix2 ⟨i - 64, by omega⟩ d) := by
  pointwise [pairN]

theorem against_apply (q : FVec Ideal S64x128 .f32) (k : FVec Ideal S128x128 .bf16) (i : Fin 64) (j : Fin 128) :
    against q k (ix2 i j) = ∑ d : Fin 128, q (ix2 i d) * k (ix2 j d) := by
  pointwise [against]

theorem column_apply (r : FVec Ideal S1x128 .f32) (d e : Fin 128) : column r (ix2 d e) = Ideal.exp2 (r (ix2 0 d)) := by
  pointwise [column]
  rfl

theorem decayed_apply (st : FVec Ideal S128x256 .f32) (dec : FVec Ideal S128x128 .f32) (u : FVec Ideal S128x256 .f32) (d : Fin 128) (e : Fin 256) :
    decayed st dec u (ix2 d e) = st (ix2 d e) * dec (ix2 d ⟨e % 128, by omega⟩) + u (ix2 d e) := by
  pointwise [decayed]
  have he := e.isLt
  split
  · simp only [show e.val % 128 = e.val by omega]
  · simp only [show e.val % 128 = e.val - 128 by omega]

theorem wide_apply (x : FVec Ideal S1x128x128 .bf16) (i d : Fin 128) : wide x (ix2 i d) = x (ix3 0 i d) := by
  pointwise [wide]

theorem flat_apply (x : FVec Ideal S1x128x256 .bf16) (i : Fin 128) (e : Fin 256) : flat x (ix2 i e) = x (ix3 0 i e) := by
  pointwise [flat]

theorem incrF_apply (k g : FVec Ideal S128x128 .f32) (cum : FVec Ideal S128x256 .f32) (v : FVec Ideal S128x256 .bf16) (d : Fin 128) (e : Fin 256) :
    incrF k g cum v (ix2 d e) = ∑ j : Fin 128, kpF k cum (ix2 j d) * v (ix2 j e) := by
  pointwise [incrF, incr]

theorem incrB_apply (k g : FVec Ideal S128x128 .f32) (cum : FVec Ideal S128x256 .f32) (v : FVec Ideal S128x256 .bf16) (d : Fin 128) (e : Fin 256) :
    incrB k g cum v (ix2 d e) = ∑ j : Fin 128, kpB k g cum (ix2 j d) * v (ix2 j e) := by
  pointwise [incrB, incr]

theorem rows_apply (m2 m3 : IVec S128x128 1) (q k g : FVec Ideal S128x128 .f32) (cum : FVec Ideal S128x256 .f32) (v : FVec Ideal S128x256 .bf16) (st : FVec Ideal S128x256 .f32)
    (i : Fin 128) (e : Fin 256) :
    rows m2 m3 q k g cum v st (ix2 i e) = ∑ j : Fin 128, scores m2 m3 q k g cum (ix2 i j) * v (ix2 j e)
      + ∑ d : Fin 128, qiF q cum (ix2 i d) * st (ix2 d e) := by
  pointwise [rows]

end Cert.KernelIdeal.Scan

end
-- ==== Proof.Scan.PairVals.lean ====
/-
  What a pair computes when its operands are real: rescaled queries and keys are the queries and keys times the
  exponential of a difference of running sums of the gates, so every product of a query and a key carries exactly the
  decay between their rows.
-/
module

public import proofs.«01_k».proof.Proof.Scan.PairRead

@[expose] public section

set_option maxRecDepth 16384

noncomputable section

namespace Cert.KernelIdeal.Scan

open Cert.KernelIdeal Cert.KernelIdeal.Gen Cert.Scan
open Idealize.ShloMosaic
open Cert.KernelIdeal.Facts

/-- A finite sum of reals, read among the extended reals. -/
theorem coe_sum_real {ι : Type*} (t : Finset ι) (f : ι → ℝ) : ((∑ i ∈ t, f i : ℝ) : EReal) = ∑ i ∈ t, (f i : EReal) := by
  classical
  induction t using Finset.induction with
  | empty => simp
  | insert a t h ih => rw [Finset.sum_insert h, Finset.sum_insert h, EReal.coe_add, ih]

/-- Two to a difference of reals. -/
theorem exp2_real (x : ℝ) : Ideal.exp2 (x : EReal) = ((Real.exp (x * Real.log 2) : ℝ) : EReal) := by
  rw [Ideal.exp2_coe, two_rpow]

section Chunk

variable {x c e : FVec Ideal S64x128 .f32} {X C E : Fin 64 → Fin 128 → ℝ}
  (hx : ∀ i d, x (ix2 i d) = ((X i d : ℝ) : EReal)) (hc : ∀ i d, c (ix2 i d) = ((C i d : ℝ) : EReal)) (he : ∀ i d, e (ix2 i d) = ((E i d : ℝ) : EReal))

include hx hc in
theorem fq_val (i : Fin 64) (d : Fin 128) : fq x c (ix2 i d) = ((X i d * Real.exp ((C i d - C 32 d) * Real.log 2) : ℝ) : EReal) := by
  have h : fq x c (ix2 i d) = x (ix2 i d) * Ideal.exp2 (c (ix2 i d) - c (ix2 32 d)) := by
    pointwise [fq, fRel, rep, mid]; rfl
  rw [h, hx, hc, hc, ← EReal.coe_sub, exp2_real, ← EReal.coe_mul]

include hx hc in
theorem fk_val (i : Fin 64) (d : Fin 128) : fk x c (ix2 i d) = ((X i d * Real.exp ((C 32 d - C i d) * Real.log 2) : ℝ) : EReal) := by
  have h : fk x c (ix2 i d) = x (ix2 i d) * Ideal.exp2 (0 - (c (ix2 i d) - c (ix2 32 d))) := by
    pointwise [fk, dn, fRel, rep, mid]; rfl
  rw [h, hx, hc, hc, ← EReal.coe_sub, ← EReal.coe_zero, ← EReal.coe_sub, exp2_real, ← EReal.coe_mul]
  congr 4; ring

include hx he in
theorem bq_val (i : Fin 64) (d : Fin 128) : bq x e (ix2 i d) = ((X i d * Real.exp ((E 32 d - E i d) * Real.log 2) : ℝ) : EReal) := by
  have h : bq x e (ix2 i d) = x (ix2 i d) * Ideal.exp2 (e (ix2 32 d) - e (ix2 i d)) := by
    pointwise [bq, bRel, rep, mid]; rfl
  rw [h, hx, he, he, ← EReal.coe_sub, exp2_real, ← EReal.coe_mul]

include hx he in
theorem bk_val (i : Fin 64) (d : Fin 128) : bk x e (ix2 i d) = ((X i d * Real.exp ((E i d - E 32 d) * Real.log 2) : ℝ) : EReal) := by
  have h : bk x e (ix2 i d) = x (ix2 i d) * Ideal.exp2 (0 - (e (ix2 32 d) - e (ix2 i d))) := by
    pointwise [bk, dn, bRel, rep, mid]; rfl
  rw [h, hx, he, he, ← EReal.coe_sub, ← EReal.coe_zero, ← EReal.coe_sub, exp2_real, ← EReal.coe_mul]
  congr 4; ring

include hc in
theorem fTrail_val (d : Fin 128) : fTrail c (ix2 0 d) = ((C 63 d - C 32 d : ℝ) : EReal) := by
  have h : fTrail c (ix2 0 d) = c (ix2 63 d) - c (ix2 32 d) := by pointwise [fTrail, last, mid]
  rw [h, hc, hc, ← EReal.coe_sub]

include hc he in
theorem bLead_val (d : Fin 128) : bLead c e (ix2 0 d) = ((C 63 d - E 32 d : ℝ) : EReal) := by
  have h : bLead c e (ix2 0 d) = c (ix2 63 d) - e (ix2 32 d) := by pointwise [bLead, last, mid]
  rw [h, hc, he, ← EReal.coe_sub]

theorem add_row (r t : FVec Ideal S1x128 .f32) (d : Fin 128) : addf r t (ix2 0 d) = r (ix2 0 d) + t (ix2 0 d) := by pointwise

include hx in
theorem scaled_val {r : FVec Ideal S1x128 .f32} {ρ : Fin 128 → ℝ} (hr : ∀ d, r (ix2 0 d) = ((ρ d : ℝ) : EReal)) (i : Fin 64) (d : Fin 128) :
    scaled x r (ix2 i d) = ((X i d * Real.exp (ρ d * Real.log 2) : ℝ) : EReal) := by
  rw [scaled_apply, hx, hr, exp2_real, ← EReal.coe_mul]

end Chunk

/-- The operands of a pair at rows `s …` of the sequence, lane by lane: queries, keys, values, and the two gates with
    their running sums within each chunk. -/
structure Operands (Q K GF GB : ℕ → Fin 128 → ℝ) (s : ℕ) (q k g : FVec Ideal S128x128 .f32) (cum : FVec Ideal S128x256 .f32) : Prop where
  q : ∀ i d, q (ix2 i d) = ((Q (s + i) d : ℝ) : EReal)
  k : ∀ i d, k (ix2 i d) = ((K (s + i) d : ℝ) : EReal)
  g : ∀ i d, g (ix2 i d) = ((GB (s + i) d : ℝ) : EReal)
  fa : ∀ (i : Fin 64) (d : Fin 128), cum (ix2 ⟨i, by omega⟩ ⟨d, by omega⟩) = ((pre (GF · d) s (i + 1) : ℝ) : EReal)
  fb : ∀ (i : Fin 64) (d : Fin 128), cum (ix2 ⟨64 + i, by omega⟩ ⟨d, by omega⟩) = ((pre (GF · d) (s + 64) (i + 1) : ℝ) : EReal)
  ba : ∀ (i : Fin 64) (d : Fin 128), cum (ix2 ⟨i, by omega⟩ ⟨128 + d, by omega⟩) = ((pre (GB · d) s (i + 1) : ℝ) : EReal)
  bb : ∀ (i : Fin 64) (d : Fin 128), cum (ix2 ⟨64 + i, by omega⟩ ⟨128 + d, by omega⟩) = ((pre (GB · d) (s + 64) (i + 1) : ℝ) : EReal)

/-- A gate in natural units. -/
def nat2 (G : ℕ → Fin 128 → ℝ) (t : ℕ) (d : Fin 128) : ℝ := G t d * Real.log 2

theorem pre_nat2 (G : ℕ → Fin 128 → ℝ) (s n : ℕ) (d : Fin 128) : pre (nat2 G · d) s n = pre (G · d) s n * Real.log 2 := by
  simp only [pre, nat2, Finset.sum_mul]

theorem v32 : ((32 : Fin 64) : ℕ) = 32 := rfl

/-- Two factors' exponents add up. -/
theorem glue {x a b c : ℝ} (h : a + b = c) : ((x * Real.exp a * Real.exp b : ℝ) : EReal) = ((x * Real.exp c : ℝ) : EReal) := by
  rw [mul_assoc, ← Real.exp_add, h]

theorem glueSum {x y a b c : Fin 128 → ℝ} (h : ∀ d, a d + b d = c d) :
    ((∑ d, (x d * Real.exp (a d)) * (y d * Real.exp (b d)) : ℝ) : EReal) = ((∑ d, x d * y d * Real.exp (c d) : ℝ) : EReal) := by
  congr 1
  refine Finset.sum_congr rfl fun d _ => ?_
  rw [← h, Real.exp_add]; ring

/-- A row of queries against one key. -/
theorem against_val {q : FVec Ideal S64x128 .f32} {k : FVec Ideal S128x128 .bf16} {A : Fin 64 → Fin 128 → ℝ} {B : Fin 128 → ℝ} {j : Fin 128}
    (hq : ∀ i d, q (ix2 i d) = ((A i d : ℝ) : EReal)) (hk : ∀ d, k (ix2 j d) = ((B d : ℝ) : EReal)) (i : Fin 64) :
    against q k (ix2 i j) = ((∑ d, A i d * B d : ℝ) : EReal) := by
  rw [against_apply, coe_sum_real]
  exact Finset.sum_congr rfl fun d _ => by rw [hq, hk, ← EReal.coe_mul]

namespace Operands

variable {Q K GF GB : ℕ → Fin 128 → ℝ} {s : ℕ} {q k g : FVec Ideal S128x128 .f32} {cum : FVec Ideal S128x256 .f32}
  (h : Operands Q K GF GB s q k g cum)

include h

theorem qa (i : Fin 64) (d : Fin 128) : top q (ix2 i d) = ((Q (s + i) d : ℝ) : EReal) := by rw [top_apply, h.q]
theorem qb (i : Fin 64) (d : Fin 128) : bot q (ix2 i d) = ((Q (s + (64 + i)) d : ℝ) : EReal) := by rw [bot_apply, h.q]
theorem ka (i : Fin 64) (d : Fin 128) : top k (ix2 i d) = ((K (s + i) d : ℝ) : EReal) := by rw [top_apply, h.k]
theorem kb (i : Fin 64) (d : Fin 128) : bot k (ix2 i d) = ((K (s + (64 + i)) d : ℝ) : EReal) := by rw [bot_apply, h.k]
theorem cA (i : Fin 64) (d : Fin 128) : ca cum (ix2 i d) = ((pre (GF · d) s (i + 1) : ℝ) : EReal) := by rw [ca_apply, h.fa]
theorem cB (i : Fin 64) (d : Fin 128) : cb cum (ix2 i d) = ((pre (GF · d) (s + 64) (i + 1) : ℝ) : EReal) := by rw [cb_apply, h.fb]
theorem dA (i : Fin 64) (d : Fin 128) : da cum (ix2 i d) = ((pre (GB · d) s (i + 1) : ℝ) : EReal) := by rw [da_apply, h.ba]
theorem dB (i : Fin 64) (d : Fin 128) : db cum (ix2 i d) = ((pre (GB · d) (s + 64) (i + 1) : ℝ) : EReal) := by rw [db_apply, h.bb]

theorem eA (i : Fin 64) (d : Fin 128) : ea g cum (ix2 i d) = ((pre (GB · d) s i : ℝ) : EReal) := by
  have e : ea g cum (ix2 i d) = da cum (ix2 i d) - top g (ix2 i d) := by pointwise [ea]
  rw [e, h.dA, top_apply, h.g, ← EReal.coe_sub, pre_succ]; congr 1; simp

theorem eB (i : Fin 64) (d : Fin 128) : eb g cum (ix2 i d) = ((pre (GB · d) (s + 64) i : ℝ) : EReal) := by
  have e : eb g cum (ix2 i d) = db cum (ix2 i d) - bot g (ix2 i d) := by pointwise [eb]
  rw [e, h.dB, bot_apply, h.g, ← EReal.coe_sub, pre_succ]; congr 1; simp [add_assoc]

/-- Queries against the forward state: decayed from the pair's first row through their own. -/
theorem qiF_val (i d : Fin 128) : qiF q cum (ix2 i d) = ((Q (s + i) d * Real.exp (pre (nat2 GF · d) s (i + 1)) : ℝ) : EReal) := by
  have e : qiF q cum (ix2 i d) = pair (scaled (fq (top q) (ca cum)) (mid (ca cum))) (scaled (fq (bot q) (cb cum)) (addf (mid (cb cum)) (last (ca cum)))) (ix2 i d) := by
    pointwise [qiF]
  rw [e, pair_apply, pre_nat2]
  split
  · rename_i hi
    rw [scaled_val (fq_val h.qa h.cA) (ρ := fun d => pre (GF · d) s 33) (fun d => by rw [mid_apply, h.cA]; rfl)]
    refine glue ?_
    rw [v32]; ring
  · rename_i hi
    rw [scaled_val (fq_val h.qb h.cB) (ρ := fun d => pre (GF · d) (s + 64) 33 + pre (GF · d) s 64) (fun d => by
      rw [add_row, mid_apply, last_apply, h.cB, h.cA, ← EReal.coe_add]; rfl)]
    simp only [show 64 + (i.val - 64) = i.val by omega]
    refine glue ?_
    rw [show i.val + 1 = 64 + (i.val - 64 + 1) by omega, pre_add _ s 64, v32]; ring

/-- Keys for the forward state: decayed from after their own row to the pair's end. -/
theorem kpF_val (j d : Fin 128) : kpF k cum (ix2 j d) = ((K (s + j) d * Real.exp (pre (nat2 GF · d) s 128 - pre (nat2 GF · d) s (j + 1)) : ℝ) : EReal) := by
  have e : kpF k cum (ix2 j d) = pair (scaled (fk (top k) (ca cum)) (addf (fTrail (ca cum)) (last (cb cum)))) (scaled (fk (bot k) (cb cum)) (fTrail (cb cum))) (ix2 j d) := by
    pointwise [kpF]
  rw [e, pair_apply, pre_nat2, pre_nat2, pre_add _ s 64 64]
  split
  · rename_i hi
    rw [scaled_val (fk_val h.ka h.cA) (ρ := fun d => pre (GF · d) s 64 - pre (GF · d) s 33 + pre (GF · d) (s + 64) 64) (fun d => by
      rw [add_row, fTrail_val h.cA, last_apply, h.cB, ← EReal.coe_add]; rfl)]
    refine glue ?_
    rw [v32]; ring
  · rename_i hi
    rw [scaled_val (fk_val h.kb h.cB) (ρ := fun d => pre (GF · d) (s + 64) 64 - pre (GF · d) (s + 64) 33) (fun d => by
      rw [fTrail_val h.cB]; rfl)]
    simp only [show 64 + (j.val - 64) = j.val by omega]
    refine glue ?_
    rw [show j.val + 1 = 64 + (j.val - 64 + 1) by omega, pre_add _ s 64, v32]; ring

theorem decF_val (d e : Fin 128) : decF cum (ix2 d e) = ((Real.exp (pre (nat2 GF · d) s 128) : ℝ) : EReal) := by
  have e : decF cum (ix2 d e) = Ideal.exp2 (last (ca cum) (ix2 0 d) + last (cb cum) (ix2 0 d)) := by
    rw [decF, column_apply, add_row]
  rw [e, last_apply, last_apply, h.cA, h.cB, ← EReal.coe_add, exp2_real, pre_nat2, pre_add _ s 64 64]; rfl

/-- Queries against the backward state: decayed from their own row through the pair's last. -/
theorem qiB_val (i d : Fin 128) : qiB q g cum (ix2 i d) = ((Q (s + i) d * Real.exp (pre (nat2 GB · d) s 128 - pre (nat2 GB · d) s i) : ℝ) : EReal) := by
  have e : qiB q g cum (ix2 i d) = pair (scaled (bq (top q) (ea g cum)) (addf (bLead (da cum) (ea g cum)) (last (db cum)))) (scaled (bq (bot q) (eb g cum)) (bLead (db cum) (eb g cum))) (ix2 i d) := by
    pointwise [qiB]
  rw [e, pair_apply, pre_nat2, pre_nat2, pre_add _ s 64 64]
  split
  · rename_i hi
    rw [scaled_val (bq_val h.qa h.eA) (ρ := fun d => pre (GB · d) s 64 - pre (GB · d) s 32 + pre (GB · d) (s + 64) 64) (fun d => by
      rw [add_row, bLead_val h.dA h.eA, last_apply, h.dB, ← EReal.coe_add]; rfl)]
    refine glue ?_
    rw [v32]; ring
  · rename_i hi
    rw [scaled_val (bq_val h.qb h.eB) (ρ := fun d => pre (GB · d) (s + 64) 64 - pre (GB · d) (s + 64) 32) (fun d => by
      rw [bLead_val h.dB h.eB]; rfl)]
    simp only [show 64 + (i.val - 64) = i.val by omega]
    refine glue ?_
    rw [show pre (GB · d) s i.val = pre (GB · d) s (64 + (i.val - 64)) by rw [show 64 + (i.val - 64) = i.val by omega], pre_add _ s 64, v32]; ring

/-- Keys for the backward state: decayed from the pair's first row to before their own. -/
theorem kpB_val (j d : Fin 128) : kpB k g cum (ix2 j d) = ((K (s + j) d * Real.exp (pre (nat2 GB · d) s j) : ℝ) : EReal) := by
  have e : kpB k g cum (ix2 j d) = pair (scaled (bk (top k) (ea g cum)) (mid (ea g cum))) (scaled (bk (bot k) (eb g cum)) (addf (mid (eb g cum)) (last (da cum)))) (ix2 j d) := by
    pointwise [kpB]
  rw [e, pair_apply, pre_nat2]
  split
  · rename_i hi
    rw [scaled_val (bk_val h.ka h.eA) (ρ := fun d => pre (GB · d) s 32) (fun d => by rw [mid_apply, h.eA]; rfl)]
    refine glue ?_
    rw [v32]; ring
  · rename_i hi
    rw [scaled_val (bk_val h.kb h.eB) (ρ := fun d => pre (GB · d) (s + 64) 32 + pre (GB · d) s 64) (fun d => by
      rw [add_row, mid_apply, last_apply, h.eB, h.dA, ← EReal.coe_add]; rfl)]
    simp only [show 64 + (j.val - 64) = j.val by omega]
    refine glue ?_
    rw [show pre (GB · d) s j.val = pre (GB · d) s (64 + (j.val - 64)) by rw [show 64 + (j.val - 64) = j.val by omega], pre_add _ s 64, v32]; ring

theorem decB_val (d e : Fin 128) : decB cum (ix2 d e) = ((Real.exp (pre (nat2 GB · d) s 128) : ℝ) : EReal) := by
  have e : decB cum (ix2 d e) = Ideal.exp2 (last (da cum) (ix2 0 d) + last (db cum) (ix2 0 d)) := by
    rw [decB, column_apply, add_row]
  rw [e, last_apply, last_apply, h.dA, h.dB, ← EReal.coe_add, exp2_real, pre_nat2, pre_add _ s 64 64]; rfl

/-- The forward scores: a query against the keys at or before its row, each product with the decay in between. -/
theorem scoresF_val {m : IVec S128x128 1} (hm : ∀ i j : Fin 128, m (ix2 i j) = if j ≤ i then 1#1 else 0#1) (i j : Fin 128) :
    scoresF m q k cum (ix2 i j) = ((if j.val ≤ i.val then ∑ d, Q (s + i) d * K (s + j) d
      * Real.exp (pre (nat2 GF · d) s (i + 1) - pre (nat2 GF · d) s (j + 1)) else 0 : ℝ) : EReal) := by
  have e : scoresF m q k cum (ix2 i j) = if j ≤ i then pair (against (fq (top q) (ca cum)) (pairN (fk (top k) (ca cum)) (fk (bot k) (cb cum))))
      (against (fq (bot q) (cb cum)) (pairN (scaled (fk (top k) (ca cum)) (addf (fTrail (ca cum)) (mid (cb cum)))) (fk (bot k) (cb cum)))) (ix2 i j) else 0 := by
    by_cases hij : j ≤ i <;> pointwise [scoresF] <;> simp [hm, hij, Scalar.select]
  rw [e]
  by_cases hij : j ≤ i
  · rw [if_pos hij, if_pos (by exact hij), pair_apply]
    simp only [pre_nat2]
    have hij' : j.val ≤ i.val := hij
    split
    · rename_i hi
      rw [against_val (fq_val h.qa h.cA) (B := fun d => K (s + j) d * Real.exp ((pre (GF · d) s 33 - pre (GF · d) s (j + 1)) * Real.log 2)) (fun d => by
        rw [pairN_apply, dif_pos (by omega), fk_val h.ka h.cA]; rfl)]
      refine glueSum fun d => ?_
      rw [v32]; ring
    · rename_i hi
      by_cases hj : j.val < 64
      · rw [against_val (fq_val h.qb h.cB) (B := fun d => K (s + j) d * Real.exp ((pre (GF · d) s 64 - pre (GF · d) s (j + 1) + pre (GF · d) (s + 64) 33) * Real.log 2)) (fun d => by
          rw [pairN_apply, dif_pos hj, scaled_val (fk_val h.ka h.cA) (ρ := fun d => pre (GF · d) s 64 - pre (GF · d) s 33 + pre (GF · d) (s + 64) 33) (fun d => by
            rw [add_row, fTrail_val h.cA, mid_apply, h.cB, ← EReal.coe_add]; rfl)]
          refine glue ?_
          rw [v32]; ring)]
        simp only [show 64 + (i.val - 64) = i.val by omega]
        refine glueSum fun d => ?_
        rw [show i.val + 1 = 64 + (i.val - 64 + 1) by omega, pre_add _ s 64, v32]; ring
      · rw [against_val (fq_val h.qb h.cB) (B := fun d => K (s + j) d * Real.exp ((pre (GF · d) (s + 64) 33 - pre (GF · d) (s + 64) (j - 64 + 1)) * Real.log 2)) (fun d => by
          rw [pairN_apply, dif_neg hj, fk_val h.kb h.cB]; simp only [show 64 + (j.val - 64) = j.val by omega]; rfl)]
        simp only [show 64 + (i.val - 64) = i.val by omega]
        refine glueSum fun d => ?_
        rw [show i.val + 1 = 64 + (i.val - 64 + 1) by omega, show j.val + 1 = 64 + (j.val - 64 + 1) by omega, pre_add _ s 64, pre_add _ s 64, v32]; ring
  · rw [if_neg hij, if_neg (by exact hij)]; rfl

/-- The backward scores: a query against the keys at or after its row. -/
theorem scoresB_val {m : IVec S128x128 1} (hm : ∀ i j : Fin 128, m (ix2 i j) = if i ≤ j then 1#1 else 0#1) (i j : Fin 128) :
    scoresB m q k g cum (ix2 i j) = ((if i.val ≤ j.val then ∑ d, Q (s + i) d * K (s + j) d
      * Real.exp (pre (nat2 GB · d) s j - pre (nat2 GB · d) s i) else 0 : ℝ) : EReal) := by
  have e : scoresB m q k g cum (ix2 i j) = if i ≤ j then pair (against (bq (top q) (ea g cum)) (pairN (bk (top k) (ea g cum)) (scaled (bk (bot k) (eb g cum)) (addf (mid (eb g cum)) (bLead (da cum) (ea g cum))))))
      (against (bq (bot q) (eb g cum)) (pairN (bk (top k) (ea g cum)) (bk (bot k) (eb g cum)))) (ix2 i j) else 0 := by
    by_cases hij : i ≤ j <;> pointwise [scoresB] <;> simp [hm, hij, Scalar.select]
  rw [e]
  by_cases hij : i ≤ j
  · rw [if_pos hij, if_pos (by exact hij), pair_apply]
    simp only [pre_nat2]
    have hij' : i.val ≤ j.val := hij
    split
    · rename_i hi
      by_cases hj : j.val < 64
      · rw [against_val (bq_val h.qa h.eA) (B := fun d => K (s + j) d * Real.exp ((pre (GB · d) s j - pre (GB · d) s 32) * Real.log 2)) (fun d => by
          rw [pairN_apply, dif_pos hj, bk_val h.ka h.eA]; rfl)]
        refine glueSum fun d => ?_
        rw [v32]; ring
      · rw [against_val (bq_val h.qa h.eA) (B := fun d => K (s + j) d * Real.exp ((pre (GB · d) (s + 64) (j - 64) + (pre (GB · d) s 64 - pre (GB · d) s 32)) * Real.log 2)) (fun d => by
          rw [pairN_apply, dif_neg hj, scaled_val (bk_val h.kb h.eB) (ρ := fun d => pre (GB · d) (s + 64) 32 + (pre (GB · d) s 64 - pre (GB · d) s 32)) (fun d => by
            rw [add_row, bLead_val h.dA h.eA, mid_apply, h.eB, ← EReal.coe_add]; rfl)]
          simp only [show 64 + (j.val - 64) = j.val by omega]
          refine glue ?_
          rw [v32]; ring)]
        refine glueSum fun d => ?_
        rw [show pre (GB · d) s j.val = pre (GB · d) s (64 + (j.val - 64)) by rw [show 64 + (j.val - 64) = j.val by omega], pre_add _ s 64, v32]; ring
    · rename_i hi
      rw [against_val (bq_val h.qb h.eB) (B := fun d => K (s + j) d * Real.exp ((pre (GB · d) (s + 64) (j - 64) - pre (GB · d) (s + 64) 32) * Real.log 2)) (fun d => by
        rw [pairN_apply, dif_neg (by omega), bk_val h.kb h.eB]; simp only [show 64 + (j.val - 64) = j.val by omega]; rfl)]
      simp only [show 64 + (i.val - 64) = i.val by omega]
      refine glueSum fun d => ?_
      rw [show pre (GB · d) s j.val = pre (GB · d) s (64 + (j.val - 64)) by rw [show 64 + (j.val - 64) = j.val by omega],
        show pre (GB · d) s i.val = pre (GB · d) s (64 + (i.val - 64)) by rw [show 64 + (i.val - 64) = i.val by omega], pre_add _ s 64, pre_add _ s 64, v32]; ring
  · rw [if_neg hij, if_neg (by exact hij)]; rfl

/-! ## The pair against its values -/

variable {V : ℕ → Fin 256 → ℝ} {v : FVec Ideal S128x256 .bf16} (hv : ∀ i e, v (ix2 i e) = ((V (s + i) e : ℝ) : EReal))

include hv

/-- The forward state after the pair, from the state before it. -/
theorem next_val {st : FVec Ideal S128x256 .f32} (hst : ∀ d e, st (ix2 d e) = ((state (nat2 GF · d) (K · d) (V · e) s : ℝ) : EReal)) (d : Fin 128) (e : Fin 256) :
    decayed st (decF cum) (incrF k g cum v) (ix2 d e) = ((state (nat2 GF · d) (K · d) (V · e) (s + 128) : ℝ) : EReal) := by
  rw [decayed_apply, hst, h.decF_val, incrF_apply, fwd_next (L := 128), EReal.coe_add, EReal.coe_mul, coe_sum_real]
  congr 1
  refine Finset.sum_congr rfl fun j _ => ?_
  rw [h.kpF_val, hv, ← EReal.coe_mul]

/-- The backward state before the pair, from the state after it. -/
theorem prev_val (hs : s + 128 ≤ 4096) {st : FVec Ideal S128x256 .f32} {dec : FVec Ideal S128x128 .f32} {u : FVec Ideal S128x256 .f32}
    (hst : ∀ d e, st (ix2 d e) = ((back 4096 (nat2 GB · d) (K · d) (V · e) (s + 128) : ℝ) : EReal))
    (hdec : ∀ d e, dec (ix2 d e) = decB cum (ix2 d e)) (hu : ∀ d e, u (ix2 d e) = incrB k g cum v (ix2 d e)) (d : Fin 128) (e : Fin 256) :
    decayed st dec u (ix2 d e) = ((back 4096 (nat2 GB · d) (K · d) (V · e) s : ℝ) : EReal) := by
  rw [decayed_apply, hst, hdec, h.decB_val, hu, incrB_apply, bwd_next (L := 128) _ _ 4096 hs, EReal.coe_add, EReal.coe_mul, coe_sum_real]
  congr 1
  refine Finset.sum_congr rfl fun j _ => ?_
  rw [h.kpB_val, hv, ← EReal.coe_mul]

/-- The backward part of an output row that the pair itself contributes. -/
def _root_.Cert.KernelIdeal.Scan.inner (Q K GB : ℕ → Fin 128 → ℝ) (V : ℕ → Fin 256 → ℝ) (s : ℕ) (i : Fin 128) (e : Fin 256) : ℝ :=
  ∑ j : Fin 128, (if i.val ≤ j.val then ∑ d, Q (s + i) d * K (s + j) d
      * Real.exp (pre (nat2 GB · d) s j - pre (nat2 GB · d) s i) else 0) * V (s + j) e

/-- The rows the accumulator gets: the whole forward part, and the pair's own share of the backward part. -/
theorem rows_val {m2 m3 : IVec S128x128 1} (hm2 : ∀ i j : Fin 128, m2 (ix2 i j) = if j ≤ i then 1#1 else 0#1) (hm3 : ∀ i j : Fin 128, m3 (ix2 i j) = if i ≤ j then 1#1 else 0#1)
    {st : FVec Ideal S128x256 .f32} (hst : ∀ d e, st (ix2 d e) = ((state (nat2 GF · d) (K · d) (V · e) s : ℝ) : EReal)) (i : Fin 128) (e : Fin 256) :
    rows m2 m3 q k g cum v st (ix2 i e)
      = ((∑ d, Q (s + i) d * state (nat2 GF · d) (K · d) (V · e) (s + i + 1) + inner Q K GB V s i e : ℝ) : EReal) := by
  have hsc : ∀ j, scores m2 m3 q k g cum (ix2 i j) = scoresF m2 q k cum (ix2 i j) + scoresB m3 q k g cum (ix2 i j) := fun j => by
    pointwise [scores]
  rw [rows_apply, ← fwd_row (L := 128) Q K (nat2 GF) (V · e) s i, inner]
  simp only [hsc, h.scoresF_val hm2, h.scoresB_val hm3, hv, h.qiF_val, hst, ← EReal.coe_add, ← EReal.coe_mul, ← coe_sum_real]
  congr 1
  simp only [add_mul, Finset.sum_add_distrib]; ring

end Operands

end Cert.KernelIdeal.Scan

end
-- ==== Proof.Scan.Reads.lean ====
/-
  Reading the scan's arrays: a load of a tile, and what four stores of consecutive tiles leave.
-/
module

public import proofs.«01_k».proof.Proof.Scan.PairVals
public import Idealize.ShloMosaic.Lib.WritesUnit
public import Idealize.ShloMosaic.Lib.VecWindow
public import Idealize.ShloMosaic.Lib.WholeRead

@[expose] public section

set_option maxRecDepth 16384

noncomputable section

namespace Cert.KernelIdeal.Scan

open Cert.KernelIdeal Cert.KernelIdeal.Gen Cert.Scan
open Idealize.ShloMosaic
open Cert.KernelIdeal.Facts

section Generic

variable {Val : EltTy → Type} {sg : RefSig} {κ : Kind} {sp : Space} {s : Shape} {e : EltTy} (v : View sg κ sp s e) (f : v.ty.Contents Val)

/-- A load of a unit-stride rectangle reads the array at the rectangle's offset plus the local index. -/
theorem readAt_at {off off' size : Fin s.rank → ℕ} (inb : ∀ a, off a + size a ≤ s.size a) (heq : off = off')
    (x : (⟨s.rank, size⟩ : Shape).Idx) (y : s.Idx) (hy : ∀ a, (y a).val = off' a + (x a).val) :
    v.readAt Val (Rect.unit off size inb).toLoadRect f x = v.read Val f y := by
  subst heq
  refine congrArg (v.read Val f) (funext fun a => Fin.ext ?_)
  show off a + 1 * (x a).val = (y a).val
  rw [hy a, Nat.one_mul]

/-- What four stores of consecutive tiles along one axis leave: each tile its own payload, everything below the first
    tile what was there. -/
theorem read_put4 {size off0 off1 off2 off3 o0 o1 o2 o3 : Fin s.rank → ℕ}
    {i0 : ∀ a, off0 a + size a ≤ s.size a} {i1 : ∀ a, off1 a + size a ≤ s.size a} {i2 : ∀ a, off2 a + size a ≤ s.size a} {i3 : ∀ a, off3 a + size a ≤ s.size a}
    (w0 w1 w2 w3 : (⟨s.rank, size⟩ : Shape).Idx → Val e) (e0 : off0 = o0) (e1 : off1 = o1) (e2 : off2 = o2) (e3 : off3 = o3)
    (ax : Fin s.rank) (h01 : o0 ax + size ax ≤ o1 ax) (h12 : o1 ax + size ax ≤ o2 ax) (h23 : o2 ax + size ax ≤ o3 ax) (y : s.Idx) :
    let r := v.read Val (v.writes Val f [⟨Rect.unit off3 size i3, w3⟩, ⟨Rect.unit off2 size i2, w2⟩, ⟨Rect.unit off1 size i1, w1⟩, ⟨Rect.unit off0 size i0, w0⟩]) y
    (∀ x, (∀ a, (y a).val = o3 a + (x a).val) → r = w3 x) ∧ (∀ x, (∀ a, (y a).val = o2 a + (x a).val) → r = w2 x)
      ∧ (∀ x, (∀ a, (y a).val = o1 a + (x a).val) → r = w1 x) ∧ (∀ x, (∀ a, (y a).val = o0 a + (x a).val) → r = w0 x)
      ∧ ((y ax).val < o0 ax → r = v.read Val f y) := by
  intro r
  have hx : ∀ x : (⟨s.rank, size⟩ : Shape).Idx, (x ax).val < size ax := fun x => (x ax).isLt
  refine ⟨fun x h => ?_, fun x h => ?_, fun x h => ?_, fun x h => ?_, fun h => ?_⟩
  · exact View.read_writes_cons_unit_of_mem v f i3 w3 _ y x e3 h
  · have := h ax; have := hx x
    refine (View.read_writes_cons_unit_of_not_mem v f i3 w3 _ y e3 ax (by omega)).trans ?_
    exact View.read_writes_cons_unit_of_mem v f i2 w2 _ y x e2 h
  · have := h ax; have := hx x
    refine (View.read_writes_cons_unit_of_not_mem v f i3 w3 _ y e3 ax (by omega)).trans ?_
    refine (View.read_writes_cons_unit_of_not_mem v f i2 w2 _ y e2 ax (by omega)).trans ?_
    exact View.read_writes_cons_unit_of_mem v f i1 w1 _ y x e1 h
  · have := h ax; have := hx x
    refine (View.read_writes_cons_unit_of_not_mem v f i3 w3 _ y e3 ax (by omega)).trans ?_
    refine (View.read_writes_cons_unit_of_not_mem v f i2 w2 _ y e2 ax (by omega)).trans ?_
    refine (View.read_writes_cons_unit_of_not_mem v f i1 w1 _ y e1 ax (by omega)).trans ?_
    exact View.read_writes_cons_unit_of_mem v f i0 w0 _ y x e0 h
  · refine (View.read_writes_cons_unit_of_not_mem v f i3 w3 _ y e3 ax (by omega)).trans ?_
    refine (View.read_writes_cons_unit_of_not_mem v f i2 w2 _ y e2 ax (by omega)).trans ?_
    refine (View.read_writes_cons_unit_of_not_mem v f i1 w1 _ y e1 ax (by omega)).trans ?_
    refine (View.read_writes_cons_unit_of_not_mem v f i0 w0 _ y e0 ax (by omega)).trans ?_
    rfl

end Generic

/-! ## The offsets -/

theorem trips8 (k : Fin k0_t1_loop.trips) : k.val < 8 := k.isLt

theorem off1_eq : ∀ (k : Fin k0_t1_loop.trips) (p : Fin 4), k0_off1 k (BitVec.ofNat 32 (128 * p.val)) = ![0, 128 * (4 * k.val + p.val), 0] := by decide +kernel
theorem off2_eq : ∀ (k : Fin k0_t1_loop.trips) (p : Fin 4), k0_off2 k (BitVec.ofNat 32 (128 * p.val)) = ![128 * (4 * k.val + p.val), 0] := by decide +kernel
theorem off3_eq : ∀ (k : Fin k0_t1_loop.trips) (p : Fin 4), k0_off3 k (BitVec.ofNat 32 p.val) = ![4 * k.val + p.val, 0, 0] := by decide +kernel
theorem off4_eq : ∀ (k : Fin k0_t1_loop.trips) (p : Fin 4), k0_off4 k (BitVec.ofNat 32 (128 * p.val)) = ![0, 128 * (4 * k.val + p.val), 0] := by decide +kernel
theorem off5_eq : ∀ (k : Fin k0_t1_loop.trips) (p : Fin 4), k0_off5 k (BitVec.ofNat 32 p.val) = ![4 * k.val + p.val, 0, 0] := by decide +kernel
theorem off6_eq : ∀ (k : Fin k0_t1_loop.trips) (p : Fin 4), k0_off6 k (BitVec.ofNat 32 (128 * p.val)) = ![128 * (4 * k.val + p.val), 0] := by decide +kernel
theorem off7_eq : ∀ (k : Fin k0_t1_loop.trips), k0_off7 k = ![0, 512 * min (k.val + 1) 7, 0] := by decide +kernel

/-! ## Four stores of one trip -/

/-- Cases of a tile among those of the trips so far. -/
theorem tile_cases {k n : ℕ} (h : n < 4 * (k + 1)) : n < 4 * k ∨ n = 4 * k ∨ n = 4 * k + 1 ∨ n = 4 * k + 2 ∨ n = 4 * k + 3 := by omega

theorem put_rows128 {κ : Kind} {sp : Space} (v : View sig κ sp S4096x128 .bf16) (f : v.ty.Contents (Elt Ideal)) (k : Fin k0_t1_loop.trips)
    {i0 i1 i2 i3} (w0 w1 w2 w3 : S128x128.Idx → Elt Ideal .bf16) (G : ℕ → Fin 128 → Fin 128 → EReal)
    (hf : ∀ (n : ℕ) (hn : n < 32), n < 4 * k.val → ∀ (i d : Fin 128), v.read (Elt Ideal) f (ix2 ⟨128 * n + i, by omega⟩ d) = G n i d)
    (h0 : ∀ i d, w0 (ix2 i d) = G (4 * k.val) i d) (h1 : ∀ i d, w1 (ix2 i d) = G (4 * k.val + 1) i d)
    (h2 : ∀ i d, w2 (ix2 i d) = G (4 * k.val + 2) i d) (h3 : ∀ i d, w3 (ix2 i d) = G (4 * k.val + 3) i d)
    (n : ℕ) (hn : n < 32) (hk : n < 4 * (k.val + 1)) (i d : Fin 128) :
    v.read (Elt Ideal) (v.writes (Elt Ideal) f [⟨Rect.unit (k0_off2 k 384#32) S128x128.size i3, w3⟩, ⟨Rect.unit (k0_off2 k 256#32) S128x128.size i2, w2⟩,
      ⟨Rect.unit (k0_off2 k 128#32) S128x128.size i1, w1⟩, ⟨Rect.unit (k0_off2 k 0#32) S128x128.size i0, w0⟩]) (ix2 ⟨128 * n + i, by omega⟩ d) = G n i d := by
  obtain ⟨a3, a2, a1, a0, ab⟩ := read_put4 v f (i0 := i0) (i1 := i1) (i2 := i2) (i3 := i3) w0 w1 w2 w3 (off2_eq k 0) (off2_eq k 1) (off2_eq k 2) (off2_eq k 3) (0 : Fin 2)
    (by show 128 * (4 * k.val + 0) + 128 ≤ 128 * (4 * k.val + 1); omega) (by show 128 * (4 * k.val + 1) + 128 ≤ 128 * (4 * k.val + 2); omega)
    (by show 128 * (4 * k.val + 2) + 128 ≤ 128 * (4 * k.val + 3); omega) (ix2 ⟨128 * n + i, by omega⟩ d)
  rcases tile_cases hk with h | rfl | rfl | rfl | rfl
  · exact (ab (by show 128 * n + i.val < 128 * (4 * k.val + 0); omega)).trans (hf n hn h i d)
  · exact (a0 (ix2 i d) (Fin.forall_fin_two.mpr ⟨rfl, (Nat.zero_add _).symm⟩)).trans (h0 i d)
  · exact (a1 (ix2 i d) (Fin.forall_fin_two.mpr ⟨rfl, (Nat.zero_add _).symm⟩)).trans (h1 i d)
  · exact (a2 (ix2 i d) (Fin.forall_fin_two.mpr ⟨rfl, (Nat.zero_add _).symm⟩)).trans (h2 i d)
  · exact (a3 (ix2 i d) (Fin.forall_fin_two.mpr ⟨rfl, (Nat.zero_add _).symm⟩)).trans (h3 i d)

theorem put_rows256 {κ : Kind} {sp : Space} (v : View sig κ sp S4096x256 .f32) (f : v.ty.Contents (Elt Ideal)) (k : Fin k0_t1_loop.trips)
    {i0 i1 i2 i3} (w0 w1 w2 w3 : S128x256.Idx → Elt Ideal .f32) (G : ℕ → Fin 128 → Fin 256 → EReal)
    (hf : ∀ (n : ℕ) (hn : n < 32), n < 4 * k.val → ∀ (i : Fin 128) (d : Fin 256), v.read (Elt Ideal) f (ix2 ⟨128 * n + i, by omega⟩ d) = G n i d)
    (h0 : ∀ i d, w0 (ix2 i d) = G (4 * k.val) i d) (h1 : ∀ i d, w1 (ix2 i d) = G (4 * k.val + 1) i d)
    (h2 : ∀ i d, w2 (ix2 i d) = G (4 * k.val + 2) i d) (h3 : ∀ i d, w3 (ix2 i d) = G (4 * k.val + 3) i d)
    (n : ℕ) (hn : n < 32) (hk : n < 4 * (k.val + 1)) (i : Fin 128) (d : Fin 256) :
    v.read (Elt Ideal) (v.writes (Elt Ideal) f [⟨Rect.unit (k0_off6 k 384#32) S128x256.size i3, w3⟩, ⟨Rect.unit (k0_off6 k 256#32) S128x256.size i2, w2⟩,
      ⟨Rect.unit (k0_off6 k 128#32) S128x256.size i1, w1⟩, ⟨Rect.unit (k0_off6 k 0#32) S128x256.size i0, w0⟩]) (ix2 ⟨128 * n + i, by omega⟩ d) = G n i d := by
  obtain ⟨a3, a2, a1, a0, ab⟩ := read_put4 v f (i0 := i0) (i1 := i1) (i2 := i2) (i3 := i3) w0 w1 w2 w3 (off6_eq k 0) (off6_eq k 1) (off6_eq k 2) (off6_eq k 3) (0 : Fin 2)
    (by show 128 * (4 * k.val + 0) + 128 ≤ 128 * (4 * k.val + 1); omega) (by show 128 * (4 * k.val + 1) + 128 ≤ 128 * (4 * k.val + 2); omega)
    (by show 128 * (4 * k.val + 2) + 128 ≤ 128 * (4 * k.val + 3); omega) (ix2 ⟨128 * n + i, by omega⟩ d)
  rcases tile_cases hk with h | rfl | rfl | rfl | rfl
  · exact (ab (by show 128 * n + i.val < 128 * (4 * k.val + 0); omega)).trans (hf n hn h i d)
  · exact (a0 (ix2 i d) (Fin.forall_fin_two.mpr ⟨rfl, (Nat.zero_add _).symm⟩)).trans (h0 i d)
  · exact (a1 (ix2 i d) (Fin.forall_fin_two.mpr ⟨rfl, (Nat.zero_add _).symm⟩)).trans (h1 i d)
  · exact (a2 (ix2 i d) (Fin.forall_fin_two.mpr ⟨rfl, (Nat.zero_add _).symm⟩)).trans (h2 i d)
  · exact (a3 (ix2 i d) (Fin.forall_fin_two.mpr ⟨rfl, (Nat.zero_add _).symm⟩)).trans (h3 i d)

/-- Coordinates of an index of a stack of matrices. -/
theorem coords3 {m n p m' n' p' : ℕ} {a : Fin m} {b : Fin n} {c : Fin p} {a' : Fin m'} {b' : Fin n'} {c' : Fin p'} {o : ℕ}
    (ha : a.val = o + a'.val) (hb : b.val = b'.val) (hc : c.val = c'.val) :
    ∀ x : Fin 3, ((ix3 a b c) x).val = (![o, 0, 0] : Fin 3 → ℕ) x + ((ix3 a' b' c') x).val := by
  intro x
  fin_cases x
  · exact ha
  · exact hb.trans (Nat.zero_add _).symm
  · exact hc.trans (Nat.zero_add _).symm

theorem put_stack256 {κ : Kind} {sp : Space} (v : View sig κ sp S32x128x256 .f32) (f : v.ty.Contents (Elt Ideal)) (k : Fin k0_t1_loop.trips)
    {i0 i1 i2 i3} (w0 w1 w2 w3 : S1x128x256.Idx → Elt Ideal .f32) (G : ℕ → Fin 128 → Fin 256 → EReal)
    (hf : ∀ (n : ℕ) (hn : n < 32), n < 4 * k.val → ∀ (i : Fin 128) (d : Fin 256), v.read (Elt Ideal) f (ix3 ⟨n, hn⟩ i d) = G n i d)
    (h0 : ∀ i d, w0 (ix3 0 i d) = G (4 * k.val) i d) (h1 : ∀ i d, w1 (ix3 0 i d) = G (4 * k.val + 1) i d)
    (h2 : ∀ i d, w2 (ix3 0 i d) = G (4 * k.val + 2) i d) (h3 : ∀ i d, w3 (ix3 0 i d) = G (4 * k.val + 3) i d)
    (n : ℕ) (hn : n < 32) (hk : n < 4 * (k.val + 1)) (i : Fin 128) (d : Fin 256) :
    v.read (Elt Ideal) (v.writes (Elt Ideal) f [⟨Rect.unit (k0_off5 k 3#32) S1x128x256.size i3, w3⟩, ⟨Rect.unit (k0_off5 k 2#32) S1x128x256.size i2, w2⟩,
      ⟨Rect.unit (k0_off5 k 1#32) S1x128x256.size i1, w1⟩, ⟨Rect.unit (k0_off5 k 0#32) S1x128x256.size i0, w0⟩]) (ix3 ⟨n, hn⟩ i d) = G n i d := by
  obtain ⟨a3, a2, a1, a0, ab⟩ := read_put4 v f (i0 := i0) (i1 := i1) (i2 := i2) (i3 := i3) w0 w1 w2 w3 (off5_eq k 0) (off5_eq k 1) (off5_eq k 2) (off5_eq k 3) (0 : Fin 3)
    (by show 4 * k.val + 0 + 1 ≤ 4 * k.val + 1; omega) (by show 4 * k.val + 1 + 1 ≤ 4 * k.val + 2; omega)
    (by show 4 * k.val + 2 + 1 ≤ 4 * k.val + 3; omega) (ix3 ⟨n, hn⟩ i d)
  rcases tile_cases hk with h | rfl | rfl | rfl | rfl
  · exact (ab (by show n < 4 * k.val + 0; omega)).trans (hf n hn h i d)
  · exact (a0 (ix3 0 i d) (coords3 rfl rfl rfl)).trans (h0 i d)
  · exact (a1 (ix3 0 i d) (coords3 rfl rfl rfl)).trans (h1 i d)
  · exact (a2 (ix3 0 i d) (coords3 rfl rfl rfl)).trans (h2 i d)
  · exact (a3 (ix3 0 i d) (coords3 rfl rfl rfl)).trans (h3 i d)

theorem put_stack128 {κ : Kind} {sp : Space} (v : View sig κ sp S32x128x128 .f32) (f : v.ty.Contents (Elt Ideal)) (k : Fin k0_t1_loop.trips)
    {i0 i1 i2 i3} (w0 w1 w2 w3 : S1x128x128.Idx → Elt Ideal .f32) (G : ℕ → Fin 128 → Fin 128 → EReal)
    (hf : ∀ (n : ℕ) (hn : n < 32), n < 4 * k.val → ∀ (i : Fin 128) (d : Fin 128), v.read (Elt Ideal) f (ix3 ⟨n, hn⟩ i d) = G n i d)
    (h0 : ∀ i d, w0 (ix3 0 i d) = G (4 * k.val) i d) (h1 : ∀ i d, w1 (ix3 0 i d) = G (4 * k.val + 1) i d)
    (h2 : ∀ i d, w2 (ix3 0 i d) = G (4 * k.val + 2) i d) (h3 : ∀ i d, w3 (ix3 0 i d) = G (4 * k.val + 3) i d)
    (n : ℕ) (hn : n < 32) (hk : n < 4 * (k.val + 1)) (i : Fin 128) (d : Fin 128) :
    v.read (Elt Ideal) (v.writes (Elt Ideal) f [⟨Rect.unit (k0_off3 k 3#32) S1x128x128.size i3, w3⟩, ⟨Rect.unit (k0_off3 k 2#32) S1x128x128.size i2, w2⟩,
      ⟨Rect.unit (k0_off3 k 1#32) S1x128x128.size i1, w1⟩, ⟨Rect.unit (k0_off3 k 0#32) S1x128x128.size i0, w0⟩]) (ix3 ⟨n, hn⟩ i d) = G n i d := by
  obtain ⟨a3, a2, a1, a0, ab⟩ := read_put4 v f (i0 := i0) (i1 := i1) (i2 := i2) (i3 := i3) w0 w1 w2 w3 (off3_eq k 0) (off3_eq k 1) (off3_eq k 2) (off3_eq k 3) (0 : Fin 3)
    (by show 4 * k.val + 0 + 1 ≤ 4 * k.val + 1; omega) (by show 4 * k.val + 1 + 1 ≤ 4 * k.val + 2; omega)
    (by show 4 * k.val + 2 + 1 ≤ 4 * k.val + 3; omega) (ix3 ⟨n, hn⟩ i d)
  rcases tile_cases hk with h | rfl | rfl | rfl | rfl
  · exact (ab (by show n < 4 * k.val + 0; omega)).trans (hf n hn h i d)
  · exact (a0 (ix3 0 i d) (coords3 rfl rfl rfl)).trans (h0 i d)
  · exact (a1 (ix3 0 i d) (coords3 rfl rfl rfl)).trans (h1 i d)
  · exact (a2 (ix3 0 i d) (coords3 rfl rfl rfl)).trans (h2 i d)
  · exact (a3 (ix3 0 i d) (coords3 rfl rfl rfl)).trans (h3 i d)

/-- The four parts of a freshly staged tile of running sums. -/
theorem put_cum {κ : Kind} {sp : Space} (v : View sig κ sp S512x256 .f32) (f : v.ty.Contents (Elt Ideal))
    {i0 i1 i2 i3} (w0 w1 w2 w3 : S128x256.Idx → Elt Ideal .f32) (G : Fin 4 → Fin 128 → Fin 256 → EReal)
    (h0 : ∀ i l, w0 (ix2 i l) = G 0 i l) (h1 : ∀ i l, w1 (ix2 i l) = G 1 i l) (h2 : ∀ i l, w2 (ix2 i l) = G 2 i l) (h3 : ∀ i l, w3 (ix2 i l) = G 3 i l)
    (p : Fin 4) (i : Fin 128) (l : Fin 256) :
    v.read (Elt Ideal) (v.writes (Elt Ideal) f [⟨Rect.unit ![384, 0] S128x256.size i3, w3⟩, ⟨Rect.unit ![256, 0] S128x256.size i2, w2⟩,
      ⟨Rect.unit ![128, 0] S128x256.size i1, w1⟩, ⟨Rect.unit ![0, 0] S128x256.size i0, w0⟩]) (ix2 ⟨128 * p + i, by omega⟩ l) = G p i l := by
  obtain ⟨a3, a2, a1, a0, ab⟩ := read_put4 v f (i0 := i0) (i1 := i1) (i2 := i2) (i3 := i3) w0 w1 w2 w3 rfl rfl rfl rfl (0 : Fin 2)
    (by show 0 + 128 ≤ 128; omega) (by show 128 + 128 ≤ 256; omega) (by show 256 + 128 ≤ 384; omega) (ix2 ⟨128 * p + i, by omega⟩ l)
  fin_cases p
  · exact (a0 (ix2 i l) (Fin.forall_fin_two.mpr ⟨rfl, (Nat.zero_add _).symm⟩)).trans (h0 i l)
  · exact (a1 (ix2 i l) (Fin.forall_fin_two.mpr ⟨rfl, (Nat.zero_add _).symm⟩)).trans (h1 i l)
  · exact (a2 (ix2 i l) (Fin.forall_fin_two.mpr ⟨rfl, (Nat.zero_add _).symm⟩)).trans (h2 i l)
  · exact (a3 (ix2 i l) (Fin.forall_fin_two.mpr ⟨rfl, (Nat.zero_add _).symm⟩)).trans (h3 i l)

end Cert.KernelIdeal.Scan

end
-- ==== Proof.Scan.Trip.lean ====
/-
  The invariant of the counted loop, and one trip: what the arrays hold after `k` tiles of four pairs, and that the
  stores of a trip extend it.
-/
module

public import proofs.«01_k».proof.Proof.Scan.Reads

@[expose] public section

set_option maxRecDepth 16384

noncomputable section

namespace Cert.KernelIdeal.Scan

open Cert.KernelIdeal Cert.KernelIdeal.Gen Cert.Scan
open Idealize.ShloMosaic
open Cert.KernelIdeal.Facts

/-! ## Shapes of a store -/

section Forms

variable {F : FTy → Type} [FloatOps F]

/-- A matrix stored as a slab of a stack. -/
def slab128 (x : FVec F S128x128 .f32) : FVec F S1x128x128 .f32 := shapeCast S1x128x128 x shapeCasts_S128x128_S1x128x128
def slab256 (x : FVec F S128x256 .f32) : FVec F S1x128x256 .f32 := shapeCast S1x128x256 x shapeCasts_S128x256_S1x128x256
/-- A matrix stored as itself. -/
def kept128 (x : FVec F S128x128 .bf16) : FVec F S128x128 .bf16 := shapeCast S128x128 x shapeCasts_S128x128_S128x128
def kept256 (x : FVec F S128x256 .f32) : FVec F S128x256 .f32 := shapeCast S128x256 x shapeCasts_S128x256_S128x256

/-- The two gates of a tile, side by side. -/
def gates (x y : FVec F S1x512x128 .bf16) : FVec F S512x256 .bf16 :=
  concatenate S512x256 1 [⟨S512x128, shapeCast S512x128 x shapeCasts_S1x512x128_S512x128⟩, ⟨S512x128, shapeCast S512x128 y shapeCasts_S1x512x128_S512x128⟩] concatenates_S512x128_S512x128_S512x256_d1

/-- The running sums of 128 rows of gates: a product with a zero-one matrix. -/
def summed (m : FVec F S128x128 .bf16) (g : FVec F S128x256 .bf16) : FVec F S128x256 .f32 :=
  kept256 (matmul dot_S128x128_S128x256_S128x256_1_0_0_1_n_n none m g (constant S128x256 .f32 0x00000000#32))

def sums0 (m : FVec F S128x128 .bf16) (g : FVec F S512x256 .bf16) : FVec F S128x256 .f32 := summed m (extractStridedSlice S128x256 ![0, 0] g slices_S512x256_o0_0_S128x256)
def sums1 (m : FVec F S128x128 .bf16) (g : FVec F S512x256 .bf16) : FVec F S128x256 .f32 := summed m (extractStridedSlice S128x256 ![128, 0] g slices_S512x256_o128_0_S128x256)
def sums2 (m : FVec F S128x128 .bf16) (g : FVec F S512x256 .bf16) : FVec F S128x256 .f32 := summed m (extractStridedSlice S128x256 ![256, 0] g slices_S512x256_o256_0_S128x256)
def sums3 (m : FVec F S128x128 .bf16) (g : FVec F S512x256 .bf16) : FVec F S128x256 .f32 := summed m (extractStridedSlice S128x256 ![384, 0] g slices_S512x256_o384_0_S128x256)

end Forms

theorem slab128_apply (x : FVec Ideal S128x128 .f32) (i d : Fin 128) : slab128 x (ix3 0 i d) = x (ix2 i d) := by pointwise [slab128]
theorem slab256_apply (x : FVec Ideal S128x256 .f32) (i : Fin 128) (d : Fin 256) : slab256 x (ix3 0 i d) = x (ix2 i d) := by pointwise [slab256]
theorem kept128_apply (x : FVec Ideal S128x128 .bf16) (i d : Fin 128) : kept128 x (ix2 i d) = x (ix2 i d) := by pointwise [kept128]
theorem kept256_apply (x : FVec Ideal S128x256 .f32) (i : Fin 128) (d : Fin 256) : kept256 x (ix2 i d) = x (ix2 i d) := by pointwise [kept256]

/-! ## The running sums -/

/-- A product with the zero-one matrix of a chunk's rows at or before the row is a running sum. -/
theorem run_sum (g : ℕ → ℝ) (c i : ℕ) (hc : c < 2) (hi : i < 64) :
    (∑ j : Fin 128, (if j.val ≤ 64 * c + i ∧ (64 * c + i) / 64 = j.val / 64 then (1 : ℝ) else 0) * g j.val) = ∑ u ∈ Finset.range (i + 1), g (64 * c + u) := by
  rw [Fin.sum_univ_eq_sum_range (fun j => (if j ≤ 64 * c + i ∧ (64 * c + i) / 64 = j / 64 then (1 : ℝ) else 0) * g j) 128]
  simp only [ite_mul, one_mul, zero_mul]
  rw [← Finset.sum_filter]
  have h : (Finset.range 128).filter (fun j => j ≤ 64 * c + i ∧ (64 * c + i) / 64 = j / 64) = Finset.Ico (64 * c) (64 * c + (i + 1)) := by
    ext j
    simp only [Finset.mem_filter, Finset.mem_range, Finset.mem_Ico]
    omega
  rw [h, Finset.sum_Ico_eq_sum_range, Nat.add_sub_cancel_left]

theorem summed_val {m : FVec Ideal S128x128 .bf16} (hm : ∀ i j : Fin 128, m (ix2 i j) = (((if j.val ≤ i.val ∧ i.val / 64 = j.val / 64 then 1 else 0 : ℝ) : ℝ) : EReal))
    {g : FVec Ideal S128x256 .bf16} {a : ℕ → ℝ} {s : ℕ} {l : Fin 256} (hg : ∀ j : Fin 128, g (ix2 j l) = ((a (s + j) : ℝ) : EReal))
    (c : Fin 2) (i : Fin 64) : summed m g (ix2 ⟨64 * c + i, by omega⟩ l) = ((pre a (s + 64 * c) (i + 1) : ℝ) : EReal) := by
  have e : summed m g (ix2 ⟨64 * c + i, by omega⟩ l) = ∑ j : Fin 128, m (ix2 ⟨64 * c + i, by omega⟩ j) * g (ix2 j l) := by
    rw [summed, kept256_apply]; pointwise
  rw [e]
  simp only [hm, hg, ← EReal.coe_mul, ← coe_sum_real]
  rw [run_sum (fun j => a (s + j)) c i c.isLt i.isLt]
  simp only [pre, add_assoc]

/-! ## The invariant -/

/-- The scan's five operands, as families over the rows. -/
structure Inputs (Q K GF GB : ℕ → Fin 128 → ℝ) (V : ℕ → Fin 256 → ℝ) (x0 x1 x2 x3 : Vec Ideal S1x4096x128 .bf16) (x4 : Vec Ideal S1x4096x256 .bf16) : Prop where
  q : ∀ (t : ℕ) (ht : t < 4096) (d : Fin 128), x0 (ix3 0 ⟨t, ht⟩ d) = ((Q t d : ℝ) : EReal)
  k : ∀ (t : ℕ) (ht : t < 4096) (d : Fin 128), x1 (ix3 0 ⟨t, ht⟩ d) = ((K t d : ℝ) : EReal)
  gf : ∀ (t : ℕ) (ht : t < 4096) (d : Fin 128), x2 (ix3 0 ⟨t, ht⟩ d) = ((GF t d : ℝ) : EReal)
  gb : ∀ (t : ℕ) (ht : t < 4096) (d : Fin 128), x3 (ix3 0 ⟨t, ht⟩ d) = ((GB t d : ℝ) : EReal)
  v : ∀ (t : ℕ) (ht : t < 4096) (e : Fin 256), x4 (ix3 0 ⟨t, ht⟩ e) = ((V t e : ℝ) : EReal)

/-- What a pair leaves for the backward direction: its queries, its decay, its increment. -/
def qOut (Q GB : ℕ → Fin 128 → ℝ) (n : ℕ) (i d : Fin 128) : EReal := ((Q (128 * n + i) d * Real.exp (pre (nat2 GB · d) (128 * n) 128 - pre (nat2 GB · d) (128 * n) i) : ℝ) : EReal)
def decOut (GB : ℕ → Fin 128 → ℝ) (n : ℕ) (d _e : Fin 128) : EReal := ((Real.exp (pre (nat2 GB · d) (128 * n) 128) : ℝ) : EReal)
def updOut (K GB : ℕ → Fin 128 → ℝ) (V : ℕ → Fin 256 → ℝ) (n : ℕ) (d : Fin 128) (e : Fin 256) : EReal :=
  ((∑ j : Fin 128, K (128 * n + j) d * Real.exp (pre (nat2 GB · d) (128 * n) j) * V (128 * n + j) e : ℝ) : EReal)
/-- The output rows before the backward state is added. -/
def accOut (Q K GF GB : ℕ → Fin 128 → ℝ) (V : ℕ → Fin 256 → ℝ) (n : ℕ) (i : Fin 128) (e : Fin 256) : EReal :=
  ((∑ d, Q (128 * n + i) d * state (nat2 GF · d) (K · d) (V · e) (128 * n + i + 1) + inner Q K GB V (128 * n) i e : ℝ) : EReal)

/-- After `k` tiles. -/
structure Inv (Q K GF GB : ℕ → Fin 128 → ℝ) (V : ℕ → Fin 256 → ℝ) (k : ℕ) (d8 : Vec Ideal S4096x128 .bf16) (d9 : Vec Ideal S32x128x256 .f32) (d10 : Vec Ideal S32x128x128 .f32)
    (d11 : Vec Ideal S4096x256 .f32) (d12 : Vec Ideal S512x256 .f32) (d13 : Vec Ideal S128x256 .f32) : Prop where
  qi : ∀ (n : ℕ) (hn : n < 32), n < 4 * k → ∀ i d : Fin 128, d8 (ix2 ⟨128 * n + i, by omega⟩ d) = qOut Q GB n i d
  upd : ∀ (n : ℕ) (hn : n < 32), n < 4 * k → ∀ (i : Fin 128) (d : Fin 256), d9 (ix3 ⟨n, hn⟩ i d) = updOut K GB V n i d
  dec : ∀ (n : ℕ) (hn : n < 32), n < 4 * k → ∀ i d : Fin 128, d10 (ix3 ⟨n, hn⟩ i d) = decOut GB n i d
  acc : ∀ (n : ℕ) (hn : n < 32), n < 4 * k → ∀ (i : Fin 128) (d : Fin 256), d11 (ix2 ⟨128 * n + i, by omega⟩ d) = accOut Q K GF GB V n i d
  cumF : ∀ (p : Fin 4) (c : Fin 2) (i : Fin 64) (d : Fin 128), d12 (ix2 ⟨128 * p + (64 * c + i), by omega⟩ ⟨d, by omega⟩) = ((pre (GF · d) (512 * min k 7 + 128 * p + 64 * c) (i + 1) : ℝ) : EReal)
  cumB : ∀ (p : Fin 4) (c : Fin 2) (i : Fin 64) (d : Fin 128), d12 (ix2 ⟨128 * p + (64 * c + i), by omega⟩ ⟨128 + d, by omega⟩) = ((pre (GB · d) (512 * min k 7 + 128 * p + 64 * c) (i + 1) : ℝ) : EReal)
  st : ∀ (d : Fin 128) (e : Fin 256), d13 (ix2 d e) = ((state (nat2 GF · d) (K · d) (V · e) (512 * k) : ℝ) : EReal)

/-! ## Staging a tile of running sums -/

section Stage

variable {Q K GF GB : ℕ → Fin 128 → ℝ} {V : ℕ → Fin 256 → ℝ}

/-- The gates of a tile at rows `s …`. -/
theorem gates_f {x y : FVec Ideal S1x512x128 .bf16} {s : ℕ} (hx : ∀ (j : Fin 512) (d : Fin 128), x (ix3 0 j d) = ((GF (s + j) d : ℝ) : EReal)) (j : Fin 512) (d : Fin 128) :
    gates x y (ix2 j ⟨d, by omega⟩) = ((GF (s + j) d : ℝ) : EReal) := by
  have e : gates x y (ix2 j ⟨d, by omega⟩) = x (ix3 0 j d) := by
    pointwise [gates]
  rw [e, hx]

theorem gates_b {x y : FVec Ideal S1x512x128 .bf16} {s : ℕ} (hy : ∀ (j : Fin 512) (d : Fin 128), y (ix3 0 j d) = ((GB (s + j) d : ℝ) : EReal)) (j : Fin 512) (d : Fin 128) :
    gates x y (ix2 j ⟨128 + d, by omega⟩) = ((GB (s + j) d : ℝ) : EReal) := by
  have e : gates x y (ix2 j ⟨128 + d, by omega⟩) = y (ix3 0 j d) := by
    pointwise [gates]
  rw [e, hy]

/-- The zero-one matrix of the running sums. -/
def IsSum (m : FVec Ideal S128x128 .bf16) : Prop := ∀ i j : Fin 128, m (ix2 i j) = (((if j.val ≤ i.val ∧ i.val / 64 = j.val / 64 then 1 else 0 : ℝ) : ℝ) : EReal)

/-- The four parts of the staged running sums, in either half of the lanes. -/
theorem staged {κ : Kind} {sp : Space} (v : View sig κ sp S512x256 .f32) (f : v.ty.Contents (Elt Ideal)) {i0 i1 i2 i3} {m : FVec Ideal S128x128 .bf16} (hm : IsSum m)
    (g : FVec Ideal S512x256 .bf16) {a : ℕ → ℝ} {s : ℕ} (l : Fin 256) (hg : ∀ j : Fin 512, g (ix2 j l) = ((a (s + j) : ℝ) : EReal)) (p : Fin 4) (c : Fin 2) (i : Fin 64) :
    v.read (Elt Ideal) (v.writes (Elt Ideal) f [⟨Rect.unit ![384, 0] S128x256.size i3, sums3 m g⟩, ⟨Rect.unit ![256, 0] S128x256.size i2, sums2 m g⟩,
      ⟨Rect.unit ![128, 0] S128x256.size i1, sums1 m g⟩, ⟨Rect.unit ![0, 0] S128x256.size i0, sums0 m g⟩]) (ix2 ⟨128 * p + (64 * c + i), by omega⟩ l)
      = ((pre a (s + 128 * p + 64 * c) (i + 1) : ℝ) : EReal) := by
  refine (put_cum v f (i0 := i0) (i1 := i1) (i2 := i2) (i3 := i3) (sums0 m g) (sums1 m g) (sums2 m g) (sums3 m g)
    (fun q i l => (![sums0 m g, sums1 m g, sums2 m g, sums3 m g] q) (ix2 i l)) (fun _ _ => rfl) (fun _ _ => rfl) (fun _ _ => rfl) (fun _ _ => rfl)
    p ⟨64 * c + i, by omega⟩ l).trans ?_
  fin_cases p
  · refine summed_val hm (s := s + 128 * 0) (fun j => ?_) c i
    refine Eq.trans ?_ ((hg ⟨j, by omega⟩).trans (by simp))
    pointwise
  · refine summed_val hm (s := s + 128 * 1) (fun j => ?_) c i
    refine Eq.trans ?_ ((hg ⟨128 + j, by omega⟩).trans (by simp [add_assoc]))
    pointwise
  · refine summed_val hm (s := s + 128 * 2) (fun j => ?_) c i
    refine Eq.trans ?_ ((hg ⟨256 + j, by omega⟩).trans (by simp [add_assoc]))
    pointwise
  · refine summed_val hm (s := s + 128 * 3) (fun j => ?_) c i
    refine Eq.trans ?_ ((hg ⟨384 + j, by omega⟩).trans (by simp [add_assoc]))
    pointwise

end Stage

/-! ## The operands of a pair of the trip -/

section Trip

variable {Q K GF GB : ℕ → Fin 128 → ℝ} {V : ℕ → Fin 256 → ℝ}

theorem load128 {arg : Memref sig .tc .vmem S1x4096x128 .bf16} (harg : arg.IsWhole) {x : Vec Ideal S1x4096x128 .bf16} {X : ℕ → Fin 128 → ℝ}
    (hx : ∀ (t : ℕ) (ht : t < 4096) (d : Fin 128), x (ix3 0 ⟨t, ht⟩ d) = ((X t d : ℝ) : EReal)) {off : Fin 3 → ℕ} {inb} {n : ℕ} (hn : n < 32) (hoff : off = ![0, 128 * n, 0]) (i d : Fin 128) :
    wide (F := Ideal) (arg.view.readAt (Elt Ideal) (Rect.unit (s := S1x4096x128) off S1x128x128.size inb).toLoadRect (harg.unread x)) (ix2 i d) = ((X (128 * n + i) d : ℝ) : EReal) := by
  rw [wide_apply, ← hx (128 * n + i) (by omega)]
  refine (readAt_at _ _ inb hoff _ (ix3 0 ⟨128 * n + i, by omega⟩ d) ?_).trans (congrFun (harg.read_unread x) _)
  intro a; fin_cases a
  · rfl
  · rfl
  · exact (Nat.zero_add _).symm

theorem load256 {arg : Memref sig .tc .vmem S1x4096x256 .bf16} (harg : arg.IsWhole) {x : Vec Ideal S1x4096x256 .bf16} {X : ℕ → Fin 256 → ℝ}
    (hx : ∀ (t : ℕ) (ht : t < 4096) (d : Fin 256), x (ix3 0 ⟨t, ht⟩ d) = ((X t d : ℝ) : EReal)) {off : Fin 3 → ℕ} {inb} {n : ℕ} (hn : n < 32) (hoff : off = ![0, 128 * n, 0]) (i : Fin 128) (d : Fin 256) :
    flat (F := Ideal) (arg.view.readAt (Elt Ideal) (Rect.unit (s := S1x4096x256) off S1x128x256.size inb).toLoadRect (harg.unread x)) (ix2 i d) = ((X (128 * n + i) d : ℝ) : EReal) := by
  rw [flat_apply, ← hx (128 * n + i) (by omega)]
  refine (readAt_at _ _ inb hoff _ (ix3 0 ⟨128 * n + i, by omega⟩ d) ?_).trans (congrFun (harg.read_unread x) _)
  intro a; fin_cases a
  · rfl
  · rfl
  · exact (Nat.zero_add _).symm

theorem load512 {arg : Memref sig .tc .vmem S1x4096x128 .bf16} (harg : arg.IsWhole) {x : Vec Ideal S1x4096x128 .bf16} {X : ℕ → Fin 128 → ℝ}
    (hx : ∀ (t : ℕ) (ht : t < 4096) (d : Fin 128), x (ix3 0 ⟨t, ht⟩ d) = ((X t d : ℝ) : EReal)) {off : Fin 3 → ℕ} {inb} {n : ℕ} (hn : n < 8) (hoff : off = ![0, 512 * n, 0]) (i : Fin 512) (d : Fin 128) :
    arg.view.readAt (Elt Ideal) (Rect.unit (s := S1x4096x128) off S1x512x128.size inb).toLoadRect (harg.unread x) (ix3 0 i d) = ((X (512 * n + i) d : ℝ) : EReal) := by
  rw [← hx (512 * n + i) (by omega)]
  refine (readAt_at _ _ inb hoff _ (ix3 0 ⟨512 * n + i, by omega⟩ d) ?_).trans (congrFun (harg.read_unread x) _)
  intro a; fin_cases a
  · rfl
  · rfl
  · exact (Nat.zero_add _).symm

/-- A part of the staged running sums. -/
theorem load_cum {arg12 : Memref sig .tc .vmem S512x256 .f32} {f12 : arg12.view.ty.Contents (Elt Ideal)} {o : ℕ} {inb} (p : Fin 4) (hp : o = 128 * p) (i : Fin 128) (l : Fin 256) :
    arg12.view.readAt (Elt Ideal) (Rect.unit (s := S512x256) ![o, 0] S128x256.size inb).toLoadRect f12 (ix2 i l) = arg12.view.read (Elt Ideal) f12 (ix2 ⟨128 * p + i, by omega⟩ l) := by
  refine readAt_at _ _ inb rfl _ _ ?_
  subst hp
  intro a; fin_cases a
  · rfl
  · exact (Nat.zero_add _).symm

variable {x0 x1 x2 x3 : Vec Ideal S1x4096x128 .bf16} {x4 : Vec Ideal S1x4096x256 .bf16} (hin : Inputs Q K GF GB V x0 x1 x2 x3 x4)
  {arg2 : Memref sig .tc .vmem S1x4096x128 .bf16} (harg2 : arg2.IsWhole) {arg3 : Memref sig .tc .vmem S1x4096x128 .bf16} (harg3 : arg3.IsWhole) {arg4 : Memref sig .tc .vmem S1x4096x128 .bf16} (harg4 : arg4.IsWhole) {arg5 : Memref sig .tc .vmem S1x4096x128 .bf16} (harg5 : arg5.IsWhole) {arg6 : Memref sig .tc .vmem S1x4096x256 .bf16} (harg6 : arg6.IsWhole)
  {arg8 : Memref sig .tc .vmem S4096x128 .bf16} {arg9 : Memref sig .tc .vmem S32x128x256 .f32} {arg10 : Memref sig .tc .vmem S32x128x128 .f32} {arg11 : Memref sig .tc .vmem S4096x256 .f32} {arg12 : Memref sig .tc .vmem S512x256 .f32} {arg13 : Memref sig .tc .vmem S128x256 .f32}
  {f8 : arg8.view.ty.Contents (Elt Ideal)} {f9 : arg9.view.ty.Contents (Elt Ideal)} {f10 : arg10.view.ty.Contents (Elt Ideal)} {f11 : arg11.view.ty.Contents (Elt Ideal)} {f12 : arg12.view.ty.Contents (Elt Ideal)} {f13 : arg13.view.ty.Contents (Elt Ideal)}

include hin in
theorem operands {k : ℕ} (hk : k < 8) (hP : Inv Q K GF GB V k (arg8.view.read (Elt Ideal) f8) (arg9.view.read (Elt Ideal) f9) (arg10.view.read (Elt Ideal) f10) (arg11.view.read (Elt Ideal) f11) (arg12.view.read (Elt Ideal) f12) (arg13.view.read (Elt Ideal) f13))
    {off : Fin 3 → ℕ} {inb inb' inb''} (p : Fin 4) (hoff : off = ![0, 128 * (4 * k + p), 0]) {o : ℕ} {inc} (ho : o = 128 * p) :
    Operands Q K GF GB (128 * (4 * k + p)) (wide (F := Ideal) (arg2.view.readAt (Elt Ideal) (Rect.unit (s := S1x4096x128) off S1x128x128.size inb).toLoadRect (harg2.unread x0)))
      (wide (F := Ideal) (arg3.view.readAt (Elt Ideal) (Rect.unit (s := S1x4096x128) off S1x128x128.size inb').toLoadRect (harg3.unread x1)))
      (wide (F := Ideal) (arg5.view.readAt (Elt Ideal) (Rect.unit (s := S1x4096x128) off S1x128x128.size inb'').toLoadRect (harg5.unread x3)))
      (arg12.view.readAt (Elt Ideal) (Rect.unit (s := S512x256) ![o, 0] S128x256.size inc).toLoadRect f12) where
  q := load128 harg2 hin.q (by omega) hoff
  k := load128 harg3 hin.k (by omega) hoff
  g := load128 harg5 hin.gb (by omega) hoff
  fa i d := by
    rw [load_cum p ho]
    refine Eq.trans ?_ ((hP.cumF p 0 i d).trans ?_)
    · simp
    · rw [show 512 * min k 7 + 128 * p.val + 64 * (0 : Fin 2).val = 128 * (4 * k + p) by simp; omega]
  fb i d := by
    rw [load_cum p ho]
    refine Eq.trans ?_ ((hP.cumF p 1 i d).trans ?_)
    · simp
    · rw [show 512 * min k 7 + 128 * p.val + 64 * (1 : Fin 2).val = 128 * (4 * k + p) + 64 by simp; omega]
  ba i d := by
    rw [load_cum p ho]
    refine Eq.trans ?_ ((hP.cumB p 0 i d).trans ?_)
    · simp
    · rw [show 512 * min k 7 + 128 * p.val + 64 * (0 : Fin 2).val = 128 * (4 * k + p) by simp; omega]
  bb i d := by
    rw [load_cum p ho]
    refine Eq.trans ?_ ((hP.cumB p 1 i d).trans ?_)
    · simp
    · rw [show 512 * min k 7 + 128 * p.val + 64 * (1 : Fin 2).val = 128 * (4 * k + p) + 64 by simp; omega]

theorem updOut_val {n : ℕ} {q k g : FVec Ideal S128x128 .f32} {cum : FVec Ideal S128x256 .f32} (h : Operands Q K GF GB (128 * n) q k g cum) {v : FVec Ideal S128x256 .bf16}
    (hv : ∀ i e, v (ix2 i e) = ((V (128 * n + i) e : ℝ) : EReal)) (d : Fin 128) (e : Fin 256) : incrB k g cum v (ix2 d e) = updOut K GB V n d e := by
  rw [incrB_apply, updOut, coe_sum_real]
  exact Finset.sum_congr rfl fun j _ => by rw [h.kpB_val, hv, ← EReal.coe_mul]

include hin in
/-- One trip: the stores of its four pairs and of the next tile's running sums extend the invariant. -/
theorem trip {m2 m3 : IVec S128x128 1} (hm2 : ∀ i j : Fin 128, m2 (ix2 i j) = if j ≤ i then 1#1 else 0#1) (hm3 : ∀ i j : Fin 128, m3 (ix2 i j) = if i ≤ j then 1#1 else 0#1)
    {m : FVec Ideal S128x128 .bf16} (hm : IsSum m) (k : Fin k0_t1_loop.trips)
    (hP : Inv Q K GF GB V k.val (arg8.view.read (Elt Ideal) f8) (arg9.view.read (Elt Ideal) f9) (arg10.view.read (Elt Ideal) f10) (arg11.view.read (Elt Ideal) f11) (arg12.view.read (Elt Ideal) f12) (arg13.view.read (Elt Ideal) f13))
    {a0 a1 a2 a3 c0 c1 c2 c3 v0 v1 v2 v3 g0 s0}
    {j8_0} {j8_1} {j8_2} {j8_3}
    {j9_0} {j9_1} {j9_2} {j9_3}
    {j10_0} {j10_1} {j10_2} {j10_3}
    {j11_0} {j11_1} {j11_2} {j11_3}
    {j12_0} {j12_1} {j12_2} {j12_3}
    {j13 : ∀ a, (![0, 0] : Fin 2 → ℕ) a + S128x256.size a ≤ S128x256.size a} {L13 : List (View.Piece (Elt Ideal) S128x256 .f32)}
    {w8_0 w8_1 w8_2 w8_3 : S128x128.Idx → Elt Ideal .bf16}
    {w9_0 w9_1 w9_2 w9_3 : S1x128x256.Idx → Elt Ideal .f32}
    {w10_0 w10_1 w10_2 w10_3 : S1x128x128.Idx → Elt Ideal .f32}
    {w11_0 w11_1 w11_2 w11_3 : S128x256.Idx → Elt Ideal .f32}
    {w12_0 w12_1 w12_2 w12_3 : S128x256.Idx → Elt Ideal .f32}
    {w13 : S128x256.Idx → Elt Ideal .f32} {st1 st2 st3 : FVec Ideal S128x256 .f32}
    (e8_0 : w8_0 = kept128 (F := Ideal) (qiB (wide (F := Ideal) (arg2.view.readAt (Elt Ideal) (Rect.unit (s := S1x4096x128) (k0_off1 k 0#32) S1x128x128.size a0).toLoadRect (harg2.unread x0))) (wide (F := Ideal) (arg5.view.readAt (Elt Ideal) (Rect.unit (s := S1x4096x128) (k0_off1 k 0#32) S1x128x128.size a0).toLoadRect (harg5.unread x3))) (arg12.view.readAt (Elt Ideal) (Rect.unit (s := S512x256) ![0, 0] S128x256.size c0).toLoadRect f12)))
    (e9_0 : w9_0 = slab256 (F := Ideal) (incrB (wide (F := Ideal) (arg3.view.readAt (Elt Ideal) (Rect.unit (s := S1x4096x128) (k0_off1 k 0#32) S1x128x128.size a0).toLoadRect (harg3.unread x1))) (wide (F := Ideal) (arg5.view.readAt (Elt Ideal) (Rect.unit (s := S1x4096x128) (k0_off1 k 0#32) S1x128x128.size a0).toLoadRect (harg5.unread x3))) (arg12.view.readAt (Elt Ideal) (Rect.unit (s := S512x256) ![0, 0] S128x256.size c0).toLoadRect f12) (flat (F := Ideal) (arg6.view.readAt (Elt Ideal) (Rect.unit (s := S1x4096x256) (k0_off4 k 0#32) S1x128x256.size v0).toLoadRect (harg6.unread x4)))))
    (e10_0 : w10_0 = slab128 (F := Ideal) (decB (arg12.view.readAt (Elt Ideal) (Rect.unit (s := S512x256) ![0, 0] S128x256.size c0).toLoadRect f12)))
    (e11_0 : w11_0 = kept256 (F := Ideal) (rows m2 m3 (wide (F := Ideal) (arg2.view.readAt (Elt Ideal) (Rect.unit (s := S1x4096x128) (k0_off1 k 0#32) S1x128x128.size a0).toLoadRect (harg2.unread x0))) (wide (F := Ideal) (arg3.view.readAt (Elt Ideal) (Rect.unit (s := S1x4096x128) (k0_off1 k 0#32) S1x128x128.size a0).toLoadRect (harg3.unread x1))) (wide (F := Ideal) (arg5.view.readAt (Elt Ideal) (Rect.unit (s := S1x4096x128) (k0_off1 k 0#32) S1x128x128.size a0).toLoadRect (harg5.unread x3))) (arg12.view.readAt (Elt Ideal) (Rect.unit (s := S512x256) ![0, 0] S128x256.size c0).toLoadRect f12) (flat (F := Ideal) (arg6.view.readAt (Elt Ideal) (Rect.unit (s := S1x4096x256) (k0_off4 k 0#32) S1x128x256.size v0).toLoadRect (harg6.unread x4))) (arg13.view.readAt (Elt Ideal) (Rect.unit (s := S128x256) ![0, 0] S128x256.size s0).toLoadRect f13)))
    (e12_0 : w12_0 = sums0 m (gates (F := Ideal) (arg4.view.readAt (Elt Ideal) (Rect.unit (s := S1x4096x128) (k0_off7 k) S1x512x128.size g0).toLoadRect (harg4.unread x2)) (arg5.view.readAt (Elt Ideal) (Rect.unit (s := S1x4096x128) (k0_off7 k) S1x512x128.size g0).toLoadRect (harg5.unread x3))))
    (t0 : st1 = kept256 (F := Ideal) (decayed (arg13.view.readAt (Elt Ideal) (Rect.unit (s := S128x256) ![0, 0] S128x256.size s0).toLoadRect f13) (decF (arg12.view.readAt (Elt Ideal) (Rect.unit (s := S512x256) ![0, 0] S128x256.size c0).toLoadRect f12)) (incrF (wide (F := Ideal) (arg3.view.readAt (Elt Ideal) (Rect.unit (s := S1x4096x128) (k0_off1 k 0#32) S1x128x128.size a0).toLoadRect (harg3.unread x1))) (wide (F := Ideal) (arg5.view.readAt (Elt Ideal) (Rect.unit (s := S1x4096x128) (k0_off1 k 0#32) S1x128x128.size a0).toLoadRect (harg5.unread x3))) (arg12.view.readAt (Elt Ideal) (Rect.unit (s := S512x256) ![0, 0] S128x256.size c0).toLoadRect f12) (flat (F := Ideal) (arg6.view.readAt (Elt Ideal) (Rect.unit (s := S1x4096x256) (k0_off4 k 0#32) S1x128x256.size v0).toLoadRect (harg6.unread x4))))))
    (e8_1 : w8_1 = kept128 (F := Ideal) (qiB (wide (F := Ideal) (arg2.view.readAt (Elt Ideal) (Rect.unit (s := S1x4096x128) (k0_off1 k 128#32) S1x128x128.size a1).toLoadRect (harg2.unread x0))) (wide (F := Ideal) (arg5.view.readAt (Elt Ideal) (Rect.unit (s := S1x4096x128) (k0_off1 k 128#32) S1x128x128.size a1).toLoadRect (harg5.unread x3))) (arg12.view.readAt (Elt Ideal) (Rect.unit (s := S512x256) ![128, 0] S128x256.size c1).toLoadRect f12)))
    (e9_1 : w9_1 = slab256 (F := Ideal) (incrB (wide (F := Ideal) (arg3.view.readAt (Elt Ideal) (Rect.unit (s := S1x4096x128) (k0_off1 k 128#32) S1x128x128.size a1).toLoadRect (harg3.unread x1))) (wide (F := Ideal) (arg5.view.readAt (Elt Ideal) (Rect.unit (s := S1x4096x128) (k0_off1 k 128#32) S1x128x128.size a1).toLoadRect (harg5.unread x3))) (arg12.view.readAt (Elt Ideal) (Rect.unit (s := S512x256) ![128, 0] S128x256.size c1).toLoadRect f12) (flat (F := Ideal) (arg6.view.readAt (Elt Ideal) (Rect.unit (s := S1x4096x256) (k0_off4 k 128#32) S1x128x256.size v1).toLoadRect (harg6.unread x4)))))
    (e10_1 : w10_1 = slab128 (F := Ideal) (decB (arg12.view.readAt (Elt Ideal) (Rect.unit (s := S512x256) ![128, 0] S128x256.size c1).toLoadRect f12)))
    (e11_1 : w11_1 = kept256 (F := Ideal) (rows m2 m3 (wide (F := Ideal) (arg2.view.readAt (Elt Ideal) (Rect.unit (s := S1x4096x128) (k0_off1 k 128#32) S1x128x128.size a1).toLoadRect (harg2.unread x0))) (wide (F := Ideal) (arg3.view.readAt (Elt Ideal) (Rect.unit (s := S1x4096x128) (k0_off1 k 128#32) S1x128x128.size a1).toLoadRect (harg3.unread x1))) (wide (F := Ideal) (arg5.view.readAt (Elt Ideal) (Rect.unit (s := S1x4096x128) (k0_off1 k 128#32) S1x128x128.size a1).toLoadRect (harg5.unread x3))) (arg12.view.readAt (Elt Ideal) (Rect.unit (s := S512x256) ![128, 0] S128x256.size c1).toLoadRect f12) (flat (F := Ideal) (arg6.view.readAt (Elt Ideal) (Rect.unit (s := S1x4096x256) (k0_off4 k 128#32) S1x128x256.size v1).toLoadRect (harg6.unread x4))) st1))
    (e12_1 : w12_1 = sums1 m (gates (F := Ideal) (arg4.view.readAt (Elt Ideal) (Rect.unit (s := S1x4096x128) (k0_off7 k) S1x512x128.size g0).toLoadRect (harg4.unread x2)) (arg5.view.readAt (Elt Ideal) (Rect.unit (s := S1x4096x128) (k0_off7 k) S1x512x128.size g0).toLoadRect (harg5.unread x3))))
    (t1 : st2 = kept256 (F := Ideal) (decayed st1 (decF (arg12.view.readAt (Elt Ideal) (Rect.unit (s := S512x256) ![128, 0] S128x256.size c1).toLoadRect f12)) (incrF (wide (F := Ideal) (arg3.view.readAt (Elt Ideal) (Rect.unit (s := S1x4096x128) (k0_off1 k 128#32) S1x128x128.size a1).toLoadRect (harg3.unread x1))) (wide (F := Ideal) (arg5.view.readAt (Elt Ideal) (Rect.unit (s := S1x4096x128) (k0_off1 k 128#32) S1x128x128.size a1).toLoadRect (harg5.unread x3))) (arg12.view.readAt (Elt Ideal) (Rect.unit (s := S512x256) ![128, 0] S128x256.size c1).toLoadRect f12) (flat (F := Ideal) (arg6.view.readAt (Elt Ideal) (Rect.unit (s := S1x4096x256) (k0_off4 k 128#32) S1x128x256.size v1).toLoadRect (harg6.unread x4))))))
    (e8_2 : w8_2 = kept128 (F := Ideal) (qiB (wide (F := Ideal) (arg2.view.readAt (Elt Ideal) (Rect.unit (s := S1x4096x128) (k0_off1 k 256#32) S1x128x128.size a2).toLoadRect (harg2.unread x0))) (wide (F := Ideal) (arg5.view.readAt (Elt Ideal) (Rect.unit (s := S1x4096x128) (k0_off1 k 256#32) S1x128x128.size a2).toLoadRect (harg5.unread x3))) (arg12.view.readAt (Elt Ideal) (Rect.unit (s := S512x256) ![256, 0] S128x256.size c2).toLoadRect f12)))
    (e9_2 : w9_2 = slab256 (F := Ideal) (incrB (wide (F := Ideal) (arg3.view.readAt (Elt Ideal) (Rect.unit (s := S1x4096x128) (k0_off1 k 256#32) S1x128x128.size a2).toLoadRect (harg3.unread x1))) (wide (F := Ideal) (arg5.view.readAt (Elt Ideal) (Rect.unit (s := S1x4096x128) (k0_off1 k 256#32) S1x128x128.size a2).toLoadRect (harg5.unread x3))) (arg12.view.readAt (Elt Ideal) (Rect.unit (s := S512x256) ![256, 0] S128x256.size c2).toLoadRect f12) (flat (F := Ideal) (arg6.view.readAt (Elt Ideal) (Rect.unit (s := S1x4096x256) (k0_off4 k 256#32) S1x128x256.size v2).toLoadRect (harg6.unread x4)))))
    (e10_2 : w10_2 = slab128 (F := Ideal) (decB (arg12.view.readAt (Elt Ideal) (Rect.unit (s := S512x256) ![256, 0] S128x256.size c2).toLoadRect f12)))
    (e11_2 : w11_2 = kept256 (F := Ideal) (rows m2 m3 (wide (F := Ideal) (arg2.view.readAt (Elt Ideal) (Rect.unit (s := S1x4096x128) (k0_off1 k 256#32) S1x128x128.size a2).toLoadRect (harg2.unread x0))) (wide (F := Ideal) (arg3.view.readAt (Elt Ideal) (Rect.unit (s := S1x4096x128) (k0_off1 k 256#32) S1x128x128.size a2).toLoadRect (harg3.unread x1))) (wide (F := Ideal) (arg5.view.readAt (Elt Ideal) (Rect.unit (s := S1x4096x128) (k0_off1 k 256#32) S1x128x128.size a2).toLoadRect (harg5.unread x3))) (arg12.view.readAt (Elt Ideal) (Rect.unit (s := S512x256) ![256, 0] S128x256.size c2).toLoadRect f12) (flat (F := Ideal) (arg6.view.readAt (Elt Ideal) (Rect.unit (s := S1x4096x256) (k0_off4 k 256#32) S1x128x256.size v2).toLoadRect (harg6.unread x4))) st2))
    (e12_2 : w12_2 = sums2 m (gates (F := Ideal) (arg4.view.readAt (Elt Ideal) (Rect.unit (s := S1x4096x128) (k0_off7 k) S1x512x128.size g0).toLoadRect (harg4.unread x2)) (arg5.view.readAt (Elt Ideal) (Rect.unit (s := S1x4096x128) (k0_off7 k) S1x512x128.size g0).toLoadRect (harg5.unread x3))))
    (t2 : st3 = kept256 (F := Ideal) (decayed st2 (decF (arg12.view.readAt (Elt Ideal) (Rect.unit (s := S512x256) ![256, 0] S128x256.size c2).toLoadRect f12)) (incrF (wide (F := Ideal) (arg3.view.readAt (Elt Ideal) (Rect.unit (s := S1x4096x128) (k0_off1 k 256#32) S1x128x128.size a2).toLoadRect (harg3.unread x1))) (wide (F := Ideal) (arg5.view.readAt (Elt Ideal) (Rect.unit (s := S1x4096x128) (k0_off1 k 256#32) S1x128x128.size a2).toLoadRect (harg5.unread x3))) (arg12.view.readAt (Elt Ideal) (Rect.unit (s := S512x256) ![256, 0] S128x256.size c2).toLoadRect f12) (flat (F := Ideal) (arg6.view.readAt (Elt Ideal) (Rect.unit (s := S1x4096x256) (k0_off4 k 256#32) S1x128x256.size v2).toLoadRect (harg6.unread x4))))))
    (e8_3 : w8_3 = kept128 (F := Ideal) (qiB (wide (F := Ideal) (arg2.view.readAt (Elt Ideal) (Rect.unit (s := S1x4096x128) (k0_off1 k 384#32) S1x128x128.size a3).toLoadRect (harg2.unread x0))) (wide (F := Ideal) (arg5.view.readAt (Elt Ideal) (Rect.unit (s := S1x4096x128) (k0_off1 k 384#32) S1x128x128.size a3).toLoadRect (harg5.unread x3))) (arg12.view.readAt (Elt Ideal) (Rect.unit (s := S512x256) ![384, 0] S128x256.size c3).toLoadRect f12)))
    (e9_3 : w9_3 = slab256 (F := Ideal) (incrB (wide (F := Ideal) (arg3.view.readAt (Elt Ideal) (Rect.unit (s := S1x4096x128) (k0_off1 k 384#32) S1x128x128.size a3).toLoadRect (harg3.unread x1))) (wide (F := Ideal) (arg5.view.readAt (Elt Ideal) (Rect.unit (s := S1x4096x128) (k0_off1 k 384#32) S1x128x128.size a3).toLoadRect (harg5.unread x3))) (arg12.view.readAt (Elt Ideal) (Rect.unit (s := S512x256) ![384, 0] S128x256.size c3).toLoadRect f12) (flat (F := Ideal) (arg6.view.readAt (Elt Ideal) (Rect.unit (s := S1x4096x256) (k0_off4 k 384#32) S1x128x256.size v3).toLoadRect (harg6.unread x4)))))
    (e10_3 : w10_3 = slab128 (F := Ideal) (decB (arg12.view.readAt (Elt Ideal) (Rect.unit (s := S512x256) ![384, 0] S128x256.size c3).toLoadRect f12)))
    (e11_3 : w11_3 = kept256 (F := Ideal) (rows m2 m3 (wide (F := Ideal) (arg2.view.readAt (Elt Ideal) (Rect.unit (s := S1x4096x128) (k0_off1 k 384#32) S1x128x128.size a3).toLoadRect (harg2.unread x0))) (wide (F := Ideal) (arg3.view.readAt (Elt Ideal) (Rect.unit (s := S1x4096x128) (k0_off1 k 384#32) S1x128x128.size a3).toLoadRect (harg3.unread x1))) (wide (F := Ideal) (arg5.view.readAt (Elt Ideal) (Rect.unit (s := S1x4096x128) (k0_off1 k 384#32) S1x128x128.size a3).toLoadRect (harg5.unread x3))) (arg12.view.readAt (Elt Ideal) (Rect.unit (s := S512x256) ![384, 0] S128x256.size c3).toLoadRect f12) (flat (F := Ideal) (arg6.view.readAt (Elt Ideal) (Rect.unit (s := S1x4096x256) (k0_off4 k 384#32) S1x128x256.size v3).toLoadRect (harg6.unread x4))) st3))
    (e12_3 : w12_3 = sums3 m (gates (F := Ideal) (arg4.view.readAt (Elt Ideal) (Rect.unit (s := S1x4096x128) (k0_off7 k) S1x512x128.size g0).toLoadRect (harg4.unread x2)) (arg5.view.readAt (Elt Ideal) (Rect.unit (s := S1x4096x128) (k0_off7 k) S1x512x128.size g0).toLoadRect (harg5.unread x3))))
    (t3 : w13 = kept256 (F := Ideal) (decayed st3 (decF (arg12.view.readAt (Elt Ideal) (Rect.unit (s := S512x256) ![384, 0] S128x256.size c3).toLoadRect f12)) (incrF (wide (F := Ideal) (arg3.view.readAt (Elt Ideal) (Rect.unit (s := S1x4096x128) (k0_off1 k 384#32) S1x128x128.size a3).toLoadRect (harg3.unread x1))) (wide (F := Ideal) (arg5.view.readAt (Elt Ideal) (Rect.unit (s := S1x4096x128) (k0_off1 k 384#32) S1x128x128.size a3).toLoadRect (harg5.unread x3))) (arg12.view.readAt (Elt Ideal) (Rect.unit (s := S512x256) ![384, 0] S128x256.size c3).toLoadRect f12) (flat (F := Ideal) (arg6.view.readAt (Elt Ideal) (Rect.unit (s := S1x4096x256) (k0_off4 k 384#32) S1x128x256.size v3).toLoadRect (harg6.unread x4))))))
    : Inv Q K GF GB V (k.val + 1)
      (arg8.view.read (Elt Ideal) (arg8.view.writes (Elt Ideal) f8 [⟨Rect.unit (s := S4096x128) (k0_off2 k 384#32) S128x128.size j8_3, w8_3⟩, ⟨Rect.unit (s := S4096x128) (k0_off2 k 256#32) S128x128.size j8_2, w8_2⟩, ⟨Rect.unit (s := S4096x128) (k0_off2 k 128#32) S128x128.size j8_1, w8_1⟩, ⟨Rect.unit (s := S4096x128) (k0_off2 k 0#32) S128x128.size j8_0, w8_0⟩]))
      (arg9.view.read (Elt Ideal) (arg9.view.writes (Elt Ideal) f9 [⟨Rect.unit (s := S32x128x256) (k0_off5 k 3#32) S1x128x256.size j9_3, w9_3⟩, ⟨Rect.unit (s := S32x128x256) (k0_off5 k 2#32) S1x128x256.size j9_2, w9_2⟩, ⟨Rect.unit (s := S32x128x256) (k0_off5 k 1#32) S1x128x256.size j9_1, w9_1⟩, ⟨Rect.unit (s := S32x128x256) (k0_off5 k 0#32) S1x128x256.size j9_0, w9_0⟩]))
      (arg10.view.read (Elt Ideal) (arg10.view.writes (Elt Ideal) f10 [⟨Rect.unit (s := S32x128x128) (k0_off3 k 3#32) S1x128x128.size j10_3, w10_3⟩, ⟨Rect.unit (s := S32x128x128) (k0_off3 k 2#32) S1x128x128.size j10_2, w10_2⟩, ⟨Rect.unit (s := S32x128x128) (k0_off3 k 1#32) S1x128x128.size j10_1, w10_1⟩, ⟨Rect.unit (s := S32x128x128) (k0_off3 k 0#32) S1x128x128.size j10_0, w10_0⟩]))
      (arg11.view.read (Elt Ideal) (arg11.view.writes (Elt Ideal) f11 [⟨Rect.unit (s := S4096x256) (k0_off6 k 384#32) S128x256.size j11_3, w11_3⟩, ⟨Rect.unit (s := S4096x256) (k0_off6 k 256#32) S128x256.size j11_2, w11_2⟩, ⟨Rect.unit (s := S4096x256) (k0_off6 k 128#32) S128x256.size j11_1, w11_1⟩, ⟨Rect.unit (s := S4096x256) (k0_off6 k 0#32) S128x256.size j11_0, w11_0⟩]))
      (arg12.view.read (Elt Ideal) (arg12.view.writes (Elt Ideal) f12 [⟨Rect.unit (s := S512x256) ![384, 0] S128x256.size j12_3, w12_3⟩, ⟨Rect.unit (s := S512x256) ![256, 0] S128x256.size j12_2, w12_2⟩, ⟨Rect.unit (s := S512x256) ![128, 0] S128x256.size j12_1, w12_1⟩, ⟨Rect.unit (s := S512x256) ![0, 0] S128x256.size j12_0, w12_0⟩]))
      (arg13.view.read (Elt Ideal) (arg13.view.writes (Elt Ideal) f13 (⟨Rect.unit (s := S128x256) ![0, 0] S128x256.size j13, w13⟩ :: L13))) := by
  have hk := trips8 k
  have o0 := operands (inb := a0) (inb' := a0) (inb'' := a0) (inc := c0) hin harg2 harg3 harg5 hk hP 0 (off1_eq k 0) rfl
  have hv0 := load256 (inb := v0) harg6 hin.v (show 4 * k.val + ((0 : Fin 4) : ℕ) < 32 by simp; omega) (off4_eq k 0)
  have o1 := operands (inb := a1) (inb' := a1) (inb'' := a1) (inc := c1) hin harg2 harg3 harg5 hk hP 1 (off1_eq k 1) rfl
  have hv1 := load256 (inb := v1) harg6 hin.v (show 4 * k.val + ((1 : Fin 4) : ℕ) < 32 by simp; omega) (off4_eq k 1)
  have o2 := operands (inb := a2) (inb' := a2) (inb'' := a2) (inc := c2) hin harg2 harg3 harg5 hk hP 2 (off1_eq k 2) rfl
  have hv2 := load256 (inb := v2) harg6 hin.v (show 4 * k.val + ((2 : Fin 4) : ℕ) < 32 by simp; omega) (off4_eq k 2)
  have o3 := operands (inb := a3) (inb' := a3) (inb'' := a3) (inc := c3) hin harg2 harg3 harg5 hk hP 3 (off1_eq k 3) rfl
  have hv3 := load256 (inb := v3) harg6 hin.v (show 4 * k.val + ((3 : Fin 4) : ℕ) < 32 by simp; omega) (off4_eq k 3)
  have hs0 : ∀ d e, (arg13.view.readAt (Elt Ideal) (Rect.unit (s := S128x256) ![0, 0] S128x256.size s0).toLoadRect f13) (ix2 d e) = ((state (nat2 GF · d) (K · d) (V · e) (128 * (4 * k.val + ((0 : Fin 4) : ℕ))) : ℝ) : EReal) := fun d e => by
    refine (readAt_at _ _ s0 rfl _ (ix2 d e) (fun a => ?_)).trans ((hP.st d e).trans ?_)
    · fin_cases a <;> exact (Nat.zero_add _).symm
    · rw [show 128 * (4 * k.val + ((0 : Fin 4) : ℕ)) = 512 * k.val by simp; omega]
  have hs1 : ∀ d e, st1 (ix2 d e) = ((state (nat2 GF · d) (K · d) (V · e) (128 * (4 * k.val + ((1 : Fin 4) : ℕ))) : ℝ) : EReal) := fun d e => by
    rw [t0, kept256_apply, o0.next_val hv0 hs0, show 128 * (4 * k.val + ((0 : Fin 4) : ℕ)) + 128 = 128 * (4 * k.val + ((1 : Fin 4) : ℕ)) by simp; omega]
  have hs2 : ∀ d e, st2 (ix2 d e) = ((state (nat2 GF · d) (K · d) (V · e) (128 * (4 * k.val + ((2 : Fin 4) : ℕ))) : ℝ) : EReal) := fun d e => by
    rw [t1, kept256_apply, o1.next_val hv1 hs1, show 128 * (4 * k.val + ((1 : Fin 4) : ℕ)) + 128 = 128 * (4 * k.val + ((2 : Fin 4) : ℕ)) by simp; omega]
  have hs3 : ∀ d e, st3 (ix2 d e) = ((state (nat2 GF · d) (K · d) (V · e) (128 * (4 * k.val + ((3 : Fin 4) : ℕ))) : ℝ) : EReal) := fun d e => by
    rw [t2, kept256_apply, o2.next_val hv2 hs2, show 128 * (4 * k.val + ((2 : Fin 4) : ℕ)) + 128 = 128 * (4 * k.val + ((3 : Fin 4) : ℕ)) by simp; omega]
  have hs4 : ∀ d e, w13 (ix2 d e) = ((state (nat2 GF · d) (K · d) (V · e) (512 * (k.val + 1)) : ℝ) : EReal) := fun d e => by
    rw [t3, kept256_apply, o3.next_val hv3 hs3, show 128 * (4 * k.val + ((3 : Fin 4) : ℕ)) + 128 = 512 * (k.val + 1) by simp; omega]
  subst e8_0 e9_0 e10_0 e11_0 e12_0 e8_1 e9_1 e10_1 e11_1 e12_1 e8_2 e9_2 e10_2 e11_2 e12_2 e8_3 e9_3 e10_3 e11_3 e12_3
  refine ⟨?_, ?_, ?_, ?_, ?_, ?_, ?_⟩
  · exact put_rows128 _ _ k _ _ _ _ (qOut Q GB) hP.qi (fun i d => (kept128_apply _ i d).trans (o0.qiB_val i d)) (fun i d => (kept128_apply _ i d).trans (o1.qiB_val i d)) (fun i d => (kept128_apply _ i d).trans (o2.qiB_val i d)) (fun i d => (kept128_apply _ i d).trans (o3.qiB_val i d))
  · exact put_stack256 _ _ k _ _ _ _ (updOut K GB V) hP.upd (fun i d => (slab256_apply _ i d).trans (updOut_val o0 hv0 i d)) (fun i d => (slab256_apply _ i d).trans (updOut_val o1 hv1 i d)) (fun i d => (slab256_apply _ i d).trans (updOut_val o2 hv2 i d)) (fun i d => (slab256_apply _ i d).trans (updOut_val o3 hv3 i d))
  · exact put_stack128 _ _ k _ _ _ _ (decOut GB) hP.dec (fun i d => (slab128_apply _ i d).trans (o0.decB_val i d)) (fun i d => (slab128_apply _ i d).trans (o1.decB_val i d)) (fun i d => (slab128_apply _ i d).trans (o2.decB_val i d)) (fun i d => (slab128_apply _ i d).trans (o3.decB_val i d))
  · exact put_rows256 _ _ k _ _ _ _ (accOut Q K GF GB V) hP.acc (fun i d => (kept256_apply _ i d).trans (o0.rows_val hv0 hm2 hm3 hs0 i d)) (fun i d => (kept256_apply _ i d).trans (o1.rows_val hv1 hm2 hm3 hs1 i d)) (fun i d => (kept256_apply _ i d).trans (o2.rows_val hv2 hm2 hm3 hs2 i d)) (fun i d => (kept256_apply _ i d).trans (o3.rows_val hv3 hm2 hm3 hs3 i d))
  · intro p c i d
    refine (staged _ _ hm _ _ (a := (GF · d)) (fun j => gates_f (GF := GF) (load512 harg4 hin.gf (show min (k.val + 1) 7 < 8 by omega) (off7_eq k)) j d) p c i)
  · intro p c i d
    refine (staged _ _ hm _ _ (a := (GB · d)) (fun j => gates_b (GB := GB) (load512 harg5 hin.gb (show min (k.val + 1) 7 < 8 by omega) (off7_eq k)) j d) p c i)
  · intro d e
    exact (congrFun (View.read_writes_full _ _ _ _ _) _).trans (hs4 d e)

end Trip

end Cert.KernelIdeal.Scan

end
-- ==== Proof.Scan.TileLoop.lean ====
/- The scan's counted loop in `KernelIdeal` with its values: after `k` tiles the scratch arrays hold what `Inv` says of real inputs. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Scan.Trip
public import Idealize.ShloMosaic.Lib.VecWindow

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What the loop keeps: whenever the blocks are real and the masks and the zero-one matrix are theirs, `Inv`. -/
def Held (v2 v3 : IVec S128x128 1) (m : FVec Ideal S128x128 .bf16) (x0 x1 x2 x3 : Vec Ideal S1x4096x128 .bf16) (x4 : Vec Ideal S1x4096x256 .bf16) (k : ℕ)
    (d8 : Vec Ideal S4096x128 .bf16) (d9 : Vec Ideal S32x128x256 .f32) (d10 : Vec Ideal S32x128x128 .f32) (d11 : Vec Ideal S4096x256 .f32) (d12 : Vec Ideal S512x256 .f32) (d13 : Vec Ideal S128x256 .f32) : Prop :=
  ∀ (Q K GF GB : ℕ → Fin 128 → ℝ) (V : ℕ → Fin 256 → ℝ), Inputs Q K GF GB V x0 x1 x2 x3 x4 → (∀ i j : Fin 128, v2 (ix2 i j) = if j ≤ i then 1#1 else 0#1) → (∀ i j : Fin 128, v3 (ix2 i j) = if i ≤ j then 1#1 else 0#1) → IsSum m →
    Inv Q K GF GB V k d8 d9 d10 d11 d12 d13

/-- Before every trip: the staged blocks at their contents, the scratch arrays at contents that satisfy `Held`. -/
def tileRes (c : Dev nD) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S4096x128 .bf16) (harg8 : arg8.IsWhole) (arg9 : Memref sig .tc .vmem S32x128x256 .f32) (harg9 : arg9.IsWhole) (arg10 : Memref sig .tc .vmem S32x128x128 .f32) (harg10 : arg10.IsWhole) (arg11 : Memref sig .tc .vmem S4096x256 .f32) (harg11 : arg11.IsWhole) (arg12 : Memref sig .tc .vmem S512x256 .f32) (harg12 : arg12.IsWhole) (arg13 : Memref sig .tc .vmem S128x256 .f32) (harg13 : arg13.IsWhole)
    (x0 x1 x2 x3 : Vec Ideal S1x4096x128 .bf16) (x4 : Vec Ideal S1x4096x256 .bf16) (v2 v3 : IVec S128x128 1) (v60 : FVec Ideal S128x128 .bf16) (k : ℕ) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4)
    ∗ (∃ f8 f9 f10 f11 f12 f13, ⌜Held v2 v3 v60 x0 x1 x2 x3 x4 k (arg8.view.read (Elt Ideal) f8) (arg9.view.read (Elt Ideal) f9) (arg10.view.read (Elt Ideal) f10) (arg11.view.read (Elt Ideal) f11) (arg12.view.read (Elt Ideal) f12) (arg13.view.read (Elt Ideal) f13)⌝ ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)))

set_option warn.classDefReducibility false in
set_option maxHeartbeats 4000000 in
/-- The loop by that invariant: one trip, run once. -/
@[sl_loop] def tileInv (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S4096x128 .bf16) (harg8 : arg8.IsWhole) (arg9 : Memref sig .tc .vmem S32x128x256 .f32) (harg9 : arg9.IsWhole) (arg10 : Memref sig .tc .vmem S32x128x128 .f32) (harg10 : arg10.IsWhole) (arg11 : Memref sig .tc .vmem S4096x256 .f32) (harg11 : arg11.IsWhole) (arg12 : Memref sig .tc .vmem S512x256 .f32) (harg12 : arg12.IsWhole) (arg13 : Memref sig .tc .vmem S128x256 .f32) (harg13 : arg13.IsWhole) (v2 : IVec S128x128 1) (v3 : IVec S128x128 1) (v60 : FVec Ideal S128x128 .bf16) (v69 : FVec Ideal S512x256 .bf16) (v84 : FVec Ideal S128x256 .f32)
    (x0 x1 x2 x3 : Vec Ideal S1x4096x128 .bf16) (x4 : Vec Ideal S1x4096x256 .bf16) :
    LoopInvTy_k0_t1 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 v2 v3 v60 v69 v84 where
  inv := fun k _ => tileRes c arg2 harg2 arg3 harg3 arg4 harg4 arg5 harg5 arg6 harg6 arg7 harg7 arg8 harg8 arg9 harg9 arg10 harg10 arg11 harg11 arg12 harg12 arg13 harg13 x0 x1 x2 x3 x4 v2 v3 v60 k
  step := fun k acc => by
    unfold tileRes k0_t1_body
    iintro ⟨H2, H3, H4, H5, H6, ⟨%f8, %f9, %f10, %f11, %f12, %f13, %hP, H8, H9, H10, H11, H12, H13⟩⟩
    sl_exec
    sl_step
    isplitl [H2]; · iexact H2
    isplitl [H3]; · iexact H3
    isplitl [H4]; · iexact H4
    isplitl [H5]; · iexact H5
    isplitl [H6]; · iexact H6
    iexists _, _, _, _, _, _
    isplitr
    swap
    · isplitl [H8]; · iexact H8
      isplitl [H9]; · iexact H9
      isplitl [H10]; · iexact H10
      isplitl [H11]; · iexact H11
      isplitl [H12]; · iexact H12
      iexact H13
    ipureintro
    intro Q K GF GB V hin hm2 hm3 hm
    refine trip hin harg2 harg3 harg4 harg5 harg6 hm2 hm3 hm k (hP Q K GF GB V hin hm2 hm3 hm)
      rfl rfl rfl rfl rfl ?_ rfl rfl rfl rfl rfl ?_ rfl rfl rfl rfl rfl ?_ rfl rfl rfl rfl rfl rfl
    all_goals exact (View.readCov_full _ _ _ _ _).trans rfl

end Cert.KernelIdeal.Scan

end
-- ==== Proof.Scan.Entry.lean ====
/-
  What holds when the counted loop is entered: the two masks, the zero-one matrix of the running sums, the first
  tile's running sums, and the empty forward state.
-/
module

public import proofs.«01_k».proof.Proof.Scan.TileLoop

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Cert.Scan Cert.KernelIdeal.Facts

/-- Comparing two row numbers as words. -/
theorem sle_rows : ∀ i j : Fin 128, IntOp.cmpi .sle (BitVec.ofNat 32 j.val) (BitVec.ofNat 32 i.val) = if j ≤ i then 1#1 else 0#1 := by
  decide +kernel

theorem sge_rows : ∀ i j : Fin 128, IntOp.cmpi .sge (BitVec.ofNat 32 j.val) (BitVec.ofNat 32 i.val) = if i ≤ j then 1#1 else 0#1 := by
  decide +kernel

/-- The mask of the rows at or before. -/
theorem mask_le (i j : Fin 128) : k0_pay220 (ix2 i j) = if j ≤ i then 1#1 else 0#1 := by
  pointwise [k0_pay220]
  exact sle_rows i j

/-- The mask of the rows at or after. -/
theorem mask_ge (i j : Fin 128) : k0_pay221 (ix2 i j) = if i ≤ j then 1#1 else 0#1 := by
  pointwise [k0_pay221]
  exact sge_rows i j

/-- The chunk of a row. -/
theorem chunk_row (i j : Fin 128) : k0_pay222 (ix2 i j) = BitVec.ofNat 32 (i.val / 64) := by
  pointwise [k0_pay222]
  clear j
  revert i
  decide +kernel

/-- The chunk of a column, as the kernel puts it together. -/
theorem chunk_col (i j : Fin 128) : Scalar.select (IntOp.andi (k0_pay224 (ix2 i j)) (IntOp.cmpi .ne (IntOp.remsi .vector (BitVec.ofNat 32 j.val) 64#32) 0#32))
    (IntOp.subi (k0_pay223 (ix2 i j)) 1#32) (k0_pay223 (ix2 i j)) = BitVec.ofNat 32 (j.val / 64) := by
  pointwise [k0_pay223, k0_pay224]
  clear i
  revert j
  decide +kernel

theorem eq_chunks : ∀ a b : Fin 2, IntOp.cmpi .eq (BitVec.ofNat 32 a.val) (BitVec.ofNat 32 b.val) = if a = b then 1#1 else 0#1 := by
  decide +kernel

/-- The zero-one matrix of the running sums. -/
theorem isSum : IsSum (k0_pay225 (F := Ideal) (iota .tc S128x128 32 [0] iota_S128x128_d0_w32) (iota .tc S128x128 32 [1] iota_S128x128_d1_w32) k0_pay222 64#32 k0_pay223 k0_pay224) := by
  intro i j
  pointwise [k0_pay225]
  rw [chunk_col, chunk_row, sle_rows, eq_chunks ⟨i.val / 64, by omega⟩ ⟨j.val / 64, by omega⟩]
  by_cases h : j ≤ i <;> by_cases h' : i.val / 64 = j.val / 64 <;> simp [h, h', Scalar.select, IntOp.andi]

/-- The first tile's gates, side by side. -/
def gates0 (arg4 : Memref sig .tc .vmem S1x4096x128 .bf16) (harg4 : arg4.IsWhole) (arg5 : Memref sig .tc .vmem S1x4096x128 .bf16) (harg5 : arg5.IsWhole) (x2 x3 : Vec Ideal S1x4096x128 .bf16) : FVec Ideal S512x256 .bf16 :=
  gates (arg4.view.readAt (Elt Ideal) (Rect.unit (s := S1x4096x128) ![0, 0, 0] S1x512x128.size inb_S1x4096x128_S1x512x128_0_0_0).toLoadRect (harg4.unread x2))
    (arg5.view.readAt (Elt Ideal) (Rect.unit (s := S1x4096x128) ![0, 0, 0] S1x512x128.size inb_S1x4096x128_S1x512x128_0_0_0).toLoadRect (harg5.unread x3))

/-- The zero-one matrix as the kernel makes it. -/
def sumMat : FVec Ideal S128x128 .bf16 := k0_pay225 (F := Ideal) (iota .tc S128x128 32 [0] iota_S128x128_d0_w32) (iota .tc S128x128 32 [1] iota_S128x128_d1_w32) k0_pay222 64#32 k0_pay223 k0_pay224

/-- The loop's facts before its first tile. -/
theorem held_zero (arg4 : Memref sig .tc .vmem S1x4096x128 .bf16) (harg4 : arg4.IsWhole) (arg5 : Memref sig .tc .vmem S1x4096x128 .bf16) (harg5 : arg5.IsWhole) (arg12 : Memref sig .tc .vmem S512x256 .f32) (arg13 : Memref sig .tc .vmem S128x256 .f32)
    (x0 x1 x2 x3 : Vec Ideal S1x4096x128 .bf16) (x4 : Vec Ideal S1x4096x256 .bf16) (d8 : Vec Ideal S4096x128 .bf16) (d9 : Vec Ideal S32x128x256 .f32) (d10 : Vec Ideal S32x128x128 .f32) (d11 : Vec Ideal S4096x256 .f32) (f12 : arg12.view.ty.Contents (Elt Ideal)) (f13 : arg13.view.ty.Contents (Elt Ideal)) :
    Held k0_pay220 k0_pay221 sumMat x0 x1 x2 x3 x4 0 d8 d9 d10 d11
      (arg12.view.read (Elt Ideal) (arg12.view.writes (Elt Ideal) f12
        [⟨Rect.unit ![384, 0] S128x256.size inb_S512x256_S128x256_384_0, sums3 sumMat (gates0 arg4 harg4 arg5 harg5 x2 x3)⟩, ⟨Rect.unit ![256, 0] S128x256.size inb_S512x256_S128x256_256_0, sums2 sumMat (gates0 arg4 harg4 arg5 harg5 x2 x3)⟩,
         ⟨Rect.unit ![128, 0] S128x256.size inb_S512x256_S128x256_128_0, sums1 sumMat (gates0 arg4 harg4 arg5 harg5 x2 x3)⟩, ⟨Rect.unit ![0, 0] S128x256.size inb_S512x256_S128x256_0_0, sums0 sumMat (gates0 arg4 harg4 arg5 harg5 x2 x3)⟩]))
      (arg13.view.read (Elt Ideal) (arg13.view.writes (Elt Ideal) f13 [⟨Rect.unit ![0, 0] S128x256.size inb_S128x256_S128x256_0_0, k0_pay231 (F := Ideal)⟩])) := by
  intro Q K GF GB V hin _ _ _
  refine ⟨fun n _ h => absurd h (by omega), fun n _ h => absurd h (by omega), fun n _ h => absurd h (by omega), fun n _ h => absurd h (by omega), ?_, ?_, ?_⟩
  · intro p c i d
    refine (staged _ _ isSum _ _ (a := (GF · d)) (fun j => gates_f (GF := GF) (load512 harg4 hin.gf (show 0 < 8 by omega) rfl) j d) p c i).trans ?_
    simp
  · intro p c i d
    refine (staged _ _ isSum _ _ (a := (GB · d)) (fun j => gates_b (GB := GB) (load512 harg5 hin.gb (show 0 < 8 by omega) rfl) j d) p c i).trans ?_
    simp
  · intro d e
    rw [View.read_writes_full]
    pointwise [k0_pay231]
    simp [state, pre]

end Cert.KernelIdeal.Scan

end
-- ==== Proof.Scan.Backward.lean ====
/-
  The backward direction: from the last pair to the first, the state of the later rows is added to the output rows and
  then taken past the pair by its stored decay and increment.
-/
module

public import proofs.«01_k».proof.Proof.Scan.Trip

@[expose] public section

set_option maxRecDepth 16384

noncomputable section

namespace Cert.KernelIdeal.Scan

open Cert.KernelIdeal Cert.KernelIdeal.Gen Cert.Scan
open Idealize.ShloMosaic
open Cert.KernelIdeal.Facts

/-- An entry of the result: the row's query against the forward state past the row and the backward state at the row. -/
def outVal (Q K GF GB : ℕ → Fin 128 → ℝ) (V : ℕ → Fin 256 → ℝ) (t : ℕ) (e : Fin 256) : ℝ :=
  ∑ d, Q t d * state (nat2 GF · d) (K · d) (V · e) (t + 1) + ∑ d, Q t d * back 4096 (nat2 GB · d) (K · d) (V · e) t

section Backward

variable (arg8 : Memref sig .tc .vmem S4096x128 .bf16) (arg9 : Memref sig .tc .vmem S32x128x256 .f32) (arg10 : Memref sig .tc .vmem S32x128x128 .f32) (arg11 : Memref sig .tc .vmem S4096x256 .f32)
  (f8 : arg8.view.ty.Contents (Elt Ideal)) (f9 : arg9.view.ty.Contents (Elt Ideal)) (f10 : arg10.view.ty.Contents (Elt Ideal)) (f11 : arg11.view.ty.Contents (Elt Ideal))

theorem inb_row128 (r : ℕ) : ∀ a, (![128 * (31 - r), 0] : Fin 2 → ℕ) a + S128x128.size a ≤ S4096x128.size a := by
  intro a; fin_cases a
  · show 128 * (31 - r) + 128 ≤ 4096; omega
  · show 0 + 128 ≤ 128; omega

theorem inb_row256 (r : ℕ) : ∀ a, (![128 * (31 - r), 0] : Fin 2 → ℕ) a + S128x256.size a ≤ S4096x256.size a := by
  intro a; fin_cases a
  · show 128 * (31 - r) + 128 ≤ 4096; omega
  · show 0 + 256 ≤ 256; omega

theorem inb_slab128 (r : ℕ) : ∀ a, (![31 - r, 0, 0] : Fin 3 → ℕ) a + S1x128x128.size a ≤ S32x128x128.size a := by
  intro a; fin_cases a
  · show 31 - r + 1 ≤ 32; omega
  · show 0 + 128 ≤ 128; omega
  · show 0 + 128 ≤ 128; omega

theorem inb_slab256 (r : ℕ) : ∀ a, (![31 - r, 0, 0] : Fin 3 → ℕ) a + S1x128x256.size a ≤ S32x128x256.size a := by
  intro a; fin_cases a
  · show 31 - r + 1 ≤ 32; omega
  · show 0 + 128 ≤ 128; omega
  · show 0 + 256 ≤ 256; omega

theorem inb_out (r : ℕ) : ∀ a, (![0, 128 * (31 - r), 0] : Fin 3 → ℕ) a + S1x128x256.size a ≤ S1x4096x256.size a := by
  intro a; fin_cases a
  · show 0 + 1 ≤ 1; omega
  · show 128 * (31 - r) + 128 ≤ 4096; omega
  · show 0 + 256 ≤ 256; omega

/-- What the `r`-th pair from the end loads. -/
def decSlab (r : ℕ) : FVec Ideal S1x128x128 .f32 := arg10.view.readAt (Elt Ideal) (Rect.unit (s := S32x128x128) ![31 - r, 0, 0] S1x128x128.size (inb_slab128 r)).toLoadRect f10
def updSlab (r : ℕ) : FVec Ideal S1x128x256 .f32 := arg9.view.readAt (Elt Ideal) (Rect.unit (s := S32x128x256) ![31 - r, 0, 0] S1x128x256.size (inb_slab256 r)).toLoadRect f9
def accRows (r : ℕ) : FVec Ideal S128x256 .f32 := arg11.view.readAt (Elt Ideal) (Rect.unit (s := S4096x256) ![128 * (31 - r), 0] S128x256.size (inb_row256 r)).toLoadRect f11
def qiRows (r : ℕ) : FVec Ideal S128x128 .bf16 := arg8.view.readAt (Elt Ideal) (Rect.unit (s := S4096x128) ![128 * (31 - r), 0] S128x128.size (inb_row128 r)).toLoadRect f8

/-- The backward state before the `r`-th pair from the end. -/
def backState : ℕ → FVec Ideal S128x256 .f32
  | 0 => k0_pay234 (F := Ideal)
  | r + 1 => decayed (backState r)
      (shapeCast S128x128 (decSlab arg10 f10 r) shapeCasts_S1x128x128_S128x128)
      (shapeCast S128x256 (updSlab arg9 f9 r) shapeCasts_S1x128x256_S128x256)

/-- The output rows of the `r`-th pair from the end. -/
def backRows (r : ℕ) : FVec Ideal S1x128x256 .bf16 :=
  shapeCast S1x128x256 (truncf .bf16 (addf (accRows arg11 f11 r)
    (matmul dot_S128x128_S128x256_S128x256_1_0_0_1_n_n none (qiRows arg8 f8 r)
      (truncf .bf16 (backState arg9 arg10 f9 f10 r) bitsLt_bf16_f32) (constant S128x256 .f32 0x00000000#32))) bitsLt_bf16_f32) shapeCasts_S128x256_S1x128x256

/-- Their store. -/
def backPiece (r : ℕ) : View.Piece (Elt Ideal) S1x4096x256 .bf16 := ⟨Rect.unit (s := S1x4096x256) ![0, 128 * (31 - r), 0] S1x128x256.size (inb_out r), backRows arg8 arg9 arg10 arg11 f8 f9 f10 f11 r⟩

variable {arg8 arg9 arg10 arg11 f8 f9 f10 f11}
variable {Q K GF GB : ℕ → Fin 128 → ℝ} {V : ℕ → Fin 256 → ℝ} {d12 : Vec Ideal S512x256 .f32} {d13 : Vec Ideal S128x256 .f32}
  (hP : Inv Q K GF GB V 8 (arg8.view.read (Elt Ideal) f8) (arg9.view.read (Elt Ideal) f9) (arg10.view.read (Elt Ideal) f10) (arg11.view.read (Elt Ideal) f11) d12 d13)

include hP in
/-- The backward state is the recurrence from the last row. -/
theorem backState_val (r : ℕ) (hr : r ≤ 32) (d : Fin 128) (e : Fin 256) :
    backState arg9 arg10 f9 f10 r (ix2 d e) = ((back 4096 (nat2 GB · d) (K · d) (V · e) (128 * (32 - r)) : ℝ) : EReal) := by
  induction r with
  | zero =>
    rw [backState]
    pointwise [k0_pay234]
    simp [back_end]
  | succ r ih =>
    rw [backState, decayed_apply, ih (by omega)]
    have h1 : (shapeCast S128x128 (decSlab arg10 f10 r) shapeCasts_S1x128x128_S128x128) (ix2 d ⟨e % 128, by omega⟩) = decOut GB (31 - r) d ⟨e % 128, by omega⟩ := by
      rw [← hP.dec (31 - r) (by omega) (by omega)]
      pointwise
      exact readAt_at _ _ _ rfl _ _ (coords3 rfl rfl rfl)
    have h2 : (shapeCast S128x256 (updSlab arg9 f9 r) shapeCasts_S1x128x256_S128x256) (ix2 d e) = updOut K GB V (31 - r) d e := by
      rw [← hP.upd (31 - r) (by omega) (by omega)]
      pointwise
      exact readAt_at _ _ _ rfl _ _ (coords3 rfl rfl rfl)
    rw [h1, h2, decOut, updOut, ← EReal.coe_mul, ← EReal.coe_add]
    have hb := bwd_next (L := 128) (v := (V · e)) (s := 128 * (31 - r)) 4096 (by omega) (nat2 GB · d) (K · d)
    rw [show 128 * (31 - r) + 128 = 128 * (32 - r) by omega] at hb
    rw [show 32 - (r + 1) = 31 - r by omega, hb]

include hP in
/-- The rows of a pair are the result's. -/
theorem backRows_val (r : ℕ) (hr : r < 32) (i : Fin 128) (e : Fin 256) :
    backRows arg8 arg9 arg10 arg11 f8 f9 f10 f11 r (ix3 0 i e) = ((outVal Q K GF GB V (128 * (31 - r) + i) e : ℝ) : EReal) := by
  have h1 : accRows arg11 f11 r (ix2 i e) = accOut Q K GF GB V (31 - r) i e := by
    rw [← hP.acc (31 - r) (by omega) (by omega)]
    refine readAt_at _ _ _ rfl _ _ (fun a => ?_)
    fin_cases a
    · rfl
    · exact (Nat.zero_add _).symm
  have h2 : ∀ d, qiRows arg8 f8 r (ix2 i d) = qOut Q GB (31 - r) i d := fun d => by
    rw [← hP.qi (31 - r) (by omega) (by omega)]
    refine readAt_at _ _ _ rfl _ _ (fun a => ?_)
    fin_cases a
    · rfl
    · exact (Nat.zero_add _).symm
  have e0 : backRows arg8 arg9 arg10 arg11 f8 f9 f10 f11 r (ix3 0 i e)
      = accRows arg11 f11 r (ix2 i e)
        + ∑ d : Fin 128, qiRows arg8 f8 r (ix2 i d) * backState arg9 arg10 f9 f10 r (ix2 d e) := by
    pointwise [backRows]
  rw [e0, h1]
  simp only [h2, backState_val hP r (by omega), accOut, qOut, ← EReal.coe_mul, ← coe_sum_real, ← EReal.coe_add]
  congr 1
  have hb := bwd_row (L := 128) Q K (nat2 GB) (V · e) (128 * (31 - r)) 4096 (by omega) i
  rw [show 128 * (31 - r) + 128 = 128 * (32 - r) by omega] at hb
  rw [outVal, inner, add_assoc, hb]

/-- Reading what stores of distinct pairs leave. -/
theorem read_pieces (arg7 : Memref sig .tc .vmem S1x4096x256 .bf16) (f7 : arg7.view.ty.Contents (Elt Ideal)) (w : ℕ → FVec Ideal S1x128x256 .bf16) (L : List ℕ) (hL : ∀ x ∈ L, x < 32) (r : ℕ) (hr : r ∈ L) (i : Fin 128) (e : Fin 256) :
    arg7.view.read (Elt Ideal) (arg7.view.writes (Elt Ideal) f7 (L.map fun r => (⟨Rect.unit (s := S1x4096x256) ![0, 128 * (31 - r), 0] S1x128x256.size (inb_out r), w r⟩ : View.Piece (Elt Ideal) S1x4096x256 .bf16))) (ix3 0 ⟨128 * (31 - r) + i, by omega⟩ e)
      = w r (ix3 0 i e) := by
  induction L with
  | nil => simp at hr
  | cons x L ih =>
    rw [List.map_cons]
    by_cases h : r = x
    · subst h
      refine View.read_writes_cons_unit_of_mem arg7.view f7 (inb_out r) (w r) _ _ (ix3 0 i e) rfl (fun a => ?_)
      fin_cases a
      · rfl
      · rfl
      · exact (Nat.zero_add _).symm
    · have hx := hL x (by simp)
      have hr' := hL r hr
      refine (View.read_writes_cons_unit_of_not_mem arg7.view f7 (inb_out x) (w x) _ _ rfl 1 ?_).trans (ih (fun y hy => hL y (by simp [hy])) (by simpa [h] using hr))
      show 128 * (31 - r) + i.val < 128 * (31 - x) ∨ 128 * (31 - x) + 128 ≤ 128 * (31 - r) + i.val
      omega

include hP in
/-- The output block after the thirty-two pairs. -/
theorem backward (arg7 : Memref sig .tc .vmem S1x4096x256 .bf16) (f7 : arg7.view.ty.Contents (Elt Ideal)) (t : ℕ) (ht : t < 4096) (e : Fin 256) :
    arg7.view.read (Elt Ideal) (arg7.view.writes (Elt Ideal) f7 ([31, 30, 29, 28, 27, 26, 25, 24, 23, 22, 21, 20, 19, 18, 17, 16, 15, 14, 13, 12, 11, 10, 9, 8, 7, 6, 5, 4, 3, 2, 1, 0].map (backPiece arg8 arg9 arg10 arg11 f8 f9 f10 f11))) (ix3 0 ⟨t, ht⟩ e)
      = ((outVal Q K GF GB V t e : ℝ) : EReal) := by
  obtain ⟨r, i, hr, rfl⟩ : ∃ (r : ℕ) (i : Fin 128), r < 32 ∧ t = 128 * (31 - r) + i := ⟨31 - t / 128, ⟨t % 128, by omega⟩, by omega, by show t = 128 * (31 - (31 - t / 128)) + t % 128; omega⟩
  refine (read_pieces arg7 f7 (backRows arg8 arg9 arg10 arg11 f8 f9 f10 f11) _ (by decide) r ?_ i e).trans (backRows_val hP r hr i e)
  simp only [List.mem_cons, List.not_mem_nil]; omega

end Backward

end Cert.KernelIdeal.Scan

end
-- ==== Proof.Scan.RowsRun.lean ====
/- The body of the scan run once at real blocks (`KernelIdeal`): the output block holds the result's rows. -/
module

public import proofs.«01_k».proof.Proof.Scan.Entry
public import proofs.«01_k».proof.Proof.Scan.TileLoop
public import proofs.«01_k».proof.Proof.Scan.Backward

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The real rows of a block. -/
def rowsOf (x : Vec Ideal S1x4096x128 .bf16) (t : ℕ) (d : Fin 128) : ℝ := if h : t < 4096 then (x (ix3 0 ⟨t, h⟩ d)).toReal else 0
def valsOf (x : Vec Ideal S1x4096x256 .bf16) (t : ℕ) (e : Fin 256) : ℝ := if h : t < 4096 then (x (ix3 0 ⟨t, h⟩ e)).toReal else 0

/-- Neither infinity occurs. -/
def IsReal {S : Shape} (x : S.Idx → EReal) : Prop := ∀ y, x y ≠ ⊤ ∧ x y ≠ ⊥

theorem inputs_of_real {x0 x1 x2 x3 : Vec Ideal S1x4096x128 .bf16} {x4 : Vec Ideal S1x4096x256 .bf16} (h0 : IsReal x0) (h1 : IsReal x1) (h2 : IsReal x2) (h3 : IsReal x3) (h4 : IsReal x4) :
    Inputs (rowsOf x0) (rowsOf x1) (rowsOf x2) (rowsOf x3) (valsOf x4) x0 x1 x2 x3 x4 := by
  refine ⟨fun t ht d => ?_, fun t ht d => ?_, fun t ht d => ?_, fun t ht d => ?_, fun t ht d => ?_⟩
  · rw [rowsOf, dif_pos ht, EReal.coe_toReal (h0 _).1 (h0 _).2]
  · rw [rowsOf, dif_pos ht, EReal.coe_toReal (h1 _).1 (h1 _).2]
  · rw [rowsOf, dif_pos ht, EReal.coe_toReal (h2 _).1 (h2 _).2]
  · rw [rowsOf, dif_pos ht, EReal.coe_toReal (h3 _).1 (h3 _).2]
  · rw [valsOf, dif_pos ht, EReal.coe_toReal (h4 _).1 (h4 _).2]

/-- The output block of the scan. -/
def outBlock (x0 x1 x2 x3 : Vec Ideal S1x4096x128 .bf16) (x4 : Vec Ideal S1x4096x256 .bf16) : Vec Ideal S1x4096x256 .bf16 :=
  fun y => ((outVal (rowsOf x0) (rowsOf x1) (rowsOf x2) (rowsOf x3) (valsOf x4) (y 1).val (y 2) : ℝ) : EReal)

theorem eq_outBlock {x0 x1 x2 x3 : Vec Ideal S1x4096x128 .bf16} {x4 : Vec Ideal S1x4096x256 .bf16} {w : Vec Ideal S1x4096x256 .bf16}
    (h : ∀ (t : ℕ) (ht : t < 4096) (e : Fin 256), w (ix3 0 ⟨t, ht⟩ e) = ((outVal (rowsOf x0) (rowsOf x1) (rowsOf x2) (rowsOf x3) (valsOf x4) t e : ℝ) : EReal)) : w = outBlock x0 x1 x2 x3 x4 := by
  funext y
  have e : y = ix3 0 ⟨(y 1).val, (y 1).isLt⟩ (y 2) := by
    funext a
    fin_cases a
    · exact Fin.ext (Nat.lt_one_iff.mp (y 0).isLt)
    · rfl
    · rfl
  rw [e]
  exact h _ _ _

set_option maxHeartbeats 8000000 in
/-- The body keeps its five staged blocks, leaves the result's rows in the output block and the scratch at some contents. -/
theorem rowsRun (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S4096x128 .bf16) (harg8 : arg8.IsWhole) (arg9 : Memref sig .tc .vmem S32x128x256 .f32) (harg9 : arg9.IsWhole) (arg10 : Memref sig .tc .vmem S32x128x128 .f32) (harg10 : arg10.IsWhole) (arg11 : Memref sig .tc .vmem S4096x256 .f32) (harg11 : arg11.IsWhole) (arg12 : Memref sig .tc .vmem S512x256 .f32) (harg12 : arg12.IsWhole) (arg13 : Memref sig .tc .vmem S128x256 .f32) (harg13 : arg13.IsWhole)
    (x0 x1 x2 x3 : Vec Ideal S1x4096x128 .bf16) (x4 : Vec Ideal S1x4096x256 .bf16) (hin : Inputs (rowsOf x0) (rowsOf x1) (rowsOf x2) (rowsOf x3) (valsOf x4) x0 x1 x2 x3 x4) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlock x0 x1 x2 x3 x4) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) Set.univ (cc0_gla_scan i arg2 harg2 arg3 harg3 arg4 harg4 arg5 harg5 arg6 harg6 arg7 harg7 arg8 harg8 arg9 harg9 arg10 harg10 arg11 harg11 arg12 harg12 arg13 harg13) K := by
  simp only [cc0_gla_scan_eq_skeleton]; unfold cc0_gla_scan_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6
  have h0 := held_zero arg4 harg4 arg5 harg5 arg12 arg13 x0 x1 x2 x3 x4 (arg8.view.read (Elt Ideal) f8) (arg9.view.read (Elt Ideal) f9) (arg10.view.read (Elt Ideal) f10) (arg11.view.read (Elt Ideal) f11) arg12.view.junk arg13.view.junk
  sl_exec
  have hP := hL5 _ _ _ _ _ hin mask_le mask_ge isSum
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    exact eq_outBlock fun t ht e => backward hP arg7 _ t ht e
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.KernelIdeal.Scan

end
-- ==== Proof.Scan.ValueFrame.lean ====
/- The scan's run at real arguments (`KernelIdeal`): the result array holds the two-sided recurrence read by the queries. -/
module

public import proofs.«01_k».proof.Proof.Scan.KernelIdealLaunch
public import proofs.«01_k».proof.Proof.Scan.RowsRun
public import Idealize.ShloMosaic.Lib.Claim

@[expose] public section

set_option maxRecDepth 16384

noncomputable section

namespace Cert.KernelIdeal.ScanValue

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The pipeline's data: the inputs' blocks stay, the output block is the result's, nothing is owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlock (iblk m c 0 t) (iblk m c 1 t) (iblk m c 2 t) (iblk m c 3 t) (iblk m c 4 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d))
    ∗ (∃ d, owns (c : Thread nD τ) (stg5 t) fullShare ((dats m 0 c).before 5 t d)))

/-- What the body gives back. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t) ∗ owns (c : Thread nD τ) (stg4 t) fullShare ((dats m 0 c).after 4 t)
    ∗ owns (c : Thread nD τ) (stg5 t) fullShare ((dats m 0 c).after 5 t))

/-- Every staged block is real. -/
def RealBlocks : Prop := ∀ (c : Dev nD) (t : Fin cfg0.N), IsReal (iblk m c 0 t : Vec Ideal S1x4096x128 .bf16) ∧ IsReal (iblk m c 1 t : Vec Ideal S1x4096x128 .bf16) ∧ IsReal (iblk m c 2 t : Vec Ideal S1x4096x128 .bf16) ∧ IsReal (iblk m c 3 t : Vec Ideal S1x4096x128 .bf16) ∧ IsReal (iblk m c 4 t : Vec Ideal S1x4096x256 .bf16)

variable {m} in
set_option maxHeartbeats 1200000 in
theorem sound (hR : RealBlocks m) (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, scratch_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  have hr := hR c t
  iapply (rowsRun c (grid0.coords t) _ _ _ _ _ _ _ _ _ _ _ _ _ _ _ _ _ _ _ _ _ _ _ _ (iblk m c 0 t) (iblk m c 1 t) (iblk m c 2 t) (iblk m c 3 t) (iblk m c 4 t) (inputs_of_real hr.1 hr.2.1 hr.2.2.1 hr.2.2.2.1 hr.2.2.2.2) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) :
    defs₀ (F := Ideal) .tc cfg0.body (cfg0.bodyArgs t (cfg0.slots t)) = bodyAt0 t := by
  unfold defs₀; rw [Defs.onTc_tc]

variable {m} in
/-- The body's obligation at every point. -/
theorem obligation (hR : RealBlocks m) (c : Dev nD) : BodyObligation (dats m 0 c) (defs₀ (F := Ideal)) Variants.none () Set.univ := fun t => by
  rw [bigSep_W0, bigSep_W0, row_eq]
  exact triple_restated (sound hR c t) rfl .rfl fun _ => .rfl

variable {m} in
set_option backward.isDefEq.respectTransparency.types false in
/-- The whole run: the arrays at its end. -/
theorem wholeRun (hR : RealBlocks m) : θ_run defs (onTc (τ := τ) (main (F := Ideal))) (s₀ m ρ) (Pipeline.FramePost cfgs (dats m) 0 (V m)) :=
  Pipeline.θ_run_frame_shared cfgs (dats m) (0 : Fin 1) launch₀0 defs₀ Variants.none m ρ main
    (hbody := fun c => (obligation hR c).loose) (hq := fun _ _ _ => rfl)
    (howed := fun _ _ => rfl) (V := V m) (hmain := hmain m Variants.none) (hA := A_eq m) (hΦ := fun _ _ => rfl)

end Cert.KernelIdeal.ScanValue

end
-- ==== Proof.Scan.ValueRun.lean ====
/-
  The result array of the scan at a real argument: entry by entry, the row's query against the two states.
-/
module

public import proofs.«01_k».proof.Proof.Scan.ValueFrame
public import Idealize.ShloMosaic.Lib.Pipeline.Value

@[expose] public section

set_option maxRecDepth 16384

noncomputable section

namespace Cert.KernelIdeal.ScanValue

open Cert.KernelIdeal Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The argument array. -/
abbrev argOf (c : Dev nD) : Vec Ideal S4x4096x11264 .bf16 := m ((c.tc : Thread nD τ).loc main_arg0)

/-- The real columns of a batch from a first column on. -/
def cols (X : S4x4096x11264.Idx → EReal) (b off : ℕ) {n : ℕ} (t : ℕ) (d : Fin n) : ℝ :=
  if h : b < 4 ∧ t < 4096 ∧ off + d.val < 11264 then (X (ix3 ⟨b, h.1⟩ ⟨t, h.2.1⟩ ⟨off + d.val, h.2.2⟩)).toReal else 0

/-- The scan of head `h` of batch `b`. -/
def headVal (X : S4x4096x11264.Idx → EReal) (b h : ℕ) (t : ℕ) (e : Fin 256) : ℝ :=
  outVal (cols X b (128 * h)) (cols X b (512 + 128 * h)) (cols X b (3072 + 128 * h)) (cols X b (3584 + 128 * h)) (cols X b (1024 + 256 * h)) t e

/-- The result array. -/
def scanOut (X : S4x4096x11264.Idx → EReal) : S4x4096x1024.Idx → EReal := fun y =>
  ((headVal X (y 0).val ((y 2).val / 256) (y 1).val ⟨(y 2).val % 256, Nat.mod_lt _ (by decide)⟩ : ℝ) : EReal)

theorem points (t : Fin cfg0.N) : t.val < 16 := t.isLt

theorem index0 : ∀ t : Fin cfg0.N, win0_0.index t 0 = t.val / 4 ∧ win0_0.index t 1 = 0 ∧ win0_0.index t 2 = t.val % 4 := by decide +kernel

/-- Window 0's block is a slice of the argument's columns. -/
theorem block0 (c : Dev nD) (t : Fin cfg0.N) (s : Fin 4096) (d : Fin 128) :
    (iblk m c 0 t : Vec Ideal S1x4096x128 .bf16) (ix3 0 s d) = argOf m c (ix3 ⟨t.val / 4, by have := points t; omega⟩ s ⟨128 * (t.val % 4) + d.val, by omega⟩) := by
  have hi := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 4; rw [hi.1]; omega
  | ⟨1, _⟩ => show win0_0.index t 1 * 4096 + 1 * s.val = s.val; rw [hi.2.1]; omega
  | ⟨2, _⟩ => show win0_0.index t 2 * 128 + 1 * d.val = 128 * (t.val % 4) + d.val; rw [hi.2.2]; omega

theorem rows0 (c : Dev nD) (t : Fin cfg0.N) : rowsOf (iblk m c 0 t) = cols (argOf m c) (t.val / 4) (128 * (t.val % 4)) := by
  funext s d
  have hp := points t
  unfold rowsOf cols
  by_cases h : s < 4096
  · rw [dif_pos h, dif_pos ⟨by omega, h, by omega⟩, block0]
  · rw [dif_neg h, dif_neg (fun hh => h hh.2.1)]

theorem index1 : ∀ t : Fin cfg0.N, win0_1.index t 0 = t.val / 4 ∧ win0_1.index t 1 = 0 ∧ win0_1.index t 2 = 4 + t.val % 4 := by decide +kernel

/-- Window 1's block is a slice of the argument's columns. -/
theorem block1 (c : Dev nD) (t : Fin cfg0.N) (s : Fin 4096) (d : Fin 128) :
    (iblk m c 1 t : Vec Ideal S1x4096x128 .bf16) (ix3 0 s d) = argOf m c (ix3 ⟨t.val / 4, by have := points t; omega⟩ s ⟨512 + 128 * (t.val % 4) + d.val, by omega⟩) := by
  have hi := index1 t
  unfold iblk
  rw [View.read_apply]
  show V m c main_arg0 _ = m (c.tc.loc main_arg0) _
  unfold V
  congr 1
  funext a
  apply Fin.ext
  match a with
  | ⟨0, _⟩ => show win0_1.index t 0 * 1 + 1 * 0 = t.val / 4; rw [hi.1]; omega
  | ⟨1, _⟩ => show win0_1.index t 1 * 4096 + 1 * s.val = s.val; rw [hi.2.1]; omega
  | ⟨2, _⟩ => show win0_1.index t 2 * 128 + 1 * d.val = 512 + 128 * (t.val % 4) + d.val; rw [hi.2.2]; omega

theorem rows1 (c : Dev nD) (t : Fin cfg0.N) : rowsOf (iblk m c 1 t) = cols (argOf m c) (t.val / 4) (512 + 128 * (t.val % 4)) := by
  funext s d
  have hp := points t
  unfold rowsOf cols
  by_cases h : s < 4096
  · rw [dif_pos h, dif_pos ⟨by omega, h, by omega⟩, block1]
  · rw [dif_neg h, dif_neg (fun hh => h hh.2.1)]

theorem index2 : ∀ t : Fin cfg0.N, win0_2.index t 0 = t.val / 4 ∧ win0_2.index t 1 = 0 ∧ win0_2.index t 2 = 24 + t.val % 4 := by decide +kernel

/-- Window 2's block is a slice of the argument's columns. -/
theorem block2 (c : Dev nD) (t : Fin cfg0.N) (s : Fin 4096) (d : Fin 128) :
    (iblk m c 2 t : Vec Ideal S1x4096x128 .bf16) (ix3 0 s d) = argOf m c (ix3 ⟨t.val / 4, by have := points t; omega⟩ s ⟨3072 + 128 * (t.val % 4) + d.val, by omega⟩) := by
  have hi := index2 t
  unfold iblk
  rw [View.read_apply]
  show V m c main_arg0 _ = m (c.tc.loc main_arg0) _
  unfold V
  congr 1
  funext a
  apply Fin.ext
  match a with
  | ⟨0, _⟩ => show win0_2.index t 0 * 1 + 1 * 0 = t.val / 4; rw [hi.1]; omega
  | ⟨1, _⟩ => show win0_2.index t 1 * 4096 + 1 * s.val = s.val; rw [hi.2.1]; omega
  | ⟨2, _⟩ => show win0_2.index t 2 * 128 + 1 * d.val = 3072 + 128 * (t.val % 4) + d.val; rw [hi.2.2]; omega

theorem rows2 (c : Dev nD) (t : Fin cfg0.N) : rowsOf (iblk m c 2 t) = cols (argOf m c) (t.val / 4) (3072 + 128 * (t.val % 4)) := by
  funext s d
  have hp := points t
  unfold rowsOf cols
  by_cases h : s < 4096
  · rw [dif_pos h, dif_pos ⟨by omega, h, by omega⟩, block2]
  · rw [dif_neg h, dif_neg (fun hh => h hh.2.1)]

theorem index3 : ∀ t : Fin cfg0.N, win0_3.index t 0 = t.val / 4 ∧ win0_3.index t 1 = 0 ∧ win0_3.index t 2 = 28 + t.val % 4 := by decide +kernel

/-- Window 3's block is a slice of the argument's columns. -/
theorem block3 (c : Dev nD) (t : Fin cfg0.N) (s : Fin 4096) (d : Fin 128) :
    (iblk m c 3 t : Vec Ideal S1x4096x128 .bf16) (ix3 0 s d) = argOf m c (ix3 ⟨t.val / 4, by have := points t; omega⟩ s ⟨3584 + 128 * (t.val % 4) + d.val, by omega⟩) := by
  have hi := index3 t
  unfold iblk
  rw [View.read_apply]
  show V m c main_arg0 _ = m (c.tc.loc main_arg0) _
  unfold V
  congr 1
  funext a
  apply Fin.ext
  match a with
  | ⟨0, _⟩ => show win0_3.index t 0 * 1 + 1 * 0 = t.val / 4; rw [hi.1]; omega
  | ⟨1, _⟩ => show win0_3.index t 1 * 4096 + 1 * s.val = s.val; rw [hi.2.1]; omega
  | ⟨2, _⟩ => show win0_3.index t 2 * 128 + 1 * d.val = 3584 + 128 * (t.val % 4) + d.val; rw [hi.2.2]; omega

theorem rows3 (c : Dev nD) (t : Fin cfg0.N) : rowsOf (iblk m c 3 t) = cols (argOf m c) (t.val / 4) (3584 + 128 * (t.val % 4)) := by
  funext s d
  have hp := points t
  unfold rowsOf cols
  by_cases h : s < 4096
  · rw [dif_pos h, dif_pos ⟨by omega, h, by omega⟩, block3]
  · rw [dif_neg h, dif_neg (fun hh => h hh.2.1)]

theorem index4 : ∀ t : Fin cfg0.N, win0_4.index t 0 = t.val / 4 ∧ win0_4.index t 1 = 0 ∧ win0_4.index t 2 = 4 + t.val % 4 := by decide +kernel

/-- Window 4's block is a slice of the argument's columns. -/
theorem block4 (c : Dev nD) (t : Fin cfg0.N) (s : Fin 4096) (d : Fin 256) :
    (iblk m c 4 t : Vec Ideal S1x4096x256 .bf16) (ix3 0 s d) = argOf m c (ix3 ⟨t.val / 4, by have := points t; omega⟩ s ⟨1024 + 256 * (t.val % 4) + d.val, by omega⟩) := by
  have hi := index4 t
  unfold iblk
  rw [View.read_apply]
  show V m c main_arg0 _ = m (c.tc.loc main_arg0) _
  unfold V
  congr 1
  funext a
  apply Fin.ext
  match a with
  | ⟨0, _⟩ => show win0_4.index t 0 * 1 + 1 * 0 = t.val / 4; rw [hi.1]; omega
  | ⟨1, _⟩ => show win0_4.index t 1 * 4096 + 1 * s.val = s.val; rw [hi.2.1]; omega
  | ⟨2, _⟩ => show win0_4.index t 2 * 256 + 1 * d.val = 1024 + 256 * (t.val % 4) + d.val; rw [hi.2.2]; omega

theorem rows4 (c : Dev nD) (t : Fin cfg0.N) : valsOf (iblk m c 4 t) = cols (argOf m c) (t.val / 4) (1024 + 256 * (t.val % 4)) := by
  funext s d
  have hp := points t
  unfold valsOf cols
  by_cases h : s < 4096
  · rw [dif_pos h, dif_pos ⟨by omega, h, by omega⟩, block4]
  · rw [dif_neg h, dif_neg (fun hh => h hh.2.1)]

theorem index5 : ∀ t : Fin cfg0.N, win0_5.index t 0 = t.val / 4 ∧ win0_5.index t 1 = 0 ∧ win0_5.index t 2 = t.val % 4 := by decide +kernel
theorem xsize5 : ∀ t : Fin cfg0.N, win0_5.xsize (grid0.coords t) 0 = 1 ∧ win0_5.xsize (grid0.coords t) 1 = 4096 ∧ win0_5.xsize (grid0.coords t) 2 = 256 := by decide +kernel
theorem flush5 : ∀ t : Fin cfg0.N, (cfg0.win 5).flush t = true := by decide +kernel

/-- What a point writes back is the result's block. -/
theorem flushed_eq (c : Dev nD) (t : Fin cfg0.N) (_ : (cfg0.win 5).flush t = true) :
    (dats m 0 c).flushed 5 t = ((cfg0.win 5).blk t).view.read (Elt Ideal) (scanOut (argOf m c)) := by
  have hi := index5 t
  have hp := points t
  show (cfg0.win 5).cut (grid0.coords t) ((dats m 0 c).after 5 t) = _
  rw [after_5]
  funext y
  rw [View.read_apply]
  show ((outVal (rowsOf (iblk m c 0 t)) (rowsOf (iblk m c 1 t)) (rowsOf (iblk m c 2 t)) (rowsOf (iblk m c 3 t)) (valsOf (iblk m c 4 t)) (y 1).val (y 2) : ℝ) : EReal)
    = scanOut (argOf m c) _
  rw [rows0, rows1, rows2, rows3, rows4]
  have h2 : (y 2).val < 256 := (y 2).isLt
  have h0 : (y 0).val < 1 := (y 0).isLt
  have e : ∀ z : S4x4096x1024.Idx, (z 0).val = t.val / 4 → (z 1).val = (y 1).val → (z 2).val = 256 * (t.val % 4) + (y 2).val →
      scanOut (argOf m c) z = ((headVal (argOf m c) (t.val / 4) (t.val % 4) (y 1).val (y 2) : ℝ) : EReal) := by
    intro z z0 z1 z2
    unfold scanOut
    rw [z0, z1, show (z 2).val / 256 = t.val % 4 by omega, show (⟨(z 2).val % 256, Nat.mod_lt _ (by decide)⟩ : Fin 256) = y 2 from Fin.ext (by show (z 2).val % 256 = (y 2).val; omega)]
  refine (e _ ?_ ?_ ?_).symm
  · show win0_5.index t 0 * 1 + 1 * (y 0).val = t.val / 4; rw [hi.1]; omega
  · show win0_5.index t 1 * 4096 + 1 * (y 1).val = (y 1).val; rw [hi.2.1]; omega
  · show win0_5.index t 2 * 256 + 1 * (y 2).val = _; rw [hi.2.2]; omega

/-- The sixteen blocks cover the result array. -/
theorem final (c : Dev nD) : (dats m 0 c).arrAt 5 cfg0.N = scanOut (argOf m c) :=
  (dats m 0 c).arrAt_eq_of_cover 5 (scanOut (argOf m c)) (flushed_eq m c) fun i => by
    have h0 : (i 0 : Nat) < 4 := (i 0).isLt
    have h1 : (i 1 : Nat) < 4096 := (i 1).isLt
    have h2 : (i 2 : Nat) < 1024 := (i 2).isLt
    refine ⟨⟨4 * (i 0 : Nat) + (i 2 : Nat) / 256, by show _ < 16; omega⟩, flush5 _, ?_⟩
    generalize ht : (⟨4 * (i 0 : Nat) + (i 2 : Nat) / 256, by show _ < 16; omega⟩ : Fin cfg0.N) = t
    have hv : t.val = 4 * (i 0 : Nat) + (i 2 : Nat) / 256 := by rw [← ht]
    have hi := index5 t
    have hx := xsize5 t
    show i ∈ ((View.whole main_v0).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + win0_5.xsize (grid0.coords t) 0
                rw [hi.1, hx.1]; omega
    | ⟨1, _⟩ => show win0_5.index t 1 * 4096 ≤ (i 1 : Nat) ∧ (i 1 : Nat) < win0_5.index t 1 * 4096 + win0_5.xsize (grid0.coords t) 1
                rw [hi.2.1, hx.2.1]; omega
    | ⟨2, _⟩ => show win0_5.index t 2 * 256 ≤ (i 2 : Nat) ∧ (i 2 : Nat) < win0_5.index t 2 * 256 + win0_5.xsize (grid0.coords t) 2
                rw [hi.2.2, hx.2.2]; omega

/-- The columns the scan reads are real. -/
def RealArg (X : S4x4096x11264.Idx → EReal) : Prop := ∀ y : S4x4096x11264.Idx, ((y 2).val < 2048 ∨ 3072 ≤ (y 2).val ∧ (y 2).val < 4096) → X y ≠ ⊤ ∧ X y ≠ ⊥

theorem ix3_of {n0 n1 n2 : ℕ} (y : (⟨3, ![n0, n1, n2]⟩ : Shape).Idx) : y = ix3 (y 0) (y 1) (y 2) := by
  funext a; fin_cases a <;> rfl

variable {m} in
theorem realBlocks (h : ∀ c, RealArg (argOf m c)) : RealBlocks m := by
  intro c t
  have hp := points t
  refine ⟨?_, ?_, ?_, ?_, ?_⟩
  · intro y
    obtain ⟨s, d, rfl⟩ : ∃ (s : Fin 4096) (d : Fin 128), y = ix3 0 s d := ⟨y 1, y 2, by rw [ix3_of y]; congr 1; exact Fin.ext (Nat.lt_one_iff.mp (y 0).isLt)⟩
    rw [block0]
    exact h c _ (Or.inl (show 128 * (t.val % 4) + d.val < 2048 by omega))
  · intro y
    obtain ⟨s, d, rfl⟩ : ∃ (s : Fin 4096) (d : Fin 128), y = ix3 0 s d := ⟨y 1, y 2, by rw [ix3_of y]; congr 1; exact Fin.ext (Nat.lt_one_iff.mp (y 0).isLt)⟩
    rw [block1]
    exact h c _ (Or.inl (show 512 + 128 * (t.val % 4) + d.val < 2048 by omega))
  · intro y
    obtain ⟨s, d, rfl⟩ : ∃ (s : Fin 4096) (d : Fin 128), y = ix3 0 s d := ⟨y 1, y 2, by rw [ix3_of y]; congr 1; exact Fin.ext (Nat.lt_one_iff.mp (y 0).isLt)⟩
    rw [block2]
    exact h c _ (Or.inr (show 3072 ≤ 3072 + 128 * (t.val % 4) + d.val ∧ 3072 + 128 * (t.val % 4) + d.val < 4096 by omega))
  · intro y
    obtain ⟨s, d, rfl⟩ : ∃ (s : Fin 4096) (d : Fin 128), y = ix3 0 s d := ⟨y 1, y 2, by rw [ix3_of y]; congr 1; exact Fin.ext (Nat.lt_one_iff.mp (y 0).isLt)⟩
    rw [block3]
    exact h c _ (Or.inr (show 3072 ≤ 3584 + 128 * (t.val % 4) + d.val ∧ 3584 + 128 * (t.val % 4) + d.val < 4096 by omega))
  · intro y
    obtain ⟨s, d, rfl⟩ : ∃ (s : Fin 4096) (d : Fin 256), y = ix3 0 s d := ⟨y 1, y 2, by rw [ix3_of y]; congr 1; exact Fin.ext (Nat.lt_one_iff.mp (y 0).isLt)⟩
    rw [block4]
    exact h c _ (Or.inl (show 1024 + 256 * (t.val % 4) + d.val < 2048 by omega))

/-- The run, read: the result array at the scan's values, the argument unchanged. -/
theorem run (h : ∀ c, RealArg (argOf m c)) : θ_run defs (onTc (τ := τ) (main (F := Ideal))) ⟨m, fun _ => 0, ρ⟩ fun r => ∀ c : Dev nD,
      r.2.mem ((c.tc : Thread nD τ).loc main_v0) = scanOut (argOf m c)
      ∧ r.2.mem ((c.tc : Thread nD τ).loc main_arg0) = m ((c.tc : Thread nD τ).loc main_arg0) :=
  (θ_run defs _ _).mono (fun _ hr c => ⟨((hr c).1 5).trans (final m c), ((hr c).1 4).trans (((dats m 0 c).arrAt_in 4 rfl _).trans ((A_eq m c 4).trans (V_main_arg0 m c)))⟩)
    (wholeRun ρ (realBlocks h))

end Cert.KernelIdeal.ScanValue

end
-- ==== Proof.Scan.RefCumsum.lean ====
/-
  The reference's running sum of a chunk of gates: a window sum of 64 rows, padded by 63 zeros, is the sum of the rows
  up to the row asked for.
-/
module

public import proofs.«01_k».proof.Proof.Gen.ReferenceIdeal
public import proofs.«01_k».proof.Proof.Scan.Recurrence
public import Idealize.ShloMosaic.Lib.Pointwise

@[expose] public section

set_option maxRecDepth 16384

noncomputable section

namespace Cert.ReferenceIdeal.Scan

open Cert.ReferenceIdeal Cert.Scan
open Idealize.ShloMosaic

/-- A left fold of additions over all positions is the sum over them. -/
theorem foldl_add {n : ℕ} (g : Fin n → EReal) : (List.finRange n).foldl (fun r i => r + g i) 0 = ∑ i, g i := by
  rw [← List.foldl_map (f := g) (g := (· + ·)), ← List.sum_eq_foldl, ← List.ofFn_eq_map, List.sum_ofFn]

/-- A window sum from zero is the sum over the window's positions. -/
theorem window_add {s t u : Shape} (window strides lo hi : Fin s.rank → ℕ) (x : s.Idx → EReal) (h : s.ReduceWindows window strides lo hi t)
    (hu : 0 < u.numel) (j : t.Idx) :
    Host.reduceWindow (· + ·) window strides lo hi x (fun _ : u.Idx => 0) h hu j
      = ∑ w : (⟨s.rank, window⟩ : Shape).Idx, (let p : Fin s.rank → ℕ := fun a => (j (a.cast h.1.symm)).val * strides a + (w a).val
          if hin : ∀ a, lo a ≤ p a ∧ p a - lo a < s.size a then x (fun a => ⟨p a - lo a, (hin a).2⟩) else 0) := by
  unfold Host.reduceWindow
  refine (foldl_add _).trans ((Finset.sum_congr rfl fun n _ => ?_).trans (Equiv.sum_comp (Shape.rowMajor ⟨s.rank, window⟩).symm (fun w : (⟨s.rank, window⟩ : Shape).Idx =>
    (let p : Fin s.rank → ℕ := fun a => (j (a.cast h.1.symm)).val * strides a + (w a).val
     if hin : ∀ a, lo a ≤ p a ∧ p a - lo a < s.size a then x (fun a => ⟨p a - lo a, (hin a).2⟩) else 0))))
  dsimp only
  congr

/-- The window's one long axis. -/
def windowIdx : (⟨4, ![1, 1, 64, 1]⟩ : Shape).Idx ≃ Fin 64 where
  toFun p := p 2
  invFun n := ix4 0 0 n 0
  left_inv p := by
    funext a
    match a with
    | ⟨0, _⟩ => exact Fin.ext (Nat.lt_one_iff.mp (p 0).isLt).symm
    | ⟨1, _⟩ => exact Fin.ext (Nat.lt_one_iff.mp (p 1).isLt).symm
    | ⟨2, _⟩ => rfl
    | ⟨3, _⟩ => exact Fin.ext (Nat.lt_one_iff.mp (p 3).isLt).symm
  right_inv n := rfl

/-- The sum over the window of a row: the rows up to it. -/
theorem sum_window_row (f : ℕ → EReal) (i : Fin 64) :
    (∑ n : Fin 64, if 63 ≤ i.val + n.val ∧ i.val + n.val - 63 < 64 then f (i.val + n.val - 63) else 0) = ∑ u ∈ Finset.range (i.val + 1), f u := by
  rw [Fin.sum_univ_eq_sum_range (fun n => if 63 ≤ i.val + n ∧ i.val + n - 63 < 64 then f (i.val + n - 63) else 0) 64, ← Finset.sum_filter]
  have hi := i.isLt
  refine Finset.sum_nbij (fun n => i.val + n - 63) ?_ ?_ ?_ ?_
  · intro n hn; simp only [Finset.mem_filter, Finset.mem_range] at hn ⊢; omega
  · intro a ha b hb hab; simp only [Finset.coe_filter, Finset.mem_range, Set.mem_setOf_eq] at ha hb hab; omega
  · intro u hu
    simp only [Finset.coe_range, Set.mem_Iio] at hu
    refine ⟨u + 63 - i.val, ?_, ?_⟩
    · simp only [Finset.coe_filter, Finset.mem_range, Set.mem_setOf_eq]; omega
    · show i.val + (u + 63 - i.val) - 63 = u; omega
  · intro n hn; rfl

/-- The window sum of a chunk at a row, from rows whose values are `f`. -/
theorem cumsum_apply (x : FVec Ideal S8x4x64x128 .f32) (init : FVec Ideal S_ .f32) (h) (hu : 0 < S_.numel) (hz : ∀ z, init z = (0 : EReal))
    (b : Fin 8) (q : Fin 4) (d : Fin 128) (f : ℕ → EReal) (hf : ∀ j : Fin 64, x (ix4 b q j d) = f j.val) (i : Fin 64) :
    Host.reduceWindowAdd ![1, 1, 64, 1] ![1, 1, 1, 1] ![0, 0, 63, 0] ![0, 0, 0, 0] x init h hu (ix4 b q i d : S8x4x64x128.Idx)
      = ∑ u ∈ Finset.range (i.val + 1), f u := by
  unfold Host.reduceWindowAdd
  rw [Ideal.hostReduceWindowAdd_def, hz]
  unfold Ideal.hostReduceWindowAdd
  rw [window_add, ← Equiv.sum_comp windowIdx.symm, ← sum_window_row]
  refine Finset.sum_congr rfl fun n _ => ?_
  have hb := b.isLt
  have hq := q.isLt
  have hd := d.isLt
  by_cases hc : 63 ≤ i.val + n.val ∧ i.val + n.val - 63 < 64
  · rw [if_pos hc, ← hf ⟨i.val + n.val - 63, hc.2⟩, dif_pos]
    · congr 1
      funext a
      apply Fin.ext
      match a with
      | ⟨0, _⟩ => show b.val * 1 + 0 - 0 = b.val; omega
      | ⟨1, _⟩ => show q.val * 1 + 0 - 0 = q.val; omega
      | ⟨2, _⟩ => show i.val * 1 + n.val - 63 = i.val + n.val - 63; omega
      | ⟨3, _⟩ => show d.val * 1 + 0 - 0 = d.val; omega
    · intro a
      match a with
      | ⟨0, _⟩ => show 0 ≤ b.val * 1 + 0 ∧ b.val * 1 + 0 - 0 < 8; omega
      | ⟨1, _⟩ => show 0 ≤ q.val * 1 + 0 ∧ q.val * 1 + 0 - 0 < 4; omega
      | ⟨2, _⟩ => show 63 ≤ i.val * 1 + n.val ∧ i.val * 1 + n.val - 63 < 64; omega
      | ⟨3, _⟩ => show 0 ≤ d.val * 1 + 0 ∧ d.val * 1 + 0 - 0 < 128; omega
  · rw [if_neg hc, dif_neg]
    intro hin
    have h2 : 63 ≤ i.val * 1 + n.val ∧ i.val * 1 + n.val - 63 < 64 := hin 2
    omega

end Cert.ReferenceIdeal.Scan

end
-- ==== Proof.Scan.RefTrip.lean ====
/-
  One trip of the reference's scan on real sequences: a chunk of 64 rows is read, its rows are written out and the
  states move to the end of the chunk.
-/
module

public import proofs.«01_k».proof.Proof.Gen.ReferenceIdeal.Run
public import proofs.«01_k».proof.Proof.Scan.RefCumsum
public import Idealize.ShloMosaic.Lib.DynamicIndex

@[expose] public section

set_option maxRecDepth 16384

noncomputable section

namespace Cert.ReferenceIdeal.Scan

open Cert.ReferenceIdeal Cert.ReferenceIdeal.Value Cert.Scan
open Idealize.ShloMosaic
open Cert.ReferenceIdeal.Facts Cert.ReferenceIdeal.Facts₀

/-- A finite sum of reals, read among the extended reals. -/
theorem coe_sum {ι : Type*} (t : Finset ι) (f : ι → ℝ) : ((∑ i ∈ t, f i : ℝ) : EReal) = ∑ i ∈ t, (f i : EReal) := by
  classical
  induction t using Finset.induction with
  | empty => simp
  | insert a t h ih => rw [Finset.sum_insert h, Finset.sum_insert h, EReal.coe_add, ih]

abbrev bufQ (V : Valuation τ sig (Elt Ideal)) : FVec Ideal S64x8x4x64x128 .f32 := V (Proc.devRef .tc main_v41_0)
abbrev bufK (V : Valuation τ sig (Elt Ideal)) : FVec Ideal S64x8x4x64x128 .f32 := V (Proc.devRef .tc main_v41_1)
abbrev bufV (V : Valuation τ sig (Elt Ideal)) : FVec Ideal S64x8x4x64x256 .f32 := V (Proc.devRef .tc main_v41_2)
abbrev bufG (V : Valuation τ sig (Elt Ideal)) : FVec Ideal S64x8x4x64x128 .f32 := V (Proc.devRef .tc main_v41_3)
abbrev bufM (V : Valuation τ sig (Elt Ideal)) : IVec S1x1x64x64x1 1 := V (Proc.devRef .tc main_v41_4)
abbrev bufC (V : Valuation τ sig (Elt Ideal)) : IVec S_ 32 := V (Proc.devRef .tc main_v41_5)
abbrev bufS (V : Valuation τ sig (Elt Ideal)) : FVec Ideal S8x4x128x256 .f32 := V (Proc.devRef .tc main_v41_6)
abbrev bufO (V : Valuation τ sig (Elt Ideal)) : FVec Ideal S64x8x4x64x256 .f32 := V (Proc.devRef .tc main_v41_7)

/-- What the buffers hold before trip `k`. -/
structure Held (Q K A : Fin 8 → Fin 4 → ℕ → Fin 128 → ℝ) (W : Fin 8 → Fin 4 → ℕ → Fin 256 → ℝ) (k : ℕ) (V : Valuation τ sig (Elt Ideal)) : Prop where
  q : ∀ n b h i d, bufQ V (ix5 n b h i d) = ((Q b h (64 * n.val + i.val) d : ℝ) : EReal)
  kk : ∀ n b h i d, bufK V (ix5 n b h i d) = ((K b h (64 * n.val + i.val) d : ℝ) : EReal)
  v : ∀ n b h i e, bufV V (ix5 n b h i e) = ((W b h (64 * n.val + i.val) e : ℝ) : EReal)
  g : ∀ n b h i d, bufG V (ix5 n b h i d) = ((A b h (64 * n.val + i.val) d : ℝ) : EReal)
  m : ∀ i j : Fin 64, bufM V (ix5 0 0 i j 0) = if j.val ≤ i.val then 1#1 else 0#1
  c : bufC V = fun _ => BitVec.ofNat 32 k
  s : ∀ b h d e, bufS V (ix4 b h d e) = ((state (A b h · d) (K b h · d) (W b h · e) (64 * k) : ℝ) : EReal)
  o : ∀ n b h i e, n.val < k → bufO V (ix5 n b h i e)
    = ((∑ d, Q b h (64 * n.val + i.val) d * state (A b h · d) (K b h · d) (W b h · e) (64 * n.val + i.val + 1) : ℝ) : EReal)

/-- A chunk of a buffer of chunks. -/
theorem chunk128 (x : FVec Ideal S64x8x4x64x128 .f32) (st : Fin 5 → ℤ) (k : ℕ) (hk : k < 64) (hs : ∀ a, st a = ((![k, 0, 0, 0, 0] : Fin 5 → ℕ) a : ℤ)) (h hc)
    (b : Fin 8) (q : Fin 4) (i : Fin 64) (d : Fin 128) :
    (shapeCast S8x4x64x128 (Host.dynamicSlice S1x8x4x64x128 x st h) hc : FVec Ideal S8x4x64x128 .f32) (ix4 b q i d) = x (ix5 ⟨k, hk⟩ b q i d) := by
  rw [Host.dynamicSlice_eq_extractStridedSlice _ x st ![k, 0, 0, 0, 0] h ⟨rfl, fun a => by
    match a with
    | ⟨0, _⟩ => show k + 1 ≤ 64; omega
    | ⟨1, _⟩ => exact Nat.le_refl 8
    | ⟨2, _⟩ => exact Nat.le_refl 4
    | ⟨3, _⟩ => exact Nat.le_refl 64
    | ⟨4, _⟩ => exact Nat.le_refl 128⟩ hs]
  pointwise

theorem chunk256 (x : FVec Ideal S64x8x4x64x256 .f32) (st : Fin 5 → ℤ) (k : ℕ) (hk : k < 64) (hs : ∀ a, st a = ((![k, 0, 0, 0, 0] : Fin 5 → ℕ) a : ℤ)) (h hc)
    (b : Fin 8) (q : Fin 4) (i : Fin 64) (d : Fin 256) :
    (shapeCast S8x4x64x256 (Host.dynamicSlice S1x8x4x64x256 x st h) hc : FVec Ideal S8x4x64x256 .f32) (ix4 b q i d) = x (ix5 ⟨k, hk⟩ b q i d) := by
  rw [Host.dynamicSlice_eq_extractStridedSlice _ x st ![k, 0, 0, 0, 0] h ⟨rfl, fun a => by
    match a with
    | ⟨0, _⟩ => show k + 1 ≤ 64; omega
    | ⟨1, _⟩ => exact Nat.le_refl 8
    | ⟨2, _⟩ => exact Nat.le_refl 4
    | ⟨3, _⟩ => exact Nat.le_refl 64
    | ⟨4, _⟩ => exact Nat.le_refl 256⟩ hs]
  pointwise

/-- The starts the program makes from its counter. -/
theorem starts (c : IVec S_ 32) (k : ℕ) (hk : k < 64) (hc : c = fun _ => BitVec.ofNat 32 k) (hu : 0 < S_.numel) (a : Fin 5) :
    ((![c, constantI S_ 32 0#32, constantI S_ 32 0#32, constantI S_ 32 0#32, constantI S_ 32 0#32] : Fin 5 → IVec S_ 32) a (Shape.Idx.first hu)).toInt
      = ((![k, 0, 0, 0, 0] : Fin 5 → ℕ) a : ℤ) := by
  subst hc
  match a with
  | ⟨0, _⟩ => exact toInt_ofNat_of_lt (by omega)
  | ⟨1, _⟩ => rfl
  | ⟨2, _⟩ => rfl
  | ⟨3, _⟩ => rfl
  | ⟨4, _⟩ => rfl

/-- The scores of a chunk. -/
def scores (M : IVec S1x1x64x64x1 1) (q k c : FVec Ideal S8x4x64x128 .f32) : FVec Ideal S8x4x64x64 .f32 :=
  Host.reduceAdd (mulf (mulf (broadcastInDim S8x4x64x64x128 ![0, 1, 2, 3, 4] bcast_S8x4x64x1x128_S8x4x64x64x128_0_1_2_3_4 (broadcastInDim S8x4x64x1x128 ![0, 1, 2, 4] bcast_S8x4x64x128_S8x4x64x1x128_0_1_2_4 q)) (broadcastInDim S8x4x64x64x128 ![0, 1, 2, 3, 4] bcast_S8x4x1x64x128_S8x4x64x64x128_0_1_2_3_4 (broadcastInDim S8x4x1x64x128 ![0, 1, 3, 4] bcast_S8x4x64x128_S8x4x1x64x128_0_1_3_4 k))) (Host.exp (select (broadcastInDim S8x4x64x64x128 ![0, 1, 2, 3, 4] bcast_S1x1x64x64x1_S8x4x64x64x128_0_1_2_3_4 M) (subf (broadcastInDim S8x4x64x64x128 ![0, 1, 2, 3, 4] bcast_S8x4x64x1x128_S8x4x64x64x128_0_1_2_3_4 (broadcastInDim S8x4x64x1x128 ![0, 1, 2, 4] bcast_S8x4x64x128_S8x4x64x1x128_0_1_2_4 c)) (broadcastInDim S8x4x64x64x128 ![0, 1, 2, 3, 4] bcast_S8x4x1x64x128_S8x4x64x64x128_0_1_2_3_4 (broadcastInDim S8x4x1x64x128 ![0, 1, 3, 4] bcast_S8x4x64x128_S8x4x1x64x128_0_1_3_4 c))) (broadcastInDim S8x4x64x64x128 ![] bcast_S_S8x4x64x64x128 (id (constant (F := Ideal) S_ .f32 0xFF800000#32)))))) (constant (F := Ideal) S_ .f32 0x00000000#32) reducesTo_S8x4x64x64x128_S8x4x64x64_d4 h_S_

/-- The rows of a chunk. -/
def rowsOut (M : IVec S1x1x64x64x1 1) (q k c : FVec Ideal S8x4x64x128 .f32) (v : FVec Ideal S8x4x64x256 .f32) (S : FVec Ideal S8x4x128x256 .f32) : FVec Ideal S8x4x64x256 .f32 :=
  addf (Host.dotGeneral dot_S8x4x64x128_S8x4x128x256_S8x4x64x256_3_2_2_3_01_01 none (mulf q (Host.exp c)) S) (Host.dotGeneral dot_S8x4x64x64_S8x4x64x256_S8x4x64x256_3_2_2_3_01_01 none (scores M q k c) v)

/-- The states after a chunk. -/
def stateOut (r : FVec Ideal S8x4x1x128 .f32) (k c : FVec Ideal S8x4x64x128 .f32) (v : FVec Ideal S8x4x64x256 .f32) (S : FVec Ideal S8x4x128x256 .f32) : FVec Ideal S8x4x128x256 .f32 :=
  addf (mulf (broadcastInDim S8x4x128x256 ![0, 1, 2, 3] bcast_S8x4x128x1_S8x4x128x256_0_1_2_3 (broadcastInDim S8x4x128x1 ![0, 1, 2] bcast_S8x4x128_S8x4x128x1_0_1_2 (Host.exp (shapeCast S8x4x128 r shapeCasts_S8x4x1x128_S8x4x128)))) S) (Host.dotGeneral dot_S8x4x64x128_S8x4x64x256_S8x4x128x256_2_2_3_3_01_01 none (mulf k (Host.exp (subf (broadcastInDim S8x4x64x128 ![0, 1, 2, 3] bcast_S8x4x1x128_S8x4x64x128_0_1_2_3 r) c))) v)

section Chunk

variable {M : IVec S1x1x64x64x1 1} {q k c : FVec Ideal S8x4x64x128 .f32} {v : FVec Ideal S8x4x64x256 .f32} {S : FVec Ideal S8x4x128x256 .f32}
  {Q K A : ℕ → Fin 128 → ℝ} {W : ℕ → ℝ} {s : ℕ} {b : Fin 8} {h : Fin 4} {e : Fin 256}
  (hM : ∀ i j : Fin 64, M (ix5 0 0 i j 0) = if j.val ≤ i.val then 1#1 else 0#1)
  (hq : ∀ i d, q (ix4 b h i d) = ((Q (s + i.val) d : ℝ) : EReal))
  (hk : ∀ i d, k (ix4 b h i d) = ((K (s + i.val) d : ℝ) : EReal))
  (hc : ∀ i d, c (ix4 b h i d) = ((pre (A · d) s (i.val + 1) : ℝ) : EReal))
  (hv : ∀ i, v (ix4 b h i e) = ((W (s + i.val) : ℝ) : EReal))
  (hS : ∀ d, S (ix4 b h d e) = ((state (A · d) (K · d) W s : ℝ) : EReal))

theorem negInf : (id (constant (F := Ideal) S_ .f32 0xFF800000#32) : FVec Ideal S_ .f32) ix0 = (⊥ : EReal) := by
  show Ideal.ofBits .f32 0xFF800000#32 = ⊥
  simp [Ideal.ofBits, Ideal.ieee]

include hM hq hk hc in
theorem scores_val (i j : Fin 64) : scores M q k c (ix4 b h i j)
    = ((if j.val ≤ i.val then ∑ d, Q (s + i) d * K (s + j) d * Real.exp (pre (A · d) s (i + 1) - pre (A · d) s (j + 1)) else 0 : ℝ) : EReal) := by
  have e : scores M q k c (ix4 b h i j) = ∑ d, q (ix4 b h i d) * k (ix4 b h j d)
      * Ideal.exp (Scalar.select (M (ix5 0 0 i j 0)) (c (ix4 b h i d) - c (ix4 b h j d)) ((id (constant (F := Ideal) S_ .f32 0xFF800000#32) : FVec Ideal S_ .f32) ix0)) := by
    pointwise [scores]
  rw [e, hM]
  by_cases hji : j.val ≤ i.val
  · rw [if_pos hji, if_pos hji, coe_sum]
    refine Finset.sum_congr rfl fun d _ => ?_
    rw [hq, hk, hc, hc, ← EReal.coe_sub]
    show _ * Ideal.exp ((pre (A · d) s (i + 1) - pre (A · d) s (j + 1) : ℝ) : EReal) = _
    rw [Ideal.exp_coe, ← EReal.coe_mul, ← EReal.coe_mul]
  · rw [if_neg hji, if_neg hji]
    refine Finset.sum_eq_zero fun d _ => ?_
    rw [negInf]
    show _ * Ideal.exp (⊥ : EReal) = _
    rw [Ideal.exp_bot, mul_zero]

include hM hq hk hc hv hS in
theorem rowsOut_val (i : Fin 64) : rowsOut M q k c v S (ix4 b h i e)
    = ((∑ d, Q (s + i.val) d * state (A · d) (K · d) W (s + i.val + 1) : ℝ) : EReal) := by
  have e' : rowsOut M q k c v S (ix4 b h i e) = (∑ d, q (ix4 b h i d) * Ideal.exp (c (ix4 b h i d)) * S (ix4 b h d e))
      + ∑ j, scores M q k c (ix4 b h i j) * v (ix4 b h j e) := by
    pointwise [rowsOut]
  rw [e', ← fwd_row (L := 64), add_comm, EReal.coe_add, coe_sum, coe_sum]
  congr 1
  · refine Finset.sum_congr rfl fun j _ => ?_
    rw [scores_val hM hq hk hc, hv, ← EReal.coe_mul]
  · refine Finset.sum_congr rfl fun d _ => ?_
    rw [hq, hc, hS, Ideal.exp_coe, ← EReal.coe_mul, ← EReal.coe_mul]

include hk hc hv hS in
theorem stateOut_val {r : FVec Ideal S8x4x1x128 .f32} (hr : ∀ d, r (ix4 b h 0 d) = ((pre (A · d) s 64 : ℝ) : EReal)) (d : Fin 128) :
    stateOut r k c v S (ix4 b h d e) = ((state (A · d) (K · d) W (s + 64) : ℝ) : EReal) := by
  have e' : stateOut r k c v S (ix4 b h d e) = Ideal.exp (r (ix4 b h 0 d)) * S (ix4 b h d e)
      + ∑ j, k (ix4 b h j d) * Ideal.exp (r (ix4 b h 0 d) - c (ix4 b h j d)) * v (ix4 b h j e) := by
    pointwise [stateOut]
  rw [e', fwd_next (L := 64) W s, EReal.coe_add, coe_sum, hr, hS, Ideal.exp_coe, ← EReal.coe_mul, mul_comm]
  congr 1
  refine Finset.sum_congr rfl fun j _ => ?_
  rw [hk, hc, hv, ← EReal.coe_sub, Ideal.exp_coe, ← EReal.coe_mul, ← EReal.coe_mul]

end Chunk

section Step

variable {Q K A : Fin 8 → Fin 4 → ℕ → Fin 128 → ℝ} {W : Fin 8 → Fin 4 → ℕ → Fin 256 → ℝ} {k : ℕ} {V : Valuation τ sig (Elt Ideal)}

theorem readQ (H : Held Q K A W k V) (hk : k < 64) (b h i d) : (res_main_while0b_v50 V : FVec Ideal S8x4x64x128 .f32) (ix4 b h i d) = ((Q b h (64 * k + i.val) d : ℝ) : EReal) :=
  (chunk128 (bufQ V) _ k hk (starts (bufC V) k hk H.c h_S_) _ _ b h i d).trans (H.q ⟨k, hk⟩ b h i d)
theorem readK (H : Held Q K A W k V) (hk : k < 64) (b h i d) : (res_main_while0b_v51 V : FVec Ideal S8x4x64x128 .f32) (ix4 b h i d) = ((K b h (64 * k + i.val) d : ℝ) : EReal) :=
  (chunk128 (bufK V) _ k hk (starts (bufC V) k hk H.c h_S_) _ _ b h i d).trans (H.kk ⟨k, hk⟩ b h i d)
theorem readV (H : Held Q K A W k V) (hk : k < 64) (b h i e) : (res_main_while0b_v52 V : FVec Ideal S8x4x64x256 .f32) (ix4 b h i e) = ((W b h (64 * k + i.val) e : ℝ) : EReal) :=
  (chunk256 (bufV V) _ k hk (starts (bufC V) k hk H.c h_S_) _ _ b h i e).trans (H.v ⟨k, hk⟩ b h i e)

theorem readC (H : Held Q K A W k V) (hk : k < 64) (b : Fin 8) (h : Fin 4) (i : Fin 64) (d : Fin 128) : (res_main_while0b_v54 V : FVec Ideal S8x4x64x128 .f32) (ix4 b h i d) = ((pre (A b h · d) (64 * k) (i.val + 1) : ℝ) : EReal) := by
  unfold pre
  rw [coe_sum]
  exact cumsum_apply _ _ _ h_S_ (fun z => by show Ideal.ofBits .f32 0x00000000#32 = 0; simp [Ideal.ofBits, Ideal.ieee]) b h d (fun u => ((A b h (64 * k + u) d : ℝ) : EReal))
    (fun j => (chunk128 (bufG V) _ k hk (starts (bufC V) k hk H.c h_S_) _ _ b h j d).trans (H.g ⟨k, hk⟩ b h j d)) i

theorem readR (H : Held Q K A W k V) (hk : k < 64) (b : Fin 8) (h : Fin 4) (d : Fin 128) : (res_main_while0b_v55 V : FVec Ideal S8x4x1x128 .f32) (ix4 b h 0 d) = ((pre (A b h · d) (64 * k) 64 : ℝ) : EReal) := by
  refine Eq.trans ?_ (readC H hk b h 63 d)
  unfold res_main_while0b_v55
  generalize (res_main_while0b_v54 V : FVec Ideal S8x4x64x128 .f32) = x
  show (extractStridedSlice S8x4x1x128 ![0, 0, 63, 0] x slices_S8x4x64x128_S8x4x1x128_0_0_63_0 : FVec Ideal S8x4x1x128 .f32) (ix4 b h 0 d) = _
  pointwise

theorem step6 (V : Valuation τ sig (Elt Ideal)) : step_main_v41_6 V = stateOut (res_main_while0b_v55 V) (res_main_while0b_v51 V) (res_main_while0b_v54 V) (res_main_while0b_v52 V) (bufS V) := rfl

theorem step7 (V : Valuation τ sig (Elt Ideal)) : step_main_v41_7 V = Host.dynamicUpdateSlice (bufO V) (broadcastInDim S1x8x4x64x256 ![1, 2, 3, 4] bcast_S8x4x64x256_S1x8x4x64x256_1_2_3_4
    (rowsOut (bufM V) (res_main_while0b_v50 V) (res_main_while0b_v51 V) (res_main_while0b_v54 V) (res_main_while0b_v52 V) (bufS V)))
    (fun a => ((![bufC V, constantI S_ 32 0#32, constantI S_ 32 0#32, constantI S_ 32 0#32, constantI S_ 32 0#32] : Fin 5 → IVec S_ 32) a (Shape.Idx.first h_S_)).toInt) updateFits_S64x8x4x64x256_S1x8x4x64x256 := by
  unfold step_main_v41_7 rowsOut scores bufO bufM bufC bufS
  generalize (res_main_while0b_v50 V) = q
  generalize (res_main_while0b_v51 V) = k
  generalize (res_main_while0b_v52 V) = v
  generalize (res_main_while0b_v54 V) = c
  rfl

/-- One chunk of the output written over. -/
theorem written (x : FVec Ideal S64x8x4x64x256 .f32) (r : FVec Ideal S8x4x64x256 .f32) (st : Fin 5 → ℤ) (k : ℕ) (hk : k < 64) (hs : ∀ a, st a = ((![k, 0, 0, 0, 0] : Fin 5 → ℕ) a : ℤ)) (hf)
    (n : Fin 64) (b : Fin 8) (h : Fin 4) (i : Fin 64) (e : Fin 256) :
    Host.dynamicUpdateSlice x (broadcastInDim S1x8x4x64x256 ![1, 2, 3, 4] bcast_S8x4x64x256_S1x8x4x64x256_1_2_3_4 r) st hf (ix5 n b h i e)
      = if n.val = k then r (ix4 b h i e) else x (ix5 n b h i e) := by
  rw [Host.dynamicUpdateSlice_apply]
  have h0 : Host.clampedStart S64x8x4x64x256 S1x8x4x64x256 hf.1 st 0 = k := Host.clampedStart_of_le _ _ _ _ (hs 0) (by show k + 1 ≤ 64; omega)
  have h1 : Host.clampedStart S64x8x4x64x256 S1x8x4x64x256 hf.1 st 1 = 0 := Host.clampedStart_of_le _ _ _ _ (hs 1) (Nat.le_refl 8)
  have h2 : Host.clampedStart S64x8x4x64x256 S1x8x4x64x256 hf.1 st 2 = 0 := Host.clampedStart_of_le _ _ _ _ (hs 2) (Nat.le_refl 4)
  have h3 : Host.clampedStart S64x8x4x64x256 S1x8x4x64x256 hf.1 st 3 = 0 := Host.clampedStart_of_le _ _ _ _ (hs 3) (Nat.le_refl 64)
  have h4 : Host.clampedStart S64x8x4x64x256 S1x8x4x64x256 hf.1 st 4 = 0 := Host.clampedStart_of_le _ _ _ _ (hs 4) (Nat.le_refl 256)
  have hb := b.isLt
  have hh := h.isLt
  have hi := i.isLt
  have he := e.isLt
  by_cases hn : n.val = k
  · rw [if_pos hn, dif_pos]
    · rw [show (ix4 b h i e : S8x4x64x256.Idx) = fun a => ⟨(ix4 b h i e : S8x4x64x256.Idx) a, ((ix4 b h i e : S8x4x64x256.Idx) a).isLt⟩ from rfl]
      unfold broadcastInDim
      congr 1
      funext a
      apply Fin.ext
      match a with
      | ⟨0, _⟩ => show b.val - Host.clampedStart S64x8x4x64x256 S1x8x4x64x256 hf.1 st 1 = b.val; rw [h1]; omega
      | ⟨1, _⟩ => show h.val - Host.clampedStart S64x8x4x64x256 S1x8x4x64x256 hf.1 st 2 = h.val; rw [h2]; omega
      | ⟨2, _⟩ => show i.val - Host.clampedStart S64x8x4x64x256 S1x8x4x64x256 hf.1 st 3 = i.val; rw [h3]; omega
      | ⟨3, _⟩ => show e.val - Host.clampedStart S64x8x4x64x256 S1x8x4x64x256 hf.1 st 4 = e.val; rw [h4]; omega
    · intro a
      match a with
      | ⟨0, _⟩ => show Host.clampedStart S64x8x4x64x256 S1x8x4x64x256 hf.1 st 0 ≤ n.val ∧ n.val < Host.clampedStart S64x8x4x64x256 S1x8x4x64x256 hf.1 st 0 + 1; rw [h0]; omega
      | ⟨1, _⟩ => show Host.clampedStart S64x8x4x64x256 S1x8x4x64x256 hf.1 st 1 ≤ b.val ∧ b.val < Host.clampedStart S64x8x4x64x256 S1x8x4x64x256 hf.1 st 1 + 8; rw [h1]; omega
      | ⟨2, _⟩ => show Host.clampedStart S64x8x4x64x256 S1x8x4x64x256 hf.1 st 2 ≤ h.val ∧ h.val < Host.clampedStart S64x8x4x64x256 S1x8x4x64x256 hf.1 st 2 + 4; rw [h2]; omega
      | ⟨3, _⟩ => show Host.clampedStart S64x8x4x64x256 S1x8x4x64x256 hf.1 st 3 ≤ i.val ∧ i.val < Host.clampedStart S64x8x4x64x256 S1x8x4x64x256 hf.1 st 3 + 64; rw [h3]; omega
      | ⟨4, _⟩ => show Host.clampedStart S64x8x4x64x256 S1x8x4x64x256 hf.1 st 4 ≤ e.val ∧ e.val < Host.clampedStart S64x8x4x64x256 S1x8x4x64x256 hf.1 st 4 + 256; rw [h4]; omega
  · rw [if_neg hn, dif_neg]
    intro hin
    have hz : Host.clampedStart S64x8x4x64x256 S1x8x4x64x256 hf.1 st 0 ≤ n.val ∧ n.val < Host.clampedStart S64x8x4x64x256 S1x8x4x64x256 hf.1 st 0 + 1 := hin 0
    rw [h0] at hz
    omega

/-- A trip. -/
theorem step (H : Held Q K A W k V) (hk : k < 64) : Held Q K A W (k + 1) (STEP V) where
  q n b h i d := by unfold bufQ; rw [STEP_main_v41_0]; exact H.q n b h i d
  kk n b h i d := by unfold bufK; rw [STEP_main_v41_1]; exact H.kk n b h i d
  v n b h i e := by unfold bufV; rw [STEP_main_v41_2]; exact H.v n b h i e
  g n b h i d := by unfold bufG; rw [STEP_main_v41_3]; exact H.g n b h i d
  m i j := by unfold bufM; rw [STEP_main_v41_4]; exact H.m i j
  c := by
    unfold bufC; rw [STEP_main_v41_5]
    funext z
    show IntOp.addi (bufC V z) 1#32 = BitVec.ofNat 32 (k + 1)
    rw [H.c]
    show BitVec.ofNat 32 k + 1#32 = _
    rw [BitVec.ofNat_add]
  s b h d e := by
    unfold bufS; rw [STEP_main_v41_6, step6]
    exact stateOut_val (fun i d => readK H hk b h i d) (fun i d => readC H hk b h i d) (fun i => readV H hk b h i e) (fun d => H.s b h d e) (fun d => readR H hk b h d) d
  o n b h i e hn := by
    unfold bufO; rw [STEP_main_v41_7, step7]
    refine (written _ _ _ k hk (starts (bufC V) k hk H.c h_S_) _ n b h i e).trans ?_
    by_cases hnk : n.val = k
    · rw [if_pos hnk, hnk]
      exact rowsOut_val H.m (fun i d => readQ H hk b h i d) (fun i d => readK H hk b h i d) (fun i d => readC H hk b h i d) (fun i => readV H hk b h i e) (fun d => H.s b h d e) i
    · rw [if_neg hnk]
      exact H.o n b h i e (by omega)

/-- Every trip. -/
theorem steps (H : Held Q K A W 0 V) : ∀ k, k ≤ 64 → Held Q K A W k (STEP^[k] V)
  | 0, _ => H
  | k + 1, hk => by rw [Function.iterate_succ_apply']; exact step (steps H k (by omega)) (by omega)

end Step

end Cert.ReferenceIdeal.Scan

end
-- ==== Proof.Scan.RefEntry.lean ====
/-
  What the reference's loop starts from: the projected columns cut into heads, the reversed rows stacked under them,
  and the whole cut into chunks.
-/
module

public import proofs.«01_k».proof.Proof.Scan.RefTrip

@[expose] public section

set_option maxRecDepth 16384

noncomputable section

namespace Cert.ReferenceIdeal.Scan

open Cert.ReferenceIdeal Cert.ReferenceIdeal.Gen Cert.ReferenceIdeal.Value Cert.Scan
open Idealize.ShloMosaic Idealize.ShloMosaic.TcCoe Idealize.ShloMosaic.Tactic
open Idealize.ShloMosaic.StableHlo

/-- 512 columns of the argument as four heads of 128. -/
def heads128 (X : FVec Ideal S4x4096x11264 .bf16) (o : ℕ) (h : S4x4096x11264.Slices ![0, 0, o] S4x4096x512) : FVec Ideal S4x4096x4x128 .f32 :=
  shapeCast S4x4096x4x128 (extf .f32 (extractStridedSlice S4x4096x512 ![0, 0, o] X h) bitsLt_bf16_f32) shapeCasts_S4x4096x512_S4x4096x4x128

/-- The value columns as four heads of 256. -/
def heads256 (X : FVec Ideal S4x4096x11264 .bf16) : FVec Ideal S4x4096x4x256 .f32 :=
  shapeCast S4x4096x4x256 (extf .f32 (extractStridedSlice S4x4096x1024 ![0, 0, 1024] X slices_S4x4096x11264_S4x4096x1024_0_0_1024) bitsLt_bf16_f32) shapeCasts_S4x4096x1024_S4x4096x4x256

/-- The factor of the gates. -/
def scaled (x : FVec Ideal S4x4096x4x128 .f32) : FVec Ideal S4x4096x4x128 .f32 :=
  mulf x (broadcastInDim S4x4096x4x128 ![] bcast_S_S4x4096x4x128 (Host.log (constant (F := Ideal) S_ .f32 0x40000000#32)))

/-- Rows, and reversed rows under them, cut into chunks. -/
def chunks128 (f b : FVec Ideal S4x4096x4x128 .f32) : FVec Ideal S64x8x4x64x128 .f32 :=
  transpose S64x8x4x64x128 [1, 0, 3, 2, 4] (shapeCast S8x64x64x4x128 (concatenate S8x4096x4x128 0 [⟨S4x4096x4x128, f⟩, ⟨S4x4096x4x128, Host.reverse [1] b⟩] concatenates_S4x4096x4x128_S4x4096x4x128_S8x4096x4x128_d0) shapeCasts_S8x4096x4x128_S8x64x64x4x128) transposes_S8x64x64x4x128_S64x8x4x64x128_1_0_3_2_4

def chunks256 (f b : FVec Ideal S4x4096x4x256 .f32) : FVec Ideal S64x8x4x64x256 .f32 :=
  transpose S64x8x4x64x256 [1, 0, 3, 2, 4] (shapeCast S8x64x64x4x256 (concatenate S8x4096x4x256 0 [⟨S4x4096x4x256, f⟩, ⟨S4x4096x4x256, Host.reverse [1] b⟩] concatenates_S4x4096x4x256_S4x4096x4x256_S8x4096x4x256_d0) shapeCasts_S8x4096x4x256_S8x64x64x4x256) transposes_S8x64x64x4x256_S64x8x4x64x256_1_0_3_2_4

/-- The causal mask. -/
def mask : IVec S1x1x64x64x1 1 :=
  broadcastInDim S1x1x64x64x1 ![2, 3] bcast_S64x64_S1x1x64x64x1_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))

variable (m : (ℓ : Loc nD τ sig) → Buf (Elt Ideal) ℓ) (c : Dev nD)

/-- The argument. -/
abbrev argOf : FVec Ideal S4x4096x11264 .bf16 := m (c.tc.loc main_arg0)

theorem entry_q : bufQ (entryContents preI m c) = chunks128 (heads128 (argOf m c) 0 slices_S4x4096x11264_S4x4096x512_0_0_0) (heads128 (argOf m c) 0 slices_S4x4096x11264_S4x4096x512_0_0_0) := by
  unfold bufQ
  simp only [entryContents, preI, afterL_cons, afterL_nil]
  after_results_entrywise []

theorem entry_k : bufK (entryContents preI m c) = chunks128 (heads128 (argOf m c) 512 slices_S4x4096x11264_S4x4096x512_0_0_512) (heads128 (argOf m c) 512 slices_S4x4096x11264_S4x4096x512_0_0_512) := by
  unfold bufK
  simp only [entryContents, preI, afterL_cons, afterL_nil]
  after_results_entrywise []

theorem entry_v : bufV (entryContents preI m c) = chunks256 (heads256 (argOf m c)) (heads256 (argOf m c)) := by
  unfold bufV
  simp only [entryContents, preI, afterL_cons, afterL_nil]
  after_results_entrywise []

theorem entry_g : bufG (entryContents preI m c) = chunks128 (scaled (heads128 (argOf m c) 3072 slices_S4x4096x11264_S4x4096x512_0_0_3072)) (scaled (heads128 (argOf m c) 3584 slices_S4x4096x11264_S4x4096x512_0_0_3584)) := by
  unfold bufG
  simp only [entryContents, preI, afterL_cons, afterL_nil]
  after_results_entrywise []

theorem entry_m : bufM (entryContents preI m c) = mask := by
  unfold bufM
  simp only [entryContents, preI, afterL_cons, afterL_nil]
  after_results_entrywise []

theorem entry_s : bufS (entryContents preI m c) = broadcastInDim S8x4x128x256 ![] bcast_S_S8x4x128x256 (constant (F := Ideal) S_ .f32 0x00000000#32) := by
  unfold bufS
  simp only [entryContents, preI, afterL_cons, afterL_nil]
  after_results_entrywise []

theorem cut128 (x : FVec Ideal S8x4096x4x128 .f32) (n q h i d) :
    (transpose S64x8x4x64x128 [1, 0, 3, 2, 4] (shapeCast S8x64x64x4x128 x shapeCasts_S8x4096x4x128_S8x64x64x4x128) transposes_S8x64x64x4x128_S64x8x4x64x128_1_0_3_2_4 : FVec Ideal S64x8x4x64x128 .f32) (ix5 n q h i d)
      = x (ix4 q ⟨64 * n.val + i.val, by omega⟩ h d) := by
  pointwise
  congr 2; apply Fin.ext; dsimp only; omega

theorem stack128 (f b : FVec Ideal S4x4096x4x128 .f32) (q : Fin 8) (t : Fin 4096) (h : Fin 4) (d : Fin 128) :
    (concatenate S8x4096x4x128 0 [⟨S4x4096x4x128, f⟩, ⟨S4x4096x4x128, Host.reverse [1] b⟩] concatenates_S4x4096x4x128_S4x4096x4x128_S8x4096x4x128_d0 : FVec Ideal S8x4096x4x128 .f32) (ix4 q t h d)
      = if hq : q.val < 4 then f (ix4 ⟨q.val, hq⟩ t h d) else b (ix4 ⟨q.val - 4, by omega⟩ t.rev h d) := by
  pointwise
  rfl

theorem chunks128_apply (f b : FVec Ideal S4x4096x4x128 .f32) (n q h i d) : chunks128 f b (ix5 n q h i d)
    = if hq : q.val < 4 then f (ix4 ⟨q.val, hq⟩ ⟨64 * n.val + i.val, by omega⟩ h d)
      else b (ix4 ⟨q.val - 4, by omega⟩ (Fin.rev ⟨64 * n.val + i.val, by omega⟩) h d) :=
  (cut128 _ n q h i d).trans (stack128 f b q _ h d)

theorem cut256 (x : FVec Ideal S8x4096x4x256 .f32) (n q h i d) :
    (transpose S64x8x4x64x256 [1, 0, 3, 2, 4] (shapeCast S8x64x64x4x256 x shapeCasts_S8x4096x4x256_S8x64x64x4x256) transposes_S8x64x64x4x256_S64x8x4x64x256_1_0_3_2_4 : FVec Ideal S64x8x4x64x256 .f32) (ix5 n q h i d)
      = x (ix4 q ⟨64 * n.val + i.val, by omega⟩ h d) := by
  pointwise
  congr 2; apply Fin.ext; dsimp only; omega

theorem stack256 (f b : FVec Ideal S4x4096x4x256 .f32) (q : Fin 8) (t : Fin 4096) (h : Fin 4) (d : Fin 256) :
    (concatenate S8x4096x4x256 0 [⟨S4x4096x4x256, f⟩, ⟨S4x4096x4x256, Host.reverse [1] b⟩] concatenates_S4x4096x4x256_S4x4096x4x256_S8x4096x4x256_d0 : FVec Ideal S8x4096x4x256 .f32) (ix4 q t h d)
      = if hq : q.val < 4 then f (ix4 ⟨q.val, hq⟩ t h d) else b (ix4 ⟨q.val - 4, by omega⟩ t.rev h d) := by
  pointwise
  rfl

theorem chunks256_apply (f b : FVec Ideal S4x4096x4x256 .f32) (n q h i d) : chunks256 f b (ix5 n q h i d)
    = if hq : q.val < 4 then f (ix4 ⟨q.val, hq⟩ ⟨64 * n.val + i.val, by omega⟩ h d)
      else b (ix4 ⟨q.val - 4, by omega⟩ (Fin.rev ⟨64 * n.val + i.val, by omega⟩) h d) :=
  (cut256 _ n q h i d).trans (stack256 f b q _ h d)

theorem heads128_apply (X : FVec Ideal S4x4096x11264 .bf16) (o : ℕ) (hh) (b : Fin 4) (t : Fin 4096) (h : Fin 4) (d : Fin 128) (hb : o + 512 ≤ 11264) :
    heads128 X o hh (ix4 b t h d) = X (ix3 b t ⟨o + 128 * h.val + d.val, by omega⟩) := by
  pointwise [heads128]
  congr 2; apply Fin.ext; dsimp only; omega

theorem heads256_apply (X : FVec Ideal S4x4096x11264 .bf16) (b : Fin 4) (t : Fin 4096) (h : Fin 4) (d : Fin 256) :
    heads256 X (ix4 b t h d) = X (ix3 b t ⟨1024 + 256 * h.val + d.val, by omega⟩) := by
  pointwise [heads256]
  congr 2; apply Fin.ext; dsimp only; omega

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e, Ideal.log_coe, if_neg (by norm_num)]

theorem scaled_apply (x : FVec Ideal S4x4096x4x128 .f32) (b t h d) : scaled x (ix4 b t h d) = x (ix4 b t h d) * ((Real.log 2 : ℝ) : EReal) := by
  rw [← log_two]
  pointwise [scaled]

theorem mask_apply (i j : Fin 64) : mask (ix5 0 0 i j 0) = if j.val ≤ i.val then 1#1 else 0#1 := by
  have e : mask (ix5 0 0 i j 0) = Scalar.select (IntOp.cmpi CmpIPredicate.sge (IntOp.addi (BitVec.ofNat 32 i.val) 0#32) (BitVec.ofNat 32 j.val)) 1#1 0#1 := by
    pointwise [mask]
  rw [e]
  revert i j
  decide +kernel

end Cert.ReferenceIdeal.Scan

end
-- ==== Proof.Scan.RefOut.lean ====
/-
  The reference's result at a real argument, entry by entry: the same array as the kernel's.
-/
module

public import proofs.«01_k».proof.Proof.Scan.RefEntry
public import proofs.«01_k».proof.Proof.Scan.ValueRun

@[expose] public section

set_option maxRecDepth 16384

noncomputable section

namespace Cert.ReferenceIdeal.Scan

open Cert.ReferenceIdeal Cert.ReferenceIdeal.Gen Cert.ReferenceIdeal.Value Cert.Scan
open Idealize.ShloMosaic Idealize.ShloMosaic.TcCoe Idealize.ShloMosaic.Tactic
open Idealize.ShloMosaic.StableHlo
open Cert.KernelIdeal.ScanValue (cols headVal scanOut RealArg)
open Cert.KernelIdeal.Scan (nat2 outVal)

variable (X : S4x4096x11264.Idx → EReal)

/-- A sequence of the reference: a batch's rows, or for the second four batches the rows reversed. -/
def seq {n : ℕ} (f : Fin 4 → ℕ → ℕ → Fin n → ℝ) (g : Fin 4 → ℕ → ℕ → Fin n → ℝ) (b : Fin 8) (h : Fin 4) (t : ℕ) (d : Fin n) : ℝ :=
  if hb : b.val < 4 then f h b.val t d else g h (b.val - 4) (4096 - 1 - t) d

def seqQ : Fin 8 → Fin 4 → ℕ → Fin 128 → ℝ := seq (fun h b => cols X b (128 * h.val)) (fun h b => cols X b (128 * h.val))
def seqK : Fin 8 → Fin 4 → ℕ → Fin 128 → ℝ := seq (fun h b => cols X b (512 + 128 * h.val)) (fun h b => cols X b (512 + 128 * h.val))
def seqV : Fin 8 → Fin 4 → ℕ → Fin 256 → ℝ := seq (fun h b => cols X b (1024 + 256 * h.val)) (fun h b => cols X b (1024 + 256 * h.val))
def seqA : Fin 8 → Fin 4 → ℕ → Fin 128 → ℝ := seq (fun h b => nat2 (cols X b (3072 + 128 * h.val))) (fun h b => nat2 (cols X b (3584 + 128 * h.val)))

variable {X}

/-- A real entry is the column's. -/
theorem cols_coe (hX : RealArg X) (b : Fin 4) (t : Fin 4096) {n : ℕ} (off : ℕ) (d : Fin n) (hd : off + d.val < 11264)
    (hr : off + d.val < 2048 ∨ 3072 ≤ off + d.val ∧ off + d.val < 4096) :
    X (ix3 b t ⟨off + d.val, hd⟩) = ((cols X b.val off t.val d : ℝ) : EReal) := by
  unfold cols
  rw [dif_pos ⟨b.isLt, t.isLt, hd⟩]
  obtain ⟨h1, h2⟩ := hX (ix3 b t ⟨off + d.val, hd⟩) hr
  exact (EReal.coe_toReal h1 h2).symm

theorem rev_val (t : Fin 4096) : (Fin.rev t).val = 4096 - 1 - t.val := by rw [Fin.val_rev]; omega

theorem chunk_q (hX : RealArg X) (n : Fin 64) (b : Fin 8) (h : Fin 4) (i : Fin 64) (d : Fin 128) (s1 s2) :
    chunks128 (heads128 X 0 s1) (heads128 X 0 s2) (ix5 n b h i d) = ((seqQ X b h (64 * n.val + i.val) d : ℝ) : EReal) := by
  rw [chunks128_apply]
  unfold seqQ seq
  by_cases hb : b.val < 4
  · rw [dif_pos hb, dif_pos hb, heads128_apply _ _ _ _ _ _ _ (by omega)]
    refine Eq.trans ?_ (cols_coe hX ⟨b.val, hb⟩ ⟨64 * n.val + i.val, by omega⟩ (128 * h.val) d (by omega) (by omega))
    congr 2; apply Fin.ext; dsimp only; omega
  · rw [dif_neg hb, dif_neg hb, heads128_apply _ _ _ _ _ _ _ (by omega)]
    refine Eq.trans ?_ ((cols_coe hX ⟨b.val - 4, by omega⟩ (Fin.rev ⟨64 * n.val + i.val, by omega⟩) (128 * h.val) d (by omega) (by omega)).trans (by rw [rev_val]))
    congr 2; apply Fin.ext; dsimp only; omega

theorem chunk_k (hX : RealArg X) (n : Fin 64) (b : Fin 8) (h : Fin 4) (i : Fin 64) (d : Fin 128) (s1 s2) :
    chunks128 (heads128 X 512 s1) (heads128 X 512 s2) (ix5 n b h i d) = ((seqK X b h (64 * n.val + i.val) d : ℝ) : EReal) := by
  rw [chunks128_apply]
  unfold seqK seq
  by_cases hb : b.val < 4
  · rw [dif_pos hb, dif_pos hb, heads128_apply _ _ _ _ _ _ _ (by omega)]
    exact cols_coe hX ⟨b.val, hb⟩ ⟨64 * n.val + i.val, by omega⟩ (512 + 128 * h.val) d (by omega) (by omega)
  · rw [dif_neg hb, dif_neg hb, heads128_apply _ _ _ _ _ _ _ (by omega)]
    exact (cols_coe hX ⟨b.val - 4, by omega⟩ (Fin.rev ⟨64 * n.val + i.val, by omega⟩) (512 + 128 * h.val) d (by omega) (by omega)).trans (by rw [rev_val])

theorem chunk_v (hX : RealArg X) (n : Fin 64) (b : Fin 8) (h : Fin 4) (i : Fin 64) (e : Fin 256) :
    chunks256 (heads256 X) (heads256 X) (ix5 n b h i e) = ((seqV X b h (64 * n.val + i.val) e : ℝ) : EReal) := by
  rw [chunks256_apply]
  unfold seqV seq
  by_cases hb : b.val < 4
  · rw [dif_pos hb, dif_pos hb, heads256_apply]
    exact cols_coe hX ⟨b.val, hb⟩ ⟨64 * n.val + i.val, by omega⟩ (1024 + 256 * h.val) e (by omega) (by omega)
  · rw [dif_neg hb, dif_neg hb, heads256_apply]
    exact (cols_coe hX ⟨b.val - 4, by omega⟩ (Fin.rev ⟨64 * n.val + i.val, by omega⟩) (1024 + 256 * h.val) e (by omega) (by omega)).trans (by rw [rev_val])

theorem chunk_g (hX : RealArg X) (n : Fin 64) (b : Fin 8) (h : Fin 4) (i : Fin 64) (d : Fin 128) (s1 s2) :
    chunks128 (scaled (heads128 X 3072 s1)) (scaled (heads128 X 3584 s2)) (ix5 n b h i d) = ((seqA X b h (64 * n.val + i.val) d : ℝ) : EReal) := by
  rw [chunks128_apply]
  unfold seqA seq nat2
  by_cases hb : b.val < 4
  · rw [dif_pos hb, dif_pos hb, scaled_apply, heads128_apply _ _ _ _ _ _ _ (by omega), EReal.coe_mul]
    congr 1
    exact cols_coe hX ⟨b.val, hb⟩ ⟨64 * n.val + i.val, by omega⟩ (3072 + 128 * h.val) d (by omega) (by omega)
  · rw [dif_neg hb, dif_neg hb, scaled_apply, heads128_apply _ _ _ _ _ _ _ (by omega), EReal.coe_mul]
    congr 1
    exact (cols_coe hX ⟨b.val - 4, by omega⟩ (Fin.rev ⟨64 * n.val + i.val, by omega⟩) (3584 + 128 * h.val) d (by omega) (by omega)).trans (by rw [rev_val])

section Out

variable (m : (ℓ : Loc nD τ sig) → Buf (Elt Ideal) ℓ) (c : Dev nD)

/-- The loop starts from the sequences and zero states. -/
theorem held_entry (hX : RealArg (argOf m c)) :
    Held (seqQ (argOf m c)) (seqK (argOf m c)) (seqA (argOf m c)) (seqV (argOf m c)) 0 (entryContents preI m c) where
  q n b h i d := by rw [entry_q]; exact chunk_q hX n b h i d _ _
  kk n b h i d := by rw [entry_k]; exact chunk_k hX n b h i d _ _
  v n b h i e := by rw [entry_v]; exact chunk_v hX n b h i e
  g n b h i d := by rw [entry_g]; exact chunk_g hX n b h i d _ _
  m i j := by rw [entry_m]; exact mask_apply i j
  c := ctr_entry m c
  s b h d e := by
    rw [entry_s]
    show Ideal.ofBits .f32 0x00000000#32 = _
    simp [Ideal.ofBits, Ideal.ieee, state]
  o n b h i e hn := absurd hn (Nat.not_lt_zero _)

/-- The chunks joined again. -/
def joined (x : FVec Ideal S64x8x4x64x256 .f32) : FVec Ideal S8x4096x4x256 .f32 :=
  shapeCast S8x4096x4x256 (transpose S8x64x64x4x256 [1, 0, 3, 2, 4] x transposes_S64x8x4x64x256_S8x64x64x4x256_1_0_3_2_4) shapeCasts_S8x64x64x4x256_S8x4096x4x256

theorem joined_apply (x : FVec Ideal S64x8x4x64x256 .f32) (b : Fin 8) (t : Fin 4096) (h : Fin 4) (e : Fin 256) :
    joined x (ix4 b t h e) = x (ix5 ⟨t.val / 64, by omega⟩ b h ⟨t.val % 64, by omega⟩ e) := by
  pointwise [joined]

/-- The two directions added. -/
def summed (x : FVec Ideal S8x4096x4x256 .f32) : FVec Ideal S4x4096x1024 .bf16 :=
  truncf .bf16 (shapeCast S4x4096x1024 (addf (extractStridedSlice S4x4096x4x256 ![0, 0, 0, 0] x slices_S8x4096x4x256_S4x4096x4x256_0_0_0_0) (Host.reverse [1] (extractStridedSlice S4x4096x4x256 ![4, 0, 0, 0] x slices_S8x4096x4x256_S4x4096x4x256_4_0_0_0))) shapeCasts_S4x4096x4x256_S4x4096x1024) bitsLt_bf16_f32

theorem summed_apply (x : FVec Ideal S8x4096x4x256 .f32) (b : Fin 4) (t : Fin 4096) (j : Fin 1024) :
    summed x (ix3 b t j) = x (ix4 ⟨b.val, by omega⟩ t ⟨j.val / 256, by omega⟩ ⟨j.val % 256, by omega⟩)
      + x (ix4 ⟨4 + b.val, by omega⟩ (Fin.rev t) ⟨j.val / 256, by omega⟩ ⟨j.val % 256, by omega⟩) := by
  pointwise [summed]
  rfl

theorem out_split (V : Valuation τ sig (Elt Ideal)) : out_main_v49 V = summed (joined (bufO V)) := by
  unfold out_main_v49 summed joined bufO
  rfl

theorem out_apply (V : Valuation τ sig (Elt Ideal)) (b : Fin 4) (t : Fin 4096) (j : Fin 1024) :
    (out_main_v49 V : FVec Ideal S4x4096x1024 .bf16) (ix3 b t j)
      = bufO V (ix5 ⟨t.val / 64, by omega⟩ ⟨b.val, by omega⟩ ⟨j.val / 256, by omega⟩ ⟨t.val % 64, by omega⟩ ⟨j.val % 256, by omega⟩)
        + bufO V (ix5 ⟨(4095 - t.val) / 64, by omega⟩ ⟨4 + b.val, by omega⟩ ⟨j.val / 256, by omega⟩ ⟨(4095 - t.val) % 64, by omega⟩ ⟨j.val % 256, by omega⟩) := by
  rw [out_split, summed_apply, joined_apply, joined_apply]
  congr 3
  · apply Fin.ext; dsimp only; rw [rev_val]
  · apply Fin.ext; dsimp only; rw [rev_val]

/-- The reference's result. -/
theorem out_eq (hX : RealArg (argOf m c)) : out_main_v49 (STEP^[64] (entryContents preI m c)) = scanOut (argOf m c) := by
  have H := steps (held_entry m c hX) 64 (le_refl _)
  funext y
  obtain ⟨b, t, j, rfl⟩ : ∃ (b : Fin 4) (t : Fin 4096) (j : Fin 1024), y = ix3 b t j := ⟨y 0, y 1, y 2, Cert.KernelIdeal.ScanValue.ix3_of y⟩
  have ht := t.isLt
  refine (out_apply _ b t j).trans ?_
  rw [H.o _ _ _ _ _ (by dsimp only; omega), H.o _ _ _ _ _ (by dsimp only; omega), ← EReal.coe_add]
  unfold scanOut headVal outVal back
  dsimp only
  rw [show 64 * (t.val / 64) + t.val % 64 = t.val by omega, show 64 * ((4095 - t.val) / 64) + (4095 - t.val) % 64 = 4095 - t.val by omega,
    show 4095 - t.val + 1 = 4096 - t.val by omega]
  unfold seqQ seqK seqV seqA seq
  simp only [dif_pos b.isLt, dif_neg (show ¬ (4 + b.val < 4) by omega), show 4 + b.val - 4 = b.val by omega, show 4096 - 1 - (4095 - t.val) = t.val by omega]
  rfl

end Out

end Cert.ReferenceIdeal.Scan

end
-- ==== Proof.Scan.Finite.lean ====
/-
  What the precondition says: every entry the scan reads is a real number.
-/
module

public import proofs.«01_k».proof.Pre_finite
public import proofs.«01_k».proof.Proof.Scan.ValueRun
public import Idealize.ShloMosaic.Lib.Pointwise

@[expose] public section

set_option maxRecDepth 16384

noncomputable section

namespace Cert.Pre_finite.Scan

open Cert.Pre_finite
open Idealize.ShloMosaic

/-- The predicate's side conditions. -/
theorem facts : Cert.Pre_finite.Facts where
  slices_S4x4096x11264_S4x4096x2048_0_0_0 := by decide
  bitsLt_bf16_f32 := by decide
  bcast_S_S4x4096x2048 := by decide
  reducesTo_S4x4096x2048_S_d0_1_2 := by decide
  h_S_ := by decide
  slices_S4x4096x11264_S4x4096x1024_0_0_3072 := by decide
  bcast_S_S4x4096x1024 := by decide
  reducesTo_S4x4096x1024_S_d0_1_2 := by decide

theorem and_eq_one {a b : BitVec 1} (h : IntOp.andi a b = 1#1) : a = 1#1 ∧ b = 1#1 := by
  revert a b; decide

/-- A conjunction that is one has ones only. -/
theorem foldl_and {ι : Type*} (l : List ι) (f : ι → BitVec 1) (a : BitVec 1) (h : l.foldl (fun r i => IntOp.andi r (f i)) a = 1#1) :
    a = 1#1 ∧ ∀ i ∈ l, f i = 1#1 := by
  induction l generalizing a with
  | nil => exact ⟨h, fun i hi => absurd hi (List.not_mem_nil)⟩
  | cons x l ih =>
    obtain ⟨h1, h2⟩ := ih _ h
    obtain ⟨h3, h4⟩ := and_eq_one h1
    refine ⟨h3, fun i hi => ?_⟩
    rcases List.mem_cons.1 hi with rfl | hi
    · exact h4
    · exact h2 i hi

/-- Every element of an array whose conjunction is one. -/
theorem reduce_and {s : Shape} {axes : List (Fin s.rank)} (x : IVec s 1) (init : IVec S_ 1) (h : s.ReducesTo axes S_) (hu : 0 < S_.numel) (j : S_.Idx)
    (e : Host.reduce IntOp.andi x init h hu j = 1#1) (i : s.Idx) : x i = 1#1 := by
  rw [Host.reduce_eq_foldl] at e
  refine (foldl_and _ _ _ e).2 i ?_
  rw [List.mem_filter]
  refine ⟨List.mem_map.2 ⟨s.rowMajor i, List.mem_finRange _, Equiv.symm_apply_apply _ _⟩, ?_⟩
  simp only [decide_eq_true_eq]
  funext a
  exact a.elim0

/-- An extended real whose absolute value is below infinity. -/
theorem real_of_abs {x : EReal} (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  constructor
  · rintro rfl; exact absurd h (by simp [Ideal.cmp])
  · rintro rfl; exact absurd h (by simp [Ideal.cmp])

theorem realArg (X : S4x4096x11264.Idx → EReal) (h : @Cert.Pre_finite.fn facts Ideal _ X = fun _ => 1#1) : Cert.KernelIdeal.ScanValue.RealArg X := by
  obtain ⟨h1, h2⟩ := and_eq_one (congrFun h (fun a => a.elim0))
  intro y hy
  have y0 := (y 0).isLt
  have y1 := (y 1).isLt
  have y2 := (y 2).isLt
  rcases hy with hy | hy
  · have e := reduce_and _ _ _ _ _ h1 (fun a => match a with
      | ⟨0, _⟩ => y 0
      | ⟨1, _⟩ => y 1
      | ⟨2, _⟩ => ⟨(y 2).val, hy⟩ : S4x4096x2048.Idx)
    refine real_of_abs (x := X y) (Eq.trans ?_ e)
    have hx : X y = extractStridedSlice S4x4096x2048 ![0, 0, 0] X facts.slices_S4x4096x11264_S4x4096x2048_0_0_0 (fun a => match a with
      | ⟨0, _⟩ => y 0
      | ⟨1, _⟩ => y 1
      | ⟨2, _⟩ => ⟨(y 2).val, hy⟩ : S4x4096x2048.Idx) := by
      unfold extractStridedSlice
      refine congrArg X (funext fun a => Fin.ext ?_)
      match a with
      | ⟨0, _⟩ => exact (Nat.zero_add _).symm
      | ⟨1, _⟩ => exact (Nat.zero_add _).symm
      | ⟨2, _⟩ => exact (Nat.zero_add _).symm
    rw [hx]
    rfl
  · have e := reduce_and _ _ _ _ _ h2 (fun a => match a with
      | ⟨0, _⟩ => y 0
      | ⟨1, _⟩ => y 1
      | ⟨2, _⟩ => ⟨(y 2).val - 3072, by show (y 2).val - 3072 < 1024; omega⟩ : S4x4096x1024.Idx)
    refine real_of_abs (x := X y) (Eq.trans ?_ e)
    have hx : X y = extractStridedSlice S4x4096x1024 ![0, 0, 3072] X facts.slices_S4x4096x11264_S4x4096x1024_0_0_3072 (fun a => match a with
      | ⟨0, _⟩ => y 0
      | ⟨1, _⟩ => y 1
      | ⟨2, _⟩ => ⟨(y 2).val - 3072, by show (y 2).val - 3072 < 1024; omega⟩ : S4x4096x1024.Idx) := by
      unfold extractStridedSlice
      refine congrArg X (funext fun a => Fin.ext ?_)
      match a with
      | ⟨0, _⟩ => exact (Nat.zero_add _).symm
      | ⟨1, _⟩ => exact (Nat.zero_add _).symm
      | ⟨2, _⟩ => show (y 2).val = 3072 + ((y 2).val - 3072); omega
    rw [hx]
    rfl

end Cert.Pre_finite.Scan

end
-- ==== Proof.Proj.BitsRun.lean ====
/-
  The steps of the projection for any float values: the inputs stay, the scratch and the output end somehow.
-/
module

public import proofs.«01_k».proof.Proof.Proj.BitsLaunch

@[expose] public section

set_option maxRecDepth 16384

noncomputable section

namespace Cert.Project.Proj

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first packing step: the two up-projections side by side, and a slab. -/
theorem packA (c : Dev nD) (i : grid0.Coords) (arg1 : Memref sig .tc .vmem S1024x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S512x11264 .bf16) (harg10 : arg10.IsWhole) (arg11 : Memref sig .tc .vmem S10x1024x1024 .bf16) (harg11 : arg11.IsWhole) (arg12 : Memref sig .tc .vmem S128x1024 .bf16) (harg12 : arg12.IsWhole) (arg13 : Memref sig .tc .vmem S128x1024 .bf16) (harg13 : arg13.IsWhole)
    (a1 : Vec F S1024x1024 .f32) (a2 : Vec F S32x1024 .f32) (u4 u5 : Vec F S16x512 .f32) (w : Vec F S10x1024x1024 .bf16) (wlr up : Vec F S128x1024 .bf16)
    (h1 : cond1 i = 1#1) (h2 : k0_cond2 i = 1#1) (h3 : k0_cond3 i = 1#1) (h4 : ¬ cond4 i = 1#1) (h5 : ¬ k0_cond5 i = 1#1) (h6 : ¬ k0_cond6 i = 1#1) (K : PUnit → sProp 𝕄) :
    iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare w ∗ owns (c : Thread nD τ) arg12 fullShare wlr ∗ owns (c : Thread nD τ) arg13 fullShare up
        ∗ (iprop(owns (c : Thread nD τ) arg1 fullShare a1 ∗ owns (c : Thread nD τ) arg2 fullShare a2 ∗ owns (c : Thread nD τ) arg4 fullShare u4 ∗ owns (c : Thread nD τ) arg5 fullShare u5 ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  unfold owns
  iintro ⟨⟨%f1, %hf1, H1⟩, ⟨%f2, %hf2, H2⟩, ⟨%f4, %hf4, H4⟩, ⟨%f5, %hf5, H5⟩, ⟨%f11, %hf11, H11⟩, ⟨%f12, %hf12, H12⟩, ⟨%f13, %hf13, H13⟩, Hk⟩
  obtain rfl := harg1.eq_unread hf1; obtain rfl := harg2.eq_unread hf2; obtain rfl := harg4.eq_unread hf4; obtain rfl := harg5.eq_unread hf5; obtain rfl := harg11.eq_unread hf11; obtain rfl := harg12.eq_unread hf12; obtain rfl := harg13.eq_unread hf13
  rw [dif_pos h1]
  rw [dif_pos h2]
  rw [dif_pos h3]
  rw [dif_neg h4]
  rw [dif_neg h5]
  rw [dif_neg h6]
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H4]
  · iexists _; isplitr; swap; · iexact H4
    ipureintro; exact harg4.read_unread _
  isplitl [H5]
  · iexists _; isplitr; swap; · iexact H5
    ipureintro; exact harg5.read_unread _
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 4000000 in
/-- A packing step of a slab above the low-rank rows. -/
theorem packB (c : Dev nD) (i : grid0.Coords) (arg1 : Memref sig .tc .vmem S1024x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S512x11264 .bf16) (harg10 : arg10.IsWhole) (arg11 : Memref sig .tc .vmem S10x1024x1024 .bf16) (harg11 : arg11.IsWhole) (arg12 : Memref sig .tc .vmem S128x1024 .bf16) (harg12 : arg12.IsWhole) (arg13 : Memref sig .tc .vmem S128x1024 .bf16) (harg13 : arg13.IsWhole)
    (a1 : Vec F S1024x1024 .f32) (a2 : Vec F S32x1024 .f32) (u4 u5 : Vec F S16x512 .f32) (w : Vec F S10x1024x1024 .bf16) (wlr up : Vec F S128x1024 .bf16)
    (h1 : ¬ cond1 i = 1#1) (h2 : k0_cond2 i = 1#1) (h3 : k0_cond3 i = 1#1) (h4 : ¬ cond4 i = 1#1) (h5 : ¬ k0_cond5 i = 1#1) (h6 : ¬ k0_cond6 i = 1#1) (K : PUnit → sProp 𝕄) :
    iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare w ∗ owns (c : Thread nD τ) arg12 fullShare wlr ∗ owns (c : Thread nD τ) arg13 fullShare up
        ∗ (iprop(owns (c : Thread nD τ) arg1 fullShare a1 ∗ owns (c : Thread nD τ) arg2 fullShare a2 ∗ owns (c : Thread nD τ) arg4 fullShare u4 ∗ owns (c : Thread nD τ) arg5 fullShare u5 ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  unfold owns
  iintro ⟨⟨%f1, %hf1, H1⟩, ⟨%f2, %hf2, H2⟩, ⟨%f4, %hf4, H4⟩, ⟨%f5, %hf5, H5⟩, ⟨%f11, %hf11, H11⟩, ⟨%f12, %hf12, H12⟩, ⟨%f13, %hf13, H13⟩, Hk⟩
  obtain rfl := harg1.eq_unread hf1; obtain rfl := harg2.eq_unread hf2; obtain rfl := harg4.eq_unread hf4; obtain rfl := harg5.eq_unread hf5; obtain rfl := harg11.eq_unread hf11; obtain rfl := harg12.eq_unread hf12; obtain rfl := harg13.eq_unread hf13
  rw [dif_neg h1]
  rw [dif_pos h2]
  rw [dif_pos h3]
  rw [dif_neg h4]
  rw [dif_neg h5]
  rw [dif_neg h6]
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H4]
  · iexists _; isplitr; swap; · iexact H4
    ipureintro; exact harg4.read_unread _
  isplitl [H5]
  · iexists _; isplitr; swap; · iexact H5
    ipureintro; exact harg5.read_unread _
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 4000000 in
/-- The packing step that also keeps the low-rank rows. -/
theorem packC (c : Dev nD) (i : grid0.Coords) (arg1 : Memref sig .tc .vmem S1024x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S512x11264 .bf16) (harg10 : arg10.IsWhole) (arg11 : Memref sig .tc .vmem S10x1024x1024 .bf16) (harg11 : arg11.IsWhole) (arg12 : Memref sig .tc .vmem S128x1024 .bf16) (harg12 : arg12.IsWhole) (arg13 : Memref sig .tc .vmem S128x1024 .bf16) (harg13 : arg13.IsWhole)
    (a1 : Vec F S1024x1024 .f32) (a2 : Vec F S32x1024 .f32) (u4 u5 : Vec F S16x512 .f32) (w : Vec F S10x1024x1024 .bf16) (wlr up : Vec F S128x1024 .bf16)
    (h1 : ¬ cond1 i = 1#1) (h2 : k0_cond2 i = 1#1) (h3 : k0_cond3 i = 1#1) (h4 : cond4 i = 1#1) (h5 : ¬ k0_cond5 i = 1#1) (h6 : ¬ k0_cond6 i = 1#1) (K : PUnit → sProp 𝕄) :
    iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare w ∗ owns (c : Thread nD τ) arg12 fullShare wlr ∗ owns (c : Thread nD τ) arg13 fullShare up
        ∗ (iprop(owns (c : Thread nD τ) arg1 fullShare a1 ∗ owns (c : Thread nD τ) arg2 fullShare a2 ∗ owns (c : Thread nD τ) arg4 fullShare u4 ∗ owns (c : Thread nD τ) arg5 fullShare u5 ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  unfold owns
  iintro ⟨⟨%f1, %hf1, H1⟩, ⟨%f2, %hf2, H2⟩, ⟨%f4, %hf4, H4⟩, ⟨%f5, %hf5, H5⟩, ⟨%f11, %hf11, H11⟩, ⟨%f12, %hf12, H12⟩, ⟨%f13, %hf13, H13⟩, Hk⟩
  obtain rfl := harg1.eq_unread hf1; obtain rfl := harg2.eq_unread hf2; obtain rfl := harg4.eq_unread hf4; obtain rfl := harg5.eq_unread hf5; obtain rfl := harg11.eq_unread hf11; obtain rfl := harg12.eq_unread hf12; obtain rfl := harg13.eq_unread hf13
  rw [dif_neg h1]
  rw [dif_pos h2]
  rw [dif_pos h3]
  rw [dif_pos h4]
  rw [dif_neg h5]
  rw [dif_neg h6]
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H4]
  · iexists _; isplitr; swap; · iexact H4
    ipureintro; exact harg4.read_unread _
  isplitl [H5]
  · iexists _; isplitr; swap; · iexact H5
    ipureintro; exact harg5.read_unread _
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 4000000 in
/-- A packing step of a slab below the low-rank rows. -/
theorem packD (c : Dev nD) (i : grid0.Coords) (arg1 : Memref sig .tc .vmem S1024x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S512x11264 .bf16) (harg10 : arg10.IsWhole) (arg11 : Memref sig .tc .vmem S10x1024x1024 .bf16) (harg11 : arg11.IsWhole) (arg12 : Memref sig .tc .vmem S128x1024 .bf16) (harg12 : arg12.IsWhole) (arg13 : Memref sig .tc .vmem S128x1024 .bf16) (harg13 : arg13.IsWhole)
    (a1 : Vec F S1024x1024 .f32) (a2 : Vec F S32x1024 .f32) (u4 u5 : Vec F S16x512 .f32) (w : Vec F S10x1024x1024 .bf16) (wlr up : Vec F S128x1024 .bf16)
    (h1 : ¬ cond1 i = 1#1) (h2 : k0_cond2 i = 1#1) (h3 : ¬ k0_cond3 i = 1#1) (h4 : ¬ cond4 i = 1#1) (h5 : k0_cond5 i = 1#1) (h6 : ¬ k0_cond6 i = 1#1) (K : PUnit → sProp 𝕄) :
    iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare w ∗ owns (c : Thread nD τ) arg12 fullShare wlr ∗ owns (c : Thread nD τ) arg13 fullShare up
        ∗ (iprop(owns (c : Thread nD τ) arg1 fullShare a1 ∗ owns (c : Thread nD τ) arg2 fullShare a2 ∗ owns (c : Thread nD τ) arg4 fullShare u4 ∗ owns (c : Thread nD τ) arg5 fullShare u5 ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  unfold owns
  iintro ⟨⟨%f1, %hf1, H1⟩, ⟨%f2, %hf2, H2⟩, ⟨%f4, %hf4, H4⟩, ⟨%f5, %hf5, H5⟩, ⟨%f11, %hf11, H11⟩, ⟨%f12, %hf12, H12⟩, ⟨%f13, %hf13, H13⟩, Hk⟩
  obtain rfl := harg1.eq_unread hf1; obtain rfl := harg2.eq_unread hf2; obtain rfl := harg4.eq_unread hf4; obtain rfl := harg5.eq_unread hf5; obtain rfl := harg11.eq_unread hf11; obtain rfl := harg12.eq_unread hf12; obtain rfl := harg13.eq_unread hf13
  rw [dif_neg h1]
  rw [dif_pos h2]
  rw [dif_neg h3]
  rw [dif_neg h4]
  rw [dif_pos h5]
  rw [dif_neg h6]
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H4]
  · iexists _; isplitr; swap; · iexact H4
    ipureintro; exact harg4.read_unread _
  isplitl [H5]
  · iexists _; isplitr; swap; · iexact H5
    ipureintro; exact harg5.read_unread _
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

set_option maxHeartbeats 8000000 in
/-- A tile. -/
theorem tileRun (c : Dev nD) (i : grid0.Coords) (arg1 : Memref sig .tc .vmem S1024x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S512x11264 .bf16) (harg10 : arg10.IsWhole) (arg11 : Memref sig .tc .vmem S10x1024x1024 .bf16) (harg11 : arg11.IsWhole) (arg12 : Memref sig .tc .vmem S128x1024 .bf16) (harg12 : arg12.IsWhole) (arg13 : Memref sig .tc .vmem S128x1024 .bf16) (harg13 : arg13.IsWhole)
    (x3 : Vec F S512x1024 .f32) (x6 x7 : Vec F S1x512 .f32) (x8 x9 : Vec F S2x1024 .f32) (w : Vec F S10x1024x1024 .bf16) (wlr up : Vec F S128x1024 .bf16)
    (h1 : ¬ cond1 i = 1#1) (h2 : ¬ k0_cond2 i = 1#1) (h6 : k0_cond6 i = 1#1) (K : PUnit → sProp 𝕄) :
    iprop(owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare w ∗ owns (c : Thread nD τ) arg12 fullShare wlr ∗ owns (c : Thread nD τ) arg13 fullShare up
        ∗ (iprop(owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare w ∗ owns (c : Thread nD τ) arg12 fullShare wlr ∗ owns (c : Thread nD τ) arg13 fullShare up) -∗ K ⟨⟩))
      ⊢ wp frame (wpE (defs₀ (F := F)) Variants.none c none) Set.univ (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  unfold owns
  iintro ⟨⟨%f3, %hf3, H3⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
  obtain rfl := harg3.eq_unread hf3; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13
  rw [dif_neg h1]
  rw [dif_neg h2]
  rw [dif_pos h6]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  sl_exec
  sl_step
  iapply Hk
  isplitl [H3]
  · iexists _; isplitr; swap; · iexact H3
    ipureintro; exact harg3.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _, _; isplitr; swap; · iexact H10
    ipureintro; rfl
  isplitl [H11]
  · iexists _; isplitr; swap; · iexact H11
    ipureintro; exact harg11.read_unread _
  isplitl [H12]
  · iexists _; isplitr; swap; · iexact H12
    ipureintro; exact harg12.read_unread _
  iexists _; isplitr; swap; · iexact H13
  ipureintro; exact harg13.read_unread _

end Cert.Project.Proj

end
-- ==== Proof.Proj.BitsFrame.lean ====
/-
  The frame of the projection (`Project`): it ends, its arguments are unchanged, every semaphore is back at zero.
-/
module

public import proofs.«01_k».proof.Proof.Proj.BitsRun
public import Idealize.ShloMosaic.Lib.Claim

@[expose] public section

set_option maxRecDepth 16384

noncomputable section

namespace Cert.Project.Proj

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is stated here of the output window. -/
def unnamedOut : Fin 10 → Bool := fun w => w.val == 9

/-- The pipeline's data: the inputs' blocks stay, the output is not named, nothing is owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at point `t`. -/
def before (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare d))

/-- What the body gives back. -/
def after (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ (∃ d, owns (c : Thread nD τ) (win0_9.stage (cfg0.slots t 9)) fullShare d))

set_option maxHeartbeats 2000000 in
theorem soundA (c : Dev nD) (t : Fin cfg0.N) (ht : t.val = 0) :
    before m c t ⊢ wp frame (wpE (defs₀ (F := F)) Variants.none c none) Set.univ (bodyAt0 t) (fun _ => after m c t) := by
  unfold before after bodyAt0
  simp only [before_0, before_1, before_2, before_3, before_4, before_5, before_6, before_7, before_8]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, scratch_eq]
  iintro ⟨⟨⟨⟨%w, HS0⟩, ⟨%wlr, HS1⟩, ⟨%up, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (packA c (grid0.coords t) _ _ _ _ _ _ _ _ _ _ _ _ _ _ _ _ _ _ _ _ _ _ _ _ _ _ (X0_0 m c t) (iblk m c 1 t) (iblk m c 3 t) (iblk m c 4 t) w wlr up ((cond1_iff t).mpr (by omega)) ((cond2_iff t).mpr (by omega)) ((cond3_iff t).mpr (by omega)) (fun h => absurd ((cond4_iff t).mp h) (by omega)) (fun h => absurd ((cond5_iff t).mp h) (by omega)) (fun h => absurd ((cond6_iff t).mp h) (by omega)) _)
  isplitl [H0]; · iexact H0
  isplitl [H1]; · iexact H1
  isplitl [H3]; · iexact H3
  isplitl [H4]; · iexact H4
  isplitl [HS0]; · iexact HS0
  isplitl [HS1]; · iexact HS1
  isplitl [HS2]; · iexact HS2
  iintro ⟨H0, H1, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
theorem soundB (c : Dev nD) (t : Fin cfg0.N) (ht : t.val = 1) :
    before m c t ⊢ wp frame (wpE (defs₀ (F := F)) Variants.none c none) Set.univ (bodyAt0 t) (fun _ => after m c t) := by
  unfold before after bodyAt0
  simp only [before_0, before_1, before_2, before_3, before_4, before_5, before_6, before_7, before_8]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, scratch_eq]
  iintro ⟨⟨⟨⟨%w, HS0⟩, ⟨%wlr, HS1⟩, ⟨%up, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (packB c (grid0.coords t) _ _ _ _ _ _ _ _ _ _ _ _ _ _ _ _ _ _ _ _ _ _ _ _ _ _ (X0_0 m c t) (iblk m c 1 t) (iblk m c 3 t) (iblk m c 4 t) w wlr up (fun h => absurd ((cond1_iff t).mp h) (by omega)) ((cond2_iff t).mpr (by omega)) ((cond3_iff t).mpr (by omega)) (fun h => absurd ((cond4_iff t).mp h) (by omega)) (fun h => absurd ((cond5_iff t).mp h) (by omega)) (fun h => absurd ((cond6_iff t).mp h) (by omega)) _)
  isplitl [H0]; · iexact H0
  isplitl [H1]; · iexact H1
  isplitl [H3]; · iexact H3
  isplitl [H4]; · iexact H4
  isplitl [HS0]; · iexact HS0
  isplitl [HS1]; · iexact HS1
  isplitl [HS2]; · iexact HS2
  iintro ⟨H0, H1, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
theorem soundC (c : Dev nD) (t : Fin cfg0.N) (ht : t.val = 2) :
    before m c t ⊢ wp frame (wpE (defs₀ (F := F)) Variants.none c none) Set.univ (bodyAt0 t) (fun _ => after m c t) := by
  unfold before after bodyAt0
  simp only [before_0, before_1, before_2, before_3, before_4, before_5, before_6, before_7, before_8]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, scratch_eq]
  iintro ⟨⟨⟨⟨%w, HS0⟩, ⟨%wlr, HS1⟩, ⟨%up, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (packC c (grid0.coords t) _ _ _ _ _ _ _ _ _ _ _ _ _ _ _ _ _ _ _ _ _ _ _ _ _ _ (X0_0 m c t) (iblk m c 1 t) (iblk m c 3 t) (iblk m c 4 t) w wlr up (fun h => absurd ((cond1_iff t).mp h) (by omega)) ((cond2_iff t).mpr (by omega)) ((cond3_iff t).mpr (by omega)) ((cond4_iff t).mpr (by omega)) (fun h => absurd ((cond5_iff t).mp h) (by omega)) (fun h => absurd ((cond6_iff t).mp h) (by omega)) _)
  isplitl [H0]; · iexact H0
  isplitl [H1]; · iexact H1
  isplitl [H3]; · iexact H3
  isplitl [H4]; · iexact H4
  isplitl [HS0]; · iexact HS0
  isplitl [HS1]; · iexact HS1
  isplitl [HS2]; · iexact HS2
  iintro ⟨H0, H1, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
theorem soundD (c : Dev nD) (t : Fin cfg0.N) (h3 : 3 ≤ t.val) (ht : t.val < 10) :
    before m c t ⊢ wp frame (wpE (defs₀ (F := F)) Variants.none c none) Set.univ (bodyAt0 t) (fun _ => after m c t) := by
  unfold before after bodyAt0
  simp only [before_0, before_1, before_2, before_3, before_4, before_5, before_6, before_7, before_8]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, scratch_eq]
  iintro ⟨⟨⟨⟨%w, HS0⟩, ⟨%wlr, HS1⟩, ⟨%up, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (packD c (grid0.coords t) _ _ _ _ _ _ _ _ _ _ _ _ _ _ _ _ _ _ _ _ _ _ _ _ _ _ (X0_0 m c t) (iblk m c 1 t) (iblk m c 3 t) (iblk m c 4 t) w wlr up (fun h => absurd ((cond1_iff t).mp h) (by omega)) ((cond2_iff t).mpr (by omega)) (fun h => absurd ((cond3_iff t).mp h) (by omega)) (fun h => absurd ((cond4_iff t).mp h) (by omega)) ((cond5_iff t).mpr (by omega)) (fun h => absurd ((cond6_iff t).mp h) (by omega)) _)
  isplitl [H0]; · iexact H0
  isplitl [H1]; · iexact H1
  isplitl [H3]; · iexact H3
  isplitl [H4]; · iexact H4
  isplitl [HS0]; · iexact HS0
  isplitl [HS1]; · iexact HS1
  isplitl [HS2]; · iexact HS2
  iintro ⟨H0, H1, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
theorem soundT (c : Dev nD) (t : Fin cfg0.N) (ht : 10 ≤ t.val) :
    before m c t ⊢ wp frame (wpE (defs₀ (F := F)) Variants.none c none) Set.univ (bodyAt0 t) (fun _ => after m c t) := by
  unfold before after bodyAt0
  simp only [before_0, before_1, before_2, before_3, before_4, before_5, before_6, before_7, before_8]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, scratch_eq]
  iintro ⟨⟨⟨⟨%w, HS0⟩, ⟨%wlr, HS1⟩, ⟨%up, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (tileRun c (grid0.coords t) _ _ _ _ _ _ _ _ _ _ _ _ _ _ _ _ _ _ _ _ _ _ _ _ _ _ (iblk m c 2 t) (iblk m c 5 t) (iblk m c 6 t) (iblk m c 7 t) (iblk m c 8 t) w wlr up (fun h => absurd ((cond1_iff t).mp h) (by omega)) (fun h => absurd ((cond2_iff t).mp h) (by omega)) ((cond6_iff t).mpr (by omega)) _)
  isplitl [H2]; · iexact H2
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H2, H5, H6, H7, H8, H9, HS0, HS1, HS2⟩
  isplitl [HS0 HS1 HS2 Hg]
  · isplitl [HS0 HS1 HS2]
    · isplitl [HS0]; · iexists _; iexact HS0
      isplitl [HS1]; · iexists _; iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at every point. -/
theorem sound (c : Dev nD) (t : Fin cfg0.N) :
    before m c t ⊢ wp frame (wpE (defs₀ (F := F)) Variants.none c none) Set.univ (bodyAt0 t) (fun _ => after m c t) := by
  by_cases h0 : t.val = 0
  · exact soundA m c t h0
  by_cases h1 : t.val = 1
  · exact soundB m c t h1
  by_cases h2 : t.val = 2
  · exact soundC m c t h2
  by_cases h3 : t.val < 10
  · exact soundD m c t (by omega) h3
  exact soundT m c t (by omega)

theorem row_eq (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ unnamedOut := fun t => by
  rw [bigSep_W0, bigSep_W0, row_eq]
  exact triple_restated (sound m c t) rfl .rfl fun _ => .rfl

set_option backward.isDefEq.respectTransparency.types false in
/-- The whole run: the arrays and the counters at its end. -/
theorem wholeRun : θ_run defs (onTc (τ := τ) (main (F := F))) (s₀ m ρ) (fun r => (Pipeline.RDat.FramePost (cfgs 0) (fun c => (dats m 0 c).toRForget unnamedOut) (V m)) r ∧ r.2.sem = fun _ => 0) :=
  Pipeline.θ_run_frame_forget_shared (Q' := _) cfgs (dats m) (0 : Fin 1) launch₀0 defs₀ Variants.none unnamedOut m ρ main
    (hbody := fun c => (obligation m c).loose) (hq := fun _ _ _ => rfl)
    (howed := fun _ _ => rfl) (V := V m) (hmain := hmain m Variants.none) (hA := A_eq m) (hΦ := fun _ _ => rfl)

/-- The frame: the arguments are as they were, every counter at zero. -/
theorem frameClaim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and ((θ_run defs _ _).mono
      (fun _ h c => ⟨(Pipeline.RDat.FramePost.arr_in h.1 c 2 rfl).trans ((A_eq m c 2).trans (V_main_arg0 m c)),
      (Pipeline.RDat.FramePost.arr_in h.1 c 1 rfl).trans ((A_eq m c 1).trans (V_main_arg1 m c)),
      (Pipeline.RDat.FramePost.arr_in h.1 c 3 rfl).trans ((A_eq m c 3).trans (V_main_arg2 m c)),
      (Pipeline.RDat.FramePost.arr_in h.1 c 4 rfl).trans ((A_eq m c 4).trans (V_main_arg3 m c)),
      (Pipeline.RDat.FramePost.arr_in h.1 c 5 rfl).trans ((A_eq m c 5).trans (V_main_arg4 m c)),
      (Pipeline.RDat.FramePost.arr_in h.1 c 6 rfl).trans ((A_eq m c 6).trans (V_main_arg5 m c)),
      (Pipeline.RDat.FramePost.arr_in h.1 c 7 rfl).trans ((A_eq m c 7).trans (V_main_arg6 m c)),
      (Pipeline.RDat.FramePost.arr_in h.1 c 8 rfl).trans ((A_eq m c 8).trans (V_main_arg7 m c))⟩) (wholeRun m ρ))
    ((θ_run defs _ _).mono (fun _ h => h.2) (wholeRun m ρ))

end Cert.Project.Proj

end
-- ==== Proof.Proj.Launch.lean ====
/- The launch of the projection (`ProjectIdeal`): the scratch named, and where each branch of the body is taken. -/
module

public import proofs.«01_k».proof.Proof.Gen.ProjectIdeal.Frame
public import proofs.«01_k».proof.Proof.Gen.ProjectIdeal.Skeleton

@[expose] public section

set_option maxRecDepth 16384

noncomputable section

namespace Cert.ProjectIdeal.Proj

open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The three scratch arrays: the packed weights, the low-rank rows, the two up-projections side by side. -/
abbrev scr0 : Memref sig .tc .vmem S10x1024x1024 .bf16 := Memref.whole cc0_scratch0
abbrev scr1 : Memref sig .tc .vmem S128x1024 .bf16 := Memref.whole cc0_scratch1
abbrev scr2 : Memref sig .tc .vmem S128x1024 .bf16 := Memref.whole cc0_scratch2

/-- What the pipeline hands the body besides its windows: the scratch at some contents and the generator register. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-! ## The branches over the grid -/

/-- The first branch's condition, as the body computes it. -/
abbrev cond1 (i : grid0.Coords) : BitVec 1 := Scalar.cmpi .ne (Scalar.extui (Scalar.cmpi .eq (BitVec.ofNat 32 (i 0).val) 0#32) : BitVec 32) 0#32
/-- The low-rank branch's condition. -/
abbrev cond4 (i : grid0.Coords) : BitVec 1 := Scalar.cmpi .ne (Scalar.extui (Scalar.cmpi .eq (BitVec.ofNat 32 (i 0).val) 2#32) : BitVec 32) 0#32

theorem cond1_iff : ∀ t : Fin grid0.N, cond1 (grid0.coords t) = 1#1 ↔ t.val = 0 := by decide +kernel
theorem cond2_iff : ∀ t : Fin grid0.N, k0_cond2 (grid0.coords t) = 1#1 ↔ t.val < 10 := by decide +kernel
theorem cond3_iff : ∀ t : Fin grid0.N, k0_cond3 (grid0.coords t) = 1#1 ↔ t.val < 3 := by decide +kernel
theorem cond4_iff : ∀ t : Fin grid0.N, cond4 (grid0.coords t) = 1#1 ↔ t.val = 2 := by decide +kernel
theorem cond5_iff : ∀ t : Fin grid0.N, k0_cond5 (grid0.coords t) = 1#1 ↔ 3 ≤ t.val := by decide +kernel
theorem cond6_iff : ∀ t : Fin grid0.N, k0_cond6 (grid0.coords t) = 1#1 ↔ 10 ≤ t.val := by decide +kernel
theorem off1_eq : ∀ t : Fin grid0.N, k0_off1 (grid0.coords t) = ![t.val, 0, 0] := by decide +kernel
theorem off2_eq : ∀ t : Fin grid0.N, k0_off2 (grid0.coords t) = ![t.val, 0, 0] := by decide +kernel

end Cert.ProjectIdeal.Proj

end
-- ==== Proof.Proj.Scalars.lean ====
/-
  The projection's scalar functions on the extended reals: the logistic function, the gate and the forget gate, as the
  two programs compute them.
-/
module

public import Idealize.ShloMosaic.PureOps.Ideal

@[expose] public section

noncomputable section

namespace Cert.Proj

open Idealize.ShloMosaic

/-- The logistic function. -/
def sgm (a : EReal) : EReal := Ideal.div 1 (1 + Ideal.exp (-a))

/-- A power of two with exponent scaled by `−1 / log 2` is the exponential of the negative. -/
theorem exp2_scaled (a : EReal) : Ideal.exp2 (a * ((-((Real.log 2)⁻¹) : ℝ) : EReal)) = Ideal.exp (-a) := by
  have h2 : (0 : ℝ) < Real.log 2 := Real.log_pos (by norm_num)
  have hneg : -((Real.log 2)⁻¹) < 0 := neg_neg_of_pos (inv_pos.mpr h2)
  induction a using EReal.rec with
  | bot => rw [EReal.bot_mul_coe_of_neg hneg]; rfl
  | top => rw [EReal.top_mul_coe_of_neg hneg]; rfl
  | coe r =>
    rw [← EReal.coe_mul, ← EReal.coe_neg, Ideal.exp2_coe, Ideal.exp_coe]
    congr 1
    show (2 : ℝ) ^ (r * -((Real.log 2)⁻¹)) = Real.exp (-r)
    rw [Real.rpow_def_of_pos (by norm_num)]
    congr 1
    field_simp

/-- The logarithm of one plus an exponential of a non-positive number is real. -/
theorem log_one_add_exp (a : EReal) (ha : a ≤ 0) : ∃ L : ℝ, Ideal.log (1 + Ideal.exp a) = (L : EReal) := by
  induction a using EReal.rec with
  | bot => exact ⟨0, by rw [Ideal.exp_bot, add_zero, ← EReal.coe_one, Ideal.log_coe]; simp⟩
  | top => exact absurd ha (by simp)
  | coe r =>
    refine ⟨Real.log (1 + Real.exp r), ?_⟩
    rw [Ideal.exp_coe, ← EReal.coe_one, ← EReal.coe_add, Ideal.log_coe, if_neg (not_le.mpr (add_pos one_pos (Real.exp_pos r)))]

/-- Multiplying by `1 / log 2` and by `log 2` again changes no real number. -/
theorem scale_back (L : ℝ) : (L : EReal) * (((Real.log 2)⁻¹ : ℝ) : EReal) * ((Real.log 2 : ℝ) : EReal) = (L : EReal) := by
  rw [← EReal.coe_mul, ← EReal.coe_mul]
  congr 1
  have h2 : Real.log 2 ≠ 0 := (Real.log_pos (by norm_num)).ne'
  field_simp

/-- The gate as the reference computes it. -/
def gate (z : EReal) : EReal :=
  Ideal.div (Ideal.div (-(max (-z) 0 + Ideal.log1p (Ideal.exp (-(max (-z - 0) (-(-z - 0))))))) 16) (Ideal.log 2)

/-- The gate as the kernel computes it. -/
def gateK (z : EReal) : EReal :=
  (min z 0 - Ideal.log (1 + Ideal.exp2 (max z (-z) * ((-((Real.log 2)⁻¹) : ℝ) : EReal))) * (((Real.log 2)⁻¹ : ℝ) : EReal) * ((Real.log 2 : ℝ) : EReal))
    * (((Real.log 2)⁻¹ * (1 / 16) : ℝ) : EReal)

/-- The logarithm of two. -/
theorem log_two : Ideal.log 2 = ((Real.log 2 : ℝ) : EReal) := by
  rw [show (2 : EReal) = ((2 : ℝ) : EReal) from rfl, Ideal.log_coe, if_neg (by norm_num)]

/-- Dividing by `log 2` is multiplying by its inverse. -/
theorem div_log_two (a : EReal) : Ideal.div a (Ideal.log 2) = a * (((Real.log 2)⁻¹ : ℝ) : EReal) := by
  rw [log_two, Ideal.div_coe (Real.log_pos (by norm_num)).ne', one_div]

/-- The two gates are one function. -/
theorem gateK_eq (z : EReal) : gateK z = gate z := by
  have hle : -(max z (-z)) ≤ 0 := by
    rw [EReal.neg_le, neg_zero]
    rcases le_total 0 z with h | h
    · exact le_max_of_le_left h
    · exact le_max_of_le_right (by rw [EReal.le_neg, neg_zero]; exact h)
  obtain ⟨L, hL⟩ := log_one_add_exp _ hle
  have hab : max (-z - 0) (-(-z - 0)) = max z (-z) := by rw [sub_zero, neg_neg, max_comm]
  have hmin : -(max (-z) 0) = min z 0 := by
    rcases le_total 0 z with h | h
    · rw [max_eq_right (by rw [EReal.neg_le, neg_zero]; exact h), min_eq_right h, neg_zero]
    · rw [max_eq_left (by rw [EReal.le_neg, neg_zero]; exact h), min_eq_left h, neg_neg]
  unfold gateK gate
  rw [exp2_scaled, hL, scale_back, hab, div_log_two]
  rw [show Ideal.log1p (Ideal.exp (-(max z (-z)))) = (L : EReal) from hL]
  rw [EReal.neg_add (Or.inr (EReal.coe_ne_top _)) (Or.inr (EReal.coe_ne_bot _)), hmin]
  rw [show (16 : EReal) = ((16 : ℝ) : EReal) from rfl, Ideal.div_coe (by norm_num), mul_assoc, ← EReal.coe_mul]
  rw [mul_comm (Real.log 2)⁻¹]

/-- The forget gate's logarithm to base 2. -/
def forget (b h : EReal) : EReal := Ideal.div (Ideal.log (b + (1 - b) * sgm h)) (Ideal.log 2)

/-- The lower bound of the forget gate: the first of two logits' shares under the soft maximum. -/
def lower (l0 l1 : EReal) : EReal :=
  Ideal.div (Ideal.exp (l0 - max l0 l1)) (Ideal.exp (l0 - max l0 l1) + Ideal.exp (l1 - max l0 l1))

/-- The scale of the queries, `0.0883883461`. -/
def c0 : EReal := Ideal.ofBits .f32 0x3DB504F3#32

/-- A row's results, column by column: from its scores `h` (the low-rank rows left out), the two gates'
    pre-activations `zf`, `zb` and the two lower bounds `lf`, `lb`. -/
def colSpec (h zf zb lf lb : ℕ → EReal) (c : ℕ) : EReal :=
  if c < 512 then h c * c0
  else if c < 2048 then h c
  else if c < 3072 then h c * sgm (h c)
  else if c < 3584 then gate (zf (c - 3072))
  else if c < 4096 then gate (zb (c - 3584))
  else if c < 5120 then h (c - 1024) * sgm (h (c - 1024)) * c0
  else if c < 6144 then forget (lf (c - 5120)) (h (c - 1024))
  else if c < 7168 then forget (lb (c - 6144)) (h (c - 1024))
  else if c < 8192 then h (c - 1024)
  else if c < 9216 then h (c - 1024) * sgm (h (c - 1024))
  else sgm (h (c - 1024))

section Columns

variable {h zf zb lf lb : ℕ → EReal} {c : ℕ}

theorem col_scaled (h1 : c < 512) : colSpec h zf zb lf lb c = h c * c0 := by
  unfold colSpec; rw [if_pos h1]
theorem col_plain (h0 : 512 ≤ c) (h1 : c < 2048) : colSpec h zf zb lf lb c = h c := by
  unfold colSpec; rw [if_neg (by omega), if_pos h1]
theorem col_silu (h0 : 2048 ≤ c) (h1 : c < 3072) : colSpec h zf zb lf lb c = h c * sgm (h c) := by
  unfold colSpec; rw [if_neg (by omega), if_neg (by omega), if_pos h1]
theorem col_gate_f (h0 : 3072 ≤ c) (h1 : c < 3584) : colSpec h zf zb lf lb c = gate (zf (c - 3072)) := by
  unfold colSpec; rw [if_neg (by omega), if_neg (by omega), if_neg (by omega), if_pos h1]
theorem col_gate_b (h0 : 3584 ≤ c) (h1 : c < 4096) : colSpec h zf zb lf lb c = gate (zb (c - 3584)) := by
  unfold colSpec; rw [if_neg (by omega), if_neg (by omega), if_neg (by omega), if_neg (by omega), if_pos h1]
theorem col_silu_scaled (h0 : 4096 ≤ c) (h1 : c < 5120) : colSpec h zf zb lf lb c = h (c - 1024) * sgm (h (c - 1024)) * c0 := by
  unfold colSpec; rw [if_neg (by omega), if_neg (by omega), if_neg (by omega), if_neg (by omega), if_neg (by omega), if_pos h1]
theorem col_forget_f (h0 : 5120 ≤ c) (h1 : c < 6144) : colSpec h zf zb lf lb c = forget (lf (c - 5120)) (h (c - 1024)) := by
  unfold colSpec; rw [if_neg (by omega), if_neg (by omega), if_neg (by omega), if_neg (by omega), if_neg (by omega), if_neg (by omega), if_pos h1]
theorem col_forget_b (h0 : 6144 ≤ c) (h1 : c < 7168) : colSpec h zf zb lf lb c = forget (lb (c - 6144)) (h (c - 1024)) := by
  unfold colSpec; rw [if_neg (by omega), if_neg (by omega), if_neg (by omega), if_neg (by omega), if_neg (by omega), if_neg (by omega), if_neg (by omega), if_pos h1]
theorem col_plain2 (h0 : 7168 ≤ c) (h1 : c < 8192) : colSpec h zf zb lf lb c = h (c - 1024) := by
  unfold colSpec; rw [if_neg (by omega), if_neg (by omega), if_neg (by omega), if_neg (by omega), if_neg (by omega), if_neg (by omega), if_neg (by omega), if_neg (by omega), if_pos h1]
theorem col_silu2 (h0 : 8192 ≤ c) (h1 : c < 9216) : colSpec h zf zb lf lb c = h (c - 1024) * sgm (h (c - 1024)) := by
  unfold colSpec; rw [if_neg (by omega), if_neg (by omega), if_neg (by omega), if_neg (by omega), if_neg (by omega), if_neg (by omega), if_neg (by omega), if_neg (by omega), if_neg (by omega), if_pos h1]
theorem col_sgm (h0 : 9216 ≤ c) : colSpec h zf zb lf lb c = sgm (h (c - 1024)) := by
  unfold colSpec; rw [if_neg (by omega), if_neg (by omega), if_neg (by omega), if_neg (by omega), if_neg (by omega), if_neg (by omega), if_neg (by omega), if_neg (by omega), if_neg (by omega), if_neg (by omega)]

end Columns

end Cert.Proj

end
-- ==== Proof.Proj.Payload.lean ====
/-
  The projection's stored pieces, entry by entry: each is a scalar function of the scores of a row of the activations
  against the rows of one packed half slab.
-/
module

public import proofs.«01_k».proof.Proof.Gen.ProjectIdeal.Skeleton
public import proofs.«01_k».proof.Proof.Proj.Scalars
public import Idealize.ShloMosaic.Lib.Pointwise

@[expose] public section

set_option maxRecDepth 16384

noncomputable section

namespace Cert.ProjectIdeal.Proj

open Cert.ProjectIdeal Cert.ProjectIdeal.Gen Cert.Proj
open Idealize.ShloMosaic Idealize.ShloMosaic.TcCoe

local notation "V" => Vec Ideal

/-- The score of row `i` of the activations against row `j` of a half slab. -/
def dotp (x : V S512x1024 .bf16) (w : V S1x512x1024 .bf16) (i j : Fin 512) : EReal := ∑ d : Fin 1024, x (ix2 i d) * w (ix3 0 j d)

/-! ### The named constants -/

theorem named_neg : (Named.named κ "neg_log2e" 0xBFB8AA3B#32 : Ideal .f32) = ((-((Real.log 2)⁻¹) : ℝ) : EReal) :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

theorem named_ln2 : (Named.named κ "ln2" 0x3F317218#32 : Ideal .f32) = ((Real.log 2 : ℝ) : EReal) :=
  IdealRules.named_const.ideal_named_scalar _ _ _ _ rfl

theorem named_log2e_16 : (Named.named κ "log2e_16" 0x3DB8AA3B#32 : Ideal .f32) = (((Real.log 2)⁻¹ * (1 / 16) : ℝ) : EReal) :=
  IdealRules.named_const.ideal_named_scalar _ _ _ _ rfl

/-- The body's logistic function. -/
theorem sig_named (a : Ideal .f32) : Ideal.div 1 (1 + FloatOps.exp2 (a * (Named.named κ "neg_log2e" 0xBFB8AA3B#32 : Ideal .f32))) = sgm a := by
  rw [named_neg]
  exact congrArg (fun e => Ideal.div 1 (1 + e)) (exp2_scaled a)

/-- The body's gate. -/
theorem gate_named (z : Ideal .f32) :
    (min z 0 - Ideal.log (1 + FloatOps.exp2 (FloatOps.absf z * (Named.named κ "neg_log2e" 0xBFB8AA3B#32 : Ideal .f32))) * (Named.named κ "log2e" 0x3FB8AA3B#32 : Ideal .f32) * (Named.named κ "ln2" 0x3F317218#32 : Ideal .f32)) * (Named.named κ "log2e_16" 0x3DB8AA3B#32 : Ideal .f32) = gate z := by
  rw [named_neg, named_log2e, named_ln2, named_log2e_16]
  exact gateK_eq z

/-- The body's forget gate. -/
theorem forget_named (b a : Ideal .f32) :
    Ideal.log (b + (1 - b) * Ideal.div 1 (1 + FloatOps.exp2 (a * (Named.named κ "neg_log2e" 0xBFB8AA3B#32 : Ideal .f32)))) * (Named.named κ "log2e" 0x3FB8AA3B#32 : Ideal .f32) = forget b a := by
  rw [sig_named, named_log2e]
  exact (div_log_two _).symm

/-! ### Pieces of one half slab -/

theorem pay8_apply (v9 : V S512x1024 .f32) (i : Fin 512) (j : Fin 1024) : k0_pay8 v9 (ix2 i j) = v9 (ix2 i j) := by pointwise [k0_pay8]

theorem pay17_apply (x : V S512x1024 .bf16) (w : V S1x512x1024 .bf16) (i j : Fin 512) : k0_pay17 x w (ix2 i j) = dotp x w i j := by pointwise [k0_pay17, dotp]

theorem pay20_apply (x : V S512x1024 .bf16) (w : V S1x512x1024 .bf16) (i j : Fin 512) : k0_pay20 x w (ix2 i j) = dotp x w i j := by pointwise [k0_pay20, dotp]

theorem pay21_apply (x : V S512x1024 .bf16) (w : V S1x512x1024 .bf16) (i j : Fin 512) : k0_pay21 x w (ix2 i j) = dotp x w i j := by pointwise [k0_pay21, dotp]

theorem pay29_apply (x : V S512x1024 .bf16) (w : V S1x512x1024 .bf16) (i j : Fin 512) : k0_pay29 x w (ix2 i j) = dotp x w i j := by pointwise [k0_pay29, dotp]

theorem pay30_apply (x : V S512x1024 .bf16) (w : V S1x512x1024 .bf16) (i j : Fin 512) : k0_pay30 x w (ix2 i j) = dotp x w i j := by pointwise [k0_pay30, dotp]

theorem pay14_apply (x : V S512x1024 .bf16) (w : V S1x512x1024 .bf16) (i j : Fin 512) : k0_pay14 x w (ix2 i j) = dotp x w i j * c0 := by pointwise [k0_pay14, dotp, c0]

theorem pay15_apply (x : V S512x1024 .bf16) (w : V S1x512x1024 .bf16) (i j : Fin 512) : k0_pay15 x w (ix2 i j) = dotp x w i j * sgm (dotp x w i j) := by
  pointwise [k0_pay15, dotp]
  rw [sig_named]

theorem pay16_apply (x : V S512x1024 .bf16) (w : V S1x512x1024 .bf16) (i j : Fin 512) : k0_pay16 x w (ix2 i j) = dotp x w i j * sgm (dotp x w i j) := by
  pointwise [k0_pay16, dotp]
  rw [sig_named]

theorem pay39_apply (x : V S512x1024 .bf16) (w : V S1x512x1024 .bf16) (i j : Fin 512) : k0_pay39 x w (ix2 i j) = dotp x w i j * sgm (dotp x w i j) := by
  pointwise [k0_pay39, dotp]
  rw [sig_named]

theorem pay40_apply (x : V S512x1024 .bf16) (w : V S1x512x1024 .bf16) (i j : Fin 512) : k0_pay40 x w (ix2 i j) = dotp x w i j * sgm (dotp x w i j) := by
  pointwise [k0_pay40, dotp]
  rw [sig_named]

theorem pay18_apply (x : V S512x1024 .bf16) (w : V S1x512x1024 .bf16) (i j : Fin 512) : k0_pay18 x w (ix2 i j) = dotp x w i j * sgm (dotp x w i j) * c0 := by
  pointwise [k0_pay18, dotp, c0]
  rw [sig_named]

theorem pay19_apply (x : V S512x1024 .bf16) (w : V S1x512x1024 .bf16) (i j : Fin 512) : k0_pay19 x w (ix2 i j) = dotp x w i j * sgm (dotp x w i j) * c0 := by
  pointwise [k0_pay19, dotp, c0]
  rw [sig_named]

theorem pay41_apply (x : V S512x1024 .bf16) (w : V S1x512x1024 .bf16) (i j : Fin 512) : k0_pay41 x w (ix2 i j) = sgm (dotp x w i j) := by
  pointwise [k0_pay41, dotp]
  rw [sig_named]

theorem pay42_apply (x : V S512x1024 .bf16) (w : V S1x512x1024 .bf16) (i j : Fin 512) : k0_pay42 x w (ix2 i j) = sgm (dotp x w i j) := by
  pointwise [k0_pay42, dotp]
  rw [sig_named]

theorem pay43_apply (x : V S512x1024 .bf16) (w : V S1x512x1024 .bf16) (i j : Fin 512) : k0_pay43 x w (ix2 i j) = sgm (dotp x w i j) := by
  pointwise [k0_pay43, dotp]
  rw [sig_named]

theorem pay7_apply (x : V S512x1024 .bf16) (w : V S1x512x1024 .bf16) (i j : Fin 512) : k0_pay7 x w (ix2 i j) = sgm (dotp x w i j) := by
  pointwise [k0_pay7, dotp]
  rw [sig_named]

/-! ### The gates -/

theorem pay9_apply (x : V S512x1024 .f32) (w : V S128x1024 .bf16) (i : Fin 512) (j : Fin 128) :
    k0_pay9 x w (ix2 i j) = ∑ d : Fin 1024, x (ix2 i d) * w (ix2 j d) := by pointwise [k0_pay9, k0_pay8]

/-- The gate's pre-activation: the low-rank score against the up-projection, and the bias. -/
def pre (x : V S512x1024 .f32) (w : V S128x1024 .bf16) (u : V S128x512 .bf16) (b : V S1x512 .f32) (i j : Fin 512) : EReal :=
  (∑ r : Fin 128, (∑ d : Fin 1024, x (ix2 i d) * w (ix2 r d)) * u (ix2 r j)) + b (ix2 0 j)

theorem pay10_apply (x : V S512x1024 .f32) (w : V S128x1024 .bf16) (u : V S128x512 .bf16) (b : V S1x512 .f32) (i j : Fin 512) :
    k0_pay10 x w u b (ix2 i j) = gate (pre x w u b i j) := by
  have h : k0_pay10 x w u b (ix2 i j) = gate ((∑ r : Fin 128, k0_pay9 x w (ix2 i r) * u (ix2 r j)) + b (ix2 0 j)) := by
    pointwise [k0_pay10]
    rw [gate_named]
  rw [h, pre]
  simp only [pay9_apply]

theorem pay11_apply (x : V S512x1024 .f32) (w : V S128x1024 .bf16) (u : V S128x512 .bf16) (b : V S1x512 .f32) (i j : Fin 512) :
    k0_pay11 x w u b (ix2 i j) = pre x w u b i j := by
  have h : k0_pay11 x w u b (ix2 i j) = (∑ r : Fin 128, k0_pay9 x w (ix2 i r) * u (ix2 r j)) + b (ix2 0 j) := by pointwise [k0_pay11]
  rw [h, pre]
  simp only [pay9_apply]

theorem pay12_apply (x : V S512x1024 .f32) (w : V S128x1024 .bf16) (u : V S128x512 .bf16) (b : V S1x512 .f32) (i j : Fin 512) :
    k0_pay12 x w u b (ix2 i j) = min (pre x w u b i j) 0 := by
  have h : k0_pay12 x w u b (ix2 i j) = min (k0_pay11 x w u b (ix2 i j)) 0 := by pointwise [k0_pay12]
  rw [h, pay11_apply]

theorem pay13_apply (x : V S512x1024 .f32) (w : V S128x1024 .bf16) (u : V S128x512 .bf16) (b : V S1x512 .f32) (i j : Fin 512) :
    k0_pay13 (k0_pay11 x w u b) (k0_pay12 x w u b) (ix2 i j) = gate (pre x w u b i j) := by
  have h (p q : V S512x512 .f32) : k0_pay13 (F := Ideal) p q (ix2 i j) = (q (ix2 i j) - Ideal.log (1 + FloatOps.exp2 (FloatOps.absf (p (ix2 i j)) * (Named.named κ "neg_log2e" 0xBFB8AA3B#32 : Ideal .f32))) * (Named.named κ "log2e" 0x3FB8AA3B#32 : Ideal .f32) * (Named.named κ "ln2" 0x3F317218#32 : Ideal .f32)) * (Named.named κ "log2e_16" 0x3DB8AA3B#32 : Ideal .f32) := by
    pointwise [k0_pay13]
  rw [h, pay11_apply, pay12_apply, gate_named]

/-! ### The lower bounds and the forget gates -/

/-- The lower bound read off two rows of logits. -/
def low (l : V S2x1024 .f32) (j : Fin 1024) : EReal := lower (l (ix2 0 j)) (l (ix2 1 j))

theorem fold_two (f : Fin 2 → EReal) : Finset.fold max (Ideal.ofBits FTy.f32 0xFF800000#32) f Finset.univ = max (f 0) (f 1) := by
  have hbot : Ideal.ofBits FTy.f32 0xFF800000#32 = ⊥ := by simp [Ideal.ofBits, Ideal.ieee]
  rw [hbot, show (Finset.univ : Finset (Fin 2)) = {0, 1} from rfl, Finset.fold_insert (by decide), Finset.fold_singleton, max_bot_right]

theorem pay22_apply (l : V S2x1024 .f32) (i : Fin 2) (j : Fin 1024) : k0_pay22 l (ix2 i j) = max (l (ix2 0 j)) (l (ix2 1 j)) := by
  have h : k0_pay22 l (ix2 i j) = Finset.fold max (Ideal.ofBits FTy.f32 0xFF800000#32) (fun r => l (ix2 r j)) Finset.univ := by pointwise [k0_pay22]
  exact h.trans (fold_two _)

theorem pay23_apply (l : V S2x1024 .f32) (j : Fin 1024) : k0_pay23 l (k0_pay22 l) (ix2 0 j) = low l j := by
  have h (m : V S2x1024 .f32) : k0_pay23 l m (ix2 0 j) = Ideal.div (∑ r : Fin 1, Ideal.exp (l (ix2 0 j) - m (ix2 0 j))) (∑ r : Fin 2, Ideal.exp (l (ix2 r j) - m (ix2 r j))) := by pointwise [k0_pay23]
  rw [h, Fin.sum_univ_one, Fin.sum_univ_two]
  simp only [pay22_apply]
  rfl

theorem pay31_apply (l : V S2x1024 .f32) (i : Fin 2) (j : Fin 1024) : k0_pay31 l (ix2 i j) = Ideal.exp (l (ix2 i j) - max (l (ix2 0 j)) (l (ix2 1 j))) := by
  have h : k0_pay31 l (ix2 i j) = Ideal.exp (l (ix2 i j) - Finset.fold max (Ideal.ofBits FTy.f32 0xFF800000#32) (fun r => l (ix2 r j)) Finset.univ) := by pointwise [k0_pay31]
  rw [h, fold_two]

theorem pay34_apply (l : V S2x1024 .f32) (j : Fin 1024) : k0_pay34 (k0_pay32 l) (k0_pay33 l) (ix2 0 j) = low l j := by
  have h (p q : V S1x1024 .f32) : k0_pay34 (F := Ideal) p q (ix2 0 j) = Ideal.div (p (ix2 0 j)) (q (ix2 0 j)) := by pointwise [k0_pay34]
  have h2 : k0_pay32 l (ix2 0 j) = ∑ r : Fin 1, k0_pay31 l (ix2 0 j) := by pointwise [k0_pay32]
  have h3 : k0_pay33 l (ix2 0 j) = ∑ r : Fin 2, k0_pay31 l (ix2 r j) := by pointwise [k0_pay33]
  rw [h, h2, h3, Fin.sum_univ_one, Fin.sum_univ_two]
  simp only [pay31_apply]
  rfl

theorem pay24_apply (x : V S512x1024 .bf16) (l : V S2x1024 .f32) (w : V S1x512x1024 .bf16) (i j : Fin 512) :
    k0_pay24 x l (k0_pay22 l) w (ix2 i j) = forget (low l ⟨j.val, by omega⟩) (dotp x w i j) := by
  have h (m : V S2x1024 .f32) : k0_pay24 x l m w (ix2 i j) = forget (k0_pay23 l m (ix2 0 ⟨j.val, by omega⟩)) (dotp x w i j) := by
    pointwise [k0_pay24, dotp]
    rw [forget_named]
  rw [h, pay23_apply]

theorem pay28_apply (x : V S512x1024 .bf16) (l : V S2x1024 .f32) (w : V S1x512x1024 .bf16) (i j : Fin 512) :
    k0_pay28 (k0_pay25 l (k0_pay22 l)) (k0_pay26 l (k0_pay22 l)) (k0_pay27 x w) (ix2 i j) = forget (low l ⟨512 + j.val, by omega⟩) (dotp x w i j) := by
  have h (m : V S2x1024 .f32) : k0_pay28 (k0_pay25 l m) (k0_pay26 l m) (k0_pay27 x w) (ix2 i j) = forget (k0_pay23 l m (ix2 0 ⟨512 + j.val, by omega⟩)) (dotp x w i j) := by
    pointwise [k0_pay28, k0_pay25, k0_pay26, k0_pay27, dotp]
    rw [forget_named]
  rw [h, pay23_apply]

theorem pay35_apply (x : V S512x1024 .bf16) (l : V S2x1024 .f32) (w : V S1x512x1024 .bf16) (i j : Fin 512) :
    k0_pay35 x (k0_pay32 l) (k0_pay33 l) w (ix2 i j) = forget (low l ⟨j.val, by omega⟩) (dotp x w i j) := by
  have h (p q : V S1x1024 .f32) : k0_pay35 x p q w (ix2 i j) = forget (k0_pay34 (F := Ideal) p q (ix2 0 ⟨j.val, by omega⟩)) (dotp x w i j) := by
    pointwise [k0_pay35, dotp]
    rw [forget_named]
  rw [h, pay34_apply]

theorem pay38_apply (x : V S512x1024 .bf16) (l : V S2x1024 .f32) (w : V S1x512x1024 .bf16) (i j : Fin 512) :
    k0_pay38 (k0_pay36 (k0_pay32 l) (k0_pay33 l)) (k0_pay37 x (k0_pay32 l) (k0_pay33 l) w) (ix2 i j) = forget (low l ⟨512 + j.val, by omega⟩) (dotp x w i j) := by
  have h (p q : V S1x1024 .f32) : k0_pay38 (k0_pay36 (F := Ideal) p q) (k0_pay37 x p q w) (ix2 i j) = forget (k0_pay34 (F := Ideal) p q (ix2 0 ⟨512 + j.val, by omega⟩)) (dotp x w i j) := by
    pointwise [k0_pay38, k0_pay36, k0_pay37, dotp]
    rw [forget_named]
  rw [h, pay34_apply]

/-! ### The packed rows -/

theorem pay1_apply (i : Fin 128) (j : Fin 1024) : k0_pay1 (F := Ideal) (ix2 i j) = 0 := by pointwise [k0_pay1]

theorem pay2_apply (u : V S16x512 .f32) (i : Fin 16) (j : Fin 512) : k0_pay2 u (ix2 i j) = u (ix2 i j) := by pointwise [k0_pay2]

theorem pay3_apply (u : V S16x512 .f32) (i : Fin 16) (j : Fin 512) : k0_pay3 u (ix2 i j) = u (ix2 i j) := by pointwise [k0_pay3]

theorem pay4_apply (a : V S1024x1024 .f32) (i j : Fin 1024) : k0_pay4 a (ix3 0 i j) = a (ix2 i j) := by pointwise [k0_pay4]

theorem pay5_apply (b : V S32x1024 .f32) (i : Fin 128) (j : Fin 1024) :
    k0_pay5 b (ix2 i j) = if h : i.val < 32 then b (ix2 ⟨i.val, h⟩ j) else 0 := by pointwise [k0_pay5]

theorem pay6_apply (a : V S992x1024 .f32) (b : V S32x1024 .f32) (i j : Fin 1024) :
    k0_pay6 a b (ix3 0 i j) = if h : i.val < 992 then a (ix2 ⟨i.val, h⟩ j) else b (ix2 ⟨i.val - 992, by omega⟩ j) := by pointwise [k0_pay6]

end Cert.ProjectIdeal.Proj

end
-- ==== Proof.Proj.Tile.lean ====
/-
  One tile of the projection: from the packed slabs the body's last branch leaves, in the output's block, the columns of
  `colSpec`.
-/
module

public import proofs.«01_k».proof.Proof.Proj.Launch
public import proofs.«01_k».proof.Proof.Proj.Payload
public import Idealize.ShloMosaic.Lib.WritesUnit
public import Idealize.ShloMosaic.Lib.VecWindow
public import Idealize.ShloMosaic.Lib.WholeRead

@[expose] public section

set_option maxRecDepth 16384

noncomputable section

namespace Cert.ProjectIdeal.Proj

open Cert.ProjectIdeal Cert.ProjectIdeal.Gen Cert.Proj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

local notation "V" => Vec Ideal

/-! ### What a tile holds -/

/-- A row's score against row `n` of the packed slabs, the rows counted through the slabs. -/
def slabScore (x : V S512x1024 .f32) (w : V S10x1024x1024 .bf16) (i : Fin 512) (n : ℕ) : EReal :=
  ∑ d : Fin 1024, x (ix2 i d) * w (ix3 (Fin.ofNat 10 (n / 1024)) (Fin.ofNat 1024 (n % 1024)) d)

/-- A gate's pre-activation at column `n` of the two up-projections side by side. -/
def lowRank (x : V S512x1024 .f32) (wlr up : V S128x1024 .bf16) (b : V S1x512 .f32) (o : ℕ) (i : Fin 512) (n : ℕ) : EReal :=
  (∑ r : Fin 128, (∑ d : Fin 1024, x (ix2 i d) * wlr (ix2 r d)) * up (ix2 r (Fin.ofNat 1024 (o + n)))) + b (ix2 0 (Fin.ofNat 512 n))

/-- The lower bound at column `n`. -/
def lowAt (l : V S2x1024 .f32) (n : ℕ) : EReal := low l (Fin.ofNat 1024 n)

/-- The tile's results. -/
def tileOut (x : V S512x1024 .f32) (b6 b7 : V S1x512 .f32) (l8 l9 : V S2x1024 .f32) (w : V S10x1024x1024 .bf16) (wlr up : V S128x1024 .bf16) :
    V S512x11264 .bf16 := fun y =>
  colSpec (slabScore x w (y 0)) (lowRank x wlr up b6 0 (y 0)) (lowRank x wlr up b7 512 (y 0)) (lowAt l8) (lowAt l9) (y 1).val

/-! ### Loads of an array held whole -/

/-- A load of a unit-stride rectangle of an array held whole reads it at the rectangle's offset plus the local index. -/
theorem unread_at {s : Shape} {e : EltTy} {m : Memref sig .tc .vmem s e} (hm : m.IsWhole) (X : Vec Ideal s e)
    {off size : Fin s.rank → ℕ} (off' : Fin s.rank → ℕ) (inb : ∀ a, off a + size a ≤ s.size a) (heq : off = off')
    (x : (⟨s.rank, size⟩ : Shape).Idx) (y : s.Idx) (hy : ∀ a, (y a).val = off' a + (x a).val) :
    View.readAt (Elt Ideal) m.view (Rect.unit off size inb).toLoadRect (hm.unread X) x = X y := by
  subst heq
  rw [hm.readAt_unread]
  refine congrArg X (funext fun a => Fin.ext ?_)
  show off a + 1 * (x a).val = (y a).val
  rw [hy a, Nat.one_mul]

section Loads

variable {m3 : Memref sig .tc .vmem S512x1024 .f32} (h3 : m3.IsWhole) {m11 : Memref sig .tc .vmem S10x1024x1024 .bf16} (h11 : m11.IsWhole)
  {mlr mup : Memref sig .tc .vmem S128x1024 .bf16} (hlr : mlr.IsWhole) (hup : mup.IsWhole) {mb : Memref sig .tc .vmem S1x512 .f32} (hb : mb.IsWhole)
  {ml : Memref sig .tc .vmem S2x1024 .f32} (hl : ml.IsWhole)
  (x : V S512x1024 .f32) (w : V S10x1024x1024 .bf16) (wlr up : V S128x1024 .bf16) (b : V S1x512 .f32) (l : V S2x1024 .f32)

/-- A load of a whole two-axis array is the array. -/
theorem whole2 {R C : ℕ} {e : EltTy} {m : Memref sig .tc .vmem (⟨2, ![R, C]⟩ : Shape) e} (hm : m.IsWhole) (X : Vec Ideal (⟨2, ![R, C]⟩ : Shape) e)
    (inb : ∀ a, (![0, 0] : Fin 2 → ℕ) a + (⟨2, ![R, C]⟩ : Shape).size a ≤ (⟨2, ![R, C]⟩ : Shape).size a) :
    View.readAt (Elt Ideal) m.view (Rect.unit (s := (⟨2, ![R, C]⟩ : Shape)) ![0, 0] (⟨2, ![R, C]⟩ : Shape).size inb).toLoadRect (hm.unread X) = X := by
  funext y
  refine unread_at hm X ![0, 0] inb rfl y y fun a => ?_
  match a with
  | ⟨0, _⟩ => exact (Nat.zero_add _).symm
  | ⟨1, _⟩ => exact (Nat.zero_add _).symm

/-- The score of a row against a row of a half slab. -/
theorem dotp_slab (x' : V S512x1024 .f32) (hx : x' = x) (s o n : ℕ) (hs : s < 10) (ho : o + 512 ≤ 1024)
    {inb} (i j : Fin 512) (hn : n = 1024 * s + o + j.val) :
    dotp (k0_pay8 x') (View.readAt (Elt Ideal) m11.view (Rect.unit (s := S10x1024x1024) ![s, o, 0] S1x512x1024.size inb).toLoadRect (h11.unread w)) i j = slabScore x w i n := by
  subst hx hn
  refine Finset.sum_congr rfl fun d _ => ?_
  refine congrArg₂ (· * ·) (pay8_apply x' i d) ?_
  refine unread_at h11 w ![s, o, 0] inb rfl _ _ fun a => ?_
  have hj := j.isLt
  match a with
  | ⟨0, _⟩ => show (1024 * s + o + j.val) / 1024 % 10 = s + 0; omega
  | ⟨1, _⟩ => show (1024 * s + o + j.val) % 1024 % 1024 = o + j.val; omega
  | ⟨2, _⟩ => exact (Nat.zero_add _).symm

/-- A gate's pre-activation. -/
theorem pre_lowRank (x' : V S512x1024 .f32) (hx : x' = x) (wlr' : V S128x1024 .bf16) (hw : wlr' = wlr) (b' : V S1x512 .f32) (hb : b' = b) (o n : ℕ) (ho : o + 512 ≤ 1024)
    {inb} (i j : Fin 512) (hn : n = j.val) :
    pre x' wlr' (View.readAt (Elt Ideal) mup.view (Rect.unit (s := S128x1024) ![0, o] S128x512.size inb).toLoadRect (hup.unread up)) b' i j = lowRank x wlr up b o i n := by
  subst hx hw hb hn
  have hj := j.isLt
  unfold pre lowRank
  refine congrArg₂ (· + ·) (Finset.sum_congr rfl fun r _ => congrArg (_ * ·) ?_) (congrArg (fun k => b' (ix2 0 k)) (Fin.ext ?_))
  · refine unread_at hup up ![0, o] inb rfl _ _ fun a => ?_
    match a with
    | ⟨0, _⟩ => exact (Nat.zero_add _).symm
    | ⟨1, _⟩ => show (o + j.val) % 1024 = o + j.val; omega
  · show j.val = j.val % 512; omega

theorem low_lowAt (l' : V S2x1024 .f32) (hl : l' = l) (k : Fin 1024) (n : ℕ) (hn : n = k.val) : low l' k = lowAt l n := by
  subst hl hn
  exact congrArg (low l') (Fin.ext (Nat.mod_eq_of_lt k.isLt).symm)

end Loads

/-! ### The stores -/

/-- What the stores leave where the latest stores one block of 512 columns: the piece there, the earlier stores
    elsewhere. -/
theorem piece_cons {v : View sig .tc .vmem S512x11264 .bf16} {f : v.ty.Contents (Elt Ideal)} (k : ℕ) {off : Fin 2 → ℕ} {inb} {w : S512x512.Idx → Elt Ideal .bf16}
    {L} {out : V S512x11264 .bf16} (heq : off = ![0, 512 * k]) (y : S512x11264.Idx)
    (hw : ∀ (i j : Fin 512) (h : 512 * k + j.val < 11264), w (ix2 i j) = out (ix2 i ⟨512 * k + j.val, h⟩))
    (hL : (y 1).val / 512 ≠ k → v.read (Elt Ideal) (v.writes (Elt Ideal) f L) y = out y) :
    v.read (Elt Ideal) (v.writes (Elt Ideal) f (⟨Rect.unit (s := S512x11264) off S512x512.size inb, w⟩ :: L)) y = out y := by
  have h0 : (y 0).val < 512 := (y 0).isLt
  have h1 : (y 1).val < 11264 := (y 1).isLt
  by_cases h : (y 1).val / 512 = k
  · have hj : (y 1).val - 512 * k < 512 := by omega
    have he : y = ix2 (y 0) ⟨512 * k + ((y 1).val - 512 * k), by omega⟩ := by
      funext a
      match a with
      | ⟨0, _⟩ => rfl
      | ⟨1, _⟩ => exact Fin.ext (show (y 1).val = 512 * k + ((y 1).val - 512 * k) by omega)
    refine (View.read_writes_cons_unit_of_mem v f inb w L y (ix2 (y 0) ⟨(y 1).val - 512 * k, hj⟩) heq fun a => ?_).trans ((hw (y 0) ⟨(y 1).val - 512 * k, hj⟩ (by show 512 * k + ((y 1).val - 512 * k) < 11264; omega)).trans (congrArg out he.symm))
    match a with
    | ⟨0, _⟩ => exact (Nat.zero_add _).symm
    | ⟨1, _⟩ => show (y 1).val = 512 * k + ((y 1).val - 512 * k); omega
  · refine (View.read_writes_cons_unit_of_not_mem v f inb w L y heq 1 ?_).trans (hL h)
    show (y 1).val < 512 * k ∨ 512 * k + 512 ≤ (y 1).val
    omega

set_option maxHeartbeats 8000000 in
/-- The tile branch: every window but the output's stays, the output's block holds the tile's results. -/
theorem tileRun (c : Dev nD) (i : grid0.Coords) (arg1 : Memref sig .tc .vmem S1024x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S512x11264 .bf16) (harg10 : arg10.IsWhole) (arg11 : Memref sig .tc .vmem S10x1024x1024 .bf16) (harg11 : arg11.IsWhole) (arg12 : Memref sig .tc .vmem S128x1024 .bf16) (harg12 : arg12.IsWhole) (arg13 : Memref sig .tc .vmem S128x1024 .bf16) (harg13 : arg13.IsWhole)
    (x3 : V S512x1024 .f32) (x6 x7 : V S1x512 .f32) (x8 x9 : V S2x1024 .f32) (w : V S10x1024x1024 .bf16) (wlr up : V S128x1024 .bf16)
    (h1 : ¬ cond1 i = 1#1) (h2 : ¬ k0_cond2 i = 1#1) (h6 : k0_cond6 i = 1#1) (K : PUnit → sProp 𝕄) :
    iprop(owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare w ∗ owns (c : Thread nD τ) arg12 fullShare wlr ∗ owns (c : Thread nD τ) arg13 fullShare up
        ∗ (iprop(owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (tileOut x3 x6 x7 x8 x9 w wlr up) ∗ owns (c : Thread nD τ) arg11 fullShare w ∗ owns (c : Thread nD τ) arg12 fullShare wlr ∗ owns (c : Thread nD τ) arg13 fullShare up) -∗ K ⟨⟩))
      ⊢ wp frame (wpE (defs₀ (F := Ideal)) Variants.none c none) Set.univ (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  unfold owns
  iintro ⟨⟨%f3, %hf3, H3⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
  obtain rfl := harg3.eq_unread hf3; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13
  rw [dif_neg h1]
  rw [dif_neg h2]
  rw [dif_pos h6]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  sl_exec
  sl_step
  iapply Hk
  isplitl [H3]
  · iexists _; isplitr; swap; · iexact H3
    ipureintro; exact harg3.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro
    funext y
    have hy : (y 1).val < 11264 := (y 1).isLt
    refine piece_cons 21 rfl y (fun i j hj => ((pay7_apply _ _ i j).trans (congrArg sgm (dotp_slab harg11 x3 w _ (whole2 harg3 x3 _) 9 512 (512 * 21 + j.val - 1024) (by norm_num) (by norm_num) i j (by omega)))).trans (col_sgm (by omega)).symm) fun n21 => ?_
    refine piece_cons 20 rfl y (fun i j hj => ((pay43_apply _ _ i j).trans (congrArg sgm (dotp_slab harg11 x3 w _ (whole2 harg3 x3 _) 9 0 (512 * 20 + j.val - 1024) (by norm_num) (by norm_num) i j (by omega)))).trans (col_sgm (by omega)).symm) fun n20 => ?_
    refine piece_cons 19 rfl y (fun i j hj => ((pay42_apply _ _ i j).trans (congrArg sgm (dotp_slab harg11 x3 w _ (whole2 harg3 x3 _) 8 512 (512 * 19 + j.val - 1024) (by norm_num) (by norm_num) i j (by omega)))).trans (col_sgm (by omega)).symm) fun n19 => ?_
    refine piece_cons 18 rfl y (fun i j hj => ((pay41_apply _ _ i j).trans (congrArg sgm (dotp_slab harg11 x3 w _ (whole2 harg3 x3 _) 8 0 (512 * 18 + j.val - 1024) (by norm_num) (by norm_num) i j (by omega)))).trans (col_sgm (by omega)).symm) fun n18 => ?_
    refine piece_cons 17 rfl y (fun i j hj => ((pay40_apply _ _ i j).trans (congrArg (fun h => h * sgm h) (dotp_slab harg11 x3 w _ (whole2 harg3 x3 _) 7 512 (512 * 17 + j.val - 1024) (by norm_num) (by norm_num) i j (by omega)))).trans (col_silu2 (by omega) (by omega)).symm) fun n17 => ?_
    refine piece_cons 16 rfl y (fun i j hj => ((pay39_apply _ _ i j).trans (congrArg (fun h => h * sgm h) (dotp_slab harg11 x3 w _ (whole2 harg3 x3 _) 7 0 (512 * 16 + j.val - 1024) (by norm_num) (by norm_num) i j (by omega)))).trans (col_silu2 (by omega) (by omega)).symm) fun n16 => ?_
    refine piece_cons 13 rfl y (fun i j hj => ((pay38_apply _ _ _ i j).trans (congrArg₂ forget (low_lowAt x9 _ (whole2 harg9 x9 _) ⟨512 + j.val, by omega⟩ (512 * 13 + j.val - 6144) (by show _ = _; simp only []; omega)) (dotp_slab harg11 x3 w _ (whole2 harg3 x3 _) 5 512 (512 * 13 + j.val - 1024) (by norm_num) (by norm_num) i j (by omega)))).trans (col_forget_b (by omega) (by omega)).symm) fun n13 => ?_
    refine piece_cons 12 rfl y (fun i j hj => ((pay35_apply _ _ _ i j).trans (congrArg₂ forget (low_lowAt x9 _ (whole2 harg9 x9 _) ⟨j.val, by omega⟩ (512 * 12 + j.val - 6144) (by show _ = _; simp only []; omega)) (dotp_slab harg11 x3 w _ (whole2 harg3 x3 _) 5 0 (512 * 12 + j.val - 1024) (by norm_num) (by norm_num) i j (by omega)))).trans (col_forget_b (by omega) (by omega)).symm) fun n12 => ?_
    refine piece_cons 15 rfl y (fun i j hj => ((pay30_apply _ _ i j).trans ((dotp_slab harg11 x3 w _ (whole2 harg3 x3 _) 6 512 (512 * 15 + j.val - 1024) (by norm_num) (by norm_num) i j (by omega)))).trans (col_plain2 (by omega) (by omega)).symm) fun n15 => ?_
    refine piece_cons 14 rfl y (fun i j hj => ((pay29_apply _ _ i j).trans ((dotp_slab harg11 x3 w _ (whole2 harg3 x3 _) 6 0 (512 * 14 + j.val - 1024) (by norm_num) (by norm_num) i j (by omega)))).trans (col_plain2 (by omega) (by omega)).symm) fun n14 => ?_
    refine piece_cons 11 rfl y (fun i j hj => ((pay28_apply _ _ _ i j).trans (congrArg₂ forget (low_lowAt x8 _ (whole2 harg8 x8 _) ⟨512 + j.val, by omega⟩ (512 * 11 + j.val - 5120) (by show _ = _; simp only []; omega)) (dotp_slab harg11 x3 w _ (whole2 harg3 x3 _) 4 512 (512 * 11 + j.val - 1024) (by norm_num) (by norm_num) i j (by omega)))).trans (col_forget_f (by omega) (by omega)).symm) fun n11 => ?_
    refine piece_cons 10 rfl y (fun i j hj => ((pay24_apply _ _ _ i j).trans (congrArg₂ forget (low_lowAt x8 _ (whole2 harg8 x8 _) ⟨j.val, by omega⟩ (512 * 10 + j.val - 5120) (by show _ = _; simp only []; omega)) (dotp_slab harg11 x3 w _ (whole2 harg3 x3 _) 4 0 (512 * 10 + j.val - 1024) (by norm_num) (by norm_num) i j (by omega)))).trans (col_forget_f (by omega) (by omega)).symm) fun n10 => ?_
    refine piece_cons 3 rfl y (fun i j hj => ((pay21_apply _ _ i j).trans ((dotp_slab harg11 x3 w _ (whole2 harg3 x3 _) 1 512 (512 * 3 + j.val) (by norm_num) (by norm_num) i j (by omega)))).trans (col_plain (by omega) (by omega)).symm) fun n3 => ?_
    refine piece_cons 2 rfl y (fun i j hj => ((pay20_apply _ _ i j).trans ((dotp_slab harg11 x3 w _ (whole2 harg3 x3 _) 1 0 (512 * 2 + j.val) (by norm_num) (by norm_num) i j (by omega)))).trans (col_plain (by omega) (by omega)).symm) fun n2 => ?_
    refine piece_cons 9 rfl y (fun i j hj => ((pay19_apply _ _ i j).trans (congrArg (fun h => h * sgm h * c0) (dotp_slab harg11 x3 w _ (whole2 harg3 x3 _) 3 512 (512 * 9 + j.val - 1024) (by norm_num) (by norm_num) i j (by omega)))).trans (col_silu_scaled (by omega) (by omega)).symm) fun n9 => ?_
    refine piece_cons 8 rfl y (fun i j hj => ((pay18_apply _ _ i j).trans (congrArg (fun h => h * sgm h * c0) (dotp_slab harg11 x3 w _ (whole2 harg3 x3 _) 3 0 (512 * 8 + j.val - 1024) (by norm_num) (by norm_num) i j (by omega)))).trans (col_silu_scaled (by omega) (by omega)).symm) fun n8 => ?_
    refine piece_cons 1 rfl y (fun i j hj => ((pay17_apply _ _ i j).trans ((dotp_slab harg11 x3 w _ (whole2 harg3 x3 _) 0 512 (512 * 1 + j.val) (by norm_num) (by norm_num) i j (by omega)))).trans (col_plain (by omega) (by omega)).symm) fun n1 => ?_
    refine piece_cons 5 rfl y (fun i j hj => ((pay16_apply _ _ i j).trans (congrArg (fun h => h * sgm h) (dotp_slab harg11 x3 w _ (whole2 harg3 x3 _) 2 512 (512 * 5 + j.val) (by norm_num) (by norm_num) i j (by omega)))).trans (col_silu (by omega) (by omega)).symm) fun n5 => ?_
    refine piece_cons 4 rfl y (fun i j hj => ((pay15_apply _ _ i j).trans (congrArg (fun h => h * sgm h) (dotp_slab harg11 x3 w _ (whole2 harg3 x3 _) 2 0 (512 * 4 + j.val) (by norm_num) (by norm_num) i j (by omega)))).trans (col_silu (by omega) (by omega)).symm) fun n4 => ?_
    refine piece_cons 0 rfl y (fun i j hj => ((pay14_apply _ _ i j).trans (congrArg (· * c0) (dotp_slab harg11 x3 w _ (whole2 harg3 x3 _) 0 0 (512 * 0 + j.val) (by norm_num) (by norm_num) i j (by omega)))).trans (col_scaled (by omega)).symm) fun n0 => ?_
    refine piece_cons 7 rfl y (fun i j hj => ((pay13_apply _ _ _ _ i j).trans (congrArg gate (pre_lowRank harg13 x3 wlr up x7 _ (whole2 harg3 x3 _) _ (whole2 harg12 wlr _) _ (whole2 harg7 x7 _) 512 (512 * 7 + j.val - 3584) (by norm_num) i j (by omega)))).trans (col_gate_b (by omega) (by omega)).symm) fun n7 => ?_
    refine piece_cons 6 rfl y (fun i j hj => ((pay10_apply _ _ _ _ i j).trans (congrArg gate (pre_lowRank harg13 x3 wlr up x6 _ (whole2 harg3 x3 _) _ (whole2 harg12 wlr _) _ (whole2 harg6 x6 _) 0 (512 * 6 + j.val - 3072) (by norm_num) i j (by omega)))).trans (col_gate_f (by omega) (by omega)).symm) fun n6 => ?_
    omega
  isplitl [H11]
  · iexists _; isplitr; swap; · iexact H11
    ipureintro; exact harg11.read_unread _
  isplitl [H12]
  · iexists _; isplitr; swap; · iexact H12
    ipureintro; exact harg12.read_unread _
  iexists _; isplitr; swap; · iexact H13
  ipureintro; exact harg13.read_unread _

end Cert.ProjectIdeal.Proj

end
-- ==== Proof.Proj.Pack.lean ====
/-
  The packing steps of the projection: what each leaves in the scratch arrays.
-/
module

public import proofs.«01_k».proof.Proof.Proj.Tile

@[expose] public section

set_option maxRecDepth 16384

noncomputable section

namespace Cert.ProjectIdeal.Proj

open Cert.ProjectIdeal Cert.ProjectIdeal.Gen Cert.Proj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ
local notation "V" => Vec Ideal

/-- Slab `s` replaced. -/
def putSlab (w : V S10x1024x1024 .bf16) (s : ℕ) (g : Fin 1024 → Fin 1024 → EReal) : V S10x1024x1024 .bf16 :=
  fun y => if (y 0).val = s then g (y 1) (y 2) else w y

/-- The two up-projections side by side, on the two blocks of the diagonal. -/
def upOf (u4 u5 : V S16x512 .f32) : V S128x1024 .bf16 := fun y =>
  if (y 0).val < 16 ∧ (y 1).val < 512 then u4 (ix2 (Fin.ofNat 16 (y 0).val) (Fin.ofNat 512 (y 1).val))
  else if 16 ≤ (y 0).val ∧ (y 0).val < 32 ∧ 512 ≤ (y 1).val then u5 (ix2 (Fin.ofNat 16 ((y 0).val - 16)) (Fin.ofNat 512 ((y 1).val - 512)))
  else 0

/-- The low-rank rows, and zeros below. -/
def lrOf (a2 : V S32x1024 .f32) : V S128x1024 .bf16 := fun y => if h : (y 0).val < 32 then a2 (ix2 ⟨(y 0).val, h⟩ (y 1)) else 0

/-- The rows of a slab below the low-rank rows: a block less its first 32 rows, then 32 more. -/
def wide (a1 : V S1024x1024 .f32) (a2 : V S32x1024 .f32) (p q : Fin 1024) : EReal :=
  if h : p.val < 992 then a1 (ix2 ⟨32 + p.val, by omega⟩ q) else a2 (ix2 ⟨p.val - 992, by omega⟩ q)

theorem pay6_wide {m1 : Memref sig .tc .vmem S1024x1024 .f32} (h1 : m1.IsWhole) {m2 : Memref sig .tc .vmem S32x1024 .f32} (h2 : m2.IsWhole)
    (a1 : V S1024x1024 .f32) (a2 : V S32x1024 .f32) {inb} {inb2} (p q : Fin 1024) :
    k0_pay6 (View.readAt (Elt Ideal) m1.view (Rect.unit (s := S1024x1024) ![32, 0] S992x1024.size inb).toLoadRect (h1.unread a1))
      (View.readAt (Elt Ideal) m2.view (Rect.unit (s := S32x1024) ![0, 0] S32x1024.size inb2).toLoadRect (h2.unread a2)) (ix3 0 p q) = wide a1 a2 p q := by
  rw [pay6_apply]
  unfold wide
  split
  · refine unread_at h1 a1 ![32, 0] inb rfl _ _ fun a => ?_
    match a with
    | ⟨0, _⟩ => rfl
    | ⟨1, _⟩ => exact (Nat.zero_add _).symm
  · exact congrFun (whole2 h2 a2 _) _

/-- A slab stored. -/
theorem slab_put {m : Memref sig .tc .vmem S10x1024x1024 .bf16} (hm : m.IsWhole) {w : V S10x1024x1024 .bf16} (s : ℕ) (hs : s < 10)
    {off : Fin 3 → ℕ} {inb} {p : S1x1024x1024.Idx → Elt Ideal .bf16} (heq : off = ![s, 0, 0]) {g : Fin 1024 → Fin 1024 → EReal} (hp : ∀ i j, p (ix3 0 i j) = g i j) :
    m.view.read (Elt Ideal) (m.view.writes (Elt Ideal) (hm.unread w) [⟨Rect.unit (s := S10x1024x1024) off S1x1024x1024.size inb, p⟩]) = putSlab w s g := by
  funext y
  unfold putSlab
  split
  · rename_i h
    refine (View.read_writes_cons_unit_of_mem _ _ inb p [] y (ix3 0 (y 1) (y 2)) heq fun a => ?_).trans (hp _ _)
    match a with
    | ⟨0, _⟩ => exact h
    | ⟨1, _⟩ => exact (Nat.zero_add _).symm
    | ⟨2, _⟩ => exact (Nat.zero_add _).symm
  · rename_i h
    refine (View.read_writes_cons_unit_of_not_mem _ _ inb p [] y heq 0 ?_).trans (congrFun (hm.read_unread w) y)
    show (y 0).val < s ∨ s + 1 ≤ (y 0).val
    omega

/-- A whole array of the scratch stored. -/
theorem put_whole {m : Memref sig .tc .vmem S128x1024 .bf16} (hm : m.IsWhole) {f : m.view.ty.Contents (Elt Ideal)}
    {off : Fin 2 → ℕ} {inb} {p : S128x1024.Idx → Elt Ideal .bf16} (heq : off = ![0, 0]) {g : V S128x1024 .bf16} (hp : ∀ i j, p (ix2 i j) = g (ix2 i j)) :
    m.view.read (Elt Ideal) (m.view.writes (Elt Ideal) f [⟨Rect.unit (s := S128x1024) off S128x1024.size inb, p⟩]) = g := by
  funext y
  have hy : y = ix2 (y 0) (y 1) := by funext a; fin_cases a <;> rfl
  refine (View.read_writes_cons_unit_of_mem _ _ inb p [] y (ix2 (y 0) (y 1)) heq fun a => ?_).trans ((hp _ _).trans (congrArg g hy.symm))
  match a with
  | ⟨0, _⟩ => exact (Nat.zero_add _).symm
  | ⟨1, _⟩ => exact (Nat.zero_add _).symm

/-- The up-projections stored over zeros. -/
theorem put_up {m : Memref sig .tc .vmem S128x1024 .bf16} (hm : m.IsWhole) {f : m.view.ty.Contents (Elt Ideal)}
    {o0 o1 o2 : Fin 2 → ℕ} {i0 i1 i2} {p0 : S128x1024.Idx → Elt Ideal .bf16} {p1 p2 : S16x512.Idx → Elt Ideal .bf16} (e0 : o0 = ![0, 0]) (e1 : o1 = ![0, 0]) (e2 : o2 = ![16, 512])
    {u4 u5 : V S16x512 .f32} (h0 : ∀ i j, p0 (ix2 i j) = 0) (h1 : ∀ i j, p1 (ix2 i j) = u4 (ix2 i j)) (h2 : ∀ i j, p2 (ix2 i j) = u5 (ix2 i j)) :
    m.view.read (Elt Ideal) (m.view.writes (Elt Ideal) f [⟨Rect.unit (s := S128x1024) o2 S16x512.size i2, p2⟩, ⟨Rect.unit (s := S128x1024) o1 S16x512.size i1, p1⟩, ⟨Rect.unit (s := S128x1024) o0 S128x1024.size i0, p0⟩]) = upOf u4 u5 := by
  funext y
  have hy0 : (y 0).val < 128 := (y 0).isLt
  have hy1 : (y 1).val < 1024 := (y 1).isLt
  have base : m.view.read (Elt Ideal) (m.view.writes (Elt Ideal) f [⟨Rect.unit (s := S128x1024) o0 S128x1024.size i0, p0⟩]) y = 0 := by
    rw [put_whole hm (f := f) (inb := i0) e0 (g := fun _ => (0 : EReal)) h0]
  unfold upOf
  split
  · rename_i h
    refine (View.read_writes_cons_unit_of_not_mem _ _ i2 p2 _ y e2 0 (Or.inl ?_)).trans ?_
    · show (y 0).val < 16; exact h.1
    refine (View.read_writes_cons_unit_of_mem _ _ i1 p1 _ y (ix2 (Fin.ofNat 16 (y 0).val) (Fin.ofNat 512 (y 1).val)) e1 fun a => ?_).trans (h1 _ _)
    match a with
    | ⟨0, _⟩ => show (y 0).val = 0 + (y 0).val % 16; omega
    | ⟨1, _⟩ => show (y 1).val = 0 + (y 1).val % 512; omega
  · rename_i hn
    split
    · rename_i h
      refine (View.read_writes_cons_unit_of_mem _ _ i2 p2 _ y (ix2 (Fin.ofNat 16 ((y 0).val - 16)) (Fin.ofNat 512 ((y 1).val - 512))) e2 fun a => ?_).trans (h2 _ _)
      match a with
      | ⟨0, _⟩ => show (y 0).val = 16 + ((y 0).val - 16) % 16; omega
      | ⟨1, _⟩ => show (y 1).val = 512 + ((y 1).val - 512) % 512; omega
    · rename_i h
      have s1 : m.view.read (Elt Ideal) (m.view.writes (Elt Ideal) f [⟨Rect.unit (s := S128x1024) o1 S16x512.size i1, p1⟩, ⟨Rect.unit (s := S128x1024) o0 S128x1024.size i0, p0⟩]) y = 0 := by
        by_cases hr : (y 0).val < 16
        · refine (View.read_writes_cons_unit_of_not_mem _ _ i1 p1 _ y e1 1 (Or.inr ?_)).trans base
          show 0 + 512 ≤ (y 1).val; omega
        · refine (View.read_writes_cons_unit_of_not_mem _ _ i1 p1 _ y e1 0 (Or.inr ?_)).trans base
          show 0 + 16 ≤ (y 0).val; omega
      by_cases hr : (y 0).val < 16
      · refine (View.read_writes_cons_unit_of_not_mem _ _ i2 p2 _ y e2 0 (Or.inl ?_)).trans s1
        show (y 0).val < 16; exact hr
      · by_cases hc : (y 1).val < 512
        · refine (View.read_writes_cons_unit_of_not_mem _ _ i2 p2 _ y e2 1 (Or.inl ?_)).trans s1
          show (y 1).val < 512; exact hc
        · refine (View.read_writes_cons_unit_of_not_mem _ _ i2 p2 _ y e2 0 (Or.inr ?_)).trans s1
          show 16 + 16 ≤ (y 0).val; omega

set_option maxHeartbeats 4000000 in
/-- The first packing step: the two up-projections side by side, and a slab. -/
theorem packA (c : Dev nD) (i : grid0.Coords) (arg1 : Memref sig .tc .vmem S1024x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S512x11264 .bf16) (harg10 : arg10.IsWhole) (arg11 : Memref sig .tc .vmem S10x1024x1024 .bf16) (harg11 : arg11.IsWhole) (arg12 : Memref sig .tc .vmem S128x1024 .bf16) (harg12 : arg12.IsWhole) (arg13 : Memref sig .tc .vmem S128x1024 .bf16) (harg13 : arg13.IsWhole)
    (a1 : V S1024x1024 .f32) (a2 : V S32x1024 .f32) (u4 u5 : V S16x512 .f32) (w : V S10x1024x1024 .bf16) (wlr up : V S128x1024 .bf16)
    (h1 : cond1 i = 1#1) (h2 : k0_cond2 i = 1#1) (h3 : k0_cond3 i = 1#1) (h4 : ¬ cond4 i = 1#1) (h5 : ¬ k0_cond5 i = 1#1) (h6 : ¬ k0_cond6 i = 1#1) (s : ℕ) (hs : s < 10) (hoff : k0_off1 i = ![s, 0, 0]) (K : PUnit → sProp 𝕄) :
    iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare w ∗ owns (c : Thread nD τ) arg12 fullShare wlr ∗ owns (c : Thread nD τ) arg13 fullShare up
        ∗ (iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare (putSlab w s fun p q => a1 (ix2 p q)) ∗ owns (c : Thread nD τ) arg12 fullShare wlr ∗ owns (c : Thread nD τ) arg13 fullShare (upOf u4 u5)) -∗ K ⟨⟩))
      ⊢ wp frame (wpE (defs₀ (F := Ideal)) Variants.none c none) Set.univ (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  unfold owns
  iintro ⟨⟨%f1, %hf1, H1⟩, ⟨%f2, %hf2, H2⟩, ⟨%f4, %hf4, H4⟩, ⟨%f5, %hf5, H5⟩, ⟨%f11, %hf11, H11⟩, ⟨%f12, %hf12, H12⟩, ⟨%f13, %hf13, H13⟩, Hk⟩
  obtain rfl := harg1.eq_unread hf1; obtain rfl := harg2.eq_unread hf2; obtain rfl := harg4.eq_unread hf4; obtain rfl := harg5.eq_unread hf5; obtain rfl := harg11.eq_unread hf11; obtain rfl := harg12.eq_unread hf12; obtain rfl := harg13.eq_unread hf13
  rw [dif_pos h1]
  rw [dif_pos h2]
  rw [dif_pos h3]
  rw [dif_neg h4]
  rw [dif_neg h5]
  rw [dif_neg h6]
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H4]
  · iexists _; isplitr; swap; · iexact H4
    ipureintro; exact harg4.read_unread _
  isplitl [H5]
  · iexists _; isplitr; swap; · iexact H5
    ipureintro; exact harg5.read_unread _
  isplitl [H11]
  · iexists _; isplitr; swap; · iexact H11
    ipureintro; exact slab_put harg11 s hs hoff fun p q => (pay4_apply _ p q).trans (congrFun (whole2 harg1 a1 _) _)
  isplitl [H12]
  · iexists _; isplitr; swap; · iexact H12
    ipureintro; exact harg12.read_unread _
  iexists _; isplitr; swap; · iexact H13
  ipureintro; exact put_up harg13 rfl rfl rfl pay1_apply (fun p q => (pay2_apply _ p q).trans (congrFun (whole2 harg4 u4 _) _)) (fun p q => (pay3_apply _ p q).trans (congrFun (whole2 harg5 u5 _) _))

set_option maxHeartbeats 4000000 in
/-- A packing step of a slab above the low-rank rows. -/
theorem packB (c : Dev nD) (i : grid0.Coords) (arg1 : Memref sig .tc .vmem S1024x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S512x11264 .bf16) (harg10 : arg10.IsWhole) (arg11 : Memref sig .tc .vmem S10x1024x1024 .bf16) (harg11 : arg11.IsWhole) (arg12 : Memref sig .tc .vmem S128x1024 .bf16) (harg12 : arg12.IsWhole) (arg13 : Memref sig .tc .vmem S128x1024 .bf16) (harg13 : arg13.IsWhole)
    (a1 : V S1024x1024 .f32) (a2 : V S32x1024 .f32) (u4 u5 : V S16x512 .f32) (w : V S10x1024x1024 .bf16) (wlr up : V S128x1024 .bf16)
    (h1 : ¬ cond1 i = 1#1) (h2 : k0_cond2 i = 1#1) (h3 : k0_cond3 i = 1#1) (h4 : ¬ cond4 i = 1#1) (h5 : ¬ k0_cond5 i = 1#1) (h6 : ¬ k0_cond6 i = 1#1) (s : ℕ) (hs : s < 10) (hoff : k0_off1 i = ![s, 0, 0]) (K : PUnit → sProp 𝕄) :
    iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare w ∗ owns (c : Thread nD τ) arg12 fullShare wlr ∗ owns (c : Thread nD τ) arg13 fullShare up
        ∗ (iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare (putSlab w s fun p q => a1 (ix2 p q)) ∗ owns (c : Thread nD τ) arg12 fullShare wlr ∗ owns (c : Thread nD τ) arg13 fullShare up) -∗ K ⟨⟩))
      ⊢ wp frame (wpE (defs₀ (F := Ideal)) Variants.none c none) Set.univ (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  unfold owns
  iintro ⟨⟨%f1, %hf1, H1⟩, ⟨%f2, %hf2, H2⟩, ⟨%f4, %hf4, H4⟩, ⟨%f5, %hf5, H5⟩, ⟨%f11, %hf11, H11⟩, ⟨%f12, %hf12, H12⟩, ⟨%f13, %hf13, H13⟩, Hk⟩
  obtain rfl := harg1.eq_unread hf1; obtain rfl := harg2.eq_unread hf2; obtain rfl := harg4.eq_unread hf4; obtain rfl := harg5.eq_unread hf5; obtain rfl := harg11.eq_unread hf11; obtain rfl := harg12.eq_unread hf12; obtain rfl := harg13.eq_unread hf13
  rw [dif_neg h1]
  rw [dif_pos h2]
  rw [dif_pos h3]
  rw [dif_neg h4]
  rw [dif_neg h5]
  rw [dif_neg h6]
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H4]
  · iexists _; isplitr; swap; · iexact H4
    ipureintro; exact harg4.read_unread _
  isplitl [H5]
  · iexists _; isplitr; swap; · iexact H5
    ipureintro; exact harg5.read_unread _
  isplitl [H11]
  · iexists _; isplitr; swap; · iexact H11
    ipureintro; exact slab_put harg11 s hs hoff fun p q => (pay4_apply _ p q).trans (congrFun (whole2 harg1 a1 _) _)
  isplitl [H12]
  · iexists _; isplitr; swap; · iexact H12
    ipureintro; exact harg12.read_unread _
  iexists _; isplitr; swap; · iexact H13
  ipureintro; exact harg13.read_unread _

set_option maxHeartbeats 4000000 in
/-- The packing step that also keeps the low-rank rows. -/
theorem packC (c : Dev nD) (i : grid0.Coords) (arg1 : Memref sig .tc .vmem S1024x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S512x11264 .bf16) (harg10 : arg10.IsWhole) (arg11 : Memref sig .tc .vmem S10x1024x1024 .bf16) (harg11 : arg11.IsWhole) (arg12 : Memref sig .tc .vmem S128x1024 .bf16) (harg12 : arg12.IsWhole) (arg13 : Memref sig .tc .vmem S128x1024 .bf16) (harg13 : arg13.IsWhole)
    (a1 : V S1024x1024 .f32) (a2 : V S32x1024 .f32) (u4 u5 : V S16x512 .f32) (w : V S10x1024x1024 .bf16) (wlr up : V S128x1024 .bf16)
    (h1 : ¬ cond1 i = 1#1) (h2 : k0_cond2 i = 1#1) (h3 : k0_cond3 i = 1#1) (h4 : cond4 i = 1#1) (h5 : ¬ k0_cond5 i = 1#1) (h6 : ¬ k0_cond6 i = 1#1) (s : ℕ) (hs : s < 10) (hoff : k0_off1 i = ![s, 0, 0]) (K : PUnit → sProp 𝕄) :
    iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare w ∗ owns (c : Thread nD τ) arg12 fullShare wlr ∗ owns (c : Thread nD τ) arg13 fullShare up
        ∗ (iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare (putSlab w s fun p q => a1 (ix2 p q)) ∗ owns (c : Thread nD τ) arg12 fullShare (lrOf a2) ∗ owns (c : Thread nD τ) arg13 fullShare up) -∗ K ⟨⟩))
      ⊢ wp frame (wpE (defs₀ (F := Ideal)) Variants.none c none) Set.univ (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  unfold owns
  iintro ⟨⟨%f1, %hf1, H1⟩, ⟨%f2, %hf2, H2⟩, ⟨%f4, %hf4, H4⟩, ⟨%f5, %hf5, H5⟩, ⟨%f11, %hf11, H11⟩, ⟨%f12, %hf12, H12⟩, ⟨%f13, %hf13, H13⟩, Hk⟩
  obtain rfl := harg1.eq_unread hf1; obtain rfl := harg2.eq_unread hf2; obtain rfl := harg4.eq_unread hf4; obtain rfl := harg5.eq_unread hf5; obtain rfl := harg11.eq_unread hf11; obtain rfl := harg12.eq_unread hf12; obtain rfl := harg13.eq_unread hf13
  rw [dif_neg h1]
  rw [dif_pos h2]
  rw [dif_pos h3]
  rw [dif_pos h4]
  rw [dif_neg h5]
  rw [dif_neg h6]
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H4]
  · iexists _; isplitr; swap; · iexact H4
    ipureintro; exact harg4.read_unread _
  isplitl [H5]
  · iexists _; isplitr; swap; · iexact H5
    ipureintro; exact harg5.read_unread _
  isplitl [H11]
  · iexists _; isplitr; swap; · iexact H11
    ipureintro; exact slab_put harg11 s hs hoff fun p q => (pay4_apply _ p q).trans (congrFun (whole2 harg1 a1 _) _)
  isplitl [H12]
  · iexists _; isplitr; swap; · iexact H12
    ipureintro; exact put_whole harg12 rfl fun p q => (pay5_apply _ p q).trans (by rw [whole2 harg2 a2]; rfl)
  iexists _; isplitr; swap; · iexact H13
  ipureintro; exact harg13.read_unread _

set_option maxHeartbeats 4000000 in
/-- A packing step of a slab below the low-rank rows. -/
theorem packD (c : Dev nD) (i : grid0.Coords) (arg1 : Memref sig .tc .vmem S1024x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S512x11264 .bf16) (harg10 : arg10.IsWhole) (arg11 : Memref sig .tc .vmem S10x1024x1024 .bf16) (harg11 : arg11.IsWhole) (arg12 : Memref sig .tc .vmem S128x1024 .bf16) (harg12 : arg12.IsWhole) (arg13 : Memref sig .tc .vmem S128x1024 .bf16) (harg13 : arg13.IsWhole)
    (a1 : V S1024x1024 .f32) (a2 : V S32x1024 .f32) (u4 u5 : V S16x512 .f32) (w : V S10x1024x1024 .bf16) (wlr up : V S128x1024 .bf16)
    (h1 : ¬ cond1 i = 1#1) (h2 : k0_cond2 i = 1#1) (h3 : ¬ k0_cond3 i = 1#1) (h4 : ¬ cond4 i = 1#1) (h5 : k0_cond5 i = 1#1) (h6 : ¬ k0_cond6 i = 1#1) (s : ℕ) (hs : s < 10) (hoff : k0_off2 i = ![s, 0, 0]) (K : PUnit → sProp 𝕄) :
    iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare w ∗ owns (c : Thread nD τ) arg12 fullShare wlr ∗ owns (c : Thread nD τ) arg13 fullShare up
        ∗ (iprop(owns (c : Thread nD τ) arg1 fullShare a1 ∗ owns (c : Thread nD τ) arg2 fullShare a2 ∗ owns (c : Thread nD τ) arg4 fullShare u4 ∗ owns (c : Thread nD τ) arg5 fullShare u5 ∗ owns (c : Thread nD τ) arg11 fullShare (putSlab w s (wide a1 a2)) ∗ owns (c : Thread nD τ) arg12 fullShare wlr ∗ owns (c : Thread nD τ) arg13 fullShare up) -∗ K ⟨⟩))
      ⊢ wp frame (wpE (defs₀ (F := Ideal)) Variants.none c none) Set.univ (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  unfold owns
  iintro ⟨⟨%f1, %hf1, H1⟩, ⟨%f2, %hf2, H2⟩, ⟨%f4, %hf4, H4⟩, ⟨%f5, %hf5, H5⟩, ⟨%f11, %hf11, H11⟩, ⟨%f12, %hf12, H12⟩, ⟨%f13, %hf13, H13⟩, Hk⟩
  obtain rfl := harg1.eq_unread hf1; obtain rfl := harg2.eq_unread hf2; obtain rfl := harg4.eq_unread hf4; obtain rfl := harg5.eq_unread hf5; obtain rfl := harg11.eq_unread hf11; obtain rfl := harg12.eq_unread hf12; obtain rfl := harg13.eq_unread hf13
  rw [dif_neg h1]
  rw [dif_pos h2]
  rw [dif_neg h3]
  rw [dif_neg h4]
  rw [dif_pos h5]
  rw [dif_neg h6]
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H4]
  · iexists _; isplitr; swap; · iexact H4
    ipureintro; exact harg4.read_unread _
  isplitl [H5]
  · iexists _; isplitr; swap; · iexact H5
    ipureintro; exact harg5.read_unread _
  isplitl [H11]
  · iexists _; isplitr; swap; · iexact H11
    ipureintro; exact slab_put harg11 s hs hoff fun p q => pay6_wide harg1 harg2 a1 a2 p q
  isplitl [H12]
  · iexists _; isplitr; swap; · iexact H12
    ipureintro; exact harg12.read_unread _
  iexists _; isplitr; swap; · iexact H13
  ipureintro; exact harg13.read_unread _

end Cert.ProjectIdeal.Proj

end
-- ==== Proof.Proj.Blocks.lean ====
/-
  The blocks the projection's windows stage, read off its arguments.
-/
module

public import proofs.«01_k».proof.Proof.Proj.Pack
public import proofs.«01_k».proof.Proof.Gen.ProjectIdeal.Frame

@[expose] public section

set_option maxRecDepth 16384

noncomputable section

namespace Cert.ProjectIdeal.Proj

open Cert.ProjectIdeal Cert.ProjectIdeal.Gen Cert.Proj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ
local notation "V" => Vec Ideal

variable (m : (ℓ : Loc nD τ sig) → Buf (Elt Ideal) ℓ)

/-- The activations. -/
abbrev xArr (c : Dev nD) : V S16384x1024 .f32 := m ((c.tc : Thread nD τ).loc main_arg0)
/-- The weights. -/
abbrev wArr (c : Dev nD) : V S10272x1024 .f32 := m ((c.tc : Thread nD τ).loc main_arg1)
/-- The forward up-projection. -/
abbrev ufArr (c : Dev nD) : V S16x512 .f32 := m ((c.tc : Thread nD τ).loc main_arg2)
/-- The backward up-projection. -/
abbrev ubArr (c : Dev nD) : V S16x512 .f32 := m ((c.tc : Thread nD τ).loc main_arg3)
/-- The forward bias. -/
abbrev bfArr (c : Dev nD) : V S1x512 .f32 := m ((c.tc : Thread nD τ).loc main_arg4)
/-- The backward bias. -/
abbrev bbArr (c : Dev nD) : V S1x512 .f32 := m ((c.tc : Thread nD τ).loc main_arg5)
/-- The forward logits. -/
abbrev lfArr (c : Dev nD) : V S2x1024 .f32 := m ((c.tc : Thread nD τ).loc main_arg6)
/-- The backward logits. -/
abbrev lbArr (c : Dev nD) : V S2x1024 .f32 := m ((c.tc : Thread nD τ).loc main_arg7)

theorem points (t : Fin cfg0.N) : t.val < 42 := t.isLt

theorem index0 : ∀ t : Fin cfg0.N, win0_0.index t 0 = min t.val 9 ∧ win0_0.index t 1 = 0 := by decide +kernel
theorem index1 : ∀ t : Fin cfg0.N, win0_1.index t 0 = (min t.val 9 + 1) * 32 ∧ win0_1.index t 1 = 0 := by decide +kernel
theorem index2 : ∀ t : Fin cfg0.N, win0_2.index t 0 = t.val - 10 ∧ win0_2.index t 1 = 0 := by decide +kernel

/-- A packing point's block of weights. -/
theorem block0 (c : Dev nD) (t : Fin cfg0.N) (ht : t.val < 10) (p q : Fin 1024) :
    (X0_0 m c t : V S1024x1024 .f32) (ix2 p q) = wArr m c (ix2 (Fin.ofNat 10272 (1024 * t.val + p.val)) q) := by
  have hi := index0 t
  have hp := p.isLt
  unfold X0_0 Pipeline.Window.fill
  rw [dif_pos (moved0_0 t _)]
  unfold iblk
  rw [View.read_apply]
  show Gen.V m c main_arg1 _ = m (c.tc.loc main_arg1) _
  unfold Gen.V
  refine congrArg _ (funext fun a => Fin.ext ?_)
  match a with
  | ⟨0, _⟩ => show win0_0.index t 0 * 1024 + 1 * p.val = (1024 * t.val + p.val) % 10272; rw [hi.1]; omega
  | ⟨1, _⟩ => show win0_0.index t 1 * 1024 + 1 * q.val = q.val; rw [hi.2]; omega

/-- The 32 rows after it. -/
theorem block1 (c : Dev nD) (t : Fin cfg0.N) (ht : t.val < 10) (p : Fin 32) (q : Fin 1024) :
    (iblk m c 1 t : V S32x1024 .f32) (ix2 p q) = wArr m c (ix2 (Fin.ofNat 10272 (1024 * (t.val + 1) + p.val)) q) := by
  have hi := index1 t
  have hp := p.isLt
  unfold iblk
  rw [View.read_apply]
  show Gen.V m c main_arg1 _ = m (c.tc.loc main_arg1) _
  unfold Gen.V
  refine congrArg _ (funext fun a => Fin.ext ?_)
  match a with
  | ⟨0, _⟩ => show win0_1.index t 0 * 32 + 1 * p.val = (1024 * (t.val + 1) + p.val) % 10272; rw [hi.1]; omega
  | ⟨1, _⟩ => show win0_1.index t 1 * 1024 + 1 * q.val = q.val; rw [hi.2]; omega

/-- A tile point's block of activations. -/
theorem block2 (c : Dev nD) (t : Fin cfg0.N) (p : Fin 512) (q : Fin 1024) :
    (iblk m c 2 t : V S512x1024 .f32) (ix2 p q) = xArr m c (ix2 (Fin.ofNat 16384 (512 * (t.val - 10) + p.val)) q) := by
  have hi := index2 t
  have ht := points t
  have hp := p.isLt
  unfold iblk
  rw [View.read_apply]
  show Gen.V m c main_arg0 _ = m (c.tc.loc main_arg0) _
  unfold Gen.V
  refine congrArg _ (funext fun a => Fin.ext ?_)
  match a with
  | ⟨0, _⟩ => show win0_2.index t 0 * 512 + 1 * p.val = (512 * (t.val - 10) + p.val) % 16384; rw [hi.1]; omega
  | ⟨1, _⟩ => show win0_2.index t 1 * 1024 + 1 * q.val = q.val; rw [hi.2]; omega

theorem index3 : ∀ t : Fin cfg0.N, win0_3.index t 0 = 0 ∧ win0_3.index t 1 = 0 := by decide +kernel

/-- The forward up-projection, whole. -/
theorem block3 (c : Dev nD) (t : Fin cfg0.N) : (iblk m c 3 t : V S16x512 .f32) = ufArr m c := by
  have hi := index3 t
  funext y
  unfold iblk
  rw [View.read_apply]
  show Gen.V m c main_arg2 _ = m (c.tc.loc main_arg2) _
  unfold Gen.V
  refine congrArg _ (funext fun a => Fin.ext ?_)
  match a with
  | ⟨0, _⟩ => show win0_3.index t 0 * 16 + 1 * (y 0).val = (y 0).val; rw [hi.1]; omega
  | ⟨1, _⟩ => show win0_3.index t 1 * 512 + 1 * (y 1).val = (y 1).val; rw [hi.2]; omega

theorem index4 : ∀ t : Fin cfg0.N, win0_4.index t 0 = 0 ∧ win0_4.index t 1 = 0 := by decide +kernel

/-- The backward up-projection, whole. -/
theorem block4 (c : Dev nD) (t : Fin cfg0.N) : (iblk m c 4 t : V S16x512 .f32) = ubArr m c := by
  have hi := index4 t
  funext y
  unfold iblk
  rw [View.read_apply]
  show Gen.V m c main_arg3 _ = m (c.tc.loc main_arg3) _
  unfold Gen.V
  refine congrArg _ (funext fun a => Fin.ext ?_)
  match a with
  | ⟨0, _⟩ => show win0_4.index t 0 * 16 + 1 * (y 0).val = (y 0).val; rw [hi.1]; omega
  | ⟨1, _⟩ => show win0_4.index t 1 * 512 + 1 * (y 1).val = (y 1).val; rw [hi.2]; omega

theorem index5 : ∀ t : Fin cfg0.N, win0_5.index t 0 = 0 ∧ win0_5.index t 1 = 0 := by decide +kernel

/-- The forward bias, whole. -/
theorem block5 (c : Dev nD) (t : Fin cfg0.N) : (iblk m c 5 t : V S1x512 .f32) = bfArr m c := by
  have hi := index5 t
  funext y
  unfold iblk
  rw [View.read_apply]
  show Gen.V m c main_arg4 _ = m (c.tc.loc main_arg4) _
  unfold Gen.V
  refine congrArg _ (funext fun a => Fin.ext ?_)
  match a with
  | ⟨0, _⟩ => show win0_5.index t 0 * 1 + 1 * (y 0).val = (y 0).val; rw [hi.1]; omega
  | ⟨1, _⟩ => show win0_5.index t 1 * 512 + 1 * (y 1).val = (y 1).val; rw [hi.2]; omega

theorem index6 : ∀ t : Fin cfg0.N, win0_6.index t 0 = 0 ∧ win0_6.index t 1 = 0 := by decide +kernel

/-- The backward bias, whole. -/
theorem block6 (c : Dev nD) (t : Fin cfg0.N) : (iblk m c 6 t : V S1x512 .f32) = bbArr m c := by
  have hi := index6 t
  funext y
  unfold iblk
  rw [View.read_apply]
  show Gen.V m c main_arg5 _ = m (c.tc.loc main_arg5) _
  unfold Gen.V
  refine congrArg _ (funext fun a => Fin.ext ?_)
  match a with
  | ⟨0, _⟩ => show win0_6.index t 0 * 1 + 1 * (y 0).val = (y 0).val; rw [hi.1]; omega
  | ⟨1, _⟩ => show win0_6.index t 1 * 512 + 1 * (y 1).val = (y 1).val; rw [hi.2]; omega

theorem index7 : ∀ t : Fin cfg0.N, win0_7.index t 0 = 0 ∧ win0_7.index t 1 = 0 := by decide +kernel

/-- The forward logits, whole. -/
theorem block7 (c : Dev nD) (t : Fin cfg0.N) : (iblk m c 7 t : V S2x1024 .f32) = lfArr m c := by
  have hi := index7 t
  funext y
  unfold iblk
  rw [View.read_apply]
  show Gen.V m c main_arg6 _ = m (c.tc.loc main_arg6) _
  unfold Gen.V
  refine congrArg _ (funext fun a => Fin.ext ?_)
  match a with
  | ⟨0, _⟩ => show win0_7.index t 0 * 2 + 1 * (y 0).val = (y 0).val; rw [hi.1]; omega
  | ⟨1, _⟩ => show win0_7.index t 1 * 1024 + 1 * (y 1).val = (y 1).val; rw [hi.2]; omega

theorem index8 : ∀ t : Fin cfg0.N, win0_8.index t 0 = 0 ∧ win0_8.index t 1 = 0 := by decide +kernel

/-- The backward logits, whole. -/
theorem block8 (c : Dev nD) (t : Fin cfg0.N) : (iblk m c 8 t : V S2x1024 .f32) = lbArr m c := by
  have hi := index8 t
  funext y
  unfold iblk
  rw [View.read_apply]
  show Gen.V m c main_arg7 _ = m (c.tc.loc main_arg7) _
  unfold Gen.V
  refine congrArg _ (funext fun a => Fin.ext ?_)
  match a with
  | ⟨0, _⟩ => show win0_8.index t 0 * 2 + 1 * (y 0).val = (y 0).val; rw [hi.1]; omega
  | ⟨1, _⟩ => show win0_8.index t 1 * 1024 + 1 * (y 1).val = (y 1).val; rw [hi.2]; omega

/-! ### What the scratch holds -/

/-- The weights' row of the packed row `n`: the low-rank rows are left out. -/
def rowOf (n : ℕ) : ℕ := if n < 3072 then n else n + 32

/-- The packed slabs. -/
def slabs (W : V S10272x1024 .f32) : V S10x1024x1024 .bf16 := fun y => W (ix2 (Fin.ofNat 10272 (rowOf (1024 * (y 0).val + (y 1).val))) (y 2))

/-- The low-rank rows. -/
def lrRows (W : V S10272x1024 .f32) : V S128x1024 .bf16 := fun y => if (y 0).val < 32 then W (ix2 (Fin.ofNat 10272 (3072 + (y 0).val)) (y 1)) else 0

/-- The scratch after `n` points. -/
def Held (W : V S10272x1024 .f32) (u4 u5 : V S16x512 .f32) (n : ℕ) (w : V S10x1024x1024 .bf16) (wlr up : V S128x1024 .bf16) : Prop :=
  (∀ y : S10x1024x1024.Idx, (y 0).val < n → w y = slabs W y) ∧ (3 ≤ n → wlr = lrRows W) ∧ (1 ≤ n → up = upOf u4 u5)

/-- A slab packed. -/
theorem held_slab {W : V S10272x1024 .f32} {n : ℕ} {w : V S10x1024x1024 .bf16} (h : ∀ y : S10x1024x1024.Idx, (y 0).val < n → w y = slabs W y)
    {g : Fin 1024 → Fin 1024 → EReal} (hg : ∀ p q, g p q = W (ix2 (Fin.ofNat 10272 (rowOf (1024 * n + p.val))) q)) (y : S10x1024x1024.Idx) (hy : (y 0).val < n + 1) :
    putSlab w n g y = slabs W y := by
  unfold putSlab
  split
  · rename_i e
    refine (hg (y 1) (y 2)).trans ?_
    show W (ix2 (Fin.ofNat 10272 (rowOf (1024 * n + (y 1).val))) (y 2)) = W (ix2 (Fin.ofNat 10272 (rowOf (1024 * (y 0).val + (y 1).val))) (y 2))
    rw [e]
  · exact h y (by omega)

/-- The rows of an upper slab. -/
theorem narrow_rows (c : Dev nD) (t : Fin cfg0.N) (ht : t.val < 3) (p q : Fin 1024) :
    (X0_0 m c t : V S1024x1024 .f32) (ix2 p q) = wArr m c (ix2 (Fin.ofNat 10272 (rowOf (1024 * t.val + p.val))) q) := by
  have hp := p.isLt
  rw [block0 m c t (by omega)]
  unfold rowOf
  rw [if_pos (by omega)]

/-- The rows of a lower slab. -/
theorem wide_rows (c : Dev nD) (t : Fin cfg0.N) (ht : 3 ≤ t.val) (ht' : t.val < 10) (p q : Fin 1024) :
    wide (X0_0 m c t) (iblk m c 1 t) p q = wArr m c (ix2 (Fin.ofNat 10272 (rowOf (1024 * t.val + p.val))) q) := by
  have hp := p.isLt
  unfold wide rowOf
  rw [if_neg (by omega)]
  split
  · rw [block0 m c t ht']
    exact congrArg (fun k => wArr m c (ix2 (Fin.ofNat 10272 k) q)) (show 1024 * t.val + (32 + p.val) = _ by omega)
  · rw [block1 m c t ht']
    exact congrArg (fun k => wArr m c (ix2 (Fin.ofNat 10272 k) q)) (show 1024 * (t.val + 1) + (p.val - 992) = _ by omega)

/-- The low-rank rows packed. -/
theorem lr_rows (c : Dev nD) (t : Fin cfg0.N) (ht : t.val = 2) : lrOf (iblk m c 1 t) = lrRows (wArr m c) := by
  funext y
  unfold lrOf lrRows
  by_cases h : (y 0).val < 32
  · rw [dif_pos h, if_pos h]
    refine (block1 m c t (by omega) ⟨(y 0).val, h⟩ (y 1)).trans ?_
    exact congrArg (fun k => wArr m c (ix2 (Fin.ofNat 10272 k) (y 1))) (show 1024 * (t.val + 1) + (y 0).val = _ by omega)
  · rw [dif_neg h, if_neg h]

end Cert.ProjectIdeal.Proj

end
-- ==== Proof.Proj.ValueFrame.lean ====
/-
  The run of the projection at ideal values: the scratch tracked through the packing points, the output's blocks named.
-/
module

public import proofs.«01_k».proof.Proof.Proj.Blocks
public import Idealize.ShloMosaic.Lib.Claim

@[expose] public section

set_option maxRecDepth 16384

noncomputable section

namespace Cert.ProjectIdeal.Proj

open Cert.ProjectIdeal Cert.ProjectIdeal.Gen Cert.Proj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scratch between two points, and the generator register. -/
def inv (c : Dev nD) (n : ℕ) : sProp 𝕄 :=
  iprop(∃ w, ∃ wlr, ∃ up, ⌜Held (wArr m c) (ufArr m c) (ubArr m c) n w wlr up⌝
    ∗ (owns (c : Thread nD τ) scr0 fullShare w ∗ owns (c : Thread nD τ) scr1 fullShare wlr ∗ owns (c : Thread nD τ) scr2 fullShare up) ∗ (∃ r, prngReg c r))

/-- A tile point's output block. -/
def outBlock (c : Dev nD) (t : Fin cfg0.N) : Vec Ideal S512x11264 .bf16 :=
  tileOut (iblk m c 2 t) (iblk m c 5 t) (iblk m c 6 t) (iblk m c 7 t) (iblk m c 8 t) (slabs (wArr m c)) (lrRows (wArr m c)) (upOf (ufArr m c) (ubArr m c))

/-- The pipeline's data. -/
def dats (_ : Fin 1) (c : Dev nD) : Dat τ (Elt Ideal) Unit ℕ (UR sig nD τ) ℕ cfg0 c where
  A w := Gen.V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock m c t
  Φ t := inv m c t.val
  q w := Pipeline.shareOf spec0 w
  owed _ := 0

theorem A_eq (c : Dev nD) (w : Fin cfg0.W) : (dats m 0 c).A w = Gen.V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlock m c t := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at point `t`. -/
def before (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)))

/-- What a packing point gives back: the output's buffer as it was found. -/
def afterPack (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ (∃ d, owns (c : Thread nD τ) (win0_9.stage (cfg0.slots t 9)) fullShare ((dats m 0 c).before 9 t d)))

/-- What a tile point gives back. -/
def afterTile (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t))

set_option maxHeartbeats 2000000 in
theorem soundA (c : Dev nD) (t : Fin cfg0.N) (ht : t.val = 0) :
    before m c t ⊢ wp frame (wpE (defs₀ (F := Ideal)) Variants.none c none) Set.univ (bodyAt0 t) (fun _ => afterPack m c t) := by
  unfold before afterPack bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8]
  rw [show (dats m 0 c).Φ t.castSucc = inv m c t.val from rfl, show (dats m 0 c).Φ t.succ = inv m c (t.val + 1) from rfl]
  unfold inv
  iintro ⟨⟨%w, %wlr, %up, %hH, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hn : Held (wArr m c) (ufArr m c) (ubArr m c) (t.val + 1) (putSlab w t.val fun p q => (X0_0 m c t : Vec Ideal S1024x1024 .f32) (ix2 p q)) wlr (upOf (iblk m c 3 t) (iblk m c 4 t)) := ⟨held_slab hH.1 (narrow_rows m c t (by omega)), fun h => absurd h (by omega), fun _ => by rw [block3, block4]⟩
  iapply (packA c (grid0.coords t) _ _ _ _ _ _ _ _ _ _ _ _ _ _ _ _ _ _ _ _ _ _ _ _ _ _ (X0_0 m c t) (iblk m c 1 t) (iblk m c 3 t) (iblk m c 4 t) w wlr up ((cond1_iff t).mpr (by omega)) ((cond2_iff t).mpr (by omega)) ((cond3_iff t).mpr (by omega)) (fun h => absurd ((cond4_iff t).mp h) (by omega)) (fun h => absurd ((cond5_iff t).mp h) (by omega)) (fun h => absurd ((cond6_iff t).mp h) (by omega)) t.val (by omega) (off1_eq t) _)
  isplitl [H0]; · iexact H0
  isplitl [H1]; · iexact H1
  isplitl [H3]; · iexact H3
  isplitl [H4]; · iexact H4
  isplitl [HS0]; · iexact HS0
  isplitl [HS1]; · iexact HS1
  isplitl [HS2]; · iexact HS2
  iintro ⟨H0, H1, H3, H4, HS0, HS1, HS2⟩
  isplitl [HS0 HS1 HS2 Hg]
  · iexists _, _, _
    isplitr
    · ipureintro; exact hn
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 2000000 in
theorem soundB (c : Dev nD) (t : Fin cfg0.N) (ht : t.val = 1) :
    before m c t ⊢ wp frame (wpE (defs₀ (F := Ideal)) Variants.none c none) Set.univ (bodyAt0 t) (fun _ => afterPack m c t) := by
  unfold before afterPack bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8]
  rw [show (dats m 0 c).Φ t.castSucc = inv m c t.val from rfl, show (dats m 0 c).Φ t.succ = inv m c (t.val + 1) from rfl]
  unfold inv
  iintro ⟨⟨%w, %wlr, %up, %hH, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hn : Held (wArr m c) (ufArr m c) (ubArr m c) (t.val + 1) (putSlab w t.val fun p q => (X0_0 m c t : Vec Ideal S1024x1024 .f32) (ix2 p q)) wlr up := ⟨held_slab hH.1 (narrow_rows m c t (by omega)), fun h => absurd h (by omega), fun _ => hH.2.2 (by omega)⟩
  iapply (packB c (grid0.coords t) _ _ _ _ _ _ _ _ _ _ _ _ _ _ _ _ _ _ _ _ _ _ _ _ _ _ (X0_0 m c t) (iblk m c 1 t) (iblk m c 3 t) (iblk m c 4 t) w wlr up (fun h => absurd ((cond1_iff t).mp h) (by omega)) ((cond2_iff t).mpr (by omega)) ((cond3_iff t).mpr (by omega)) (fun h => absurd ((cond4_iff t).mp h) (by omega)) (fun h => absurd ((cond5_iff t).mp h) (by omega)) (fun h => absurd ((cond6_iff t).mp h) (by omega)) t.val (by omega) (off1_eq t) _)
  isplitl [H0]; · iexact H0
  isplitl [H1]; · iexact H1
  isplitl [H3]; · iexact H3
  isplitl [H4]; · iexact H4
  isplitl [HS0]; · iexact HS0
  isplitl [HS1]; · iexact HS1
  isplitl [HS2]; · iexact HS2
  iintro ⟨H0, H1, H3, H4, HS0, HS1, HS2⟩
  isplitl [HS0 HS1 HS2 Hg]
  · iexists _, _, _
    isplitr
    · ipureintro; exact hn
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 2000000 in
theorem soundC (c : Dev nD) (t : Fin cfg0.N) (ht : t.val = 2) :
    before m c t ⊢ wp frame (wpE (defs₀ (F := Ideal)) Variants.none c none) Set.univ (bodyAt0 t) (fun _ => afterPack m c t) := by
  unfold before afterPack bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8]
  rw [show (dats m 0 c).Φ t.castSucc = inv m c t.val from rfl, show (dats m 0 c).Φ t.succ = inv m c (t.val + 1) from rfl]
  unfold inv
  iintro ⟨⟨%w, %wlr, %up, %hH, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hn : Held (wArr m c) (ufArr m c) (ubArr m c) (t.val + 1) (putSlab w t.val fun p q => (X0_0 m c t : Vec Ideal S1024x1024 .f32) (ix2 p q)) (lrOf (iblk m c 1 t)) up := ⟨held_slab hH.1 (narrow_rows m c t (by omega)), fun _ => lr_rows m c t ht, fun _ => hH.2.2 (by omega)⟩
  iapply (packC c (grid0.coords t) _ _ _ _ _ _ _ _ _ _ _ _ _ _ _ _ _ _ _ _ _ _ _ _ _ _ (X0_0 m c t) (iblk m c 1 t) (iblk m c 3 t) (iblk m c 4 t) w wlr up (fun h => absurd ((cond1_iff t).mp h) (by omega)) ((cond2_iff t).mpr (by omega)) ((cond3_iff t).mpr (by omega)) ((cond4_iff t).mpr (by omega)) (fun h => absurd ((cond5_iff t).mp h) (by omega)) (fun h => absurd ((cond6_iff t).mp h) (by omega)) t.val (by omega) (off1_eq t) _)
  isplitl [H0]; · iexact H0
  isplitl [H1]; · iexact H1
  isplitl [H3]; · iexact H3
  isplitl [H4]; · iexact H4
  isplitl [HS0]; · iexact HS0
  isplitl [HS1]; · iexact HS1
  isplitl [HS2]; · iexact HS2
  iintro ⟨H0, H1, H3, H4, HS0, HS1, HS2⟩
  isplitl [HS0 HS1 HS2 Hg]
  · iexists _, _, _
    isplitr
    · ipureintro; exact hn
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 2000000 in
theorem soundD (c : Dev nD) (t : Fin cfg0.N) (ht : 3 ≤ t.val) (ht' : t.val < 10) :
    before m c t ⊢ wp frame (wpE (defs₀ (F := Ideal)) Variants.none c none) Set.univ (bodyAt0 t) (fun _ => afterPack m c t) := by
  unfold before afterPack bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8]
  rw [show (dats m 0 c).Φ t.castSucc = inv m c t.val from rfl, show (dats m 0 c).Φ t.succ = inv m c (t.val + 1) from rfl]
  unfold inv
  iintro ⟨⟨%w, %wlr, %up, %hH, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hn : Held (wArr m c) (ufArr m c) (ubArr m c) (t.val + 1) (putSlab w t.val (wide (X0_0 m c t) (iblk m c 1 t))) wlr up := ⟨held_slab hH.1 (wide_rows m c t ht ht'), fun _ => hH.2.1 (by omega), fun _ => hH.2.2 (by omega)⟩
  iapply (packD c (grid0.coords t) _ _ _ _ _ _ _ _ _ _ _ _ _ _ _ _ _ _ _ _ _ _ _ _ _ _ (X0_0 m c t) (iblk m c 1 t) (iblk m c 3 t) (iblk m c 4 t) w wlr up (fun h => absurd ((cond1_iff t).mp h) (by omega)) ((cond2_iff t).mpr (by omega)) (fun h => absurd ((cond3_iff t).mp h) (by omega)) (fun h => absurd ((cond4_iff t).mp h) (by omega)) ((cond5_iff t).mpr (by omega)) (fun h => absurd ((cond6_iff t).mp h) (by omega)) t.val (by omega) (off2_eq t) _)
  isplitl [H0]; · iexact H0
  isplitl [H1]; · iexact H1
  isplitl [H3]; · iexact H3
  isplitl [H4]; · iexact H4
  isplitl [HS0]; · iexact HS0
  isplitl [HS1]; · iexact HS1
  isplitl [HS2]; · iexact HS2
  iintro ⟨H0, H1, H3, H4, HS0, HS1, HS2⟩
  isplitl [HS0 HS1 HS2 Hg]
  · iexists _, _, _
    isplitr
    · ipureintro; exact hn
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 2000000 in
theorem soundTile (c : Dev nD) (t : Fin cfg0.N) (ht : 10 ≤ t.val) :
    before m c t ⊢ wp frame (wpE (defs₀ (F := Ideal)) Variants.none c none) Set.univ (bodyAt0 t) (fun _ => afterTile m c t) := by
  unfold before afterTile bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8]
  rw [show (dats m 0 c).Φ t.castSucc = inv m c t.val from rfl, show (dats m 0 c).Φ t.succ = inv m c (t.val + 1) from rfl]
  unfold inv
  iintro ⟨⟨%w, %wlr, %up, %hH, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [after_9]
  have hw : w = slabs (wArr m c) := funext fun y => hH.1 y (by have : (y 0).val < 10 := (y 0).isLt; omega)
  have hlr : wlr = lrRows (wArr m c) := hH.2.1 (by omega)
  have hup : up = upOf (ufArr m c) (ubArr m c) := hH.2.2 (by omega)
  have hn : Held (wArr m c) (ufArr m c) (ubArr m c) (t.val + 1) w wlr up := ⟨fun y _ => congrFun hw y, fun _ => hlr, fun _ => hup⟩
  have ho : outBlock m c t = tileOut (iblk m c 2 t) (iblk m c 5 t) (iblk m c 6 t) (iblk m c 7 t) (iblk m c 8 t) w wlr up := by rw [hw, hlr, hup]; rfl
  rw [ho]
  iapply (tileRun c (grid0.coords t) _ _ _ _ _ _ _ _ _ _ _ _ _ _ _ _ _ _ _ _ _ _ _ _ _ _ (iblk m c 2 t) (iblk m c 5 t) (iblk m c 6 t) (iblk m c 7 t) (iblk m c 8 t) w wlr up (fun h => absurd ((cond1_iff t).mp h) (by omega)) (fun h => absurd ((cond2_iff t).mp h) (by omega)) ((cond6_iff t).mpr (by omega)) _)
  isplitl [H2]; · iexact H2
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H2, H5, H6, H7, H8, H9, HS0, HS1, HS2⟩
  isplitl [HS0 HS1 HS2 Hg]
  · iexists _, _, _
    isplitr
    · ipureintro; exact hn
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row_eq (t : Fin cfg0.N) :
    defs₀ (F := Ideal) .tc cfg0.body (cfg0.bodyArgs t (cfg0.slots t)) = bodyAt0 t := by
  unfold defs₀; rw [Defs.onTc_tc]

theorem idle9 : ∀ t : Fin cfg0.N, cfg0.idle 9 (cfg0.grid.coords t) = decide (t.val < 10) := by decide +kernel
theorem flush9 : ∀ t : Fin cfg0.N, (cfg0.win 9).flush t = decide (10 ≤ t.val) := by decide +kernel

/-- A packing point. -/
theorem soundPack (c : Dev nD) (t : Fin cfg0.N) (ht : t.val < 10) :
    before m c t ⊢ wp frame (wpE (defs₀ (F := Ideal)) Variants.none c none) Set.univ (bodyAt0 t) (fun _ => afterPack m c t) := by
  by_cases h0 : t.val = 0
  · exact soundA m c t h0
  by_cases h1 : t.val = 1
  · exact soundB m c t h1
  by_cases h2 : t.val = 2
  · exact soundC m c t h2
  exact soundD m c t (by omega) ht

/-- The body's obligation at every point. -/
theorem obligation (c : Dev nD) : BodyObligation (dats m 0 c) (defs₀ (F := Ideal)) Variants.none () Set.univ := fun t => by
  rw [bigSep_W0, bigSep_W0, row_eq]
  by_cases ht : t.val < 10
  · have e : idle0 9 (grid0.coords t) = true := (idle9 t).trans (decide_eq_true ht)
    have e2 : (win0 9).flush t = false := (flush9 t).trans (decide_eq_false (by omega))
    refine triple_restated (soundPack m c t ht) rfl .rfl fun _ => ?_
    dsimp only
    rw [e, e2]
    exact .rfl
  · have e : idle0 9 (grid0.coords t) = false := (idle9 t).trans (decide_eq_false ht)
    refine triple_restated (soundTile m c t (by omega)) rfl .rfl fun _ => ?_
    dsimp only
    rw [e]
    exact .rfl

theorem enter (c : Dev nD) : (Pipeline.ΦA spec0 c : sProp 𝕄) ⊢ (dats m 0 c).Φ 0 := by
  rw [show (dats m 0 c).Φ 0 = inv m c 0 from rfl, scratch_eq]
  unfold inv
  iintro ⟨⟨⟨%w, HS0⟩, ⟨%wlr, HS1⟩, ⟨%up, HS2⟩⟩, Hg⟩
  have hn : Held (wArr m c) (ufArr m c) (ubArr m c) 0 w wlr up :=
    ⟨fun _ h => absurd h (Nat.not_lt_zero _), fun h => absurd h (by omega), fun h => absurd h (by omega)⟩
  iexists w, wlr, up
  isplitr
  · ipureintro; exact hn
  isplitl [HS0 HS1 HS2]
  · isplitl [HS0]; · iexact HS0
    isplitl [HS1]; · iexact HS1
    iexact HS2
  iexact Hg

theorem leave (c : Dev nD) : (dats m 0 c).Φ (Fin.last cfg0.N) ⊢ (Pipeline.ΦA spec0 c : sProp 𝕄) := by
  rw [show (dats m 0 c).Φ (Fin.last cfg0.N) = inv m c cfg0.N from rfl, scratch_eq]
  unfold inv
  iintro ⟨%w, %wlr, %up, -, ⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- The whole run: the arrays and the counters at its end. -/
theorem wholeRun : θ_run defs (onTc (τ := τ) (main (F := Ideal))) (s₀ m ρ) (fun r => Pipeline.FramePost cfgs (dats m) 0 (Gen.V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := Gen.V m) (hmain := hmain m Variants.none) (hA := A_eq m) (hin := enter m) (hout := leave m)

/-- The run's arrays. -/
theorem arraysRun : θ_run defs (onTc (τ := τ) (main (F := Ideal))) (s₀ m ρ) (Pipeline.FramePost cfgs (dats m) 0 (Gen.V m)) :=
  (θ_run defs _ _).mono (fun _ h => h.1) (wholeRun m ρ)

end Cert.ProjectIdeal.Proj

end
-- ==== Proof.Proj.ValueRun.lean ====
/-
  The result array of the projection: entry by entry, a row's scores through its column's function.
-/
module

public import proofs.«01_k».proof.Proof.Proj.ValueFrame
public import Idealize.ShloMosaic.Lib.Pipeline.Value

@[expose] public section

set_option maxRecDepth 16384

noncomputable section

namespace Cert.ProjectIdeal.Proj

open Cert.ProjectIdeal Cert.ProjectIdeal.Gen Cert.Proj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ### The result -/

/-- A row of activations against row `n` of the weights. -/
def score (X : S16384x1024.Idx → EReal) (W : S10272x1024.Idx → EReal) (R : Fin 16384) (n : ℕ) : EReal :=
  ∑ d : Fin 1024, X (ix2 R d) * W (ix2 (Fin.ofNat 10272 n) d)

/-- A gate's pre-activation: sixteen scores from row `o` of the weights on, up-projected, and the bias. -/
def gateArg (X : S16384x1024.Idx → EReal) (W : S10272x1024.Idx → EReal) (u : S16x512.Idx → EReal) (b : S1x512.Idx → EReal) (o : ℕ) (R : Fin 16384) (n : ℕ) : EReal :=
  (∑ r : Fin 16, score X W R (o + r.val) * u (ix2 r (Fin.ofNat 512 n))) + b (ix2 0 (Fin.ofNat 512 n))

/-- The result array. -/
def projOut (X : S16384x1024.Idx → EReal) (W : S10272x1024.Idx → EReal) (uf ub : S16x512.Idx → EReal) (bf bb : S1x512.Idx → EReal) (lf lb : S2x1024.Idx → EReal) :
    S16384x11264.Idx → EReal := fun y =>
  colSpec (fun n => score X W (y 0) (rowOf n)) (gateArg X W uf bf 3072 (y 0)) (gateArg X W ub bb 3088 (y 0)) (lowAt lf) (lowAt lb) (y 1).val

/-- A column's function reads its scores below 10240 and its pre-activations below 512. -/
theorem colSpec_congr {h h' zf zf' zb zb' lf lb : ℕ → EReal} {c : ℕ} (hc : c < 11264) (e : ∀ n, n < 10240 → h n = h' n)
    (ef : ∀ n, n < 512 → zf n = zf' n) (eb : ∀ n, n < 512 → zb n = zb' n) : colSpec h zf zb lf lb c = colSpec h' zf' zb' lf lb c := by
  unfold colSpec
  split
  · rw [e c (by omega)]
  split
  · rw [e c (by omega)]
  split
  · rw [e c (by omega)]
  split
  · rw [ef _ (by omega)]
  split
  · rw [eb _ (by omega)]
  rw [e (c - 1024) (by omega)]

/-- A sum over 128 rows in three parts. -/
theorem sum_parts (f : ℕ → EReal) :
    ∑ r : Fin 128, f r.val = ∑ r : Fin 16, f r.val + (∑ r : Fin 16, f (16 + r.val) + ∑ r : Fin 96, f (16 + (16 + r.val))) :=
  (Fin.sum_univ_add (a := 16) (b := 112) fun r => f r.val).trans
    (congrArg (fun z => ∑ r : Fin 16, f r.val + z) (Fin.sum_univ_add (a := 16) (b := 96) fun r => f (16 + r.val)))

/-- A low-rank row's score times its up-projection's entry. -/
def lrTerm (x : S512x1024.Idx → EReal) (W : S10272x1024.Idx → EReal) (uf ub : S16x512.Idx → EReal) (i : Fin 512) (k r : ℕ) : EReal :=
  (∑ d : Fin 1024, x (ix2 i d) * lrRows W (ix2 (Fin.ofNat 128 r) d)) * upOf uf ub (ix2 (Fin.ofNat 128 r) (Fin.ofNat 1024 k))

section Terms

variable (x : S512x1024.Idx → EReal) (W : S10272x1024.Idx → EReal) (uf ub : S16x512.Idx → EReal) (i : Fin 512)

/-- A low-rank row's score. -/
theorem lr_score (r : ℕ) (hr : r < 32) (d : Fin 1024) : lrRows W (ix2 (Fin.ofNat 128 r) d) = W (ix2 (Fin.ofNat 10272 (3072 + r)) d) := by
  unfold lrRows
  have e : (Fin.ofNat 128 r).val = r := Nat.mod_eq_of_lt (by omega)
  refine (if_pos (show (Fin.ofNat 128 r).val < 32 by omega)).trans ?_
  show W (ix2 (Fin.ofNat 10272 (3072 + (Fin.ofNat 128 r).val)) d) = _
  rw [e]

theorem up_fwd (n r : ℕ) (hn : n < 512) (hr : r < 16) : upOf uf ub (ix2 (Fin.ofNat 128 r) (Fin.ofNat 1024 n)) = uf (ix2 (Fin.ofNat 16 r) (Fin.ofNat 512 n)) := by
  unfold upOf
  have e : (Fin.ofNat 128 r).val = r := Nat.mod_eq_of_lt (by omega)
  have e2 : (Fin.ofNat 1024 n).val = n := Nat.mod_eq_of_lt (by omega)
  refine (if_pos (show (Fin.ofNat 128 r).val < 16 ∧ (Fin.ofNat 1024 n).val < 512 by omega)).trans ?_
  show uf (ix2 (Fin.ofNat 16 (Fin.ofNat 128 r).val) (Fin.ofNat 512 (Fin.ofNat 1024 n).val)) = _
  rw [e, e2]

theorem up_bwd (n r : ℕ) (hn : n < 512) (hr : r < 16) : upOf uf ub (ix2 (Fin.ofNat 128 (16 + r)) (Fin.ofNat 1024 (512 + n))) = ub (ix2 (Fin.ofNat 16 r) (Fin.ofNat 512 n)) := by
  unfold upOf
  have e : (Fin.ofNat 128 (16 + r)).val = 16 + r := Nat.mod_eq_of_lt (by omega)
  have e2 : (Fin.ofNat 1024 (512 + n)).val = 512 + n := Nat.mod_eq_of_lt (by omega)
  refine (if_neg (show ¬ ((Fin.ofNat 128 (16 + r)).val < 16 ∧ (Fin.ofNat 1024 (512 + n)).val < 512) by omega)).trans
    ((if_pos (show 16 ≤ (Fin.ofNat 128 (16 + r)).val ∧ (Fin.ofNat 128 (16 + r)).val < 32 ∧ 512 ≤ (Fin.ofNat 1024 (512 + n)).val by omega)).trans ?_)
  show ub (ix2 (Fin.ofNat 16 ((Fin.ofNat 128 (16 + r)).val - 16)) (Fin.ofNat 512 ((Fin.ofNat 1024 (512 + n)).val - 512))) = _
  rw [e, e2, Nat.add_sub_cancel_left, Nat.add_sub_cancel_left]

theorem up_zero (k r : ℕ) (hk : k < 1024) (hr : r < 128) (h1 : ¬ (r < 16 ∧ k < 512)) (h2 : ¬ (16 ≤ r ∧ r < 32 ∧ 512 ≤ k)) :
    upOf uf ub (ix2 (Fin.ofNat 128 r) (Fin.ofNat 1024 k)) = 0 := by
  unfold upOf
  have e : (Fin.ofNat 128 r).val = r := Nat.mod_eq_of_lt hr
  have e2 : (Fin.ofNat 1024 k).val = k := Nat.mod_eq_of_lt hk
  exact (if_neg (show ¬ ((Fin.ofNat 128 r).val < 16 ∧ (Fin.ofNat 1024 k).val < 512) by rw [e, e2]; exact h1)).trans
    (if_neg (show ¬ (16 ≤ (Fin.ofNat 128 r).val ∧ (Fin.ofNat 128 r).val < 32 ∧ 512 ≤ (Fin.ofNat 1024 k).val) by rw [e, e2]; exact h2))

theorem lrTerm_zero (k r : ℕ) (hk : k < 1024) (hr : r < 128) (h1 : ¬ (r < 16 ∧ k < 512)) (h2 : ¬ (16 ≤ r ∧ r < 32 ∧ 512 ≤ k)) : lrTerm x W uf ub i k r = 0 := by
  unfold lrTerm
  rw [up_zero uf ub k r hk hr h1 h2, mul_zero]

theorem lowRank_terms (b : S1x512.Idx → EReal) (o n : ℕ) :
    lowRank x (lrRows W) (upOf uf ub) b o i n = (∑ r : Fin 128, lrTerm x W uf ub i (o + n) r.val) + b (ix2 0 (Fin.ofNat 512 n)) := by
  unfold lowRank
  refine congrArg (fun z => z + b (ix2 0 (Fin.ofNat 512 n))) (Finset.sum_congr rfl fun r _ => ?_)
  unfold lrTerm
  rw [show Fin.ofNat 128 r.val = r from Fin.ext (Nat.mod_eq_of_lt r.isLt)]

variable {x} in
/-- The forward pre-activation through the packed arrays. -/
theorem lowRank_fwd {X : S16384x1024.Idx → EReal} {R : Fin 16384} (hx : ∀ d, x (ix2 i d) = X (ix2 R d)) (b : S1x512.Idx → EReal) (n : ℕ) (hn : n < 512) :
    lowRank x (lrRows W) (upOf uf ub) b 0 i n = gateArg X W uf b 3072 R n := by
  rw [lowRank_terms, sum_parts, Finset.sum_eq_zero (s := (Finset.univ : Finset (Fin 96))), Finset.sum_eq_zero (f := fun r : Fin 16 => lrTerm x W uf ub i (0 + n) (16 + r.val)), add_zero, add_zero]
  · unfold gateArg
    refine congrArg (fun z => z + b (ix2 0 (Fin.ofNat 512 n))) (Finset.sum_congr rfl fun r _ => ?_)
    unfold lrTerm score
    have hr := r.isLt
    rw [Nat.zero_add, up_fwd uf ub n r.val hn hr, show Fin.ofNat 16 r.val = r from Fin.ext (Nat.mod_eq_of_lt r.isLt)]
    refine congrArg (fun z => z * uf (ix2 r (Fin.ofNat 512 n))) (Finset.sum_congr rfl fun d _ => ?_)
    rw [hx, lr_score W r.val (by omega)]
  · intro r _
    have hr := r.isLt
    exact lrTerm_zero x W uf ub i _ _ (by omega) (by omega) (by omega) (by omega)
  · intro r _
    have hr := r.isLt
    exact lrTerm_zero x W uf ub i _ _ (by omega) (by omega) (by omega) (by omega)

variable {x} in
/-- The backward pre-activation through the packed arrays. -/
theorem lowRank_bwd {X : S16384x1024.Idx → EReal} {R : Fin 16384} (hx : ∀ d, x (ix2 i d) = X (ix2 R d)) (b : S1x512.Idx → EReal) (n : ℕ) (hn : n < 512) :
    lowRank x (lrRows W) (upOf uf ub) b 512 i n = gateArg X W ub b 3088 R n := by
  rw [lowRank_terms, sum_parts, Finset.sum_eq_zero (s := (Finset.univ : Finset (Fin 96))), Finset.sum_eq_zero (f := fun r : Fin 16 => lrTerm x W uf ub i (512 + n) r.val), add_zero, zero_add]
  · unfold gateArg
    refine congrArg (fun z => z + b (ix2 0 (Fin.ofNat 512 n))) (Finset.sum_congr rfl fun r _ => ?_)
    unfold lrTerm score
    have hr := r.isLt
    rw [up_bwd uf ub n r.val hn hr, show Fin.ofNat 16 r.val = r from Fin.ext (Nat.mod_eq_of_lt r.isLt)]
    refine congrArg (fun z => z * ub (ix2 r (Fin.ofNat 512 n))) (Finset.sum_congr rfl fun d _ => ?_)
    rw [hx, lr_score W (16 + r.val) (by omega), ← Nat.add_assoc]
  · intro r _
    have hr := r.isLt
    exact lrTerm_zero x W uf ub i _ _ (by omega) (by omega) (by omega) (by omega)
  · intro r _
    have hr := r.isLt
    exact lrTerm_zero x W uf ub i _ _ (by omega) (by omega) (by omega) (by omega)

variable {x} in
/-- A score through the packed slabs. -/
theorem slabScore_eq {X : S16384x1024.Idx → EReal} {R : Fin 16384} (hx : ∀ d, x (ix2 i d) = X (ix2 R d)) (n : ℕ) (hn : n < 10240) :
    slabScore x (slabs W) i n = score X W R (rowOf n) := by
  unfold slabScore score
  refine Finset.sum_congr rfl fun d _ => ?_
  rw [hx]
  refine congrArg (fun z => X (ix2 R d) * z) ?_
  show W (ix2 (Fin.ofNat 10272 (rowOf (1024 * (n / 1024 % 10) + n % 1024 % 1024))) d) = _
  rw [show 1024 * (n / 1024 % 10) + n % 1024 % 1024 = n by omega]

end Terms

/-- The result the kernel's arguments give. -/
abbrev projOf (c : Dev nD) : S16384x11264.Idx → EReal :=
  projOut (xArr m c) (wArr m c) (ufArr m c) (ubArr m c) (bfArr m c) (bbArr m c) (lfArr m c) (lbArr m c)

theorem index9 : ∀ t : Fin cfg0.N, win0_9.index t 0 = t.val - 10 ∧ win0_9.index t 1 = 0 := by decide +kernel
theorem xsize9 : ∀ t : Fin cfg0.N, win0_9.xsize (grid0.coords t) 0 = 512 ∧ win0_9.xsize (grid0.coords t) 1 = 11264 := by decide +kernel

/-- A tile's output block at an index. -/
theorem outBlock_apply (c : Dev nD) (t : Fin cfg0.N) (p : Fin 512) (q : Fin 11264) :
    outBlock m c t (ix2 p q) = projOf m c (ix2 (Fin.ofNat 16384 (512 * (t.val - 10) + p.val)) q) := by
  unfold outBlock tileOut projOf projOut
  rw [block5, block6, block7, block8]
  exact colSpec_congr q.isLt (fun n hn => slabScore_eq (wArr m c) p (block2 m c t p) n hn)
    (fun n hn => lowRank_fwd (wArr m c) (ufArr m c) (ubArr m c) p (block2 m c t p) (bfArr m c) n hn)
    (fun n hn => lowRank_bwd (wArr m c) (ufArr m c) (ubArr m c) p (block2 m c t p) (bbArr m c) n hn)

/-- A block written back is the result's block. -/
theorem flushed_eq (c : Dev nD) (t : Fin cfg0.N) (_ : (cfg0.win 9).flush t = true) :
    (dats m 0 c).flushed 9 t = ((cfg0.win 9).blk t).view.read (Elt Ideal) (projOf m c) := by
  have hi := index9 t
  have hp := points t
  show (cfg0.win 9).cut (grid0.coords t) ((dats m 0 c).after 9 t) = _
  rw [after_9]
  funext y
  rw [View.read_apply]
  have h0 : (y 0).val < 512 := (y 0).isLt
  have h1 : (y 1).val < 11264 := (y 1).isLt
  show outBlock m c t (ix2 ⟨(y 0).val, h0⟩ ⟨(y 1).val, h1⟩) = projOf m c _
  refine (outBlock_apply m c t _ _).trans (congrArg (projOf m c) (funext fun a => Fin.ext ?_))
  match a with
  | ⟨0, _⟩ => show (512 * (t.val - 10) + (y 0).val) % 16384 = win0_9.index t 0 * 512 + 1 * (y 0).val; rw [hi.1]; omega
  | ⟨1, _⟩ => show (y 1).val = win0_9.index t 1 * 11264 + 1 * (y 1).val; rw [hi.2]; omega

/-- The blocks cover the result array. -/
theorem final (c : Dev nD) : (dats m 0 c).arrAt 9 cfg0.N = projOf m c :=
  (dats m 0 c).arrAt_eq_of_cover 9 (projOf m c) (flushed_eq m c) fun i => by
    have h0 : (i 0 : Nat) < 16384 := (i 0).isLt
    have h1 : (i 1 : Nat) < 11264 := (i 1).isLt
    refine ⟨⟨10 + (i 0 : Nat) / 512, by show _ < 42; omega⟩, (flush9 _).trans (decide_eq_true (Nat.le_add_right _ _)), ?_⟩
    generalize ht : (⟨10 + (i 0 : Nat) / 512, by show _ < 42; omega⟩ : Fin cfg0.N) = t
    have hv : t.val = 10 + (i 0 : Nat) / 512 := by rw [← ht]
    have hi := index9 t
    have hx := xsize9 t
    show i ∈ ((View.whole main_v0).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + win0_9.xsize (grid0.coords t) 0
                rw [hi.1, hx.1]; omega
    | ⟨1, _⟩ => show win0_9.index t 1 * 11264 ≤ (i 1 : Nat) ∧ (i 1 : Nat) < win0_9.index t 1 * 11264 + win0_9.xsize (grid0.coords t) 1
                rw [hi.2, hx.2]; omega

/-- The run, read: the result array, and the arguments unchanged. -/
theorem run : θ_run defs (onTc (τ := τ) (main (F := Ideal))) ⟨m, fun _ => 0, ρ⟩ fun r => ∀ c : Dev nD,
      r.2.mem ((c.tc : Thread nD τ).loc main_v0) = projOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r hr c => ⟨((hr.1 c).1 9).trans (final m c), hr.2 c⟩)
    (θ_run_and (arraysRun m ρ) (frame_of m ρ (dats m) (A_eq m) (arraysRun m ρ)))

/-- The projection runs at ideal values and leaves its arguments and the counters as they were. -/
theorem frameIdeal : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 :=
  θ_run_and (frame_of m ρ (dats m) (A_eq m) (arraysRun m ρ)) ((θ_run defs _ _).mono (fun _ h => h.2) (wholeRun m ρ))

end Cert.ProjectIdeal.Proj

end
-- ==== Proof.Proj.Reference.lean ====
/-
  The reference of the projection, entry by entry: a row's scores through its column's function.
-/
module

public import proofs.«01_k».proof.Proof.Gen.ProjectionsIdeal.Run
public import proofs.«01_k».proof.Proof.Scan.RefCumsum
public import proofs.«01_k».proof.Proof.Proj.ValueRun

@[expose] public section

set_option maxRecDepth 16384

noncomputable section

namespace Cert.ProjectionsIdeal.Proj

open Cert.ProjectionsIdeal Cert.ProjectionsIdeal.Gen Cert.ProjectionsIdeal.Value Cert.Proj
open Idealize.ShloMosaic Idealize.ShloMosaic.TcCoe Idealize.ShloMosaic.Tactic
open Idealize.ShloMosaic.StableHlo
open Cert.ProjectIdeal.Proj (score gateArg projOut rowOf lowAt low fold_two)

/-! ### The constants -/

theorem sixteen : Ideal.ofBits FTy.f32 0x41800000#32 = 16 := by
  simp [Ideal.ofBits, Ideal.ieee, -EReal.coe_mul]; norm_num; rfl
theorem two : Ideal.ofBits FTy.f32 0x40000000#32 = 2 := by
  simp [Ideal.ofBits, Ideal.ieee, -EReal.coe_mul]; norm_num; rfl
theorem minusInf : Ideal.ofBits FTy.f32 0xFF800000#32 = ⊥ := by
  simp [Ideal.ofBits, Ideal.ieee]

/-! ### The scores and the pieces made of them -/

/-- All scores. -/
def scores (X : FVec Ideal S16384x1024 .f32) (W : FVec Ideal S10272x1024 .f32) : FVec Ideal S16384x10272 .f32 :=
  Host.dotGeneral dot_S16384x1024_S1024x10272_S16384x10272_1_0_0_1_n_n none X (transpose S1024x10272 [1, 0] W transposes_S10272x1024_S1024x10272_1_0)

theorem scores_apply (X : FVec Ideal S16384x1024 .f32) (W : FVec Ideal S10272x1024 .f32) (R : Fin 16384) (n : Fin 10272) :
    scores X W (ix2 R n) = ∑ d : Fin 1024, X (ix2 R d) * W (ix2 n d) := by
  pointwise [scores]

/-- The logistic function of an array. -/
def sgmArr (x : FVec Ideal S16384x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf x)))

theorem sgmArr_apply (x : FVec Ideal S16384x1024 .f32) (R : Fin 16384) (j : Fin 1024) : sgmArr x (ix2 R j) = sgm (x (ix2 R j)) := by
  pointwise [sgmArr]
  rfl

/-- An array times its logistic function. -/
def siluArr (x : FVec Ideal S16384x1024 .f32) : FVec Ideal S16384x1024 .f32 := mulf x (sgmArr x)

theorem siluArr_apply (x : FVec Ideal S16384x1024 .f32) (R : Fin 16384) (j : Fin 1024) : siluArr x (ix2 R j) = x (ix2 R j) * sgm (x (ix2 R j)) := by
  unfold siluArr
  exact congrArg (fun z => x (ix2 R j) * z) (sgmArr_apply x R j)

/-- 512 columns of the scores. -/
def part512 (h : FVec Ideal S16384x10272 .f32) (o : ℕ) (s : S16384x10272.Slices ![0, o] S16384x512) : FVec Ideal S16384x512 .f32 :=
  extractStridedSlice S16384x512 ![0, o] h s
/-- 1024 columns of the scores. -/
def part1024 (h : FVec Ideal S16384x10272 .f32) (o : ℕ) (s : S16384x10272.Slices ![0, o] S16384x1024) : FVec Ideal S16384x1024 .f32 :=
  extractStridedSlice S16384x1024 ![0, o] h s
/-- Sixteen columns of the scores. -/
def part16 (h : FVec Ideal S16384x10272 .f32) (o : ℕ) (s : S16384x10272.Slices ![0, o] S16384x16) : FVec Ideal S16384x16 .f32 :=
  extractStridedSlice S16384x16 ![0, o] h s

theorem part512_apply (h : FVec Ideal S16384x10272 .f32) (o : ℕ) (s) (ho : o + 512 ≤ 10272) (R : Fin 16384) (j : Fin 512) :
    part512 h o s (ix2 R j) = h (ix2 R ⟨o + j.val, by omega⟩) := by
  pointwise [part512]
theorem part1024_apply (h : FVec Ideal S16384x10272 .f32) (o : ℕ) (s) (ho : o + 1024 ≤ 10272) (R : Fin 16384) (j : Fin 1024) :
    part1024 h o s (ix2 R j) = h (ix2 R ⟨o + j.val, by omega⟩) := by
  pointwise [part1024]
theorem part16_apply (h : FVec Ideal S16384x10272 .f32) (o : ℕ) (s) (ho : o + 16 ≤ 10272) (R : Fin 16384) (j : Fin 16) :
    part16 h o s (ix2 R j) = h (ix2 R ⟨o + j.val, by omega⟩) := by
  pointwise [part16]

/-- A scaled array of 512 columns. -/
def scaled512 (x : FVec Ideal S16384x512 .f32) : FVec Ideal S16384x512 .f32 := mulf x (broadcastInDim S16384x512 ![] bcast_S_S16384x512 (constant S_ .f32 0x3DB504F3#32))
/-- A scaled array of 1024 columns. -/
def scaled1024 (x : FVec Ideal S16384x1024 .f32) : FVec Ideal S16384x1024 .f32 := mulf x (broadcastInDim S16384x1024 ![] bcast_S_S16384x1024 (constant S_ .f32 0x3DB504F3#32))

theorem scaled512_apply (x : FVec Ideal S16384x512 .f32) (R : Fin 16384) (j : Fin 512) : scaled512 x (ix2 R j) = x (ix2 R j) * c0 := by
  pointwise [scaled512, c0]
theorem scaled1024_apply (x : FVec Ideal S16384x1024 .f32) (R : Fin 16384) (j : Fin 1024) : scaled1024 x (ix2 R j) = x (ix2 R j) * c0 := by
  pointwise [scaled1024, c0]

/-! ### The gates -/

/-- A gate's pre-activation, negated. -/
def negArg (l : FVec Ideal S16384x16 .f32) (u : FVec Ideal S16x512 .f32) (b : FVec Ideal S1x512 .f32) : FVec Ideal S16384x512 .f32 :=
  Host.negf (addf (Host.dotGeneral dot_S16384x16_S16x512_S16384x512_1_0_0_1_n_n none l u) (broadcastInDim S16384x512 ![0, 1] bcast_S1x512_S16384x512_0_1 b))

theorem negArg_apply (l : FVec Ideal S16384x16 .f32) (u : FVec Ideal S16x512 .f32) (b : FVec Ideal S1x512 .f32) (R : Fin 16384) (j : Fin 512) :
    negArg l u b (ix2 R j) = -((∑ r : Fin 16, l (ix2 R r) * u (ix2 r j)) + b (ix2 0 j)) := by
  pointwise [negArg]

/-- The gate from its negated pre-activation. -/
def gateArr (v : FVec Ideal S16384x512 .f32) (d : FVec Ideal S16384x512 .f32) : FVec Ideal S16384x512 .f32 :=
  Host.divf (Host.divf (Host.negf (select (cmpf .une d d) (addf v (broadcastInDim S16384x512 ![] bcast_S_S16384x512 (constant S_ .f32 0x00000000#32))) (addf (maximumf v (broadcastInDim S16384x512 ![] bcast_S_S16384x512 (constant S_ .f32 0x00000000#32))) (Host.log1p (Host.exp (Host.negf (Host.absf d))))))) (broadcastInDim S16384x512 ![] bcast_S_S16384x512 (constant S_ .f32 0x41800000#32))) (broadcastInDim S16384x512 ![] bcast_S_S16384x512 (Host.log (constant S_ .f32 0x40000000#32)))

/-- What the gate subtracts zero from. -/
def subZero (v : FVec Ideal S16384x512 .f32) : FVec Ideal S16384x512 .f32 := subf v (broadcastInDim S16384x512 ![] bcast_S_S16384x512 (constant S_ .f32 0x00000000#32))

theorem subZero_apply (v : FVec Ideal S16384x512 .f32) (R : Fin 16384) (j : Fin 512) : subZero v (ix2 R j) = v (ix2 R j) - 0 := by
  pointwise [subZero]

theorem gateArr_apply (v d : FVec Ideal S16384x512 .f32) (z : EReal) (R : Fin 16384) (j : Fin 512) (hv : v (ix2 R j) = -z) (hd : d (ix2 R j) = -z - 0) : gateArr v d (ix2 R j) = gate z := by
  pointwise [gateArr]
  rw [if_neg (fun h => h rfl), hv, hd, sixteen, two]
  rfl

/-! ### The forget gates -/

/-- The logits' exponentials, less their maximum. -/
def expo (l : FVec Ideal S2x1024 .f32) : FVec Ideal S2x1024 .f32 :=
  Host.exp (subf l (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf l (constant S_ .f32 0xFF800000#32) reducesTo_S2x1024_S1024_d0 h_S_)))))

theorem expo_apply (l : FVec Ideal S2x1024 .f32) (i : Fin 2) (j : Fin 1024) : expo l (ix2 i j) = Ideal.exp (l (ix2 i j) - max (l (ix2 0 j)) (l (ix2 1 j))) := by
  pointwise [expo]
  rw [fold_two, minusInf, max_bot_left]

/-- The logits' shares. -/
def shares (l : FVec Ideal S2x1024 .f32) : FVec Ideal S2x1024 .f32 :=
  Host.divf (expo l) (broadcastInDim S2x1024 ![0, 1] bcast_S1x1024_S2x1024_0_1 (broadcastInDim S1x1024 ![1] bcast_S1024_S1x1024_1 (Host.reduceAdd (expo l) (constant S_ .f32 0x00000000#32) reducesTo_S2x1024_S1024_d0 h_S_)))

theorem shares_apply (l : FVec Ideal S2x1024 .f32) (i : Fin 2) (j : Fin 1024) : shares l (ix2 i j) = Ideal.div (expo l (ix2 i j)) (expo l (ix2 0 j) + expo l (ix2 1 j)) := by
  have h (e : FVec Ideal S2x1024 .f32) : (Host.divf e (broadcastInDim S2x1024 ![0, 1] bcast_S1x1024_S2x1024_0_1 (broadcastInDim S1x1024 ![1] bcast_S1024_S1x1024_1 (Host.reduceAdd e (constant S_ .f32 0x00000000#32) reducesTo_S2x1024_S1024_d0 h_S_))) : FVec Ideal S2x1024 .f32) (ix2 i j)
      = Ideal.div (e (ix2 i j)) (∑ r : Fin 2, e (ix2 r j)) := by
    pointwise []
  rw [shares, h, Fin.sum_univ_two]

/-- The running sum's first row. -/
def firstRow (x : FVec Ideal S2x1024 .f32) : FVec Ideal S1024 .f32 :=
  shapeCast _ (extractStridedSlice S1x1024 ![0, 0] (Host.reduceWindowAdd ![2, 1] ![1, 1] ![1, 0] ![0, 0] x (broadcastInDim S_ ![] bcast_S_S_ (constant S_ .f32 0x00000000#32)) reduceWindows_S2x1024_S2x1024_w2s1p1_0_w1s1p0_0 h_S_) slices_S2x1024_S1x1024_0_0) shapeCasts_S1x1024_S1024

/-- The window's one long axis. -/
def windowIdx : (⟨2, ![2, 1]⟩ : Shape).Idx ≃ Fin 2 where
  toFun p := p 0
  invFun n := ix2 n 0
  left_inv p := by
    funext a
    match a with
    | ⟨0, _⟩ => rfl
    | ⟨1, _⟩ => exact Fin.ext (Nat.lt_one_iff.mp (p 1).isLt).symm
  right_inv n := rfl

/-- The running sum's first row is the first row. -/
theorem firstRow_apply (x : FVec Ideal S2x1024 .f32) (j : Fin 1024) : firstRow x (ix1 j) = x (ix2 0 j) := by
  have h (z : FVec Ideal S2x1024 .f32) : (shapeCast S1024 (extractStridedSlice S1x1024 ![0, 0] z slices_S2x1024_S1x1024_0_0) shapeCasts_S1x1024_S1024 : FVec Ideal S1024 .f32) (ix1 j) = z (ix2 0 j) := by
    pointwise []
  unfold firstRow
  refine (h _).trans ?_
  unfold Host.reduceWindowAdd
  rw [Ideal.hostReduceWindowAdd_def, show (broadcastInDim S_ ![] bcast_S_S_ (constant S_ .f32 0x00000000#32) : FVec Ideal S_ .f32) = fun _ => 0 from funext fun z => by show Ideal.ofBits .f32 0x00000000#32 = 0; simp [Ideal.ofBits, Ideal.ieee]]
  unfold Ideal.hostReduceWindowAdd
  rw [Cert.ReferenceIdeal.Scan.window_add, ← Equiv.sum_comp windowIdx.symm, Fin.sum_univ_two]
  have hj := j.isLt
  dsimp only
  rw [dif_neg, dif_pos, zero_add]
  · congr 1
    funext a
    apply Fin.ext
    match a with
    | ⟨0, _⟩ => rfl
    | ⟨1, _⟩ => show j.val * 1 + 0 - 0 = j.val; omega
  · intro a
    match a with
    | ⟨0, _⟩ => show 1 ≤ 0 * 1 + 1 ∧ 0 * 1 + 1 - 1 < 2; omega
    | ⟨1, _⟩ => show 0 ≤ j.val * 1 + 0 ∧ j.val * 1 + 0 - 0 < 1024; omega
  · intro hin
    have h2 : 1 ≤ 0 * 1 + 0 ∧ 0 * 1 + 0 - 1 < 2 := hin 0
    omega

/-- The lower bound. -/
theorem lower_apply (l : FVec Ideal S2x1024 .f32) (j : Fin 1024) : firstRow (shares l) (ix1 j) = low l j := by
  rw [firstRow_apply, shares_apply]
  simp only [expo_apply]
  rfl

/-- A forget gate's logarithm. -/
def forgetArr (lb : FVec Ideal S1024 .f32) (x : FVec Ideal S16384x1024 .f32) : FVec Ideal S16384x1024 .f32 :=
  Host.divf (Host.log (addf (broadcastInDim S16384x1024 ![0, 1] bcast_S1x1024_S16384x1024_0_1 (broadcastInDim S1x1024 ![1] bcast_S1024_S1x1024_1 lb)) (mulf (broadcastInDim S16384x1024 ![0, 1] bcast_S1x1024_S16384x1024_0_1 (broadcastInDim S1x1024 ![1] bcast_S1024_S1x1024_1 (subf (broadcastInDim S1024 ![] bcast_S_S1024 (constant S_ .f32 0x3F800000#32)) lb))) (sgmArr x)))) (broadcastInDim S16384x1024 ![] bcast_S_S16384x1024 (Host.log (constant S_ .f32 0x40000000#32)))

theorem forgetArr_apply (lb : FVec Ideal S1024 .f32) (x : FVec Ideal S16384x1024 .f32) (R : Fin 16384) (j : Fin 1024) :
    forgetArr lb x (ix2 R j) = forget (lb (ix1 j)) (x (ix2 R j)) := by
  pointwise [forgetArr]
  rw [sgmArr_apply, two]
  rfl

/-! ### The thirteen pieces side by side -/

/-- The pieces side by side. -/
def cat (a0 a1 : FVec Ideal S16384x512 .f32) (a2 a3 : FVec Ideal S16384x1024 .f32) (a4 a5 : FVec Ideal S16384x512 .f32) (a6 a7 a8 a9 a10 a11 a12 : FVec Ideal S16384x1024 .f32) : FVec Ideal S16384x11264 .f32 :=
  concatenate S16384x11264 1 [⟨S16384x512, a0⟩, ⟨S16384x512, a1⟩, ⟨S16384x1024, a2⟩, ⟨S16384x1024, a3⟩, ⟨S16384x512, a4⟩, ⟨S16384x512, a5⟩, ⟨S16384x1024, a6⟩, ⟨S16384x1024, a7⟩, ⟨S16384x1024, a8⟩, ⟨S16384x1024, a9⟩, ⟨S16384x1024, a10⟩, ⟨S16384x1024, a11⟩, ⟨S16384x1024, a12⟩] concatenates_S16384x512_S16384x512_S16384x1024_S16384x1024_S16384x512_S16384x512_S16384x1024_S16384x1024_S16384x1024_S16384x1024_S16384x1024_S16384x1024_S16384x1024_S16384x11264_d1

set_option maxHeartbeats 4000000 in
/-- The pieces side by side hold a function of the column as soon as each piece does. -/
theorem cat_apply (a0 a1 : FVec Ideal S16384x512 .f32) (a2 a3 : FVec Ideal S16384x1024 .f32) (a4 a5 : FVec Ideal S16384x512 .f32) (a6 a7 a8 a9 a10 a11 a12 : FVec Ideal S16384x1024 .f32) (f : ℕ → EReal) (R : Fin 16384) (j : Fin 11264)
    (e0 : ∀ (k : Fin 512) (n : ℕ), n = 0 + k.val → a0 (ix2 R k) = f n) (e1 : ∀ (k : Fin 512) (n : ℕ), n = 512 + k.val → a1 (ix2 R k) = f n) (e2 : ∀ (k : Fin 1024) (n : ℕ), n = 1024 + k.val → a2 (ix2 R k) = f n) (e3 : ∀ (k : Fin 1024) (n : ℕ), n = 2048 + k.val → a3 (ix2 R k) = f n) (e4 : ∀ (k : Fin 512) (n : ℕ), n = 3072 + k.val → a4 (ix2 R k) = f n) (e5 : ∀ (k : Fin 512) (n : ℕ), n = 3584 + k.val → a5 (ix2 R k) = f n) (e6 : ∀ (k : Fin 1024) (n : ℕ), n = 4096 + k.val → a6 (ix2 R k) = f n) (e7 : ∀ (k : Fin 1024) (n : ℕ), n = 5120 + k.val → a7 (ix2 R k) = f n) (e8 : ∀ (k : Fin 1024) (n : ℕ), n = 6144 + k.val → a8 (ix2 R k) = f n) (e9 : ∀ (k : Fin 1024) (n : ℕ), n = 7168 + k.val → a9 (ix2 R k) = f n) (e10 : ∀ (k : Fin 1024) (n : ℕ), n = 8192 + k.val → a10 (ix2 R k) = f n) (e11 : ∀ (k : Fin 1024) (n : ℕ), n = 9216 + k.val → a11 (ix2 R k) = f n) (e12 : ∀ (k : Fin 1024) (n : ℕ), n = 10240 + k.val → a12 (ix2 R k) = f n) :
    cat a0 a1 a2 a3 a4 a5 a6 a7 a8 a9 a10 a11 a12 (ix2 R j) = f j.val := by
  have hj := j.isLt
  pointwise [cat]
  by_cases h0 : j.val < 512
  · exact (dif_pos h0).trans (e0 _ _ (by dsimp only; omega))
  refine (dif_neg h0).trans ?_
  by_cases h1 : j.val - 512 < 512
  · exact (dif_pos h1).trans (e1 _ _ (by dsimp only; omega))
  refine (dif_neg h1).trans ?_
  by_cases h2 : j.val - 512 - 512 < 1024
  · exact (dif_pos h2).trans (e2 _ _ (by dsimp only; omega))
  refine (dif_neg h2).trans ?_
  by_cases h3 : j.val - 512 - 512 - 1024 < 1024
  · exact (dif_pos h3).trans (e3 _ _ (by dsimp only; omega))
  refine (dif_neg h3).trans ?_
  by_cases h4 : j.val - 512 - 512 - 1024 - 1024 < 512
  · exact (dif_pos h4).trans (e4 _ _ (by dsimp only; omega))
  refine (dif_neg h4).trans ?_
  by_cases h5 : j.val - 512 - 512 - 1024 - 1024 - 512 < 512
  · exact (dif_pos h5).trans (e5 _ _ (by dsimp only; omega))
  refine (dif_neg h5).trans ?_
  by_cases h6 : j.val - 512 - 512 - 1024 - 1024 - 512 - 512 < 1024
  · exact (dif_pos h6).trans (e6 _ _ (by dsimp only; omega))
  refine (dif_neg h6).trans ?_
  by_cases h7 : j.val - 512 - 512 - 1024 - 1024 - 512 - 512 - 1024 < 1024
  · exact (dif_pos h7).trans (e7 _ _ (by dsimp only; omega))
  refine (dif_neg h7).trans ?_
  by_cases h8 : j.val - 512 - 512 - 1024 - 1024 - 512 - 512 - 1024 - 1024 < 1024
  · exact (dif_pos h8).trans (e8 _ _ (by dsimp only; omega))
  refine (dif_neg h8).trans ?_
  by_cases h9 : j.val - 512 - 512 - 1024 - 1024 - 512 - 512 - 1024 - 1024 - 1024 < 1024
  · exact (dif_pos h9).trans (e9 _ _ (by dsimp only; omega))
  refine (dif_neg h9).trans ?_
  by_cases h10 : j.val - 512 - 512 - 1024 - 1024 - 512 - 512 - 1024 - 1024 - 1024 - 1024 < 1024
  · exact (dif_pos h10).trans (e10 _ _ (by dsimp only; omega))
  refine (dif_neg h10).trans ?_
  by_cases h11 : j.val - 512 - 512 - 1024 - 1024 - 512 - 512 - 1024 - 1024 - 1024 - 1024 - 1024 < 1024
  · exact (dif_pos h11).trans (e11 _ _ (by dsimp only; omega))
  refine (dif_neg h11).trans ?_
  exact e12 _ _ (by dsimp only; omega)

variable (m : (ℓ : Loc nD τ sig) → Buf (Elt Ideal) ℓ) (c : Dev nD)

/-- The reference's pieces. -/
def pieces (X : FVec Ideal S16384x1024 .f32) (W : FVec Ideal S10272x1024 .f32) (uf ub : FVec Ideal S16x512 .f32) (bf bb : FVec Ideal S1x512 .f32) (lf lb : FVec Ideal S2x1024 .f32) : FVec Ideal S16384x11264 .f32 :=
  cat (scaled512 (part512 (scores X W) 0 slices_S16384x10272_S16384x512_0_0))
    (part512 (scores X W) 512 slices_S16384x10272_S16384x512_0_512)
    (part1024 (scores X W) 1024 slices_S16384x10272_S16384x1024_0_1024)
    (siluArr (part1024 (scores X W) 2048 slices_S16384x10272_S16384x1024_0_2048))
    (gateArr (negArg (part16 (scores X W) 3072 slices_S16384x10272_S16384x16_0_3072) uf bf) (subZero (negArg (part16 (scores X W) 3072 slices_S16384x10272_S16384x16_0_3072) uf bf)))
    (gateArr (negArg (part16 (scores X W) 3088 slices_S16384x10272_S16384x16_0_3088) ub bb) (subZero (negArg (part16 (scores X W) 3088 slices_S16384x10272_S16384x16_0_3088) ub bb)))
    (scaled1024 (siluArr (part1024 (scores X W) 3104 slices_S16384x10272_S16384x1024_0_3104)))
    (forgetArr (firstRow (shares lf)) (part1024 (scores X W) 4128 slices_S16384x10272_S16384x1024_0_4128))
    (forgetArr (firstRow (shares lb)) (part1024 (scores X W) 5152 slices_S16384x10272_S16384x1024_0_5152))
    (part1024 (scores X W) 6176 slices_S16384x10272_S16384x1024_0_6176)
    (siluArr (part1024 (scores X W) 7200 slices_S16384x10272_S16384x1024_0_7200))
    (sgmArr (part1024 (scores X W) 8224 slices_S16384x10272_S16384x1024_0_8224))
    (sgmArr (part1024 (scores X W) 9248 slices_S16384x10272_S16384x1024_0_9248))

theorem result_pieces : (res_main_v113 (launchContents m c) : FVec Ideal S16384x11264 .f32)
    = pieces (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  rfl

/-- A score at a column, its row of the weights counted past the low-rank rows. -/
theorem scores_at (X : FVec Ideal S16384x1024 .f32) (W : FVec Ideal S10272x1024 .f32) (R : Fin 16384) (p : Fin 10272) (n : ℕ) (e : p.val = n) :
    scores X W (ix2 R p) = score X W R n := by
  rw [scores_apply]
  unfold score
  subst e
  rw [show Fin.ofNat 10272 p.val = p from Fin.ext (Nat.mod_eq_of_lt p.isLt)]

section Pieces

variable (X : FVec Ideal S16384x1024 .f32) (W : FVec Ideal S10272x1024 .f32) (R : Fin 16384)

theorem at512 (o : ℕ) (s) (ho : o + 512 ≤ 10272) (k : Fin 512) (n : ℕ) (e : o + k.val = rowOf n) : part512 (scores X W) o s (ix2 R k) = score X W R (rowOf n) :=
  (part512_apply _ o s ho R k).trans (scores_at X W R _ _ e)
theorem at1024 (o : ℕ) (s) (ho : o + 1024 ≤ 10272) (k : Fin 1024) (n : ℕ) (e : o + k.val = rowOf n) : part1024 (scores X W) o s (ix2 R k) = score X W R (rowOf n) :=
  (part1024_apply _ o s ho R k).trans (scores_at X W R _ _ e)

/-- A gate's piece. -/
theorem gate_at (o : ℕ) (s) (ho : o + 16 ≤ 10272) (u : FVec Ideal S16x512 .f32) (b : FVec Ideal S1x512 .f32) (k : Fin 512) (n : ℕ) (e : k.val = n) :
    gateArr (negArg (part16 (scores X W) o s) u b) (subZero (negArg (part16 (scores X W) o s) u b)) (ix2 R k) = gate (gateArg X W u b o R n) := by
  have hv : negArg (part16 (scores X W) o s) u b (ix2 R k) = -(gateArg X W u b o R n) := by
    rw [negArg_apply]
    unfold gateArg
    subst e
    rw [show Fin.ofNat 512 k.val = k from Fin.ext (Nat.mod_eq_of_lt k.isLt)]
    refine congrArg (fun z => -(z + b (ix2 0 k))) (Finset.sum_congr rfl fun r _ => ?_)
    rw [part16_apply _ o s ho, scores_at X W R _ (o + r.val) rfl]
  exact gateArr_apply _ _ _ R k hv ((subZero_apply _ R k).trans (congrArg (fun z => z - 0) hv))

theorem forget_at (o : ℕ) (s) (ho : o + 1024 ≤ 10272) (l : FVec Ideal S2x1024 .f32) (k : Fin 1024) (n q : ℕ) (e : o + k.val = rowOf n) (e2 : k.val = q) :
    forgetArr (firstRow (shares l)) (part1024 (scores X W) o s) (ix2 R k) = forget (lowAt l q) (score X W R (rowOf n)) := by
  rw [forgetArr_apply, lower_apply, at1024 X W R o s ho k n e]
  unfold lowAt
  subst e2
  rw [show Fin.ofNat 1024 k.val = k from Fin.ext (Nat.mod_eq_of_lt k.isLt)]

end Pieces

/-- A row number past the low-rank rows. -/
theorem row_low {n p : ℕ} (h : n < 3072) (e : p = n) : p = rowOf n := by unfold rowOf; rw [if_pos h]; exact e
theorem row_high {n p : ℕ} (h : 3072 ≤ n) (e : p = n + 32) : p = rowOf n := by unfold rowOf; rw [if_neg (by omega)]; exact e

set_option maxHeartbeats 4000000 in
/-- The reference's array is the specified one. -/
theorem pieces_eq (X : FVec Ideal S16384x1024 .f32) (W : FVec Ideal S10272x1024 .f32) (uf ub : FVec Ideal S16x512 .f32) (bf bb : FVec Ideal S1x512 .f32) (lf lb : FVec Ideal S2x1024 .f32) :
    pieces X W uf ub bf bb lf lb = projOut X W uf ub bf bb lf lb := by
  funext y
  obtain ⟨R, j, rfl⟩ : ∃ (R : Fin 16384) (j : Fin 11264), y = ix2 R j := ⟨y 0, y 1, by funext a; fin_cases a <;> rfl⟩
  unfold pieces projOut
  refine cat_apply _ _ _ _ _ _ _ _ _ _ _ _ _ (fun n => colSpec (fun n => score X W R (rowOf n)) (gateArg X W uf bf 3072 R) (gateArg X W ub bb 3088 R) (lowAt lf) (lowAt lb) n) R j ?_ ?_ ?_ ?_ ?_ ?_ ?_ ?_ ?_ ?_ ?_ ?_ ?_
  · intro k n hn; have hk := k.isLt; rw [col_scaled (c := n) (by omega)]; exact ((scaled512_apply _ R k).trans (congrArg (fun z => z * c0) (at512 X W R 0 _ (by omega) k n (row_low (by omega) (by omega)))))
  · intro k n hn; have hk := k.isLt; rw [col_plain (c := n) (by omega) (by omega)]; exact (at512 X W R 512 _ (by omega) k n (row_low (by omega) (by omega)))
  · intro k n hn; have hk := k.isLt; rw [col_plain (c := n) (by omega) (by omega)]; exact (at1024 X W R 1024 _ (by omega) k n (row_low (by omega) (by omega)))
  · intro k n hn; have hk := k.isLt; rw [col_silu (c := n) (by omega) (by omega)]; exact ((siluArr_apply _ R k).trans (congrArg (fun z => z * sgm z) (at1024 X W R 2048 _ (by omega) k n (row_low (by omega) (by omega)))))
  · intro k n hn; have hk := k.isLt; rw [col_gate_f (c := n) (by omega) (by omega)]; exact (gate_at X W R 3072 _ (by omega) uf bf k (n - 3072) (by omega))
  · intro k n hn; have hk := k.isLt; rw [col_gate_b (c := n) (by omega) (by omega)]; exact (gate_at X W R 3088 _ (by omega) ub bb k (n - 3584) (by omega))
  · intro k n hn; have hk := k.isLt; rw [col_silu_scaled (c := n) (by omega) (by omega)]; exact ((scaled1024_apply _ R k).trans (congrArg (fun z => z * c0) ((siluArr_apply _ R k).trans (congrArg (fun z => z * sgm z) (at1024 X W R 3104 _ (by omega) k (n - 1024) (row_high (by omega) (by omega)))))))
  · intro k n hn; have hk := k.isLt; rw [col_forget_f (c := n) (by omega) (by omega)]; exact (forget_at X W R 4128 _ (by omega) lf k (n - 1024) (n - 5120) (row_high (by omega) (by omega)) (by omega))
  · intro k n hn; have hk := k.isLt; rw [col_forget_b (c := n) (by omega) (by omega)]; exact (forget_at X W R 5152 _ (by omega) lb k (n - 1024) (n - 6144) (row_high (by omega) (by omega)) (by omega))
  · intro k n hn; have hk := k.isLt; rw [col_plain2 (c := n) (by omega) (by omega)]; exact (at1024 X W R 6176 _ (by omega) k (n - 1024) (row_high (by omega) (by omega)))
  · intro k n hn; have hk := k.isLt; rw [col_silu2 (c := n) (by omega) (by omega)]; exact ((siluArr_apply _ R k).trans (congrArg (fun z => z * sgm z) (at1024 X W R 7200 _ (by omega) k (n - 1024) (row_high (by omega) (by omega)))))
  · intro k n hn; have hk := k.isLt; rw [col_sgm (c := n) (by omega)]; exact ((sgmArr_apply _ R k).trans (congrArg sgm (at1024 X W R 8224 _ (by omega) k (n - 1024) (row_high (by omega) (by omega)))))
  · intro k n hn; have hk := k.isLt; rw [col_sgm (c := n) (by omega)]; exact ((sgmArr_apply _ R k).trans (congrArg sgm (at1024 X W R 9248 _ (by omega) k (n - 1024) (row_high (by omega) (by omega)))))

/-- The reference's result. -/
theorem out_eq : (truncf .bf16 (res_main_v113 (launchContents m c)) bitsLt_bf16_f32 : FVec Ideal S16384x11264 .bf16)
    = projOut (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) :=
  (show (truncf .bf16 (res_main_v113 (launchContents m c)) bitsLt_bf16_f32 : FVec Ideal S16384x11264 .bf16) = (res_main_v113 (launchContents m c) : FVec Ideal S16384x11264 .f32) from rfl).trans
    ((result_pieces m c).trans (pieces_eq _ _ _ _ _ _ _ _))

end Cert.ProjectionsIdeal.Proj

end
-- ==== Proof.Mrg.BitsRun.lean ====
/-
  The steps of the merge for any float values: the inputs stay, the scratch and the output end somehow.
-/
module

public import proofs.«01_k».proof.Proof.Mrg.BitsLaunch

@[expose] public section

set_option maxRecDepth 16384

noncomputable section

namespace Cert.Merge.Mrg

open Cert.Merge Cert.Merge.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A packing step: the slabs stay. -/
theorem castRun (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S1024x1024 .bf16) (harg18 : arg18.IsWhole)
    (va vh vo : Vec F S256x1024 .f32) (wa wh wo : Vec F S1024x1024 .bf16)
    (h1 : k0_cond1 i = 1#1) (h2 : ¬ k0_cond2 i = 1#1) (K : PUnit → sProp 𝕄) :
    iprop(owns (c : Thread nD τ) arg8 fullShare va ∗ owns (c : Thread nD τ) arg9 fullShare vh ∗ owns (c : Thread nD τ) arg10 fullShare vo ∗ owns (c : Thread nD τ) arg16 fullShare wa ∗ owns (c : Thread nD τ) arg17 fullShare wh ∗ owns (c : Thread nD τ) arg18 fullShare wo
        ∗ (iprop(owns (c : Thread nD τ) arg8 fullShare va ∗ owns (c : Thread nD τ) arg9 fullShare vh ∗ owns (c : Thread nD τ) arg10 fullShare vo ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) Set.univ (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_merge_eq_skeleton]; unfold cc0_merge_skel
  unfold owns
  iintro ⟨⟨%f8, %hf8, H8⟩, ⟨%f9, %hf9, H9⟩, ⟨%f10, %hf10, H10⟩, ⟨%f16, %hf16, H16⟩, ⟨%f17, %hf17, H17⟩, ⟨%f18, %hf18, H18⟩, Hk⟩
  obtain rfl := harg8.eq_unread hf8; obtain rfl := harg9.eq_unread hf9; obtain rfl := harg10.eq_unread hf10; obtain rfl := harg16.eq_unread hf16; obtain rfl := harg17.eq_unread hf17; obtain rfl := harg18.eq_unread hf18
  rw [dif_pos h1]
  rw [dif_neg h2]
  sl_exec
  sl_step
  iapply Hk
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

set_option maxHeartbeats 8000000 in
/-- The tile branch: every window but the output's stays. -/
theorem tileRun (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S1024x1024 .bf16) (harg18 : arg18.IsWhole)
    (oa oh ag hg mg mh : Vec F S1024x1024 .bf16) (x : Vec F S1024x1024 .f32) (ga : Vec F S1x256 .f32) (gh : Vec F S1x128 .f32) (g b : Vec F S1x1024 .f32)
    (wa wh wo : Vec F S1024x1024 .bf16)
    (h1 : ¬ k0_cond1 i = 1#1) (h2 : k0_cond2 i = 1#1) (K : PUnit → sProp 𝕄) :
    iprop(owns (c : Thread nD τ) arg1 fullShare oa ∗ owns (c : Thread nD τ) arg2 fullShare oh ∗ owns (c : Thread nD τ) arg3 fullShare ag ∗ owns (c : Thread nD τ) arg4 fullShare hg ∗ owns (c : Thread nD τ) arg5 fullShare mg ∗ owns (c : Thread nD τ) arg6 fullShare mh ∗ owns (c : Thread nD τ) arg7 fullShare x ∗ owns (c : Thread nD τ) arg11 fullShare ga ∗ owns (c : Thread nD τ) arg12 fullShare gh ∗ owns (c : Thread nD τ) arg13 fullShare g ∗ owns (c : Thread nD τ) arg14 fullShare b ∗ (∃ d, owns (c : Thread nD τ) arg15 fullShare d) ∗ owns (c : Thread nD τ) arg16 fullShare wa ∗ owns (c : Thread nD τ) arg17 fullShare wh ∗ owns (c : Thread nD τ) arg18 fullShare wo
        ∗ (iprop(owns (c : Thread nD τ) arg1 fullShare oa ∗ owns (c : Thread nD τ) arg2 fullShare oh ∗ owns (c : Thread nD τ) arg3 fullShare ag ∗ owns (c : Thread nD τ) arg4 fullShare hg ∗ owns (c : Thread nD τ) arg5 fullShare mg ∗ owns (c : Thread nD τ) arg6 fullShare mh ∗ owns (c : Thread nD τ) arg7 fullShare x ∗ owns (c : Thread nD τ) arg11 fullShare ga ∗ owns (c : Thread nD τ) arg12 fullShare gh ∗ owns (c : Thread nD τ) arg13 fullShare g ∗ owns (c : Thread nD τ) arg14 fullShare b ∗ (∃ d, owns (c : Thread nD τ) arg15 fullShare d) ∗ owns (c : Thread nD τ) arg16 fullShare wa ∗ owns (c : Thread nD τ) arg17 fullShare wh ∗ owns (c : Thread nD τ) arg18 fullShare wo) -∗ K ⟨⟩))
      ⊢ wp frame (wpE (defs₀ (F := F)) Variants.none c none) Set.univ (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_merge_eq_skeleton]; unfold cc0_merge_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14; obtain rfl := harg16.eq_unread hf16; obtain rfl := harg17.eq_unread hf17; obtain rfl := harg18.eq_unread hf18
  rw [dif_neg h1]
  rw [dif_pos h2]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _, _; isplitr; swap; · iexact H15
    ipureintro; rfl
  isplitl [H16]
  · iexists _; isplitr; swap; · iexact H16
    ipureintro; exact harg16.read_unread _
  isplitl [H17]
  · iexists _; isplitr; swap; · iexact H17
    ipureintro; exact harg17.read_unread _
  iexists _; isplitr; swap; · iexact H18
  ipureintro; exact harg18.read_unread _

end Cert.Merge.Mrg

end
-- ==== Proof.Mrg.BitsFrame.lean ====
/-
  The frame of the merge (`Merge`): it ends, its arguments are unchanged, every semaphore is back at zero.
-/
module

public import proofs.«01_k».proof.Proof.Mrg.BitsRun
public import Idealize.ShloMosaic.Lib.Claim

@[expose] public section

set_option maxRecDepth 16384

noncomputable section

namespace Cert.Merge.Mrg

open Cert.Merge Cert.Merge.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is stated here of the output window. -/
def unnamedOut : Fin 15 → Bool := fun w => w.val == 14

/-- The pipeline's data: the inputs' blocks stay, the output is not named, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-- What the body is called with at point `t`. -/
def before (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare d))

/-- What the body gives back. -/
def after (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ (∃ d, owns (c : Thread nD τ) (win0_14.stage (cfg0.slots t 14)) fullShare d))

set_option maxHeartbeats 2000000 in
theorem soundCast (c : Dev nD) (t : Fin cfg0.N) (ht : t.val < 4) :
    before m c t ⊢ wp frame (wpE (defs₀ (F := F)) Variants.none c none) Set.univ (bodyAt0 t) (fun _ => after m c t) := by
  unfold before after bodyAt0
  simp only [before_0, before_1, before_2, before_3, before_4, before_5, before_6, before_7, before_8, before_9, before_10, before_11, before_12, before_13]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = Pipeline.ΦA spec0 c from rfl, scratch_eq]
  iintro ⟨⟨⟨⟨%wa, HS0⟩, ⟨%wh, HS1⟩, ⟨%wo, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply (castRun c (grid0.coords t) _ _ _ _ _ _ _ _ _ _ _ _ _ _ _ _ _ _ _ _ _ _ _ _ _ _ _ _ _ _ _ _ _ _ _ _ (iblk m c 7 t) (iblk m c 8 t) (iblk m c 9 t) wa wh wo ((cond1_iff t).mpr (by omega)) (fun h => absurd ((cond2_iff t).mp h) (by omega)) _)
  isplitl [H7]; · iexact H7
  isplitl [H8]; · iexact H8
  isplitl [H9]; · iexact H9
  isplitl [HS0]; · iexact HS0
  isplitl [HS1]; · iexact HS1
  isplitl [HS2]; · iexact HS2
  iintro ⟨H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 2000000 in
theorem soundTile (c : Dev nD) (t : Fin cfg0.N) (ht : 4 ≤ t.val) :
    before m c t ⊢ wp frame (wpE (defs₀ (F := F)) Variants.none c none) Set.univ (bodyAt0 t) (fun _ => after m c t) := by
  unfold before after bodyAt0
  simp only [before_0, before_1, before_2, before_3, before_4, before_5, before_6, before_7, before_8, before_9, before_10, before_11, before_12, before_13]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = Pipeline.ΦA spec0 c from rfl, scratch_eq]
  iintro ⟨⟨⟨⟨%wa, HS0⟩, ⟨%wh, HS1⟩, ⟨%wo, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply (tileRun c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 10 t) (iblk m c 11 t) (iblk m c 12 t) (iblk m c 13 t) wa wh wo (fun h => absurd ((cond1_iff t).mp h) (by omega)) ((cond2_iff t).mpr (by omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  iintro ⟨H0, H1, H2, H3, H4, H5, H6, H10, H11, H12, H13, H14, HS0, HS1, HS2⟩
  isplitl [HS0 HS1 HS2 Hg]
  · isplitl [HS0 HS1 HS2]
    · isplitl [HS0]; · iexists _; iexact HS0
      isplitl [HS1]; · iexists _; iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at every point. -/
theorem sound (c : Dev nD) (t : Fin cfg0.N) :
    before m c t ⊢ wp frame (wpE (defs₀ (F := F)) Variants.none c none) Set.univ (bodyAt0 t) (fun _ => after m c t) := by
  by_cases h : t.val < 4
  · exact soundCast m c t h
  exact soundTile m c t (by omega)

theorem row_eq (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ unnamedOut := fun t => by
  rw [bigSep_W0, bigSep_W0, row_eq]
  exact triple_restated (sound m c t) rfl .rfl fun _ => .rfl

set_option backward.isDefEq.respectTransparency.types false in
/-- The whole run: the arrays and the counters at its end. -/
theorem wholeRun : θ_run defs (onTc (τ := τ) (main (F := F))) (s₀ m ρ) (fun r => (Pipeline.RDat.FramePost (cfgs 0) (fun c => (dats m 0 c).toRForget unnamedOut) (V m)) r ∧ r.2.sem = fun _ => 0) :=
  Pipeline.θ_run_frame_forget_shared (Q' := _) cfgs (dats m) (0 : Fin 1) launch₀0 defs₀ Variants.none unnamedOut m ρ main
    (hbody := fun c => (obligation m c).loose) (hq := fun _ _ _ => rfl)
    (howed := fun _ _ => rfl) (V := V m) (hmain := hmain m Variants.none) (hA := A_eq m) (hΦ := fun _ _ => rfl)

/-- The frame: the arguments are as they were, every counter at zero. -/
theorem frameClaim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and ((θ_run defs _ _).mono
      (fun _ h c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 5 rfl).trans ((A_eq m c 5).trans (V_main_arg2 m c)),
      (Pipeline.RDat.FramePost.arr_in h.1 c 6 rfl).trans ((A_eq m c 6).trans (V_main_arg3 m c)),
      (Pipeline.RDat.FramePost.arr_in h.1 c 7 rfl).trans ((A_eq m c 7).trans (V_main_arg4 m c)),
      (Pipeline.RDat.FramePost.arr_in h.1 c 8 rfl).trans ((A_eq m c 8).trans (V_main_arg5 m c)),
      (Pipeline.RDat.FramePost.arr_in h.1 c 9 rfl).trans ((A_eq m c 9).trans (V_main_arg6 m c)),
      (Pipeline.RDat.FramePost.arr_in h.1 c 10 rfl).trans ((A_eq m c 10).trans (V_main_arg7 m c)),
      (Pipeline.RDat.FramePost.arr_in h.1 c 11 rfl).trans ((A_eq m c 11).trans (V_main_arg8 m c)),
      (Pipeline.RDat.FramePost.arr_in h.1 c 12 rfl).trans ((A_eq m c 12).trans (V_main_arg9 m c)),
      (Pipeline.RDat.FramePost.arr_in h.1 c 13 rfl).trans ((A_eq m c 13).trans (V_main_arg10 m c))⟩) (wholeRun m ρ))
    ((θ_run defs _ _).mono (fun _ h => h.2) (wholeRun m ρ))

end Cert.Merge.Mrg

end
-- ==== Proof.Mrg.Launch.lean ====
/-
  The launch of the merge (`MergeIdeal`): the scratch named, and where each branch of the body is taken.
-/
module

public import proofs.«01_k».proof.Proof.Gen.MergeIdeal.Frame
public import proofs.«01_k».proof.Proof.Gen.MergeIdeal.Skeleton

@[expose] public section

set_option maxRecDepth 16384

noncomputable section

namespace Cert.MergeIdeal.Mrg

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three scratch arrays: the three weights, packed. -/
abbrev scr0 : Memref sig .tc .vmem S1024x1024 .bf16 := Memref.whole cc0_scratch0
abbrev scr1 : Memref sig .tc .vmem S1024x1024 .bf16 := Memref.whole cc0_scratch1
abbrev scr2 : Memref sig .tc .vmem S1024x1024 .bf16 := Memref.whole cc0_scratch2

/-- What the pipeline hands the body besides its windows: the scratch at some contents and the generator register. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

theorem cond1_iff : ∀ t : Fin grid0.N, k0_cond1 (grid0.coords t) = 1#1 ↔ t.val < 4 := by decide +kernel
theorem cond2_iff : ∀ t : Fin grid0.N, k0_cond2 (grid0.coords t) = 1#1 ↔ 4 ≤ t.val := by decide +kernel
theorem off1_eq : ∀ t : Fin grid0.N, k0_off1 (grid0.coords t) = ![256 * t.val, 0] := by decide +kernel

end Cert.MergeIdeal.Mrg

end
-- ==== Proof.Mrg.Scalars.lean ====
/-
  One row of the merge over the extended reals: the two attention rows normalised head by head and gated, the two
  products mixed by their gates, the last product added to the scaled input, and the sum normalised.
-/
module

public import Idealize.ShloMosaic.Lib.Pointwise

@[expose] public section

noncomputable section

namespace Cert.Mrg

open Idealize.ShloMosaic

/-- The small number under the heads' root. -/
def epsHead : EReal := Ideal.ofBits FTy.f32 0x358637BD#32
/-- The small number under the last root. -/
def epsLast : EReal := Ideal.ofBits FTy.f32 0x3727C5AC#32
/-- The factor on the input. -/
def alpha : EReal := Ideal.ofBits FTy.f32 0x3F9837F0#32
/-- The length of a head of the first attention, as a float word. -/
def len256 : EReal := Ideal.ofBits FTy.f32 0x43800000#32
/-- The length of a head of the second attention. -/
def len128 : EReal := Ideal.ofBits FTy.f32 0x43000000#32
/-- The length of a row. -/
def len1024 : EReal := Ideal.ofBits FTy.f32 0x44800000#32

/-- An entry over the root of its head's mean square, times the gain. -/
def unitEntry {n : ℕ} (len : EReal) (h : Fin n → EReal) (e g : EReal) : EReal :=
  e * Ideal.rsqrt (Ideal.div (∑ d : Fin n, h d * h d) len + epsHead) * g

/-- The first attention's row, normalised over heads of 256 columns. -/
def headsA (o : Fin 1024 → EReal) (g : Fin 256 → EReal) (j : Fin 1024) : EReal :=
  unitEntry len256 (fun d : Fin 256 => o (Fin.ofNat 1024 (256 * (j.val / 256) + d.val))) (o j) (g (Fin.ofNat 256 j.val))

/-- The second attention's row, normalised over heads of 128 columns. -/
def headsH (o : Fin 1024 → EReal) (g : Fin 128 → EReal) (j : Fin 1024) : EReal :=
  unitEntry len128 (fun d : Fin 128 => o (Fin.ofNat 1024 (128 * (j.val / 128) + d.val))) (o j) (g (Fin.ofNat 128 j.val))

/-- The two products of the gated rows, mixed by their gates. -/
def mixRow (na nh mg mh : Fin 1024 → EReal) (wa wh : Fin 1024 → Fin 1024 → EReal) (j : Fin 1024) : EReal :=
  mg j * (∑ d : Fin 1024, na d * wa d j) + mh j * (∑ d : Fin 1024, nh d * wh d j)

/-- The scaled input and the last product. -/
def sumRow (y x : Fin 1024 → EReal) (wo : Fin 1024 → Fin 1024 → EReal) (j : Fin 1024) : EReal :=
  alpha * x j + ∑ d : Fin 1024, y d * wo d j

/-- A row less its mean. -/
def centred (z : Fin 1024 → EReal) (j : Fin 1024) : EReal := z j - Ideal.div (∑ d : Fin 1024, z d) len1024

/-- A row normalised to mean zero and variance one, scaled and shifted. -/
def lastNorm (z g b : Fin 1024 → EReal) (j : Fin 1024) : EReal :=
  centred z j * Ideal.rsqrt (Ideal.div (∑ d : Fin 1024, centred z d * centred z d) len1024 + epsLast) * g j + b j

/-- The merged row. -/
def mergeRow (oa oh ag hg mg mh x : Fin 1024 → EReal) (wa wh wo : Fin 1024 → Fin 1024 → EReal) (ga : Fin 256 → EReal) (gh : Fin 128 → EReal)
    (g b : Fin 1024 → EReal) : Fin 1024 → EReal :=
  lastNorm (sumRow (mixRow (fun d => headsA oa ga d * ag d) (fun d => headsH oh gh d * hg d) mg mh wa wh) x wo) g b

end Cert.Mrg

end
-- ==== Proof.Mrg.Payload.lean ====
/-
  The merge's tile: 256 rows of it as one function of the loaded blocks, read row by row, and the four pieces the body
  stores as that function.
-/
module

public import proofs.«01_k».proof.Proof.Gen.MergeIdeal.Skeleton
public import proofs.«01_k».proof.Proof.Mrg.Scalars
public import Idealize.ShloMosaic.Lib.Pointwise

@[expose] public section

set_option maxRecDepth 16384

noncomputable section

namespace Cert.MergeIdeal.Mrg

open Cert.MergeIdeal Cert.MergeIdeal.Gen Cert.Mrg
open Idealize.ShloMosaic Idealize.ShloMosaic.TcCoe

local notation "V" => Vec Ideal

/-- 256 columns over the root of their mean square, times the gain. -/
def nrm256 (x : FVec Ideal S256x256 .f32) (g : V S1x256 .f32) : FVec Ideal S256x256 .f32 :=
  mulf (mulf x (broadcastTo S256x256 (rsqrt (addf (divf (shapeCast S256x1 (multiReduction (s := S256x256) .add [1] S256 (mulf x x) 0x00000000#32 reduces_S256x256_S256 (.inl rfl) rfl) shapeCasts_S256_S256x1)
    (broadcast S256x1 (Scalar.ofBits .f32 0x43800000#32 : Ideal .f32))) (broadcast S256x1 (Scalar.ofBits .f32 0x358637BD#32 : Ideal .f32)))) broadcasts_S256x1_S256x256))
    (broadcastTo S256x256 g broadcasts_S1x256_S256x256)

theorem nrm256_apply (x : FVec Ideal S256x256 .f32) (g : V S1x256 .f32) (i : Fin 256) (j : Fin 256) :
    nrm256 x g (ix2 i j) = unitEntry len256 (fun d : Fin 256 => x (ix2 i d)) (x (ix2 i j)) (g (ix2 0 j)) := by
  pointwise [nrm256, unitEntry, len256, epsHead]

/-- 128 columns over the root of their mean square, times the gain. -/
def nrm128 (x : FVec Ideal S256x128 .f32) (g : V S1x128 .f32) : FVec Ideal S256x128 .f32 :=
  mulf (mulf x (broadcastTo S256x128 (rsqrt (addf (divf (shapeCast S256x1 (multiReduction (s := S256x128) .add [1] S256 (mulf x x) 0x00000000#32 reduces_S256x128_S256 (.inl rfl) rfl) shapeCasts_S256_S256x1)
    (broadcast S256x1 (Scalar.ofBits .f32 0x43000000#32 : Ideal .f32))) (broadcast S256x1 (Scalar.ofBits .f32 0x358637BD#32 : Ideal .f32)))) broadcasts_S256x1_S256x128))
    (broadcastTo S256x128 g broadcasts_S1x128_S256x128)

theorem nrm128_apply (x : FVec Ideal S256x128 .f32) (g : V S1x128 .f32) (i : Fin 256) (j : Fin 128) :
    nrm128 x g (ix2 i j) = unitEntry len128 (fun d : Fin 128 => x (ix2 i d)) (x (ix2 i j)) (g (ix2 0 j)) := by
  pointwise [nrm128, unitEntry, len128, epsHead]

/-- The heads of 256 columns normalised, side by side, times their gate. -/
def gatedA (o : V S256x1024 .bf16) (a : V S256x1024 .bf16) (g : V S1x256 .f32) : FVec Ideal S256x1024 .bf16 :=
  truncf .bf16 (mulf (concatenate S256x1024 1 [⟨S256x256, nrm256 (extractStridedSlice S256x256 ![0, 0] (extf .f32 o bitsLt_bf16_f32 : FVec Ideal S256x1024 .f32) slices_S256x1024_o0_0_S256x256) g⟩, ⟨S256x256, nrm256 (extractStridedSlice S256x256 ![0, 256] (extf .f32 o bitsLt_bf16_f32 : FVec Ideal S256x1024 .f32) slices_S256x1024_o0_256_S256x256) g⟩, ⟨S256x256, nrm256 (extractStridedSlice S256x256 ![0, 512] (extf .f32 o bitsLt_bf16_f32 : FVec Ideal S256x1024 .f32) slices_S256x1024_o0_512_S256x256) g⟩, ⟨S256x256, nrm256 (extractStridedSlice S256x256 ![0, 768] (extf .f32 o bitsLt_bf16_f32 : FVec Ideal S256x1024 .f32) slices_S256x1024_o0_768_S256x256) g⟩] concatenates_S256x256_S256x256_S256x256_S256x256_S256x1024_d1 : FVec Ideal S256x1024 .f32) (extf .f32 a bitsLt_bf16_f32)) bitsLt_bf16_f32

theorem slice256 (o : V S256x1024 .bf16) (k : ℕ) (s : S256x1024.Slices ![0, k] S256x256) (hk : k + 256 ≤ 1024) (i : Fin 256) (d : Fin 256) :
    (extractStridedSlice S256x256 ![0, k] (extf .f32 o bitsLt_bf16_f32 : FVec Ideal S256x1024 .f32) s) (ix2 i d) = o (ix2 i ⟨k + d.val, by omega⟩) := by
  pointwise []

/-- One head of the row. -/
theorem head256 (o : V S256x1024 .bf16) (g : V S1x256 .f32) (k : ℕ) (hk : k < 4) (s : S256x1024.Slices ![0, 256 * k] S256x256) (i : Fin 256) (j : Fin 1024) (j' : Fin 256)
    (hj : j.val = 256 * k + j'.val) :
    nrm256 (extractStridedSlice S256x256 ![0, 256 * k] (extf .f32 o bitsLt_bf16_f32 : FVec Ideal S256x1024 .f32) s) g (ix2 i j')
      = headsA (fun d => o (ix2 i d)) (fun d => g (ix2 0 d)) j := by
  have hj' := j'.isLt
  rw [nrm256_apply, headsA]
  refine congr (congr (congrArg (unitEntry len256) (funext fun d => ?_)) ?_) ?_
  · have hd := d.isLt
    refine (slice256 o (256 * k) s (by omega) i d).trans (congrArg (fun e => o (ix2 i e)) (Fin.ext ?_))
    show 256 * k + d.val = (256 * (j.val / 256) + d.val) % 1024
    omega
  · refine (slice256 o (256 * k) s (by omega) i j').trans (congrArg (fun e => o (ix2 i e)) (Fin.ext hj.symm))
  · refine congrArg (fun e => g (ix2 0 e)) (Fin.ext ?_)
    show j'.val = j.val % 256
    omega

theorem gatedA_apply (o a : V S256x1024 .bf16) (g : V S1x256 .f32) (i : Fin 256) (j : Fin 1024) :
    gatedA o a g (ix2 i j) = headsA (fun d => o (ix2 i d)) (fun d => g (ix2 0 d)) j * a (ix2 i j) := by
  have hj := j.isLt
  pointwise [gatedA]
  refine congrArg (· * a (ix2 i j)) ?_
  split
  · exact head256 o g 0 (by norm_num) slices_S256x1024_o0_0_S256x256 i j _ (by show j.val = _; simp only []; omega)
  split
  · exact head256 o g 1 (by norm_num) slices_S256x1024_o0_256_S256x256 i j _ (by show j.val = _; simp only []; omega)
  split
  · exact head256 o g 2 (by norm_num) slices_S256x1024_o0_512_S256x256 i j _ (by show j.val = _; simp only []; omega)
  exact head256 o g 3 (by norm_num) slices_S256x1024_o0_768_S256x256 i j _ (by show j.val = _; simp only []; omega)

/-- The heads of 128 columns normalised, side by side, times their gate. -/
def gatedH (o : V S256x1024 .bf16) (a : V S256x1024 .bf16) (g : V S1x128 .f32) : FVec Ideal S256x1024 .bf16 :=
  truncf .bf16 (mulf (concatenate S256x1024 1 [⟨S256x128, nrm128 (extractStridedSlice S256x128 ![0, 0] (extf .f32 o bitsLt_bf16_f32 : FVec Ideal S256x1024 .f32) slices_S256x1024_o0_0_S256x128) g⟩, ⟨S256x128, nrm128 (extractStridedSlice S256x128 ![0, 128] (extf .f32 o bitsLt_bf16_f32 : FVec Ideal S256x1024 .f32) slices_S256x1024_o0_128_S256x128) g⟩, ⟨S256x128, nrm128 (extractStridedSlice S256x128 ![0, 256] (extf .f32 o bitsLt_bf16_f32 : FVec Ideal S256x1024 .f32) slices_S256x1024_o0_256_S256x128) g⟩, ⟨S256x128, nrm128 (extractStridedSlice S256x128 ![0, 384] (extf .f32 o bitsLt_bf16_f32 : FVec Ideal S256x1024 .f32) slices_S256x1024_o0_384_S256x128) g⟩, ⟨S256x128, nrm128 (extractStridedSlice S256x128 ![0, 512] (extf .f32 o bitsLt_bf16_f32 : FVec Ideal S256x1024 .f32) slices_S256x1024_o0_512_S256x128) g⟩, ⟨S256x128, nrm128 (extractStridedSlice S256x128 ![0, 640] (extf .f32 o bitsLt_bf16_f32 : FVec Ideal S256x1024 .f32) slices_S256x1024_o0_640_S256x128) g⟩, ⟨S256x128, nrm128 (extractStridedSlice S256x128 ![0, 768] (extf .f32 o bitsLt_bf16_f32 : FVec Ideal S256x1024 .f32) slices_S256x1024_o0_768_S256x128) g⟩, ⟨S256x128, nrm128 (extractStridedSlice S256x128 ![0, 896] (extf .f32 o bitsLt_bf16_f32 : FVec Ideal S256x1024 .f32) slices_S256x1024_o0_896_S256x128) g⟩] concatenates_S256x128_S256x128_S256x128_S256x128_S256x128_S256x128_S256x128_S256x128_S256x1024_d1 : FVec Ideal S256x1024 .f32) (extf .f32 a bitsLt_bf16_f32)) bitsLt_bf16_f32

theorem slice128 (o : V S256x1024 .bf16) (k : ℕ) (s : S256x1024.Slices ![0, k] S256x128) (hk : k + 128 ≤ 1024) (i : Fin 256) (d : Fin 128) :
    (extractStridedSlice S256x128 ![0, k] (extf .f32 o bitsLt_bf16_f32 : FVec Ideal S256x1024 .f32) s) (ix2 i d) = o (ix2 i ⟨k + d.val, by omega⟩) := by
  pointwise []

/-- One head of the row. -/
theorem head128 (o : V S256x1024 .bf16) (g : V S1x128 .f32) (k : ℕ) (hk : k < 8) (s : S256x1024.Slices ![0, 128 * k] S256x128) (i : Fin 256) (j : Fin 1024) (j' : Fin 128)
    (hj : j.val = 128 * k + j'.val) :
    nrm128 (extractStridedSlice S256x128 ![0, 128 * k] (extf .f32 o bitsLt_bf16_f32 : FVec Ideal S256x1024 .f32) s) g (ix2 i j')
      = headsH (fun d => o (ix2 i d)) (fun d => g (ix2 0 d)) j := by
  have hj' := j'.isLt
  rw [nrm128_apply, headsH]
  refine congr (congr (congrArg (unitEntry len128) (funext fun d => ?_)) ?_) ?_
  · have hd := d.isLt
    refine (slice128 o (128 * k) s (by omega) i d).trans (congrArg (fun e => o (ix2 i e)) (Fin.ext ?_))
    show 128 * k + d.val = (128 * (j.val / 128) + d.val) % 1024
    omega
  · refine (slice128 o (128 * k) s (by omega) i j').trans (congrArg (fun e => o (ix2 i e)) (Fin.ext hj.symm))
  · refine congrArg (fun e => g (ix2 0 e)) (Fin.ext ?_)
    show j'.val = j.val % 128
    omega

theorem gatedH_apply (o a : V S256x1024 .bf16) (g : V S1x128 .f32) (i : Fin 256) (j : Fin 1024) :
    gatedH o a g (ix2 i j) = headsH (fun d => o (ix2 i d)) (fun d => g (ix2 0 d)) j * a (ix2 i j) := by
  have hj := j.isLt
  pointwise [gatedH]
  refine congrArg (· * a (ix2 i j)) ?_
  split
  · exact head128 o g 0 (by norm_num) slices_S256x1024_o0_0_S256x128 i j _ (by show j.val = _; simp only []; omega)
  split
  · exact head128 o g 1 (by norm_num) slices_S256x1024_o0_128_S256x128 i j _ (by show j.val = _; simp only []; omega)
  split
  · exact head128 o g 2 (by norm_num) slices_S256x1024_o0_256_S256x128 i j _ (by show j.val = _; simp only []; omega)
  split
  · exact head128 o g 3 (by norm_num) slices_S256x1024_o0_384_S256x128 i j _ (by show j.val = _; simp only []; omega)
  split
  · exact head128 o g 4 (by norm_num) slices_S256x1024_o0_512_S256x128 i j _ (by show j.val = _; simp only []; omega)
  split
  · exact head128 o g 5 (by norm_num) slices_S256x1024_o0_640_S256x128 i j _ (by show j.val = _; simp only []; omega)
  split
  · exact head128 o g 6 (by norm_num) slices_S256x1024_o0_768_S256x128 i j _ (by show j.val = _; simp only []; omega)
  exact head128 o g 7 (by norm_num) slices_S256x1024_o0_896_S256x128 i j _ (by show j.val = _; simp only []; omega)

/-- The two products mixed by their gates. -/
def mixed (na nh : FVec Ideal S256x1024 .bf16) (wa wh : V S1024x1024 .bf16) (mg mh : V S256x1024 .bf16) : FVec Ideal S256x1024 .bf16 :=
  truncf .bf16 (addf (mulf (extf .f32 mg bitsLt_bf16_f32 : FVec Ideal S256x1024 .f32) (matmul (φ₂ := .bf16) dot_S256x1024_S1024x1024_S256x1024_1_0_0_1_n_n none na wa (constant S256x1024 .f32 0x00000000#32)))
    (mulf (extf .f32 mh bitsLt_bf16_f32 : FVec Ideal S256x1024 .f32) (matmul (φ₂ := .bf16) dot_S256x1024_S1024x1024_S256x1024_1_0_0_1_n_n none nh wh (constant S256x1024 .f32 0x00000000#32)))) bitsLt_bf16_f32

theorem mixed_apply (na nh : FVec Ideal S256x1024 .bf16) (wa wh : V S1024x1024 .bf16) (mg mh : V S256x1024 .bf16) (i : Fin 256) (j : Fin 1024) :
    mixed na nh wa wh mg mh (ix2 i j) = mixRow (fun d => na (ix2 i d)) (fun d => nh (ix2 i d)) (fun d => mg (ix2 i d)) (fun d => mh (ix2 i d))
      (fun d e => wa (ix2 d e)) (fun d e => wh (ix2 d e)) j := by
  pointwise [mixed, mixRow]

/-- The scaled input and the last product. -/
def summed (y : FVec Ideal S256x1024 .bf16) (x : V S256x1024 .f32) (wo : V S1024x1024 .bf16) : FVec Ideal S256x1024 .f32 :=
  addf (mulf (broadcast S256x1024 (Scalar.ofBits .f32 0x3F9837F0#32 : Ideal .f32)) x) (matmul (φ₂ := .bf16) dot_S256x1024_S1024x1024_S256x1024_1_0_0_1_n_n none y wo (constant S256x1024 .f32 0x00000000#32))

theorem summed_apply (y : FVec Ideal S256x1024 .bf16) (x : V S256x1024 .f32) (wo : V S1024x1024 .bf16) (i : Fin 256) (j : Fin 1024) :
    summed y x wo (ix2 i j) = sumRow (fun d => y (ix2 i d)) (fun d => x (ix2 i d)) (fun d e => wo (ix2 d e)) j := by
  pointwise [summed, sumRow, alpha]

/-- The rows' means. -/
def means (z : FVec Ideal S256x1024 .f32) : FVec Ideal S256x1 .f32 :=
  divf (shapeCast S256x1 (multiReduction (s := S256x1024) .add [1] S256 z 0x00000000#32 reduces_S256x1024_S256 (.inl rfl) rfl) shapeCasts_S256_S256x1)
    (broadcast S256x1 (Scalar.ofBits .f32 0x44800000#32 : Ideal .f32))

/-- The rows less their means. -/
def centre (z : FVec Ideal S256x1024 .f32) : FVec Ideal S256x1024 .f32 := subf z (broadcastTo S256x1024 (means z) broadcasts_S256x1_S256x1024)

theorem centre_apply (z : FVec Ideal S256x1024 .f32) (i : Fin 256) (j : Fin 1024) : centre z (ix2 i j) = centred (fun d => z (ix2 i d)) j := by
  pointwise [centre, means, centred, len1024]

/-- The rows normalised, from the centred rows. -/
def scaled (c : FVec Ideal S256x1024 .f32) (g b : V S1x1024 .f32) : FVec Ideal S256x1024 .f32 :=
  addf (mulf (mulf c (broadcastTo S256x1024 (rsqrt (addf (means (mulf c c)) (broadcast S256x1 (Scalar.ofBits .f32 0x3727C5AC#32 : Ideal .f32)))) broadcasts_S256x1_S256x1024))
    (broadcastTo S256x1024 g broadcasts_S1x1024_S256x1024)) (broadcastTo S256x1024 b broadcasts_S1x1024_S256x1024)

theorem scaled_apply (c : FVec Ideal S256x1024 .f32) (g b : V S1x1024 .f32) (i : Fin 256) (j : Fin 1024) :
    scaled c g b (ix2 i j) = c (ix2 i j) * Ideal.rsqrt (Ideal.div (∑ d : Fin 1024, c (ix2 i d) * c (ix2 i d)) len1024 + epsLast) * g (ix2 0 j) + b (ix2 0 j) := by
  pointwise [scaled, means, len1024, epsLast]

/-- 256 rows of the merge. -/
def mergeBlock (oa oh ag hg mg mh : V S256x1024 .bf16) (x : V S256x1024 .f32) (wa wh wo : V S1024x1024 .bf16) (ga : V S1x256 .f32) (gh : V S1x128 .f32)
    (g b : V S1x1024 .f32) : FVec Ideal S256x1024 .f32 :=
  scaled (centre (summed (mixed (gatedA oa ag ga) (gatedH oh hg gh) wa wh mg mh) x wo)) g b

theorem mergeBlock_apply (oa oh ag hg mg mh : V S256x1024 .bf16) (x : V S256x1024 .f32) (wa wh wo : V S1024x1024 .bf16) (ga : V S1x256 .f32) (gh : V S1x128 .f32)
    (g b : V S1x1024 .f32) (i : Fin 256) (j : Fin 1024) :
    mergeBlock oa oh ag hg mg mh x wa wh wo ga gh g b (ix2 i j)
      = mergeRow (fun d => oa (ix2 i d)) (fun d => oh (ix2 i d)) (fun d => ag (ix2 i d)) (fun d => hg (ix2 i d)) (fun d => mg (ix2 i d)) (fun d => mh (ix2 i d))
        (fun d => x (ix2 i d)) (fun d e => wa (ix2 d e)) (fun d e => wh (ix2 d e)) (fun d e => wo (ix2 d e)) (fun d => ga (ix2 0 d)) (fun d => gh (ix2 0 d))
        (fun d => g (ix2 0 d)) (fun d => b (ix2 0 d)) j := by
  unfold mergeBlock mergeRow lastNorm
  rw [scaled_apply]
  simp only [centre_apply, summed_apply, mixed_apply, gatedA_apply, gatedH_apply]

/-! ### The four pieces stored -/

section Pieces

variable (oa oh ag hg mg mh : V S256x1024 .bf16) (x : V S256x1024 .f32) (wa wh wo : V S1024x1024 .bf16) (ga : V S1x256 .f32) (gh : V S1x128 .f32)
  (g b : V S1x1024 .f32) (y : FVec Ideal S256x1024 .bf16)

theorem rowsA0 : k0_pay11 ga (k0_pay6 ag) (k0_pay7 oa ga) (k0_pay8 oa ga) (k0_pay9 oa ga) (k0_pay10 oa) = gatedA oa ag ga := rfl

theorem rowsMix0 : k0_pay25 (k0_pay23 (k0_pay11 ga (k0_pay6 ag) (k0_pay7 oa ga) (k0_pay8 oa ga) (k0_pay9 oa ga) (k0_pay10 oa)) wa mg) (k0_pay24 (k0_pay12 oh) gh (k0_pay13 hg) (k0_pay14 oh gh) (k0_pay17 (k0_pay15 oh) (k0_pay16 gh)) (k0_pay18 (k0_pay12 oh) gh) (k0_pay19 (k0_pay12 oh) gh) (k0_pay20 (k0_pay12 oh) gh) (k0_pay21 (k0_pay12 oh)) (k0_pay22 (k0_pay12 oh)) wh mh) = mixed (gatedA oa ag ga) (gatedH oh hg gh) wa wh mg mh := by
  simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, mixed, gatedA, gatedH, nrm256, nrm128]

theorem rowsOut0 : k0_pay91 y x wo g b = scaled (centre (summed y x wo)) g b := by
  simp only [k0_pay91, scaled, centre, means, summed]

/-- Piece 0 of a tile. -/
theorem piece0 : k0_pay91 (k0_pay25 (k0_pay23 (k0_pay11 ga (k0_pay6 ag) (k0_pay7 oa ga) (k0_pay8 oa ga) (k0_pay9 oa ga) (k0_pay10 oa)) wa mg) (k0_pay24 (k0_pay12 oh) gh (k0_pay13 hg) (k0_pay14 oh gh) (k0_pay17 (k0_pay15 oh) (k0_pay16 gh)) (k0_pay18 (k0_pay12 oh) gh) (k0_pay19 (k0_pay12 oh) gh) (k0_pay20 (k0_pay12 oh) gh) (k0_pay21 (k0_pay12 oh)) (k0_pay22 (k0_pay12 oh)) wh mh)) x wo g b = mergeBlock oa oh ag hg mg mh x wa wh wo ga gh g b :=
  (congrArg (fun y => k0_pay91 y x wo g b) (rowsMix0 oa oh ag hg mg mh wa wh ga gh)).trans (rowsOut0 x wo g b _)

theorem rowsA1 : k0_pay32 (k0_pay26 oa) ga (k0_pay27 ag) (k0_pay28 oa ga) (k0_pay29 oa ga) (k0_pay30 oa) (k0_pay31 ga) = gatedA oa ag ga := rfl

theorem rowsMix1 : k0_pay46 (k0_pay44 (k0_pay33 oh) gh (k0_pay34 hg) (k0_pay35 oh gh) (k0_pay38 gh (k0_pay36 oh) (k0_pay37 oh)) (k0_pay39 (k0_pay33 oh) gh) (k0_pay40 (k0_pay33 oh) gh) (k0_pay41 (k0_pay33 oh) gh) (k0_pay42 (k0_pay33 oh)) (k0_pay43 (k0_pay33 oh)) (Scalar.ofBits .f32 0x358637BD#32) wh) (k0_pay45 (k0_pay32 (k0_pay26 oa) ga (k0_pay27 ag) (k0_pay28 oa ga) (k0_pay29 oa ga) (k0_pay30 oa) (k0_pay31 ga)) wa mg) mh = mixed (gatedA oa ag ga) (gatedH oh hg gh) wa wh mg mh := by
  simp only [k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, mixed, gatedA, gatedH, nrm256, nrm128]

theorem rowsOut1 : k0_pay93 y x k0_pay92 wo g b = scaled (centre (summed y x wo)) g b := by
  simp only [k0_pay92, k0_pay93, scaled, centre, means, summed]

/-- Piece 1 of a tile. -/
theorem piece1 : k0_pay93 (k0_pay46 (k0_pay44 (k0_pay33 oh) gh (k0_pay34 hg) (k0_pay35 oh gh) (k0_pay38 gh (k0_pay36 oh) (k0_pay37 oh)) (k0_pay39 (k0_pay33 oh) gh) (k0_pay40 (k0_pay33 oh) gh) (k0_pay41 (k0_pay33 oh) gh) (k0_pay42 (k0_pay33 oh)) (k0_pay43 (k0_pay33 oh)) (Scalar.ofBits .f32 0x358637BD#32) wh) (k0_pay45 (k0_pay32 (k0_pay26 oa) ga (k0_pay27 ag) (k0_pay28 oa ga) (k0_pay29 oa ga) (k0_pay30 oa) (k0_pay31 ga)) wa mg) mh) x k0_pay92 wo g b = mergeBlock oa oh ag hg mg mh x wa wh wo ga gh g b :=
  (congrArg (fun y => k0_pay93 y x k0_pay92 wo g b) (rowsMix1 oa oh ag hg mg mh wa wh ga gh)).trans (rowsOut1 x wo g b _)

theorem rowsA2 : k0_pay53 (k0_pay47 oa) ga (k0_pay48 ag) (k0_pay49 oa ga) (k0_pay50 oa ga) (k0_pay51 oa) (k0_pay52 oa) = gatedA oa ag ga := rfl

theorem rowsMix2 : k0_pay68 (k0_pay66 (k0_pay54 oh) gh (k0_pay55 hg) (k0_pay56 oh gh) (k0_pay59 gh (k0_pay57 oh) (k0_pay58 oh)) (k0_pay60 (k0_pay54 oh) gh) (k0_pay61 (k0_pay54 oh) gh) (k0_pay62 (k0_pay54 oh) gh) (k0_pay63 (k0_pay54 oh)) (k0_pay64 (k0_pay54 oh)) k0_pay65 wh) (k0_pay67 (k0_pay53 (k0_pay47 oa) ga (k0_pay48 ag) (k0_pay49 oa ga) (k0_pay50 oa ga) (k0_pay51 oa) (k0_pay52 oa)) wa mg) mh = mixed (gatedA oa ag ga) (gatedH oh hg gh) wa wh mg mh := by
  simp only [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, mixed, gatedA, gatedH, nrm256, nrm128]

theorem rowsOut2 : k0_pay96 (k0_pay94 y x wo) (k0_pay95 y x wo) g b = scaled (centre (summed y x wo)) g b := by
  simp only [k0_pay94, k0_pay95, k0_pay96, scaled, centre, means, summed]

/-- Piece 2 of a tile. -/
theorem piece2 : k0_pay96 (k0_pay94 (k0_pay68 (k0_pay66 (k0_pay54 oh) gh (k0_pay55 hg) (k0_pay56 oh gh) (k0_pay59 gh (k0_pay57 oh) (k0_pay58 oh)) (k0_pay60 (k0_pay54 oh) gh) (k0_pay61 (k0_pay54 oh) gh) (k0_pay62 (k0_pay54 oh) gh) (k0_pay63 (k0_pay54 oh)) (k0_pay64 (k0_pay54 oh)) k0_pay65 wh) (k0_pay67 (k0_pay53 (k0_pay47 oa) ga (k0_pay48 ag) (k0_pay49 oa ga) (k0_pay50 oa ga) (k0_pay51 oa) (k0_pay52 oa)) wa mg) mh) x wo) (k0_pay95 (k0_pay68 (k0_pay66 (k0_pay54 oh) gh (k0_pay55 hg) (k0_pay56 oh gh) (k0_pay59 gh (k0_pay57 oh) (k0_pay58 oh)) (k0_pay60 (k0_pay54 oh) gh) (k0_pay61 (k0_pay54 oh) gh) (k0_pay62 (k0_pay54 oh) gh) (k0_pay63 (k0_pay54 oh)) (k0_pay64 (k0_pay54 oh)) k0_pay65 wh) (k0_pay67 (k0_pay53 (k0_pay47 oa) ga (k0_pay48 ag) (k0_pay49 oa ga) (k0_pay50 oa ga) (k0_pay51 oa) (k0_pay52 oa)) wa mg) mh) x wo) g b = mergeBlock oa oh ag hg mg mh x wa wh wo ga gh g b :=
  (congrArg (fun y => k0_pay96 (k0_pay94 y x wo) (k0_pay95 y x wo) g b) (rowsMix2 oa oh ag hg mg mh wa wh ga gh)).trans (rowsOut2 x wo g b _)

theorem rowsA3 : k0_pay75 (k0_pay69 oa) ga (k0_pay70 ag) (k0_pay71 oa ga) (k0_pay72 oa ga) (k0_pay73 oa) (k0_pay74 oa) = gatedA oa ag ga := rfl

theorem rowsMix3 : k0_pay90 (k0_pay87 (k0_pay75 (k0_pay69 oa) ga (k0_pay70 ag) (k0_pay71 oa ga) (k0_pay72 oa ga) (k0_pay73 oa) (k0_pay74 oa)) wa) (k0_pay88 (k0_pay76 oh) gh (k0_pay77 hg) (k0_pay78 oh gh) (k0_pay81 gh (k0_pay79 oh) (k0_pay80 oh) (Scalar.ofBits .f32 0x358637BD#32)) (k0_pay82 (k0_pay76 oh) gh) (k0_pay83 (k0_pay76 oh) gh) (k0_pay84 (k0_pay76 oh) gh) (k0_pay85 (k0_pay76 oh)) (k0_pay86 (k0_pay76 oh)) wh) (k0_pay89 mg) mh = mixed (gatedA oa ag ga) (gatedH oh hg gh) wa wh mg mh := by
  simp only [k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, mixed, gatedA, gatedH, nrm256, nrm128]

theorem rowsOut3 : k0_pay4 (k0_pay97 y x wo) (k0_pay98 y x wo) g b = scaled (centre (summed y x wo)) g b := by
  simp only [k0_pay4, k0_pay97, k0_pay98, scaled, centre, means, summed]

/-- Piece 3 of a tile. -/
theorem piece3 : k0_pay4 (k0_pay97 (k0_pay90 (k0_pay87 (k0_pay75 (k0_pay69 oa) ga (k0_pay70 ag) (k0_pay71 oa ga) (k0_pay72 oa ga) (k0_pay73 oa) (k0_pay74 oa)) wa) (k0_pay88 (k0_pay76 oh) gh (k0_pay77 hg) (k0_pay78 oh gh) (k0_pay81 gh (k0_pay79 oh) (k0_pay80 oh) (Scalar.ofBits .f32 0x358637BD#32)) (k0_pay82 (k0_pay76 oh) gh) (k0_pay83 (k0_pay76 oh) gh) (k0_pay84 (k0_pay76 oh) gh) (k0_pay85 (k0_pay76 oh)) (k0_pay86 (k0_pay76 oh)) wh) (k0_pay89 mg) mh) x wo) (k0_pay98 (k0_pay90 (k0_pay87 (k0_pay75 (k0_pay69 oa) ga (k0_pay70 ag) (k0_pay71 oa ga) (k0_pay72 oa ga) (k0_pay73 oa) (k0_pay74 oa)) wa) (k0_pay88 (k0_pay76 oh) gh (k0_pay77 hg) (k0_pay78 oh gh) (k0_pay81 gh (k0_pay79 oh) (k0_pay80 oh) (Scalar.ofBits .f32 0x358637BD#32)) (k0_pay82 (k0_pay76 oh) gh) (k0_pay83 (k0_pay76 oh) gh) (k0_pay84 (k0_pay76 oh) gh) (k0_pay85 (k0_pay76 oh)) (k0_pay86 (k0_pay76 oh)) wh) (k0_pay89 mg) mh) x wo) g b = mergeBlock oa oh ag hg mg mh x wa wh wo ga gh g b :=
  (congrArg (fun y => k0_pay4 (k0_pay97 y x wo) (k0_pay98 y x wo) g b) (rowsMix3 oa oh ag hg mg mh wa wh ga gh)).trans (rowsOut3 x wo g b _)

end Pieces

theorem cast1_apply (v : V S256x1024 .f32) (i : Fin 256) (j : Fin 1024) : k0_pay1 v (ix2 i j) = v (ix2 i j) := by pointwise [k0_pay1]
theorem cast2_apply (v : V S256x1024 .f32) (i : Fin 256) (j : Fin 1024) : k0_pay2 v (ix2 i j) = v (ix2 i j) := by pointwise [k0_pay2]
theorem cast3_apply (v : V S256x1024 .f32) (i : Fin 256) (j : Fin 1024) : k0_pay3 v (ix2 i j) = v (ix2 i j) := by pointwise [k0_pay3]

end Cert.MergeIdeal.Mrg

end
-- ==== Proof.Mrg.Tile.lean ====
/-
  One tile of the merge: from the packed weights the body's last branch leaves, in the output's block, the merged rows.
-/
module

public import proofs.«01_k».proof.Proof.Mrg.Launch
public import proofs.«01_k».proof.Proof.Mrg.Payload
public import Idealize.ShloMosaic.Lib.WritesUnit
public import Idealize.ShloMosaic.Lib.VecWindow
public import Idealize.ShloMosaic.Lib.WholeRead

@[expose] public section

set_option maxRecDepth 16384

noncomputable section

namespace Cert.MergeIdeal.Mrg

open Cert.MergeIdeal Cert.MergeIdeal.Gen Cert.Mrg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ
local notation "V" => Vec Ideal

/-! ### What a tile holds -/

/-- The merged rows of a tile. -/
def tileOut (oa oh ag hg mg mh : V S1024x1024 .bf16) (x : V S1024x1024 .f32) (ga : V S1x256 .f32) (gh : V S1x128 .f32) (g b : V S1x1024 .f32)
    (wa wh wo : V S1024x1024 .bf16) : V S1024x1024 .f32 := fun y =>
  mergeRow (fun d => oa (ix2 (y 0) d)) (fun d => oh (ix2 (y 0) d)) (fun d => ag (ix2 (y 0) d)) (fun d => hg (ix2 (y 0) d)) (fun d => mg (ix2 (y 0) d)) (fun d => mh (ix2 (y 0) d))
    (fun d => x (ix2 (y 0) d)) (fun d e => wa (ix2 d e)) (fun d e => wh (ix2 d e)) (fun d e => wo (ix2 d e)) (fun d => ga (ix2 0 d)) (fun d => gh (ix2 0 d))
    (fun d => g (ix2 0 d)) (fun d => b (ix2 0 d)) (y 1)

/-! ### Loads of an array held whole -/

/-- A load of a unit-stride rectangle of an array held whole reads it at the rectangle's offset plus the local index. -/
theorem load_at {s : Shape} {e : EltTy} {m : Memref sig .tc .vmem s e} (hm : m.IsWhole) (X : Vec Ideal s e)
    {off size : Fin s.rank → ℕ} (off' : Fin s.rank → ℕ) (inb : ∀ a, off a + size a ≤ s.size a) (heq : off = off')
    (x : (⟨s.rank, size⟩ : Shape).Idx) (y : s.Idx) (hy : ∀ a, (y a).val = off' a + (x a).val) :
    View.readAt (Elt Ideal) m.view (Rect.unit off size inb).toLoadRect (hm.unread X) x = X y := by
  subst heq
  rw [hm.readAt_unread]
  refine congrArg X (funext fun a => Fin.ext ?_)
  show off a + 1 * (x a).val = (y a).val
  rw [hy a, Nat.one_mul]

/-- A load of a whole two-axis array is the array. -/
theorem whole2 {R C : ℕ} {e : EltTy} {m : Memref sig .tc .vmem (⟨2, ![R, C]⟩ : Shape) e} (hm : m.IsWhole) (X : Vec Ideal (⟨2, ![R, C]⟩ : Shape) e)
    (inb : ∀ a, (![0, 0] : Fin 2 → ℕ) a + (⟨2, ![R, C]⟩ : Shape).size a ≤ (⟨2, ![R, C]⟩ : Shape).size a) :
    View.readAt (Elt Ideal) m.view (Rect.unit (s := (⟨2, ![R, C]⟩ : Shape)) ![0, 0] (⟨2, ![R, C]⟩ : Shape).size inb).toLoadRect (hm.unread X) = X := by
  funext y
  refine load_at hm X ![0, 0] inb rfl y y fun a => ?_
  match a with
  | ⟨0, _⟩ => exact (Nat.zero_add _).symm
  | ⟨1, _⟩ => exact (Nat.zero_add _).symm

/-- A load of 256 rows. -/
theorem rows_at {e : EltTy} {m : Memref sig .tc .vmem S1024x1024 e} (hm : m.IsWhole) (X : Vec Ideal S1024x1024 e) (k : ℕ)
    {off : Fin 2 → ℕ} {inb} (heq : off = ![256 * k, 0]) (i : Fin 256) (d : Fin 1024) (h : 256 * k + i.val < 1024) :
    View.readAt (Elt Ideal) m.view (Rect.unit (s := S1024x1024) off S256x1024.size inb).toLoadRect (hm.unread X) (ix2 i d) = X (ix2 ⟨256 * k + i.val, h⟩ d) := by
  refine load_at hm X ![256 * k, 0] inb heq _ _ fun a => ?_
  match a with
  | ⟨0, _⟩ => rfl
  | ⟨1, _⟩ => exact (Nat.zero_add _).symm

/-- 256 rows of the merge, from loads of 256 rows and of whole arrays, are the tile's rows. -/
theorem mergeBlock_rows {oa' oh' ag' hg' mg' mh' : V S256x1024 .bf16} {x' : V S256x1024 .f32} {ga' : V S1x256 .f32} {gh' : V S1x128 .f32} {g' b' : V S1x1024 .f32}
    {wa' wh' wo' : V S1024x1024 .bf16} {oa oh ag hg mg mh : V S1024x1024 .bf16} {x : V S1024x1024 .f32} {ga : V S1x256 .f32} {gh : V S1x128 .f32} {g b : V S1x1024 .f32}
    {wa wh wo : V S1024x1024 .bf16} (hga : ga' = ga) (hgh : gh' = gh) (hg1 : g' = g) (hb : b' = b) (hwa : wa' = wa) (hwh : wh' = wh) (hwo : wo' = wo)
    (i : Fin 256) (R j : Fin 1024)
    (h1 : ∀ d, oa' (ix2 i d) = oa (ix2 R d)) (h2 : ∀ d, oh' (ix2 i d) = oh (ix2 R d)) (h3 : ∀ d, ag' (ix2 i d) = ag (ix2 R d)) (h4 : ∀ d, hg' (ix2 i d) = hg (ix2 R d))
    (h5 : ∀ d, mg' (ix2 i d) = mg (ix2 R d)) (h6 : ∀ d, mh' (ix2 i d) = mh (ix2 R d)) (h7 : ∀ d, x' (ix2 i d) = x (ix2 R d)) :
    mergeBlock oa' oh' ag' hg' mg' mh' x' wa' wh' wo' ga' gh' g' b' (ix2 i j) = tileOut oa oh ag hg mg mh x ga gh g b wa wh wo (ix2 R j) := by
  subst hga hgh hg1 hb hwa hwh hwo
  rw [mergeBlock_apply]
  show _ = mergeRow (fun d => oa (ix2 R d)) (fun d => oh (ix2 R d)) (fun d => ag (ix2 R d)) (fun d => hg (ix2 R d)) (fun d => mg (ix2 R d)) (fun d => mh (ix2 R d))
    (fun d => x (ix2 R d)) _ _ _ _ _ _ _ j
  simp only [h1, h2, h3, h4, h5, h6, h7]

/-! ### The stores -/

/-- What the stores leave where the latest stores one block of 256 rows: the piece there, the earlier stores elsewhere. -/
theorem piece_cons {v : View sig .tc .vmem S1024x1024 .f32} {f : v.ty.Contents (Elt Ideal)} (k : ℕ) (hk : k < 4) {off : Fin 2 → ℕ} {inb} {w : S256x1024.Idx → Elt Ideal .f32}
    {L} {out : V S1024x1024 .f32} (heq : off = ![256 * k, 0]) (y : S1024x1024.Idx)
    (hw : ∀ (i : Fin 256) (j : Fin 1024) (h : 256 * k + i.val < 1024), w (ix2 i j) = out (ix2 ⟨256 * k + i.val, h⟩ j))
    (hL : (y 0).val / 256 ≠ k → v.read (Elt Ideal) (v.writes (Elt Ideal) f L) y = out y) :
    v.read (Elt Ideal) (v.writes (Elt Ideal) f (⟨Rect.unit (s := S1024x1024) off S256x1024.size inb, w⟩ :: L)) y = out y := by
  have h0 : (y 0).val < 1024 := (y 0).isLt
  by_cases h : (y 0).val / 256 = k
  · have hj : (y 0).val - 256 * k < 256 := by omega
    have he : y = ix2 ⟨256 * k + ((y 0).val - 256 * k), by omega⟩ (y 1) := by
      funext a
      match a with
      | ⟨0, _⟩ => exact Fin.ext (show (y 0).val = 256 * k + ((y 0).val - 256 * k) by omega)
      | ⟨1, _⟩ => rfl
    refine (View.read_writes_cons_unit_of_mem v f inb w L y (ix2 ⟨(y 0).val - 256 * k, hj⟩ (y 1)) heq fun a => ?_).trans ((hw ⟨(y 0).val - 256 * k, hj⟩ (y 1) (by show 256 * k + ((y 0).val - 256 * k) < 1024; omega)).trans (congrArg out he.symm))
    match a with
    | ⟨0, _⟩ => show (y 0).val = 256 * k + ((y 0).val - 256 * k); omega
    | ⟨1, _⟩ => exact (Nat.zero_add _).symm
  · refine (View.read_writes_cons_unit_of_not_mem v f inb w L y heq 0 ?_).trans (hL h)
    show (y 0).val < 256 * k ∨ 256 * k + 256 ≤ (y 0).val
    omega

set_option maxHeartbeats 8000000 in
/-- The tile branch: every window but the output's stays, the output's block holds the merged rows. -/
theorem tileRun (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S1024x1024 .bf16) (harg18 : arg18.IsWhole)
    (oa oh ag hg mg mh : Vec Ideal S1024x1024 .bf16) (x : Vec Ideal S1024x1024 .f32) (ga : Vec Ideal S1x256 .f32) (gh : Vec Ideal S1x128 .f32) (g b : Vec Ideal S1x1024 .f32)
    (wa wh wo : Vec Ideal S1024x1024 .bf16)
    (h1 : ¬ k0_cond1 i = 1#1) (h2 : k0_cond2 i = 1#1) (K : PUnit → sProp 𝕄) :
    iprop(owns (c : Thread nD τ) arg1 fullShare oa ∗ owns (c : Thread nD τ) arg2 fullShare oh ∗ owns (c : Thread nD τ) arg3 fullShare ag ∗ owns (c : Thread nD τ) arg4 fullShare hg ∗ owns (c : Thread nD τ) arg5 fullShare mg ∗ owns (c : Thread nD τ) arg6 fullShare mh ∗ owns (c : Thread nD τ) arg7 fullShare x ∗ owns (c : Thread nD τ) arg11 fullShare ga ∗ owns (c : Thread nD τ) arg12 fullShare gh ∗ owns (c : Thread nD τ) arg13 fullShare g ∗ owns (c : Thread nD τ) arg14 fullShare b ∗ (∃ d, owns (c : Thread nD τ) arg15 fullShare d) ∗ owns (c : Thread nD τ) arg16 fullShare wa ∗ owns (c : Thread nD τ) arg17 fullShare wh ∗ owns (c : Thread nD τ) arg18 fullShare wo
        ∗ (iprop(owns (c : Thread nD τ) arg1 fullShare oa ∗ owns (c : Thread nD τ) arg2 fullShare oh ∗ owns (c : Thread nD τ) arg3 fullShare ag ∗ owns (c : Thread nD τ) arg4 fullShare hg ∗ owns (c : Thread nD τ) arg5 fullShare mg ∗ owns (c : Thread nD τ) arg6 fullShare mh ∗ owns (c : Thread nD τ) arg7 fullShare x ∗ owns (c : Thread nD τ) arg11 fullShare ga ∗ owns (c : Thread nD τ) arg12 fullShare gh ∗ owns (c : Thread nD τ) arg13 fullShare g ∗ owns (c : Thread nD τ) arg14 fullShare b ∗ owns (c : Thread nD τ) arg15 fullShare (tileOut oa oh ag hg mg mh x ga gh g b wa wh wo) ∗ owns (c : Thread nD τ) arg16 fullShare wa ∗ owns (c : Thread nD τ) arg17 fullShare wh ∗ owns (c : Thread nD τ) arg18 fullShare wo) -∗ K ⟨⟩))
      ⊢ wp frame (wpE (defs₀ (F := Ideal)) Variants.none c none) Set.univ (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_merge_eq_skeleton]; unfold cc0_merge_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14; obtain rfl := harg16.eq_unread hf16; obtain rfl := harg17.eq_unread hf17; obtain rfl := harg18.eq_unread hf18
  rw [dif_neg h1]
  rw [dif_pos h2]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  sl_exec
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro
    funext y
    have hy : (y 0).val < 1024 := (y 0).isLt
    refine piece_cons 3 (by norm_num) rfl y (fun i j h => (congrFun (piece3 _ _ _ _ _ _ _ _ _ _ _ _ _ _) (ix2 i j)).trans (mergeBlock_rows (whole2 harg11 ga _) (whole2 harg12 gh _) (whole2 harg13 g _) (whole2 harg14 b _) (whole2 harg16 wa _) (whole2 harg17 wh _) (whole2 harg18 wo _) i _ j (fun d => rows_at harg1 oa 3 rfl i d h) (fun d => rows_at harg2 oh 3 rfl i d h) (fun d => rows_at harg3 ag 3 rfl i d h) (fun d => rows_at harg4 hg 3 rfl i d h) (fun d => rows_at harg5 mg 3 rfl i d h) (fun d => rows_at harg6 mh 3 rfl i d h) (fun d => rows_at harg7 x 3 rfl i d h))) fun n3 => ?_
    refine piece_cons 2 (by norm_num) rfl y (fun i j h => (congrFun (piece2 _ _ _ _ _ _ _ _ _ _ _ _ _ _) (ix2 i j)).trans (mergeBlock_rows (whole2 harg11 ga _) (whole2 harg12 gh _) (whole2 harg13 g _) (whole2 harg14 b _) (whole2 harg16 wa _) (whole2 harg17 wh _) (whole2 harg18 wo _) i _ j (fun d => rows_at harg1 oa 2 rfl i d h) (fun d => rows_at harg2 oh 2 rfl i d h) (fun d => rows_at harg3 ag 2 rfl i d h) (fun d => rows_at harg4 hg 2 rfl i d h) (fun d => rows_at harg5 mg 2 rfl i d h) (fun d => rows_at harg6 mh 2 rfl i d h) (fun d => rows_at harg7 x 2 rfl i d h))) fun n2 => ?_
    refine piece_cons 1 (by norm_num) rfl y (fun i j h => (congrFun (piece1 _ _ _ _ _ _ _ _ _ _ _ _ _ _) (ix2 i j)).trans (mergeBlock_rows (whole2 harg11 ga _) (whole2 harg12 gh _) (whole2 harg13 g _) (whole2 harg14 b _) (whole2 harg16 wa _) (whole2 harg17 wh _) (whole2 harg18 wo _) i _ j (fun d => rows_at harg1 oa 1 rfl i d h) (fun d => rows_at harg2 oh 1 rfl i d h) (fun d => rows_at harg3 ag 1 rfl i d h) (fun d => rows_at harg4 hg 1 rfl i d h) (fun d => rows_at harg5 mg 1 rfl i d h) (fun d => rows_at harg6 mh 1 rfl i d h) (fun d => rows_at harg7 x 1 rfl i d h))) fun n1 => ?_
    refine piece_cons 0 (by norm_num) rfl y (fun i j h => (congrFun (piece0 _ _ _ _ _ _ _ _ _ _ _ _ _ _) (ix2 i j)).trans (mergeBlock_rows (whole2 harg11 ga _) (whole2 harg12 gh _) (whole2 harg13 g _) (whole2 harg14 b _) (whole2 harg16 wa _) (whole2 harg17 wh _) (whole2 harg18 wo _) i _ j (fun d => rows_at harg1 oa 0 rfl i d h) (fun d => rows_at harg2 oh 0 rfl i d h) (fun d => rows_at harg3 ag 0 rfl i d h) (fun d => rows_at harg4 hg 0 rfl i d h) (fun d => rows_at harg5 mg 0 rfl i d h) (fun d => rows_at harg6 mh 0 rfl i d h) (fun d => rows_at harg7 x 0 rfl i d h))) fun n0 => ?_
    omega
  isplitl [H16]
  · iexists _; isplitr; swap; · iexact H16
    ipureintro; exact harg16.read_unread _
  isplitl [H17]
  · iexists _; isplitr; swap; · iexact H17
    ipureintro; exact harg17.read_unread _
  iexists _; isplitr; swap; · iexact H18
  ipureintro; exact harg18.read_unread _

end Cert.MergeIdeal.Mrg

end
-- ==== Proof.Mrg.Cast.lean ====
/-
  The packing steps of the merge: what each leaves in the scratch arrays.
-/
module

public import proofs.«01_k».proof.Proof.Mrg.Tile

@[expose] public section

set_option maxRecDepth 16384

noncomputable section

namespace Cert.MergeIdeal.Mrg

open Cert.MergeIdeal Cert.MergeIdeal.Gen Cert.Mrg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ
local notation "V" => Vec Ideal

/-- 256 rows replaced. -/
def putRows (w : V S1024x1024 .bf16) (s : ℕ) (v : V S256x1024 .f32) : V S1024x1024 .bf16 := fun y =>
  if h : 256 * s ≤ (y 0).val ∧ (y 0).val < 256 * s + 256 then v (ix2 ⟨(y 0).val - 256 * s, by omega⟩ (y 1)) else w y

/-- 256 rows stored. -/
theorem rows_put {m : Memref sig .tc .vmem S1024x1024 .bf16} (hm : m.IsWhole) {w : V S1024x1024 .bf16} (s : ℕ)
    {off : Fin 2 → ℕ} {inb} {p : S256x1024.Idx → Elt Ideal .bf16} (heq : off = ![256 * s, 0]) {v : V S256x1024 .f32} (hp : ∀ i j, p (ix2 i j) = v (ix2 i j)) :
    m.view.read (Elt Ideal) (m.view.writes (Elt Ideal) (hm.unread w) [⟨Rect.unit (s := S1024x1024) off S256x1024.size inb, p⟩]) = putRows w s v := by
  funext y
  unfold putRows
  split
  · rename_i h
    refine (View.read_writes_cons_unit_of_mem _ _ inb p [] y (ix2 ⟨(y 0).val - 256 * s, by omega⟩ (y 1)) heq fun a => ?_).trans (hp _ _)
    match a with
    | ⟨0, _⟩ => show (y 0).val = 256 * s + ((y 0).val - 256 * s); omega
    | ⟨1, _⟩ => exact (Nat.zero_add _).symm
  · rename_i h
    refine (View.read_writes_cons_unit_of_not_mem _ _ inb p [] y heq 0 ?_).trans (congrFun (hm.read_unread w) y)
    show (y 0).val < 256 * s ∨ 256 * s + 256 ≤ (y 0).val
    omega

set_option maxHeartbeats 4000000 in
/-- A packing step: 256 rows of each weight put into its scratch. -/
theorem castRun (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S1024x1024 .bf16) (harg18 : arg18.IsWhole)
    (va vh vo : Vec Ideal S256x1024 .f32) (wa wh wo : Vec Ideal S1024x1024 .bf16)
    (h1 : k0_cond1 i = 1#1) (h2 : ¬ k0_cond2 i = 1#1) (s : ℕ) (hoff : k0_off1 i = ![256 * s, 0]) (K : PUnit → sProp 𝕄) :
    iprop(owns (c : Thread nD τ) arg8 fullShare va ∗ owns (c : Thread nD τ) arg9 fullShare vh ∗ owns (c : Thread nD τ) arg10 fullShare vo ∗ owns (c : Thread nD τ) arg16 fullShare wa ∗ owns (c : Thread nD τ) arg17 fullShare wh ∗ owns (c : Thread nD τ) arg18 fullShare wo
        ∗ (iprop(owns (c : Thread nD τ) arg8 fullShare va ∗ owns (c : Thread nD τ) arg9 fullShare vh ∗ owns (c : Thread nD τ) arg10 fullShare vo ∗ owns (c : Thread nD τ) arg16 fullShare (putRows wa s va) ∗ owns (c : Thread nD τ) arg17 fullShare (putRows wh s vh) ∗ owns (c : Thread nD τ) arg18 fullShare (putRows wo s vo)) -∗ K ⟨⟩))
      ⊢ wp frame (wpE (defs₀ (F := Ideal)) Variants.none c none) Set.univ (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_merge_eq_skeleton]; unfold cc0_merge_skel
  unfold owns
  iintro ⟨⟨%f8, %hf8, H8⟩, ⟨%f9, %hf9, H9⟩, ⟨%f10, %hf10, H10⟩, ⟨%f16, %hf16, H16⟩, ⟨%f17, %hf17, H17⟩, ⟨%f18, %hf18, H18⟩, Hk⟩
  obtain rfl := harg8.eq_unread hf8; obtain rfl := harg9.eq_unread hf9; obtain rfl := harg10.eq_unread hf10; obtain rfl := harg16.eq_unread hf16; obtain rfl := harg17.eq_unread hf17; obtain rfl := harg18.eq_unread hf18
  rw [dif_pos h1]
  rw [dif_neg h2]
  sl_exec
  sl_step
  iapply Hk
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H16]
  · iexists _; isplitr; swap; · iexact H16
    ipureintro; exact rows_put harg16 s hoff fun p q => (cast1_apply _ p q).trans (congrFun (whole2 harg8 va _) _)
  isplitl [H17]
  · iexists _; isplitr; swap; · iexact H17
    ipureintro; exact rows_put harg17 s hoff fun p q => (cast2_apply _ p q).trans (congrFun (whole2 harg9 vh _) _)
  iexists _; isplitr; swap; · iexact H18
  ipureintro; exact rows_put harg18 s hoff fun p q => (cast3_apply _ p q).trans (congrFun (whole2 harg10 vo _) _)

end Cert.MergeIdeal.Mrg

end
-- ==== Proof.Mrg.Blocks.lean ====
/-
  The blocks the merge's windows stage, read off its arguments.
-/
module

public import proofs.«01_k».proof.Proof.Mrg.Cast
public import proofs.«01_k».proof.Proof.Gen.MergeIdeal.Frame

@[expose] public section

set_option maxRecDepth 16384

noncomputable section

namespace Cert.MergeIdeal.Mrg

open Cert.MergeIdeal Cert.MergeIdeal.Gen Cert.Mrg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ
local notation "V" => Vec Ideal

variable (m : (ℓ : Loc nD τ sig) → Buf (Elt Ideal) ℓ)

/-- The first attention. -/
abbrev oaArr (c : Dev nD) : V S16384x1024 .bf16 := m ((c.tc : Thread nD τ).loc main_arg0)
/-- The second attention. -/
abbrev ohArr (c : Dev nD) : V S16384x1024 .bf16 := m ((c.tc : Thread nD τ).loc main_arg1)
/-- The projections. -/
abbrev pArr (c : Dev nD) : V S16384x11264 .bf16 := m ((c.tc : Thread nD τ).loc main_arg2)
/-- The input. -/
abbrev xArr (c : Dev nD) : V S16384x1024 .f32 := m ((c.tc : Thread nD τ).loc main_arg3)
/-- The first output weights. -/
abbrev waArr (c : Dev nD) : V S1024x1024 .f32 := m ((c.tc : Thread nD τ).loc main_arg4)
/-- The second output weights. -/
abbrev whArr (c : Dev nD) : V S1024x1024 .f32 := m ((c.tc : Thread nD τ).loc main_arg5)
/-- The merging weights. -/
abbrev woArr (c : Dev nD) : V S1024x1024 .f32 := m ((c.tc : Thread nD τ).loc main_arg6)
/-- The first gain. -/
abbrev gaArr (c : Dev nD) : V S1x256 .f32 := m ((c.tc : Thread nD τ).loc main_arg7)
/-- The second gain. -/
abbrev ghArr (c : Dev nD) : V S1x128 .f32 := m ((c.tc : Thread nD τ).loc main_arg8)
/-- The last scale. -/
abbrev gArr (c : Dev nD) : V S1x1024 .f32 := m ((c.tc : Thread nD τ).loc main_arg9)
/-- The last shift. -/
abbrev bArr (c : Dev nD) : V S1x1024 .f32 := m ((c.tc : Thread nD τ).loc main_arg10)

theorem points (t : Fin cfg0.N) : t.val < 20 := t.isLt

theorem index0 : ∀ t : Fin cfg0.N, win0_0.index t 0 = t.val - 4 ∧ win0_0.index t 1 = 0 := by decide +kernel

theorem block0 (c : Dev nD) (t : Fin cfg0.N) (p q : Fin 1024) :
    (iblk m c 0 t : V S1024x1024 .bf16) (ix2 p q) = oaArr m c (ix2 (Fin.ofNat 16384 (1024 * (t.val - 4) + p.val)) q) := by
  have hi := index0 t
  have ht := points t
  have hp := p.isLt
  have hq := q.isLt
  unfold iblk
  rw [View.read_apply]
  show Gen.V m c main_arg0 _ = m (c.tc.loc main_arg0) _
  unfold Gen.V
  refine congrArg _ (funext fun a => Fin.ext ?_)
  match a with
  | ⟨0, _⟩ => show win0_0.index t 0 * 1024 + 1 * p.val = (1024 * (t.val - 4) + p.val) % 16384; rw [hi.1]; omega
  | ⟨1, _⟩ => show win0_0.index t 1 * 1024 + 1 * q.val = q.val; rw [hi.2]; omega

theorem index1 : ∀ t : Fin cfg0.N, win0_1.index t 0 = t.val - 4 ∧ win0_1.index t 1 = 0 := by decide +kernel

theorem block1 (c : Dev nD) (t : Fin cfg0.N) (p q : Fin 1024) :
    (iblk m c 1 t : V S1024x1024 .bf16) (ix2 p q) = ohArr m c (ix2 (Fin.ofNat 16384 (1024 * (t.val - 4) + p.val)) q) := by
  have hi := index1 t
  have ht := points t
  have hp := p.isLt
  have hq := q.isLt
  unfold iblk
  rw [View.read_apply]
  show Gen.V m c main_arg1 _ = m (c.tc.loc main_arg1) _
  unfold Gen.V
  refine congrArg _ (funext fun a => Fin.ext ?_)
  match a with
  | ⟨0, _⟩ => show win0_1.index t 0 * 1024 + 1 * p.val = (1024 * (t.val - 4) + p.val) % 16384; rw [hi.1]; omega
  | ⟨1, _⟩ => show win0_1.index t 1 * 1024 + 1 * q.val = q.val; rw [hi.2]; omega

theorem index2 : ∀ t : Fin cfg0.N, win0_2.index t 0 = t.val - 4 ∧ win0_2.index t 1 = 2 := by decide +kernel

theorem block2 (c : Dev nD) (t : Fin cfg0.N) (p q : Fin 1024) :
    (iblk m c 2 t : V S1024x1024 .bf16) (ix2 p q) = pArr m c (ix2 (Fin.ofNat 16384 (1024 * (t.val - 4) + p.val)) (Fin.ofNat 11264 (2048 + q.val))) := by
  have hi := index2 t
  have ht := points t
  have hp := p.isLt
  have hq := q.isLt
  unfold iblk
  rw [View.read_apply]
  show Gen.V m c main_arg2 _ = m (c.tc.loc main_arg2) _
  unfold Gen.V
  refine congrArg _ (funext fun a => Fin.ext ?_)
  match a with
  | ⟨0, _⟩ => show win0_2.index t 0 * 1024 + 1 * p.val = (1024 * (t.val - 4) + p.val) % 16384; rw [hi.1]; omega
  | ⟨1, _⟩ => show win0_2.index t 1 * 1024 + 1 * q.val = (2048 + q.val) % 11264; rw [hi.2]; omega

theorem index3 : ∀ t : Fin cfg0.N, win0_3.index t 0 = t.val - 4 ∧ win0_3.index t 1 = 8 := by decide +kernel

theorem block3 (c : Dev nD) (t : Fin cfg0.N) (p q : Fin 1024) :
    (iblk m c 3 t : V S1024x1024 .bf16) (ix2 p q) = pArr m c (ix2 (Fin.ofNat 16384 (1024 * (t.val - 4) + p.val)) (Fin.ofNat 11264 (8192 + q.val))) := by
  have hi := index3 t
  have ht := points t
  have hp := p.isLt
  have hq := q.isLt
  unfold iblk
  rw [View.read_apply]
  show Gen.V m c main_arg2 _ = m (c.tc.loc main_arg2) _
  unfold Gen.V
  refine congrArg _ (funext fun a => Fin.ext ?_)
  match a with
  | ⟨0, _⟩ => show win0_3.index t 0 * 1024 + 1 * p.val = (1024 * (t.val - 4) + p.val) % 16384; rw [hi.1]; omega
  | ⟨1, _⟩ => show win0_3.index t 1 * 1024 + 1 * q.val = (8192 + q.val) % 11264; rw [hi.2]; omega

theorem index4 : ∀ t : Fin cfg0.N, win0_4.index t 0 = t.val - 4 ∧ win0_4.index t 1 = 9 := by decide +kernel

theorem block4 (c : Dev nD) (t : Fin cfg0.N) (p q : Fin 1024) :
    (iblk m c 4 t : V S1024x1024 .bf16) (ix2 p q) = pArr m c (ix2 (Fin.ofNat 16384 (1024 * (t.val - 4) + p.val)) (Fin.ofNat 11264 (9216 + q.val))) := by
  have hi := index4 t
  have ht := points t
  have hp := p.isLt
  have hq := q.isLt
  unfold iblk
  rw [View.read_apply]
  show Gen.V m c main_arg2 _ = m (c.tc.loc main_arg2) _
  unfold Gen.V
  refine congrArg _ (funext fun a => Fin.ext ?_)
  match a with
  | ⟨0, _⟩ => show win0_4.index t 0 * 1024 + 1 * p.val = (1024 * (t.val - 4) + p.val) % 16384; rw [hi.1]; omega
  | ⟨1, _⟩ => show win0_4.index t 1 * 1024 + 1 * q.val = (9216 + q.val) % 11264; rw [hi.2]; omega

theorem index5 : ∀ t : Fin cfg0.N, win0_5.index t 0 = t.val - 4 ∧ win0_5.index t 1 = 10 := by decide +kernel

theorem block5 (c : Dev nD) (t : Fin cfg0.N) (p q : Fin 1024) :
    (iblk m c 5 t : V S1024x1024 .bf16) (ix2 p q) = pArr m c (ix2 (Fin.ofNat 16384 (1024 * (t.val - 4) + p.val)) (Fin.ofNat 11264 (10240 + q.val))) := by
  have hi := index5 t
  have ht := points t
  have hp := p.isLt
  have hq := q.isLt
  unfold iblk
  rw [View.read_apply]
  show Gen.V m c main_arg2 _ = m (c.tc.loc main_arg2) _
  unfold Gen.V
  refine congrArg _ (funext fun a => Fin.ext ?_)
  match a with
  | ⟨0, _⟩ => show win0_5.index t 0 * 1024 + 1 * p.val = (1024 * (t.val - 4) + p.val) % 16384; rw [hi.1]; omega
  | ⟨1, _⟩ => show win0_5.index t 1 * 1024 + 1 * q.val = (10240 + q.val) % 11264; rw [hi.2]; omega

theorem index6 : ∀ t : Fin cfg0.N, win0_6.index t 0 = t.val - 4 ∧ win0_6.index t 1 = 0 := by decide +kernel

theorem block6 (c : Dev nD) (t : Fin cfg0.N) (p q : Fin 1024) :
    (iblk m c 6 t : V S1024x1024 .f32) (ix2 p q) = xArr m c (ix2 (Fin.ofNat 16384 (1024 * (t.val - 4) + p.val)) q) := by
  have hi := index6 t
  have ht := points t
  have hp := p.isLt
  have hq := q.isLt
  unfold iblk
  rw [View.read_apply]
  show Gen.V m c main_arg3 _ = m (c.tc.loc main_arg3) _
  unfold Gen.V
  refine congrArg _ (funext fun a => Fin.ext ?_)
  match a with
  | ⟨0, _⟩ => show win0_6.index t 0 * 1024 + 1 * p.val = (1024 * (t.val - 4) + p.val) % 16384; rw [hi.1]; omega
  | ⟨1, _⟩ => show win0_6.index t 1 * 1024 + 1 * q.val = q.val; rw [hi.2]; omega

theorem index7 : ∀ t : Fin cfg0.N, win0_7.index t 0 = min t.val 3 ∧ win0_7.index t 1 = 0 := by decide +kernel

theorem block7 (c : Dev nD) (t : Fin cfg0.N) (ht : t.val < 4) (p : Fin 256) (q : Fin 1024) :
    (iblk m c 7 t : V S256x1024 .f32) (ix2 p q) = waArr m c (ix2 (Fin.ofNat 1024 (256 * t.val + p.val)) q) := by
  have hi := index7 t
  have hp := p.isLt
  unfold iblk
  rw [View.read_apply]
  show Gen.V m c main_arg4 _ = m (c.tc.loc main_arg4) _
  unfold Gen.V
  refine congrArg _ (funext fun a => Fin.ext ?_)
  match a with
  | ⟨0, _⟩ => show win0_7.index t 0 * 256 + 1 * p.val = (256 * t.val + p.val) % 1024; rw [hi.1]; omega
  | ⟨1, _⟩ => show win0_7.index t 1 * 1024 + 1 * q.val = q.val; rw [hi.2]; omega

theorem index8 : ∀ t : Fin cfg0.N, win0_8.index t 0 = min t.val 3 ∧ win0_8.index t 1 = 0 := by decide +kernel

theorem block8 (c : Dev nD) (t : Fin cfg0.N) (ht : t.val < 4) (p : Fin 256) (q : Fin 1024) :
    (iblk m c 8 t : V S256x1024 .f32) (ix2 p q) = whArr m c (ix2 (Fin.ofNat 1024 (256 * t.val + p.val)) q) := by
  have hi := index8 t
  have hp := p.isLt
  unfold iblk
  rw [View.read_apply]
  show Gen.V m c main_arg5 _ = m (c.tc.loc main_arg5) _
  unfold Gen.V
  refine congrArg _ (funext fun a => Fin.ext ?_)
  match a with
  | ⟨0, _⟩ => show win0_8.index t 0 * 256 + 1 * p.val = (256 * t.val + p.val) % 1024; rw [hi.1]; omega
  | ⟨1, _⟩ => show win0_8.index t 1 * 1024 + 1 * q.val = q.val; rw [hi.2]; omega

theorem index9 : ∀ t : Fin cfg0.N, win0_9.index t 0 = min t.val 3 ∧ win0_9.index t 1 = 0 := by decide +kernel

theorem block9 (c : Dev nD) (t : Fin cfg0.N) (ht : t.val < 4) (p : Fin 256) (q : Fin 1024) :
    (iblk m c 9 t : V S256x1024 .f32) (ix2 p q) = woArr m c (ix2 (Fin.ofNat 1024 (256 * t.val + p.val)) q) := by
  have hi := index9 t
  have hp := p.isLt
  unfold iblk
  rw [View.read_apply]
  show Gen.V m c main_arg6 _ = m (c.tc.loc main_arg6) _
  unfold Gen.V
  refine congrArg _ (funext fun a => Fin.ext ?_)
  match a with
  | ⟨0, _⟩ => show win0_9.index t 0 * 256 + 1 * p.val = (256 * t.val + p.val) % 1024; rw [hi.1]; omega
  | ⟨1, _⟩ => show win0_9.index t 1 * 1024 + 1 * q.val = q.val; rw [hi.2]; omega

theorem index10 : ∀ t : Fin cfg0.N, win0_10.index t 0 = 0 ∧ win0_10.index t 1 = 0 := by decide +kernel

theorem block10 (c : Dev nD) (t : Fin cfg0.N) : (iblk m c 10 t : V S1x256 .f32) = gaArr m c := by
  have hi := index10 t
  funext y
  unfold iblk
  rw [View.read_apply]
  show Gen.V m c main_arg7 _ = m (c.tc.loc main_arg7) _
  unfold Gen.V
  refine congrArg _ (funext fun a => Fin.ext ?_)
  match a with
  | ⟨0, _⟩ => show win0_10.index t 0 * 1 + 1 * (y 0).val = (y 0).val; rw [hi.1]; omega
  | ⟨1, _⟩ => show win0_10.index t 1 * 256 + 1 * (y 1).val = (y 1).val; rw [hi.2]; omega

theorem index11 : ∀ t : Fin cfg0.N, win0_11.index t 0 = 0 ∧ win0_11.index t 1 = 0 := by decide +kernel

theorem block11 (c : Dev nD) (t : Fin cfg0.N) : (iblk m c 11 t : V S1x128 .f32) = ghArr m c := by
  have hi := index11 t
  funext y
  unfold iblk
  rw [View.read_apply]
  show Gen.V m c main_arg8 _ = m (c.tc.loc main_arg8) _
  unfold Gen.V
  refine congrArg _ (funext fun a => Fin.ext ?_)
  match a with
  | ⟨0, _⟩ => show win0_11.index t 0 * 1 + 1 * (y 0).val = (y 0).val; rw [hi.1]; omega
  | ⟨1, _⟩ => show win0_11.index t 1 * 128 + 1 * (y 1).val = (y 1).val; rw [hi.2]; omega

theorem index12 : ∀ t : Fin cfg0.N, win0_12.index t 0 = 0 ∧ win0_12.index t 1 = 0 := by decide +kernel

theorem block12 (c : Dev nD) (t : Fin cfg0.N) : (iblk m c 12 t : V S1x1024 .f32) = gArr m c := by
  have hi := index12 t
  funext y
  unfold iblk
  rw [View.read_apply]
  show Gen.V m c main_arg9 _ = m (c.tc.loc main_arg9) _
  unfold Gen.V
  refine congrArg _ (funext fun a => Fin.ext ?_)
  match a with
  | ⟨0, _⟩ => show win0_12.index t 0 * 1 + 1 * (y 0).val = (y 0).val; rw [hi.1]; omega
  | ⟨1, _⟩ => show win0_12.index t 1 * 1024 + 1 * (y 1).val = (y 1).val; rw [hi.2]; omega

theorem index13 : ∀ t : Fin cfg0.N, win0_13.index t 0 = 0 ∧ win0_13.index t 1 = 0 := by decide +kernel

theorem block13 (c : Dev nD) (t : Fin cfg0.N) : (iblk m c 13 t : V S1x1024 .f32) = bArr m c := by
  have hi := index13 t
  funext y
  unfold iblk
  rw [View.read_apply]
  show Gen.V m c main_arg10 _ = m (c.tc.loc main_arg10) _
  unfold Gen.V
  refine congrArg _ (funext fun a => Fin.ext ?_)
  match a with
  | ⟨0, _⟩ => show win0_13.index t 0 * 1 + 1 * (y 0).val = (y 0).val; rw [hi.1]; omega
  | ⟨1, _⟩ => show win0_13.index t 1 * 1024 + 1 * (y 1).val = (y 1).val; rw [hi.2]; omega

/-! ### What the scratch holds -/

/-- A weight, packed. -/
def packed (W : V S1024x1024 .f32) : V S1024x1024 .bf16 := fun y => W y

/-- A packed weight after `n` points. -/
def Held (W : V S1024x1024 .f32) (n : ℕ) (w : V S1024x1024 .bf16) : Prop := ∀ y : S1024x1024.Idx, (y 0).val < 256 * n → w y = packed W y

/-- 256 rows packed. -/
theorem held_rows {W : V S1024x1024 .f32} {n : ℕ} {w : V S1024x1024 .bf16} (h : Held W n w) {v : V S256x1024 .f32}
    (hv : ∀ (p : Fin 256) (q : Fin 1024), v (ix2 p q) = W (ix2 (Fin.ofNat 1024 (256 * n + p.val)) q)) : Held W (n + 1) (putRows w n v) := by
  intro y hy
  have h0 : (y 0).val < 1024 := (y 0).isLt
  unfold putRows
  split
  · rename_i e
    refine (hv _ _).trans ?_
    unfold packed
    refine congrArg W (funext fun a => Fin.ext ?_)
    match a with
    | ⟨0, _⟩ => show (256 * n + ((y 0).val - 256 * n)) % 1024 = (y 0).val; omega
    | ⟨1, _⟩ => rfl
  · exact h y (by omega)

/-- A weight packed through. -/
theorem held_all {W : V S1024x1024 .f32} {n : ℕ} (hn : 4 ≤ n) {w : V S1024x1024 .bf16} (h : Held W n w) : w = packed W :=
  funext fun y => h y (by have : (y 0).val < 1024 := (y 0).isLt; omega)

end Cert.MergeIdeal.Mrg

end
-- ==== Proof.Mrg.ValueFrame.lean ====
/-
  The merge's run over the extended reals, its output tracked.
-/
module

public import proofs.«01_k».proof.Proof.Mrg.Blocks
public import Idealize.ShloMosaic.Lib.Claim

@[expose] public section

set_option maxRecDepth 16384

noncomputable section

namespace Cert.MergeIdeal.Mrg

open Cert.MergeIdeal Cert.MergeIdeal.Gen Cert.Mrg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scratch between two points, and the generator register. -/
def inv (c : Dev nD) (n : ℕ) : sProp 𝕄 :=
  iprop(∃ wa, ∃ wh, ∃ wo, ⌜Held (waArr m c) n wa ∧ Held (whArr m c) n wh ∧ Held (woArr m c) n wo⌝
    ∗ (owns (c : Thread nD τ) scr0 fullShare wa ∗ owns (c : Thread nD τ) scr1 fullShare wh ∗ owns (c : Thread nD τ) scr2 fullShare wo) ∗ (∃ r, prngReg c r))

/-- A tile point's output block. -/
def outBlock (c : Dev nD) (t : Fin cfg0.N) : Vec Ideal S1024x1024 .f32 :=
  tileOut (iblk m c 0 t) (iblk m c 1 t) (iblk m c 2 t) (iblk m c 3 t) (iblk m c 4 t) (iblk m c 5 t) (iblk m c 6 t) (iblk m c 10 t) (iblk m c 11 t) (iblk m c 12 t) (iblk m c 13 t) (packed (waArr m c)) (packed (whArr m c)) (packed (woArr m c))

/-- The pipeline's data. -/
def dats (_ : Fin 1) (c : Dev nD) : Dat τ (Elt Ideal) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outBlock m c t
  Φ t := inv m c t.val
  q w := Pipeline.shareOf spec0 w
  owed _ := 0

theorem A_eq (c : Dev nD) (w : Fin cfg0.W) : (dats m 0 c).A w = Gen.V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = outBlock m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-- What the body is called with at point `t`. -/
def before (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)))

/-- What a packing point gives back: the output's buffer as it was found. -/
def afterPack (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ (∃ d, owns (c : Thread nD τ) (win0_14.stage (cfg0.slots t 14)) fullShare ((dats m 0 c).before 14 t d)))

/-- What a tile point gives back. -/
def afterTile (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t))

set_option maxHeartbeats 2000000 in
theorem soundCast (c : Dev nD) (t : Fin cfg0.N) (ht : t.val < 4) :
    before m c t ⊢ wp frame (wpE (defs₀ (F := Ideal)) Variants.none c none) Set.univ (bodyAt0 t) (fun _ => afterPack m c t) := by
  unfold before afterPack bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = inv m c t.val from rfl, show (dats m 0 c).Φ t.succ = inv m c (t.val + 1) from rfl]
  unfold inv
  iintro ⟨⟨%wa, %wh, %wo, %hH, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hn : Held (waArr m c) (t.val + 1) (putRows wa t.val (iblk m c 7 t)) ∧ Held (whArr m c) (t.val + 1) (putRows wh t.val (iblk m c 8 t)) ∧ Held (woArr m c) (t.val + 1) (putRows wo t.val (iblk m c 9 t)) :=
    ⟨held_rows hH.1 (block7 m c t ht), held_rows hH.2.1 (block8 m c t ht), held_rows hH.2.2 (block9 m c t ht)⟩
  iapply (castRun c (grid0.coords t) _ _ _ _ _ _ _ _ _ _ _ _ _ _ _ _ _ _ _ _ _ _ _ _ _ _ _ _ _ _ _ _ _ _ _ _ (iblk m c 7 t) (iblk m c 8 t) (iblk m c 9 t) wa wh wo ((cond1_iff t).mpr (by omega)) (fun h => absurd ((cond2_iff t).mp h) (by omega)) t.val (off1_eq t) _)
  isplitl [H7]; · iexact H7
  isplitl [H8]; · iexact H8
  isplitl [H9]; · iexact H9
  isplitl [HS0]; · iexact HS0
  isplitl [HS1]; · iexact HS1
  isplitl [HS2]; · iexact HS2
  iintro ⟨H7, H8, H9, HS0, HS1, HS2⟩
  isplitl [HS0 HS1 HS2 Hg]
  · iexists _, _, _
    isplitr
    · ipureintro; exact hn
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists _; iexact H14

set_option maxHeartbeats 2000000 in
theorem soundTile (c : Dev nD) (t : Fin cfg0.N) (ht : 4 ≤ t.val) :
    before m c t ⊢ wp frame (wpE (defs₀ (F := Ideal)) Variants.none c none) Set.univ (bodyAt0 t) (fun _ => afterTile m c t) := by
  unfold before afterTile bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = inv m c t.val from rfl, show (dats m 0 c).Φ t.succ = inv m c (t.val + 1) from rfl]
  unfold inv
  iintro ⟨⟨%wa, %wh, %wo, %hH, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [after_14]
  have ha : wa = packed (waArr m c) := held_all ht hH.1
  have hh : wh = packed (whArr m c) := held_all ht hH.2.1
  have ho : wo = packed (woArr m c) := held_all ht hH.2.2
  have hn : Held (waArr m c) (t.val + 1) wa ∧ Held (whArr m c) (t.val + 1) wh ∧ Held (woArr m c) (t.val + 1) wo :=
    ⟨fun y _ => congrFun ha y, fun y _ => congrFun hh y, fun y _ => congrFun ho y⟩
  have hob : outBlock m c t = tileOut (iblk m c 0 t) (iblk m c 1 t) (iblk m c 2 t) (iblk m c 3 t) (iblk m c 4 t) (iblk m c 5 t) (iblk m c 6 t) (iblk m c 10 t) (iblk m c 11 t) (iblk m c 12 t) (iblk m c 13 t) wa wh wo := by rw [ha, hh, ho]; rfl
  rw [hob]
  iapply (tileRun c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 10 t) (iblk m c 11 t) (iblk m c 12 t) (iblk m c 13 t) wa wh wo (fun h => absurd ((cond1_iff t).mp h) (by omega)) ((cond2_iff t).mpr (by omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  isplitl [HS2]; · iexact HS2
  iintro ⟨H0, H1, H2, H3, H4, H5, H6, H10, H11, H12, H13, H14, HS0, HS1, HS2⟩
  isplitl [HS0 HS1 HS2 Hg]
  · iexists _, _, _
    isplitr
    · ipureintro; exact hn
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row_eq (t : Fin cfg0.N) :
    defs₀ (F := Ideal) .tc cfg0.body (cfg0.bodyArgs t (cfg0.slots t)) = bodyAt0 t := by
  unfold defs₀; rw [Defs.onTc_tc]

theorem idle14 : ∀ t : Fin cfg0.N, cfg0.idle 14 (cfg0.grid.coords t) = decide (t.val < 4) := by decide +kernel
theorem flush14 : ∀ t : Fin cfg0.N, (cfg0.win 14).flush t = decide (4 ≤ t.val) := by decide +kernel

/-- The body's obligation at every point. -/
theorem obligation (c : Dev nD) : BodyObligation (dats m 0 c) (defs₀ (F := Ideal)) Variants.none () Set.univ := fun t => by
  rw [bigSep_W0, bigSep_W0, row_eq]
  by_cases ht : t.val < 4
  · have e : idle0 14 (grid0.coords t) = true := (idle14 t).trans (decide_eq_true ht)
    have e2 : (win0 14).flush t = false := (flush14 t).trans (decide_eq_false (by omega))
    refine triple_restated (soundCast m c t ht) rfl .rfl fun _ => ?_
    dsimp only
    rw [e, e2]
    exact .rfl
  · have e : idle0 14 (grid0.coords t) = false := (idle14 t).trans (decide_eq_false ht)
    refine triple_restated (soundTile m c t (by omega)) rfl .rfl fun _ => ?_
    dsimp only
    rw [e]
    exact .rfl

theorem enter (c : Dev nD) : (Pipeline.ΦA spec0 c : sProp 𝕄) ⊢ (dats m 0 c).Φ 0 := by
  rw [show (dats m 0 c).Φ 0 = inv m c 0 from rfl, scratch_eq]
  unfold inv
  iintro ⟨⟨⟨%wa, HS0⟩, ⟨%wh, HS1⟩, ⟨%wo, HS2⟩⟩, Hg⟩
  have hn : Held (waArr m c) 0 wa ∧ Held (whArr m c) 0 wh ∧ Held (woArr m c) 0 wo :=
    ⟨fun _ h => absurd h (Nat.not_lt_zero _), fun _ h => absurd h (Nat.not_lt_zero _), fun _ h => absurd h (Nat.not_lt_zero _)⟩
  iexists wa, wh, wo
  isplitr
  · ipureintro; exact hn
  isplitl [HS0 HS1 HS2]
  · isplitl [HS0]; · iexact HS0
    isplitl [HS1]; · iexact HS1
    iexact HS2
  iexact Hg

theorem leave (c : Dev nD) : (dats m 0 c).Φ (Fin.last cfg0.N) ⊢ (Pipeline.ΦA spec0 c : sProp 𝕄) := by
  rw [show (dats m 0 c).Φ (Fin.last cfg0.N) = inv m c cfg0.N from rfl, scratch_eq]
  unfold inv
  iintro ⟨%wa, %wh, %wo, -, ⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- The whole run: the arrays and the counters at its end. -/
theorem wholeRun : θ_run defs (onTc (τ := τ) (main (F := Ideal))) (s₀ m ρ) (fun r => Pipeline.FramePost cfgs (dats m) 0 (Gen.V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := Gen.V m) (hmain := hmain m Variants.none) (hA := A_eq m) (hin := enter m) (hout := leave m)

/-- The run's arrays. -/
theorem arraysRun : θ_run defs (onTc (τ := τ) (main (F := Ideal))) (s₀ m ρ) (Pipeline.FramePost cfgs (dats m) 0 (Gen.V m)) :=
  (θ_run defs _ _).mono (fun _ h => h.1) (wholeRun m ρ)

end Cert.MergeIdeal.Mrg

end
-- ==== Proof.Mrg.ValueRun.lean ====
/-
  The result array of the merge: each row the merged row of its arguments' rows.
-/
module

public import proofs.«01_k».proof.Proof.Mrg.ValueFrame
public import Idealize.ShloMosaic.Lib.Pipeline.Value

@[expose] public section

set_option maxRecDepth 16384

noncomputable section

namespace Cert.MergeIdeal.Mrg

open Cert.MergeIdeal Cert.MergeIdeal.Gen Cert.Mrg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The result array. -/
def mergedOut (OA OH : S16384x1024.Idx → EReal) (PP : S16384x11264.Idx → EReal) (X : S16384x1024.Idx → EReal) (WA WH WO : S1024x1024.Idx → EReal)
    (GA : S1x256.Idx → EReal) (GH : S1x128.Idx → EReal) (G B : S1x1024.Idx → EReal) : S16384x1024.Idx → EReal := fun y =>
  mergeRow (fun d => OA (ix2 (y 0) d)) (fun d => OH (ix2 (y 0) d)) (fun d => PP (ix2 (y 0) (Fin.ofNat 11264 (2048 + d.val)))) (fun d => PP (ix2 (y 0) (Fin.ofNat 11264 (8192 + d.val))))
    (fun d => PP (ix2 (y 0) (Fin.ofNat 11264 (9216 + d.val)))) (fun d => PP (ix2 (y 0) (Fin.ofNat 11264 (10240 + d.val)))) (fun d => X (ix2 (y 0) d))
    (fun d e => WA (ix2 d e)) (fun d e => WH (ix2 d e)) (fun d e => WO (ix2 d e)) (fun d => GA (ix2 0 d)) (fun d => GH (ix2 0 d)) (fun d => G (ix2 0 d)) (fun d => B (ix2 0 d)) (y 1)

/-- The result the kernel's arguments give. -/
abbrev mergedOf (c : Dev nD) : S16384x1024.Idx → EReal :=
  mergedOut (oaArr m c) (ohArr m c) (pArr m c) (xArr m c) (waArr m c) (whArr m c) (woArr m c) (gaArr m c) (ghArr m c) (gArr m c) (bArr m c)

theorem index14 : ∀ t : Fin cfg0.N, win0_14.index t 0 = t.val - 4 ∧ win0_14.index t 1 = 0 := by decide +kernel
theorem xsize14 : ∀ t : Fin cfg0.N, win0_14.xsize (grid0.coords t) 0 = 1024 ∧ win0_14.xsize (grid0.coords t) 1 = 1024 := by decide +kernel

/-- A tile's output block at an index. -/
theorem outBlock_apply (c : Dev nD) (t : Fin cfg0.N) (p q : Fin 1024) :
    outBlock m c t (ix2 p q) = mergedOf m c (ix2 (Fin.ofNat 16384 (1024 * (t.val - 4) + p.val)) q) := by
  unfold outBlock
  rw [block10, block11, block12, block13]
  show mergeRow (fun d => (iblk m c 0 t : Vec Ideal S1024x1024 .bf16) (ix2 p d)) (fun d => (iblk m c 1 t : Vec Ideal S1024x1024 .bf16) (ix2 p d)) (fun d => (iblk m c 2 t : Vec Ideal S1024x1024 .bf16) (ix2 p d))
    (fun d => (iblk m c 3 t : Vec Ideal S1024x1024 .bf16) (ix2 p d)) (fun d => (iblk m c 4 t : Vec Ideal S1024x1024 .bf16) (ix2 p d)) (fun d => (iblk m c 5 t : Vec Ideal S1024x1024 .bf16) (ix2 p d))
    (fun d => (iblk m c 6 t : Vec Ideal S1024x1024 .f32) (ix2 p d)) _ _ _ _ _ _ _ q = _
  simp only [block0, block1, block2, block3, block4, block5, block6]
  rfl

/-- A block written back is the result's block. -/
theorem flushed_eq (c : Dev nD) (t : Fin cfg0.N) (_ : (cfg0.win 14).flush t = true) :
    (dats m 0 c).flushed 14 t = ((cfg0.win 14).blk t).view.read (Elt Ideal) (mergedOf m c) := by
  have hi := index14 t
  have hp := points t
  show (cfg0.win 14).cut (grid0.coords t) ((dats m 0 c).after 14 t) = _
  rw [after_14]
  funext y
  rw [View.read_apply]
  have h0 : (y 0).val < 1024 := (y 0).isLt
  have h1 : (y 1).val < 1024 := (y 1).isLt
  show outBlock m c t (ix2 ⟨(y 0).val, h0⟩ ⟨(y 1).val, h1⟩) = mergedOf m c _
  refine (outBlock_apply m c t _ _).trans (congrArg (mergedOf m c) (funext fun a => Fin.ext ?_))
  match a with
  | ⟨0, _⟩ => show (1024 * (t.val - 4) + (y 0).val) % 16384 = win0_14.index t 0 * 1024 + 1 * (y 0).val; rw [hi.1]; omega
  | ⟨1, _⟩ => show (y 1).val = win0_14.index t 1 * 1024 + 1 * (y 1).val; rw [hi.2]; omega

/-- The blocks cover the result array. -/
theorem final (c : Dev nD) : (dats m 0 c).arrAt 14 cfg0.N = mergedOf m c :=
  (dats m 0 c).arrAt_eq_of_cover 14 (mergedOf m c) (flushed_eq m c) fun i => by
    have h0 : (i 0 : Nat) < 16384 := (i 0).isLt
    have h1 : (i 1 : Nat) < 1024 := (i 1).isLt
    refine ⟨⟨4 + (i 0 : Nat) / 1024, by show _ < 20; omega⟩, (flush14 _).trans (decide_eq_true (Nat.le_add_right _ _)), ?_⟩
    generalize ht : (⟨4 + (i 0 : Nat) / 1024, by show _ < 20; omega⟩ : Fin cfg0.N) = t
    have hv : t.val = 4 + (i 0 : Nat) / 1024 := by rw [← ht]
    have hi := index14 t
    have hx := xsize14 t
    show i ∈ ((View.whole main_v0).slice (win0_14.rect t)).set
    rw [View.set_slice_whole, Rect.mem_set_unit]
    intro a
    match a with
    | ⟨0, _⟩ => show win0_14.index t 0 * 1024 ≤ (i 0 : Nat) ∧ (i 0 : Nat) < win0_14.index t 0 * 1024 + win0_14.xsize (grid0.coords t) 0
                rw [hi.1, hx.1]; omega
    | ⟨1, _⟩ => show win0_14.index t 1 * 1024 ≤ (i 1 : Nat) ∧ (i 1 : Nat) < win0_14.index t 1 * 1024 + win0_14.xsize (grid0.coords t) 1
                rw [hi.2, hx.2]; omega

/-- The run, read: the result array, and the arguments unchanged. -/
theorem run : θ_run defs (onTc (τ := τ) (main (F := Ideal))) ⟨m, fun _ => 0, ρ⟩ fun r => ∀ c : Dev nD,
      r.2.mem ((c.tc : Thread nD τ).loc main_v0) = mergedOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r hr c => ⟨((hr.1 c).1 14).trans (final m c), hr.2 c⟩)
    (θ_run_and (arraysRun m ρ) (frame_of m ρ (dats m) (A_eq m) (arraysRun m ρ)))

/-- The merge runs at ideal values and leaves its arguments and the counters as they were. -/
theorem frameIdeal : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0 :=
  θ_run_and (frame_of m ρ (dats m) (A_eq m) (arraysRun m ρ)) ((θ_run defs _ _).mono (fun _ h => h.2) (wholeRun m ρ))

end Cert.MergeIdeal.Mrg

end
-- ==== Proof.Mrg.Reference.lean ====
/-
  The reference of the merge, entry by entry: each row the merged row of its arguments' rows.
-/
module

public import proofs.«01_k».proof.Proof.Gen.MergedIdeal.Run
public import proofs.«01_k».proof.Proof.Mrg.ValueRun

@[expose] public section

set_option maxRecDepth 16384

noncomputable section

namespace Cert.MergedIdeal.Mrg

open Cert.MergedIdeal Cert.MergedIdeal.Gen Cert.MergedIdeal.Value Cert.Mrg
open Idealize.ShloMosaic Idealize.ShloMosaic.TcCoe Idealize.ShloMosaic.Tactic
open Idealize.ShloMosaic.StableHlo
open Cert.MergeIdeal.Mrg (mergedOut)

/-! ### The heads -/

/-- The first attention's rows as 4 heads of 256 columns. -/
def cutA (O : FVec Ideal S16384x1024 .bf16) : FVec Ideal S16384x4x256 .f32 :=
  shapeCast _ (extf .f32 O bitsLt_bf16_f32) shapeCasts_S16384x1024_S16384x4x256

theorem cutA_apply (O : FVec Ideal S16384x1024 .bf16) (R : Fin 16384) (h : Fin 4) (d : Fin 256) : cutA O (ix3 R h d) = O (ix2 R (Fin.ofNat 1024 (256 * h.val + d.val))) := by
  pointwise [cutA]
  congr 2; apply Fin.ext; dsimp only [Fin.ofNat]; omega

/-- Heads over the root of their mean square, times the gain. -/
def normA (x : FVec Ideal S16384x4x256 .f32) (g : FVec Ideal S1x256 .f32) : FVec Ideal S16384x4x256 .f32 :=
  mulf (mulf x (broadcastInDim S16384x4x256 ![0, 1, 2] bcast_S16384x4x1_S16384x4x256_0_1_2 (Host.rsqrt (addf (Host.divf (broadcastInDim S16384x4x1 ![0, 1] bcast_S16384x4_S16384x4x1_0_1 (Host.reduceAdd (mulf x x) (constant S_ .f32 0x00000000#32) reducesTo_S16384x4x256_S16384x4_d2 h_S_)) (broadcastInDim S16384x4x1 ![] bcast_S_S16384x4x1 (constant S_ .f32 0x43800000#32))) (broadcastInDim S16384x4x1 ![] bcast_S_S16384x4x1 (constant S_ .f32 0x358637BD#32))))))
    (broadcastInDim S16384x4x256 ![0, 1, 2] bcast_S1x1x256_S16384x4x256_0_1_2 (broadcastInDim S1x1x256 ![1, 2] bcast_S1x256_S1x1x256_1_2 g))

theorem normA_apply (x : FVec Ideal S16384x4x256 .f32) (g : FVec Ideal S1x256 .f32) (R : Fin 16384) (h : Fin 4) (d : Fin 256) :
    normA x g (ix3 R h d) = unitEntry len256 (fun k => x (ix3 R h k)) (x (ix3 R h d)) (g (ix2 0 d)) := by
  pointwise [normA]
  rfl

/-- The heads side by side again. -/
def joinA (x : FVec Ideal S16384x4x256 .f32) : FVec Ideal S16384x1024 .f32 := shapeCast _ x shapeCasts_S16384x4x256_S16384x1024

theorem joinA_apply (x : FVec Ideal S16384x4x256 .f32) (R : Fin 16384) (j : Fin 1024) : joinA x (ix2 R j) = x (ix3 R ⟨j.val / 256, by omega⟩ (Fin.ofNat 256 j.val)) := by
  pointwise [joinA]
  congr 2 <;> apply Fin.ext <;> dsimp only [Fin.ofNat] <;> omega

theorem headsA_apply (O : FVec Ideal S16384x1024 .bf16) (g : FVec Ideal S1x256 .f32) (R : Fin 16384) (j : Fin 1024) :
    joinA (normA (cutA O) g) (ix2 R j) = headsA (fun d => O (ix2 R d)) (fun d => g (ix2 0 d)) j := by
  rw [joinA_apply, normA_apply]
  unfold headsA
  simp only [cutA_apply]
  congr 2
  refine congrArg (fun k => ix2 R k) (Fin.ext ?_)
  have hj := j.isLt
  show (256 * (j.val / 256) + j.val % 256) % 1024 = j.val
  omega

/-- The second attention's rows as 8 heads of 128 columns. -/
def cutH (O : FVec Ideal S16384x1024 .bf16) : FVec Ideal S16384x8x128 .f32 :=
  shapeCast _ (extf .f32 O bitsLt_bf16_f32) shapeCasts_S16384x1024_S16384x8x128

theorem cutH_apply (O : FVec Ideal S16384x1024 .bf16) (R : Fin 16384) (h : Fin 8) (d : Fin 128) : cutH O (ix3 R h d) = O (ix2 R (Fin.ofNat 1024 (128 * h.val + d.val))) := by
  pointwise [cutH]
  congr 2; apply Fin.ext; dsimp only [Fin.ofNat]; omega

/-- Heads over the root of their mean square, times the gain. -/
def normH (x : FVec Ideal S16384x8x128 .f32) (g : FVec Ideal S1x128 .f32) : FVec Ideal S16384x8x128 .f32 :=
  mulf (mulf x (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf x x) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32))))))
    (broadcastInDim S16384x8x128 ![0, 1, 2] bcast_S1x1x128_S16384x8x128_0_1_2 (broadcastInDim S1x1x128 ![1, 2] bcast_S1x128_S1x1x128_1_2 g))

theorem normH_apply (x : FVec Ideal S16384x8x128 .f32) (g : FVec Ideal S1x128 .f32) (R : Fin 16384) (h : Fin 8) (d : Fin 128) :
    normH x g (ix3 R h d) = unitEntry len128 (fun k => x (ix3 R h k)) (x (ix3 R h d)) (g (ix2 0 d)) := by
  pointwise [normH]
  rfl

/-- The heads side by side again. -/
def joinH (x : FVec Ideal S16384x8x128 .f32) : FVec Ideal S16384x1024 .f32 := shapeCast _ x shapeCasts_S16384x8x128_S16384x1024

theorem joinH_apply (x : FVec Ideal S16384x8x128 .f32) (R : Fin 16384) (j : Fin 1024) : joinH x (ix2 R j) = x (ix3 R ⟨j.val / 128, by omega⟩ (Fin.ofNat 128 j.val)) := by
  pointwise [joinH]
  congr 2 <;> apply Fin.ext <;> dsimp only [Fin.ofNat] <;> omega

theorem headsH_apply (O : FVec Ideal S16384x1024 .bf16) (g : FVec Ideal S1x128 .f32) (R : Fin 16384) (j : Fin 1024) :
    joinH (normH (cutH O) g) (ix2 R j) = headsH (fun d => O (ix2 R d)) (fun d => g (ix2 0 d)) j := by
  rw [joinH_apply, normH_apply]
  unfold headsH
  simp only [cutH_apply]
  congr 2
  refine congrArg (fun k => ix2 R k) (Fin.ext ?_)
  have hj := j.isLt
  show (128 * (j.val / 128) + j.val % 128) % 1024 = j.val
  omega

/-! ### The gates and the products -/

/-- 1024 columns of the projections. -/
def gateCols (PP : FVec Ideal S16384x11264 .bf16) (o : ℕ) (s : S16384x11264.Slices ![0, o] S16384x1024) : FVec Ideal S16384x1024 .f32 :=
  extf .f32 (extractStridedSlice S16384x1024 ![0, o] PP s) bitsLt_bf16_f32

theorem gateCols_apply (PP : FVec Ideal S16384x11264 .bf16) (o : ℕ) (s) (ho : o + 1024 ≤ 11264) (R : Fin 16384) (j : Fin 1024) :
    gateCols PP o s (ix2 R j) = PP (ix2 R (Fin.ofNat 11264 (o + j.val))) := by
  have e : Fin.ofNat 11264 (o + j.val) = ⟨o + j.val, by omega⟩ := Fin.ext (Nat.mod_eq_of_lt (by omega))
  rw [e]
  pointwise [gateCols]

/-- A product with a weight. -/
def dotArr (x : FVec Ideal S16384x1024 .f32) (w : FVec Ideal S1024x1024 .f32) : FVec Ideal S16384x1024 .f32 :=
  Host.dotGeneral dot_S16384x1024_S1024x1024_S16384x1024_1_0_0_1_n_n none x w

theorem dotArr_apply (x : FVec Ideal S16384x1024 .f32) (w : FVec Ideal S1024x1024 .f32) (R : Fin 16384) (j : Fin 1024) :
    dotArr x w (ix2 R j) = ∑ d : Fin 1024, x (ix2 R d) * w (ix2 d j) := by
  pointwise [dotArr]

/-- The two products of the gated rows, mixed by their gates. -/
def mixArr (na nh ag hg mg mh : FVec Ideal S16384x1024 .f32) (wa wh : FVec Ideal S1024x1024 .f32) : FVec Ideal S16384x1024 .f32 :=
  addf (mulf mg (dotArr (mulf na ag) wa)) (mulf mh (dotArr (mulf nh hg) wh))

theorem mixArr_apply (na nh ag hg mg mh : FVec Ideal S16384x1024 .f32) (wa wh : FVec Ideal S1024x1024 .f32) (R : Fin 16384) (j : Fin 1024) :
    mixArr na nh ag hg mg mh wa wh (ix2 R j) = mixRow (fun d => na (ix2 R d) * ag (ix2 R d)) (fun d => nh (ix2 R d) * hg (ix2 R d)) (fun d => mg (ix2 R d)) (fun d => mh (ix2 R d))
      (fun d e => wa (ix2 d e)) (fun d e => wh (ix2 d e)) j := by
  show mg (ix2 R j) * dotArr (mulf na ag) wa (ix2 R j) + mh (ix2 R j) * dotArr (mulf nh hg) wh (ix2 R j) = _
  rw [dotArr_apply, dotArr_apply]
  rfl

/-- The scaled input and the last product. -/
def sumArr (y x : FVec Ideal S16384x1024 .f32) (w : FVec Ideal S1024x1024 .f32) : FVec Ideal S16384x1024 .f32 :=
  addf (mulf (broadcastInDim S16384x1024 ![] bcast_S_S16384x1024 (constant S_ .f32 0x3F9837F0#32)) x) (dotArr y w)

theorem sumArr_apply (y x : FVec Ideal S16384x1024 .f32) (w : FVec Ideal S1024x1024 .f32) (R : Fin 16384) (j : Fin 1024) :
    sumArr y x w (ix2 R j) = sumRow (fun d => y (ix2 R d)) (fun d => x (ix2 R d)) (fun d e => w (ix2 d e)) j := by
  show alpha * x (ix2 R j) + dotArr y w (ix2 R j) = _
  rw [dotArr_apply]
  rfl

/-! ### The last normalisation -/

/-- Rows less their means. -/
def centreArr (z : FVec Ideal S16384x1024 .f32) : FVec Ideal S16384x1024 .f32 :=
  subf z (broadcastInDim S16384x1024 ![0, 1] bcast_S16384x1_S16384x1024_0_1 (Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))))

theorem centreArr_apply (z : FVec Ideal S16384x1024 .f32) (R : Fin 16384) (j : Fin 1024) : centreArr z (ix2 R j) = centred (fun d => z (ix2 R d)) j := by
  pointwise [centreArr]
  rfl

/-- Centred rows over the root of their mean square, scaled and shifted. -/
def unitArr (z : FVec Ideal S16384x1024 .f32) (g b : FVec Ideal S1x1024 .f32) : FVec Ideal S16384x1024 .f32 :=
  addf (mulf (mulf z (broadcastInDim S16384x1024 ![0, 1] bcast_S16384x1_S16384x1024_0_1 (Host.rsqrt (addf (Host.divf (broadcastInDim S16384x1 ![0] bcast_S16384_S16384x1_0 (Host.reduceAdd (mulf z z) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32))))))
    (broadcastInDim S16384x1024 ![0, 1] bcast_S1x1024_S16384x1024_0_1 g)) (broadcastInDim S16384x1024 ![0, 1] bcast_S1x1024_S16384x1024_0_1 b)

theorem unitArr_apply (z : FVec Ideal S16384x1024 .f32) (g b : FVec Ideal S1x1024 .f32) (R : Fin 16384) (j : Fin 1024) :
    unitArr z g b (ix2 R j) = z (ix2 R j) * Ideal.rsqrt (Ideal.div (∑ d : Fin 1024, z (ix2 R d) * z (ix2 R d)) len1024 + epsLast) * g (ix2 0 j) + b (ix2 0 j) := by
  pointwise [unitArr]
  rfl

theorem lastArr_apply (z : FVec Ideal S16384x1024 .f32) (g b : FVec Ideal S1x1024 .f32) (R : Fin 16384) (j : Fin 1024) :
    unitArr (centreArr z) g b (ix2 R j) = lastNorm (fun d => z (ix2 R d)) (fun d => g (ix2 0 d)) (fun d => b (ix2 0 d)) j := by
  rw [unitArr_apply]
  simp only [centreArr_apply]
  rfl

/-! ### The whole -/

/-- The reference's array in its stages. -/
def stages (OA OH : FVec Ideal S16384x1024 .bf16) (PP : FVec Ideal S16384x11264 .bf16) (X : FVec Ideal S16384x1024 .f32) (WA WH WO : FVec Ideal S1024x1024 .f32)
    (GA : FVec Ideal S1x256 .f32) (GH : FVec Ideal S1x128 .f32) (G B : FVec Ideal S1x1024 .f32) : FVec Ideal S16384x1024 .f32 :=
  unitArr (centreArr (sumArr (mixArr (joinA (normA (cutA OA) GA)) (joinH (normH (cutH OH) GH)) (gateCols PP 2048 slices_S16384x11264_S16384x1024_0_2048) (gateCols PP 8192 slices_S16384x11264_S16384x1024_0_8192)
    (gateCols PP 9216 slices_S16384x11264_S16384x1024_0_9216) (gateCols PP 10240 slices_S16384x11264_S16384x1024_0_10240) WA WH) X WO)) G B

/-- The stages' array is the specified one. -/
theorem stages_eq (OA OH : FVec Ideal S16384x1024 .bf16) (PP : FVec Ideal S16384x11264 .bf16) (X : FVec Ideal S16384x1024 .f32) (WA WH WO : FVec Ideal S1024x1024 .f32)
    (GA : FVec Ideal S1x256 .f32) (GH : FVec Ideal S1x128 .f32) (G B : FVec Ideal S1x1024 .f32) :
    stages OA OH PP X WA WH WO GA GH G B = mergedOut OA OH PP X WA WH WO GA GH G B := by
  funext y
  obtain ⟨R, j, rfl⟩ : ∃ (R : Fin 16384) (j : Fin 1024), y = ix2 R j := ⟨y 0, y 1, by funext a; fin_cases a <;> rfl⟩
  unfold stages
  rw [lastArr_apply]
  simp only [sumArr_apply, mixArr_apply, headsA_apply, headsH_apply]
  rw [show (fun d : Fin 1024 => gateCols PP 9216 slices_S16384x11264_S16384x1024_0_9216 (ix2 R d)) = fun d => PP (ix2 R (Fin.ofNat 11264 (9216 + d.val))) from funext fun d => gateCols_apply PP 9216 _ (by omega) R d,
    show (fun d : Fin 1024 => gateCols PP 10240 slices_S16384x11264_S16384x1024_0_10240 (ix2 R d)) = fun d => PP (ix2 R (Fin.ofNat 11264 (10240 + d.val))) from funext fun d => gateCols_apply PP 10240 _ (by omega) R d]
  simp only [gateCols_apply PP 2048 _ (by omega : 2048 + 1024 ≤ 11264), gateCols_apply PP 8192 _ (by omega : 8192 + 1024 ≤ 11264)]
  rfl

variable (m : (ℓ : Loc nD τ sig) → Buf (Elt Ideal) ℓ) (c : Dev nD)

theorem result_stages : (res_out0 m c : FVec Ideal S16384x1024 .f32)
    = stages (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  unfold res_out0 res_main_v70
  simp only [stages, unitArr, centreArr, sumArr, mixArr, dotArr, gateCols, joinA, joinH, normA, normH, cutA, cutH]

/-- The reference's result. -/
theorem out_eq : (res_out0 m c : FVec Ideal S16384x1024 .f32)
    = mergedOut (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) :=
  (result_stages m c).trans (stages_eq _ _ _ _ _ _ _ _ _ _ _)

end Cert.MergedIdeal.Mrg

end
-- ==== Proof.Hgrn.IdealLaunch.lean ====
/- The launch of the second scan (`HgrnIdeal`): the staging memrefs of each point and the scratch, named. -/
module

public import proofs.«01_k».proof.Proof.Gen.HgrnIdeal.Frame

@[expose] public section

set_option maxRecDepth 16384

noncomputable section

namespace Cert.HgrnIdeal.Scan

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging memref of each window at point `t`. -/
abbrev stg0 (t : Fin cfg0.N) : Memref sig .tc .vmem S1x4096x128 .bf16 := win0_0.stage (cfg0.slots t 0)
abbrev stg1 (t : Fin cfg0.N) : Memref sig .tc .vmem S1x4096x128 .bf16 := win0_1.stage (cfg0.slots t 1)
abbrev stg2 (t : Fin cfg0.N) : Memref sig .tc .vmem S1x4096x128 .bf16 := win0_2.stage (cfg0.slots t 2)
abbrev stg3 (t : Fin cfg0.N) : Memref sig .tc .vmem S1x4096x128 .bf16 := win0_3.stage (cfg0.slots t 3)
abbrev stg4 (t : Fin cfg0.N) : Memref sig .tc .vmem S1x4096x128 .bf16 := win0_4.stage (cfg0.slots t 4)
/-- The six scratch arrays. -/
abbrev scr0 : Memref sig .tc .vmem S4096x128 .bf16 := Memref.whole cc0_scratch0
abbrev scr1 : Memref sig .tc .vmem S32x128x128 .f32 := Memref.whole cc0_scratch1
abbrev scr2 : Memref sig .tc .vmem S32x128x128 .f32 := Memref.whole cc0_scratch2
abbrev scr3 : Memref sig .tc .vmem S4096x128 .f32 := Memref.whole cc0_scratch3
abbrev scr4 : Memref sig .tc .vmem S2048x256 .f32 := Memref.whole cc0_scratch4
abbrev scr5 : Memref sig .tc .vmem S128x128 .f32 := Memref.whole cc0_scratch5

/-- What the pipeline hands the body besides its windows: the scratch at some contents and the generator register. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

end Cert.HgrnIdeal.Scan

end
-- ==== Proof.Hgrn.IdealLoop.lean ====
/- The frame of the second scan's counted loop in `HgrnIdeal`: each trip leaves the six scratch arrays at some contents. -/
module

public import proofs.«01_k».proof.Proof.Gen.HgrnIdeal.Frame
public import proofs.«01_k».proof.Proof.Gen.HgrnIdeal.Skeleton
public import proofs.«01_k».proof.Proof.Gen.HgrnIdeal.Loops

@[expose] public section

set_option maxRecDepth 16384

noncomputable section

namespace Cert.HgrnIdeal.Scan

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Before every trip: the staged blocks at their contents, the scratch arrays at some contents. -/
def loopRes (c : Dev nD) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S32x128x128 .f32) (harg8 : arg8.IsWhole) (arg9 : Memref sig .tc .vmem S32x128x128 .f32) (harg9 : arg9.IsWhole) (arg10 : Memref sig .tc .vmem S4096x128 .f32) (harg10 : arg10.IsWhole) (arg11 : Memref sig .tc .vmem S2048x256 .f32) (harg11 : arg11.IsWhole) (arg12 : Memref sig .tc .vmem S128x128 .f32) (harg12 : arg12.IsWhole)
    (x0 x1 x2 : Vec F S1x4096x128 .bf16) (x3 : Vec F S1x4096x128 .bf16) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3)
    ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f))

set_option warn.classDefReducibility false in
set_option maxHeartbeats 4000000 in
/-- The loop by that invariant: one trip, run once. -/
@[sl_loop] def loopInv (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S32x128x128 .f32) (harg8 : arg8.IsWhole) (arg9 : Memref sig .tc .vmem S32x128x128 .f32) (harg9 : arg9.IsWhole) (arg10 : Memref sig .tc .vmem S4096x128 .f32) (harg10 : arg10.IsWhole) (arg11 : Memref sig .tc .vmem S2048x256 .f32) (harg11 : arg11.IsWhole) (arg12 : Memref sig .tc .vmem S128x128 .f32) (harg12 : arg12.IsWhole) (v2 : IVec S128x128 1) (v3 : IVec S128x128 1) (v60 : FVec F S128x128 .bf16) (v150 : FVec F S128x128 .f32)
    (x0 x1 x2 : Vec F S1x4096x128 .bf16) (x3 : Vec F S1x4096x128 .bf16) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v2 v3 v60 v150 where
  inv := fun _ _ => loopRes c arg2 harg2 arg3 harg3 arg4 harg4 arg5 harg5 arg6 harg6 arg7 harg7 arg8 harg8 arg9 harg9 arg10 harg10 arg11 harg11 arg12 harg12 x0 x1 x2 x3
  step := fun k acc => by
    unfold loopRes k0_t1_body
    iintro ⟨H2, H3, H4, H5, ⟨%f7, H7⟩, ⟨%f8, H8⟩, ⟨%f9, H9⟩, ⟨%f10, H10⟩, ⟨%f11, H11⟩, ⟨%f12, H12⟩⟩
    sl_exec
    sl_step
    sl_close

end Cert.HgrnIdeal.Scan

end
-- ==== Proof.Hgrn.IdealRun.lean ====
/- The body of the second scan run once at symbolic operands (`HgrnIdeal`): it returns its inputs, whatever the scratch held. -/
module

public import proofs.«01_k».proof.Proof.Hgrn.IdealLoop

@[expose] public section

set_option maxRecDepth 16384

noncomputable section

namespace Cert.HgrnIdeal.Scan

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body keeps its four staged blocks and leaves the output block and the scratch at some contents. -/
theorem bodyRun (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S32x128x128 .f32) (harg8 : arg8.IsWhole) (arg9 : Memref sig .tc .vmem S32x128x128 .f32) (harg9 : arg9.IsWhole) (arg10 : Memref sig .tc .vmem S4096x128 .f32) (harg10 : arg10.IsWhole) (arg11 : Memref sig .tc .vmem S2048x256 .f32) (harg11 : arg11.IsWhole) (arg12 : Memref sig .tc .vmem S128x128 .f32) (harg12 : arg12.IsWhole)
    (x0 x1 x2 : Vec F S1x4096x128 .bf16) (x3 : Vec F S1x4096x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) Set.univ (cc0_hgrn_scan i arg2 harg2 arg3 harg3 arg4 harg4 arg5 harg5 arg6 harg6 arg7 harg7 arg8 harg8 arg9 harg9 arg10 harg10 arg11 harg11 arg12 harg12) K := by
  simp only [cc0_hgrn_scan_eq_skeleton]; unfold cc0_hgrn_scan_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.HgrnIdeal.Scan

end
-- ==== Proof.Hgrn.IdealFrame.lean ====
/- The frame of the second scan (`HgrnIdeal`): it ends, its argument is unchanged, every semaphore is back at zero. -/
module

public import proofs.«01_k».proof.Proof.Hgrn.IdealLaunch
public import proofs.«01_k».proof.Proof.Hgrn.IdealRun
public import Idealize.ShloMosaic.Lib.Claim

@[expose] public section

set_option maxRecDepth 16384

noncomputable section

namespace Cert.HgrnIdeal.Scan

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is stated here of the output window (4). -/
def unnamedOut : Fin 5 → Bool := fun w => w.val == 4

/-- The pipeline's data: the inputs' blocks stay, the output is not named, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d))
    ∗ (∃ d, owns (c : Thread nD τ) (stg4 t) fullShare d))

/-- What the body gives back. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t)
    ∗ (∃ d, owns (c : Thread nD τ) (stg4 t) fullShare d))

set_option maxHeartbeats 1200000 in
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, scratch_eq]
  iintro ⟨⟨⟨HS0, HS1, HS2, HS3, HS4, HS5⟩, Hg⟩, Ho, ⟨%d0, H0⟩, ⟨%d1, H1⟩, ⟨%d2, H2⟩, ⟨%d3, H3⟩, H4⟩
  iapply (bodyRun c (grid0.coords t) _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  iexact H4

theorem row_eq (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ unnamedOut := fun t => by
  rw [bigSep_W0, bigSep_W0, row_eq]
  exact triple_restated (sound m c t) rfl .rfl fun _ => .rfl

set_option backward.isDefEq.respectTransparency.types false in
/-- The whole run: the arrays and the counters at its end. -/
theorem wholeRun : θ_run defs (onTc (τ := τ) (main (F := F))) (s₀ m ρ) (fun r => (Pipeline.RDat.FramePost (cfgs 0) (fun c => (dats m 0 c).toRForget unnamedOut) (V m)) r ∧ r.2.sem = fun _ => 0) :=
  Pipeline.θ_run_frame_forget_shared (Q' := _) cfgs (dats m) (0 : Fin 1) launch₀0 defs₀ Variants.none unnamedOut m ρ main
    (hbody := fun c => (obligation m c).loose) (hq := fun _ _ _ => rfl)
    (howed := fun _ _ => rfl) (V := V m) (hmain := hmain m Variants.none) (hA := A_eq m) (hΦ := fun _ _ => rfl)

/-- The frame: the argument is as it was, every counter at zero. -/
theorem frameClaim : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono
      (fun _ h c => (Pipeline.RDat.FramePost.arr_in h.1 c 3 rfl).trans ((A_eq m c 3).trans (V_main_arg0 m c))) (wholeRun m ρ))
    ((θ_run defs _ _).mono (fun _ h => h.2) (wholeRun m ρ))

end Cert.HgrnIdeal.Scan

end
-- ==== Proof.Hgrn.Pair.lean ====
/-
  One pair of 64-row chunks of the second scan: its keys are one minus the forget gates, one set for each direction, and
  a head's values are 128 lanes wide.  The chunks' rescaling is that of the first scan.
-/
module

public import proofs.«01_k».proof.Proof.Gen.HgrnIdeal.Skeleton
public import proofs.«01_k».proof.Proof.Scan.Trip

@[expose] public section

set_option maxRecDepth 16384

noncomputable section

namespace Cert.HgrnIdeal.Scan

open Cert.HgrnIdeal Cert.HgrnIdeal.Gen Cert.Scan Cert.KernelIdeal.Scan
open Idealize.ShloMosaic
open Cert.HgrnIdeal.Facts

section Operations

variable {F : FTy → Type} [FloatOps F]

/-- The keys of a gate block: one minus two to the gate. -/
def keys (g : FVec F S128x128 .f32) : FVec F S128x128 .f32 := subf (broadcast S128x128 (Scalar.ofBits .f32 0x3F800000#32)) (exp2 g)

/-- The scores of both directions. -/
def scores (m2 m3 : IVec S128x128 1) (q kf kb g : FVec F S128x128 .f32) (cum : FVec F S128x256 .f32) : FVec F S128x128 .bf16 :=
  truncf .bf16 (addf (scoresF m2 q kf cum) (scoresB m3 q kb g cum)) bitsLt_bf16_f32

/-- The keys of both directions against the values: the increments of the two states. -/
def incr (kf kb g : FVec F S128x128 .f32) (cum : FVec F S128x256 .f32) (v : FVec F S128x128 .bf16) : FVec F S256x128 .f32 :=
  matmul dot_S128x256_S128x128_S256x128_0_0_1_1_n_n none
    (concatenate S128x256 1 [⟨S128x128, kpF kf cum⟩, ⟨S128x128, kpB kb g cum⟩] concatenates_S128x128_S128x128_S128x256_d1) v (constant S256x128 .f32 0x00000000#32)

def incrF (kf kb g : FVec F S128x128 .f32) (cum : FVec F S128x256 .f32) (v : FVec F S128x128 .bf16) : FVec F S128x128 .f32 :=
  extractStridedSlice S128x128 ![0, 0] (incr kf kb g cum v) slices_S256x128_o0_0_S128x128
def incrB (kf kb g : FVec F S128x128 .f32) (cum : FVec F S128x256 .f32) (v : FVec F S128x128 .bf16) : FVec F S128x128 .f32 :=
  extractStridedSlice S128x128 ![128, 0] (incr kf kb g cum v) slices_S256x128_o128_0_S128x128

/-- The rows of the output accumulator, from the forward state before the pair. -/
def rows (m2 m3 : IVec S128x128 1) (q kf kb g : FVec F S128x128 .f32) (cum : FVec F S128x256 .f32) (v : FVec F S128x128 .bf16) (st : FVec F S128x128 .f32) : FVec F S128x128 .f32 :=
  matmul dot_S128x256_S256x128_S128x128_1_0_0_1_n_n none
    (concatenate S128x256 1 [⟨S128x128, scores m2 m3 q kf kb g cum⟩, ⟨S128x128, qiF q cum⟩] concatenates_S128x128_S128x128_S128x256_d1)
    (concatenate S256x128 0 [⟨S128x128, v⟩, ⟨S128x128, truncf .bf16 st bitsLt_bf16_f32⟩] concatenates_S128x128_S128x128_S256x128_d0)
    (constant S128x128 .f32 0x00000000#32)

/-- A state decayed by a column of factors, an increment added. -/
def decayed (st dec u : FVec F S128x128 .f32) : FVec F S128x128 .f32 := addf (mulf st dec) u

/-- A staged pair of value rows. -/
def flat (x : FVec F S1x128x128 .bf16) : FVec F S128x128 .bf16 := shapeCast S128x128 x shapeCasts_S1x128x128_S128x128
/-- A matrix stored as itself. -/
def kept (x : FVec F S128x128 .f32) : FVec F S128x128 .f32 := shapeCast S128x128 x shapeCasts_S128x128_S128x128

/-- The two gates of a tile, side by side. -/
def gates (x y : FVec F S1x2048x128 .bf16) : FVec F S2048x256 .bf16 :=
  concatenate S2048x256 1 [⟨S2048x128, shapeCast S2048x128 x shapeCasts_S1x2048x128_S2048x128⟩, ⟨S2048x128, shapeCast S2048x128 y shapeCasts_S1x2048x128_S2048x128⟩] concatenates_S2048x128_S2048x128_S2048x256_d1

theorem slices_tile (p : Fin 16) : S2048x256.Slices ![128 * p.val, 0] S128x256 := by revert p; decide

/-- The running sums of a part of the tile. -/
def sums (m : FVec F S128x128 .bf16) (g : FVec F S2048x256 .bf16) (p : Fin 16) : FVec F S128x256 .f32 :=
  summed m (extractStridedSlice S128x256 ![128 * p.val, 0] g (slices_tile p))

end Operations

theorem decayed_apply (st dec u : FVec Ideal S128x128 .f32) (d e : Fin 128) : decayed st dec u (ix2 d e) = st (ix2 d e) * dec (ix2 d e) + u (ix2 d e) := by
  pointwise [decayed]

theorem flat_apply (x : FVec Ideal S1x128x128 .bf16) (i e : Fin 128) : flat x (ix2 i e) = x (ix3 0 i e) := by pointwise [flat]
theorem kept_apply (x : FVec Ideal S128x128 .f32) (i e : Fin 128) : kept x (ix2 i e) = x (ix2 i e) := by pointwise [kept]

theorem incrF_apply (kf kb g : FVec Ideal S128x128 .f32) (cum : FVec Ideal S128x256 .f32) (v : FVec Ideal S128x128 .bf16) (d e : Fin 128) :
    incrF kf kb g cum v (ix2 d e) = ∑ j : Fin 128, kpF kf cum (ix2 j d) * v (ix2 j e) := by
  pointwise [incrF, incr]

theorem incrB_apply (kf kb g : FVec Ideal S128x128 .f32) (cum : FVec Ideal S128x256 .f32) (v : FVec Ideal S128x128 .bf16) (d e : Fin 128) :
    incrB kf kb g cum v (ix2 d e) = ∑ j : Fin 128, kpB kb g cum (ix2 j d) * v (ix2 j e) := by
  pointwise [incrB, incr]

theorem rows_apply (m2 m3 : IVec S128x128 1) (q kf kb g : FVec Ideal S128x128 .f32) (cum : FVec Ideal S128x256 .f32) (v : FVec Ideal S128x128 .bf16) (st : FVec Ideal S128x128 .f32) (i e : Fin 128) :
    rows m2 m3 q kf kb g cum v st (ix2 i e) = ∑ j : Fin 128, scores m2 m3 q kf kb g cum (ix2 i j) * v (ix2 j e)
      + ∑ d : Fin 128, qiF q cum (ix2 i d) * st (ix2 d e) := by
  pointwise [rows]

/-- The key of a gate, a logarithm to base two. -/
def gateKey (G : ℕ → Fin 128 → ℝ) (t : ℕ) (d : Fin 128) : ℝ := 1 - Real.exp (G t d * Real.log 2)

theorem keys_val {g : FVec Ideal S128x128 .f32} {G : ℕ → Fin 128 → ℝ} {s : ℕ} (hg : ∀ i d, g (ix2 i d) = ((G (s + i) d : ℝ) : EReal)) (i d : Fin 128) :
    keys g (ix2 i d) = ((gateKey G (s + i) d : ℝ) : EReal) := by
  have h : keys g (ix2 i d) = Ideal.ofBits .f32 0x3F800000#32 - Ideal.exp2 (g (ix2 i d)) := by
    pointwise [keys]; rfl
  rw [h, hg, exp2_real, Ideal.ofBits_one_f32, gateKey, EReal.coe_sub, EReal.coe_one]

/-- The backward part of an output row that the pair itself contributes. -/
def inner (Q K GB V : ℕ → Fin 128 → ℝ) (s : ℕ) (i e : Fin 128) : ℝ :=
  ∑ j : Fin 128, (if i.val ≤ j.val then ∑ d, Q (s + i) d * K (s + j) d
      * Real.exp (pre (nat2 GB · d) s j - pre (nat2 GB · d) s i) else 0) * V (s + j) e

section Values

variable {Q KF KB GF GB V : ℕ → Fin 128 → ℝ} {s : ℕ} {q kf kb g : FVec Ideal S128x128 .f32} {cum : FVec Ideal S128x256 .f32} {v : FVec Ideal S128x128 .bf16}
  (hF : Operands Q KF GF GB s q kf g cum) (hB : Operands Q KB GF GB s q kb g cum) (hv : ∀ i e, v (ix2 i e) = ((V (s + i) e : ℝ) : EReal))

include hF hv in
/-- The forward state after the pair, from the state before it. -/
theorem next_val {st : FVec Ideal S128x128 .f32} (hst : ∀ d e, st (ix2 d e) = ((state (nat2 GF · d) (KF · d) (V · e) s : ℝ) : EReal)) (d e : Fin 128) :
    decayed st (decF cum) (incrF kf kb g cum v) (ix2 d e) = ((state (nat2 GF · d) (KF · d) (V · e) (s + 128) : ℝ) : EReal) := by
  rw [decayed_apply, hst, hF.decF_val, incrF_apply, fwd_next (L := 128), EReal.coe_add, EReal.coe_mul, coe_sum_real]
  congr 1
  refine Finset.sum_congr rfl fun j _ => ?_
  rw [hF.kpF_val, hv, ← EReal.coe_mul]

include hF hB hv in
/-- The rows the accumulator gets: the whole forward part, and the pair's own share of the backward part. -/
theorem rows_val {m2 m3 : IVec S128x128 1} (hm2 : ∀ i j : Fin 128, m2 (ix2 i j) = if j ≤ i then 1#1 else 0#1) (hm3 : ∀ i j : Fin 128, m3 (ix2 i j) = if i ≤ j then 1#1 else 0#1)
    {st : FVec Ideal S128x128 .f32} (hst : ∀ d e, st (ix2 d e) = ((state (nat2 GF · d) (KF · d) (V · e) s : ℝ) : EReal)) (i e : Fin 128) :
    rows m2 m3 q kf kb g cum v st (ix2 i e)
      = ((∑ d, Q (s + i) d * state (nat2 GF · d) (KF · d) (V · e) (s + i + 1) + inner Q KB GB V s i e : ℝ) : EReal) := by
  have hsc : ∀ j, scores m2 m3 q kf kb g cum (ix2 i j) = scoresF m2 q kf cum (ix2 i j) + scoresB m3 q kb g cum (ix2 i j) := fun j => by
    pointwise [scores]
  rw [rows_apply, ← fwd_row (L := 128) Q KF (nat2 GF) (V · e) s i, inner]
  simp only [hsc, hF.scoresF_val hm2, hB.scoresB_val hm3, hv, hF.qiF_val, hst, ← EReal.coe_add, ← EReal.coe_mul, ← coe_sum_real]
  congr 1
  simp only [add_mul, Finset.sum_add_distrib]; ring

end Values

/-! ## What the scratch holds -/

/-- What a pair leaves for the backward direction: its increment. -/
def updOut (K GB V : ℕ → Fin 128 → ℝ) (n : ℕ) (d e : Fin 128) : EReal :=
  ((∑ j : Fin 128, K (128 * n + j) d * Real.exp (pre (nat2 GB · d) (128 * n) j) * V (128 * n + j) e : ℝ) : EReal)
/-- The output rows before the backward state is added. -/
def accOut (Q KF KB GF GB V : ℕ → Fin 128 → ℝ) (n : ℕ) (i e : Fin 128) : EReal :=
  ((∑ d, Q (128 * n + i) d * state (nat2 GF · d) (KF · d) (V · e) (128 * n + i + 1) + inner Q KB GB V (128 * n) i e : ℝ) : EReal)

theorem updOut_val {Q KB GF GB V : ℕ → Fin 128 → ℝ} {n : ℕ} {q kf kb g : FVec Ideal S128x128 .f32} {cum : FVec Ideal S128x256 .f32} (h : Operands Q KB GF GB (128 * n) q kb g cum) {v : FVec Ideal S128x128 .bf16}
    (hv : ∀ i e, v (ix2 i e) = ((V (128 * n + i) e : ℝ) : EReal)) (d e : Fin 128) : incrB kf kb g cum v (ix2 d e) = updOut KB GB V n d e := by
  rw [incrB_apply, updOut, coe_sum_real]
  exact Finset.sum_congr rfl fun j _ => by rw [h.kpB_val, hv, ← EReal.coe_mul]

/-- The gates of a tile at rows `s …`. -/
theorem gates_f {GF : ℕ → Fin 128 → ℝ} {x y : FVec Ideal S1x2048x128 .bf16} {s : ℕ} (hx : ∀ (j : Fin 2048) (d : Fin 128), x (ix3 0 j d) = ((GF (s + j) d : ℝ) : EReal)) (j : Fin 2048) (d : Fin 128) :
    gates x y (ix2 j ⟨d, by omega⟩) = ((GF (s + j) d : ℝ) : EReal) := by
  have e : gates x y (ix2 j ⟨d, by omega⟩) = x (ix3 0 j d) := by
    pointwise [gates]
  rw [e, hx]

theorem gates_b {GB : ℕ → Fin 128 → ℝ} {x y : FVec Ideal S1x2048x128 .bf16} {s : ℕ} (hy : ∀ (j : Fin 2048) (d : Fin 128), y (ix3 0 j d) = ((GB (s + j) d : ℝ) : EReal)) (j : Fin 2048) (d : Fin 128) :
    gates x y (ix2 j ⟨128 + d, by omega⟩) = ((GB (s + j) d : ℝ) : EReal) := by
  have e : gates x y (ix2 j ⟨128 + d, by omega⟩) = y (ix3 0 j d) := by
    pointwise [gates]
  rw [e, hy]

theorem sums_val {m : FVec Ideal S128x128 .bf16} (hm : IsSum m) (g : FVec Ideal S2048x256 .bf16) {a : ℕ → ℝ} {s : ℕ} (l : Fin 256)
    (hg : ∀ j : Fin 2048, g (ix2 j l) = ((a (s + j) : ℝ) : EReal)) (p : Fin 16) (c : Fin 2) (i : Fin 64) :
    sums m g p (ix2 ⟨64 * c + i, by omega⟩ l) = ((pre a (s + 128 * p + 64 * c) (i + 1) : ℝ) : EReal) := by
  refine summed_val hm (s := s + 128 * p) (fun j => ?_) c i
  refine Eq.trans ?_ ((hg ⟨128 * p + j, by omega⟩).trans (by rw [add_assoc]))
  unfold extractStridedSlice
  refine congrArg g (funext fun a => Fin.ext ?_)
  match a with
  | ⟨0, _⟩ => rfl
  | ⟨1, _⟩ => exact Nat.zero_add _

end Cert.HgrnIdeal.Scan

end
-- ==== Proof.Hgrn.Trip.lean ====
/-
  The invariant of the second scan's counted loop, and one trip: what the arrays hold after `k` tiles of sixteen pairs,
  and that the stores of a trip extend it.
-/
module

public import proofs.«01_k».proof.Proof.Hgrn.Pair

@[expose] public section

set_option maxRecDepth 16384

noncomputable section

namespace Cert.HgrnIdeal.Scan

open Cert.HgrnIdeal Cert.HgrnIdeal.Gen Cert.Scan Cert.KernelIdeal.Scan
open Idealize.ShloMosaic
open Cert.HgrnIdeal.Facts

/-! ## Stores of consecutive tiles -/

section Tiles

variable {Val : EltTy → Type} {sg : RefSig} {κ : Kind} {sp : Space} {s : Shape} {e : EltTy} (v : View sg κ sp s e) (f : v.ty.Contents Val)

/-- An index outside every tile reads what was there. -/
theorem read_outside {N : ℕ} {size : Fin s.rank → ℕ} (off : Fin N → Fin s.rank → ℕ) (inb : ∀ p a, off p a + size a ≤ s.size a) (W : Fin N → (⟨s.rank, size⟩ : Shape).Idx → Val e)
    (ax : Fin s.rank) (L : List (Fin N)) (y : s.Idx) (hy : ∀ p, (y ax).val < off p ax ∨ off p ax + size ax ≤ (y ax).val) :
    v.read Val (v.writes Val f (L.map fun q => ⟨Rect.unit (off q) size (inb q), W q⟩)) y = v.read Val f y := by
  induction L with
  | nil => rfl
  | cons q L ih => exact (View.read_writes_cons_unit_of_not_mem v f (inb q) (W q) _ y rfl ax (hy q)).trans ih

/-- Tiles that do not meet along one axis: an index of a tile reads that tile's payload. -/
theorem read_tiles {N : ℕ} {size : Fin s.rank → ℕ} (off : Fin N → Fin s.rank → ℕ) (inb : ∀ p a, off p a + size a ≤ s.size a) (W : Fin N → (⟨s.rank, size⟩ : Shape).Idx → Val e)
    (ax : Fin s.rank) (hsep : ∀ p q, p < q → off p ax + size ax ≤ off q ax) (L : List (Fin N)) (p : Fin N) (hp : p ∈ L) (y : s.Idx) (x : (⟨s.rank, size⟩ : Shape).Idx)
    (hy : ∀ a, (y a).val = off p a + (x a).val) :
    v.read Val (v.writes Val f (L.map fun q => ⟨Rect.unit (off q) size (inb q), W q⟩)) y = W p x := by
  induction L with
  | nil => simp at hp
  | cons q L ih =>
    by_cases h : p = q
    · subst h
      exact View.read_writes_cons_unit_of_mem v f (inb p) (W p) _ y x rfl hy
    · have hx : (x ax).val < size ax := (x ax).isLt
      have hya := hy ax
      refine (View.read_writes_cons_unit_of_not_mem v f (inb q) (W q) _ y rfl ax ?_).trans (ih (by simpa [h] using hp))
      rcases lt_or_gt_of_ne h with h | h
      · have := hsep p q h; omega
      · have := hsep q p h; omega

end Tiles

/-! ## The offsets -/

theorem trips2 (k : Fin k0_t1_loop.trips) : k.val < 2 := k.isLt

theorem off1_eq : ∀ (k : Fin k0_t1_loop.trips) (p : Fin 16), k0_off1 k (BitVec.ofNat 32 (128 * p.val)) = ![0, 128 * (16 * k.val + p.val), 0] := by decide +kernel
theorem off2_eq : ∀ (k : Fin k0_t1_loop.trips) (p : Fin 16), k0_off2 k (BitVec.ofNat 32 (128 * p.val)) = ![128 * (16 * k.val + p.val), 0] := by decide +kernel
theorem off3_eq : ∀ (k : Fin k0_t1_loop.trips) (p : Fin 16), k0_off3 k (BitVec.ofNat 32 p.val) = ![16 * k.val + p.val, 0, 0] := by decide +kernel
theorem off4_eq : ∀ (k : Fin k0_t1_loop.trips), k0_off4 k = ![0, 2048 * min (k.val + 1) 1, 0] := by decide +kernel

theorem inb1 (k : Fin k0_t1_loop.trips) (p : Fin 16) : ∀ a, k0_off1 k (BitVec.ofNat 32 (128 * p.val)) a + S1x128x128.size a ≤ S1x4096x128.size a := by revert k p; decide +kernel
theorem inb2 (k : Fin k0_t1_loop.trips) (p : Fin 16) : ∀ a : Fin S4096x128.rank, k0_off2 k (BitVec.ofNat 32 (128 * p.val)) a + S128x128.size a ≤ S4096x128.size a := by revert k p; decide +kernel
theorem inb3 (k : Fin k0_t1_loop.trips) (p : Fin 16) : ∀ a : Fin S32x128x128.rank, k0_off3 k (BitVec.ofNat 32 p.val) a + S1x128x128.size a ≤ S32x128x128.size a := by revert k p; decide +kernel
theorem inbC (p : Fin 16) : ∀ a, (![128 * p.val, 0] : Fin 2 → ℕ) a + S128x256.size a ≤ S2048x256.size a := by revert p; decide

/-- The tiles of a trip, the last stored first. -/
abbrev parts : List (Fin 16) := [15, 14, 13, 12, 11, 10, 9, 8, 7, 6, 5, 4, 3, 2, 1, 0]

theorem mem_parts (p : Fin 16) : p ∈ parts := by revert p; decide

/-- A case for each of the sixteen. -/
theorem all16 {P : Fin 16 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) (p : Fin 16) : P p := by
  fin_cases p <;> assumption

/-! ## The stores of one trip -/

/-- A pair of the trips so far is one before the trip, or one of its sixteen. -/
theorem tile_cases {k n : ℕ} (h : n < 16 * (k + 1)) : n < 16 * k ∨ ∃ p : Fin 16, n = 16 * k + p.val := by
  by_cases h' : n < 16 * k
  · exact .inl h'
  · exact .inr ⟨⟨n - 16 * k, by omega⟩, by show n = 16 * k + (n - 16 * k); omega⟩

/-- A trip's store of a pair's rows. -/
def rowPiece {ty : EltTy} (k : Fin k0_t1_loop.trips) (W : Fin 16 → S128x128.Idx → Elt Ideal ty) (p : Fin 16) : View.Piece (Elt Ideal) S4096x128 ty :=
  ⟨Rect.unit (s := S4096x128) (k0_off2 k (BitVec.ofNat 32 (128 * p.val))) S128x128.size (inb2 k p), W p⟩
/-- A trip's store of a pair's slab. -/
def slabPiece (k : Fin k0_t1_loop.trips) (W : Fin 16 → S1x128x128.Idx → Elt Ideal .f32) (p : Fin 16) : View.Piece (Elt Ideal) S32x128x128 .f32 :=
  ⟨Rect.unit (s := S32x128x128) (k0_off3 k (BitVec.ofNat 32 p.val)) S1x128x128.size (inb3 k p), W p⟩

theorem put_rows {κ : Kind} {sp : Space} {ty : EltTy} (v : View sig κ sp S4096x128 ty) (f : v.ty.Contents (Elt Ideal)) (k : Fin k0_t1_loop.trips)
    (W : Fin 16 → S128x128.Idx → Elt Ideal ty) (G : ℕ → Fin 128 → Fin 128 → Elt Ideal ty)
    (hf : ∀ (n : ℕ) (hn : n < 32), n < 16 * k.val → ∀ (i d : Fin 128), v.read (Elt Ideal) f (ix2 ⟨128 * n + i, by omega⟩ d) = G n i d)
    (hW : ∀ p i d, W p (ix2 i d) = G (16 * k.val + p.val) i d) (n : ℕ) (hn : n < 32) (hk : n < 16 * (k.val + 1)) (i d : Fin 128) :
    v.read (Elt Ideal) (v.writes (Elt Ideal) f (parts.map (rowPiece k W))) (ix2 ⟨128 * n + i, by omega⟩ d) = G n i d := by
  have e : ∀ p : Fin 16, k0_off2 k (BitVec.ofNat 32 (128 * p.val)) (0 : Fin 2) = 128 * (16 * k.val + p.val) := fun p => (off2_eq k p).symm ▸ rfl
  rcases tile_cases hk with h | ⟨p, rfl⟩
  · refine (read_outside v f (fun p : Fin 16 => k0_off2 k (BitVec.ofNat 32 (128 * p.val))) (inb2 k) W (0 : Fin 2) parts _ (fun p => .inl ?_)).trans (hf n hn h i d)
    rw [e]; exact (show 128 * n + i.val < 128 * (16 * k.val + p.val) by omega)
  · refine (read_tiles v f (fun p : Fin 16 => k0_off2 k (BitVec.ofNat 32 (128 * p.val))) (inb2 k) W (0 : Fin 2) (fun p q h => ?_) parts p (mem_parts p) _ (ix2 i d) (fun a => ?_)).trans (hW p i d)
    · have h' : p.val < q.val := h
      rw [e, e]; exact (show 128 * (16 * k.val + p.val) + 128 ≤ 128 * (16 * k.val + q.val) by omega)
    · rw [off2_eq]; fin_cases a
      · rfl
      · exact (Nat.zero_add _).symm

theorem put_stack {κ : Kind} {sp : Space} (v : View sig κ sp S32x128x128 .f32) (f : v.ty.Contents (Elt Ideal)) (k : Fin k0_t1_loop.trips)
    (W : Fin 16 → S1x128x128.Idx → Elt Ideal .f32) (G : ℕ → Fin 128 → Fin 128 → EReal)
    (hf : ∀ (n : ℕ) (hn : n < 32), n < 16 * k.val → ∀ (i d : Fin 128), v.read (Elt Ideal) f (ix3 ⟨n, hn⟩ i d) = G n i d)
    (hW : ∀ p i d, W p (ix3 0 i d) = G (16 * k.val + p.val) i d) (n : ℕ) (hn : n < 32) (hk : n < 16 * (k.val + 1)) (i d : Fin 128) :
    v.read (Elt Ideal) (v.writes (Elt Ideal) f (parts.map (slabPiece k W))) (ix3 ⟨n, hn⟩ i d) = G n i d := by
  have e : ∀ p : Fin 16, k0_off3 k (BitVec.ofNat 32 p.val) (0 : Fin 3) = 16 * k.val + p.val := fun p => (off3_eq k p).symm ▸ rfl
  rcases tile_cases hk with h | ⟨p, rfl⟩
  · refine (read_outside v f (fun p : Fin 16 => k0_off3 k (BitVec.ofNat 32 p.val)) (inb3 k) W (0 : Fin 3) parts _ (fun p => .inl ?_)).trans (hf n hn h i d)
    rw [e]; exact (show n < 16 * k.val + p.val by omega)
  · refine (read_tiles v f (fun p : Fin 16 => k0_off3 k (BitVec.ofNat 32 p.val)) (inb3 k) W (0 : Fin 3) (fun p q h => ?_) parts p (mem_parts p) _ (ix3 0 i d) (fun a => ?_)).trans (hW p i d)
    · have h' : p.val < q.val := h
      rw [e, e]; exact (show 16 * k.val + p.val + 1 ≤ 16 * k.val + q.val by omega)
    · rw [off3_eq]; exact coords3 rfl rfl rfl a

theorem put_cum {κ : Kind} {sp : Space} (v : View sig κ sp S2048x256 .f32) (f : v.ty.Contents (Elt Ideal)) (W : Fin 16 → S128x256.Idx → Elt Ideal .f32) (p : Fin 16) (i : Fin 128) (l : Fin 256) :
    v.read (Elt Ideal) (v.writes (Elt Ideal) f (parts.map fun p => ⟨Rect.unit ![128 * p.val, 0] S128x256.size (inbC p), W p⟩)) (ix2 ⟨128 * p + i, by omega⟩ l) = W p (ix2 i l) := by
  refine read_tiles v f (fun p : Fin 16 => ![128 * p.val, 0]) inbC W (0 : Fin 2) (fun p q h => ?_) parts p (mem_parts p) _ (ix2 i l) (fun a => ?_)
  · have h' : p.val < q.val := h
    show 128 * p.val + 128 ≤ 128 * q.val; omega
  · fin_cases a
    · rfl
    · exact (Nat.zero_add _).symm

/-- The staged running sums, in either half of the lanes. -/
theorem staged {κ : Kind} {sp : Space} (v : View sig κ sp S2048x256 .f32) (f : v.ty.Contents (Elt Ideal)) {m : FVec Ideal S128x128 .bf16} (hm : IsSum m)
    (g : FVec Ideal S2048x256 .bf16) {a : ℕ → ℝ} {s : ℕ} (l : Fin 256) (hg : ∀ j : Fin 2048, g (ix2 j l) = ((a (s + j) : ℝ) : EReal)) (p : Fin 16) (c : Fin 2) (i : Fin 64) :
    v.read (Elt Ideal) (v.writes (Elt Ideal) f (parts.map fun p => ⟨Rect.unit ![128 * p.val, 0] S128x256.size (inbC p), sums m g p⟩)) (ix2 ⟨128 * p + (64 * c + i), by omega⟩ l)
      = ((pre a (s + 128 * p + 64 * c) (i + 1) : ℝ) : EReal) :=
  (put_cum v f (sums m g) p ⟨64 * c + i, by omega⟩ l).trans (sums_val hm g l hg p c i)

/-! ## The invariant -/

/-- The scan's four operands, as families over the rows. -/
structure Inputs (Q GF GB V : ℕ → Fin 128 → ℝ) (x0 x1 x2 x3 : Vec Ideal S1x4096x128 .bf16) : Prop where
  q : ∀ (t : ℕ) (ht : t < 4096) (d : Fin 128), x0 (ix3 0 ⟨t, ht⟩ d) = ((Q t d : ℝ) : EReal)
  gf : ∀ (t : ℕ) (ht : t < 4096) (d : Fin 128), x1 (ix3 0 ⟨t, ht⟩ d) = ((GF t d : ℝ) : EReal)
  gb : ∀ (t : ℕ) (ht : t < 4096) (d : Fin 128), x2 (ix3 0 ⟨t, ht⟩ d) = ((GB t d : ℝ) : EReal)
  v : ∀ (t : ℕ) (ht : t < 4096) (d : Fin 128), x3 (ix3 0 ⟨t, ht⟩ d) = ((V t d : ℝ) : EReal)

/-- After `k` tiles. -/
structure Inv (Q KF KB GF GB V : ℕ → Fin 128 → ℝ) (k : ℕ) (d7 : Vec Ideal S4096x128 .bf16) (d8 d9 : Vec Ideal S32x128x128 .f32)
    (d10 : Vec Ideal S4096x128 .f32) (d11 : Vec Ideal S2048x256 .f32) (d12 : Vec Ideal S128x128 .f32) : Prop where
  qi : ∀ (n : ℕ) (hn : n < 32), n < 16 * k → ∀ i d : Fin 128, d7 (ix2 ⟨128 * n + i, by omega⟩ d) = qOut Q GB n i d
  upd : ∀ (n : ℕ) (hn : n < 32), n < 16 * k → ∀ i d : Fin 128, d8 (ix3 ⟨n, hn⟩ i d) = updOut KB GB V n i d
  dec : ∀ (n : ℕ) (hn : n < 32), n < 16 * k → ∀ i d : Fin 128, d9 (ix3 ⟨n, hn⟩ i d) = decOut GB n i d
  acc : ∀ (n : ℕ) (hn : n < 32), n < 16 * k → ∀ i d : Fin 128, d10 (ix2 ⟨128 * n + i, by omega⟩ d) = accOut Q KF KB GF GB V n i d
  cumF : ∀ (p : Fin 16) (c : Fin 2) (i : Fin 64) (d : Fin 128), d11 (ix2 ⟨128 * p + (64 * c + i), by omega⟩ ⟨d, by omega⟩) = ((pre (GF · d) (2048 * min k 1 + 128 * p + 64 * c) (i + 1) : ℝ) : EReal)
  cumB : ∀ (p : Fin 16) (c : Fin 2) (i : Fin 64) (d : Fin 128), d11 (ix2 ⟨128 * p + (64 * c + i), by omega⟩ ⟨128 + d, by omega⟩) = ((pre (GB · d) (2048 * min k 1 + 128 * p + 64 * c) (i + 1) : ℝ) : EReal)
  st : ∀ d e : Fin 128, d12 (ix2 d e) = ((state (nat2 GF · d) (KF · d) (V · e) (2048 * k) : ℝ) : EReal)

/-! ## The operands of a pair of the trip -/

section Trip

/-- A pair's block of an operand, as the trip loads it. -/
abbrev blk {arg : Memref sig .tc .vmem S1x4096x128 .bf16} (harg : arg.IsWhole) (x : Vec Ideal S1x4096x128 .bf16) (k : Fin k0_t1_loop.trips) (b : BitVec 32) (inb : ∀ a, k0_off1 k b a + S1x128x128.size a ≤ S1x4096x128.size a) : FVec Ideal S1x128x128 .bf16 :=
  arg.view.readAt (Elt Ideal) (Rect.unit (s := S1x4096x128) (k0_off1 k b) S1x128x128.size inb).toLoadRect (harg.unread x)

/-- A pair's running sums, as the trip loads them. -/
abbrev cumAt (arg11 : Memref sig .tc .vmem S2048x256 .f32) (f11 : arg11.view.ty.Contents (Elt Ideal)) (o : ℕ) (inb : ∀ a, (![o, 0] : Fin 2 → ℕ) a + S128x256.size a ≤ S2048x256.size a) : FVec Ideal S128x256 .f32 :=
  arg11.view.readAt (Elt Ideal) (Rect.unit (s := S2048x256) ![o, 0] S128x256.size inb).toLoadRect f11

/-- The next tile's gates, as the trip loads them. -/
abbrev tileAt {arg : Memref sig .tc .vmem S1x4096x128 .bf16} (harg : arg.IsWhole) (x : Vec Ideal S1x4096x128 .bf16) (k : Fin k0_t1_loop.trips) (inb : ∀ a, k0_off4 k a + S1x2048x128.size a ≤ S1x4096x128.size a) : FVec Ideal S1x2048x128 .bf16 :=
  arg.view.readAt (Elt Ideal) (Rect.unit (s := S1x4096x128) (k0_off4 k) S1x2048x128.size inb).toLoadRect (harg.unread x)

theorem load128 {arg : Memref sig .tc .vmem S1x4096x128 .bf16} (harg : arg.IsWhole) {x : Vec Ideal S1x4096x128 .bf16} {X : ℕ → Fin 128 → ℝ}
    (hx : ∀ (t : ℕ) (ht : t < 4096) (d : Fin 128), x (ix3 0 ⟨t, ht⟩ d) = ((X t d : ℝ) : EReal)) {off : Fin 3 → ℕ} {inb} {n : ℕ} (hn : n < 32) (hoff : off = ![0, 128 * n, 0]) (i d : Fin 128) :
    wide (F := Ideal) (arg.view.readAt (Elt Ideal) (Rect.unit (s := S1x4096x128) off S1x128x128.size inb).toLoadRect (harg.unread x)) (ix2 i d) = ((X (128 * n + i) d : ℝ) : EReal) := by
  rw [wide_apply, ← hx (128 * n + i) (by omega)]
  refine (readAt_at _ _ inb hoff _ (ix3 0 ⟨128 * n + i, by omega⟩ d) ?_).trans (congrFun (harg.read_unread x) _)
  intro a; fin_cases a
  · rfl
  · rfl
  · exact (Nat.zero_add _).symm

theorem loadV {arg : Memref sig .tc .vmem S1x4096x128 .bf16} (harg : arg.IsWhole) {x : Vec Ideal S1x4096x128 .bf16} {X : ℕ → Fin 128 → ℝ}
    (hx : ∀ (t : ℕ) (ht : t < 4096) (d : Fin 128), x (ix3 0 ⟨t, ht⟩ d) = ((X t d : ℝ) : EReal)) {off : Fin 3 → ℕ} {inb} {n : ℕ} (hn : n < 32) (hoff : off = ![0, 128 * n, 0]) (i d : Fin 128) :
    flat (F := Ideal) (arg.view.readAt (Elt Ideal) (Rect.unit (s := S1x4096x128) off S1x128x128.size inb).toLoadRect (harg.unread x)) (ix2 i d) = ((X (128 * n + i) d : ℝ) : EReal) := by
  rw [flat_apply, ← hx (128 * n + i) (by omega)]
  refine (readAt_at _ _ inb hoff _ (ix3 0 ⟨128 * n + i, by omega⟩ d) ?_).trans (congrFun (harg.read_unread x) _)
  intro a; fin_cases a
  · rfl
  · rfl
  · exact (Nat.zero_add _).symm

theorem loadW {arg : Memref sig .tc .vmem S1x4096x128 .bf16} (harg : arg.IsWhole) {x : Vec Ideal S1x4096x128 .bf16} {X : ℕ → Fin 128 → ℝ}
    (hx : ∀ (t : ℕ) (ht : t < 4096) (d : Fin 128), x (ix3 0 ⟨t, ht⟩ d) = ((X t d : ℝ) : EReal)) {off : Fin 3 → ℕ} {inb} {n : ℕ} (hn : n < 2) (hoff : off = ![0, 2048 * n, 0]) (i : Fin 2048) (d : Fin 128) :
    arg.view.readAt (Elt Ideal) (Rect.unit (s := S1x4096x128) off S1x2048x128.size inb).toLoadRect (harg.unread x) (ix3 0 i d) = ((X (2048 * n + i) d : ℝ) : EReal) := by
  rw [← hx (2048 * n + i) (by omega)]
  refine (readAt_at _ _ inb hoff _ (ix3 0 ⟨2048 * n + i, by omega⟩ d) ?_).trans (congrFun (harg.read_unread x) _)
  intro a; fin_cases a
  · rfl
  · rfl
  · exact (Nat.zero_add _).symm

/-- A part of the staged running sums. -/
theorem load_cum {arg11 : Memref sig .tc .vmem S2048x256 .f32} {f11 : arg11.view.ty.Contents (Elt Ideal)} {o : ℕ} {inb} (p : Fin 16) (hp : o = 128 * p) (i : Fin 128) (l : Fin 256) :
    cumAt arg11 f11 o inb (ix2 i l) = arg11.view.read (Elt Ideal) f11 (ix2 ⟨128 * p + i, by omega⟩ l) := by
  refine readAt_at _ _ inb rfl _ _ ?_
  subst hp
  intro a; fin_cases a
  · rfl
  · exact (Nat.zero_add _).symm

variable {Q GF GB V : ℕ → Fin 128 → ℝ} {x0 x1 x2 x3 : Vec Ideal S1x4096x128 .bf16} (hin : Inputs Q GF GB V x0 x1 x2 x3)
  {arg2 : Memref sig .tc .vmem S1x4096x128 .bf16} (harg2 : arg2.IsWhole) {arg3 : Memref sig .tc .vmem S1x4096x128 .bf16} (harg3 : arg3.IsWhole) {arg4 : Memref sig .tc .vmem S1x4096x128 .bf16} (harg4 : arg4.IsWhole) {arg5 : Memref sig .tc .vmem S1x4096x128 .bf16} (harg5 : arg5.IsWhole)
  {arg7 : Memref sig .tc .vmem S4096x128 .bf16} {arg8 : Memref sig .tc .vmem S32x128x128 .f32} {arg9 : Memref sig .tc .vmem S32x128x128 .f32} {arg10 : Memref sig .tc .vmem S4096x128 .f32} {arg11 : Memref sig .tc .vmem S2048x256 .f32} {arg12 : Memref sig .tc .vmem S128x128 .f32}
  {f7 : arg7.view.ty.Contents (Elt Ideal)} {f8 : arg8.view.ty.Contents (Elt Ideal)} {f9 : arg9.view.ty.Contents (Elt Ideal)} {f10 : arg10.view.ty.Contents (Elt Ideal)} {f11 : arg11.view.ty.Contents (Elt Ideal)} {f12 : arg12.view.ty.Contents (Elt Ideal)}

/-- The invariant of the arrays' contents, the keys read off the gates. -/
abbrev Holds (Q GF GB V : ℕ → Fin 128 → ℝ) (k : ℕ) (d7 : Vec Ideal S4096x128 .bf16) (d8 d9 : Vec Ideal S32x128x128 .f32)
    (d10 : Vec Ideal S4096x128 .f32) (d11 : Vec Ideal S2048x256 .f32) (d12 : Vec Ideal S128x128 .f32) : Prop :=
  Inv Q (gateKey GF) (gateKey GB) GF GB V k d7 d8 d9 d10 d11 d12

/-- The pair's operands, whatever the keys are. -/
theorem operands {K KF KB : ℕ → Fin 128 → ℝ} {k : ℕ} (hk : k < 2) {d7 d8 d9 d10 d12} (hP : Inv Q KF KB GF GB V k d7 d8 d9 d10 (arg11.view.read (Elt Ideal) f11) d12)
    (p : Fin 16) {q kk g : FVec Ideal S128x128 .f32} (hq : ∀ i d, q (ix2 i d) = ((Q (128 * (16 * k + p) + i) d : ℝ) : EReal)) (hkk : ∀ i d, kk (ix2 i d) = ((K (128 * (16 * k + p) + i) d : ℝ) : EReal))
    (hg : ∀ i d, g (ix2 i d) = ((GB (128 * (16 * k + p) + i) d : ℝ) : EReal)) {o : ℕ} {inc} (ho : o = 128 * p) :
    Operands Q K GF GB (128 * (16 * k + p)) q kk g (cumAt arg11 f11 o inc) where
  q := hq
  k := hkk
  g := hg
  fa i d := by
    rw [load_cum p ho]
    refine Eq.trans ?_ ((hP.cumF p 0 i d).trans ?_)
    · simp
    · rw [show 2048 * min k 1 + 128 * p.val + 64 * (0 : Fin 2).val = 128 * (16 * k + p) by simp; omega]
  fb i d := by
    rw [load_cum p ho]
    refine Eq.trans ?_ ((hP.cumF p 1 i d).trans ?_)
    · simp
    · rw [show 2048 * min k 1 + 128 * p.val + 64 * (1 : Fin 2).val = 128 * (16 * k + p) + 64 by simp; omega]
  ba i d := by
    rw [load_cum p ho]
    refine Eq.trans ?_ ((hP.cumB p 0 i d).trans ?_)
    · simp
    · rw [show 2048 * min k 1 + 128 * p.val + 64 * (0 : Fin 2).val = 128 * (16 * k + p) by simp; omega]
  bb i d := by
    rw [load_cum p ho]
    refine Eq.trans ?_ ((hP.cumB p 1 i d).trans ?_)
    · simp
    · rw [show 2048 * min k 1 + 128 * p.val + 64 * (1 : Fin 2).val = 128 * (16 * k + p) + 64 by simp; omega]

include hin in
set_option maxHeartbeats 4000000 in
/-- One trip: the stores of its sixteen pairs and of the next tile's running sums extend the invariant. -/
theorem trip {m2 m3 : IVec S128x128 1} (hm2 : ∀ i j : Fin 128, m2 (ix2 i j) = if j ≤ i then 1#1 else 0#1) (hm3 : ∀ i j : Fin 128, m3 (ix2 i j) = if i ≤ j then 1#1 else 0#1)
    {m : FVec Ideal S128x128 .bf16} (hm : IsSum m) (k : Fin k0_t1_loop.trips)
    (hP : Holds Q GF GB V k.val (arg7.view.read (Elt Ideal) f7) (arg8.view.read (Elt Ideal) f8) (arg9.view.read (Elt Ideal) f9) (arg10.view.read (Elt Ideal) f10) (arg11.view.read (Elt Ideal) f11) (arg12.view.read (Elt Ideal) f12))
    {a0 a1 a2 a3 a4 a5 a6 a7 a8 a9 a10 a11 a12 a13 a14 a15 c0 c1 c2 c3 c4 c5 c6 c7 c8 c9 c10 c11 c12 c13 c14 c15 g0 s0}
    {j7_0} {j7_1} {j7_2} {j7_3} {j7_4} {j7_5} {j7_6} {j7_7} {j7_8} {j7_9} {j7_10} {j7_11} {j7_12} {j7_13} {j7_14} {j7_15}
    {j8_0} {j8_1} {j8_2} {j8_3} {j8_4} {j8_5} {j8_6} {j8_7} {j8_8} {j8_9} {j8_10} {j8_11} {j8_12} {j8_13} {j8_14} {j8_15}
    {j9_0} {j9_1} {j9_2} {j9_3} {j9_4} {j9_5} {j9_6} {j9_7} {j9_8} {j9_9} {j9_10} {j9_11} {j9_12} {j9_13} {j9_14} {j9_15}
    {j10_0} {j10_1} {j10_2} {j10_3} {j10_4} {j10_5} {j10_6} {j10_7} {j10_8} {j10_9} {j10_10} {j10_11} {j10_12} {j10_13} {j10_14} {j10_15}
    {j11_0} {j11_1} {j11_2} {j11_3} {j11_4} {j11_5} {j11_6} {j11_7} {j11_8} {j11_9} {j11_10} {j11_11} {j11_12} {j11_13} {j11_14} {j11_15}
    {j12 : ∀ a, (![0, 0] : Fin 2 → ℕ) a + S128x128.size a ≤ S128x128.size a} {L12 : List (View.Piece (Elt Ideal) S128x128 .f32)}
    {w7_0 w7_1 w7_2 w7_3 w7_4 w7_5 w7_6 w7_7 w7_8 w7_9 w7_10 w7_11 w7_12 w7_13 w7_14 w7_15 : S128x128.Idx → Elt Ideal .bf16}
    {w8_0 w8_1 w8_2 w8_3 w8_4 w8_5 w8_6 w8_7 w8_8 w8_9 w8_10 w8_11 w8_12 w8_13 w8_14 w8_15 : S1x128x128.Idx → Elt Ideal .f32}
    {w9_0 w9_1 w9_2 w9_3 w9_4 w9_5 w9_6 w9_7 w9_8 w9_9 w9_10 w9_11 w9_12 w9_13 w9_14 w9_15 : S1x128x128.Idx → Elt Ideal .f32}
    {w10_0 w10_1 w10_2 w10_3 w10_4 w10_5 w10_6 w10_7 w10_8 w10_9 w10_10 w10_11 w10_12 w10_13 w10_14 w10_15 : S128x128.Idx → Elt Ideal .f32}
    {w11_0 w11_1 w11_2 w11_3 w11_4 w11_5 w11_6 w11_7 w11_8 w11_9 w11_10 w11_11 w11_12 w11_13 w11_14 w11_15 : S128x256.Idx → Elt Ideal .f32}
    {w12 : S128x128.Idx → Elt Ideal .f32} {st1 st2 st3 st4 st5 st6 st7 st8 st9 st10 st11 st12 st13 st14 st15 : FVec Ideal S128x128 .f32}
    (e7_0 : w7_0 = kept128 (F := Ideal) (qiB (wide (F := Ideal) (blk harg2 x0 k 0#32 a0)) (wide (F := Ideal) (blk harg4 x2 k 0#32 a0)) (cumAt arg11 f11 0 c0)))
    (e8_0 : w8_0 = slab128 (F := Ideal) (incrB (keys (wide (F := Ideal) (blk harg3 x1 k 0#32 a0))) (keys (wide (F := Ideal) (blk harg4 x2 k 0#32 a0))) (wide (F := Ideal) (blk harg4 x2 k 0#32 a0)) (cumAt arg11 f11 0 c0) (flat (F := Ideal) (blk harg5 x3 k 0#32 a0))))
    (e9_0 : w9_0 = slab128 (F := Ideal) (decB (cumAt arg11 f11 0 c0)))
    (e10_0 : w10_0 = kept (F := Ideal) (rows m2 m3 (wide (F := Ideal) (blk harg2 x0 k 0#32 a0)) (keys (wide (F := Ideal) (blk harg3 x1 k 0#32 a0))) (keys (wide (F := Ideal) (blk harg4 x2 k 0#32 a0))) (wide (F := Ideal) (blk harg4 x2 k 0#32 a0)) (cumAt arg11 f11 0 c0) (flat (F := Ideal) (blk harg5 x3 k 0#32 a0)) (arg12.view.readAt (Elt Ideal) (Rect.unit (s := S128x128) ![0, 0] S128x128.size s0).toLoadRect f12)))
    (e11_0 : w11_0 = sums m (gates (F := Ideal) (tileAt harg3 x1 k g0) (tileAt harg4 x2 k g0)) 0)
    (t0 : st1 = kept (F := Ideal) (decayed (arg12.view.readAt (Elt Ideal) (Rect.unit (s := S128x128) ![0, 0] S128x128.size s0).toLoadRect f12) (decF (cumAt arg11 f11 0 c0)) (incrF (keys (wide (F := Ideal) (blk harg3 x1 k 0#32 a0))) (keys (wide (F := Ideal) (blk harg4 x2 k 0#32 a0))) (wide (F := Ideal) (blk harg4 x2 k 0#32 a0)) (cumAt arg11 f11 0 c0) (flat (F := Ideal) (blk harg5 x3 k 0#32 a0)))))
    (e7_1 : w7_1 = kept128 (F := Ideal) (qiB (wide (F := Ideal) (blk harg2 x0 k 128#32 a1)) (wide (F := Ideal) (blk harg4 x2 k 128#32 a1)) (cumAt arg11 f11 128 c1)))
    (e8_1 : w8_1 = slab128 (F := Ideal) (incrB (keys (wide (F := Ideal) (blk harg3 x1 k 128#32 a1))) (keys (wide (F := Ideal) (blk harg4 x2 k 128#32 a1))) (wide (F := Ideal) (blk harg4 x2 k 128#32 a1)) (cumAt arg11 f11 128 c1) (flat (F := Ideal) (blk harg5 x3 k 128#32 a1))))
    (e9_1 : w9_1 = slab128 (F := Ideal) (decB (cumAt arg11 f11 128 c1)))
    (e10_1 : w10_1 = kept (F := Ideal) (rows m2 m3 (wide (F := Ideal) (blk harg2 x0 k 128#32 a1)) (keys (wide (F := Ideal) (blk harg3 x1 k 128#32 a1))) (keys (wide (F := Ideal) (blk harg4 x2 k 128#32 a1))) (wide (F := Ideal) (blk harg4 x2 k 128#32 a1)) (cumAt arg11 f11 128 c1) (flat (F := Ideal) (blk harg5 x3 k 128#32 a1)) st1))
    (e11_1 : w11_1 = sums m (gates (F := Ideal) (tileAt harg3 x1 k g0) (tileAt harg4 x2 k g0)) 1)
    (t1 : st2 = kept (F := Ideal) (decayed st1 (decF (cumAt arg11 f11 128 c1)) (incrF (keys (wide (F := Ideal) (blk harg3 x1 k 128#32 a1))) (keys (wide (F := Ideal) (blk harg4 x2 k 128#32 a1))) (wide (F := Ideal) (blk harg4 x2 k 128#32 a1)) (cumAt arg11 f11 128 c1) (flat (F := Ideal) (blk harg5 x3 k 128#32 a1)))))
    (e7_2 : w7_2 = kept128 (F := Ideal) (qiB (wide (F := Ideal) (blk harg2 x0 k 256#32 a2)) (wide (F := Ideal) (blk harg4 x2 k 256#32 a2)) (cumAt arg11 f11 256 c2)))
    (e8_2 : w8_2 = slab128 (F := Ideal) (incrB (keys (wide (F := Ideal) (blk harg3 x1 k 256#32 a2))) (keys (wide (F := Ideal) (blk harg4 x2 k 256#32 a2))) (wide (F := Ideal) (blk harg4 x2 k 256#32 a2)) (cumAt arg11 f11 256 c2) (flat (F := Ideal) (blk harg5 x3 k 256#32 a2))))
    (e9_2 : w9_2 = slab128 (F := Ideal) (decB (cumAt arg11 f11 256 c2)))
    (e10_2 : w10_2 = kept (F := Ideal) (rows m2 m3 (wide (F := Ideal) (blk harg2 x0 k 256#32 a2)) (keys (wide (F := Ideal) (blk harg3 x1 k 256#32 a2))) (keys (wide (F := Ideal) (blk harg4 x2 k 256#32 a2))) (wide (F := Ideal) (blk harg4 x2 k 256#32 a2)) (cumAt arg11 f11 256 c2) (flat (F := Ideal) (blk harg5 x3 k 256#32 a2)) st2))
    (e11_2 : w11_2 = sums m (gates (F := Ideal) (tileAt harg3 x1 k g0) (tileAt harg4 x2 k g0)) 2)
    (t2 : st3 = kept (F := Ideal) (decayed st2 (decF (cumAt arg11 f11 256 c2)) (incrF (keys (wide (F := Ideal) (blk harg3 x1 k 256#32 a2))) (keys (wide (F := Ideal) (blk harg4 x2 k 256#32 a2))) (wide (F := Ideal) (blk harg4 x2 k 256#32 a2)) (cumAt arg11 f11 256 c2) (flat (F := Ideal) (blk harg5 x3 k 256#32 a2)))))
    (e7_3 : w7_3 = kept128 (F := Ideal) (qiB (wide (F := Ideal) (blk harg2 x0 k 384#32 a3)) (wide (F := Ideal) (blk harg4 x2 k 384#32 a3)) (cumAt arg11 f11 384 c3)))
    (e8_3 : w8_3 = slab128 (F := Ideal) (incrB (keys (wide (F := Ideal) (blk harg3 x1 k 384#32 a3))) (keys (wide (F := Ideal) (blk harg4 x2 k 384#32 a3))) (wide (F := Ideal) (blk harg4 x2 k 384#32 a3)) (cumAt arg11 f11 384 c3) (flat (F := Ideal) (blk harg5 x3 k 384#32 a3))))
    (e9_3 : w9_3 = slab128 (F := Ideal) (decB (cumAt arg11 f11 384 c3)))
    (e10_3 : w10_3 = kept (F := Ideal) (rows m2 m3 (wide (F := Ideal) (blk harg2 x0 k 384#32 a3)) (keys (wide (F := Ideal) (blk harg3 x1 k 384#32 a3))) (keys (wide (F := Ideal) (blk harg4 x2 k 384#32 a3))) (wide (F := Ideal) (blk harg4 x2 k 384#32 a3)) (cumAt arg11 f11 384 c3) (flat (F := Ideal) (blk harg5 x3 k 384#32 a3)) st3))
    (e11_3 : w11_3 = sums m (gates (F := Ideal) (tileAt harg3 x1 k g0) (tileAt harg4 x2 k g0)) 3)
    (t3 : st4 = kept (F := Ideal) (decayed st3 (decF (cumAt arg11 f11 384 c3)) (incrF (keys (wide (F := Ideal) (blk harg3 x1 k 384#32 a3))) (keys (wide (F := Ideal) (blk harg4 x2 k 384#32 a3))) (wide (F := Ideal) (blk harg4 x2 k 384#32 a3)) (cumAt arg11 f11 384 c3) (flat (F := Ideal) (blk harg5 x3 k 384#32 a3)))))
    (e7_4 : w7_4 = kept128 (F := Ideal) (qiB (wide (F := Ideal) (blk harg2 x0 k 512#32 a4)) (wide (F := Ideal) (blk harg4 x2 k 512#32 a4)) (cumAt arg11 f11 512 c4)))
    (e8_4 : w8_4 = slab128 (F := Ideal) (incrB (keys (wide (F := Ideal) (blk harg3 x1 k 512#32 a4))) (keys (wide (F := Ideal) (blk harg4 x2 k 512#32 a4))) (wide (F := Ideal) (blk harg4 x2 k 512#32 a4)) (cumAt arg11 f11 512 c4) (flat (F := Ideal) (blk harg5 x3 k 512#32 a4))))
    (e9_4 : w9_4 = slab128 (F := Ideal) (decB (cumAt arg11 f11 512 c4)))
    (e10_4 : w10_4 = kept (F := Ideal) (rows m2 m3 (wide (F := Ideal) (blk harg2 x0 k 512#32 a4)) (keys (wide (F := Ideal) (blk harg3 x1 k 512#32 a4))) (keys (wide (F := Ideal) (blk harg4 x2 k 512#32 a4))) (wide (F := Ideal) (blk harg4 x2 k 512#32 a4)) (cumAt arg11 f11 512 c4) (flat (F := Ideal) (blk harg5 x3 k 512#32 a4)) st4))
    (e11_4 : w11_4 = sums m (gates (F := Ideal) (tileAt harg3 x1 k g0) (tileAt harg4 x2 k g0)) 4)
    (t4 : st5 = kept (F := Ideal) (decayed st4 (decF (cumAt arg11 f11 512 c4)) (incrF (keys (wide (F := Ideal) (blk harg3 x1 k 512#32 a4))) (keys (wide (F := Ideal) (blk harg4 x2 k 512#32 a4))) (wide (F := Ideal) (blk harg4 x2 k 512#32 a4)) (cumAt arg11 f11 512 c4) (flat (F := Ideal) (blk harg5 x3 k 512#32 a4)))))
    (e7_5 : w7_5 = kept128 (F := Ideal) (qiB (wide (F := Ideal) (blk harg2 x0 k 640#32 a5)) (wide (F := Ideal) (blk harg4 x2 k 640#32 a5)) (cumAt arg11 f11 640 c5)))
    (e8_5 : w8_5 = slab128 (F := Ideal) (incrB (keys (wide (F := Ideal) (blk harg3 x1 k 640#32 a5))) (keys (wide (F := Ideal) (blk harg4 x2 k 640#32 a5))) (wide (F := Ideal) (blk harg4 x2 k 640#32 a5)) (cumAt arg11 f11 640 c5) (flat (F := Ideal) (blk harg5 x3 k 640#32 a5))))
    (e9_5 : w9_5 = slab128 (F := Ideal) (decB (cumAt arg11 f11 640 c5)))
    (e10_5 : w10_5 = kept (F := Ideal) (rows m2 m3 (wide (F := Ideal) (blk harg2 x0 k 640#32 a5)) (keys (wide (F := Ideal) (blk harg3 x1 k 640#32 a5))) (keys (wide (F := Ideal) (blk harg4 x2 k 640#32 a5))) (wide (F := Ideal) (blk harg4 x2 k 640#32 a5)) (cumAt arg11 f11 640 c5) (flat (F := Ideal) (blk harg5 x3 k 640#32 a5)) st5))
    (e11_5 : w11_5 = sums m (gates (F := Ideal) (tileAt harg3 x1 k g0) (tileAt harg4 x2 k g0)) 5)
    (t5 : st6 = kept (F := Ideal) (decayed st5 (decF (cumAt arg11 f11 640 c5)) (incrF (keys (wide (F := Ideal) (blk harg3 x1 k 640#32 a5))) (keys (wide (F := Ideal) (blk harg4 x2 k 640#32 a5))) (wide (F := Ideal) (blk harg4 x2 k 640#32 a5)) (cumAt arg11 f11 640 c5) (flat (F := Ideal) (blk harg5 x3 k 640#32 a5)))))
    (e7_6 : w7_6 = kept128 (F := Ideal) (qiB (wide (F := Ideal) (blk harg2 x0 k 768#32 a6)) (wide (F := Ideal) (blk harg4 x2 k 768#32 a6)) (cumAt arg11 f11 768 c6)))
    (e8_6 : w8_6 = slab128 (F := Ideal) (incrB (keys (wide (F := Ideal) (blk harg3 x1 k 768#32 a6))) (keys (wide (F := Ideal) (blk harg4 x2 k 768#32 a6))) (wide (F := Ideal) (blk harg4 x2 k 768#32 a6)) (cumAt arg11 f11 768 c6) (flat (F := Ideal) (blk harg5 x3 k 768#32 a6))))
    (e9_6 : w9_6 = slab128 (F := Ideal) (decB (cumAt arg11 f11 768 c6)))
    (e10_6 : w10_6 = kept (F := Ideal) (rows m2 m3 (wide (F := Ideal) (blk harg2 x0 k 768#32 a6)) (keys (wide (F := Ideal) (blk harg3 x1 k 768#32 a6))) (keys (wide (F := Ideal) (blk harg4 x2 k 768#32 a6))) (wide (F := Ideal) (blk harg4 x2 k 768#32 a6)) (cumAt arg11 f11 768 c6) (flat (F := Ideal) (blk harg5 x3 k 768#32 a6)) st6))
    (e11_6 : w11_6 = sums m (gates (F := Ideal) (tileAt harg3 x1 k g0) (tileAt harg4 x2 k g0)) 6)
    (t6 : st7 = kept (F := Ideal) (decayed st6 (decF (cumAt arg11 f11 768 c6)) (incrF (keys (wide (F := Ideal) (blk harg3 x1 k 768#32 a6))) (keys (wide (F := Ideal) (blk harg4 x2 k 768#32 a6))) (wide (F := Ideal) (blk harg4 x2 k 768#32 a6)) (cumAt arg11 f11 768 c6) (flat (F := Ideal) (blk harg5 x3 k 768#32 a6)))))
    (e7_7 : w7_7 = kept128 (F := Ideal) (qiB (wide (F := Ideal) (blk harg2 x0 k 896#32 a7)) (wide (F := Ideal) (blk harg4 x2 k 896#32 a7)) (cumAt arg11 f11 896 c7)))
    (e8_7 : w8_7 = slab128 (F := Ideal) (incrB (keys (wide (F := Ideal) (blk harg3 x1 k 896#32 a7))) (keys (wide (F := Ideal) (blk harg4 x2 k 896#32 a7))) (wide (F := Ideal) (blk harg4 x2 k 896#32 a7)) (cumAt arg11 f11 896 c7) (flat (F := Ideal) (blk harg5 x3 k 896#32 a7))))
    (e9_7 : w9_7 = slab128 (F := Ideal) (decB (cumAt arg11 f11 896 c7)))
    (e10_7 : w10_7 = kept (F := Ideal) (rows m2 m3 (wide (F := Ideal) (blk harg2 x0 k 896#32 a7)) (keys (wide (F := Ideal) (blk harg3 x1 k 896#32 a7))) (keys (wide (F := Ideal) (blk harg4 x2 k 896#32 a7))) (wide (F := Ideal) (blk harg4 x2 k 896#32 a7)) (cumAt arg11 f11 896 c7) (flat (F := Ideal) (blk harg5 x3 k 896#32 a7)) st7))
    (e11_7 : w11_7 = sums m (gates (F := Ideal) (tileAt harg3 x1 k g0) (tileAt harg4 x2 k g0)) 7)
    (t7 : st8 = kept (F := Ideal) (decayed st7 (decF (cumAt arg11 f11 896 c7)) (incrF (keys (wide (F := Ideal) (blk harg3 x1 k 896#32 a7))) (keys (wide (F := Ideal) (blk harg4 x2 k 896#32 a7))) (wide (F := Ideal) (blk harg4 x2 k 896#32 a7)) (cumAt arg11 f11 896 c7) (flat (F := Ideal) (blk harg5 x3 k 896#32 a7)))))
    (e7_8 : w7_8 = kept128 (F := Ideal) (qiB (wide (F := Ideal) (blk harg2 x0 k 1024#32 a8)) (wide (F := Ideal) (blk harg4 x2 k 1024#32 a8)) (cumAt arg11 f11 1024 c8)))
    (e8_8 : w8_8 = slab128 (F := Ideal) (incrB (keys (wide (F := Ideal) (blk harg3 x1 k 1024#32 a8))) (keys (wide (F := Ideal) (blk harg4 x2 k 1024#32 a8))) (wide (F := Ideal) (blk harg4 x2 k 1024#32 a8)) (cumAt arg11 f11 1024 c8) (flat (F := Ideal) (blk harg5 x3 k 1024#32 a8))))
    (e9_8 : w9_8 = slab128 (F := Ideal) (decB (cumAt arg11 f11 1024 c8)))
    (e10_8 : w10_8 = kept (F := Ideal) (rows m2 m3 (wide (F := Ideal) (blk harg2 x0 k 1024#32 a8)) (keys (wide (F := Ideal) (blk harg3 x1 k 1024#32 a8))) (keys (wide (F := Ideal) (blk harg4 x2 k 1024#32 a8))) (wide (F := Ideal) (blk harg4 x2 k 1024#32 a8)) (cumAt arg11 f11 1024 c8) (flat (F := Ideal) (blk harg5 x3 k 1024#32 a8)) st8))
    (e11_8 : w11_8 = sums m (gates (F := Ideal) (tileAt harg3 x1 k g0) (tileAt harg4 x2 k g0)) 8)
    (t8 : st9 = kept (F := Ideal) (decayed st8 (decF (cumAt arg11 f11 1024 c8)) (incrF (keys (wide (F := Ideal) (blk harg3 x1 k 1024#32 a8))) (keys (wide (F := Ideal) (blk harg4 x2 k 1024#32 a8))) (wide (F := Ideal) (blk harg4 x2 k 1024#32 a8)) (cumAt arg11 f11 1024 c8) (flat (F := Ideal) (blk harg5 x3 k 1024#32 a8)))))
    (e7_9 : w7_9 = kept128 (F := Ideal) (qiB (wide (F := Ideal) (blk harg2 x0 k 1152#32 a9)) (wide (F := Ideal) (blk harg4 x2 k 1152#32 a9)) (cumAt arg11 f11 1152 c9)))
    (e8_9 : w8_9 = slab128 (F := Ideal) (incrB (keys (wide (F := Ideal) (blk harg3 x1 k 1152#32 a9))) (keys (wide (F := Ideal) (blk harg4 x2 k 1152#32 a9))) (wide (F := Ideal) (blk harg4 x2 k 1152#32 a9)) (cumAt arg11 f11 1152 c9) (flat (F := Ideal) (blk harg5 x3 k 1152#32 a9))))
    (e9_9 : w9_9 = slab128 (F := Ideal) (decB (cumAt arg11 f11 1152 c9)))
    (e10_9 : w10_9 = kept (F := Ideal) (rows m2 m3 (wide (F := Ideal) (blk harg2 x0 k 1152#32 a9)) (keys (wide (F := Ideal) (blk harg3 x1 k 1152#32 a9))) (keys (wide (F := Ideal) (blk harg4 x2 k 1152#32 a9))) (wide (F := Ideal) (blk harg4 x2 k 1152#32 a9)) (cumAt arg11 f11 1152 c9) (flat (F := Ideal) (blk harg5 x3 k 1152#32 a9)) st9))
    (e11_9 : w11_9 = sums m (gates (F := Ideal) (tileAt harg3 x1 k g0) (tileAt harg4 x2 k g0)) 9)
    (t9 : st10 = kept (F := Ideal) (decayed st9 (decF (cumAt arg11 f11 1152 c9)) (incrF (keys (wide (F := Ideal) (blk harg3 x1 k 1152#32 a9))) (keys (wide (F := Ideal) (blk harg4 x2 k 1152#32 a9))) (wide (F := Ideal) (blk harg4 x2 k 1152#32 a9)) (cumAt arg11 f11 1152 c9) (flat (F := Ideal) (blk harg5 x3 k 1152#32 a9)))))
    (e7_10 : w7_10 = kept128 (F := Ideal) (qiB (wide (F := Ideal) (blk harg2 x0 k 1280#32 a10)) (wide (F := Ideal) (blk harg4 x2 k 1280#32 a10)) (cumAt arg11 f11 1280 c10)))
    (e8_10 : w8_10 = slab128 (F := Ideal) (incrB (keys (wide (F := Ideal) (blk harg3 x1 k 1280#32 a10))) (keys (wide (F := Ideal) (blk harg4 x2 k 1280#32 a10))) (wide (F := Ideal) (blk harg4 x2 k 1280#32 a10)) (cumAt arg11 f11 1280 c10) (flat (F := Ideal) (blk harg5 x3 k 1280#32 a10))))
    (e9_10 : w9_10 = slab128 (F := Ideal) (decB (cumAt arg11 f11 1280 c10)))
    (e10_10 : w10_10 = kept (F := Ideal) (rows m2 m3 (wide (F := Ideal) (blk harg2 x0 k 1280#32 a10)) (keys (wide (F := Ideal) (blk harg3 x1 k 1280#32 a10))) (keys (wide (F := Ideal) (blk harg4 x2 k 1280#32 a10))) (wide (F := Ideal) (blk harg4 x2 k 1280#32 a10)) (cumAt arg11 f11 1280 c10) (flat (F := Ideal) (blk harg5 x3 k 1280#32 a10)) st10))
    (e11_10 : w11_10 = sums m (gates (F := Ideal) (tileAt harg3 x1 k g0) (tileAt harg4 x2 k g0)) 10)
    (t10 : st11 = kept (F := Ideal) (decayed st10 (decF (cumAt arg11 f11 1280 c10)) (incrF (keys (wide (F := Ideal) (blk harg3 x1 k 1280#32 a10))) (keys (wide (F := Ideal) (blk harg4 x2 k 1280#32 a10))) (wide (F := Ideal) (blk harg4 x2 k 1280#32 a10)) (cumAt arg11 f11 1280 c10) (flat (F := Ideal) (blk harg5 x3 k 1280#32 a10)))))
    (e7_11 : w7_11 = kept128 (F := Ideal) (qiB (wide (F := Ideal) (blk harg2 x0 k 1408#32 a11)) (wide (F := Ideal) (blk harg4 x2 k 1408#32 a11)) (cumAt arg11 f11 1408 c11)))
    (e8_11 : w8_11 = slab128 (F := Ideal) (incrB (keys (wide (F := Ideal) (blk harg3 x1 k 1408#32 a11))) (keys (wide (F := Ideal) (blk harg4 x2 k 1408#32 a11))) (wide (F := Ideal) (blk harg4 x2 k 1408#32 a11)) (cumAt arg11 f11 1408 c11) (flat (F := Ideal) (blk harg5 x3 k 1408#32 a11))))
    (e9_11 : w9_11 = slab128 (F := Ideal) (decB (cumAt arg11 f11 1408 c11)))
    (e10_11 : w10_11 = kept (F := Ideal) (rows m2 m3 (wide (F := Ideal) (blk harg2 x0 k 1408#32 a11)) (keys (wide (F := Ideal) (blk harg3 x1 k 1408#32 a11))) (keys (wide (F := Ideal) (blk harg4 x2 k 1408#32 a11))) (wide (F := Ideal) (blk harg4 x2 k 1408#32 a11)) (cumAt arg11 f11 1408 c11) (flat (F := Ideal) (blk harg5 x3 k 1408#32 a11)) st11))
    (e11_11 : w11_11 = sums m (gates (F := Ideal) (tileAt harg3 x1 k g0) (tileAt harg4 x2 k g0)) 11)
    (t11 : st12 = kept (F := Ideal) (decayed st11 (decF (cumAt arg11 f11 1408 c11)) (incrF (keys (wide (F := Ideal) (blk harg3 x1 k 1408#32 a11))) (keys (wide (F := Ideal) (blk harg4 x2 k 1408#32 a11))) (wide (F := Ideal) (blk harg4 x2 k 1408#32 a11)) (cumAt arg11 f11 1408 c11) (flat (F := Ideal) (blk harg5 x3 k 1408#32 a11)))))
    (e7_12 : w7_12 = kept128 (F := Ideal) (qiB (wide (F := Ideal) (blk harg2 x0 k 1536#32 a12)) (wide (F := Ideal) (blk harg4 x2 k 1536#32 a12)) (cumAt arg11 f11 1536 c12)))
    (e8_12 : w8_12 = slab128 (F := Ideal) (incrB (keys (wide (F := Ideal) (blk harg3 x1 k 1536#32 a12))) (keys (wide (F := Ideal) (blk harg4 x2 k 1536#32 a12))) (wide (F := Ideal) (blk harg4 x2 k 1536#32 a12)) (cumAt arg11 f11 1536 c12) (flat (F := Ideal) (blk harg5 x3 k 1536#32 a12))))
    (e9_12 : w9_12 = slab128 (F := Ideal) (decB (cumAt arg11 f11 1536 c12)))
    (e10_12 : w10_12 = kept (F := Ideal) (rows m2 m3 (wide (F := Ideal) (blk harg2 x0 k 1536#32 a12)) (keys (wide (F := Ideal) (blk harg3 x1 k 1536#32 a12))) (keys (wide (F := Ideal) (blk harg4 x2 k 1536#32 a12))) (wide (F := Ideal) (blk harg4 x2 k 1536#32 a12)) (cumAt arg11 f11 1536 c12) (flat (F := Ideal) (blk harg5 x3 k 1536#32 a12)) st12))
    (e11_12 : w11_12 = sums m (gates (F := Ideal) (tileAt harg3 x1 k g0) (tileAt harg4 x2 k g0)) 12)
    (t12 : st13 = kept (F := Ideal) (decayed st12 (decF (cumAt arg11 f11 1536 c12)) (incrF (keys (wide (F := Ideal) (blk harg3 x1 k 1536#32 a12))) (keys (wide (F := Ideal) (blk harg4 x2 k 1536#32 a12))) (wide (F := Ideal) (blk harg4 x2 k 1536#32 a12)) (cumAt arg11 f11 1536 c12) (flat (F := Ideal) (blk harg5 x3 k 1536#32 a12)))))
    (e7_13 : w7_13 = kept128 (F := Ideal) (qiB (wide (F := Ideal) (blk harg2 x0 k 1664#32 a13)) (wide (F := Ideal) (blk harg4 x2 k 1664#32 a13)) (cumAt arg11 f11 1664 c13)))
    (e8_13 : w8_13 = slab128 (F := Ideal) (incrB (keys (wide (F := Ideal) (blk harg3 x1 k 1664#32 a13))) (keys (wide (F := Ideal) (blk harg4 x2 k 1664#32 a13))) (wide (F := Ideal) (blk harg4 x2 k 1664#32 a13)) (cumAt arg11 f11 1664 c13) (flat (F := Ideal) (blk harg5 x3 k 1664#32 a13))))
    (e9_13 : w9_13 = slab128 (F := Ideal) (decB (cumAt arg11 f11 1664 c13)))
    (e10_13 : w10_13 = kept (F := Ideal) (rows m2 m3 (wide (F := Ideal) (blk harg2 x0 k 1664#32 a13)) (keys (wide (F := Ideal) (blk harg3 x1 k 1664#32 a13))) (keys (wide (F := Ideal) (blk harg4 x2 k 1664#32 a13))) (wide (F := Ideal) (blk harg4 x2 k 1664#32 a13)) (cumAt arg11 f11 1664 c13) (flat (F := Ideal) (blk harg5 x3 k 1664#32 a13)) st13))
    (e11_13 : w11_13 = sums m (gates (F := Ideal) (tileAt harg3 x1 k g0) (tileAt harg4 x2 k g0)) 13)
    (t13 : st14 = kept (F := Ideal) (decayed st13 (decF (cumAt arg11 f11 1664 c13)) (incrF (keys (wide (F := Ideal) (blk harg3 x1 k 1664#32 a13))) (keys (wide (F := Ideal) (blk harg4 x2 k 1664#32 a13))) (wide (F := Ideal) (blk harg4 x2 k 1664#32 a13)) (cumAt arg11 f11 1664 c13) (flat (F := Ideal) (blk harg5 x3 k 1664#32 a13)))))
    (e7_14 : w7_14 = kept128 (F := Ideal) (qiB (wide (F := Ideal) (blk harg2 x0 k 1792#32 a14)) (wide (F := Ideal) (blk harg4 x2 k 1792#32 a14)) (cumAt arg11 f11 1792 c14)))
    (e8_14 : w8_14 = slab128 (F := Ideal) (incrB (keys (wide (F := Ideal) (blk harg3 x1 k 1792#32 a14))) (keys (wide (F := Ideal) (blk harg4 x2 k 1792#32 a14))) (wide (F := Ideal) (blk harg4 x2 k 1792#32 a14)) (cumAt arg11 f11 1792 c14) (flat (F := Ideal) (blk harg5 x3 k 1792#32 a14))))
    (e9_14 : w9_14 = slab128 (F := Ideal) (decB (cumAt arg11 f11 1792 c14)))
    (e10_14 : w10_14 = kept (F := Ideal) (rows m2 m3 (wide (F := Ideal) (blk harg2 x0 k 1792#32 a14)) (keys (wide (F := Ideal) (blk harg3 x1 k 1792#32 a14))) (keys (wide (F := Ideal) (blk harg4 x2 k 1792#32 a14))) (wide (F := Ideal) (blk harg4 x2 k 1792#32 a14)) (cumAt arg11 f11 1792 c14) (flat (F := Ideal) (blk harg5 x3 k 1792#32 a14)) st14))
    (e11_14 : w11_14 = sums m (gates (F := Ideal) (tileAt harg3 x1 k g0) (tileAt harg4 x2 k g0)) 14)
    (t14 : st15 = kept (F := Ideal) (decayed st14 (decF (cumAt arg11 f11 1792 c14)) (incrF (keys (wide (F := Ideal) (blk harg3 x1 k 1792#32 a14))) (keys (wide (F := Ideal) (blk harg4 x2 k 1792#32 a14))) (wide (F := Ideal) (blk harg4 x2 k 1792#32 a14)) (cumAt arg11 f11 1792 c14) (flat (F := Ideal) (blk harg5 x3 k 1792#32 a14)))))
    (e7_15 : w7_15 = kept128 (F := Ideal) (qiB (wide (F := Ideal) (blk harg2 x0 k 1920#32 a15)) (wide (F := Ideal) (blk harg4 x2 k 1920#32 a15)) (cumAt arg11 f11 1920 c15)))
    (e8_15 : w8_15 = slab128 (F := Ideal) (incrB (keys (wide (F := Ideal) (blk harg3 x1 k 1920#32 a15))) (keys (wide (F := Ideal) (blk harg4 x2 k 1920#32 a15))) (wide (F := Ideal) (blk harg4 x2 k 1920#32 a15)) (cumAt arg11 f11 1920 c15) (flat (F := Ideal) (blk harg5 x3 k 1920#32 a15))))
    (e9_15 : w9_15 = slab128 (F := Ideal) (decB (cumAt arg11 f11 1920 c15)))
    (e10_15 : w10_15 = kept (F := Ideal) (rows m2 m3 (wide (F := Ideal) (blk harg2 x0 k 1920#32 a15)) (keys (wide (F := Ideal) (blk harg3 x1 k 1920#32 a15))) (keys (wide (F := Ideal) (blk harg4 x2 k 1920#32 a15))) (wide (F := Ideal) (blk harg4 x2 k 1920#32 a15)) (cumAt arg11 f11 1920 c15) (flat (F := Ideal) (blk harg5 x3 k 1920#32 a15)) st15))
    (e11_15 : w11_15 = sums m (gates (F := Ideal) (tileAt harg3 x1 k g0) (tileAt harg4 x2 k g0)) 15)
    (t15 : w12 = kept (F := Ideal) (decayed st15 (decF (cumAt arg11 f11 1920 c15)) (incrF (keys (wide (F := Ideal) (blk harg3 x1 k 1920#32 a15))) (keys (wide (F := Ideal) (blk harg4 x2 k 1920#32 a15))) (wide (F := Ideal) (blk harg4 x2 k 1920#32 a15)) (cumAt arg11 f11 1920 c15) (flat (F := Ideal) (blk harg5 x3 k 1920#32 a15)))))
    : Holds Q GF GB V (k.val + 1)
      (arg7.view.read (Elt Ideal) (arg7.view.writes (Elt Ideal) f7 [⟨Rect.unit (s := S4096x128) (k0_off2 k 1920#32) S128x128.size j7_15, w7_15⟩, ⟨Rect.unit (s := S4096x128) (k0_off2 k 1792#32) S128x128.size j7_14, w7_14⟩, ⟨Rect.unit (s := S4096x128) (k0_off2 k 1664#32) S128x128.size j7_13, w7_13⟩, ⟨Rect.unit (s := S4096x128) (k0_off2 k 1536#32) S128x128.size j7_12, w7_12⟩, ⟨Rect.unit (s := S4096x128) (k0_off2 k 1408#32) S128x128.size j7_11, w7_11⟩, ⟨Rect.unit (s := S4096x128) (k0_off2 k 1280#32) S128x128.size j7_10, w7_10⟩, ⟨Rect.unit (s := S4096x128) (k0_off2 k 1152#32) S128x128.size j7_9, w7_9⟩, ⟨Rect.unit (s := S4096x128) (k0_off2 k 1024#32) S128x128.size j7_8, w7_8⟩, ⟨Rect.unit (s := S4096x128) (k0_off2 k 896#32) S128x128.size j7_7, w7_7⟩, ⟨Rect.unit (s := S4096x128) (k0_off2 k 768#32) S128x128.size j7_6, w7_6⟩, ⟨Rect.unit (s := S4096x128) (k0_off2 k 640#32) S128x128.size j7_5, w7_5⟩, ⟨Rect.unit (s := S4096x128) (k0_off2 k 512#32) S128x128.size j7_4, w7_4⟩, ⟨Rect.unit (s := S4096x128) (k0_off2 k 384#32) S128x128.size j7_3, w7_3⟩, ⟨Rect.unit (s := S4096x128) (k0_off2 k 256#32) S128x128.size j7_2, w7_2⟩, ⟨Rect.unit (s := S4096x128) (k0_off2 k 128#32) S128x128.size j7_1, w7_1⟩, ⟨Rect.unit (s := S4096x128) (k0_off2 k 0#32) S128x128.size j7_0, w7_0⟩]))
      (arg8.view.read (Elt Ideal) (arg8.view.writes (Elt Ideal) f8 [⟨Rect.unit (s := S32x128x128) (k0_off3 k 15#32) S1x128x128.size j8_15, w8_15⟩, ⟨Rect.unit (s := S32x128x128) (k0_off3 k 14#32) S1x128x128.size j8_14, w8_14⟩, ⟨Rect.unit (s := S32x128x128) (k0_off3 k 13#32) S1x128x128.size j8_13, w8_13⟩, ⟨Rect.unit (s := S32x128x128) (k0_off3 k 12#32) S1x128x128.size j8_12, w8_12⟩, ⟨Rect.unit (s := S32x128x128) (k0_off3 k 11#32) S1x128x128.size j8_11, w8_11⟩, ⟨Rect.unit (s := S32x128x128) (k0_off3 k 10#32) S1x128x128.size j8_10, w8_10⟩, ⟨Rect.unit (s := S32x128x128) (k0_off3 k 9#32) S1x128x128.size j8_9, w8_9⟩, ⟨Rect.unit (s := S32x128x128) (k0_off3 k 8#32) S1x128x128.size j8_8, w8_8⟩, ⟨Rect.unit (s := S32x128x128) (k0_off3 k 7#32) S1x128x128.size j8_7, w8_7⟩, ⟨Rect.unit (s := S32x128x128) (k0_off3 k 6#32) S1x128x128.size j8_6, w8_6⟩, ⟨Rect.unit (s := S32x128x128) (k0_off3 k 5#32) S1x128x128.size j8_5, w8_5⟩, ⟨Rect.unit (s := S32x128x128) (k0_off3 k 4#32) S1x128x128.size j8_4, w8_4⟩, ⟨Rect.unit (s := S32x128x128) (k0_off3 k 3#32) S1x128x128.size j8_3, w8_3⟩, ⟨Rect.unit (s := S32x128x128) (k0_off3 k 2#32) S1x128x128.size j8_2, w8_2⟩, ⟨Rect.unit (s := S32x128x128) (k0_off3 k 1#32) S1x128x128.size j8_1, w8_1⟩, ⟨Rect.unit (s := S32x128x128) (k0_off3 k 0#32) S1x128x128.size j8_0, w8_0⟩]))
      (arg9.view.read (Elt Ideal) (arg9.view.writes (Elt Ideal) f9 [⟨Rect.unit (s := S32x128x128) (k0_off3 k 15#32) S1x128x128.size j9_15, w9_15⟩, ⟨Rect.unit (s := S32x128x128) (k0_off3 k 14#32) S1x128x128.size j9_14, w9_14⟩, ⟨Rect.unit (s := S32x128x128) (k0_off3 k 13#32) S1x128x128.size j9_13, w9_13⟩, ⟨Rect.unit (s := S32x128x128) (k0_off3 k 12#32) S1x128x128.size j9_12, w9_12⟩, ⟨Rect.unit (s := S32x128x128) (k0_off3 k 11#32) S1x128x128.size j9_11, w9_11⟩, ⟨Rect.unit (s := S32x128x128) (k0_off3 k 10#32) S1x128x128.size j9_10, w9_10⟩, ⟨Rect.unit (s := S32x128x128) (k0_off3 k 9#32) S1x128x128.size j9_9, w9_9⟩, ⟨Rect.unit (s := S32x128x128) (k0_off3 k 8#32) S1x128x128.size j9_8, w9_8⟩, ⟨Rect.unit (s := S32x128x128) (k0_off3 k 7#32) S1x128x128.size j9_7, w9_7⟩, ⟨Rect.unit (s := S32x128x128) (k0_off3 k 6#32) S1x128x128.size j9_6, w9_6⟩, ⟨Rect.unit (s := S32x128x128) (k0_off3 k 5#32) S1x128x128.size j9_5, w9_5⟩, ⟨Rect.unit (s := S32x128x128) (k0_off3 k 4#32) S1x128x128.size j9_4, w9_4⟩, ⟨Rect.unit (s := S32x128x128) (k0_off3 k 3#32) S1x128x128.size j9_3, w9_3⟩, ⟨Rect.unit (s := S32x128x128) (k0_off3 k 2#32) S1x128x128.size j9_2, w9_2⟩, ⟨Rect.unit (s := S32x128x128) (k0_off3 k 1#32) S1x128x128.size j9_1, w9_1⟩, ⟨Rect.unit (s := S32x128x128) (k0_off3 k 0#32) S1x128x128.size j9_0, w9_0⟩]))
      (arg10.view.read (Elt Ideal) (arg10.view.writes (Elt Ideal) f10 [⟨Rect.unit (s := S4096x128) (k0_off2 k 1920#32) S128x128.size j10_15, w10_15⟩, ⟨Rect.unit (s := S4096x128) (k0_off2 k 1792#32) S128x128.size j10_14, w10_14⟩, ⟨Rect.unit (s := S4096x128) (k0_off2 k 1664#32) S128x128.size j10_13, w10_13⟩, ⟨Rect.unit (s := S4096x128) (k0_off2 k 1536#32) S128x128.size j10_12, w10_12⟩, ⟨Rect.unit (s := S4096x128) (k0_off2 k 1408#32) S128x128.size j10_11, w10_11⟩, ⟨Rect.unit (s := S4096x128) (k0_off2 k 1280#32) S128x128.size j10_10, w10_10⟩, ⟨Rect.unit (s := S4096x128) (k0_off2 k 1152#32) S128x128.size j10_9, w10_9⟩, ⟨Rect.unit (s := S4096x128) (k0_off2 k 1024#32) S128x128.size j10_8, w10_8⟩, ⟨Rect.unit (s := S4096x128) (k0_off2 k 896#32) S128x128.size j10_7, w10_7⟩, ⟨Rect.unit (s := S4096x128) (k0_off2 k 768#32) S128x128.size j10_6, w10_6⟩, ⟨Rect.unit (s := S4096x128) (k0_off2 k 640#32) S128x128.size j10_5, w10_5⟩, ⟨Rect.unit (s := S4096x128) (k0_off2 k 512#32) S128x128.size j10_4, w10_4⟩, ⟨Rect.unit (s := S4096x128) (k0_off2 k 384#32) S128x128.size j10_3, w10_3⟩, ⟨Rect.unit (s := S4096x128) (k0_off2 k 256#32) S128x128.size j10_2, w10_2⟩, ⟨Rect.unit (s := S4096x128) (k0_off2 k 128#32) S128x128.size j10_1, w10_1⟩, ⟨Rect.unit (s := S4096x128) (k0_off2 k 0#32) S128x128.size j10_0, w10_0⟩]))
      (arg11.view.read (Elt Ideal) (arg11.view.writes (Elt Ideal) f11 [⟨Rect.unit (s := S2048x256) ![1920, 0] S128x256.size j11_15, w11_15⟩, ⟨Rect.unit (s := S2048x256) ![1792, 0] S128x256.size j11_14, w11_14⟩, ⟨Rect.unit (s := S2048x256) ![1664, 0] S128x256.size j11_13, w11_13⟩, ⟨Rect.unit (s := S2048x256) ![1536, 0] S128x256.size j11_12, w11_12⟩, ⟨Rect.unit (s := S2048x256) ![1408, 0] S128x256.size j11_11, w11_11⟩, ⟨Rect.unit (s := S2048x256) ![1280, 0] S128x256.size j11_10, w11_10⟩, ⟨Rect.unit (s := S2048x256) ![1152, 0] S128x256.size j11_9, w11_9⟩, ⟨Rect.unit (s := S2048x256) ![1024, 0] S128x256.size j11_8, w11_8⟩, ⟨Rect.unit (s := S2048x256) ![896, 0] S128x256.size j11_7, w11_7⟩, ⟨Rect.unit (s := S2048x256) ![768, 0] S128x256.size j11_6, w11_6⟩, ⟨Rect.unit (s := S2048x256) ![640, 0] S128x256.size j11_5, w11_5⟩, ⟨Rect.unit (s := S2048x256) ![512, 0] S128x256.size j11_4, w11_4⟩, ⟨Rect.unit (s := S2048x256) ![384, 0] S128x256.size j11_3, w11_3⟩, ⟨Rect.unit (s := S2048x256) ![256, 0] S128x256.size j11_2, w11_2⟩, ⟨Rect.unit (s := S2048x256) ![128, 0] S128x256.size j11_1, w11_1⟩, ⟨Rect.unit (s := S2048x256) ![0, 0] S128x256.size j11_0, w11_0⟩]))
      (arg12.view.read (Elt Ideal) (arg12.view.writes (Elt Ideal) f12 (⟨Rect.unit (s := S128x128) ![0, 0] S128x128.size j12, w12⟩ :: L12))) := by
  have hk := trips2 k
  have hn : ∀ p : Fin 16, 16 * k.val + p.val < 32 := fun p => by omega
  have hK : ∀ (p : Fin 16) (inb), ∀ i d, keys (wide (F := Ideal) (blk harg3 x1 k (BitVec.ofNat 32 (128 * p.val)) inb)) (ix2 i d) = ((gateKey GF (128 * (16 * k.val + p.val) + i) d : ℝ) : EReal) :=
    fun p inb => keys_val (load128 harg3 hin.gf (hn p) (off1_eq k p))
  have hKB : ∀ (p : Fin 16) (inb), ∀ i d, keys (wide (F := Ideal) (blk harg4 x2 k (BitVec.ofNat 32 (128 * p.val)) inb)) (ix2 i d) = ((gateKey GB (128 * (16 * k.val + p.val) + i) d : ℝ) : EReal) :=
    fun p inb => keys_val (load128 harg4 hin.gb (hn p) (off1_eq k p))
  have oF : ∀ (p : Fin 16) (inb) {o : ℕ} (inc) (ho : o = 128 * p.val), Operands Q (gateKey GF) GF GB (128 * (16 * k.val + p.val)) (wide (F := Ideal) (blk harg2 x0 k (BitVec.ofNat 32 (128 * p.val)) inb))
      (keys (wide (F := Ideal) (blk harg3 x1 k (BitVec.ofNat 32 (128 * p.val)) inb))) (wide (F := Ideal) (blk harg4 x2 k (BitVec.ofNat 32 (128 * p.val)) inb)) (cumAt arg11 f11 o inc) :=
    fun p inb _ _ ho => operands hk hP p (load128 harg2 hin.q (hn p) (off1_eq k p)) (hK p inb) (load128 harg4 hin.gb (hn p) (off1_eq k p)) ho
  have oB : ∀ (p : Fin 16) (inb) {o : ℕ} (inc) (ho : o = 128 * p.val), Operands Q (gateKey GB) GF GB (128 * (16 * k.val + p.val)) (wide (F := Ideal) (blk harg2 x0 k (BitVec.ofNat 32 (128 * p.val)) inb))
      (keys (wide (F := Ideal) (blk harg4 x2 k (BitVec.ofNat 32 (128 * p.val)) inb))) (wide (F := Ideal) (blk harg4 x2 k (BitVec.ofNat 32 (128 * p.val)) inb)) (cumAt arg11 f11 o inc) :=
    fun p inb _ _ ho => operands hk hP p (load128 harg2 hin.q (hn p) (off1_eq k p)) (hKB p inb) (load128 harg4 hin.gb (hn p) (off1_eq k p)) ho
  have hv : ∀ (p : Fin 16) (inb), ∀ i d, flat (F := Ideal) (blk harg5 x3 k (BitVec.ofNat 32 (128 * p.val)) inb) (ix2 i d) = ((V (128 * (16 * k.val + p.val) + i) d : ℝ) : EReal) :=
    fun p inb => loadV harg5 hin.v (hn p) (off1_eq k p)
  have F0 := oF 0 a0 c0 rfl
  have B0 := oB 0 a0 c0 rfl
  have V0 := hv 0 a0
  have F1 := oF 1 a1 c1 rfl
  have B1 := oB 1 a1 c1 rfl
  have V1 := hv 1 a1
  have F2 := oF 2 a2 c2 rfl
  have B2 := oB 2 a2 c2 rfl
  have V2 := hv 2 a2
  have F3 := oF 3 a3 c3 rfl
  have B3 := oB 3 a3 c3 rfl
  have V3 := hv 3 a3
  have F4 := oF 4 a4 c4 rfl
  have B4 := oB 4 a4 c4 rfl
  have V4 := hv 4 a4
  have F5 := oF 5 a5 c5 rfl
  have B5 := oB 5 a5 c5 rfl
  have V5 := hv 5 a5
  have F6 := oF 6 a6 c6 rfl
  have B6 := oB 6 a6 c6 rfl
  have V6 := hv 6 a6
  have F7 := oF 7 a7 c7 rfl
  have B7 := oB 7 a7 c7 rfl
  have V7 := hv 7 a7
  have F8 := oF 8 a8 c8 rfl
  have B8 := oB 8 a8 c8 rfl
  have V8 := hv 8 a8
  have F9 := oF 9 a9 c9 rfl
  have B9 := oB 9 a9 c9 rfl
  have V9 := hv 9 a9
  have F10 := oF 10 a10 c10 rfl
  have B10 := oB 10 a10 c10 rfl
  have V10 := hv 10 a10
  have F11 := oF 11 a11 c11 rfl
  have B11 := oB 11 a11 c11 rfl
  have V11 := hv 11 a11
  have F12 := oF 12 a12 c12 rfl
  have B12 := oB 12 a12 c12 rfl
  have V12 := hv 12 a12
  have F13 := oF 13 a13 c13 rfl
  have B13 := oB 13 a13 c13 rfl
  have V13 := hv 13 a13
  have F14 := oF 14 a14 c14 rfl
  have B14 := oB 14 a14 c14 rfl
  have V14 := hv 14 a14
  have F15 := oF 15 a15 c15 rfl
  have B15 := oB 15 a15 c15 rfl
  have V15 := hv 15 a15
  have hs0 : ∀ d e, (arg12.view.readAt (Elt Ideal) (Rect.unit (s := S128x128) ![0, 0] S128x128.size s0).toLoadRect f12) (ix2 d e) = ((state (nat2 GF · d) (gateKey GF · d) (V · e) (128 * (16 * k.val + ((0 : Fin 16) : ℕ))) : ℝ) : EReal) := fun d e => by
    refine (readAt_at _ _ s0 rfl _ (ix2 d e) (fun a => ?_)).trans ((hP.st d e).trans ?_)
    · fin_cases a <;> exact (Nat.zero_add _).symm
    · rw [show 128 * (16 * k.val + ((0 : Fin 16) : ℕ)) = 2048 * k.val by simp; omega]
  have hs1 : ∀ d e, st1 (ix2 d e) = ((state (nat2 GF · d) (gateKey GF · d) (V · e) (128 * (16 * k.val + ((1 : Fin 16) : ℕ))) : ℝ) : EReal) := fun d e =>
    (congrFun t0 _).trans ((kept_apply _ d e).trans ((next_val F0 V0 hs0 d e).trans (by rw [show 128 * (16 * k.val + ((0 : Fin 16) : ℕ)) + 128 = 128 * (16 * k.val + ((1 : Fin 16) : ℕ)) by show 128 * (16 * k.val + 0) + 128 = 128 * (16 * k.val + 1); omega])))
  have hs2 : ∀ d e, st2 (ix2 d e) = ((state (nat2 GF · d) (gateKey GF · d) (V · e) (128 * (16 * k.val + ((2 : Fin 16) : ℕ))) : ℝ) : EReal) := fun d e =>
    (congrFun t1 _).trans ((kept_apply _ d e).trans ((next_val F1 V1 hs1 d e).trans (by rw [show 128 * (16 * k.val + ((1 : Fin 16) : ℕ)) + 128 = 128 * (16 * k.val + ((2 : Fin 16) : ℕ)) by show 128 * (16 * k.val + 1) + 128 = 128 * (16 * k.val + 2); omega])))
  have hs3 : ∀ d e, st3 (ix2 d e) = ((state (nat2 GF · d) (gateKey GF · d) (V · e) (128 * (16 * k.val + ((3 : Fin 16) : ℕ))) : ℝ) : EReal) := fun d e =>
    (congrFun t2 _).trans ((kept_apply _ d e).trans ((next_val F2 V2 hs2 d e).trans (by rw [show 128 * (16 * k.val + ((2 : Fin 16) : ℕ)) + 128 = 128 * (16 * k.val + ((3 : Fin 16) : ℕ)) by show 128 * (16 * k.val + 2) + 128 = 128 * (16 * k.val + 3); omega])))
  have hs4 : ∀ d e, st4 (ix2 d e) = ((state (nat2 GF · d) (gateKey GF · d) (V · e) (128 * (16 * k.val + ((4 : Fin 16) : ℕ))) : ℝ) : EReal) := fun d e =>
    (congrFun t3 _).trans ((kept_apply _ d e).trans ((next_val F3 V3 hs3 d e).trans (by rw [show 128 * (16 * k.val + ((3 : Fin 16) : ℕ)) + 128 = 128 * (16 * k.val + ((4 : Fin 16) : ℕ)) by show 128 * (16 * k.val + 3) + 128 = 128 * (16 * k.val + 4); omega])))
  have hs5 : ∀ d e, st5 (ix2 d e) = ((state (nat2 GF · d) (gateKey GF · d) (V · e) (128 * (16 * k.val + ((5 : Fin 16) : ℕ))) : ℝ) : EReal) := fun d e =>
    (congrFun t4 _).trans ((kept_apply _ d e).trans ((next_val F4 V4 hs4 d e).trans (by rw [show 128 * (16 * k.val + ((4 : Fin 16) : ℕ)) + 128 = 128 * (16 * k.val + ((5 : Fin 16) : ℕ)) by show 128 * (16 * k.val + 4) + 128 = 128 * (16 * k.val + 5); omega])))
  have hs6 : ∀ d e, st6 (ix2 d e) = ((state (nat2 GF · d) (gateKey GF · d) (V · e) (128 * (16 * k.val + ((6 : Fin 16) : ℕ))) : ℝ) : EReal) := fun d e =>
    (congrFun t5 _).trans ((kept_apply _ d e).trans ((next_val F5 V5 hs5 d e).trans (by rw [show 128 * (16 * k.val + ((5 : Fin 16) : ℕ)) + 128 = 128 * (16 * k.val + ((6 : Fin 16) : ℕ)) by show 128 * (16 * k.val + 5) + 128 = 128 * (16 * k.val + 6); omega])))
  have hs7 : ∀ d e, st7 (ix2 d e) = ((state (nat2 GF · d) (gateKey GF · d) (V · e) (128 * (16 * k.val + ((7 : Fin 16) : ℕ))) : ℝ) : EReal) := fun d e =>
    (congrFun t6 _).trans ((kept_apply _ d e).trans ((next_val F6 V6 hs6 d e).trans (by rw [show 128 * (16 * k.val + ((6 : Fin 16) : ℕ)) + 128 = 128 * (16 * k.val + ((7 : Fin 16) : ℕ)) by show 128 * (16 * k.val + 6) + 128 = 128 * (16 * k.val + 7); omega])))
  have hs8 : ∀ d e, st8 (ix2 d e) = ((state (nat2 GF · d) (gateKey GF · d) (V · e) (128 * (16 * k.val + ((8 : Fin 16) : ℕ))) : ℝ) : EReal) := fun d e =>
    (congrFun t7 _).trans ((kept_apply _ d e).trans ((next_val F7 V7 hs7 d e).trans (by rw [show 128 * (16 * k.val + ((7 : Fin 16) : ℕ)) + 128 = 128 * (16 * k.val + ((8 : Fin 16) : ℕ)) by show 128 * (16 * k.val + 7) + 128 = 128 * (16 * k.val + 8); omega])))
  have hs9 : ∀ d e, st9 (ix2 d e) = ((state (nat2 GF · d) (gateKey GF · d) (V · e) (128 * (16 * k.val + ((9 : Fin 16) : ℕ))) : ℝ) : EReal) := fun d e =>
    (congrFun t8 _).trans ((kept_apply _ d e).trans ((next_val F8 V8 hs8 d e).trans (by rw [show 128 * (16 * k.val + ((8 : Fin 16) : ℕ)) + 128 = 128 * (16 * k.val + ((9 : Fin 16) : ℕ)) by show 128 * (16 * k.val + 8) + 128 = 128 * (16 * k.val + 9); omega])))
  have hs10 : ∀ d e, st10 (ix2 d e) = ((state (nat2 GF · d) (gateKey GF · d) (V · e) (128 * (16 * k.val + ((10 : Fin 16) : ℕ))) : ℝ) : EReal) := fun d e =>
    (congrFun t9 _).trans ((kept_apply _ d e).trans ((next_val F9 V9 hs9 d e).trans (by rw [show 128 * (16 * k.val + ((9 : Fin 16) : ℕ)) + 128 = 128 * (16 * k.val + ((10 : Fin 16) : ℕ)) by show 128 * (16 * k.val + 9) + 128 = 128 * (16 * k.val + 10); omega])))
  have hs11 : ∀ d e, st11 (ix2 d e) = ((state (nat2 GF · d) (gateKey GF · d) (V · e) (128 * (16 * k.val + ((11 : Fin 16) : ℕ))) : ℝ) : EReal) := fun d e =>
    (congrFun t10 _).trans ((kept_apply _ d e).trans ((next_val F10 V10 hs10 d e).trans (by rw [show 128 * (16 * k.val + ((10 : Fin 16) : ℕ)) + 128 = 128 * (16 * k.val + ((11 : Fin 16) : ℕ)) by show 128 * (16 * k.val + 10) + 128 = 128 * (16 * k.val + 11); omega])))
  have hs12 : ∀ d e, st12 (ix2 d e) = ((state (nat2 GF · d) (gateKey GF · d) (V · e) (128 * (16 * k.val + ((12 : Fin 16) : ℕ))) : ℝ) : EReal) := fun d e =>
    (congrFun t11 _).trans ((kept_apply _ d e).trans ((next_val F11 V11 hs11 d e).trans (by rw [show 128 * (16 * k.val + ((11 : Fin 16) : ℕ)) + 128 = 128 * (16 * k.val + ((12 : Fin 16) : ℕ)) by show 128 * (16 * k.val + 11) + 128 = 128 * (16 * k.val + 12); omega])))
  have hs13 : ∀ d e, st13 (ix2 d e) = ((state (nat2 GF · d) (gateKey GF · d) (V · e) (128 * (16 * k.val + ((13 : Fin 16) : ℕ))) : ℝ) : EReal) := fun d e =>
    (congrFun t12 _).trans ((kept_apply _ d e).trans ((next_val F12 V12 hs12 d e).trans (by rw [show 128 * (16 * k.val + ((12 : Fin 16) : ℕ)) + 128 = 128 * (16 * k.val + ((13 : Fin 16) : ℕ)) by show 128 * (16 * k.val + 12) + 128 = 128 * (16 * k.val + 13); omega])))
  have hs14 : ∀ d e, st14 (ix2 d e) = ((state (nat2 GF · d) (gateKey GF · d) (V · e) (128 * (16 * k.val + ((14 : Fin 16) : ℕ))) : ℝ) : EReal) := fun d e =>
    (congrFun t13 _).trans ((kept_apply _ d e).trans ((next_val F13 V13 hs13 d e).trans (by rw [show 128 * (16 * k.val + ((13 : Fin 16) : ℕ)) + 128 = 128 * (16 * k.val + ((14 : Fin 16) : ℕ)) by show 128 * (16 * k.val + 13) + 128 = 128 * (16 * k.val + 14); omega])))
  have hs15 : ∀ d e, st15 (ix2 d e) = ((state (nat2 GF · d) (gateKey GF · d) (V · e) (128 * (16 * k.val + ((15 : Fin 16) : ℕ))) : ℝ) : EReal) := fun d e =>
    (congrFun t14 _).trans ((kept_apply _ d e).trans ((next_val F14 V14 hs14 d e).trans (by rw [show 128 * (16 * k.val + ((14 : Fin 16) : ℕ)) + 128 = 128 * (16 * k.val + ((15 : Fin 16) : ℕ)) by show 128 * (16 * k.val + 14) + 128 = 128 * (16 * k.val + 15); omega])))
  have hs16 : ∀ d e, w12 (ix2 d e) = ((state (nat2 GF · d) (gateKey GF · d) (V · e) (2048 * (k.val + 1)) : ℝ) : EReal) := fun d e =>
    (congrFun t15 _).trans ((kept_apply _ d e).trans ((next_val F15 V15 hs15 d e).trans (by rw [show 128 * (16 * k.val + ((15 : Fin 16) : ℕ)) + 128 = 2048 * (k.val + 1) by show 128 * (16 * k.val + 15) + 128 = 2048 * (k.val + 1); omega])))
  refine ⟨?_, ?_, ?_, ?_, ?_, ?_, ?_⟩
  · exact put_rows _ _ k ![w7_0, w7_1, w7_2, w7_3, w7_4, w7_5, w7_6, w7_7, w7_8, w7_9, w7_10, w7_11, w7_12, w7_13, w7_14, w7_15] (qOut Q GB) hP.qi (all16 (fun i d => (congrFun e7_0 _).trans ((kept128_apply _ i d).trans (B0.qiB_val i d))) (fun i d => (congrFun e7_1 _).trans ((kept128_apply _ i d).trans (B1.qiB_val i d))) (fun i d => (congrFun e7_2 _).trans ((kept128_apply _ i d).trans (B2.qiB_val i d))) (fun i d => (congrFun e7_3 _).trans ((kept128_apply _ i d).trans (B3.qiB_val i d))) (fun i d => (congrFun e7_4 _).trans ((kept128_apply _ i d).trans (B4.qiB_val i d))) (fun i d => (congrFun e7_5 _).trans ((kept128_apply _ i d).trans (B5.qiB_val i d))) (fun i d => (congrFun e7_6 _).trans ((kept128_apply _ i d).trans (B6.qiB_val i d))) (fun i d => (congrFun e7_7 _).trans ((kept128_apply _ i d).trans (B7.qiB_val i d))) (fun i d => (congrFun e7_8 _).trans ((kept128_apply _ i d).trans (B8.qiB_val i d))) (fun i d => (congrFun e7_9 _).trans ((kept128_apply _ i d).trans (B9.qiB_val i d))) (fun i d => (congrFun e7_10 _).trans ((kept128_apply _ i d).trans (B10.qiB_val i d))) (fun i d => (congrFun e7_11 _).trans ((kept128_apply _ i d).trans (B11.qiB_val i d))) (fun i d => (congrFun e7_12 _).trans ((kept128_apply _ i d).trans (B12.qiB_val i d))) (fun i d => (congrFun e7_13 _).trans ((kept128_apply _ i d).trans (B13.qiB_val i d))) (fun i d => (congrFun e7_14 _).trans ((kept128_apply _ i d).trans (B14.qiB_val i d))) (fun i d => (congrFun e7_15 _).trans ((kept128_apply _ i d).trans (B15.qiB_val i d))))
  · exact put_stack _ _ k ![w8_0, w8_1, w8_2, w8_3, w8_4, w8_5, w8_6, w8_7, w8_8, w8_9, w8_10, w8_11, w8_12, w8_13, w8_14, w8_15] (updOut (gateKey GB) GB V) hP.upd (all16 (fun i d => (congrFun e8_0 _).trans ((slab128_apply _ i d).trans (updOut_val B0 V0 i d))) (fun i d => (congrFun e8_1 _).trans ((slab128_apply _ i d).trans (updOut_val B1 V1 i d))) (fun i d => (congrFun e8_2 _).trans ((slab128_apply _ i d).trans (updOut_val B2 V2 i d))) (fun i d => (congrFun e8_3 _).trans ((slab128_apply _ i d).trans (updOut_val B3 V3 i d))) (fun i d => (congrFun e8_4 _).trans ((slab128_apply _ i d).trans (updOut_val B4 V4 i d))) (fun i d => (congrFun e8_5 _).trans ((slab128_apply _ i d).trans (updOut_val B5 V5 i d))) (fun i d => (congrFun e8_6 _).trans ((slab128_apply _ i d).trans (updOut_val B6 V6 i d))) (fun i d => (congrFun e8_7 _).trans ((slab128_apply _ i d).trans (updOut_val B7 V7 i d))) (fun i d => (congrFun e8_8 _).trans ((slab128_apply _ i d).trans (updOut_val B8 V8 i d))) (fun i d => (congrFun e8_9 _).trans ((slab128_apply _ i d).trans (updOut_val B9 V9 i d))) (fun i d => (congrFun e8_10 _).trans ((slab128_apply _ i d).trans (updOut_val B10 V10 i d))) (fun i d => (congrFun e8_11 _).trans ((slab128_apply _ i d).trans (updOut_val B11 V11 i d))) (fun i d => (congrFun e8_12 _).trans ((slab128_apply _ i d).trans (updOut_val B12 V12 i d))) (fun i d => (congrFun e8_13 _).trans ((slab128_apply _ i d).trans (updOut_val B13 V13 i d))) (fun i d => (congrFun e8_14 _).trans ((slab128_apply _ i d).trans (updOut_val B14 V14 i d))) (fun i d => (congrFun e8_15 _).trans ((slab128_apply _ i d).trans (updOut_val B15 V15 i d))))
  · exact put_stack _ _ k ![w9_0, w9_1, w9_2, w9_3, w9_4, w9_5, w9_6, w9_7, w9_8, w9_9, w9_10, w9_11, w9_12, w9_13, w9_14, w9_15] (decOut GB) hP.dec (all16 (fun i d => (congrFun e9_0 _).trans ((slab128_apply _ i d).trans (B0.decB_val i d))) (fun i d => (congrFun e9_1 _).trans ((slab128_apply _ i d).trans (B1.decB_val i d))) (fun i d => (congrFun e9_2 _).trans ((slab128_apply _ i d).trans (B2.decB_val i d))) (fun i d => (congrFun e9_3 _).trans ((slab128_apply _ i d).trans (B3.decB_val i d))) (fun i d => (congrFun e9_4 _).trans ((slab128_apply _ i d).trans (B4.decB_val i d))) (fun i d => (congrFun e9_5 _).trans ((slab128_apply _ i d).trans (B5.decB_val i d))) (fun i d => (congrFun e9_6 _).trans ((slab128_apply _ i d).trans (B6.decB_val i d))) (fun i d => (congrFun e9_7 _).trans ((slab128_apply _ i d).trans (B7.decB_val i d))) (fun i d => (congrFun e9_8 _).trans ((slab128_apply _ i d).trans (B8.decB_val i d))) (fun i d => (congrFun e9_9 _).trans ((slab128_apply _ i d).trans (B9.decB_val i d))) (fun i d => (congrFun e9_10 _).trans ((slab128_apply _ i d).trans (B10.decB_val i d))) (fun i d => (congrFun e9_11 _).trans ((slab128_apply _ i d).trans (B11.decB_val i d))) (fun i d => (congrFun e9_12 _).trans ((slab128_apply _ i d).trans (B12.decB_val i d))) (fun i d => (congrFun e9_13 _).trans ((slab128_apply _ i d).trans (B13.decB_val i d))) (fun i d => (congrFun e9_14 _).trans ((slab128_apply _ i d).trans (B14.decB_val i d))) (fun i d => (congrFun e9_15 _).trans ((slab128_apply _ i d).trans (B15.decB_val i d))))
  · exact put_rows _ _ k ![w10_0, w10_1, w10_2, w10_3, w10_4, w10_5, w10_6, w10_7, w10_8, w10_9, w10_10, w10_11, w10_12, w10_13, w10_14, w10_15] (accOut Q (gateKey GF) (gateKey GB) GF GB V) hP.acc (all16 (fun i d => (congrFun e10_0 _).trans ((kept_apply _ i d).trans (rows_val F0 B0 V0 hm2 hm3 hs0 i d))) (fun i d => (congrFun e10_1 _).trans ((kept_apply _ i d).trans (rows_val F1 B1 V1 hm2 hm3 hs1 i d))) (fun i d => (congrFun e10_2 _).trans ((kept_apply _ i d).trans (rows_val F2 B2 V2 hm2 hm3 hs2 i d))) (fun i d => (congrFun e10_3 _).trans ((kept_apply _ i d).trans (rows_val F3 B3 V3 hm2 hm3 hs3 i d))) (fun i d => (congrFun e10_4 _).trans ((kept_apply _ i d).trans (rows_val F4 B4 V4 hm2 hm3 hs4 i d))) (fun i d => (congrFun e10_5 _).trans ((kept_apply _ i d).trans (rows_val F5 B5 V5 hm2 hm3 hs5 i d))) (fun i d => (congrFun e10_6 _).trans ((kept_apply _ i d).trans (rows_val F6 B6 V6 hm2 hm3 hs6 i d))) (fun i d => (congrFun e10_7 _).trans ((kept_apply _ i d).trans (rows_val F7 B7 V7 hm2 hm3 hs7 i d))) (fun i d => (congrFun e10_8 _).trans ((kept_apply _ i d).trans (rows_val F8 B8 V8 hm2 hm3 hs8 i d))) (fun i d => (congrFun e10_9 _).trans ((kept_apply _ i d).trans (rows_val F9 B9 V9 hm2 hm3 hs9 i d))) (fun i d => (congrFun e10_10 _).trans ((kept_apply _ i d).trans (rows_val F10 B10 V10 hm2 hm3 hs10 i d))) (fun i d => (congrFun e10_11 _).trans ((kept_apply _ i d).trans (rows_val F11 B11 V11 hm2 hm3 hs11 i d))) (fun i d => (congrFun e10_12 _).trans ((kept_apply _ i d).trans (rows_val F12 B12 V12 hm2 hm3 hs12 i d))) (fun i d => (congrFun e10_13 _).trans ((kept_apply _ i d).trans (rows_val F13 B13 V13 hm2 hm3 hs13 i d))) (fun i d => (congrFun e10_14 _).trans ((kept_apply _ i d).trans (rows_val F14 B14 V14 hm2 hm3 hs14 i d))) (fun i d => (congrFun e10_15 _).trans ((kept_apply _ i d).trans (rows_val F15 B15 V15 hm2 hm3 hs15 i d))))
  all_goals try subst e11_0 e11_1 e11_2 e11_3 e11_4 e11_5 e11_6 e11_7 e11_8 e11_9 e11_10 e11_11 e11_12 e11_13 e11_14 e11_15
  · intro p c i d
    exact staged _ _ hm _ _ (a := (GF · d)) (fun j => gates_f (GF := GF) (loadW harg3 hin.gf (show min (k.val + 1) 1 < 2 by omega) (off4_eq k)) j d) p c i
  · intro p c i d
    exact staged _ _ hm _ _ (a := (GB · d)) (fun j => gates_b (GB := GB) (loadW harg4 hin.gb (show min (k.val + 1) 1 < 2 by omega) (off4_eq k)) j d) p c i
  · intro d e
    exact (congrFun (View.read_writes_full _ _ _ _ _) _).trans (hs16 d e)

end Trip

end Cert.HgrnIdeal.Scan

end
-- ==== Proof.Hgrn.TileLoop.lean ====
/- The second scan's counted loop in `HgrnIdeal` with its values: after `k` tiles the scratch arrays hold what `Inv` says of real inputs. -/
module

public import proofs.«01_k».proof.Proof.Gen.HgrnIdeal.Frame
public import proofs.«01_k».proof.Proof.Gen.HgrnIdeal.Skeleton
public import proofs.«01_k».proof.Proof.Gen.HgrnIdeal.Loops
public import proofs.«01_k».proof.Proof.Hgrn.Trip
public import Idealize.ShloMosaic.Lib.VecWindow

@[expose] public section

set_option maxRecDepth 16384

noncomputable section

namespace Cert.HgrnIdeal.Scan

open Cert.HgrnIdeal Cert.HgrnIdeal.Gen
open Cert.KernelIdeal.Scan (IsSum)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What the loop keeps: whenever the blocks are real and the masks and the zero-one matrix are theirs, `Inv`. -/
def Held (v2 v3 : IVec S128x128 1) (m : FVec Ideal S128x128 .bf16) (x0 x1 x2 x3 : Vec Ideal S1x4096x128 .bf16) (k : ℕ)
    (d7 : Vec Ideal S4096x128 .bf16) (d8 : Vec Ideal S32x128x128 .f32) (d9 : Vec Ideal S32x128x128 .f32) (d10 : Vec Ideal S4096x128 .f32) (d11 : Vec Ideal S2048x256 .f32) (d12 : Vec Ideal S128x128 .f32) : Prop :=
  ∀ (Q GF GB V : ℕ → Fin 128 → ℝ), Inputs Q GF GB V x0 x1 x2 x3 → (∀ i j : Fin 128, v2 (ix2 i j) = if j ≤ i then 1#1 else 0#1) → (∀ i j : Fin 128, v3 (ix2 i j) = if i ≤ j then 1#1 else 0#1) → IsSum m →
    Holds Q GF GB V k d7 d8 d9 d10 d11 d12

/-- Before every trip: the staged blocks at their contents, the scratch arrays at contents that satisfy `Held`. -/
def tileRes (c : Dev nD) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S32x128x128 .f32) (harg8 : arg8.IsWhole) (arg9 : Memref sig .tc .vmem S32x128x128 .f32) (harg9 : arg9.IsWhole) (arg10 : Memref sig .tc .vmem S4096x128 .f32) (harg10 : arg10.IsWhole) (arg11 : Memref sig .tc .vmem S2048x256 .f32) (harg11 : arg11.IsWhole) (arg12 : Memref sig .tc .vmem S128x128 .f32) (harg12 : arg12.IsWhole)
    (x0 x1 x2 x3 : Vec Ideal S1x4096x128 .bf16) (v2 v3 : IVec S128x128 1) (v60 : FVec Ideal S128x128 .bf16) (k : ℕ) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3)
    ∗ (∃ f7 f8 f9 f10 f11 f12, ⌜Held v2 v3 v60 x0 x1 x2 x3 k (arg7.view.read (Elt Ideal) f7) (arg8.view.read (Elt Ideal) f8) (arg9.view.read (Elt Ideal) f9) (arg10.view.read (Elt Ideal) f10) (arg11.view.read (Elt Ideal) f11) (arg12.view.read (Elt Ideal) f12)⌝ ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)))

set_option warn.classDefReducibility false in
set_option maxHeartbeats 4000000 in
/-- The loop by that invariant: one trip, run once. -/
@[sl_loop] def tileInv (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S32x128x128 .f32) (harg8 : arg8.IsWhole) (arg9 : Memref sig .tc .vmem S32x128x128 .f32) (harg9 : arg9.IsWhole) (arg10 : Memref sig .tc .vmem S4096x128 .f32) (harg10 : arg10.IsWhole) (arg11 : Memref sig .tc .vmem S2048x256 .f32) (harg11 : arg11.IsWhole) (arg12 : Memref sig .tc .vmem S128x128 .f32) (harg12 : arg12.IsWhole) (v2 : IVec S128x128 1) (v3 : IVec S128x128 1) (v60 : FVec Ideal S128x128 .bf16) (v150 : FVec Ideal S128x128 .f32)
    (x0 x1 x2 x3 : Vec Ideal S1x4096x128 .bf16) :
    LoopInvTy_k0_t1 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 v2 v3 v60 v150 where
  inv := fun k _ => tileRes c arg2 harg2 arg3 harg3 arg4 harg4 arg5 harg5 arg6 harg6 arg7 harg7 arg8 harg8 arg9 harg9 arg10 harg10 arg11 harg11 arg12 harg12 x0 x1 x2 x3 v2 v3 v60 k
  step := fun k acc => by
    unfold tileRes k0_t1_body
    iintro ⟨H2, H3, H4, H5, ⟨%f7, %f8, %f9, %f10, %f11, %f12, %hP, H7, H8, H9, H10, H11, H12⟩⟩
    sl_exec
    sl_step
    isplitl [H2]; · iexact H2
    isplitl [H3]; · iexact H3
    isplitl [H4]; · iexact H4
    isplitl [H5]; · iexact H5
    iexists _, _, _, _, _, _
    isplitr
    swap
    · isplitl [H7]; · iexact H7
      isplitl [H8]; · iexact H8
      isplitl [H9]; · iexact H9
      isplitl [H10]; · iexact H10
      isplitl [H11]; · iexact H11
      iexact H12
    ipureintro
    intro Q GF GB V hin hm2 hm3 hm
    refine trip hin harg2 harg3 harg4 harg5 hm2 hm3 hm k (hP Q GF GB V hin hm2 hm3 hm)
      rfl rfl rfl rfl rfl ?_ rfl rfl rfl rfl rfl ?_ rfl rfl rfl rfl rfl ?_ rfl rfl rfl rfl rfl ?_ rfl rfl rfl rfl rfl ?_ rfl rfl rfl rfl rfl ?_ rfl rfl rfl rfl rfl ?_ rfl rfl rfl rfl rfl ?_ rfl rfl rfl rfl rfl ?_ rfl rfl rfl rfl rfl ?_ rfl rfl rfl rfl rfl ?_ rfl rfl rfl rfl rfl ?_ rfl rfl rfl rfl rfl ?_ rfl rfl rfl rfl rfl ?_ rfl rfl rfl rfl rfl ?_ rfl rfl rfl rfl rfl rfl
    all_goals exact (View.readCov_full _ _ _ _ _).trans rfl

end Cert.HgrnIdeal.Scan

end
-- ==== Proof.Hgrn.Entry.lean ====
/-
  What holds when the counted loop of the second scan is entered: the two masks, the zero-one matrix of the running sums, the first
  tile's running sums, and the empty forward state.
-/
module

public import proofs.«01_k».proof.Proof.Hgrn.TileLoop

@[expose] public section

set_option maxRecDepth 16384

noncomputable section

namespace Cert.HgrnIdeal.Scan

open Cert.HgrnIdeal Cert.HgrnIdeal.Gen
open Idealize.ShloMosaic Idealize.ShloMosaic.TcCoe Idealize.ShloMosaic.Tactic
open Cert.Scan Cert.HgrnIdeal.Facts Cert.KernelIdeal.Scan

/-- Comparing two row numbers as words. -/
theorem sle_rows : ∀ i j : Fin 128, IntOp.cmpi .sle (BitVec.ofNat 32 j.val) (BitVec.ofNat 32 i.val) = if j ≤ i then 1#1 else 0#1 := by
  decide +kernel

theorem sge_rows : ∀ i j : Fin 128, IntOp.cmpi .sge (BitVec.ofNat 32 j.val) (BitVec.ofNat 32 i.val) = if i ≤ j then 1#1 else 0#1 := by
  decide +kernel

/-- The mask of the rows at or before. -/
theorem mask_le (i j : Fin 128) : k0_pay895 (ix2 i j) = if j ≤ i then 1#1 else 0#1 := by
  pointwise [k0_pay895]
  exact sle_rows i j

/-- The mask of the rows at or after. -/
theorem mask_ge (i j : Fin 128) : k0_pay896 (ix2 i j) = if i ≤ j then 1#1 else 0#1 := by
  pointwise [k0_pay896]
  exact sge_rows i j

/-- The chunk of a row. -/
theorem chunk_row (i j : Fin 128) : k0_pay897 (ix2 i j) = BitVec.ofNat 32 (i.val / 64) := by
  pointwise [k0_pay897]
  clear j
  revert i
  decide +kernel

/-- The chunk of a column, as the kernel puts it together. -/
theorem chunk_col (i j : Fin 128) : Scalar.select (IntOp.andi (k0_pay899 (ix2 i j)) (IntOp.cmpi .ne (IntOp.remsi .vector (BitVec.ofNat 32 j.val) 64#32) 0#32))
    (IntOp.subi (k0_pay898 (ix2 i j)) 1#32) (k0_pay898 (ix2 i j)) = BitVec.ofNat 32 (j.val / 64) := by
  pointwise [k0_pay898, k0_pay899]
  clear i
  revert j
  decide +kernel

theorem eq_chunks : ∀ a b : Fin 2, IntOp.cmpi .eq (BitVec.ofNat 32 a.val) (BitVec.ofNat 32 b.val) = if a = b then 1#1 else 0#1 := by
  decide +kernel

/-- The zero-one matrix of the running sums. -/
theorem isSum : IsSum (k0_pay900 (F := Ideal) (iota .tc S128x128 32 [0] iota_S128x128_d0_w32) (iota .tc S128x128 32 [1] iota_S128x128_d1_w32) k0_pay897 64#32 k0_pay898 k0_pay899) := by
  intro i j
  pointwise [k0_pay900]
  rw [chunk_col, chunk_row, sle_rows, eq_chunks ⟨i.val / 64, by omega⟩ ⟨j.val / 64, by omega⟩]
  by_cases h : j ≤ i <;> by_cases h' : i.val / 64 = j.val / 64 <;> simp [h, h', Scalar.select, IntOp.andi]

/-- The first tile's gates, side by side. -/
def gates0 (arg3 : Memref sig .tc .vmem S1x4096x128 .bf16) (harg3 : arg3.IsWhole) (arg4 : Memref sig .tc .vmem S1x4096x128 .bf16) (harg4 : arg4.IsWhole) (x1 x2 : Vec Ideal S1x4096x128 .bf16) : FVec Ideal S2048x256 .bf16 :=
  gates (arg3.view.readAt (Elt Ideal) (Rect.unit (s := S1x4096x128) ![0, 0, 0] S1x2048x128.size inb_S1x4096x128_S1x2048x128_0_0_0).toLoadRect (harg3.unread x1))
    (arg4.view.readAt (Elt Ideal) (Rect.unit (s := S1x4096x128) ![0, 0, 0] S1x2048x128.size inb_S1x4096x128_S1x2048x128_0_0_0).toLoadRect (harg4.unread x2))

/-- The zero-one matrix as the kernel makes it. -/
def sumMat : FVec Ideal S128x128 .bf16 := k0_pay900 (F := Ideal) (iota .tc S128x128 32 [0] iota_S128x128_d0_w32) (iota .tc S128x128 32 [1] iota_S128x128_d1_w32) k0_pay897 64#32 k0_pay898 k0_pay899

/-- The loop's facts before its first tile. -/
theorem held_zero (arg3 : Memref sig .tc .vmem S1x4096x128 .bf16) (harg3 : arg3.IsWhole) (arg4 : Memref sig .tc .vmem S1x4096x128 .bf16) (harg4 : arg4.IsWhole) (arg11 : Memref sig .tc .vmem S2048x256 .f32) (arg12 : Memref sig .tc .vmem S128x128 .f32)
    (x0 x1 x2 x3 : Vec Ideal S1x4096x128 .bf16) (d7 : Vec Ideal S4096x128 .bf16) (d8 d9 : Vec Ideal S32x128x128 .f32) (d10 : Vec Ideal S4096x128 .f32) (f11 : arg11.view.ty.Contents (Elt Ideal)) (f12 : arg12.view.ty.Contents (Elt Ideal)) :
    Held k0_pay895 k0_pay896 sumMat x0 x1 x2 x3 0 d7 d8 d9 d10
      (arg11.view.read (Elt Ideal) (arg11.view.writes (Elt Ideal) f11
        [⟨Rect.unit ![1920, 0] S128x256.size inb_S2048x256_S128x256_1920_0, sums sumMat (gates0 arg3 harg3 arg4 harg4 x1 x2) 15⟩,
         ⟨Rect.unit ![1792, 0] S128x256.size inb_S2048x256_S128x256_1792_0, sums sumMat (gates0 arg3 harg3 arg4 harg4 x1 x2) 14⟩,
         ⟨Rect.unit ![1664, 0] S128x256.size inb_S2048x256_S128x256_1664_0, sums sumMat (gates0 arg3 harg3 arg4 harg4 x1 x2) 13⟩,
         ⟨Rect.unit ![1536, 0] S128x256.size inb_S2048x256_S128x256_1536_0, sums sumMat (gates0 arg3 harg3 arg4 harg4 x1 x2) 12⟩,
         ⟨Rect.unit ![1408, 0] S128x256.size inb_S2048x256_S128x256_1408_0, sums sumMat (gates0 arg3 harg3 arg4 harg4 x1 x2) 11⟩,
         ⟨Rect.unit ![1280, 0] S128x256.size inb_S2048x256_S128x256_1280_0, sums sumMat (gates0 arg3 harg3 arg4 harg4 x1 x2) 10⟩,
         ⟨Rect.unit ![1152, 0] S128x256.size inb_S2048x256_S128x256_1152_0, sums sumMat (gates0 arg3 harg3 arg4 harg4 x1 x2) 9⟩,
         ⟨Rect.unit ![1024, 0] S128x256.size inb_S2048x256_S128x256_1024_0, sums sumMat (gates0 arg3 harg3 arg4 harg4 x1 x2) 8⟩,
         ⟨Rect.unit ![896, 0] S128x256.size inb_S2048x256_S128x256_896_0, sums sumMat (gates0 arg3 harg3 arg4 harg4 x1 x2) 7⟩,
         ⟨Rect.unit ![768, 0] S128x256.size inb_S2048x256_S128x256_768_0, sums sumMat (gates0 arg3 harg3 arg4 harg4 x1 x2) 6⟩,
         ⟨Rect.unit ![640, 0] S128x256.size inb_S2048x256_S128x256_640_0, sums sumMat (gates0 arg3 harg3 arg4 harg4 x1 x2) 5⟩,
         ⟨Rect.unit ![512, 0] S128x256.size inb_S2048x256_S128x256_512_0, sums sumMat (gates0 arg3 harg3 arg4 harg4 x1 x2) 4⟩,
         ⟨Rect.unit ![384, 0] S128x256.size inb_S2048x256_S128x256_384_0, sums sumMat (gates0 arg3 harg3 arg4 harg4 x1 x2) 3⟩,
         ⟨Rect.unit ![256, 0] S128x256.size inb_S2048x256_S128x256_256_0, sums sumMat (gates0 arg3 harg3 arg4 harg4 x1 x2) 2⟩,
         ⟨Rect.unit ![128, 0] S128x256.size inb_S2048x256_S128x256_128_0, sums sumMat (gates0 arg3 harg3 arg4 harg4 x1 x2) 1⟩,
         ⟨Rect.unit ![0, 0] S128x256.size inb_S2048x256_S128x256_0_0, sums sumMat (gates0 arg3 harg3 arg4 harg4 x1 x2) 0⟩]))
      (arg12.view.read (Elt Ideal) (arg12.view.writes (Elt Ideal) f12 [⟨Rect.unit ![0, 0] S128x128.size inb_S128x128_S128x128_0_0, k0_pay920 (k0_pay919 (F := Ideal))⟩])) := by
  intro Q GF GB V hin _ _ _
  refine ⟨fun n _ h => absurd h (by omega), fun n _ h => absurd h (by omega), fun n _ h => absurd h (by omega), fun n _ h => absurd h (by omega), ?_, ?_, ?_⟩
  · intro p c i d
    refine (staged _ _ isSum (gates0 arg3 harg3 arg4 harg4 x1 x2) _ (a := (GF · d)) (fun j => gates_f (GF := GF) (loadW harg3 hin.gf (show 0 < 2 by omega) rfl) j d) p c i).trans ?_
    simp
  · intro p c i d
    refine (staged _ _ isSum (gates0 arg3 harg3 arg4 harg4 x1 x2) _ (a := (GB · d)) (fun j => gates_b (GB := GB) (loadW harg4 hin.gb (show 0 < 2 by omega) rfl) j d) p c i).trans ?_
    simp
  · intro d e
    rw [View.read_writes_full]
    pointwise [k0_pay920, k0_pay919]
    simp [state, pre]

end Cert.HgrnIdeal.Scan

end
-- ==== Proof.Hgrn.Backward.lean ====
/-
  The backward direction of the second scan: from the last pair to the first, the state of the later rows is added to the output rows and
  then taken past the pair by its stored decay and increment.
-/
module

public import proofs.«01_k».proof.Proof.Hgrn.Trip

@[expose] public section

set_option maxRecDepth 16384

noncomputable section

namespace Cert.HgrnIdeal.Scan

open Cert.HgrnIdeal Cert.HgrnIdeal.Gen Cert.Scan Cert.KernelIdeal.Scan
open Idealize.ShloMosaic
open Cert.HgrnIdeal.Facts

/-- An entry of the result: the row's query against the forward state past the row and the backward state at the row. -/
def outVal (Q KF KB GF GB V : ℕ → Fin 128 → ℝ) (t : ℕ) (e : Fin 128) : ℝ :=
  ∑ d, Q t d * state (nat2 GF · d) (KF · d) (V · e) (t + 1) + ∑ d, Q t d * back 4096 (nat2 GB · d) (KB · d) (V · e) t

section Backward

variable (arg7 : Memref sig .tc .vmem S4096x128 .bf16) (arg8 : Memref sig .tc .vmem S32x128x128 .f32) (arg9 : Memref sig .tc .vmem S32x128x128 .f32) (arg10 : Memref sig .tc .vmem S4096x128 .f32)
  (f7 : arg7.view.ty.Contents (Elt Ideal)) (f8 : arg8.view.ty.Contents (Elt Ideal)) (f9 : arg9.view.ty.Contents (Elt Ideal)) (f10 : arg10.view.ty.Contents (Elt Ideal))

theorem inb_row128 (r : ℕ) : ∀ a, (![128 * (31 - r), 0] : Fin 2 → ℕ) a + S128x128.size a ≤ S4096x128.size a := by
  intro a; fin_cases a
  · show 128 * (31 - r) + 128 ≤ 4096; omega
  · show 0 + 128 ≤ 128; omega

theorem inb_slab128 (r : ℕ) : ∀ a, (![31 - r, 0, 0] : Fin 3 → ℕ) a + S1x128x128.size a ≤ S32x128x128.size a := by
  intro a; fin_cases a
  · show 31 - r + 1 ≤ 32; omega
  · show 0 + 128 ≤ 128; omega
  · show 0 + 128 ≤ 128; omega

theorem inb_out (r : ℕ) : ∀ a, (![0, 128 * (31 - r), 0] : Fin 3 → ℕ) a + S1x128x128.size a ≤ S1x4096x128.size a := by
  intro a; fin_cases a
  · show 0 + 1 ≤ 1; omega
  · show 128 * (31 - r) + 128 ≤ 4096; omega
  · show 0 + 128 ≤ 128; omega

/-- What the `r`-th pair from the end loads. -/
def decSlab (r : ℕ) : FVec Ideal S1x128x128 .f32 := arg9.view.readAt (Elt Ideal) (Rect.unit (s := S32x128x128) ![31 - r, 0, 0] S1x128x128.size (inb_slab128 r)).toLoadRect f9
def updSlab (r : ℕ) : FVec Ideal S1x128x128 .f32 := arg8.view.readAt (Elt Ideal) (Rect.unit (s := S32x128x128) ![31 - r, 0, 0] S1x128x128.size (inb_slab128 r)).toLoadRect f8
def accRows (r : ℕ) : FVec Ideal S128x128 .f32 := arg10.view.readAt (Elt Ideal) (Rect.unit (s := S4096x128) ![128 * (31 - r), 0] S128x128.size (inb_row128 r)).toLoadRect f10
def qiRows (r : ℕ) : FVec Ideal S128x128 .bf16 := arg7.view.readAt (Elt Ideal) (Rect.unit (s := S4096x128) ![128 * (31 - r), 0] S128x128.size (inb_row128 r)).toLoadRect f7

/-- The backward state before the `r`-th pair from the end. -/
def backState : ℕ → FVec Ideal S128x128 .f32
  | 0 => k0_pay924 (F := Ideal)
  | r + 1 => decayed (backState r)
      (shapeCast S128x128 (decSlab arg9 f9 r) shapeCasts_S1x128x128_S128x128)
      (shapeCast S128x128 (updSlab arg8 f8 r) shapeCasts_S1x128x128_S128x128)

/-- The output rows of the `r`-th pair from the end. -/
def backRows (r : ℕ) : FVec Ideal S1x128x128 .bf16 :=
  shapeCast S1x128x128 (truncf .bf16 (addf (accRows arg10 f10 r)
    (matmul dot_S128x128_S128x128_S128x128_1_0_0_1_n_n none (qiRows arg7 f7 r)
      (truncf .bf16 (backState arg8 arg9 f8 f9 r) bitsLt_bf16_f32) (constant S128x128 .f32 0x00000000#32))) bitsLt_bf16_f32) shapeCasts_S128x128_S1x128x128

/-- Their store. -/
def backPiece (r : ℕ) : View.Piece (Elt Ideal) S1x4096x128 .bf16 := ⟨Rect.unit (s := S1x4096x128) ![0, 128 * (31 - r), 0] S1x128x128.size (inb_out r), backRows arg7 arg8 arg9 arg10 f7 f8 f9 f10 r⟩

variable {arg7 arg8 arg9 arg10 f7 f8 f9 f10}
variable {Q KF KB GF GB V : ℕ → Fin 128 → ℝ} {d11 : Vec Ideal S2048x256 .f32} {d12 : Vec Ideal S128x128 .f32}
  (hP : Inv Q KF KB GF GB V 2 (arg7.view.read (Elt Ideal) f7) (arg8.view.read (Elt Ideal) f8) (arg9.view.read (Elt Ideal) f9) (arg10.view.read (Elt Ideal) f10) d11 d12)

include hP in
/-- The backward state is the recurrence from the last row. -/
theorem backState_val (r : ℕ) (hr : r ≤ 32) (d : Fin 128) (e : Fin 128) :
    backState arg8 arg9 f8 f9 r (ix2 d e) = ((back 4096 (nat2 GB · d) (KB · d) (V · e) (128 * (32 - r)) : ℝ) : EReal) := by
  induction r with
  | zero =>
    rw [backState]
    pointwise [k0_pay924]
    simp [back_end]
  | succ r ih =>
    rw [backState, decayed_apply, ih (by omega)]
    have h1 : (shapeCast S128x128 (decSlab arg9 f9 r) shapeCasts_S1x128x128_S128x128) (ix2 d e) = decOut GB (31 - r) d e := by
      rw [← hP.dec (31 - r) (by omega) (by omega)]
      pointwise
      exact readAt_at _ _ _ rfl _ _ (coords3 rfl rfl rfl)
    have h2 : (shapeCast S128x128 (updSlab arg8 f8 r) shapeCasts_S1x128x128_S128x128) (ix2 d e) = updOut KB GB V (31 - r) d e := by
      rw [← hP.upd (31 - r) (by omega) (by omega)]
      pointwise
      exact readAt_at _ _ _ rfl _ _ (coords3 rfl rfl rfl)
    rw [h1, h2, decOut, updOut, ← EReal.coe_mul, ← EReal.coe_add]
    have hb := bwd_next (L := 128) (v := (V · e)) (s := 128 * (31 - r)) 4096 (by omega) (nat2 GB · d) (KB · d)
    rw [show 128 * (31 - r) + 128 = 128 * (32 - r) by omega] at hb
    rw [show 32 - (r + 1) = 31 - r by omega, hb]

include hP in
/-- The rows of a pair are the result's. -/
theorem backRows_val (r : ℕ) (hr : r < 32) (i : Fin 128) (e : Fin 128) :
    backRows arg7 arg8 arg9 arg10 f7 f8 f9 f10 r (ix3 0 i e) = ((outVal Q KF KB GF GB V (128 * (31 - r) + i) e : ℝ) : EReal) := by
  have h1 : accRows arg10 f10 r (ix2 i e) = accOut Q KF KB GF GB V (31 - r) i e := by
    rw [← hP.acc (31 - r) (by omega) (by omega)]
    refine readAt_at _ _ _ rfl _ _ (fun a => ?_)
    fin_cases a
    · rfl
    · exact (Nat.zero_add _).symm
  have h2 : ∀ d, qiRows arg7 f7 r (ix2 i d) = qOut Q GB (31 - r) i d := fun d => by
    rw [← hP.qi (31 - r) (by omega) (by omega)]
    refine readAt_at _ _ _ rfl _ _ (fun a => ?_)
    fin_cases a
    · rfl
    · exact (Nat.zero_add _).symm
  have e0 : backRows arg7 arg8 arg9 arg10 f7 f8 f9 f10 r (ix3 0 i e)
      = accRows arg10 f10 r (ix2 i e)
        + ∑ d : Fin 128, qiRows arg7 f7 r (ix2 i d) * backState arg8 arg9 f8 f9 r (ix2 d e) := by
    pointwise [backRows]
  rw [e0, h1]
  simp only [h2, backState_val hP r (by omega), accOut, qOut, ← EReal.coe_mul, ← coe_sum_real, ← EReal.coe_add]
  congr 1
  have hb := bwd_row (L := 128) Q KB (nat2 GB) (V · e) (128 * (31 - r)) 4096 (by omega) i
  rw [show 128 * (31 - r) + 128 = 128 * (32 - r) by omega] at hb
  rw [outVal, inner, add_assoc, hb]

/-- Reading what stores of distinct pairs leave. -/
theorem read_pieces (arg6 : Memref sig .tc .vmem S1x4096x128 .bf16) (f6 : arg6.view.ty.Contents (Elt Ideal)) (w : ℕ → FVec Ideal S1x128x128 .bf16) (L : List ℕ) (hL : ∀ x ∈ L, x < 32) (r : ℕ) (hr : r ∈ L) (i : Fin 128) (e : Fin 128) :
    arg6.view.read (Elt Ideal) (arg6.view.writes (Elt Ideal) f6 (L.map fun r => (⟨Rect.unit (s := S1x4096x128) ![0, 128 * (31 - r), 0] S1x128x128.size (inb_out r), w r⟩ : View.Piece (Elt Ideal) S1x4096x128 .bf16))) (ix3 0 ⟨128 * (31 - r) + i, by omega⟩ e)
      = w r (ix3 0 i e) := by
  induction L with
  | nil => simp at hr
  | cons x L ih =>
    rw [List.map_cons]
    by_cases h : r = x
    · subst h
      refine View.read_writes_cons_unit_of_mem arg6.view f6 (inb_out r) (w r) _ _ (ix3 0 i e) rfl (fun a => ?_)
      fin_cases a
      · rfl
      · rfl
      · exact (Nat.zero_add _).symm
    · have hx := hL x (by simp)
      have hr' := hL r hr
      refine (View.read_writes_cons_unit_of_not_mem arg6.view f6 (inb_out x) (w x) _ _ rfl 1 ?_).trans (ih (fun y hy => hL y (by simp [hy])) (by simpa [h] using hr))
      show 128 * (31 - r) + i.val < 128 * (31 - x) ∨ 128 * (31 - x) + 128 ≤ 128 * (31 - r) + i.val
      omega

include hP in
/-- The output block after the thirty-two pairs. -/
theorem backward (arg6 : Memref sig .tc .vmem S1x4096x128 .bf16) (f6 : arg6.view.ty.Contents (Elt Ideal)) (t : ℕ) (ht : t < 4096) (e : Fin 128) :
    arg6.view.read (Elt Ideal) (arg6.view.writes (Elt Ideal) f6 ([31, 30, 29, 28, 27, 26, 25, 24, 23, 22, 21, 20, 19, 18, 17, 16, 15, 14, 13, 12, 11, 10, 9, 8, 7, 6, 5, 4, 3, 2, 1, 0].map (backPiece arg7 arg8 arg9 arg10 f7 f8 f9 f10))) (ix3 0 ⟨t, ht⟩ e)
      = ((outVal Q KF KB GF GB V t e : ℝ) : EReal) := by
  obtain ⟨r, i, hr, rfl⟩ : ∃ (r : ℕ) (i : Fin 128), r < 32 ∧ t = 128 * (31 - r) + i := ⟨31 - t / 128, ⟨t % 128, by omega⟩, by omega, by show t = 128 * (31 - (31 - t / 128)) + t % 128; omega⟩
  refine (read_pieces arg6 f6 (backRows arg7 arg8 arg9 arg10 f7 f8 f9 f10) _ (by decide) r ?_ i e).trans (backRows_val hP r hr i e)
  simp only [List.mem_cons, List.not_mem_nil]; omega

end Backward

end Cert.HgrnIdeal.Scan

end
-- ==== Proof.Hgrn.RowsRun.lean ====
/- The body of the second scan run once at real blocks (`HgrnIdeal`): the output block holds the result's rows. -/
module

public import proofs.«01_k».proof.Proof.Hgrn.Entry
public import proofs.«01_k».proof.Proof.Hgrn.TileLoop
public import proofs.«01_k».proof.Proof.Hgrn.Backward

@[expose] public section

set_option maxRecDepth 16384

noncomputable section

namespace Cert.HgrnIdeal.Scan

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The real rows of a block. -/
def rowsOf (x : Vec Ideal S1x4096x128 .bf16) (t : ℕ) (d : Fin 128) : ℝ := if h : t < 4096 then (x (ix3 0 ⟨t, h⟩ d)).toReal else 0

/-- Neither infinity occurs. -/
def IsReal {S : Shape} (x : S.Idx → EReal) : Prop := ∀ y, x y ≠ ⊤ ∧ x y ≠ ⊥

theorem rowsOf_coe {x : Vec Ideal S1x4096x128 .bf16} (h : IsReal x) (t : ℕ) (ht : t < 4096) (d : Fin 128) : x (ix3 0 ⟨t, ht⟩ d) = ((rowsOf x t d : ℝ) : EReal) := by
  rw [rowsOf, dif_pos ht, EReal.coe_toReal (h _).1 (h _).2]

theorem inputs_of_real {x0 x1 x2 x3 : Vec Ideal S1x4096x128 .bf16} (h0 : IsReal x0) (h1 : IsReal x1) (h2 : IsReal x2) (h3 : IsReal x3) :
    Inputs (rowsOf x0) (rowsOf x1) (rowsOf x2) (rowsOf x3) x0 x1 x2 x3 :=
  ⟨rowsOf_coe h0, rowsOf_coe h1, rowsOf_coe h2, rowsOf_coe h3⟩

/-- The scan of four blocks: the keys are made of the gates. -/
def scanVal (Q GF GB V : ℕ → Fin 128 → ℝ) : ℕ → Fin 128 → ℝ := outVal Q (gateKey GF) (gateKey GB) GF GB V

/-- The output block of the scan. -/
def outBlock (x0 x1 x2 x3 : Vec Ideal S1x4096x128 .bf16) : Vec Ideal S1x4096x128 .bf16 :=
  fun y => ((scanVal (rowsOf x0) (rowsOf x1) (rowsOf x2) (rowsOf x3) (y 1).val (y 2) : ℝ) : EReal)

theorem eq_outBlock {x0 x1 x2 x3 : Vec Ideal S1x4096x128 .bf16} {w : Vec Ideal S1x4096x128 .bf16}
    (h : ∀ (t : ℕ) (ht : t < 4096) (e : Fin 128), w (ix3 0 ⟨t, ht⟩ e) = ((scanVal (rowsOf x0) (rowsOf x1) (rowsOf x2) (rowsOf x3) t e : ℝ) : EReal)) : w = outBlock x0 x1 x2 x3 := by
  funext y
  have e : y = ix3 0 ⟨(y 1).val, (y 1).isLt⟩ (y 2) := by
    funext a
    fin_cases a
    · exact Fin.ext (Nat.lt_one_iff.mp (y 0).isLt)
    · rfl
    · rfl
  rw [e]
  exact h _ _ _

set_option maxHeartbeats 8000000 in
/-- The body keeps its four staged blocks, leaves the result's rows in the output block and the scratch at some contents. -/
theorem rowsRun (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S32x128x128 .f32) (harg8 : arg8.IsWhole) (arg9 : Memref sig .tc .vmem S32x128x128 .f32) (harg9 : arg9.IsWhole) (arg10 : Memref sig .tc .vmem S4096x128 .f32) (harg10 : arg10.IsWhole) (arg11 : Memref sig .tc .vmem S2048x256 .f32) (harg11 : arg11.IsWhole) (arg12 : Memref sig .tc .vmem S128x128 .f32) (harg12 : arg12.IsWhole)
    (x0 x1 x2 x3 : Vec Ideal S1x4096x128 .bf16) (hin : Inputs (rowsOf x0) (rowsOf x1) (rowsOf x2) (rowsOf x3) x0 x1 x2 x3) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock x0 x1 x2 x3) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := Ideal)) Variants.none c none) Set.univ (cc0_hgrn_scan i arg2 harg2 arg3 harg3 arg4 harg4 arg5 harg5 arg6 harg6 arg7 harg7 arg8 harg8 arg9 harg9 arg10 harg10 arg11 harg11 arg12 harg12) K := by
  simp only [cc0_hgrn_scan_eq_skeleton]; unfold cc0_hgrn_scan_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5
  have h0 := held_zero arg3 harg3 arg4 harg4 arg11 arg12 x0 x1 x2 x3 (arg7.view.read (Elt Ideal) f7) (arg8.view.read (Elt Ideal) f8) (arg9.view.read (Elt Ideal) f9) (arg10.view.read (Elt Ideal) f10) arg11.view.junk arg12.view.junk
  sl_exec
  have hP := hL4 _ _ _ _ hin mask_le mask_ge isSum
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact eq_outBlock fun t ht e => backward hP arg6 _ t ht e
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.HgrnIdeal.Scan

end
-- ==== Proof.Hgrn.ValueFrame.lean ====
/- The second scan's run at real arguments (`HgrnIdeal`): the result array holds the two-sided recurrence read by the queries. -/
module

public import proofs.«01_k».proof.Proof.Hgrn.IdealLaunch
public import proofs.«01_k».proof.Proof.Hgrn.RowsRun
public import Idealize.ShloMosaic.Lib.Claim

@[expose] public section

set_option maxRecDepth 16384

noncomputable section

namespace Cert.HgrnIdeal.ScanValue

open Cert.HgrnIdeal Cert.HgrnIdeal.Gen Cert.HgrnIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The pipeline's data: the inputs' blocks stay, the output block is the result's, nothing is owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBlock (iblk m c 0 t) (iblk m c 1 t) (iblk m c 2 t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d))
    ∗ (∃ d, owns (c : Thread nD τ) (stg4 t) fullShare ((dats m 0 c).before 4 t d)))

/-- What the body gives back. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t)
    ∗ owns (c : Thread nD τ) (stg4 t) fullShare ((dats m 0 c).after 4 t))

/-- Every staged block is real. -/
def RealBlocks : Prop := ∀ (c : Dev nD) (t : Fin cfg0.N), IsReal (iblk m c 0 t : Vec Ideal S1x4096x128 .bf16) ∧ IsReal (iblk m c 1 t : Vec Ideal S1x4096x128 .bf16) ∧ IsReal (iblk m c 2 t : Vec Ideal S1x4096x128 .bf16) ∧ IsReal (iblk m c 3 t : Vec Ideal S1x4096x128 .bf16)

variable {m} in
set_option maxHeartbeats 1200000 in
theorem sound (hR : RealBlocks m) (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, scratch_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  have hr := hR c t
  iapply (rowsRun c (grid0.coords t) _ _ _ _ _ _ _ _ _ _ _ _ _ _ _ _ _ _ _ _ _ _ (iblk m c 0 t) (iblk m c 1 t) (iblk m c 2 t) (iblk m c 3 t) (inputs_of_real hr.1 hr.2.1 hr.2.2.1 hr.2.2.2) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  iexact H4

theorem row_eq (t : Fin cfg0.N) :
    defs₀ (F := Ideal) .tc cfg0.body (cfg0.bodyArgs t (cfg0.slots t)) = bodyAt0 t := by
  unfold defs₀; rw [Defs.onTc_tc]

variable {m} in
/-- The body's obligation at every point. -/
theorem obligation (hR : RealBlocks m) (c : Dev nD) : BodyObligation (dats m 0 c) (defs₀ (F := Ideal)) Variants.none () Set.univ := fun t => by
  rw [bigSep_W0, bigSep_W0, row_eq]
  exact triple_restated (sound hR c t) rfl .rfl fun _ => .rfl

variable {m} in
set_option backward.isDefEq.respectTransparency.types false in
/-- The whole run: the arrays at its end. -/
theorem wholeRun (hR : RealBlocks m) : θ_run defs (onTc (τ := τ) (main (F := Ideal))) (s₀ m ρ) (Pipeline.FramePost cfgs (dats m) 0 (V m)) :=
  Pipeline.θ_run_frame_shared cfgs (dats m) (0 : Fin 1) launch₀0 defs₀ Variants.none m ρ main
    (hbody := fun c => (obligation hR c).loose) (hq := fun _ _ _ => rfl)
    (howed := fun _ _ => rfl) (V := V m) (hmain := hmain m Variants.none) (hA := A_eq m) (hΦ := fun _ _ => rfl)

end Cert.HgrnIdeal.ScanValue

end
-- ==== Proof.Hgrn.ValueRun.lean ====
/-
  The result array of the second scan at a real argument: entry by entry, the row's query against the two states.
-/
module

public import proofs.«01_k».proof.Proof.Hgrn.ValueFrame
public import proofs.«01_k».proof.Proof.Scan.ValueRun
public import Idealize.ShloMosaic.Lib.Pipeline.Value

@[expose] public section

set_option maxRecDepth 16384

noncomputable section

namespace Cert.HgrnIdeal.ScanValue

open Cert.HgrnIdeal Cert.HgrnIdeal.Gen Cert.HgrnIdeal.Scan
open Cert.KernelIdeal.ScanValue (cols ix3_of)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The argument array. -/
abbrev argOf (c : Dev nD) : Vec Ideal S4x4096x11264 .bf16 := m ((c.tc : Thread nD τ).loc main_arg0)

/-- The scan of head `h` of batch `b`. -/
def headVal (X : S4x4096x11264.Idx → EReal) (b h : ℕ) : ℕ → Fin 128 → ℝ :=
  scanVal (cols X b (4096 + 128 * h)) (cols X b (5120 + 128 * h)) (cols X b (6144 + 128 * h)) (cols X b (7168 + 128 * h))

/-- The result array. -/
def scanOut (X : S4x4096x11264.Idx → EReal) : S4x4096x1024.Idx → EReal := fun y =>
  ((headVal X (y 0).val ((y 2).val / 128) (y 1).val ⟨(y 2).val % 128, Nat.mod_lt _ (by decide)⟩ : ℝ) : EReal)

theorem points (t : Fin cfg0.N) : t.val < 32 := t.isLt

/-- A block whose rows are the argument's, read as numbers. -/
theorem rows_of (X : S4x4096x11264.Idx → EReal) (x : Vec Ideal S1x4096x128 .bf16) (b off : ℕ) (hb : b < 4) (ho : off + 128 ≤ 11264)
    (h : ∀ (s : Fin 4096) (d : Fin 128), x (ix3 0 s d) = X (ix3 ⟨b, hb⟩ s ⟨off + d.val, by omega⟩)) : rowsOf x = cols X b off := by
  funext s d
  unfold rowsOf cols
  by_cases hs : s < 4096
  · rw [dif_pos hs, dif_pos ⟨hb, hs, by omega⟩, h]
  · rw [dif_neg hs, dif_neg (fun hh => hs hh.2.1)]

theorem index0 : ∀ t : Fin cfg0.N, win0_0.index t 0 = t.val / 8 ∧ win0_0.index t 1 = 0 ∧ win0_0.index t 2 = 32 + t.val % 8 := by decide +kernel

/-- Window 0's block is a slice of the argument's columns. -/
theorem block0 (c : Dev nD) (t : Fin cfg0.N) (s : Fin 4096) (d : Fin 128) :
    (iblk m c 0 t : Vec Ideal S1x4096x128 .bf16) (ix3 0 s d) = argOf m c (ix3 ⟨t.val / 8, by have := points t; omega⟩ s ⟨4096 + 128 * (t.val % 8) + d.val, by omega⟩) := by
  have hi := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 8; rw [hi.1]; omega
  | ⟨1, _⟩ => show win0_0.index t 1 * 4096 + 1 * s.val = s.val; rw [hi.2.1]; omega
  | ⟨2, _⟩ => show win0_0.index t 2 * 128 + 1 * d.val = 4096 + 128 * (t.val % 8) + d.val; rw [hi.2.2]; omega

theorem rows0 (c : Dev nD) (t : Fin cfg0.N) : rowsOf (iblk m c 0 t) = cols (argOf m c) (t.val / 8) (4096 + 128 * (t.val % 8)) :=
  rows_of _ _ _ _ (by have := points t; omega) (by have := points t; omega) (block0 m c t)

theorem index1 : ∀ t : Fin cfg0.N, win0_1.index t 0 = t.val / 8 ∧ win0_1.index t 1 = 0 ∧ win0_1.index t 2 = 40 + t.val % 8 := by decide +kernel

/-- Window 1's block is a slice of the argument's columns. -/
theorem block1 (c : Dev nD) (t : Fin cfg0.N) (s : Fin 4096) (d : Fin 128) :
    (iblk m c 1 t : Vec Ideal S1x4096x128 .bf16) (ix3 0 s d) = argOf m c (ix3 ⟨t.val / 8, by have := points t; omega⟩ s ⟨5120 + 128 * (t.val % 8) + d.val, by omega⟩) := by
  have hi := index1 t
  unfold iblk
  rw [View.read_apply]
  show V m c main_arg0 _ = m (c.tc.loc main_arg0) _
  unfold V
  congr 1
  funext a
  apply Fin.ext
  match a with
  | ⟨0, _⟩ => show win0_1.index t 0 * 1 + 1 * 0 = t.val / 8; rw [hi.1]; omega
  | ⟨1, _⟩ => show win0_1.index t 1 * 4096 + 1 * s.val = s.val; rw [hi.2.1]; omega
  | ⟨2, _⟩ => show win0_1.index t 2 * 128 + 1 * d.val = 5120 + 128 * (t.val % 8) + d.val; rw [hi.2.2]; omega

theorem rows1 (c : Dev nD) (t : Fin cfg0.N) : rowsOf (iblk m c 1 t) = cols (argOf m c) (t.val / 8) (5120 + 128 * (t.val % 8)) :=
  rows_of _ _ _ _ (by have := points t; omega) (by have := points t; omega) (block1 m c t)

theorem index2 : ∀ t : Fin cfg0.N, win0_2.index t 0 = t.val / 8 ∧ win0_2.index t 1 = 0 ∧ win0_2.index t 2 = 48 + t.val % 8 := by decide +kernel

/-- Window 2's block is a slice of the argument's columns. -/
theorem block2 (c : Dev nD) (t : Fin cfg0.N) (s : Fin 4096) (d : Fin 128) :
    (iblk m c 2 t : Vec Ideal S1x4096x128 .bf16) (ix3 0 s d) = argOf m c (ix3 ⟨t.val / 8, by have := points t; omega⟩ s ⟨6144 + 128 * (t.val % 8) + d.val, by omega⟩) := by
  have hi := index2 t
  unfold iblk
  rw [View.read_apply]
  show V m c main_arg0 _ = m (c.tc.loc main_arg0) _
  unfold V
  congr 1
  funext a
  apply Fin.ext
  match a with
  | ⟨0, _⟩ => show win0_2.index t 0 * 1 + 1 * 0 = t.val / 8; rw [hi.1]; omega
  | ⟨1, _⟩ => show win0_2.index t 1 * 4096 + 1 * s.val = s.val; rw [hi.2.1]; omega
  | ⟨2, _⟩ => show win0_2.index t 2 * 128 + 1 * d.val = 6144 + 128 * (t.val % 8) + d.val; rw [hi.2.2]; omega

theorem rows2 (c : Dev nD) (t : Fin cfg0.N) : rowsOf (iblk m c 2 t) = cols (argOf m c) (t.val / 8) (6144 + 128 * (t.val % 8)) :=
  rows_of _ _ _ _ (by have := points t; omega) (by have := points t; omega) (block2 m c t)

theorem index3 : ∀ t : Fin cfg0.N, win0_3.index t 0 = t.val / 8 ∧ win0_3.index t 1 = 0 ∧ win0_3.index t 2 = 56 + t.val % 8 := by decide +kernel

/-- Window 3's block is a slice of the argument's columns. -/
theorem block3 (c : Dev nD) (t : Fin cfg0.N) (s : Fin 4096) (d : Fin 128) :
    (iblk m c 3 t : Vec Ideal S1x4096x128 .bf16) (ix3 0 s d) = argOf m c (ix3 ⟨t.val / 8, by have := points t; omega⟩ s ⟨7168 + 128 * (t.val % 8) + d.val, by omega⟩) := by
  have hi := index3 t
  unfold iblk
  rw [View.read_apply]
  show V m c main_arg0 _ = m (c.tc.loc main_arg0) _
  unfold V
  congr 1
  funext a
  apply Fin.ext
  match a with
  | ⟨0, _⟩ => show win0_3.index t 0 * 1 + 1 * 0 = t.val / 8; rw [hi.1]; omega
  | ⟨1, _⟩ => show win0_3.index t 1 * 4096 + 1 * s.val = s.val; rw [hi.2.1]; omega
  | ⟨2, _⟩ => show win0_3.index t 2 * 128 + 1 * d.val = 7168 + 128 * (t.val % 8) + d.val; rw [hi.2.2]; omega

theorem rows3 (c : Dev nD) (t : Fin cfg0.N) : rowsOf (iblk m c 3 t) = cols (argOf m c) (t.val / 8) (7168 + 128 * (t.val % 8)) :=
  rows_of _ _ _ _ (by have := points t; omega) (by have := points t; omega) (block3 m c t)

theorem index4 : ∀ t : Fin cfg0.N, win0_4.index t 0 = t.val / 8 ∧ win0_4.index t 1 = 0 ∧ win0_4.index t 2 = t.val % 8 := by decide +kernel
theorem xsize4 : ∀ t : Fin cfg0.N, win0_4.xsize (grid0.coords t) 0 = 1 ∧ win0_4.xsize (grid0.coords t) 1 = 4096 ∧ win0_4.xsize (grid0.coords t) 2 = 128 := by decide +kernel
theorem flush4 : ∀ t : Fin cfg0.N, (cfg0.win 4).flush t = true := by decide +kernel

/-- What a point writes back is the result's block. -/
theorem flushed_eq (c : Dev nD) (t : Fin cfg0.N) (_ : (cfg0.win 4).flush t = true) :
    (dats m 0 c).flushed 4 t = ((cfg0.win 4).blk t).view.read (Elt Ideal) (scanOut (argOf m c)) := by
  have hi := index4 t
  have hp := points t
  show (cfg0.win 4).cut (grid0.coords t) ((dats m 0 c).after 4 t) = _
  rw [after_4]
  funext y
  rw [View.read_apply]
  show ((scanVal (rowsOf (iblk m c 0 t)) (rowsOf (iblk m c 1 t)) (rowsOf (iblk m c 2 t)) (rowsOf (iblk m c 3 t)) (y 1).val (y 2) : ℝ) : EReal)
    = scanOut (argOf m c) _
  rw [rows0, rows1, rows2, rows3]
  have h2 : (y 2).val < 128 := (y 2).isLt
  have h0 : (y 0).val < 1 := (y 0).isLt
  have e : ∀ z : S4x4096x1024.Idx, (z 0).val = t.val / 8 → (z 1).val = (y 1).val → (z 2).val = 128 * (t.val % 8) + (y 2).val →
      scanOut (argOf m c) z = ((headVal (argOf m c) (t.val / 8) (t.val % 8) (y 1).val (y 2) : ℝ) : EReal) := by
    intro z z0 z1 z2
    unfold scanOut
    rw [z0, z1, show (z 2).val / 128 = t.val % 8 by omega, show (⟨(z 2).val % 128, Nat.mod_lt _ (by decide)⟩ : Fin 128) = y 2 from Fin.ext (by show (z 2).val % 128 = (y 2).val; omega)]
  refine (e _ ?_ ?_ ?_).symm
  · show win0_4.index t 0 * 1 + 1 * (y 0).val = t.val / 8; rw [hi.1]; omega
  · show win0_4.index t 1 * 4096 + 1 * (y 1).val = (y 1).val; rw [hi.2.1]; omega
  · show win0_4.index t 2 * 128 + 1 * (y 2).val = _; rw [hi.2.2]; omega

/-- The thirty-two blocks cover the result array. -/
theorem final (c : Dev nD) : (dats m 0 c).arrAt 4 cfg0.N = scanOut (argOf m c) :=
  (dats m 0 c).arrAt_eq_of_cover 4 (scanOut (argOf m c)) (flushed_eq m c) fun i => by
    have h0 : (i 0 : Nat) < 4 := (i 0).isLt
    have h1 : (i 1 : Nat) < 4096 := (i 1).isLt
    have h2 : (i 2 : Nat) < 1024 := (i 2).isLt
    refine ⟨⟨8 * (i 0 : Nat) + (i 2 : Nat) / 128, by show _ < 32; omega⟩, flush4 _, ?_⟩
    generalize ht : (⟨8 * (i 0 : Nat) + (i 2 : Nat) / 128, by show _ < 32; omega⟩ : Fin cfg0.N) = t
    have hv : t.val = 8 * (i 0 : Nat) + (i 2 : Nat) / 128 := by rw [← ht]
    have hi := index4 t
    have hx := xsize4 t
    show i ∈ ((View.whole main_v0).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + win0_4.xsize (grid0.coords t) 0
                rw [hi.1, hx.1]; omega
    | ⟨1, _⟩ => show win0_4.index t 1 * 4096 ≤ (i 1 : Nat) ∧ (i 1 : Nat) < win0_4.index t 1 * 4096 + win0_4.xsize (grid0.coords t) 1
                rw [hi.2.1, hx.2.1]; omega
    | ⟨2, _⟩ => show win0_4.index t 2 * 128 ≤ (i 2 : Nat) ∧ (i 2 : Nat) < win0_4.index t 2 * 128 + win0_4.xsize (grid0.coords t) 2
                rw [hi.2.2, hx.2.2]; omega

/-- The columns the second scan reads are real. -/
def RealArg (X : S4x4096x11264.Idx → EReal) : Prop := ∀ y : S4x4096x11264.Idx, (4096 ≤ (y 2).val ∧ (y 2).val < 8192) → X y ≠ ⊤ ∧ X y ≠ ⊥

/-- A block of real columns. -/
theorem real_of (X : S4x4096x11264.Idx → EReal) (hX : RealArg X) (x : Vec Ideal S1x4096x128 .bf16) (b : Fin 4) (off : ℕ) (ho : 4096 ≤ off ∧ off + 128 ≤ 8192)
    (h : ∀ (s : Fin 4096) (d : Fin 128), x (ix3 0 s d) = X (ix3 b s ⟨off + d.val, by omega⟩)) : IsReal x := by
  intro y
  obtain ⟨s, d, rfl⟩ : ∃ (s : Fin 4096) (d : Fin 128), y = ix3 0 s d := ⟨y 1, y 2, by rw [ix3_of y]; congr 1; exact Fin.ext (Nat.lt_one_iff.mp (y 0).isLt)⟩
  rw [h]
  exact hX _ (show 4096 ≤ off + d.val ∧ off + d.val < 8192 by omega)

variable {m} in
theorem realBlocks (h : ∀ c, RealArg (argOf m c)) : RealBlocks m := fun c t =>
  ⟨real_of _ (h c) _ _ _ (by omega) (block0 m c t), real_of _ (h c) _ _ _ (by omega) (block1 m c t),
   real_of _ (h c) _ _ _ (by omega) (block2 m c t), real_of _ (h c) _ _ _ (by omega) (block3 m c t)⟩

/-- The run, read: the result array at the scan's values, the argument unchanged. -/
theorem run (h : ∀ c, RealArg (argOf m c)) : θ_run defs (onTc (τ := τ) (main (F := Ideal))) ⟨m, fun _ => 0, ρ⟩ fun r => ∀ c : Dev nD,
      r.2.mem ((c.tc : Thread nD τ).loc main_v0) = scanOut (argOf m c)
      ∧ r.2.mem ((c.tc : Thread nD τ).loc main_arg0) = m ((c.tc : Thread nD τ).loc main_arg0) :=
  (θ_run defs _ _).mono (fun _ hr c => ⟨((hr c).1 4).trans (final m c), ((hr c).1 3).trans (((dats m 0 c).arrAt_in 3 rfl _).trans ((A_eq m c 3).trans (V_main_arg0 m c)))⟩)
    (wholeRun ρ (realBlocks h))

end Cert.HgrnIdeal.ScanValue

end
-- ==== Proof.Hgrn.RefCumsum.lean ====
/-
  The second reference's running sum of a chunk of gates: a window sum of 64 rows, padded by 63 zeros, is the sum of the rows
  up to the row asked for.
-/
module

public import proofs.«01_k».proof.Proof.Gen.HgrnReferenceIdeal
public import proofs.«01_k».proof.Proof.Scan.RefCumsum
public import Idealize.ShloMosaic.Lib.Pointwise

@[expose] public section

set_option maxRecDepth 16384

noncomputable section

namespace Cert.HgrnReferenceIdeal.Scan

open Cert.HgrnReferenceIdeal Cert.Scan
open Cert.ReferenceIdeal.Scan (window_add windowIdx sum_window_row)
open Idealize.ShloMosaic

/-- The window sum of a chunk at a row, from rows whose values are `f`. -/
theorem cumsum_apply (x : FVec Ideal S8x8x64x128 .f32) (init : FVec Ideal S_ .f32) (h) (hu : 0 < S_.numel) (hz : ∀ z, init z = (0 : EReal))
    (b : Fin 8) (q : Fin 8) (d : Fin 128) (f : ℕ → EReal) (hf : ∀ j : Fin 64, x (ix4 b q j d) = f j.val) (i : Fin 64) :
    Host.reduceWindowAdd ![1, 1, 64, 1] ![1, 1, 1, 1] ![0, 0, 63, 0] ![0, 0, 0, 0] x init h hu (ix4 b q i d : S8x8x64x128.Idx)
      = ∑ u ∈ Finset.range (i.val + 1), f u := by
  unfold Host.reduceWindowAdd
  rw [Ideal.hostReduceWindowAdd_def, hz]
  unfold Ideal.hostReduceWindowAdd
  rw [window_add, ← Equiv.sum_comp windowIdx.symm, ← sum_window_row]
  refine Finset.sum_congr rfl fun n _ => ?_
  have hb := b.isLt
  have hq := q.isLt
  have hd := d.isLt
  by_cases hc : 63 ≤ i.val + n.val ∧ i.val + n.val - 63 < 64
  · rw [if_pos hc, ← hf ⟨i.val + n.val - 63, hc.2⟩, dif_pos]
    · congr 1
      funext a
      apply Fin.ext
      match a with
      | ⟨0, _⟩ => show b.val * 1 + 0 - 0 = b.val; omega
      | ⟨1, _⟩ => show q.val * 1 + 0 - 0 = q.val; omega
      | ⟨2, _⟩ => show i.val * 1 + n.val - 63 = i.val + n.val - 63; omega
      | ⟨3, _⟩ => show d.val * 1 + 0 - 0 = d.val; omega
    · intro a
      match a with
      | ⟨0, _⟩ => show 0 ≤ b.val * 1 + 0 ∧ b.val * 1 + 0 - 0 < 8; omega
      | ⟨1, _⟩ => show 0 ≤ q.val * 1 + 0 ∧ q.val * 1 + 0 - 0 < 8; omega
      | ⟨2, _⟩ => show 63 ≤ i.val * 1 + n.val ∧ i.val * 1 + n.val - 63 < 64; omega
      | ⟨3, _⟩ => show 0 ≤ d.val * 1 + 0 ∧ d.val * 1 + 0 - 0 < 128; omega
  · rw [if_neg hc, dif_neg]
    intro hin
    have h2 : 63 ≤ i.val * 1 + n.val ∧ i.val * 1 + n.val - 63 < 64 := hin 2
    omega

end Cert.HgrnReferenceIdeal.Scan

end
-- ==== Proof.Hgrn.RefTrip.lean ====
/-
  One trip of the second reference's scan on real sequences: a chunk of 64 rows is read, its rows are written out and the
  states move to the end of the chunk.
-/
module

public import proofs.«01_k».proof.Proof.Gen.HgrnReferenceIdeal.Run
public import proofs.«01_k».proof.Proof.Hgrn.RefCumsum
public import proofs.«01_k».proof.Proof.Scan.RefTrip
public import Idealize.ShloMosaic.Lib.DynamicIndex

@[expose] public section

set_option maxRecDepth 16384

noncomputable section

namespace Cert.HgrnReferenceIdeal.Scan

open Cert.HgrnReferenceIdeal Cert.HgrnReferenceIdeal.Value Cert.Scan
open Cert.ReferenceIdeal.Scan (coe_sum negInf starts)
open Idealize.ShloMosaic
open Cert.HgrnReferenceIdeal.Facts Cert.HgrnReferenceIdeal.Facts₀

abbrev bufQ (V : Valuation τ sig (Elt Ideal)) : FVec Ideal S64x8x8x64x128 .f32 := V (Proc.devRef .tc main_v44_0)
abbrev bufK (V : Valuation τ sig (Elt Ideal)) : FVec Ideal S64x8x8x64x128 .f32 := V (Proc.devRef .tc main_v44_1)
abbrev bufV (V : Valuation τ sig (Elt Ideal)) : FVec Ideal S64x8x8x64x128 .f32 := V (Proc.devRef .tc main_v44_2)
abbrev bufG (V : Valuation τ sig (Elt Ideal)) : FVec Ideal S64x8x8x64x128 .f32 := V (Proc.devRef .tc main_v44_3)
abbrev bufM (V : Valuation τ sig (Elt Ideal)) : IVec S1x1x64x64x1 1 := V (Proc.devRef .tc main_v44_4)
abbrev bufC (V : Valuation τ sig (Elt Ideal)) : IVec S_ 32 := V (Proc.devRef .tc main_v44_5)
abbrev bufS (V : Valuation τ sig (Elt Ideal)) : FVec Ideal S8x8x128x128 .f32 := V (Proc.devRef .tc main_v44_6)
abbrev bufO (V : Valuation τ sig (Elt Ideal)) : FVec Ideal S64x8x8x64x128 .f32 := V (Proc.devRef .tc main_v44_7)

/-- What the buffers hold before trip `k`. -/
structure Held (Q K A : Fin 8 → Fin 8 → ℕ → Fin 128 → ℝ) (W : Fin 8 → Fin 8 → ℕ → Fin 128 → ℝ) (k : ℕ) (V : Valuation τ sig (Elt Ideal)) : Prop where
  q : ∀ n b h i d, bufQ V (ix5 n b h i d) = ((Q b h (64 * n.val + i.val) d : ℝ) : EReal)
  kk : ∀ n b h i d, bufK V (ix5 n b h i d) = ((K b h (64 * n.val + i.val) d : ℝ) : EReal)
  v : ∀ n b h i e, bufV V (ix5 n b h i e) = ((W b h (64 * n.val + i.val) e : ℝ) : EReal)
  g : ∀ n b h i d, bufG V (ix5 n b h i d) = ((A b h (64 * n.val + i.val) d : ℝ) : EReal)
  m : ∀ i j : Fin 64, bufM V (ix5 0 0 i j 0) = if j.val ≤ i.val then 1#1 else 0#1
  c : bufC V = fun _ => BitVec.ofNat 32 k
  s : ∀ b h d e, bufS V (ix4 b h d e) = ((state (A b h · d) (K b h · d) (W b h · e) (64 * k) : ℝ) : EReal)
  o : ∀ n b h i e, n.val < k → bufO V (ix5 n b h i e)
    = ((∑ d, Q b h (64 * n.val + i.val) d * state (A b h · d) (K b h · d) (W b h · e) (64 * n.val + i.val + 1) : ℝ) : EReal)

/-- A chunk of a buffer of chunks. -/
theorem chunk128 (x : FVec Ideal S64x8x8x64x128 .f32) (st : Fin 5 → ℤ) (k : ℕ) (hk : k < 64) (hs : ∀ a, st a = ((![k, 0, 0, 0, 0] : Fin 5 → ℕ) a : ℤ)) (h hc)
    (b : Fin 8) (q : Fin 8) (i : Fin 64) (d : Fin 128) :
    (shapeCast S8x8x64x128 (Host.dynamicSlice S1x8x8x64x128 x st h) hc : FVec Ideal S8x8x64x128 .f32) (ix4 b q i d) = x (ix5 ⟨k, hk⟩ b q i d) := by
  rw [Host.dynamicSlice_eq_extractStridedSlice _ x st ![k, 0, 0, 0, 0] h ⟨rfl, fun a => by
    match a with
    | ⟨0, _⟩ => show k + 1 ≤ 64; omega
    | ⟨1, _⟩ => exact Nat.le_refl 8
    | ⟨2, _⟩ => exact Nat.le_refl 8
    | ⟨3, _⟩ => exact Nat.le_refl 64
    | ⟨4, _⟩ => exact Nat.le_refl 128⟩ hs]
  pointwise

/-- The scores of a chunk. -/
def scores (M : IVec S1x1x64x64x1 1) (q k c : FVec Ideal S8x8x64x128 .f32) : FVec Ideal S8x8x64x64 .f32 :=
  Host.reduceAdd (mulf (mulf (broadcastInDim S8x8x64x64x128 ![0, 1, 2, 3, 4] bcast_S8x8x64x1x128_S8x8x64x64x128_0_1_2_3_4 (broadcastInDim S8x8x64x1x128 ![0, 1, 2, 4] bcast_S8x8x64x128_S8x8x64x1x128_0_1_2_4 q)) (broadcastInDim S8x8x64x64x128 ![0, 1, 2, 3, 4] bcast_S8x8x1x64x128_S8x8x64x64x128_0_1_2_3_4 (broadcastInDim S8x8x1x64x128 ![0, 1, 3, 4] bcast_S8x8x64x128_S8x8x1x64x128_0_1_3_4 k))) (Host.exp (select (broadcastInDim S8x8x64x64x128 ![0, 1, 2, 3, 4] bcast_S1x1x64x64x1_S8x8x64x64x128_0_1_2_3_4 M) (subf (broadcastInDim S8x8x64x64x128 ![0, 1, 2, 3, 4] bcast_S8x8x64x1x128_S8x8x64x64x128_0_1_2_3_4 (broadcastInDim S8x8x64x1x128 ![0, 1, 2, 4] bcast_S8x8x64x128_S8x8x64x1x128_0_1_2_4 c)) (broadcastInDim S8x8x64x64x128 ![0, 1, 2, 3, 4] bcast_S8x8x1x64x128_S8x8x64x64x128_0_1_2_3_4 (broadcastInDim S8x8x1x64x128 ![0, 1, 3, 4] bcast_S8x8x64x128_S8x8x1x64x128_0_1_3_4 c))) (broadcastInDim S8x8x64x64x128 ![] bcast_S_S8x8x64x64x128 (id (constant (F := Ideal) S_ .f32 0xFF800000#32)))))) (constant (F := Ideal) S_ .f32 0x00000000#32) reducesTo_S8x8x64x64x128_S8x8x64x64_d4 h_S_

/-- The rows of a chunk. -/
def rowsOut (M : IVec S1x1x64x64x1 1) (q k c : FVec Ideal S8x8x64x128 .f32) (v : FVec Ideal S8x8x64x128 .f32) (S : FVec Ideal S8x8x128x128 .f32) : FVec Ideal S8x8x64x128 .f32 :=
  addf (Host.dotGeneral dot_S8x8x64x128_S8x8x128x128_S8x8x64x128_3_2_2_3_01_01 none (mulf q (Host.exp c)) S) (Host.dotGeneral dot_S8x8x64x64_S8x8x64x128_S8x8x64x128_3_2_2_3_01_01 none (scores M q k c) v)

/-- The states after a chunk. -/
def stateOut (r : FVec Ideal S8x8x1x128 .f32) (k c : FVec Ideal S8x8x64x128 .f32) (v : FVec Ideal S8x8x64x128 .f32) (S : FVec Ideal S8x8x128x128 .f32) : FVec Ideal S8x8x128x128 .f32 :=
  addf (mulf (broadcastInDim S8x8x128x128 ![0, 1, 2, 3] bcast_S8x8x128x1_S8x8x128x128_0_1_2_3 (broadcastInDim S8x8x128x1 ![0, 1, 2] bcast_S8x8x128_S8x8x128x1_0_1_2 (Host.exp (shapeCast S8x8x128 r shapeCasts_S8x8x1x128_S8x8x128)))) S) (Host.dotGeneral dot_S8x8x64x128_S8x8x64x128_S8x8x128x128_2_2_3_3_01_01 none (mulf k (Host.exp (subf (broadcastInDim S8x8x64x128 ![0, 1, 2, 3] bcast_S8x8x1x128_S8x8x64x128_0_1_2_3 r) c))) v)

section Chunk

variable {M : IVec S1x1x64x64x1 1} {q k c : FVec Ideal S8x8x64x128 .f32} {v : FVec Ideal S8x8x64x128 .f32} {S : FVec Ideal S8x8x128x128 .f32}
  {Q K A : ℕ → Fin 128 → ℝ} {W : ℕ → ℝ} {s : ℕ} {b : Fin 8} {h : Fin 8} {e : Fin 128}
  (hM : ∀ i j : Fin 64, M (ix5 0 0 i j 0) = if j.val ≤ i.val then 1#1 else 0#1)
  (hq : ∀ i d, q (ix4 b h i d) = ((Q (s + i.val) d : ℝ) : EReal))
  (hk : ∀ i d, k (ix4 b h i d) = ((K (s + i.val) d : ℝ) : EReal))
  (hc : ∀ i d, c (ix4 b h i d) = ((pre (A · d) s (i.val + 1) : ℝ) : EReal))
  (hv : ∀ i, v (ix4 b h i e) = ((W (s + i.val) : ℝ) : EReal))
  (hS : ∀ d, S (ix4 b h d e) = ((state (A · d) (K · d) W s : ℝ) : EReal))

include hM hq hk hc in
theorem scores_val (i j : Fin 64) : scores M q k c (ix4 b h i j)
    = ((if j.val ≤ i.val then ∑ d, Q (s + i) d * K (s + j) d * Real.exp (pre (A · d) s (i + 1) - pre (A · d) s (j + 1)) else 0 : ℝ) : EReal) := by
  have e : scores M q k c (ix4 b h i j) = ∑ d, q (ix4 b h i d) * k (ix4 b h j d)
      * Ideal.exp (Scalar.select (M (ix5 0 0 i j 0)) (c (ix4 b h i d) - c (ix4 b h j d)) ((id (constant (F := Ideal) S_ .f32 0xFF800000#32) : FVec Ideal S_ .f32) ix0)) := by
    pointwise [scores]
  rw [e, hM]
  by_cases hji : j.val ≤ i.val
  · rw [if_pos hji, if_pos hji, coe_sum]
    refine Finset.sum_congr rfl fun d _ => ?_
    rw [hq, hk, hc, hc, ← EReal.coe_sub]
    show _ * Ideal.exp ((pre (A · d) s (i + 1) - pre (A · d) s (j + 1) : ℝ) : EReal) = _
    rw [Ideal.exp_coe, ← EReal.coe_mul, ← EReal.coe_mul]
  · rw [if_neg hji, if_neg hji]
    refine Finset.sum_eq_zero fun d _ => ?_
    rw [negInf]
    show _ * Ideal.exp (⊥ : EReal) = _
    rw [Ideal.exp_bot, mul_zero]

include hM hq hk hc hv hS in
theorem rowsOut_val (i : Fin 64) : rowsOut M q k c v S (ix4 b h i e)
    = ((∑ d, Q (s + i.val) d * state (A · d) (K · d) W (s + i.val + 1) : ℝ) : EReal) := by
  have e' : rowsOut M q k c v S (ix4 b h i e) = (∑ d, q (ix4 b h i d) * Ideal.exp (c (ix4 b h i d)) * S (ix4 b h d e))
      + ∑ j, scores M q k c (ix4 b h i j) * v (ix4 b h j e) := by
    pointwise [rowsOut]
  rw [e', ← fwd_row (L := 64), add_comm, EReal.coe_add, coe_sum, coe_sum]
  congr 1
  · refine Finset.sum_congr rfl fun j _ => ?_
    rw [scores_val hM hq hk hc, hv, ← EReal.coe_mul]
  · refine Finset.sum_congr rfl fun d _ => ?_
    rw [hq, hc, hS, Ideal.exp_coe, ← EReal.coe_mul, ← EReal.coe_mul]

include hk hc hv hS in
theorem stateOut_val {r : FVec Ideal S8x8x1x128 .f32} (hr : ∀ d, r (ix4 b h 0 d) = ((pre (A · d) s 64 : ℝ) : EReal)) (d : Fin 128) :
    stateOut r k c v S (ix4 b h d e) = ((state (A · d) (K · d) W (s + 64) : ℝ) : EReal) := by
  have e' : stateOut r k c v S (ix4 b h d e) = Ideal.exp (r (ix4 b h 0 d)) * S (ix4 b h d e)
      + ∑ j, k (ix4 b h j d) * Ideal.exp (r (ix4 b h 0 d) - c (ix4 b h j d)) * v (ix4 b h j e) := by
    pointwise [stateOut]
  rw [e', fwd_next (L := 64) W s, EReal.coe_add, coe_sum, hr, hS, Ideal.exp_coe, ← EReal.coe_mul, mul_comm]
  congr 1
  refine Finset.sum_congr rfl fun j _ => ?_
  rw [hk, hc, hv, ← EReal.coe_sub, Ideal.exp_coe, ← EReal.coe_mul, ← EReal.coe_mul]

end Chunk

section Step

variable {Q K A : Fin 8 → Fin 8 → ℕ → Fin 128 → ℝ} {W : Fin 8 → Fin 8 → ℕ → Fin 128 → ℝ} {k : ℕ} {V : Valuation τ sig (Elt Ideal)}

theorem readQ (H : Held Q K A W k V) (hk : k < 64) (b h i d) : (res_main_while0b_v53 V : FVec Ideal S8x8x64x128 .f32) (ix4 b h i d) = ((Q b h (64 * k + i.val) d : ℝ) : EReal) :=
  (chunk128 (bufQ V) _ k hk (starts (bufC V) k hk H.c h_S_) _ _ b h i d).trans (H.q ⟨k, hk⟩ b h i d)
theorem readK (H : Held Q K A W k V) (hk : k < 64) (b h i d) : (res_main_while0b_v54 V : FVec Ideal S8x8x64x128 .f32) (ix4 b h i d) = ((K b h (64 * k + i.val) d : ℝ) : EReal) :=
  (chunk128 (bufK V) _ k hk (starts (bufC V) k hk H.c h_S_) _ _ b h i d).trans (H.kk ⟨k, hk⟩ b h i d)
theorem readV (H : Held Q K A W k V) (hk : k < 64) (b h i e) : (res_main_while0b_v55 V : FVec Ideal S8x8x64x128 .f32) (ix4 b h i e) = ((W b h (64 * k + i.val) e : ℝ) : EReal) :=
  (chunk128 (bufV V) _ k hk (starts (bufC V) k hk H.c h_S_) _ _ b h i e).trans (H.v ⟨k, hk⟩ b h i e)

theorem readC (H : Held Q K A W k V) (hk : k < 64) (b : Fin 8) (h : Fin 8) (i : Fin 64) (d : Fin 128) : (res_main_while0b_v57 V : FVec Ideal S8x8x64x128 .f32) (ix4 b h i d) = ((pre (A b h · d) (64 * k) (i.val + 1) : ℝ) : EReal) := by
  unfold pre
  rw [coe_sum]
  exact cumsum_apply _ _ _ h_S_ (fun z => by show Ideal.ofBits .f32 0x00000000#32 = 0; simp [Ideal.ofBits, Ideal.ieee]) b h d (fun u => ((A b h (64 * k + u) d : ℝ) : EReal))
    (fun j => (chunk128 (bufG V) _ k hk (starts (bufC V) k hk H.c h_S_) _ _ b h j d).trans (H.g ⟨k, hk⟩ b h j d)) i

theorem readR (H : Held Q K A W k V) (hk : k < 64) (b : Fin 8) (h : Fin 8) (d : Fin 128) : (res_main_while0b_v58 V : FVec Ideal S8x8x1x128 .f32) (ix4 b h 0 d) = ((pre (A b h · d) (64 * k) 64 : ℝ) : EReal) := by
  refine Eq.trans ?_ (readC H hk b h 63 d)
  unfold res_main_while0b_v58
  generalize (res_main_while0b_v57 V : FVec Ideal S8x8x64x128 .f32) = x
  show (extractStridedSlice S8x8x1x128 ![0, 0, 63, 0] x slices_S8x8x64x128_S8x8x1x128_0_0_63_0 : FVec Ideal S8x8x1x128 .f32) (ix4 b h 0 d) = _
  pointwise

theorem step6 (V : Valuation τ sig (Elt Ideal)) : step_main_v44_6 V = stateOut (res_main_while0b_v58 V) (res_main_while0b_v54 V) (res_main_while0b_v57 V) (res_main_while0b_v55 V) (bufS V) := rfl

theorem step7 (V : Valuation τ sig (Elt Ideal)) : step_main_v44_7 V = Host.dynamicUpdateSlice (bufO V) (broadcastInDim S1x8x8x64x128 ![1, 2, 3, 4] bcast_S8x8x64x128_S1x8x8x64x128_1_2_3_4
    (rowsOut (bufM V) (res_main_while0b_v53 V) (res_main_while0b_v54 V) (res_main_while0b_v57 V) (res_main_while0b_v55 V) (bufS V)))
    (fun a => ((![bufC V, constantI S_ 32 0#32, constantI S_ 32 0#32, constantI S_ 32 0#32, constantI S_ 32 0#32] : Fin 5 → IVec S_ 32) a (Shape.Idx.first h_S_)).toInt) updateFits_S64x8x8x64x128_S1x8x8x64x128 := by
  unfold step_main_v44_7 rowsOut scores bufO bufM bufC bufS
  generalize (res_main_while0b_v53 V) = q
  generalize (res_main_while0b_v54 V) = k
  generalize (res_main_while0b_v55 V) = v
  generalize (res_main_while0b_v57 V) = c
  rfl

/-- One chunk of the output written over. -/
theorem written (x : FVec Ideal S64x8x8x64x128 .f32) (r : FVec Ideal S8x8x64x128 .f32) (st : Fin 5 → ℤ) (k : ℕ) (hk : k < 64) (hs : ∀ a, st a = ((![k, 0, 0, 0, 0] : Fin 5 → ℕ) a : ℤ)) (hf)
    (n : Fin 64) (b : Fin 8) (h : Fin 8) (i : Fin 64) (e : Fin 128) :
    Host.dynamicUpdateSlice x (broadcastInDim S1x8x8x64x128 ![1, 2, 3, 4] bcast_S8x8x64x128_S1x8x8x64x128_1_2_3_4 r) st hf (ix5 n b h i e)
      = if n.val = k then r (ix4 b h i e) else x (ix5 n b h i e) := by
  rw [Host.dynamicUpdateSlice_apply]
  have h0 : Host.clampedStart S64x8x8x64x128 S1x8x8x64x128 hf.1 st 0 = k := Host.clampedStart_of_le _ _ _ _ (hs 0) (by show k + 1 ≤ 64; omega)
  have h1 : Host.clampedStart S64x8x8x64x128 S1x8x8x64x128 hf.1 st 1 = 0 := Host.clampedStart_of_le _ _ _ _ (hs 1) (Nat.le_refl 8)
  have h2 : Host.clampedStart S64x8x8x64x128 S1x8x8x64x128 hf.1 st 2 = 0 := Host.clampedStart_of_le _ _ _ _ (hs 2) (Nat.le_refl 8)
  have h3 : Host.clampedStart S64x8x8x64x128 S1x8x8x64x128 hf.1 st 3 = 0 := Host.clampedStart_of_le _ _ _ _ (hs 3) (Nat.le_refl 64)
  have h4 : Host.clampedStart S64x8x8x64x128 S1x8x8x64x128 hf.1 st 4 = 0 := Host.clampedStart_of_le _ _ _ _ (hs 4) (Nat.le_refl 128)
  have hb := b.isLt
  have hh := h.isLt
  have hi := i.isLt
  have he := e.isLt
  by_cases hn : n.val = k
  · rw [if_pos hn, dif_pos]
    · rw [show (ix4 b h i e : S8x8x64x128.Idx) = fun a => ⟨(ix4 b h i e : S8x8x64x128.Idx) a, ((ix4 b h i e : S8x8x64x128.Idx) a).isLt⟩ from rfl]
      unfold broadcastInDim
      congr 1
      funext a
      apply Fin.ext
      match a with
      | ⟨0, _⟩ => show b.val - Host.clampedStart S64x8x8x64x128 S1x8x8x64x128 hf.1 st 1 = b.val; rw [h1]; omega
      | ⟨1, _⟩ => show h.val - Host.clampedStart S64x8x8x64x128 S1x8x8x64x128 hf.1 st 2 = h.val; rw [h2]; omega
      | ⟨2, _⟩ => show i.val - Host.clampedStart S64x8x8x64x128 S1x8x8x64x128 hf.1 st 3 = i.val; rw [h3]; omega
      | ⟨3, _⟩ => show e.val - Host.clampedStart S64x8x8x64x128 S1x8x8x64x128 hf.1 st 4 = e.val; rw [h4]; omega
    · intro a
      match a with
      | ⟨0, _⟩ => show Host.clampedStart S64x8x8x64x128 S1x8x8x64x128 hf.1 st 0 ≤ n.val ∧ n.val < Host.clampedStart S64x8x8x64x128 S1x8x8x64x128 hf.1 st 0 + 1; rw [h0]; omega
      | ⟨1, _⟩ => show Host.clampedStart S64x8x8x64x128 S1x8x8x64x128 hf.1 st 1 ≤ b.val ∧ b.val < Host.clampedStart S64x8x8x64x128 S1x8x8x64x128 hf.1 st 1 + 8; rw [h1]; omega
      | ⟨2, _⟩ => show Host.clampedStart S64x8x8x64x128 S1x8x8x64x128 hf.1 st 2 ≤ h.val ∧ h.val < Host.clampedStart S64x8x8x64x128 S1x8x8x64x128 hf.1 st 2 + 8; rw [h2]; omega
      | ⟨3, _⟩ => show Host.clampedStart S64x8x8x64x128 S1x8x8x64x128 hf.1 st 3 ≤ i.val ∧ i.val < Host.clampedStart S64x8x8x64x128 S1x8x8x64x128 hf.1 st 3 + 64; rw [h3]; omega
      | ⟨4, _⟩ => show Host.clampedStart S64x8x8x64x128 S1x8x8x64x128 hf.1 st 4 ≤ e.val ∧ e.val < Host.clampedStart S64x8x8x64x128 S1x8x8x64x128 hf.1 st 4 + 128; rw [h4]; omega
  · rw [if_neg hn, dif_neg]
    intro hin
    have hz : Host.clampedStart S64x8x8x64x128 S1x8x8x64x128 hf.1 st 0 ≤ n.val ∧ n.val < Host.clampedStart S64x8x8x64x128 S1x8x8x64x128 hf.1 st 0 + 1 := hin 0
    rw [h0] at hz
    omega

/-- A trip. -/
theorem step (H : Held Q K A W k V) (hk : k < 64) : Held Q K A W (k + 1) (STEP V) where
  q n b h i d := by unfold bufQ; rw [STEP_main_v44_0]; exact H.q n b h i d
  kk n b h i d := by unfold bufK; rw [STEP_main_v44_1]; exact H.kk n b h i d
  v n b h i e := by unfold bufV; rw [STEP_main_v44_2]; exact H.v n b h i e
  g n b h i d := by unfold bufG; rw [STEP_main_v44_3]; exact H.g n b h i d
  m i j := by unfold bufM; rw [STEP_main_v44_4]; exact H.m i j
  c := by
    unfold bufC; rw [STEP_main_v44_5]
    funext z
    show IntOp.addi (bufC V z) 1#32 = BitVec.ofNat 32 (k + 1)
    rw [H.c]
    show BitVec.ofNat 32 k + 1#32 = _
    rw [BitVec.ofNat_add]
  s b h d e := by
    unfold bufS; rw [STEP_main_v44_6, step6]
    exact stateOut_val (fun i d => readK H hk b h i d) (fun i d => readC H hk b h i d) (fun i => readV H hk b h i e) (fun d => H.s b h d e) (fun d => readR H hk b h d) d
  o n b h i e hn := by
    unfold bufO; rw [STEP_main_v44_7, step7]
    refine (written _ _ _ k hk (starts (bufC V) k hk H.c h_S_) _ n b h i e).trans ?_
    by_cases hnk : n.val = k
    · rw [if_pos hnk, hnk]
      exact rowsOut_val H.m (fun i d => readQ H hk b h i d) (fun i d => readK H hk b h i d) (fun i d => readC H hk b h i d) (fun i => readV H hk b h i e) (fun d => H.s b h d e) i
    · rw [if_neg hnk]
      exact H.o n b h i e (by omega)

/-- Every trip. -/
theorem steps (H : Held Q K A W 0 V) : ∀ k, k ≤ 64 → Held Q K A W k (STEP^[k] V)
  | 0, _ => H
  | k + 1, hk => by rw [Function.iterate_succ_apply']; exact step (steps H k (by omega)) (by omega)

end Step

end Cert.HgrnReferenceIdeal.Scan

end
-- ==== Proof.Hgrn.RefEntry.lean ====
/-
  What the second reference's loop starts from: the projected columns cut into heads, the reversed rows stacked under them,
  and the whole cut into chunks.
-/
module

public import proofs.«01_k».proof.Proof.Hgrn.RefTrip
public import proofs.«01_k».proof.Proof.Scan.RefEntry

@[expose] public section

set_option maxRecDepth 16384

noncomputable section

namespace Cert.HgrnReferenceIdeal.Scan

open Cert.HgrnReferenceIdeal Cert.HgrnReferenceIdeal.Gen Cert.HgrnReferenceIdeal.Value Cert.Scan
open Idealize.ShloMosaic Idealize.ShloMosaic.TcCoe Idealize.ShloMosaic.Tactic
open Idealize.ShloMosaic.StableHlo
open Cert.ReferenceIdeal.Scan (log_two)

/-- 1024 columns of the argument as eight heads of 128. -/
def heads128 (X : FVec Ideal S4x4096x11264 .bf16) (o : ℕ) (h : S4x4096x11264.Slices ![0, 0, o] S4x4096x1024) : FVec Ideal S4x4096x8x128 .f32 :=
  shapeCast S4x4096x8x128 (extf .f32 (extractStridedSlice S4x4096x1024 ![0, 0, o] X h) bitsLt_bf16_f32) shapeCasts_S4x4096x1024_S4x4096x8x128

/-- The factor of the gates. -/
def scaled (x : FVec Ideal S4x4096x8x128 .f32) : FVec Ideal S4x4096x8x128 .f32 :=
  mulf x (broadcastInDim S4x4096x8x128 ![] bcast_S_S4x4096x8x128 (Host.log (constant (F := Ideal) S_ .f32 0x40000000#32)))

/-- The keys: one less the gates. -/
def keysOf (x : FVec Ideal S4x4096x8x128 .f32) : FVec Ideal S4x4096x8x128 .f32 :=
  subf (broadcastInDim S4x4096x8x128 ![] bcast_S_S4x4096x8x128 (constant (F := Ideal) S_ .f32 0x3F800000#32)) (Host.exp (scaled x))

/-- Rows, and reversed rows under them, cut into chunks. -/
def chunks128 (f b : FVec Ideal S4x4096x8x128 .f32) : FVec Ideal S64x8x8x64x128 .f32 :=
  transpose S64x8x8x64x128 [1, 0, 3, 2, 4] (shapeCast S8x64x64x8x128 (concatenate S8x4096x8x128 0 [⟨S4x4096x8x128, f⟩, ⟨S4x4096x8x128, Host.reverse [1] b⟩] concatenates_S4x4096x8x128_S4x4096x8x128_S8x4096x8x128_d0) shapeCasts_S8x4096x8x128_S8x64x64x8x128) transposes_S8x64x64x8x128_S64x8x8x64x128_1_0_3_2_4

/-- The causal mask. -/
def mask : IVec S1x1x64x64x1 1 :=
  broadcastInDim S1x1x64x64x1 ![2, 3] bcast_S64x64_S1x1x64x64x1_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))

variable (m : (ℓ : Loc nD τ sig) → Buf (Elt Ideal) ℓ) (c : Dev nD)

/-- The argument. -/
abbrev argOf : FVec Ideal S4x4096x11264 .bf16 := m (c.tc.loc main_arg0)

theorem entry_q : bufQ (entryContents preI m c) = chunks128 (heads128 (argOf m c) 4096 slices_S4x4096x11264_S4x4096x1024_0_0_4096) (heads128 (argOf m c) 4096 slices_S4x4096x11264_S4x4096x1024_0_0_4096) := by
  unfold bufQ
  simp only [entryContents, preI, afterL_cons, afterL_nil]
  after_results_entrywise []

theorem entry_k : bufK (entryContents preI m c) = chunks128 (keysOf (heads128 (argOf m c) 5120 slices_S4x4096x11264_S4x4096x1024_0_0_5120)) (keysOf (heads128 (argOf m c) 6144 slices_S4x4096x11264_S4x4096x1024_0_0_6144)) := by
  unfold bufK
  simp only [entryContents, preI, afterL_cons, afterL_nil]
  after_results_entrywise []

theorem entry_v : bufV (entryContents preI m c) = chunks128 (heads128 (argOf m c) 7168 slices_S4x4096x11264_S4x4096x1024_0_0_7168) (heads128 (argOf m c) 7168 slices_S4x4096x11264_S4x4096x1024_0_0_7168) := by
  unfold bufV
  simp only [entryContents, preI, afterL_cons, afterL_nil]
  after_results_entrywise []

theorem entry_g : bufG (entryContents preI m c) = chunks128 (scaled (heads128 (argOf m c) 5120 slices_S4x4096x11264_S4x4096x1024_0_0_5120)) (scaled (heads128 (argOf m c) 6144 slices_S4x4096x11264_S4x4096x1024_0_0_6144)) := by
  unfold bufG
  simp only [entryContents, preI, afterL_cons, afterL_nil]
  after_results_entrywise []

theorem entry_m : bufM (entryContents preI m c) = mask := by
  unfold bufM
  simp only [entryContents, preI, afterL_cons, afterL_nil]
  after_results_entrywise []

theorem entry_s : bufS (entryContents preI m c) = broadcastInDim S8x8x128x128 ![] bcast_S_S8x8x128x128 (constant (F := Ideal) S_ .f32 0x00000000#32) := by
  unfold bufS
  simp only [entryContents, preI, afterL_cons, afterL_nil]
  after_results_entrywise []

theorem cut128 (x : FVec Ideal S8x4096x8x128 .f32) (n q h i d) :
    (transpose S64x8x8x64x128 [1, 0, 3, 2, 4] (shapeCast S8x64x64x8x128 x shapeCasts_S8x4096x8x128_S8x64x64x8x128) transposes_S8x64x64x8x128_S64x8x8x64x128_1_0_3_2_4 : FVec Ideal S64x8x8x64x128 .f32) (ix5 n q h i d)
      = x (ix4 q ⟨64 * n.val + i.val, by omega⟩ h d) := by
  pointwise
  congr 2; apply Fin.ext; dsimp only; omega

theorem stack128 (f b : FVec Ideal S4x4096x8x128 .f32) (q : Fin 8) (t : Fin 4096) (h : Fin 8) (d : Fin 128) :
    (concatenate S8x4096x8x128 0 [⟨S4x4096x8x128, f⟩, ⟨S4x4096x8x128, Host.reverse [1] b⟩] concatenates_S4x4096x8x128_S4x4096x8x128_S8x4096x8x128_d0 : FVec Ideal S8x4096x8x128 .f32) (ix4 q t h d)
      = if hq : q.val < 4 then f (ix4 ⟨q.val, hq⟩ t h d) else b (ix4 ⟨q.val - 4, by omega⟩ t.rev h d) := by
  pointwise
  rfl

theorem chunks128_apply (f b : FVec Ideal S4x4096x8x128 .f32) (n q h i d) : chunks128 f b (ix5 n q h i d)
    = if hq : q.val < 4 then f (ix4 ⟨q.val, hq⟩ ⟨64 * n.val + i.val, by omega⟩ h d)
      else b (ix4 ⟨q.val - 4, by omega⟩ (Fin.rev ⟨64 * n.val + i.val, by omega⟩) h d) :=
  (cut128 _ n q h i d).trans (stack128 f b q _ h d)

theorem heads128_apply (X : FVec Ideal S4x4096x11264 .bf16) (o : ℕ) (hh) (b : Fin 4) (t : Fin 4096) (h : Fin 8) (d : Fin 128) (hb : o + 1024 ≤ 11264) :
    heads128 X o hh (ix4 b t h d) = X (ix3 b t ⟨o + 128 * h.val + d.val, by omega⟩) := by
  pointwise [heads128]
  congr 2; apply Fin.ext; dsimp only; omega

theorem scaled_apply (x : FVec Ideal S4x4096x8x128 .f32) (b t h d) : scaled x (ix4 b t h d) = x (ix4 b t h d) * ((Real.log 2 : ℝ) : EReal) := by
  rw [← log_two]
  pointwise [scaled]

theorem one_word : Ideal.ofBits .f32 0x3F800000#32 = ((1 : ℝ) : EReal) := by
  simp [Ideal.ofBits, Ideal.ieee, -EReal.coe_mul]; norm_num

theorem keysOf_apply (x : FVec Ideal S4x4096x8x128 .f32) (b t h d) (r : ℝ) (hr : x (ix4 b t h d) = (r : EReal)) :
    keysOf x (ix4 b t h d) = ((1 - Real.exp (r * Real.log 2) : ℝ) : EReal) := by
  have e : keysOf x (ix4 b t h d) = Ideal.ofBits .f32 0x3F800000#32 - Ideal.exp (scaled x (ix4 b t h d)) := by
    pointwise [keysOf]
  rw [e, one_word, scaled_apply, hr, ← EReal.coe_mul, Ideal.exp_coe, ← EReal.coe_sub]

theorem mask_apply (i j : Fin 64) : mask (ix5 0 0 i j 0) = if j.val ≤ i.val then 1#1 else 0#1 := by
  have e : mask (ix5 0 0 i j 0) = Scalar.select (IntOp.cmpi CmpIPredicate.sge (IntOp.addi (BitVec.ofNat 32 i.val) 0#32) (BitVec.ofNat 32 j.val)) 1#1 0#1 := by
    pointwise [mask]
  rw [e]
  revert i j
  decide +kernel

end Cert.HgrnReferenceIdeal.Scan

end
-- ==== Proof.Hgrn.RefOut.lean ====
/-
  The second reference's result at a real argument, entry by entry: the same array as the kernel's.
-/
module

public import proofs.«01_k».proof.Proof.Hgrn.RefEntry
public import proofs.«01_k».proof.Proof.Scan.RefOut
public import proofs.«01_k».proof.Proof.Hgrn.ValueRun

@[expose] public section

set_option maxRecDepth 16384

noncomputable section

namespace Cert.HgrnReferenceIdeal.Scan

open Cert.HgrnReferenceIdeal Cert.HgrnReferenceIdeal.Gen Cert.HgrnReferenceIdeal.Value Cert.Scan
open Idealize.ShloMosaic Idealize.ShloMosaic.TcCoe Idealize.ShloMosaic.Tactic
open Idealize.ShloMosaic.StableHlo
open Cert.KernelIdeal.ScanValue (cols ix3_of)
open Cert.HgrnIdeal.ScanValue (headVal scanOut RealArg)
open Cert.KernelIdeal.Scan (nat2)
open Cert.HgrnIdeal.Scan (outVal scanVal gateKey)
open Cert.ReferenceIdeal.Scan (rev_val)

variable (X : S4x4096x11264.Idx → EReal)

/-- A sequence of the reference: a batch's rows, or for the second four batches the rows reversed. -/
def seq (f g : ℕ → ℕ → ℕ → Fin 128 → ℝ) (b h : Fin 8) (t : ℕ) (d : Fin 128) : ℝ :=
  if b.val < 4 then f h.val b.val t d else g h.val (b.val - 4) (4096 - 1 - t) d

/-- A head's columns from a first column on. -/
def part (o h b : ℕ) : ℕ → Fin 128 → ℝ := cols X b (o + 128 * h)

def seqQ := seq (part X 4096) (part X 4096)
def seqK := seq (fun h b => gateKey (part X 5120 h b)) (fun h b => gateKey (part X 6144 h b))
def seqV := seq (part X 7168) (part X 7168)
def seqA := seq (fun h b => nat2 (part X 5120 h b)) (fun h b => nat2 (part X 6144 h b))

variable {X}

/-- A real entry of a head. -/
theorem head_coe (hX : RealArg X) (o : ℕ) (s) (b : Fin 4) (t : Fin 4096) (h : Fin 8) (d : Fin 128) (ho : 4096 ≤ o ∧ o + 1024 ≤ 8192) :
    heads128 X o s (ix4 b t h d) = ((part X o h.val b.val t.val d : ℝ) : EReal) := by
  have hh := h.isLt
  rw [heads128_apply _ _ _ _ _ _ _ (by omega)]
  unfold part cols
  rw [dif_pos ⟨b.isLt, t.isLt, by omega⟩]
  obtain ⟨h1, h2⟩ := hX (ix3 b t ⟨o + 128 * h.val + d.val, by omega⟩) (show 4096 ≤ o + 128 * h.val + d.val ∧ o + 128 * h.val + d.val < 8192 by omega)
  exact (EReal.coe_toReal h1 h2).symm

/-- The chunks of rows and reversed rows whose entries are known. -/
theorem chunk_of (x y : FVec Ideal S4x4096x8x128 .f32) (f g : ℕ → ℕ → ℕ → Fin 128 → ℝ)
    (hx : ∀ (b : Fin 4) (t : Fin 4096) (h : Fin 8) (d : Fin 128), x (ix4 b t h d) = ((f h.val b.val t.val d : ℝ) : EReal))
    (hy : ∀ (b : Fin 4) (t : Fin 4096) (h : Fin 8) (d : Fin 128), y (ix4 b t h d) = ((g h.val b.val t.val d : ℝ) : EReal))
    (n : Fin 64) (b h : Fin 8) (i : Fin 64) (d : Fin 128) : chunks128 x y (ix5 n b h i d) = ((seq f g b h (64 * n.val + i.val) d : ℝ) : EReal) := by
  rw [chunks128_apply]
  unfold seq
  by_cases hb : b.val < 4
  · rw [dif_pos hb, if_pos hb]
    exact hx ⟨b.val, hb⟩ ⟨64 * n.val + i.val, by omega⟩ h d
  · rw [dif_neg hb, if_neg hb]
    exact (hy ⟨b.val - 4, by omega⟩ (Fin.rev ⟨64 * n.val + i.val, by omega⟩) h d).trans (by rw [rev_val])

theorem key_coe (hX : RealArg X) (o : ℕ) (s) (b : Fin 4) (t : Fin 4096) (h : Fin 8) (d : Fin 128) (ho : 4096 ≤ o ∧ o + 1024 ≤ 8192) :
    keysOf (heads128 X o s) (ix4 b t h d) = ((gateKey (part X o h.val b.val) t.val d : ℝ) : EReal) :=
  keysOf_apply _ b t h d _ (head_coe hX o s b t h d ho)

theorem gate_coe (hX : RealArg X) (o : ℕ) (s) (b : Fin 4) (t : Fin 4096) (h : Fin 8) (d : Fin 128) (ho : 4096 ≤ o ∧ o + 1024 ≤ 8192) :
    scaled (heads128 X o s) (ix4 b t h d) = ((nat2 (part X o h.val b.val) t.val d : ℝ) : EReal) := by
  rw [scaled_apply, head_coe hX o s b t h d ho, ← EReal.coe_mul, nat2]

section Out

variable (m : (ℓ : Loc nD τ sig) → Buf (Elt Ideal) ℓ) (c : Dev nD)

/-- The loop starts from the sequences and zero states. -/
theorem held_entry (hX : RealArg (argOf m c)) :
    Held (seqQ (argOf m c)) (seqK (argOf m c)) (seqA (argOf m c)) (seqV (argOf m c)) 0 (entryContents preI m c) where
  q n b h i d := by rw [entry_q]; exact chunk_of _ _ _ _ (fun b t h d => head_coe hX _ _ b t h d (by omega)) (fun b t h d => head_coe hX _ _ b t h d (by omega)) n b h i d
  kk n b h i d := by rw [entry_k]; exact chunk_of _ _ _ _ (fun b t h d => key_coe hX _ _ b t h d (by omega)) (fun b t h d => key_coe hX _ _ b t h d (by omega)) n b h i d
  v n b h i e := by rw [entry_v]; exact chunk_of _ _ _ _ (fun b t h d => head_coe hX _ _ b t h d (by omega)) (fun b t h d => head_coe hX _ _ b t h d (by omega)) n b h i e
  g n b h i d := by rw [entry_g]; exact chunk_of _ _ _ _ (fun b t h d => gate_coe hX _ _ b t h d (by omega)) (fun b t h d => gate_coe hX _ _ b t h d (by omega)) n b h i d
  m i j := by rw [entry_m]; exact mask_apply i j
  c := ctr_entry m c
  s b h d e := by
    rw [entry_s]
    show Ideal.ofBits .f32 0x00000000#32 = _
    simp [Ideal.ofBits, Ideal.ieee, state]
  o n b h i e hn := absurd hn (Nat.not_lt_zero _)

/-- The chunks joined again. -/
def joined (x : FVec Ideal S64x8x8x64x128 .f32) : FVec Ideal S8x4096x8x128 .f32 :=
  shapeCast S8x4096x8x128 (transpose S8x64x64x8x128 [1, 0, 3, 2, 4] x transposes_S64x8x8x64x128_S8x64x64x8x128_1_0_3_2_4) shapeCasts_S8x64x64x8x128_S8x4096x8x128

theorem joined_apply (x : FVec Ideal S64x8x8x64x128 .f32) (b : Fin 8) (t : Fin 4096) (h : Fin 8) (e : Fin 128) :
    joined x (ix4 b t h e) = x (ix5 ⟨t.val / 64, by omega⟩ b h ⟨t.val % 64, by omega⟩ e) := by
  pointwise [joined]

/-- The two directions added. -/
def summed (x : FVec Ideal S8x4096x8x128 .f32) : FVec Ideal S4x4096x1024 .bf16 :=
  truncf .bf16 (shapeCast S4x4096x1024 (addf (extractStridedSlice S4x4096x8x128 ![0, 0, 0, 0] x slices_S8x4096x8x128_S4x4096x8x128_0_0_0_0) (Host.reverse [1] (extractStridedSlice S4x4096x8x128 ![4, 0, 0, 0] x slices_S8x4096x8x128_S4x4096x8x128_4_0_0_0))) shapeCasts_S4x4096x8x128_S4x4096x1024) bitsLt_bf16_f32

theorem summed_apply (x : FVec Ideal S8x4096x8x128 .f32) (b : Fin 4) (t : Fin 4096) (j : Fin 1024) :
    summed x (ix3 b t j) = x (ix4 ⟨b.val, by omega⟩ t ⟨j.val / 128, by omega⟩ ⟨j.val % 128, by omega⟩)
      + x (ix4 ⟨4 + b.val, by omega⟩ (Fin.rev t) ⟨j.val / 128, by omega⟩ ⟨j.val % 128, by omega⟩) := by
  pointwise [summed]
  rfl

theorem out_split (V : Valuation τ sig (Elt Ideal)) : out_main_v52 V = summed (joined (bufO V)) := by
  unfold out_main_v52 summed joined bufO
  rfl

theorem out_apply (V : Valuation τ sig (Elt Ideal)) (b : Fin 4) (t : Fin 4096) (j : Fin 1024) :
    (out_main_v52 V : FVec Ideal S4x4096x1024 .bf16) (ix3 b t j)
      = bufO V (ix5 ⟨t.val / 64, by omega⟩ ⟨b.val, by omega⟩ ⟨j.val / 128, by omega⟩ ⟨t.val % 64, by omega⟩ ⟨j.val % 128, by omega⟩)
        + bufO V (ix5 ⟨(4095 - t.val) / 64, by omega⟩ ⟨4 + b.val, by omega⟩ ⟨j.val / 128, by omega⟩ ⟨(4095 - t.val) % 64, by omega⟩ ⟨j.val % 128, by omega⟩) := by
  rw [out_split, summed_apply, joined_apply, joined_apply]
  congr 3
  · apply Fin.ext; dsimp only; rw [rev_val]
  · apply Fin.ext; dsimp only; rw [rev_val]

/-- The reference's result. -/
theorem out_eq (hX : RealArg (argOf m c)) : out_main_v52 (STEP^[64] (entryContents preI m c)) = scanOut (argOf m c) := by
  have H := steps (held_entry m c hX) 64 (le_refl _)
  funext y
  obtain ⟨b, t, j, rfl⟩ : ∃ (b : Fin 4) (t : Fin 4096) (j : Fin 1024), y = ix3 b t j := ⟨y 0, y 1, y 2, ix3_of y⟩
  have ht := t.isLt
  refine (out_apply _ b t j).trans ?_
  rw [H.o _ _ _ _ _ (by dsimp only; omega), H.o _ _ _ _ _ (by dsimp only; omega), ← EReal.coe_add]
  unfold scanOut headVal scanVal outVal back
  dsimp only
  rw [show 64 * (t.val / 64) + t.val % 64 = t.val by omega, show 64 * ((4095 - t.val) / 64) + (4095 - t.val) % 64 = 4095 - t.val by omega,
    show 4095 - t.val + 1 = 4096 - t.val by omega]
  unfold seqQ seqK seqV seqA seq
  simp only [if_pos b.isLt, if_neg (show ¬ (4 + b.val < 4) by omega), show 4 + b.val - 4 = b.val by omega, show 4096 - 1 - (4095 - t.val) = t.val by omega]
  rfl

end Out

end Cert.HgrnReferenceIdeal.Scan

end
-- ==== Proof.Hgrn.Finite.lean ====
/-
  What the second precondition says: every entry the second scan reads is a real number.
-/
module

public import proofs.«01_k».proof.Pre_finite_hgrn
public import proofs.«01_k».proof.Proof.Scan.Finite
public import proofs.«01_k».proof.Proof.Hgrn.ValueRun
public import Idealize.ShloMosaic.Lib.Pointwise

@[expose] public section

set_option maxRecDepth 16384

noncomputable section

namespace Cert.Pre_finite_hgrn.Scan

open Cert.Pre_finite_hgrn
open Cert.Pre_finite.Scan (reduce_and real_of_abs)
open Idealize.ShloMosaic

/-- The predicate's side conditions. -/
theorem facts : Cert.Pre_finite_hgrn.Facts where
  slices_S4x4096x11264_S4x4096x4096_0_0_4096 := by decide
  bitsLt_bf16_f32 := by decide
  bcast_S_S4x4096x4096 := by decide
  reducesTo_S4x4096x4096_S_d0_1_2 := by decide
  h_S_ := by decide

theorem realArg (X : S4x4096x11264.Idx → EReal) (h : @Cert.Pre_finite_hgrn.fn facts Ideal _ X = fun _ => 1#1) : Cert.HgrnIdeal.ScanValue.RealArg X := by
  have h1 := congrFun h (fun a => a.elim0)
  intro y hy
  have y0 := (y 0).isLt
  have y1 := (y 1).isLt
  have y2 := (y 2).isLt
  have e := reduce_and _ _ _ _ _ h1 (fun a => match a with
      | ⟨0, _⟩ => y 0
      | ⟨1, _⟩ => y 1
      | ⟨2, _⟩ => ⟨(y 2).val - 4096, by show (y 2).val - 4096 < 4096; omega⟩ : S4x4096x4096.Idx)
  refine real_of_abs (x := X y) (Eq.trans ?_ e)
  have hx : X y = extractStridedSlice S4x4096x4096 ![0, 0, 4096] X facts.slices_S4x4096x11264_S4x4096x4096_0_0_4096 (fun a => match a with
      | ⟨0, _⟩ => y 0
      | ⟨1, _⟩ => y 1
      | ⟨2, _⟩ => ⟨(y 2).val - 4096, by show (y 2).val - 4096 < 4096; omega⟩ : S4x4096x4096.Idx) := by
    unfold extractStridedSlice
    refine congrArg X (funext fun a => Fin.ext ?_)
    match a with
    | ⟨0, _⟩ => exact (Nat.zero_add _).symm
    | ⟨1, _⟩ => exact (Nat.zero_add _).symm
    | ⟨2, _⟩ => show (y 2).val = 4096 + ((y 2).val - 4096); omega
  rw [hx]
  rfl

end Cert.Pre_finite_hgrn.Scan

end
-- ==== Proof.lean ====
/- The proof of the certificate's claims about the two scans, the projection and the merge. -/
module

public import proofs.«01_k».proof.Defs
public import proofs.«01_k».proof.Proof.Gen.Kernel
public import proofs.«01_k».proof.Proof.Gen.KernelIdeal
public import proofs.«01_k».proof.Proof.Scan.KernelFrame
public import proofs.«01_k».proof.Proof.Scan.KernelIdealFrame
public import proofs.«01_k».proof.Proof.Gen.ReferenceIdeal.Run
public import proofs.«01_k».proof.Proof.Scan.ValueRun
public import proofs.«01_k».proof.Proof.Scan.RefOut
public import proofs.«01_k».proof.Proof.Scan.Finite
public import proofs.«01_k».proof.Proof.Gen.Project
public import proofs.«01_k».proof.Proof.Gen.ProjectIdeal
public import proofs.«01_k».proof.Proof.Gen.Project.Points
public import proofs.«01_k».proof.Proof.Gen.Project.Frame
public import proofs.«01_k».proof.Proof.Gen.Project.Launch
public import proofs.«01_k».proof.Proof.Gen.Project.Skeleton
public import proofs.«01_k».proof.Proof.Gen.ProjectIdeal.Points
public import proofs.«01_k».proof.Proof.Gen.ProjectIdeal.Frame
public import proofs.«01_k».proof.Proof.Gen.ProjectIdeal.Launch
public import proofs.«01_k».proof.Proof.Gen.ProjectIdeal.Skeleton
public import proofs.«01_k».proof.Proof.Gen.ProjectionsIdeal.Run
public import proofs.«01_k».proof.Proof.Gen.Merge
public import proofs.«01_k».proof.Proof.Gen.Merge.Points
public import proofs.«01_k».proof.Proof.Gen.Merge.Frame
public import proofs.«01_k».proof.Proof.Gen.Merge.Launch
public import proofs.«01_k».proof.Proof.Gen.Merge.Skeleton
public import proofs.«01_k».proof.Proof.Gen.MergeIdeal
public import proofs.«01_k».proof.Proof.Gen.MergeIdeal.Points
public import proofs.«01_k».proof.Proof.Gen.MergeIdeal.Frame
public import proofs.«01_k».proof.Proof.Gen.MergeIdeal.Launch
public import proofs.«01_k».proof.Proof.Gen.MergeIdeal.Skeleton
public import proofs.«01_k».proof.Proof.Gen.MergedIdeal.Run
public import proofs.«01_k».proof.Proof.Gen.Hgrn
public import proofs.«01_k».proof.Proof.Gen.Hgrn.Points
public import proofs.«01_k».proof.Proof.Gen.Hgrn.Frame
public import proofs.«01_k».proof.Proof.Gen.Hgrn.Launch
public import proofs.«01_k».proof.Proof.Gen.Hgrn.Loops
public import proofs.«01_k».proof.Proof.Gen.Hgrn.Skeleton
public import proofs.«01_k».proof.Proof.Gen.HgrnIdeal
public import proofs.«01_k».proof.Proof.Gen.HgrnIdeal.Points
public import proofs.«01_k».proof.Proof.Gen.HgrnIdeal.Frame
public import proofs.«01_k».proof.Proof.Gen.HgrnIdeal.Launch
public import proofs.«01_k».proof.Proof.Gen.HgrnIdeal.Loops
public import proofs.«01_k».proof.Proof.Gen.HgrnIdeal.Skeleton
public import proofs.«01_k».proof.Proof.Gen.HgrnReferenceIdeal.Run
public import proofs.«01_k».proof.Proof.Proj.BitsFrame
public import proofs.«01_k».proof.Proof.Proj.ValueRun
public import proofs.«01_k».proof.Proof.Proj.Reference
public import proofs.«01_k».proof.Proof.Mrg.BitsFrame
public import proofs.«01_k».proof.Proof.Mrg.ValueRun
public import proofs.«01_k».proof.Proof.Mrg.Reference
public import proofs.«01_k».proof.Proof.Hgrn.BitsFrame
public import proofs.«01_k».proof.Proof.Hgrn.IdealFrame
public import proofs.«01_k».proof.Proof.Hgrn.ValueRun
public import proofs.«01_k».proof.Proof.Hgrn.RefOut
public import proofs.«01_k».proof.Proof.Hgrn.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its argument and the counters as they were. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run m ρ)

/-- At a real argument the kernel and the reference end with the same array. -/
theorem algebraic : @algebraic_KernelIdeal_ReferenceIdeal_pre_finite Cert.KernelIdeal.Gen.facts Cert.ReferenceIdeal.Gen.facts Cert.Pre_finite.Scan.facts := by
  intro m g m' g' hp hm
  have hX : ∀ c, Cert.KernelIdeal.ScanValue.RealArg (Cert.KernelIdeal.ScanValue.argOf m c) := fun c => Cert.Pre_finite.Scan.realArg _ (hp c)
  refine ⟨fun c => Cert.KernelIdeal.ScanValue.scanOut (Cert.KernelIdeal.ScanValue.argOf m c), Cert.KernelIdeal.ScanValue.run m g hX, ?_⟩
  refine (θ_run Cert.ReferenceIdeal.defs _ _).mono (fun r h c => ⟨(h c).1.trans ?_, (h c).2⟩) (Cert.ReferenceIdeal.Value.run m' g')
  have e : Cert.ReferenceIdeal.Scan.argOf m' c = Cert.KernelIdeal.ScanValue.argOf m c := hm c
  have hX' : Cert.KernelIdeal.ScanValue.RealArg (Cert.ReferenceIdeal.Scan.argOf m' c) := by rw [e]; exact hX c
  exact (Cert.ReferenceIdeal.Scan.out_eq m' c hX').trans (by rw [e])

/-- The plain projection runs and leaves its arguments and the counters as they were. -/
theorem projections_frame (m : (ℓ : Loc Cert.ProjectionsIdeal.nD Cert.ProjectionsIdeal.τ Cert.ProjectionsIdeal.sig) → Buf (Elt Ideal) ℓ) (ρ : Dev Cert.ProjectionsIdeal.nD → PrngReg) :
    θ_run (Cert.ProjectionsIdeal.defs (F := Ideal)) (onTc (τ := Cert.ProjectionsIdeal.τ) (Cert.ProjectionsIdeal.main (F := Ideal))) ⟨m, fun _ => 0, ρ⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ r.2.sem = fun _ => 0) :=
  (θ_run Cert.ProjectionsIdeal.defs _ _).mono (fun r h => ⟨fun c => (h c).2, sem_eq_zero_of_no_sems (by decide) r.2⟩)
    (Cert.ProjectionsIdeal.Value.run m ρ)

/-- The four named constants stand for the numbers their words are rounded from. -/
theorem preserves_projection : Cert.preserves_Project_ProjectIdeal :=
  ⟨IdealRules.named_const.statement Cert.ProjectIdeal.κ "neg_log2e" .f32 0xBFB8AA3B#32 ((-((Real.log 2)⁻¹) : ℝ) : EReal) rfl,
   IdealRules.named_const.statement Cert.ProjectIdeal.κ "log2e" .f32 0x3FB8AA3B#32 (((Real.log 2)⁻¹ : ℝ) : EReal) rfl,
   IdealRules.named_const.statement Cert.ProjectIdeal.κ "ln2" .f32 0x3F317218#32 ((Real.log 2 : ℝ) : EReal) rfl,
   IdealRules.named_const.statement Cert.ProjectIdeal.κ "log2e_16" .f32 0x3DB8AA3B#32 (((Real.log 2)⁻¹ * (1 / 16) : ℝ) : EReal) rfl⟩

/-- The projection call and the plain projection end with the same array. -/
theorem algebraic_projection : Cert.algebraic_ProjectIdeal_ProjectionsIdeal (hProjectIdeal := Cert.ProjectIdeal.Gen.facts) (hProjectionsIdeal := Cert.ProjectionsIdeal.Gen.facts) := by
  intro m g m' g' _ hm
  refine ⟨fun c => Cert.ProjectIdeal.Proj.projOf m c, Cert.ProjectIdeal.Proj.run m g, ?_⟩
  refine (θ_run Cert.ProjectionsIdeal.defs _ _).mono (fun r h c => ⟨(h c).1.trans ?_, (h c).2⟩) (Cert.ProjectionsIdeal.Value.run m' g')
  obtain ⟨h0, h1, h2, h3, h4, h5, h6, h7⟩ := hm c
  refine (Cert.ProjectionsIdeal.Proj.out_eq m' c).trans ?_
  rw [h0, h1, h2, h3, h4, h5, h6, h7]

/-- The plain merge runs and leaves its arguments and the counters as they were. -/
theorem merged_frame (m : (ℓ : Loc Cert.MergedIdeal.nD Cert.MergedIdeal.τ Cert.MergedIdeal.sig) → Buf (Elt Ideal) ℓ) (ρ : Dev Cert.MergedIdeal.nD → PrngReg) :
    θ_run (Cert.MergedIdeal.defs (F := Ideal)) (onTc (τ := Cert.MergedIdeal.τ) (Cert.MergedIdeal.main (F := Ideal))) ⟨m, fun _ => 0, ρ⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
      ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3)
      ∧ r.2.mem ((c.tc : Thread Cert.MergedIdeal.nD Cert.MergedIdeal.τ).loc Cert.MergedIdeal.main_arg4) = m ((c.tc : Thread Cert.MergedIdeal.nD Cert.MergedIdeal.τ).loc Cert.MergedIdeal.main_arg4)
      ∧ r.2.mem ((c.tc : Thread Cert.MergedIdeal.nD Cert.MergedIdeal.τ).loc Cert.MergedIdeal.main_arg5) = m ((c.tc : Thread Cert.MergedIdeal.nD Cert.MergedIdeal.τ).loc Cert.MergedIdeal.main_arg5)
      ∧ r.2.mem ((c.tc : Thread Cert.MergedIdeal.nD Cert.MergedIdeal.τ).loc Cert.MergedIdeal.main_arg6) = m ((c.tc : Thread Cert.MergedIdeal.nD Cert.MergedIdeal.τ).loc Cert.MergedIdeal.main_arg6)
      ∧ r.2.mem ((c.tc : Thread Cert.MergedIdeal.nD Cert.MergedIdeal.τ).loc Cert.MergedIdeal.main_arg7) = m ((c.tc : Thread Cert.MergedIdeal.nD Cert.MergedIdeal.τ).loc Cert.MergedIdeal.main_arg7)
      ∧ r.2.mem ((c.tc : Thread Cert.MergedIdeal.nD Cert.MergedIdeal.τ).loc Cert.MergedIdeal.main_arg8) = m ((c.tc : Thread Cert.MergedIdeal.nD Cert.MergedIdeal.τ).loc Cert.MergedIdeal.main_arg8)
      ∧ r.2.mem ((c.tc : Thread Cert.MergedIdeal.nD Cert.MergedIdeal.τ).loc Cert.MergedIdeal.main_arg9) = m ((c.tc : Thread Cert.MergedIdeal.nD Cert.MergedIdeal.τ).loc Cert.MergedIdeal.main_arg9)
      ∧ r.2.mem ((c.tc : Thread Cert.MergedIdeal.nD Cert.MergedIdeal.τ).loc Cert.MergedIdeal.main_arg10) = m ((c.tc : Thread Cert.MergedIdeal.nD Cert.MergedIdeal.τ).loc Cert.MergedIdeal.main_arg10))
      ∧ r.2.sem = fun _ => 0) :=
  (θ_run Cert.MergedIdeal.defs _ _).mono (fun r h => ⟨fun c => (h c).2, sem_eq_zero_of_no_sems (by decide) r.2⟩)
    (Cert.MergedIdeal.Value.run m ρ)

/-- The merge call and the plain merge end with the same array. -/
theorem algebraic_merge : Cert.algebraic_MergeIdeal_MergedIdeal (hMergeIdeal := Cert.MergeIdeal.Gen.facts) (hMergedIdeal := Cert.MergedIdeal.Gen.facts) := by
  intro m g m' g' _ hm
  refine ⟨fun c => Cert.MergeIdeal.Mrg.mergedOf m c, Cert.MergeIdeal.Mrg.run m g, ?_⟩
  refine (θ_run Cert.MergedIdeal.defs _ _).mono (fun r h c => ⟨(h c).1.trans ?_, (h c).2⟩) (Cert.MergedIdeal.Value.run m' g')
  obtain ⟨h0, h1, h2, h3, h4, h5, h6, h7, h8, h9, h10⟩ := hm c
  refine (Cert.MergedIdeal.Mrg.out_eq m' c).trans ?_
  rw [h0, h1, h2, h3, h4, h5, h6, h7, h8, h9, h10]

/-- The second scan's reference runs and leaves its argument and the counters as they were. -/
theorem hgrn_reference_frame (m : (ℓ : Loc Cert.HgrnReferenceIdeal.nD Cert.HgrnReferenceIdeal.τ Cert.HgrnReferenceIdeal.sig) → Buf (Elt Ideal) ℓ) (ρ : Dev Cert.HgrnReferenceIdeal.nD → PrngReg) :
    θ_run (Cert.HgrnReferenceIdeal.defs (F := Ideal)) (onTc (τ := Cert.HgrnReferenceIdeal.τ) (Cert.HgrnReferenceIdeal.main (F := Ideal))) ⟨m, fun _ => 0, ρ⟩ (fun r => (∀ c : Dev Cert.HgrnReferenceIdeal.nD,
      r.2.mem ((c.tc : Thread Cert.HgrnReferenceIdeal.nD Cert.HgrnReferenceIdeal.τ).loc Cert.HgrnReferenceIdeal.main_arg0) = m ((c.tc : Thread Cert.HgrnReferenceIdeal.nD Cert.HgrnReferenceIdeal.τ).loc Cert.HgrnReferenceIdeal.main_arg0))
      ∧ r.2.sem = fun _ => 0) :=
  (θ_run Cert.HgrnReferenceIdeal.defs _ _).mono (fun r h => ⟨fun c => (h c).2, Idealize.ShloMosaic.sem_eq_zero_of_no_sems (by decide) r.2⟩)
    (Cert.HgrnReferenceIdeal.Value.run m ρ)

/-- At a real argument the second scan and its reference end with the same array. -/
theorem algebraic_hgrn : @algebraic_HgrnIdeal_HgrnReferenceIdeal_pre_finite_hgrn Cert.HgrnIdeal.Gen.facts Cert.HgrnReferenceIdeal.Gen.facts Cert.Pre_finite_hgrn.Scan.facts := by
  intro m g m' g' hp hm
  have hX : ∀ c, Cert.HgrnIdeal.ScanValue.RealArg (Cert.HgrnIdeal.ScanValue.argOf m c) := fun c => Cert.Pre_finite_hgrn.Scan.realArg _ (hp c)
  refine ⟨fun c => Cert.HgrnIdeal.ScanValue.scanOut (Cert.HgrnIdeal.ScanValue.argOf m c), Cert.HgrnIdeal.ScanValue.run m g hX, ?_⟩
  refine (θ_run Cert.HgrnReferenceIdeal.defs _ _).mono (fun r h c => ⟨(h c).1.trans ?_, (h c).2⟩) (Cert.HgrnReferenceIdeal.Value.run m' g')
  have e : Cert.HgrnReferenceIdeal.Scan.argOf m' c = Cert.HgrnIdeal.ScanValue.argOf m c := hm c
  have hX' : Cert.HgrnIdeal.ScanValue.RealArg (Cert.HgrnReferenceIdeal.Scan.argOf m' c) := by rw [e]; exact hX c
  exact (Cert.HgrnReferenceIdeal.Scan.out_eq m' c hX').trans (by rw [e])

theorem claim : Cert.Claim := ⟨Cert.Kernel.Gen.facts, Cert.KernelIdeal.Gen.facts, Cert.ReferenceIdeal.Gen.facts,
  Cert.Project.Gen.facts, Cert.ProjectIdeal.Gen.facts, Cert.ProjectionsIdeal.Gen.facts,
  Cert.Merge.Gen.facts, Cert.MergeIdeal.Gen.facts, Cert.MergedIdeal.Gen.facts,
  Cert.Hgrn.Gen.facts, Cert.HgrnIdeal.Gen.facts, Cert.HgrnReferenceIdeal.Gen.facts, Cert.Pre_finite.Scan.facts, Cert.Pre_finite_hgrn.Scan.facts,
  fun m ρ _ => Cert.Kernel.Scan.frameClaim m ρ, fun m ρ _ => Cert.KernelIdeal.Scan.frameClaim m ρ, fun m ρ _ => Cert.KernelIdeal.Scan.frameClaim m ρ,
  fun m ρ _ => reference_frame m ρ, fun m ρ _ => reference_frame m ρ,
  fun m ρ _ => Cert.Project.Proj.frameClaim m ρ, fun m ρ _ => Cert.ProjectIdeal.Proj.frameIdeal m ρ, fun m ρ _ => projections_frame m ρ,
  fun m ρ _ => Cert.Merge.Mrg.frameClaim m ρ, fun m ρ _ => Cert.MergeIdeal.Mrg.frameIdeal m ρ, fun m ρ _ => merged_frame m ρ,
  fun m ρ _ => Cert.Hgrn.Scan.frameClaim m ρ, fun m ρ _ => Cert.HgrnIdeal.Scan.frameClaim m ρ, fun m ρ _ => Cert.HgrnIdeal.Scan.frameClaim m ρ,
  fun m ρ _ => hgrn_reference_frame m ρ, fun m ρ _ => hgrn_reference_frame m ρ,
  trivial, algebraic, preserves_projection, algebraic_projection, trivial, algebraic_merge, trivial, algebraic_hgrn⟩

end Cert.Proof

end
